-- ==== Defs.lean ====
def Pre_Kernel [hPre_granules : Cert.Pre_granules.Facts] (m : (ℓ : Loc Cert.Kernel.nD Cert.Kernel.τ Cert.Kernel.sig) → Buf (Elt Bits) ℓ) : Prop :=
  ∀ c : Dev Cert.Kernel.nD,
    (Cert.Pre_granules.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_granules : Cert.Pre_granules.Facts] (m : (ℓ : Loc Cert.KernelIdeal.nD Cert.KernelIdeal.τ Cert.KernelIdeal.sig) → Buf (Elt Ideal) ℓ) : Prop :=
  ∀ c : Dev Cert.KernelIdeal.nD,
    (Cert.Pre_granules.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_granules [hPre_granules : Cert.Pre_granules.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_granules.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] [hPre_granules : Cert.Pre_granules.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] [hPre_granules : Cert.Pre_granules.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_granules [hReferenceIdeal : Cert.ReferenceIdeal.Facts] [hPre_granules : Cert.Pre_granules.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_granules m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_on_compared [hKernelIdeal : Cert.KernelIdeal.Facts] [hReferenceIdeal : Cert.ReferenceIdeal.Facts] [hPre_granules : Cert.Pre_granules.Facts] [hOn_compared : Cert.On_compared.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![592, 112]⟩ : Shape).Idx, (Cert.On_compared.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 i = 1#1 → r.2.mem ((c.tc : Thread Cert.KernelIdeal.nD Cert.KernelIdeal.τ).loc Cert.KernelIdeal.main_v0_0) i = v0 c i)
          ∧ (∀ i : (⟨2, ![18944, 112]⟩ : Shape).Idx, (Cert.On_compared.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 i = 1#1 → r.2.mem ((c.tc : Thread Cert.KernelIdeal.nD Cert.KernelIdeal.τ).loc Cert.KernelIdeal.main_v0_1) i = v1 c i)
          ∧ (∀ i : (⟨2, ![592, 112]⟩ : Shape).Idx, (Cert.On_compared.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 i = 1#1 → r.2.mem ((c.tc : Thread Cert.KernelIdeal.nD Cert.KernelIdeal.τ).loc Cert.KernelIdeal.main_v0_2) i = v2 c i)
          ∧ (∀ i : (⟨2, ![592, 112]⟩ : Shape).Idx, (Cert.On_compared.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2 i = 1#1 → r.2.mem ((c.tc : Thread Cert.KernelIdeal.nD Cert.KernelIdeal.τ).loc Cert.KernelIdeal.main_v0_3) i = v3 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![592, 112]⟩ : Shape).Idx, (Cert.On_compared.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 i = 1#1 → r.2.mem ((c.tc : Thread Cert.ReferenceIdeal.nD Cert.ReferenceIdeal.τ).loc Cert.ReferenceIdeal.main_v64) i = v0 c i)
          ∧ (∀ i : (⟨2, ![18944, 112]⟩ : Shape).Idx, (Cert.On_compared.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 i = 1#1 → r.2.mem ((c.tc : Thread Cert.ReferenceIdeal.nD Cert.ReferenceIdeal.τ).loc Cert.ReferenceIdeal.main_v62) i = v1 c i)
          ∧ (∀ i : (⟨2, ![592, 112]⟩ : Shape).Idx, (Cert.On_compared.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 i = 1#1 → r.2.mem ((c.tc : Thread Cert.ReferenceIdeal.nD Cert.ReferenceIdeal.τ).loc Cert.ReferenceIdeal.main_v80) i = v2 c i)
          ∧ (∀ i : (⟨2, ![592, 112]⟩ : Shape).Idx, (Cert.On_compared.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2 i = 1#1 → r.2.mem ((c.tc : Thread Cert.ReferenceIdeal.nD Cert.ReferenceIdeal.τ).loc Cert.ReferenceIdeal.main_v83) i = v3 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_granules : Cert.Pre_granules.Facts) (hOn_compared : Cert.On_compared.Facts),
    quiescent_Kernel (hKernel := hKernel) (hPre_granules := hPre_granules)
    ∧ quiescent_KernelIdeal (hKernelIdeal := hKernelIdeal) (hPre_granules := hPre_granules)
    ∧ quiescent_ReferenceIdeal (hReferenceIdeal := hReferenceIdeal)
    ∧ quiescent_ReferenceIdeal_pre_granules (hReferenceIdeal := hReferenceIdeal) (hPre_granules := hPre_granules)
    ∧ preserves_Kernel_KernelIdeal
    ∧ algebraic_KernelIdeal_ReferenceIdeal_on_compared (hKernelIdeal := hKernelIdeal) (hReferenceIdeal := hReferenceIdeal) (hPre_granules := hPre_granules) (hOn_compared := hOn_compared)
-- ==== On_compared.lean ====
abbrev S48 : Shape := ⟨1, ![48]⟩
abbrev S3584x1536 : Shape := ⟨2, ![3584, 1536]⟩
abbrev S1536x18944 : Shape := ⟨2, ![1536, 18944]⟩
abbrev S1536x128 : Shape := ⟨2, ![1536, 128]⟩
abbrev S18944x3584 : Shape := ⟨2, ![18944, 3584]⟩
abbrev S37x32x128 : Shape := ⟨3, ![37, 32, 128]⟩
abbrev S18944x448 : Shape := ⟨2, ![18944, 448]⟩
abbrev S18944x448x1 : Shape := ⟨3, ![18944, 448, 1]⟩
abbrev S8 : Shape := ⟨1, ![8]⟩
abbrev S1x1x8 : Shape := ⟨3, ![1, 1, 8]⟩
abbrev S18944x448x8 : Shape := ⟨3, ![18944, 448, 8]⟩
abbrev S_ : Shape := ⟨0, ![]⟩
abbrev S18944x112x32 : Shape := ⟨3, ![18944, 112, 32]⟩
abbrev S37x8x4x128 : Shape := ⟨4, ![37, 8, 4, 128]⟩
abbrev S37x128x4x8 : Shape := ⟨4, ![37, 128, 4, 8]⟩
abbrev S18944x8 : Shape := ⟨2, ![18944, 8]⟩
abbrev S1x18944x1x8 : Shape := ⟨4, ![1, 18944, 1, 8]⟩
abbrev S1x18944x14x8 : Shape := ⟨4, ![1, 18944, 14, 8]⟩
abbrev S18944x112 : Shape := ⟨2, ![18944, 112]⟩
abbrev S18944x112x1 : Shape := ⟨3, ![18944, 112, 1]⟩
abbrev S592x112 : Shape := ⟨2, ![592, 112]⟩
abbrev S592x32x112x32 : Shape := ⟨4, ![592, 32, 112, 32]⟩

class Facts : Prop where
  natLt_8_32 : 8 < 32
  bcast_S18944x448_S18944x448x1_0_1 : S18944x448.BroadcastsInDim S18944x448x1 (![0, 1] : Fin 2 → Fin S18944x448x1.rank)
  bcast_S8_S1x1x8_2 : S8.BroadcastsInDim S1x1x8 (![2] : Fin 1 → Fin S1x1x8.rank)
  bcast_S18944x448x1_S18944x448x8_0_1_2 : S18944x448x1.BroadcastsInDim S18944x448x8 (![0, 1, 2] : Fin 3 → Fin S18944x448x8.rank)
  bcast_S1x1x8_S18944x448x8_0_1_2 : S1x1x8.BroadcastsInDim S18944x448x8 (![0, 1, 2] : Fin 3 → Fin S18944x448x8.rank)
  bcast_S_S18944x448x8 : S_.BroadcastsInDim S18944x448x8 (![] : Fin 0 → Fin S18944x448x8.rank)
  shapeCasts_S18944x448x8_S18944x112x32 : S18944x448x8.ShapeCasts S18944x112x32
  bcast_S_S18944x112x32 : S_.BroadcastsInDim S18944x112x32 (![] : Fin 0 → Fin S18944x112x32.rank)
  bcast_S_S18944x3584 : S_.BroadcastsInDim S18944x3584 (![] : Fin 0 → Fin S18944x3584.rank)
  shapeCasts_S18944x3584_S18944x112x32 : S18944x3584.ShapeCasts S18944x112x32
  shapeCasts_S37x32x128_S37x8x4x128 : S37x32x128.ShapeCasts S37x8x4x128
  transposes_S37x8x4x128_S37x128x4x8_0_3_2_1 : S37x8x4x128.Transposes [0, 3, 2, 1] S37x128x4x8
  shapeCasts_S37x128x4x8_S18944x8 : S37x128x4x8.ShapeCasts S18944x8
  shapeCasts_S18944x8_S1x18944x1x8 : S18944x8.ShapeCasts S1x18944x1x8
  bcast_S1x18944x1x8_S1x18944x14x8_0_1_2_3 : S1x18944x1x8.BroadcastsInDim S1x18944x14x8 (![0, 1, 2, 3] : Fin 4 → Fin S1x18944x14x8.rank)
  shapeCasts_S1x18944x14x8_S18944x112 : S1x18944x14x8.ShapeCasts S18944x112
  bcast_S_S18944x112 : S_.BroadcastsInDim S18944x112 (![] : Fin 0 → Fin S18944x112.rank)
  bcast_S18944x112_S18944x112x1_0_1 : S18944x112.BroadcastsInDim S18944x112x1 (![0, 1] : Fin 2 → Fin S18944x112x1.rank)
  bcast_S18944x112x1_S18944x112x32_0_1_2 : S18944x112x1.BroadcastsInDim S18944x112x32 (![0, 1, 2] : Fin 3 → Fin S18944x112x32.rank)
  bcast_S_S592x112 : S_.BroadcastsInDim S592x112 (![] : Fin 0 → Fin S592x112.rank)
  shapeCasts_S18944x112x32_S592x32x112x32 : S18944x112x32.ShapeCasts S592x32x112x32
  reducesTo_S592x32x112x32_S592x112_d1_3 : S592x32x112x32.ReducesTo [1, 3] S592x112
  h_S_ : 0 < S_.numel

variable [Facts]

def fn_part1 {F : FTy → Type} [FloatOps F] (main_v11 : IVec S18944x112x32 1) (main_v17 : IVec S18944x112x32 1) (main_v19 : FVec F S37x128x4x8 .f32) : IVec S592x112 1 × IVec S18944x112 1 × IVec S592x112 1 × IVec S592x112 1 :=
  let main_v20 : FVec F S18944x8 .f32 := shapeCast S18944x8 main_v19 shapeCasts_S37x128x4x8_S18944x8
  let main_v21 : FVec F S1x18944x1x8 .f32 := shapeCast S1x18944x1x8 main_v20 shapeCasts_S18944x8_S1x18944x1x8
  let main_v22 : FVec F S1x18944x14x8 .f32 := broadcastInDim S1x18944x14x8 ![0, 1, 2, 3] bcast_S1x18944x1x8_S1x18944x14x8_0_1_2_3 main_v21
  let main_v23 : FVec F S18944x112 .f32 := shapeCast S18944x112 main_v22 shapeCasts_S1x18944x14x8_S18944x112
  let main_cst : FVec F S_ .f32 := constant S_ .f32 0x00000000#32
  let main_v24 : FVec F S18944x112 .f32 := broadcastInDim S18944x112 ![] bcast_S_S18944x112 main_cst
  let main_v25 : IVec S18944x112 1 := cmpf .oge main_v23 main_v24
  let main_v26 : IVec S18944x112x1 1 := broadcastInDim S18944x112x1 ![0, 1] bcast_S18944x112_S18944x112x1_0_1 main_v25
  let main_v27 : IVec S18944x112x32 1 := broadcastInDim S18944x112x32 ![0, 1, 2] bcast_S18944x112x1_S18944x112x32_0_1_2 main_v26
  let main_c_3 : IVec S_ 1 := constantI S_ 1 1#1
  let main_v28 : IVec S592x112 1 := broadcastInDim S592x112 ![] bcast_S_S592x112 main_c_3
  let main_c_4 : IVec S_ 1 := constantI S_ 1 1#1
  let main_v29 : IVec S18944x112 1 := broadcastInDim S18944x112 ![] bcast_S_S18944x112 main_c_4
  let main_v30 : IVec S18944x112x32 1 := noti main_v11
  let main_v31 : IVec S18944x112x32 1 := andi main_v17 main_v27
  let main_v32 : IVec S18944x112x32 1 := ori main_v30 main_v31
  let main_v33 : IVec S592x32x112x32 1 := shapeCast S592x32x112x32 main_v32 shapeCasts_S18944x112x32_S592x32x112x32
  let main_c_5 : IVec S_ 1 := constantI S_ 1 1#1
  let main_v34 : IVec S592x112 1 := (fun x v => Host.reduce IntOp.andi x v reducesTo_S592x32x112x32_S592x112_d1_3 h_S_) main_v33 main_c_5
  let main_v35 : IVec S18944x112x32 1 := noti main_v11
  let main_v36 : IVec S18944x112x32 1 := ori main_v35 main_v17
  let main_v37 : IVec S592x32x112x32 1 := shapeCast S592x32x112x32 main_v36 shapeCasts_S18944x112x32_S592x32x112x32
  let main_c_6 : IVec S_ 1 := constantI S_ 1 1#1
  let main_v38 : IVec S592x112 1 := (fun x v => Host.reduce IntOp.andi x v reducesTo_S592x32x112x32_S592x112_d1_3 h_S_) main_v37 main_c_6
  (main_v28, main_v29, main_v34, main_v38)

def fn {F : FTy → Type} [FloatOps F] (main_arg0 : IVec S48 32) (main_arg1 : IVec S48 32) (main_arg2 : FVec F S3584x1536 .bf16) (main_arg3 : FVec F S1536x18944 .fp8e5m2) (main_arg4 : FVec F S1536x128 .bf16) (main_arg5 : IVec S1536x128 8) (main_arg6 : IVec S18944x3584 8) (main_arg7 : FVec F S37x32x128 .f32) (main_arg8 : IVec S18944x448 8) : IVec S592x112 1 × IVec S18944x112 1 × IVec S592x112 1 × IVec S592x112 1 :=
  let main_v0 : IVec S18944x448 32 := (extui 32 · natLt_8_32) main_arg8
  let main_v1 : IVec S18944x448x1 32 := broadcastInDim S18944x448x1 ![0, 1] bcast_S18944x448_S18944x448x1_0_1 main_v0
  let main_v2 : IVec S8 32 := iotaInDim S8 32 0
  let main_v3 : IVec S1x1x8 32 := broadcastInDim S1x1x8 ![2] bcast_S8_S1x1x8_2 main_v2
  let main_v4 : IVec S18944x448x8 32 := broadcastInDim S18944x448x8 ![0, 1, 2] bcast_S18944x448x1_S18944x448x8_0_1_2 main_v1
  let main_v5 : IVec S18944x448x8 32 := broadcastInDim S18944x448x8 ![0, 1, 2] bcast_S1x1x8_S18944x448x8_0_1_2 main_v3
  let main_v6 : IVec S18944x448x8 32 := Host.shrsi main_v4 main_v5
  let main_c : IVec S_ 32 := constantI S_ 32 1#32
  let main_v7 : IVec S18944x448x8 32 := broadcastInDim S18944x448x8 ![] bcast_S_S18944x448x8 main_c
  let main_v8 : IVec S18944x448x8 32 := andi main_v6 main_v7
  let main_v9 : IVec S18944x112x32 32 := shapeCast S18944x112x32 main_v8 shapeCasts_S18944x448x8_S18944x112x32
  let main_c_0 : IVec S_ 32 := constantI S_ 32 1#32
  let main_v10 : IVec S18944x112x32 32 := broadcastInDim S18944x112x32 ![] bcast_S_S18944x112x32 main_c_0
  let main_v11 : IVec S18944x112x32 1 := cmpi .eq main_v9 main_v10
  let main_v12 : IVec S18944x3584 32 := (extui 32 · natLt_8_32) main_arg6
  let main_c_1 : IVec S_ 32 := constantI S_ 32 127#32
  let main_v13 : IVec S18944x3584 32 := broadcastInDim S18944x3584 ![] bcast_S_S18944x3584 main_c_1
  let main_v14 : IVec S18944x3584 32 := andi main_v12 main_v13
  let main_c_2 : IVec S_ 32 := constantI S_ 32 127#32
  let main_v15 : IVec S18944x3584 32 := broadcastInDim S18944x3584 ![] bcast_S_S18944x3584 main_c_2
  let main_v16 : IVec S18944x3584 1 := cmpi .ne main_v14 main_v15
  let main_v17 : IVec S18944x112x32 1 := shapeCast S18944x112x32 main_v16 shapeCasts_S18944x3584_S18944x112x32
  let main_v18 : FVec F S37x8x4x128 .f32 := shapeCast S37x8x4x128 main_arg7 shapeCasts_S37x32x128_S37x8x4x128
  let main_v19 : FVec F S37x128x4x8 .f32 := (transpose S37x128x4x8 [0, 3, 2, 1] · transposes_S37x8x4x128_S37x128x4x8_0_3_2_1) main_v18
  fn_part1 (F := F) main_v11 main_v17 main_v19
-- ==== Pre_granules.lean ====
abbrev S48 : Shape := ⟨1, ![48]⟩
abbrev S3584x1536 : Shape := ⟨2, ![3584, 1536]⟩
abbrev S1536x18944 : Shape := ⟨2, ![1536, 18944]⟩
abbrev S1536x128 : Shape := ⟨2, ![1536, 128]⟩
abbrev S18944x3584 : Shape := ⟨2, ![18944, 3584]⟩
abbrev S37x32x128 : Shape := ⟨3, ![37, 32, 128]⟩
abbrev S18944x448 : Shape := ⟨2, ![18944, 448]⟩
abbrev S_ : Shape := ⟨0, ![]⟩

class Facts : Prop where
  bcast_S_S48 : S_.BroadcastsInDim S48 (![] : Fin 0 → Fin S48.rank)

variable [Facts]

def fn_part1 {F : FTy → Type} [FloatOps F] (main_arg1 : IVec S48 32) (main_v15 : IVec S48 1) (main_v16 : IVec S48 32) : IVec S48 1 :=
  let main_v17 : IVec S48 32 := andi main_arg1 main_v16
  let main_c_6 : IVec S_ 32 := constantI S_ 32 0#32
  let main_v18 : IVec S48 32 := broadcastInDim S48 ![] bcast_S_S48 main_c_6
  let main_v19 : IVec S48 1 := cmpi .eq main_v17 main_v18
  let main_v20 : IVec S48 1 := andi main_v15 main_v19
  main_v20

def fn {F : FTy → Type} [FloatOps F] (main_arg0 : IVec S48 32) (main_arg1 : IVec S48 32) (main_arg2 : FVec F S3584x1536 .bf16) (main_arg3 : FVec F S1536x18944 .fp8e5m2) (main_arg4 : FVec F S1536x128 .bf16) (main_arg5 : IVec S1536x128 8) (main_arg6 : IVec S18944x3584 8) (main_arg7 : FVec F S37x32x128 .f32) (main_arg8 : IVec S18944x448 8) : IVec S48 1 :=
  let main_c : IVec S_ 32 := constantI S_ 32 0#32
  let main_v0 : IVec S48 32 := broadcastInDim S48 ![] bcast_S_S48 main_c
  let main_v1 : IVec S48 1 := cmpi .sge main_arg0 main_v0
  let main_c_0 : IVec S_ 32 := constantI S_ 32 1504#32
  let main_v2 : IVec S48 32 := broadcastInDim S48 ![] bcast_S_S48 main_c_0
  let main_v3 : IVec S48 1 := cmpi .sle main_arg0 main_v2
  let main_v4 : IVec S48 1 := andi main_v1 main_v3
  let main_c_1 : IVec S_ 32 := constantI S_ 32 31#32
  let main_v5 : IVec S48 32 := broadcastInDim S48 ![] bcast_S_S48 main_c_1
  let main_v6 : IVec S48 32 := andi main_arg0 main_v5
  let main_c_2 : IVec S_ 32 := constantI S_ 32 0#32
  let main_v7 : IVec S48 32 := broadcastInDim S48 ![] bcast_S_S48 main_c_2
  let main_v8 : IVec S48 1 := cmpi .eq main_v6 main_v7
  let main_v9 : IVec S48 1 := andi main_v4 main_v8
  let main_c_3 : IVec S_ 32 := constantI S_ 32 0#32
  let main_v10 : IVec S48 32 := broadcastInDim S48 ![] bcast_S_S48 main_c_3
  let main_v11 : IVec S48 1 := cmpi .sge main_arg1 main_v10
  let main_v12 : IVec S48 1 := andi main_v9 main_v11
  let main_c_4 : IVec S_ 32 := constantI S_ 32 1536#32
  let main_v13 : IVec S48 32 := broadcastInDim S48 ![] bcast_S_S48 main_c_4
  let main_v14 : IVec S48 1 := cmpi .sle main_arg1 main_v13
  let main_v15 : IVec S48 1 := andi main_v12 main_v14
  let main_c_5 : IVec S_ 32 := constantI S_ 32 15#32
  let main_v16 : IVec S48 32 := broadcastInDim S48 ![] bcast_S_S48 main_c_5
  fn_part1 (F := F) main_arg1 main_v15 main_v16
-- ==== Kernel.lean ====
abbrev S48 : Shape := ⟨1, ![48]⟩
abbrev S3584x1536 : Shape := ⟨2, ![3584, 1536]⟩
abbrev S1536x18944 : Shape := ⟨2, ![1536, 18944]⟩
abbrev S1536x128 : Shape := ⟨2, ![1536, 128]⟩
abbrev S18944x3584 : Shape := ⟨2, ![18944, 3584]⟩
abbrev S37x32x128 : Shape := ⟨3, ![37, 32, 128]⟩
abbrev S18944x448 : Shape := ⟨2, ![18944, 448]⟩
abbrev S592x112 : Shape := ⟨2, ![592, 112]⟩
abbrev S18944x112 : Shape := ⟨2, ![18944, 112]⟩
abbrev S1536x512 : Shape := ⟨2, ![1536, 512]⟩
abbrev S512x3584 : Shape := ⟨2, ![512, 3584]⟩
abbrev S1x32x128 : Shape := ⟨3, ![1, 32, 128]⟩
abbrev S512x448 : Shape := ⟨2, ![512, 448]⟩
abbrev S16x112 : Shape := ⟨2, ![16, 112]⟩
abbrev S512x112 : Shape := ⟨2, ![512, 112]⟩
abbrev S1568x512 : Shape := ⟨2, ![1568, 512]⟩
abbrev S3584x128 : Shape := ⟨2, ![3584, 128]⟩
abbrev S448x128 : Shape := ⟨2, ![448, 128]⟩
abbrev S4x448x128 : Shape := ⟨3, ![4, 448, 128]⟩
abbrev S112x512 : Shape := ⟨2, ![112, 512]⟩
abbrev S1 : Shape := ⟨1, ![1]⟩
abbrev S32x128 : Shape := ⟨2, ![32, 128]⟩
abbrev S512x128 : Shape := ⟨2, ![512, 128]⟩
abbrev S128x128 : Shape := ⟨2, ![128, 128]⟩
abbrev S1x128x128 : Shape := ⟨3, ![1, 128, 128]⟩
abbrev S512x64 : Shape := ⟨2, ![512, 64]⟩
abbrev S128x64 : Shape := ⟨2, ![128, 64]⟩
abbrev S64x128 : Shape := ⟨2, ![64, 128]⟩
abbrev S1x64x128 : Shape := ⟨3, ![1, 64, 128]⟩
abbrev S256x1536 : Shape := ⟨2, ![256, 1536]⟩
abbrev S256x512 : Shape := ⟨2, ![256, 512]⟩
abbrev S8x128 : Shape := ⟨2, ![8, 128]⟩
abbrev S1x8x128 : Shape := ⟨3, ![1, 8, 128]⟩
abbrev S16x32x112 : Shape := ⟨3, ![16, 32, 112]⟩
abbrev S112x128 : Shape := ⟨2, ![112, 128]⟩
abbrev S128x112 : Shape := ⟨2, ![128, 112]⟩
abbrev S16x8x112 : Shape := ⟨3, ![16, 8, 112]⟩

abbrev nBuf : Space → Nat
  | .hbm => 11
  | .vmem => 27
  | .smem => 2
  | _ => 0

abbrev bufTy : (tb : Table) → Fin (tcTables nBuf tb) → BufTy
  | .hbm, ⟨0, _⟩ => ⟨S3584x1536, .bf16⟩
  | .hbm, ⟨1, _⟩ => ⟨S1536x18944, .fp8e5m2⟩
  | .hbm, ⟨2, _⟩ => ⟨S1536x128, .bf16⟩
  | .hbm, ⟨3, _⟩ => ⟨S1536x128, .i8⟩
  | .hbm, ⟨4, _⟩ => ⟨S18944x3584, .i8⟩
  | .hbm, ⟨5, _⟩ => ⟨S37x32x128, .f32⟩
  | .hbm, ⟨6, _⟩ => ⟨S18944x448, .i8⟩
  | .hbm, ⟨7, _⟩ => ⟨S592x112, .f32⟩
  | .hbm, ⟨8, _⟩ => ⟨S18944x112, .f32⟩
  | .hbm, ⟨9, _⟩ => ⟨S592x112, .f32⟩
  | .hbm, ⟨10, _⟩ => ⟨S592x112, .f32⟩
  | .local _ .vmem, ⟨0, _⟩ => ⟨S3584x1536, .bf16⟩
  | .local _ .vmem, ⟨1, _⟩ => ⟨S1536x512, .fp8e5m2⟩
  | .local _ .vmem, ⟨2, _⟩ => ⟨S1536x512, .fp8e5m2⟩
  | .local _ .vmem, ⟨3, _⟩ => ⟨S1536x128, .bf16⟩
  | .local _ .vmem, ⟨4, _⟩ => ⟨S1536x128, .i8⟩
  | .local _ .vmem, ⟨5, _⟩ => ⟨S512x3584, .i8⟩
  | .local _ .vmem, ⟨6, _⟩ => ⟨S512x3584, .i8⟩
  | .local _ .vmem, ⟨7, _⟩ => ⟨S1x32x128, .f32⟩
  | .local _ .vmem, ⟨8, _⟩ => ⟨S1x32x128, .f32⟩
  | .local _ .vmem, ⟨9, _⟩ => ⟨S512x448, .i8⟩
  | .local _ .vmem, ⟨10, _⟩ => ⟨S512x448, .i8⟩
  | .local _ .vmem, ⟨11, _⟩ => ⟨S16x112, .f32⟩
  | .local _ .vmem, ⟨12, _⟩ => ⟨S16x112, .f32⟩
  | .local _ .vmem, ⟨13, _⟩ => ⟨S512x112, .f32⟩
  | .local _ .vmem, ⟨14, _⟩ => ⟨S512x112, .f32⟩
  | .local _ .vmem, ⟨15, _⟩ => ⟨S16x112, .f32⟩
  | .local _ .vmem, ⟨16, _⟩ => ⟨S16x112, .f32⟩
  | .local _ .vmem, ⟨17, _⟩ => ⟨S16x112, .f32⟩
  | .local _ .vmem, ⟨18, _⟩ => ⟨S16x112, .f32⟩
  | .local _ .vmem, ⟨19, _⟩ => ⟨S1568x512, .bf16⟩
  | .local _ .vmem, ⟨20, _⟩ => ⟨S3584x128, .i32⟩
  | .local _ .vmem, ⟨21, _⟩ => ⟨S448x128, .i32⟩
  | .local _ .vmem, ⟨22, _⟩ => ⟨S4x448x128, .i32⟩
  | .local _ .vmem, ⟨23, _⟩ => ⟨S112x512, .f32⟩
  | .local _ .vmem, ⟨24, _⟩ => ⟨S112x512, .f32⟩
  | .local _ .vmem, ⟨25, _⟩ => ⟨S448x128, .f32⟩
  | .local _ .vmem, ⟨26, _⟩ => ⟨S448x128, .f32⟩
  | .local _ .smem, ⟨0, _⟩ => ⟨S48, .i32⟩
  | .local _ .smem, ⟨1, _⟩ => ⟨S48, .i32⟩
  | _, _ => ⟨S3584x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_arg7 : Ref sig .tc := ⟨.hbm, 5, rfl⟩
abbrev main_arg8 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_scratch4 : Ref sig .tc := ⟨.vmem, 23, rfl⟩
abbrev cc0_scratch5 : Ref sig .tc := ⟨.vmem, 24, rfl⟩
abbrev cc0_scratch6 : Ref sig .tc := ⟨.vmem, 25, rfl⟩
abbrev cc0_scratch7 : Ref sig .tc := ⟨.vmem, 26, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![37], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_mult1 (v3 : BitVec 32) : BitVec 32 :=
  v3

def k0_mult2 (v5 : BitVec 32) : BitVec 32 :=
  v5

def k0_off1 (v3 : BitVec 32) : Fin 2 → Nat :=
  let v4 : BitVec 32 := v3
  let v7 : Index := Scalar.indexCast v4
  let c0_2 : Index := 0#32
  ![v7.toNat, 0]
def k0_off2 (v3 : BitVec 32) : Fin 2 → Nat :=
  let v4 : BitVec 32 := v3
  let v13 : Index := Scalar.indexCast v4
  let c0_4 : Index := 0#32
  ![v13.toNat, 0]
def k0_off3 (v5 : BitVec 32) : Fin 2 → Nat :=
  let v6 : BitVec 32 := v5
  let v20 : Index := Scalar.indexCast v6
  let c0_6 : Index := 0#32
  ![v20.toNat, 0]
def k0_off4 (v3 : BitVec 32) : Fin 2 → Nat :=
  let v4 : BitVec 32 := v3
  let v24 : Index := Scalar.indexCast v4
  let c128 : Index := 128#32
  ![v24.toNat, 128]
def k0_off5 (v5 : BitVec 32) : Fin 2 → Nat :=
  let v6 : BitVec 32 := v5
  let v31 : Index := Scalar.indexCast v6
  let c128_8 : Index := 128#32
  ![v31.toNat, 128]
def k0_off6 (v3 : BitVec 32) : Fin 2 → Nat :=
  let v4 : BitVec 32 := v3
  let v35 : Index := Scalar.indexCast v4
  let c256 : Index := 256#32
  ![v35.toNat, 256]
def k0_off7 (v5 : BitVec 32) : Fin 2 → Nat :=
  let v6 : BitVec 32 := v5
  let v42 : Index := Scalar.indexCast v6
  let c256_10 : Index := 256#32
  ![v42.toNat, 256]
def k0_off8 (v3 : BitVec 32) : Fin 2 → Nat :=
  let v4 : BitVec 32 := v3
  let v46 : Index := Scalar.indexCast v4
  let c384 : Index := 384#32
  ![v46.toNat, 384]

def k0_chk1 (v3 : BitVec 32) : Prop :=
  (32 ∣ (k0_mult1 v3).toNat) ∧
  (∀ a, (k0_off1 v3) a + S32x128.size a ≤ S1536x128.size a) ∧
  (∀ a, (k0_off2 v3) a + S32x128.size a ≤ S1536x512.size a) ∧
  (∀ a, (k0_off4 v3) a + S32x128.size a ≤ S1536x512.size a) ∧
  (∀ a, (k0_off6 v3) a + S32x128.size a ≤ S1536x512.size a) ∧
  (∀ a, (k0_off8 v3) a + S32x128.size a ≤ S1536x512.size a)
theorem k0_mult1_dvd : ∀ (v3 : BitVec 32) (k0_hw1 : k0_chk1 v3), 32 ∣ (k0_mult1 v3).toNat := fun v3 k0_hw1 => k0_hw1.1
theorem k0_off1_inb : ∀ (v3 : BitVec 32) (k0_hw1 : k0_chk1 v3), ∀ a, (k0_off1 v3) a + S32x128.size a ≤ S1536x128.size a := fun v3 k0_hw1 => k0_hw1.2.1
theorem k0_off2_inb : ∀ (v3 : BitVec 32) (k0_hw1 : k0_chk1 v3), ∀ a, (k0_off2 v3) a + S32x128.size a ≤ S1536x512.size a := fun v3 k0_hw1 => k0_hw1.2.2.1
theorem k0_off4_inb : ∀ (v3 : BitVec 32) (k0_hw1 : k0_chk1 v3), ∀ a, (k0_off4 v3) a + S32x128.size a ≤ S1536x512.size a := fun v3 k0_hw1 => k0_hw1.2.2.2.1
theorem k0_off6_inb : ∀ (v3 : BitVec 32) (k0_hw1 : k0_chk1 v3), ∀ a, (k0_off6 v3) a + S32x128.size a ≤ S1536x512.size a := fun v3 k0_hw1 => k0_hw1.2.2.2.2.1
theorem k0_off8_inb : ∀ (v3 : BitVec 32) (k0_hw1 : k0_chk1 v3), ∀ a, (k0_off8 v3) a + S32x128.size a ≤ S1536x512.size a := fun v3 k0_hw1 => k0_hw1.2.2.2.2.2

def k0_off9 (v5 : BitVec 32) : Fin 2 → Nat :=
  let v6 : BitVec 32 := v5
  let v53 : Index := Scalar.indexCast v6
  let c384_12 : Index := 384#32
  ![v53.toNat, 384]

def k0_chk2 (v5 : BitVec 32) : Prop :=
  (16 ∣ (k0_mult2 v5).toNat) ∧
  (∀ a, (k0_off3 v5) a + S32x128.size a ≤ S1568x512.size a) ∧
  (∀ (hinb : ∀ a, (k0_off3 v5) a + S32x128.size a ≤ S1568x512.size a), (Rect.unit (s := S1568x512) (k0_off3 v5) S32x128.size hinb).PackedRows (EltTy.packing .bf16)) ∧
  (∀ a, (k0_off5 v5) a + S32x128.size a ≤ S1568x512.size a) ∧
  (∀ (hinb : ∀ a, (k0_off5 v5) a + S32x128.size a ≤ S1568x512.size a), (Rect.unit (s := S1568x512) (k0_off5 v5) S32x128.size hinb).PackedRows (EltTy.packing .bf16)) ∧
  (∀ a, (k0_off7 v5) a + S32x128.size a ≤ S1568x512.size a) ∧
  (∀ (hinb : ∀ a, (k0_off7 v5) a + S32x128.size a ≤ S1568x512.size a), (Rect.unit (s := S1568x512) (k0_off7 v5) S32x128.size hinb).PackedRows (EltTy.packing .bf16)) ∧
  (∀ a, (k0_off9 v5) a + S32x128.size a ≤ S1568x512.size a) ∧
  (∀ (hinb : ∀ a, (k0_off9 v5) a + S32x128.size a ≤ S1568x512.size a), (Rect.unit (s := S1568x512) (k0_off9 v5) S32x128.size hinb).PackedRows (EltTy.packing .bf16))
theorem k0_mult2_dvd : ∀ (v5 : BitVec 32) (k0_hw2 : k0_chk2 v5), 16 ∣ (k0_mult2 v5).toNat := fun v5 k0_hw2 => k0_hw2.1
theorem k0_off3_inb : ∀ (v5 : BitVec 32) (k0_hw2 : k0_chk2 v5), ∀ a, (k0_off3 v5) a + S32x128.size a ≤ S1568x512.size a := fun v5 k0_hw2 => k0_hw2.2.1
theorem k0_off3_packedbf16 : ∀ (v5 : BitVec 32) (k0_hw2 : k0_chk2 v5), (Rect.unit (s := S1568x512) (k0_off3 v5) S32x128.size (k0_off3_inb v5 k0_hw2)).PackedRows (EltTy.packing .bf16) := fun v5 k0_hw2 => k0_hw2.2.2.1 (k0_off3_inb v5 k0_hw2)
theorem k0_off5_inb : ∀ (v5 : BitVec 32) (k0_hw2 : k0_chk2 v5), ∀ a, (k0_off5 v5) a + S32x128.size a ≤ S1568x512.size a := fun v5 k0_hw2 => k0_hw2.2.2.2.1
theorem k0_off5_packedbf16 : ∀ (v5 : BitVec 32) (k0_hw2 : k0_chk2 v5), (Rect.unit (s := S1568x512) (k0_off5 v5) S32x128.size (k0_off5_inb v5 k0_hw2)).PackedRows (EltTy.packing .bf16) := fun v5 k0_hw2 => k0_hw2.2.2.2.2.1 (k0_off5_inb v5 k0_hw2)
theorem k0_off7_inb : ∀ (v5 : BitVec 32) (k0_hw2 : k0_chk2 v5), ∀ a, (k0_off7 v5) a + S32x128.size a ≤ S1568x512.size a := fun v5 k0_hw2 => k0_hw2.2.2.2.2.2.1
theorem k0_off7_packedbf16 : ∀ (v5 : BitVec 32) (k0_hw2 : k0_chk2 v5), (Rect.unit (s := S1568x512) (k0_off7 v5) S32x128.size (k0_off7_inb v5 k0_hw2)).PackedRows (EltTy.packing .bf16) := fun v5 k0_hw2 => k0_hw2.2.2.2.2.2.2.1 (k0_off7_inb v5 k0_hw2)
theorem k0_off9_inb : ∀ (v5 : BitVec 32) (k0_hw2 : k0_chk2 v5), ∀ a, (k0_off9 v5) a + S32x128.size a ≤ S1568x512.size a := fun v5 k0_hw2 => k0_hw2.2.2.2.2.2.2.2.1
theorem k0_off9_packedbf16 : ∀ (v5 : BitVec 32) (k0_hw2 : k0_chk2 v5), (Rect.unit (s := S1568x512) (k0_off9 v5) S32x128.size (k0_off9_inb v5 k0_hw2)).PackedRows (EltTy.packing .bf16) := fun v5 k0_hw2 => k0_hw2.2.2.2.2.2.2.2.2 (k0_off9_inb v5 k0_hw2)

def k0_mult3 (v57 : BitVec 32) : BitVec 32 :=
  v57

def k0_mult4 (v59 : BitVec 32) : BitVec 32 :=
  v59

def k0_off10 (v57 : BitVec 32) : Fin 2 → Nat :=
  let v58 : BitVec 32 := v57
  let v61 : Index := Scalar.indexCast v58
  let c0_14 : Index := 0#32
  ![v61.toNat, 0]
def k0_off11 (v57 : BitVec 32) : Fin 2 → Nat :=
  let v58 : BitVec 32 := v57
  let v67 : Index := Scalar.indexCast v58
  let c0_17 : Index := 0#32
  ![v67.toNat, 0]
def k0_off12 (v59 : BitVec 32) : Fin 2 → Nat :=
  let v60 : BitVec 32 := v59
  let v74 : Index := Scalar.indexCast v60
  let c0_19 : Index := 0#32
  ![v74.toNat, 0]
def k0_off13 (v57 : BitVec 32) : Fin 2 → Nat :=
  let v58 : BitVec 32 := v57
  let v78 : Index := Scalar.indexCast v58
  let c128_20 : Index := 128#32
  ![v78.toNat, 128]
def k0_off14 (v59 : BitVec 32) : Fin 2 → Nat :=
  let v60 : BitVec 32 := v59
  let v85 : Index := Scalar.indexCast v60
  let c128_22 : Index := 128#32
  ![v85.toNat, 128]
def k0_off15 (v57 : BitVec 32) : Fin 2 → Nat :=
  let v58 : BitVec 32 := v57
  let v89 : Index := Scalar.indexCast v58
  let c256_23 : Index := 256#32
  ![v89.toNat, 256]
def k0_off16 (v59 : BitVec 32) : Fin 2 → Nat :=
  let v60 : BitVec 32 := v59
  let v96 : Index := Scalar.indexCast v60
  let c256_25 : Index := 256#32
  ![v96.toNat, 256]
def k0_off17 (v57 : BitVec 32) : Fin 2 → Nat :=
  let v58 : BitVec 32 := v57
  let v100 : Index := Scalar.indexCast v58
  let c384_26 : Index := 384#32
  ![v100.toNat, 384]

def k0_chk3 (v57 : BitVec 32) : Prop :=
  (32 ∣ (k0_mult3 v57).toNat) ∧
  (∀ a, (k0_off10 v57) a + S32x128.size a ≤ S1536x128.size a) ∧
  (∀ a, (k0_off11 v57) a + S32x128.size a ≤ S1536x512.size a) ∧
  (∀ a, (k0_off13 v57) a + S32x128.size a ≤ S1536x512.size a) ∧
  (∀ a, (k0_off15 v57) a + S32x128.size a ≤ S1536x512.size a) ∧
  (∀ a, (k0_off17 v57) a + S32x128.size a ≤ S1536x512.size a)
theorem k0_mult3_dvd : ∀ (v57 : BitVec 32) (k0_hw3 : k0_chk3 v57), 32 ∣ (k0_mult3 v57).toNat := fun v57 k0_hw3 => k0_hw3.1
theorem k0_off10_inb : ∀ (v57 : BitVec 32) (k0_hw3 : k0_chk3 v57), ∀ a, (k0_off10 v57) a + S32x128.size a ≤ S1536x128.size a := fun v57 k0_hw3 => k0_hw3.2.1
theorem k0_off11_inb : ∀ (v57 : BitVec 32) (k0_hw3 : k0_chk3 v57), ∀ a, (k0_off11 v57) a + S32x128.size a ≤ S1536x512.size a := fun v57 k0_hw3 => k0_hw3.2.2.1
theorem k0_off13_inb : ∀ (v57 : BitVec 32) (k0_hw3 : k0_chk3 v57), ∀ a, (k0_off13 v57) a + S32x128.size a ≤ S1536x512.size a := fun v57 k0_hw3 => k0_hw3.2.2.2.1
theorem k0_off15_inb : ∀ (v57 : BitVec 32) (k0_hw3 : k0_chk3 v57), ∀ a, (k0_off15 v57) a + S32x128.size a ≤ S1536x512.size a := fun v57 k0_hw3 => k0_hw3.2.2.2.2.1
theorem k0_off17_inb : ∀ (v57 : BitVec 32) (k0_hw3 : k0_chk3 v57), ∀ a, (k0_off17 v57) a + S32x128.size a ≤ S1536x512.size a := fun v57 k0_hw3 => k0_hw3.2.2.2.2.2

def k0_off18 (v59 : BitVec 32) : Fin 2 → Nat :=
  let v60 : BitVec 32 := v59
  let v107 : Index := Scalar.indexCast v60
  let c384_28 : Index := 384#32
  ![v107.toNat, 384]

def k0_chk4 (v59 : BitVec 32) : Prop :=
  (16 ∣ (k0_mult4 v59).toNat) ∧
  (∀ a, (k0_off12 v59) a + S32x128.size a ≤ S1568x512.size a) ∧
  (∀ (hinb : ∀ a, (k0_off12 v59) a + S32x128.size a ≤ S1568x512.size a), (Rect.unit (s := S1568x512) (k0_off12 v59) S32x128.size hinb).PackedRows (EltTy.packing .bf16)) ∧
  (∀ a, (k0_off14 v59) a + S32x128.size a ≤ S1568x512.size a) ∧
  (∀ (hinb : ∀ a, (k0_off14 v59) a + S32x128.size a ≤ S1568x512.size a), (Rect.unit (s := S1568x512) (k0_off14 v59) S32x128.size hinb).PackedRows (EltTy.packing .bf16)) ∧
  (∀ a, (k0_off16 v59) a + S32x128.size a ≤ S1568x512.size a) ∧
  (∀ (hinb : ∀ a, (k0_off16 v59) a + S32x128.size a ≤ S1568x512.size a), (Rect.unit (s := S1568x512) (k0_off16 v59) S32x128.size hinb).PackedRows (EltTy.packing .bf16)) ∧
  (∀ a, (k0_off18 v59) a + S32x128.size a ≤ S1568x512.size a) ∧
  (∀ (hinb : ∀ a, (k0_off18 v59) a + S32x128.size a ≤ S1568x512.size a), (Rect.unit (s := S1568x512) (k0_off18 v59) S32x128.size hinb).PackedRows (EltTy.packing .bf16))
theorem k0_mult4_dvd : ∀ (v59 : BitVec 32) (k0_hw4 : k0_chk4 v59), 16 ∣ (k0_mult4 v59).toNat := fun v59 k0_hw4 => k0_hw4.1
theorem k0_off12_inb : ∀ (v59 : BitVec 32) (k0_hw4 : k0_chk4 v59), ∀ a, (k0_off12 v59) a + S32x128.size a ≤ S1568x512.size a := fun v59 k0_hw4 => k0_hw4.2.1
theorem k0_off12_packedbf16 : ∀ (v59 : BitVec 32) (k0_hw4 : k0_chk4 v59), (Rect.unit (s := S1568x512) (k0_off12 v59) S32x128.size (k0_off12_inb v59 k0_hw4)).PackedRows (EltTy.packing .bf16) := fun v59 k0_hw4 => k0_hw4.2.2.1 (k0_off12_inb v59 k0_hw4)
theorem k0_off14_inb : ∀ (v59 : BitVec 32) (k0_hw4 : k0_chk4 v59), ∀ a, (k0_off14 v59) a + S32x128.size a ≤ S1568x512.size a := fun v59 k0_hw4 => k0_hw4.2.2.2.1
theorem k0_off14_packedbf16 : ∀ (v59 : BitVec 32) (k0_hw4 : k0_chk4 v59), (Rect.unit (s := S1568x512) (k0_off14 v59) S32x128.size (k0_off14_inb v59 k0_hw4)).PackedRows (EltTy.packing .bf16) := fun v59 k0_hw4 => k0_hw4.2.2.2.2.1 (k0_off14_inb v59 k0_hw4)
theorem k0_off16_inb : ∀ (v59 : BitVec 32) (k0_hw4 : k0_chk4 v59), ∀ a, (k0_off16 v59) a + S32x128.size a ≤ S1568x512.size a := fun v59 k0_hw4 => k0_hw4.2.2.2.2.2.1
theorem k0_off16_packedbf16 : ∀ (v59 : BitVec 32) (k0_hw4 : k0_chk4 v59), (Rect.unit (s := S1568x512) (k0_off16 v59) S32x128.size (k0_off16_inb v59 k0_hw4)).PackedRows (EltTy.packing .bf16) := fun v59 k0_hw4 => k0_hw4.2.2.2.2.2.2.1 (k0_off16_inb v59 k0_hw4)
theorem k0_off18_inb : ∀ (v59 : BitVec 32) (k0_hw4 : k0_chk4 v59), ∀ a, (k0_off18 v59) a + S32x128.size a ≤ S1568x512.size a := fun v59 k0_hw4 => k0_hw4.2.2.2.2.2.2.2.1
theorem k0_off18_packedbf16 : ∀ (v59 : BitVec 32) (k0_hw4 : k0_chk4 v59), (Rect.unit (s := S1568x512) (k0_off18 v59) S32x128.size (k0_off18_inb v59 k0_hw4)).PackedRows (EltTy.packing .bf16) := fun v59 k0_hw4 => k0_hw4.2.2.2.2.2.2.2.2 (k0_off18_inb v59 k0_hw4)

def k0_mult5 (v111 : BitVec 32) : BitVec 32 :=
  v111

def k0_mult6 (v113 : BitVec 32) : BitVec 32 :=
  v113

def k0_off19 (v111 : BitVec 32) : Fin 2 → Nat :=
  let v112 : BitVec 32 := v111
  let v115 : Index := Scalar.indexCast v112
  let c0_30 : Index := 0#32
  ![v115.toNat, 0]
def k0_off20 (v111 : BitVec 32) : Fin 2 → Nat :=
  let v112 : BitVec 32 := v111
  let v121 : Index := Scalar.indexCast v112
  let c0_33 : Index := 0#32
  ![v121.toNat, 0]
def k0_off21 (v113 : BitVec 32) : Fin 2 → Nat :=
  let v114 : BitVec 32 := v113
  let v128 : Index := Scalar.indexCast v114
  let c0_35 : Index := 0#32
  ![v128.toNat, 0]
def k0_off22 (v111 : BitVec 32) : Fin 2 → Nat :=
  let v112 : BitVec 32 := v111
  let v132 : Index := Scalar.indexCast v112
  let c128_36 : Index := 128#32
  ![v132.toNat, 128]
def k0_off23 (v113 : BitVec 32) : Fin 2 → Nat :=
  let v114 : BitVec 32 := v113
  let v139 : Index := Scalar.indexCast v114
  let c128_38 : Index := 128#32
  ![v139.toNat, 128]
def k0_off24 (v111 : BitVec 32) : Fin 2 → Nat :=
  let v112 : BitVec 32 := v111
  let v143 : Index := Scalar.indexCast v112
  let c256_39 : Index := 256#32
  ![v143.toNat, 256]
def k0_off25 (v113 : BitVec 32) : Fin 2 → Nat :=
  let v114 : BitVec 32 := v113
  let v150 : Index := Scalar.indexCast v114
  let c256_41 : Index := 256#32
  ![v150.toNat, 256]
def k0_off26 (v111 : BitVec 32) : Fin 2 → Nat :=
  let v112 : BitVec 32 := v111
  let v154 : Index := Scalar.indexCast v112
  let c384_42 : Index := 384#32
  ![v154.toNat, 384]

def k0_chk5 (v111 : BitVec 32) : Prop :=
  (32 ∣ (k0_mult5 v111).toNat) ∧
  (∀ a, (k0_off19 v111) a + S32x128.size a ≤ S1536x128.size a) ∧
  (∀ a, (k0_off20 v111) a + S32x128.size a ≤ S1536x512.size a) ∧
  (∀ a, (k0_off22 v111) a + S32x128.size a ≤ S1536x512.size a) ∧
  (∀ a, (k0_off24 v111) a + S32x128.size a ≤ S1536x512.size a) ∧
  (∀ a, (k0_off26 v111) a + S32x128.size a ≤ S1536x512.size a)
theorem k0_mult5_dvd : ∀ (v111 : BitVec 32) (k0_hw5 : k0_chk5 v111), 32 ∣ (k0_mult5 v111).toNat := fun v111 k0_hw5 => k0_hw5.1
theorem k0_off19_inb : ∀ (v111 : BitVec 32) (k0_hw5 : k0_chk5 v111), ∀ a, (k0_off19 v111) a + S32x128.size a ≤ S1536x128.size a := fun v111 k0_hw5 => k0_hw5.2.1
theorem k0_off20_inb : ∀ (v111 : BitVec 32) (k0_hw5 : k0_chk5 v111), ∀ a, (k0_off20 v111) a + S32x128.size a ≤ S1536x512.size a := fun v111 k0_hw5 => k0_hw5.2.2.1
theorem k0_off22_inb : ∀ (v111 : BitVec 32) (k0_hw5 : k0_chk5 v111), ∀ a, (k0_off22 v111) a + S32x128.size a ≤ S1536x512.size a := fun v111 k0_hw5 => k0_hw5.2.2.2.1
theorem k0_off24_inb : ∀ (v111 : BitVec 32) (k0_hw5 : k0_chk5 v111), ∀ a, (k0_off24 v111) a + S32x128.size a ≤ S1536x512.size a := fun v111 k0_hw5 => k0_hw5.2.2.2.2.1
theorem k0_off26_inb : ∀ (v111 : BitVec 32) (k0_hw5 : k0_chk5 v111), ∀ a, (k0_off26 v111) a + S32x128.size a ≤ S1536x512.size a := fun v111 k0_hw5 => k0_hw5.2.2.2.2.2

def k0_off27 (v113 : BitVec 32) : Fin 2 → Nat :=
  let v114 : BitVec 32 := v113
  let v161 : Index := Scalar.indexCast v114
  let c384_44 : Index := 384#32
  ![v161.toNat, 384]

def k0_chk6 (v113 : BitVec 32) : Prop :=
  (16 ∣ (k0_mult6 v113).toNat) ∧
  (∀ a, (k0_off21 v113) a + S32x128.size a ≤ S1568x512.size a) ∧
  (∀ (hinb : ∀ a, (k0_off21 v113) a + S32x128.size a ≤ S1568x512.size a), (Rect.unit (s := S1568x512) (k0_off21 v113) S32x128.size hinb).PackedRows (EltTy.packing .bf16)) ∧
  (∀ a, (k0_off23 v113) a + S32x128.size a ≤ S1568x512.size a) ∧
  (∀ (hinb : ∀ a, (k0_off23 v113) a + S32x128.size a ≤ S1568x512.size a), (Rect.unit (s := S1568x512) (k0_off23 v113) S32x128.size hinb).PackedRows (EltTy.packing .bf16)) ∧
  (∀ a, (k0_off25 v113) a + S32x128.size a ≤ S1568x512.size a) ∧
  (∀ (hinb : ∀ a, (k0_off25 v113) a + S32x128.size a ≤ S1568x512.size a), (Rect.unit (s := S1568x512) (k0_off25 v113) S32x128.size hinb).PackedRows (EltTy.packing .bf16)) ∧
  (∀ a, (k0_off27 v113) a + S32x128.size a ≤ S1568x512.size a) ∧
  (∀ (hinb : ∀ a, (k0_off27 v113) a + S32x128.size a ≤ S1568x512.size a), (Rect.unit (s := S1568x512) (k0_off27 v113) S32x128.size hinb).PackedRows (EltTy.packing .bf16))
theorem k0_mult6_dvd : ∀ (v113 : BitVec 32) (k0_hw6 : k0_chk6 v113), 16 ∣ (k0_mult6 v113).toNat := fun v113 k0_hw6 => k0_hw6.1
theorem k0_off21_inb : ∀ (v113 : BitVec 32) (k0_hw6 : k0_chk6 v113), ∀ a, (k0_off21 v113) a + S32x128.size a ≤ S1568x512.size a := fun v113 k0_hw6 => k0_hw6.2.1
theorem k0_off21_packedbf16 : ∀ (v113 : BitVec 32) (k0_hw6 : k0_chk6 v113), (Rect.unit (s := S1568x512) (k0_off21 v113) S32x128.size (k0_off21_inb v113 k0_hw6)).PackedRows (EltTy.packing .bf16) := fun v113 k0_hw6 => k0_hw6.2.2.1 (k0_off21_inb v113 k0_hw6)
theorem k0_off23_inb : ∀ (v113 : BitVec 32) (k0_hw6 : k0_chk6 v113), ∀ a, (k0_off23 v113) a + S32x128.size a ≤ S1568x512.size a := fun v113 k0_hw6 => k0_hw6.2.2.2.1
theorem k0_off23_packedbf16 : ∀ (v113 : BitVec 32) (k0_hw6 : k0_chk6 v113), (Rect.unit (s := S1568x512) (k0_off23 v113) S32x128.size (k0_off23_inb v113 k0_hw6)).PackedRows (EltTy.packing .bf16) := fun v113 k0_hw6 => k0_hw6.2.2.2.2.1 (k0_off23_inb v113 k0_hw6)
theorem k0_off25_inb : ∀ (v113 : BitVec 32) (k0_hw6 : k0_chk6 v113), ∀ a, (k0_off25 v113) a + S32x128.size a ≤ S1568x512.size a := fun v113 k0_hw6 => k0_hw6.2.2.2.2.2.1
theorem k0_off25_packedbf16 : ∀ (v113 : BitVec 32) (k0_hw6 : k0_chk6 v113), (Rect.unit (s := S1568x512) (k0_off25 v113) S32x128.size (k0_off25_inb v113 k0_hw6)).PackedRows (EltTy.packing .bf16) := fun v113 k0_hw6 => k0_hw6.2.2.2.2.2.2.1 (k0_off25_inb v113 k0_hw6)
theorem k0_off27_inb : ∀ (v113 : BitVec 32) (k0_hw6 : k0_chk6 v113), ∀ a, (k0_off27 v113) a + S32x128.size a ≤ S1568x512.size a := fun v113 k0_hw6 => k0_hw6.2.2.2.2.2.2.2.1
theorem k0_off27_packedbf16 : ∀ (v113 : BitVec 32) (k0_hw6 : k0_chk6 v113), (Rect.unit (s := S1568x512) (k0_off27 v113) S32x128.size (k0_off27_inb v113 k0_hw6)).PackedRows (EltTy.packing .bf16) := fun v113 k0_hw6 => k0_hw6.2.2.2.2.2.2.2.2 (k0_off27_inb v113 k0_hw6)

def k0_mult7 (v165 : BitVec 32) : BitVec 32 :=
  v165

def k0_mult8 (v167 : BitVec 32) : BitVec 32 :=
  v167

def k0_off28 (v165 : BitVec 32) : Fin 2 → Nat :=
  let v166 : BitVec 32 := v165
  let v169 : Index := Scalar.indexCast v166
  let c0_46 : Index := 0#32
  ![v169.toNat, 0]
def k0_off29 (v165 : BitVec 32) : Fin 2 → Nat :=
  let v166 : BitVec 32 := v165
  let v175 : Index := Scalar.indexCast v166
  let c0_49 : Index := 0#32
  ![v175.toNat, 0]
def k0_off30 (v167 : BitVec 32) : Fin 2 → Nat :=
  let v168 : BitVec 32 := v167
  let v182 : Index := Scalar.indexCast v168
  let c0_51 : Index := 0#32
  ![v182.toNat, 0]
def k0_off31 (v165 : BitVec 32) : Fin 2 → Nat :=
  let v166 : BitVec 32 := v165
  let v186 : Index := Scalar.indexCast v166
  let c128_52 : Index := 128#32
  ![v186.toNat, 128]
def k0_off32 (v167 : BitVec 32) : Fin 2 → Nat :=
  let v168 : BitVec 32 := v167
  let v193 : Index := Scalar.indexCast v168
  let c128_54 : Index := 128#32
  ![v193.toNat, 128]
def k0_off33 (v165 : BitVec 32) : Fin 2 → Nat :=
  let v166 : BitVec 32 := v165
  let v197 : Index := Scalar.indexCast v166
  let c256_55 : Index := 256#32
  ![v197.toNat, 256]
def k0_off34 (v167 : BitVec 32) : Fin 2 → Nat :=
  let v168 : BitVec 32 := v167
  let v204 : Index := Scalar.indexCast v168
  let c256_57 : Index := 256#32
  ![v204.toNat, 256]
def k0_off35 (v165 : BitVec 32) : Fin 2 → Nat :=
  let v166 : BitVec 32 := v165
  let v208 : Index := Scalar.indexCast v166
  let c384_58 : Index := 384#32
  ![v208.toNat, 384]

def k0_chk7 (v165 : BitVec 32) : Prop :=
  (32 ∣ (k0_mult7 v165).toNat) ∧
  (∀ a, (k0_off28 v165) a + S32x128.size a ≤ S1536x128.size a) ∧
  (∀ a, (k0_off29 v165) a + S32x128.size a ≤ S1536x512.size a) ∧
  (∀ a, (k0_off31 v165) a + S32x128.size a ≤ S1536x512.size a) ∧
  (∀ a, (k0_off33 v165) a + S32x128.size a ≤ S1536x512.size a) ∧
  (∀ a, (k0_off35 v165) a + S32x128.size a ≤ S1536x512.size a)
theorem k0_mult7_dvd : ∀ (v165 : BitVec 32) (k0_hw7 : k0_chk7 v165), 32 ∣ (k0_mult7 v165).toNat := fun v165 k0_hw7 => k0_hw7.1
theorem k0_off28_inb : ∀ (v165 : BitVec 32) (k0_hw7 : k0_chk7 v165), ∀ a, (k0_off28 v165) a + S32x128.size a ≤ S1536x128.size a := fun v165 k0_hw7 => k0_hw7.2.1
theorem k0_off29_inb : ∀ (v165 : BitVec 32) (k0_hw7 : k0_chk7 v165), ∀ a, (k0_off29 v165) a + S32x128.size a ≤ S1536x512.size a := fun v165 k0_hw7 => k0_hw7.2.2.1
theorem k0_off31_inb : ∀ (v165 : BitVec 32) (k0_hw7 : k0_chk7 v165), ∀ a, (k0_off31 v165) a + S32x128.size a ≤ S1536x512.size a := fun v165 k0_hw7 => k0_hw7.2.2.2.1
theorem k0_off33_inb : ∀ (v165 : BitVec 32) (k0_hw7 : k0_chk7 v165), ∀ a, (k0_off33 v165) a + S32x128.size a ≤ S1536x512.size a := fun v165 k0_hw7 => k0_hw7.2.2.2.2.1
theorem k0_off35_inb : ∀ (v165 : BitVec 32) (k0_hw7 : k0_chk7 v165), ∀ a, (k0_off35 v165) a + S32x128.size a ≤ S1536x512.size a := fun v165 k0_hw7 => k0_hw7.2.2.2.2.2

def k0_off36 (v167 : BitVec 32) : Fin 2 → Nat :=
  let v168 : BitVec 32 := v167
  let v215 : Index := Scalar.indexCast v168
  let c384_60 : Index := 384#32
  ![v215.toNat, 384]

def k0_chk8 (v167 : BitVec 32) : Prop :=
  (16 ∣ (k0_mult8 v167).toNat) ∧
  (∀ a, (k0_off30 v167) a + S32x128.size a ≤ S1568x512.size a) ∧
  (∀ (hinb : ∀ a, (k0_off30 v167) a + S32x128.size a ≤ S1568x512.size a), (Rect.unit (s := S1568x512) (k0_off30 v167) S32x128.size hinb).PackedRows (EltTy.packing .bf16)) ∧
  (∀ a, (k0_off32 v167) a + S32x128.size a ≤ S1568x512.size a) ∧
  (∀ (hinb : ∀ a, (k0_off32 v167) a + S32x128.size a ≤ S1568x512.size a), (Rect.unit (s := S1568x512) (k0_off32 v167) S32x128.size hinb).PackedRows (EltTy.packing .bf16)) ∧
  (∀ a, (k0_off34 v167) a + S32x128.size a ≤ S1568x512.size a) ∧
  (∀ (hinb : ∀ a, (k0_off34 v167) a + S32x128.size a ≤ S1568x512.size a), (Rect.unit (s := S1568x512) (k0_off34 v167) S32x128.size hinb).PackedRows (EltTy.packing .bf16)) ∧
  (∀ a, (k0_off36 v167) a + S32x128.size a ≤ S1568x512.size a) ∧
  (∀ (hinb : ∀ a, (k0_off36 v167) a + S32x128.size a ≤ S1568x512.size a), (Rect.unit (s := S1568x512) (k0_off36 v167) S32x128.size hinb).PackedRows (EltTy.packing .bf16))
theorem k0_mult8_dvd : ∀ (v167 : BitVec 32) (k0_hw8 : k0_chk8 v167), 16 ∣ (k0_mult8 v167).toNat := fun v167 k0_hw8 => k0_hw8.1
theorem k0_off30_inb : ∀ (v167 : BitVec 32) (k0_hw8 : k0_chk8 v167), ∀ a, (k0_off30 v167) a + S32x128.size a ≤ S1568x512.size a := fun v167 k0_hw8 => k0_hw8.2.1
theorem k0_off30_packedbf16 : ∀ (v167 : BitVec 32) (k0_hw8 : k0_chk8 v167), (Rect.unit (s := S1568x512) (k0_off30 v167) S32x128.size (k0_off30_inb v167 k0_hw8)).PackedRows (EltTy.packing .bf16) := fun v167 k0_hw8 => k0_hw8.2.2.1 (k0_off30_inb v167 k0_hw8)
theorem k0_off32_inb : ∀ (v167 : BitVec 32) (k0_hw8 : k0_chk8 v167), ∀ a, (k0_off32 v167) a + S32x128.size a ≤ S1568x512.size a := fun v167 k0_hw8 => k0_hw8.2.2.2.1
theorem k0_off32_packedbf16 : ∀ (v167 : BitVec 32) (k0_hw8 : k0_chk8 v167), (Rect.unit (s := S1568x512) (k0_off32 v167) S32x128.size (k0_off32_inb v167 k0_hw8)).PackedRows (EltTy.packing .bf16) := fun v167 k0_hw8 => k0_hw8.2.2.2.2.1 (k0_off32_inb v167 k0_hw8)
theorem k0_off34_inb : ∀ (v167 : BitVec 32) (k0_hw8 : k0_chk8 v167), ∀ a, (k0_off34 v167) a + S32x128.size a ≤ S1568x512.size a := fun v167 k0_hw8 => k0_hw8.2.2.2.2.2.1
theorem k0_off34_packedbf16 : ∀ (v167 : BitVec 32) (k0_hw8 : k0_chk8 v167), (Rect.unit (s := S1568x512) (k0_off34 v167) S32x128.size (k0_off34_inb v167 k0_hw8)).PackedRows (EltTy.packing .bf16) := fun v167 k0_hw8 => k0_hw8.2.2.2.2.2.2.1 (k0_off34_inb v167 k0_hw8)
theorem k0_off36_inb : ∀ (v167 : BitVec 32) (k0_hw8 : k0_chk8 v167), ∀ a, (k0_off36 v167) a + S32x128.size a ≤ S1568x512.size a := fun v167 k0_hw8 => k0_hw8.2.2.2.2.2.2.2.1
theorem k0_off36_packedbf16 : ∀ (v167 : BitVec 32) (k0_hw8 : k0_chk8 v167), (Rect.unit (s := S1568x512) (k0_off36 v167) S32x128.size (k0_off36_inb v167 k0_hw8)).PackedRows (EltTy.packing .bf16) := fun v167 k0_hw8 => k0_hw8.2.2.2.2.2.2.2.2 (k0_off36_inb v167 k0_hw8)

def k0_mult9 (v219 : BitVec 32) : BitVec 32 :=
  v219

def k0_mult10 (v221 : BitVec 32) : BitVec 32 :=
  v221

def k0_off37 (v219 : BitVec 32) : Fin 2 → Nat :=
  let v220 : BitVec 32 := v219
  let v223 : Index := Scalar.indexCast v220
  let c0_62 : Index := 0#32
  ![v223.toNat, 0]
def k0_off38 (v219 : BitVec 32) : Fin 2 → Nat :=
  let v220 : BitVec 32 := v219
  let v229 : Index := Scalar.indexCast v220
  let c0_65 : Index := 0#32
  ![v229.toNat, 0]
def k0_off39 (v221 : BitVec 32) : Fin 2 → Nat :=
  let v222 : BitVec 32 := v221
  let v236 : Index := Scalar.indexCast v222
  let c0_67 : Index := 0#32
  ![v236.toNat, 0]
def k0_off40 (v219 : BitVec 32) : Fin 2 → Nat :=
  let v220 : BitVec 32 := v219
  let v240 : Index := Scalar.indexCast v220
  let c128_68 : Index := 128#32
  ![v240.toNat, 128]
def k0_off41 (v221 : BitVec 32) : Fin 2 → Nat :=
  let v222 : BitVec 32 := v221
  let v247 : Index := Scalar.indexCast v222
  let c128_70 : Index := 128#32
  ![v247.toNat, 128]
def k0_off42 (v219 : BitVec 32) : Fin 2 → Nat :=
  let v220 : BitVec 32 := v219
  let v251 : Index := Scalar.indexCast v220
  let c256_71 : Index := 256#32
  ![v251.toNat, 256]
def k0_off43 (v221 : BitVec 32) : Fin 2 → Nat :=
  let v222 : BitVec 32 := v221
  let v258 : Index := Scalar.indexCast v222
  let c256_73 : Index := 256#32
  ![v258.toNat, 256]
def k0_off44 (v219 : BitVec 32) : Fin 2 → Nat :=
  let v220 : BitVec 32 := v219
  let v262 : Index := Scalar.indexCast v220
  let c384_74 : Index := 384#32
  ![v262.toNat, 384]

def k0_chk9 (v219 : BitVec 32) : Prop :=
  (32 ∣ (k0_mult9 v219).toNat) ∧
  (∀ a, (k0_off37 v219) a + S32x128.size a ≤ S1536x128.size a) ∧
  (∀ a, (k0_off38 v219) a + S32x128.size a ≤ S1536x512.size a) ∧
  (∀ a, (k0_off40 v219) a + S32x128.size a ≤ S1536x512.size a) ∧
  (∀ a, (k0_off42 v219) a + S32x128.size a ≤ S1536x512.size a) ∧
  (∀ a, (k0_off44 v219) a + S32x128.size a ≤ S1536x512.size a)
theorem k0_mult9_dvd : ∀ (v219 : BitVec 32) (k0_hw9 : k0_chk9 v219), 32 ∣ (k0_mult9 v219).toNat := fun v219 k0_hw9 => k0_hw9.1
theorem k0_off37_inb : ∀ (v219 : BitVec 32) (k0_hw9 : k0_chk9 v219), ∀ a, (k0_off37 v219) a + S32x128.size a ≤ S1536x128.size a := fun v219 k0_hw9 => k0_hw9.2.1
theorem k0_off38_inb : ∀ (v219 : BitVec 32) (k0_hw9 : k0_chk9 v219), ∀ a, (k0_off38 v219) a + S32x128.size a ≤ S1536x512.size a := fun v219 k0_hw9 => k0_hw9.2.2.1
theorem k0_off40_inb : ∀ (v219 : BitVec 32) (k0_hw9 : k0_chk9 v219), ∀ a, (k0_off40 v219) a + S32x128.size a ≤ S1536x512.size a := fun v219 k0_hw9 => k0_hw9.2.2.2.1
theorem k0_off42_inb : ∀ (v219 : BitVec 32) (k0_hw9 : k0_chk9 v219), ∀ a, (k0_off42 v219) a + S32x128.size a ≤ S1536x512.size a := fun v219 k0_hw9 => k0_hw9.2.2.2.2.1
theorem k0_off44_inb : ∀ (v219 : BitVec 32) (k0_hw9 : k0_chk9 v219), ∀ a, (k0_off44 v219) a + S32x128.size a ≤ S1536x512.size a := fun v219 k0_hw9 => k0_hw9.2.2.2.2.2

def k0_off45 (v221 : BitVec 32) : Fin 2 → Nat :=
  let v222 : BitVec 32 := v221
  let v269 : Index := Scalar.indexCast v222
  let c384_76 : Index := 384#32
  ![v269.toNat, 384]

def k0_chk10 (v221 : BitVec 32) : Prop :=
  (16 ∣ (k0_mult10 v221).toNat) ∧
  (∀ a, (k0_off39 v221) a + S32x128.size a ≤ S1568x512.size a) ∧
  (∀ (hinb : ∀ a, (k0_off39 v221) a + S32x128.size a ≤ S1568x512.size a), (Rect.unit (s := S1568x512) (k0_off39 v221) S32x128.size hinb).PackedRows (EltTy.packing .bf16)) ∧
  (∀ a, (k0_off41 v221) a + S32x128.size a ≤ S1568x512.size a) ∧
  (∀ (hinb : ∀ a, (k0_off41 v221) a + S32x128.size a ≤ S1568x512.size a), (Rect.unit (s := S1568x512) (k0_off41 v221) S32x128.size hinb).PackedRows (EltTy.packing .bf16)) ∧
  (∀ a, (k0_off43 v221) a + S32x128.size a ≤ S1568x512.size a) ∧
  (∀ (hinb : ∀ a, (k0_off43 v221) a + S32x128.size a ≤ S1568x512.size a), (Rect.unit (s := S1568x512) (k0_off43 v221) S32x128.size hinb).PackedRows (EltTy.packing .bf16)) ∧
  (∀ a, (k0_off45 v221) a + S32x128.size a ≤ S1568x512.size a) ∧
  (∀ (hinb : ∀ a, (k0_off45 v221) a + S32x128.size a ≤ S1568x512.size a), (Rect.unit (s := S1568x512) (k0_off45 v221) S32x128.size hinb).PackedRows (EltTy.packing .bf16))
theorem k0_mult10_dvd : ∀ (v221 : BitVec 32) (k0_hw10 : k0_chk10 v221), 16 ∣ (k0_mult10 v221).toNat := fun v221 k0_hw10 => k0_hw10.1
theorem k0_off39_inb : ∀ (v221 : BitVec 32) (k0_hw10 : k0_chk10 v221), ∀ a, (k0_off39 v221) a + S32x128.size a ≤ S1568x512.size a := fun v221 k0_hw10 => k0_hw10.2.1
theorem k0_off39_packedbf16 : ∀ (v221 : BitVec 32) (k0_hw10 : k0_chk10 v221), (Rect.unit (s := S1568x512) (k0_off39 v221) S32x128.size (k0_off39_inb v221 k0_hw10)).PackedRows (EltTy.packing .bf16) := fun v221 k0_hw10 => k0_hw10.2.2.1 (k0_off39_inb v221 k0_hw10)
theorem k0_off41_inb : ∀ (v221 : BitVec 32) (k0_hw10 : k0_chk10 v221), ∀ a, (k0_off41 v221) a + S32x128.size a ≤ S1568x512.size a := fun v221 k0_hw10 => k0_hw10.2.2.2.1
theorem k0_off41_packedbf16 : ∀ (v221 : BitVec 32) (k0_hw10 : k0_chk10 v221), (Rect.unit (s := S1568x512) (k0_off41 v221) S32x128.size (k0_off41_inb v221 k0_hw10)).PackedRows (EltTy.packing .bf16) := fun v221 k0_hw10 => k0_hw10.2.2.2.2.1 (k0_off41_inb v221 k0_hw10)
theorem k0_off43_inb : ∀ (v221 : BitVec 32) (k0_hw10 : k0_chk10 v221), ∀ a, (k0_off43 v221) a + S32x128.size a ≤ S1568x512.size a := fun v221 k0_hw10 => k0_hw10.2.2.2.2.2.1
theorem k0_off43_packedbf16 : ∀ (v221 : BitVec 32) (k0_hw10 : k0_chk10 v221), (Rect.unit (s := S1568x512) (k0_off43 v221) S32x128.size (k0_off43_inb v221 k0_hw10)).PackedRows (EltTy.packing .bf16) := fun v221 k0_hw10 => k0_hw10.2.2.2.2.2.2.1 (k0_off43_inb v221 k0_hw10)
theorem k0_off45_inb : ∀ (v221 : BitVec 32) (k0_hw10 : k0_chk10 v221), ∀ a, (k0_off45 v221) a + S32x128.size a ≤ S1568x512.size a := fun v221 k0_hw10 => k0_hw10.2.2.2.2.2.2.2.1
theorem k0_off45_packedbf16 : ∀ (v221 : BitVec 32) (k0_hw10 : k0_chk10 v221), (Rect.unit (s := S1568x512) (k0_off45 v221) S32x128.size (k0_off45_inb v221 k0_hw10)).PackedRows (EltTy.packing .bf16) := fun v221 k0_hw10 => k0_hw10.2.2.2.2.2.2.2.2 (k0_off45_inb v221 k0_hw10)

def k0_mult11 (v273 : BitVec 32) : BitVec 32 :=
  v273

def k0_mult12 (v275 : BitVec 32) : BitVec 32 :=
  v275

def k0_off46 (v273 : BitVec 32) : Fin 2 → Nat :=
  let v274 : BitVec 32 := v273
  let v277 : Index := Scalar.indexCast v274
  let c0_78 : Index := 0#32
  ![v277.toNat, 0]
def k0_off47 (v273 : BitVec 32) : Fin 2 → Nat :=
  let v274 : BitVec 32 := v273
  let v283 : Index := Scalar.indexCast v274
  let c0_81 : Index := 0#32
  ![v283.toNat, 0]
def k0_off48 (v275 : BitVec 32) : Fin 2 → Nat :=
  let v276 : BitVec 32 := v275
  let v290 : Index := Scalar.indexCast v276
  let c0_83 : Index := 0#32
  ![v290.toNat, 0]
def k0_off49 (v273 : BitVec 32) : Fin 2 → Nat :=
  let v274 : BitVec 32 := v273
  let v294 : Index := Scalar.indexCast v274
  let c128_84 : Index := 128#32
  ![v294.toNat, 128]
def k0_off50 (v275 : BitVec 32) : Fin 2 → Nat :=
  let v276 : BitVec 32 := v275
  let v301 : Index := Scalar.indexCast v276
  let c128_86 : Index := 128#32
  ![v301.toNat, 128]
def k0_off51 (v273 : BitVec 32) : Fin 2 → Nat :=
  let v274 : BitVec 32 := v273
  let v305 : Index := Scalar.indexCast v274
  let c256_87 : Index := 256#32
  ![v305.toNat, 256]
def k0_off52 (v275 : BitVec 32) : Fin 2 → Nat :=
  let v276 : BitVec 32 := v275
  let v312 : Index := Scalar.indexCast v276
  let c256_89 : Index := 256#32
  ![v312.toNat, 256]
def k0_off53 (v273 : BitVec 32) : Fin 2 → Nat :=
  let v274 : BitVec 32 := v273
  let v316 : Index := Scalar.indexCast v274
  let c384_90 : Index := 384#32
  ![v316.toNat, 384]

def k0_chk11 (v273 : BitVec 32) : Prop :=
  (32 ∣ (k0_mult11 v273).toNat) ∧
  (∀ a, (k0_off46 v273) a + S32x128.size a ≤ S1536x128.size a) ∧
  (∀ a, (k0_off47 v273) a + S32x128.size a ≤ S1536x512.size a) ∧
  (∀ a, (k0_off49 v273) a + S32x128.size a ≤ S1536x512.size a) ∧
  (∀ a, (k0_off51 v273) a + S32x128.size a ≤ S1536x512.size a) ∧
  (∀ a, (k0_off53 v273) a + S32x128.size a ≤ S1536x512.size a)
theorem k0_mult11_dvd : ∀ (v273 : BitVec 32) (k0_hw11 : k0_chk11 v273), 32 ∣ (k0_mult11 v273).toNat := fun v273 k0_hw11 => k0_hw11.1
theorem k0_off46_inb : ∀ (v273 : BitVec 32) (k0_hw11 : k0_chk11 v273), ∀ a, (k0_off46 v273) a + S32x128.size a ≤ S1536x128.size a := fun v273 k0_hw11 => k0_hw11.2.1
theorem k0_off47_inb : ∀ (v273 : BitVec 32) (k0_hw11 : k0_chk11 v273), ∀ a, (k0_off47 v273) a + S32x128.size a ≤ S1536x512.size a := fun v273 k0_hw11 => k0_hw11.2.2.1
theorem k0_off49_inb : ∀ (v273 : BitVec 32) (k0_hw11 : k0_chk11 v273), ∀ a, (k0_off49 v273) a + S32x128.size a ≤ S1536x512.size a := fun v273 k0_hw11 => k0_hw11.2.2.2.1
theorem k0_off51_inb : ∀ (v273 : BitVec 32) (k0_hw11 : k0_chk11 v273), ∀ a, (k0_off51 v273) a + S32x128.size a ≤ S1536x512.size a := fun v273 k0_hw11 => k0_hw11.2.2.2.2.1
theorem k0_off53_inb : ∀ (v273 : BitVec 32) (k0_hw11 : k0_chk11 v273), ∀ a, (k0_off53 v273) a + S32x128.size a ≤ S1536x512.size a := fun v273 k0_hw11 => k0_hw11.2.2.2.2.2

def k0_off54 (v275 : BitVec 32) : Fin 2 → Nat :=
  let v276 : BitVec 32 := v275
  let v323 : Index := Scalar.indexCast v276
  let c384_92 : Index := 384#32
  ![v323.toNat, 384]

def k0_chk12 (v275 : BitVec 32) : Prop :=
  (16 ∣ (k0_mult12 v275).toNat) ∧
  (∀ a, (k0_off48 v275) a + S32x128.size a ≤ S1568x512.size a) ∧
  (∀ (hinb : ∀ a, (k0_off48 v275) a + S32x128.size a ≤ S1568x512.size a), (Rect.unit (s := S1568x512) (k0_off48 v275) S32x128.size hinb).PackedRows (EltTy.packing .bf16)) ∧
  (∀ a, (k0_off50 v275) a + S32x128.size a ≤ S1568x512.size a) ∧
  (∀ (hinb : ∀ a, (k0_off50 v275) a + S32x128.size a ≤ S1568x512.size a), (Rect.unit (s := S1568x512) (k0_off50 v275) S32x128.size hinb).PackedRows (EltTy.packing .bf16)) ∧
  (∀ a, (k0_off52 v275) a + S32x128.size a ≤ S1568x512.size a) ∧
  (∀ (hinb : ∀ a, (k0_off52 v275) a + S32x128.size a ≤ S1568x512.size a), (Rect.unit (s := S1568x512) (k0_off52 v275) S32x128.size hinb).PackedRows (EltTy.packing .bf16)) ∧
  (∀ a, (k0_off54 v275) a + S32x128.size a ≤ S1568x512.size a) ∧
  (∀ (hinb : ∀ a, (k0_off54 v275) a + S32x128.size a ≤ S1568x512.size a), (Rect.unit (s := S1568x512) (k0_off54 v275) S32x128.size hinb).PackedRows (EltTy.packing .bf16))
theorem k0_mult12_dvd : ∀ (v275 : BitVec 32) (k0_hw12 : k0_chk12 v275), 16 ∣ (k0_mult12 v275).toNat := fun v275 k0_hw12 => k0_hw12.1
theorem k0_off48_inb : ∀ (v275 : BitVec 32) (k0_hw12 : k0_chk12 v275), ∀ a, (k0_off48 v275) a + S32x128.size a ≤ S1568x512.size a := fun v275 k0_hw12 => k0_hw12.2.1
theorem k0_off48_packedbf16 : ∀ (v275 : BitVec 32) (k0_hw12 : k0_chk12 v275), (Rect.unit (s := S1568x512) (k0_off48 v275) S32x128.size (k0_off48_inb v275 k0_hw12)).PackedRows (EltTy.packing .bf16) := fun v275 k0_hw12 => k0_hw12.2.2.1 (k0_off48_inb v275 k0_hw12)
theorem k0_off50_inb : ∀ (v275 : BitVec 32) (k0_hw12 : k0_chk12 v275), ∀ a, (k0_off50 v275) a + S32x128.size a ≤ S1568x512.size a := fun v275 k0_hw12 => k0_hw12.2.2.2.1
theorem k0_off50_packedbf16 : ∀ (v275 : BitVec 32) (k0_hw12 : k0_chk12 v275), (Rect.unit (s := S1568x512) (k0_off50 v275) S32x128.size (k0_off50_inb v275 k0_hw12)).PackedRows (EltTy.packing .bf16) := fun v275 k0_hw12 => k0_hw12.2.2.2.2.1 (k0_off50_inb v275 k0_hw12)
theorem k0_off52_inb : ∀ (v275 : BitVec 32) (k0_hw12 : k0_chk12 v275), ∀ a, (k0_off52 v275) a + S32x128.size a ≤ S1568x512.size a := fun v275 k0_hw12 => k0_hw12.2.2.2.2.2.1
theorem k0_off52_packedbf16 : ∀ (v275 : BitVec 32) (k0_hw12 : k0_chk12 v275), (Rect.unit (s := S1568x512) (k0_off52 v275) S32x128.size (k0_off52_inb v275 k0_hw12)).PackedRows (EltTy.packing .bf16) := fun v275 k0_hw12 => k0_hw12.2.2.2.2.2.2.1 (k0_off52_inb v275 k0_hw12)
theorem k0_off54_inb : ∀ (v275 : BitVec 32) (k0_hw12 : k0_chk12 v275), ∀ a, (k0_off54 v275) a + S32x128.size a ≤ S1568x512.size a := fun v275 k0_hw12 => k0_hw12.2.2.2.2.2.2.2.1
theorem k0_off54_packedbf16 : ∀ (v275 : BitVec 32) (k0_hw12 : k0_chk12 v275), (Rect.unit (s := S1568x512) (k0_off54 v275) S32x128.size (k0_off54_inb v275 k0_hw12)).PackedRows (EltTy.packing .bf16) := fun v275 k0_hw12 => k0_hw12.2.2.2.2.2.2.2.2 (k0_off54_inb v275 k0_hw12)

def k0_mult13 (v327 : BitVec 32) : BitVec 32 :=
  v327

def k0_mult14 (v329 : BitVec 32) : BitVec 32 :=
  v329

def k0_off55 (v327 : BitVec 32) : Fin 2 → Nat :=
  let v328 : BitVec 32 := v327
  let v331 : Index := Scalar.indexCast v328
  let c0_94 : Index := 0#32
  ![v331.toNat, 0]
def k0_off56 (v327 : BitVec 32) : Fin 2 → Nat :=
  let v328 : BitVec 32 := v327
  let v337 : Index := Scalar.indexCast v328
  let c0_97 : Index := 0#32
  ![v337.toNat, 0]
def k0_off57 (v329 : BitVec 32) : Fin 2 → Nat :=
  let v330 : BitVec 32 := v329
  let v344 : Index := Scalar.indexCast v330
  let c0_99 : Index := 0#32
  ![v344.toNat, 0]
def k0_off58 (v327 : BitVec 32) : Fin 2 → Nat :=
  let v328 : BitVec 32 := v327
  let v348 : Index := Scalar.indexCast v328
  let c128_100 : Index := 128#32
  ![v348.toNat, 128]
def k0_off59 (v329 : BitVec 32) : Fin 2 → Nat :=
  let v330 : BitVec 32 := v329
  let v355 : Index := Scalar.indexCast v330
  let c128_102 : Index := 128#32
  ![v355.toNat, 128]
def k0_off60 (v327 : BitVec 32) : Fin 2 → Nat :=
  let v328 : BitVec 32 := v327
  let v359 : Index := Scalar.indexCast v328
  let c256_103 : Index := 256#32
  ![v359.toNat, 256]
def k0_off61 (v329 : BitVec 32) : Fin 2 → Nat :=
  let v330 : BitVec 32 := v329
  let v366 : Index := Scalar.indexCast v330
  let c256_105 : Index := 256#32
  ![v366.toNat, 256]
def k0_off62 (v327 : BitVec 32) : Fin 2 → Nat :=
  let v328 : BitVec 32 := v327
  let v370 : Index := Scalar.indexCast v328
  let c384_106 : Index := 384#32
  ![v370.toNat, 384]

def k0_chk13 (v327 : BitVec 32) : Prop :=
  (32 ∣ (k0_mult13 v327).toNat) ∧
  (∀ a, (k0_off55 v327) a + S32x128.size a ≤ S1536x128.size a) ∧
  (∀ a, (k0_off56 v327) a + S32x128.size a ≤ S1536x512.size a) ∧
  (∀ a, (k0_off58 v327) a + S32x128.size a ≤ S1536x512.size a) ∧
  (∀ a, (k0_off60 v327) a + S32x128.size a ≤ S1536x512.size a) ∧
  (∀ a, (k0_off62 v327) a + S32x128.size a ≤ S1536x512.size a)
theorem k0_mult13_dvd : ∀ (v327 : BitVec 32) (k0_hw13 : k0_chk13 v327), 32 ∣ (k0_mult13 v327).toNat := fun v327 k0_hw13 => k0_hw13.1
theorem k0_off55_inb : ∀ (v327 : BitVec 32) (k0_hw13 : k0_chk13 v327), ∀ a, (k0_off55 v327) a + S32x128.size a ≤ S1536x128.size a := fun v327 k0_hw13 => k0_hw13.2.1
theorem k0_off56_inb : ∀ (v327 : BitVec 32) (k0_hw13 : k0_chk13 v327), ∀ a, (k0_off56 v327) a + S32x128.size a ≤ S1536x512.size a := fun v327 k0_hw13 => k0_hw13.2.2.1
theorem k0_off58_inb : ∀ (v327 : BitVec 32) (k0_hw13 : k0_chk13 v327), ∀ a, (k0_off58 v327) a + S32x128.size a ≤ S1536x512.size a := fun v327 k0_hw13 => k0_hw13.2.2.2.1
theorem k0_off60_inb : ∀ (v327 : BitVec 32) (k0_hw13 : k0_chk13 v327), ∀ a, (k0_off60 v327) a + S32x128.size a ≤ S1536x512.size a := fun v327 k0_hw13 => k0_hw13.2.2.2.2.1
theorem k0_off62_inb : ∀ (v327 : BitVec 32) (k0_hw13 : k0_chk13 v327), ∀ a, (k0_off62 v327) a + S32x128.size a ≤ S1536x512.size a := fun v327 k0_hw13 => k0_hw13.2.2.2.2.2

def k0_off63 (v329 : BitVec 32) : Fin 2 → Nat :=
  let v330 : BitVec 32 := v329
  let v377 : Index := Scalar.indexCast v330
  let c384_108 : Index := 384#32
  ![v377.toNat, 384]

def k0_chk14 (v329 : BitVec 32) : Prop :=
  (16 ∣ (k0_mult14 v329).toNat) ∧
  (∀ a, (k0_off57 v329) a + S32x128.size a ≤ S1568x512.size a) ∧
  (∀ (hinb : ∀ a, (k0_off57 v329) a + S32x128.size a ≤ S1568x512.size a), (Rect.unit (s := S1568x512) (k0_off57 v329) S32x128.size hinb).PackedRows (EltTy.packing .bf16)) ∧
  (∀ a, (k0_off59 v329) a + S32x128.size a ≤ S1568x512.size a) ∧
  (∀ (hinb : ∀ a, (k0_off59 v329) a + S32x128.size a ≤ S1568x512.size a), (Rect.unit (s := S1568x512) (k0_off59 v329) S32x128.size hinb).PackedRows (EltTy.packing .bf16)) ∧
  (∀ a, (k0_off61 v329) a + S32x128.size a ≤ S1568x512.size a) ∧
  (∀ (hinb : ∀ a, (k0_off61 v329) a + S32x128.size a ≤ S1568x512.size a), (Rect.unit (s := S1568x512) (k0_off61 v329) S32x128.size hinb).PackedRows (EltTy.packing .bf16)) ∧
  (∀ a, (k0_off63 v329) a + S32x128.size a ≤ S1568x512.size a) ∧
  (∀ (hinb : ∀ a, (k0_off63 v329) a + S32x128.size a ≤ S1568x512.size a), (Rect.unit (s := S1568x512) (k0_off63 v329) S32x128.size hinb).PackedRows (EltTy.packing .bf16))
theorem k0_mult14_dvd : ∀ (v329 : BitVec 32) (k0_hw14 : k0_chk14 v329), 16 ∣ (k0_mult14 v329).toNat := fun v329 k0_hw14 => k0_hw14.1
theorem k0_off57_inb : ∀ (v329 : BitVec 32) (k0_hw14 : k0_chk14 v329), ∀ a, (k0_off57 v329) a + S32x128.size a ≤ S1568x512.size a := fun v329 k0_hw14 => k0_hw14.2.1
theorem k0_off57_packedbf16 : ∀ (v329 : BitVec 32) (k0_hw14 : k0_chk14 v329), (Rect.unit (s := S1568x512) (k0_off57 v329) S32x128.size (k0_off57_inb v329 k0_hw14)).PackedRows (EltTy.packing .bf16) := fun v329 k0_hw14 => k0_hw14.2.2.1 (k0_off57_inb v329 k0_hw14)
theorem k0_off59_inb : ∀ (v329 : BitVec 32) (k0_hw14 : k0_chk14 v329), ∀ a, (k0_off59 v329) a + S32x128.size a ≤ S1568x512.size a := fun v329 k0_hw14 => k0_hw14.2.2.2.1
theorem k0_off59_packedbf16 : ∀ (v329 : BitVec 32) (k0_hw14 : k0_chk14 v329), (Rect.unit (s := S1568x512) (k0_off59 v329) S32x128.size (k0_off59_inb v329 k0_hw14)).PackedRows (EltTy.packing .bf16) := fun v329 k0_hw14 => k0_hw14.2.2.2.2.1 (k0_off59_inb v329 k0_hw14)
theorem k0_off61_inb : ∀ (v329 : BitVec 32) (k0_hw14 : k0_chk14 v329), ∀ a, (k0_off61 v329) a + S32x128.size a ≤ S1568x512.size a := fun v329 k0_hw14 => k0_hw14.2.2.2.2.2.1
theorem k0_off61_packedbf16 : ∀ (v329 : BitVec 32) (k0_hw14 : k0_chk14 v329), (Rect.unit (s := S1568x512) (k0_off61 v329) S32x128.size (k0_off61_inb v329 k0_hw14)).PackedRows (EltTy.packing .bf16) := fun v329 k0_hw14 => k0_hw14.2.2.2.2.2.2.1 (k0_off61_inb v329 k0_hw14)
theorem k0_off63_inb : ∀ (v329 : BitVec 32) (k0_hw14 : k0_chk14 v329), ∀ a, (k0_off63 v329) a + S32x128.size a ≤ S1568x512.size a := fun v329 k0_hw14 => k0_hw14.2.2.2.2.2.2.2.1
theorem k0_off63_packedbf16 : ∀ (v329 : BitVec 32) (k0_hw14 : k0_chk14 v329), (Rect.unit (s := S1568x512) (k0_off63 v329) S32x128.size (k0_off63_inb v329 k0_hw14)).PackedRows (EltTy.packing .bf16) := fun v329 k0_hw14 => k0_hw14.2.2.2.2.2.2.2.2 (k0_off63_inb v329 k0_hw14)

def k0_mult15 (v381 : BitVec 32) : BitVec 32 :=
  v381

def k0_mult16 (v383 : BitVec 32) : BitVec 32 :=
  v383

def k0_off64 (v381 : BitVec 32) : Fin 2 → Nat :=
  let v382 : BitVec 32 := v381
  let v385 : Index := Scalar.indexCast v382
  let c0_110 : Index := 0#32
  ![v385.toNat, 0]
def k0_off65 (v381 : BitVec 32) : Fin 2 → Nat :=
  let v382 : BitVec 32 := v381
  let v391 : Index := Scalar.indexCast v382
  let c0_113 : Index := 0#32
  ![v391.toNat, 0]
def k0_off66 (v383 : BitVec 32) : Fin 2 → Nat :=
  let v384 : BitVec 32 := v383
  let v398 : Index := Scalar.indexCast v384
  let c0_115 : Index := 0#32
  ![v398.toNat, 0]
def k0_off67 (v381 : BitVec 32) : Fin 2 → Nat :=
  let v382 : BitVec 32 := v381
  let v402 : Index := Scalar.indexCast v382
  let c128_116 : Index := 128#32
  ![v402.toNat, 128]
def k0_off68 (v383 : BitVec 32) : Fin 2 → Nat :=
  let v384 : BitVec 32 := v383
  let v409 : Index := Scalar.indexCast v384
  let c128_118 : Index := 128#32
  ![v409.toNat, 128]
def k0_off69 (v381 : BitVec 32) : Fin 2 → Nat :=
  let v382 : BitVec 32 := v381
  let v413 : Index := Scalar.indexCast v382
  let c256_119 : Index := 256#32
  ![v413.toNat, 256]
def k0_off70 (v383 : BitVec 32) : Fin 2 → Nat :=
  let v384 : BitVec 32 := v383
  let v420 : Index := Scalar.indexCast v384
  let c256_121 : Index := 256#32
  ![v420.toNat, 256]
def k0_off71 (v381 : BitVec 32) : Fin 2 → Nat :=
  let v382 : BitVec 32 := v381
  let v424 : Index := Scalar.indexCast v382
  let c384_122 : Index := 384#32
  ![v424.toNat, 384]

def k0_chk15 (v381 : BitVec 32) : Prop :=
  (32 ∣ (k0_mult15 v381).toNat) ∧
  (∀ a, (k0_off64 v381) a + S32x128.size a ≤ S1536x128.size a) ∧
  (∀ a, (k0_off65 v381) a + S32x128.size a ≤ S1536x512.size a) ∧
  (∀ a, (k0_off67 v381) a + S32x128.size a ≤ S1536x512.size a) ∧
  (∀ a, (k0_off69 v381) a + S32x128.size a ≤ S1536x512.size a) ∧
  (∀ a, (k0_off71 v381) a + S32x128.size a ≤ S1536x512.size a)
theorem k0_mult15_dvd : ∀ (v381 : BitVec 32) (k0_hw15 : k0_chk15 v381), 32 ∣ (k0_mult15 v381).toNat := fun v381 k0_hw15 => k0_hw15.1
theorem k0_off64_inb : ∀ (v381 : BitVec 32) (k0_hw15 : k0_chk15 v381), ∀ a, (k0_off64 v381) a + S32x128.size a ≤ S1536x128.size a := fun v381 k0_hw15 => k0_hw15.2.1
theorem k0_off65_inb : ∀ (v381 : BitVec 32) (k0_hw15 : k0_chk15 v381), ∀ a, (k0_off65 v381) a + S32x128.size a ≤ S1536x512.size a := fun v381 k0_hw15 => k0_hw15.2.2.1
theorem k0_off67_inb : ∀ (v381 : BitVec 32) (k0_hw15 : k0_chk15 v381), ∀ a, (k0_off67 v381) a + S32x128.size a ≤ S1536x512.size a := fun v381 k0_hw15 => k0_hw15.2.2.2.1
theorem k0_off69_inb : ∀ (v381 : BitVec 32) (k0_hw15 : k0_chk15 v381), ∀ a, (k0_off69 v381) a + S32x128.size a ≤ S1536x512.size a := fun v381 k0_hw15 => k0_hw15.2.2.2.2.1
theorem k0_off71_inb : ∀ (v381 : BitVec 32) (k0_hw15 : k0_chk15 v381), ∀ a, (k0_off71 v381) a + S32x128.size a ≤ S1536x512.size a := fun v381 k0_hw15 => k0_hw15.2.2.2.2.2

def k0_off72 (v383 : BitVec 32) : Fin 2 → Nat :=
  let v384 : BitVec 32 := v383
  let v431 : Index := Scalar.indexCast v384
  let c384_124 : Index := 384#32
  ![v431.toNat, 384]

def k0_chk16 (v383 : BitVec 32) : Prop :=
  (16 ∣ (k0_mult16 v383).toNat) ∧
  (∀ a, (k0_off66 v383) a + S32x128.size a ≤ S1568x512.size a) ∧
  (∀ (hinb : ∀ a, (k0_off66 v383) a + S32x128.size a ≤ S1568x512.size a), (Rect.unit (s := S1568x512) (k0_off66 v383) S32x128.size hinb).PackedRows (EltTy.packing .bf16)) ∧
  (∀ a, (k0_off68 v383) a + S32x128.size a ≤ S1568x512.size a) ∧
  (∀ (hinb : ∀ a, (k0_off68 v383) a + S32x128.size a ≤ S1568x512.size a), (Rect.unit (s := S1568x512) (k0_off68 v383) S32x128.size hinb).PackedRows (EltTy.packing .bf16)) ∧
  (∀ a, (k0_off70 v383) a + S32x128.size a ≤ S1568x512.size a) ∧
  (∀ (hinb : ∀ a, (k0_off70 v383) a + S32x128.size a ≤ S1568x512.size a), (Rect.unit (s := S1568x512) (k0_off70 v383) S32x128.size hinb).PackedRows (EltTy.packing .bf16)) ∧
  (∀ a, (k0_off72 v383) a + S32x128.size a ≤ S1568x512.size a) ∧
  (∀ (hinb : ∀ a, (k0_off72 v383) a + S32x128.size a ≤ S1568x512.size a), (Rect.unit (s := S1568x512) (k0_off72 v383) S32x128.size hinb).PackedRows (EltTy.packing .bf16))
theorem k0_mult16_dvd : ∀ (v383 : BitVec 32) (k0_hw16 : k0_chk16 v383), 16 ∣ (k0_mult16 v383).toNat := fun v383 k0_hw16 => k0_hw16.1
theorem k0_off66_inb : ∀ (v383 : BitVec 32) (k0_hw16 : k0_chk16 v383), ∀ a, (k0_off66 v383) a + S32x128.size a ≤ S1568x512.size a := fun v383 k0_hw16 => k0_hw16.2.1
theorem k0_off66_packedbf16 : ∀ (v383 : BitVec 32) (k0_hw16 : k0_chk16 v383), (Rect.unit (s := S1568x512) (k0_off66 v383) S32x128.size (k0_off66_inb v383 k0_hw16)).PackedRows (EltTy.packing .bf16) := fun v383 k0_hw16 => k0_hw16.2.2.1 (k0_off66_inb v383 k0_hw16)
theorem k0_off68_inb : ∀ (v383 : BitVec 32) (k0_hw16 : k0_chk16 v383), ∀ a, (k0_off68 v383) a + S32x128.size a ≤ S1568x512.size a := fun v383 k0_hw16 => k0_hw16.2.2.2.1
theorem k0_off68_packedbf16 : ∀ (v383 : BitVec 32) (k0_hw16 : k0_chk16 v383), (Rect.unit (s := S1568x512) (k0_off68 v383) S32x128.size (k0_off68_inb v383 k0_hw16)).PackedRows (EltTy.packing .bf16) := fun v383 k0_hw16 => k0_hw16.2.2.2.2.1 (k0_off68_inb v383 k0_hw16)
theorem k0_off70_inb : ∀ (v383 : BitVec 32) (k0_hw16 : k0_chk16 v383), ∀ a, (k0_off70 v383) a + S32x128.size a ≤ S1568x512.size a := fun v383 k0_hw16 => k0_hw16.2.2.2.2.2.1
theorem k0_off70_packedbf16 : ∀ (v383 : BitVec 32) (k0_hw16 : k0_chk16 v383), (Rect.unit (s := S1568x512) (k0_off70 v383) S32x128.size (k0_off70_inb v383 k0_hw16)).PackedRows (EltTy.packing .bf16) := fun v383 k0_hw16 => k0_hw16.2.2.2.2.2.2.1 (k0_off70_inb v383 k0_hw16)
theorem k0_off72_inb : ∀ (v383 : BitVec 32) (k0_hw16 : k0_chk16 v383), ∀ a, (k0_off72 v383) a + S32x128.size a ≤ S1568x512.size a := fun v383 k0_hw16 => k0_hw16.2.2.2.2.2.2.2.1
theorem k0_off72_packedbf16 : ∀ (v383 : BitVec 32) (k0_hw16 : k0_chk16 v383), (Rect.unit (s := S1568x512) (k0_off72 v383) S32x128.size (k0_off72_inb v383 k0_hw16)).PackedRows (EltTy.packing .bf16) := fun v383 k0_hw16 => k0_hw16.2.2.2.2.2.2.2.2 (k0_off72_inb v383 k0_hw16)

def k0_mult17 (v435 : BitVec 32) : BitVec 32 :=
  v435

def k0_mult18 (v437 : BitVec 32) : BitVec 32 :=
  v437

def k0_off73 (v435 : BitVec 32) : Fin 2 → Nat :=
  let v436 : BitVec 32 := v435
  let v439 : Index := Scalar.indexCast v436
  let c0_126 : Index := 0#32
  ![v439.toNat, 0]
def k0_off74 (v435 : BitVec 32) : Fin 2 → Nat :=
  let v436 : BitVec 32 := v435
  let v445 : Index := Scalar.indexCast v436
  let c0_129 : Index := 0#32
  ![v445.toNat, 0]
def k0_off75 (v437 : BitVec 32) : Fin 2 → Nat :=
  let v438 : BitVec 32 := v437
  let v452 : Index := Scalar.indexCast v438
  let c0_131 : Index := 0#32
  ![v452.toNat, 0]
def k0_off76 (v435 : BitVec 32) : Fin 2 → Nat :=
  let v436 : BitVec 32 := v435
  let v456 : Index := Scalar.indexCast v436
  let c128_132 : Index := 128#32
  ![v456.toNat, 128]
def k0_off77 (v437 : BitVec 32) : Fin 2 → Nat :=
  let v438 : BitVec 32 := v437
  let v463 : Index := Scalar.indexCast v438
  let c128_134 : Index := 128#32
  ![v463.toNat, 128]
def k0_off78 (v435 : BitVec 32) : Fin 2 → Nat :=
  let v436 : BitVec 32 := v435
  let v467 : Index := Scalar.indexCast v436
  let c256_135 : Index := 256#32
  ![v467.toNat, 256]
def k0_off79 (v437 : BitVec 32) : Fin 2 → Nat :=
  let v438 : BitVec 32 := v437
  let v474 : Index := Scalar.indexCast v438
  let c256_137 : Index := 256#32
  ![v474.toNat, 256]
def k0_off80 (v435 : BitVec 32) : Fin 2 → Nat :=
  let v436 : BitVec 32 := v435
  let v478 : Index := Scalar.indexCast v436
  let c384_138 : Index := 384#32
  ![v478.toNat, 384]

def k0_chk17 (v435 : BitVec 32) : Prop :=
  (32 ∣ (k0_mult17 v435).toNat) ∧
  (∀ a, (k0_off73 v435) a + S32x128.size a ≤ S1536x128.size a) ∧
  (∀ a, (k0_off74 v435) a + S32x128.size a ≤ S1536x512.size a) ∧
  (∀ a, (k0_off76 v435) a + S32x128.size a ≤ S1536x512.size a) ∧
  (∀ a, (k0_off78 v435) a + S32x128.size a ≤ S1536x512.size a) ∧
  (∀ a, (k0_off80 v435) a + S32x128.size a ≤ S1536x512.size a)
theorem k0_mult17_dvd : ∀ (v435 : BitVec 32) (k0_hw17 : k0_chk17 v435), 32 ∣ (k0_mult17 v435).toNat := fun v435 k0_hw17 => k0_hw17.1
theorem k0_off73_inb : ∀ (v435 : BitVec 32) (k0_hw17 : k0_chk17 v435), ∀ a, (k0_off73 v435) a + S32x128.size a ≤ S1536x128.size a := fun v435 k0_hw17 => k0_hw17.2.1
theorem k0_off74_inb : ∀ (v435 : BitVec 32) (k0_hw17 : k0_chk17 v435), ∀ a, (k0_off74 v435) a + S32x128.size a ≤ S1536x512.size a := fun v435 k0_hw17 => k0_hw17.2.2.1
theorem k0_off76_inb : ∀ (v435 : BitVec 32) (k0_hw17 : k0_chk17 v435), ∀ a, (k0_off76 v435) a + S32x128.size a ≤ S1536x512.size a := fun v435 k0_hw17 => k0_hw17.2.2.2.1
theorem k0_off78_inb : ∀ (v435 : BitVec 32) (k0_hw17 : k0_chk17 v435), ∀ a, (k0_off78 v435) a + S32x128.size a ≤ S1536x512.size a := fun v435 k0_hw17 => k0_hw17.2.2.2.2.1
theorem k0_off80_inb : ∀ (v435 : BitVec 32) (k0_hw17 : k0_chk17 v435), ∀ a, (k0_off80 v435) a + S32x128.size a ≤ S1536x512.size a := fun v435 k0_hw17 => k0_hw17.2.2.2.2.2

def k0_off81 (v437 : BitVec 32) : Fin 2 → Nat :=
  let v438 : BitVec 32 := v437
  let v485 : Index := Scalar.indexCast v438
  let c384_140 : Index := 384#32
  ![v485.toNat, 384]

def k0_chk18 (v437 : BitVec 32) : Prop :=
  (16 ∣ (k0_mult18 v437).toNat) ∧
  (∀ a, (k0_off75 v437) a + S32x128.size a ≤ S1568x512.size a) ∧
  (∀ (hinb : ∀ a, (k0_off75 v437) a + S32x128.size a ≤ S1568x512.size a), (Rect.unit (s := S1568x512) (k0_off75 v437) S32x128.size hinb).PackedRows (EltTy.packing .bf16)) ∧
  (∀ a, (k0_off77 v437) a + S32x128.size a ≤ S1568x512.size a) ∧
  (∀ (hinb : ∀ a, (k0_off77 v437) a + S32x128.size a ≤ S1568x512.size a), (Rect.unit (s := S1568x512) (k0_off77 v437) S32x128.size hinb).PackedRows (EltTy.packing .bf16)) ∧
  (∀ a, (k0_off79 v437) a + S32x128.size a ≤ S1568x512.size a) ∧
  (∀ (hinb : ∀ a, (k0_off79 v437) a + S32x128.size a ≤ S1568x512.size a), (Rect.unit (s := S1568x512) (k0_off79 v437) S32x128.size hinb).PackedRows (EltTy.packing .bf16)) ∧
  (∀ a, (k0_off81 v437) a + S32x128.size a ≤ S1568x512.size a) ∧
  (∀ (hinb : ∀ a, (k0_off81 v437) a + S32x128.size a ≤ S1568x512.size a), (Rect.unit (s := S1568x512) (k0_off81 v437) S32x128.size hinb).PackedRows (EltTy.packing .bf16))
theorem k0_mult18_dvd : ∀ (v437 : BitVec 32) (k0_hw18 : k0_chk18 v437), 16 ∣ (k0_mult18 v437).toNat := fun v437 k0_hw18 => k0_hw18.1
theorem k0_off75_inb : ∀ (v437 : BitVec 32) (k0_hw18 : k0_chk18 v437), ∀ a, (k0_off75 v437) a + S32x128.size a ≤ S1568x512.size a := fun v437 k0_hw18 => k0_hw18.2.1
theorem k0_off75_packedbf16 : ∀ (v437 : BitVec 32) (k0_hw18 : k0_chk18 v437), (Rect.unit (s := S1568x512) (k0_off75 v437) S32x128.size (k0_off75_inb v437 k0_hw18)).PackedRows (EltTy.packing .bf16) := fun v437 k0_hw18 => k0_hw18.2.2.1 (k0_off75_inb v437 k0_hw18)
theorem k0_off77_inb : ∀ (v437 : BitVec 32) (k0_hw18 : k0_chk18 v437), ∀ a, (k0_off77 v437) a + S32x128.size a ≤ S1568x512.size a := fun v437 k0_hw18 => k0_hw18.2.2.2.1
theorem k0_off77_packedbf16 : ∀ (v437 : BitVec 32) (k0_hw18 : k0_chk18 v437), (Rect.unit (s := S1568x512) (k0_off77 v437) S32x128.size (k0_off77_inb v437 k0_hw18)).PackedRows (EltTy.packing .bf16) := fun v437 k0_hw18 => k0_hw18.2.2.2.2.1 (k0_off77_inb v437 k0_hw18)
theorem k0_off79_inb : ∀ (v437 : BitVec 32) (k0_hw18 : k0_chk18 v437), ∀ a, (k0_off79 v437) a + S32x128.size a ≤ S1568x512.size a := fun v437 k0_hw18 => k0_hw18.2.2.2.2.2.1
theorem k0_off79_packedbf16 : ∀ (v437 : BitVec 32) (k0_hw18 : k0_chk18 v437), (Rect.unit (s := S1568x512) (k0_off79 v437) S32x128.size (k0_off79_inb v437 k0_hw18)).PackedRows (EltTy.packing .bf16) := fun v437 k0_hw18 => k0_hw18.2.2.2.2.2.2.1 (k0_off79_inb v437 k0_hw18)
theorem k0_off81_inb : ∀ (v437 : BitVec 32) (k0_hw18 : k0_chk18 v437), ∀ a, (k0_off81 v437) a + S32x128.size a ≤ S1568x512.size a := fun v437 k0_hw18 => k0_hw18.2.2.2.2.2.2.2.1
theorem k0_off81_packedbf16 : ∀ (v437 : BitVec 32) (k0_hw18 : k0_chk18 v437), (Rect.unit (s := S1568x512) (k0_off81 v437) S32x128.size (k0_off81_inb v437 k0_hw18)).PackedRows (EltTy.packing .bf16) := fun v437 k0_hw18 => k0_hw18.2.2.2.2.2.2.2.2 (k0_off81_inb v437 k0_hw18)

def k0_mult19 (v489 : BitVec 32) : BitVec 32 :=
  v489

def k0_mult20 (v491 : BitVec 32) : BitVec 32 :=
  v491

def k0_off82 (v489 : BitVec 32) : Fin 2 → Nat :=
  let v490 : BitVec 32 := v489
  let v493 : Index := Scalar.indexCast v490
  let c0_142 : Index := 0#32
  ![v493.toNat, 0]
def k0_off83 (v489 : BitVec 32) : Fin 2 → Nat :=
  let v490 : BitVec 32 := v489
  let v499 : Index := Scalar.indexCast v490
  let c0_145 : Index := 0#32
  ![v499.toNat, 0]
def k0_off84 (v491 : BitVec 32) : Fin 2 → Nat :=
  let v492 : BitVec 32 := v491
  let v506 : Index := Scalar.indexCast v492
  let c0_147 : Index := 0#32
  ![v506.toNat, 0]
def k0_off85 (v489 : BitVec 32) : Fin 2 → Nat :=
  let v490 : BitVec 32 := v489
  let v510 : Index := Scalar.indexCast v490
  let c128_148 : Index := 128#32
  ![v510.toNat, 128]
def k0_off86 (v491 : BitVec 32) : Fin 2 → Nat :=
  let v492 : BitVec 32 := v491
  let v517 : Index := Scalar.indexCast v492
  let c128_150 : Index := 128#32
  ![v517.toNat, 128]
def k0_off87 (v489 : BitVec 32) : Fin 2 → Nat :=
  let v490 : BitVec 32 := v489
  let v521 : Index := Scalar.indexCast v490
  let c256_151 : Index := 256#32
  ![v521.toNat, 256]
def k0_off88 (v491 : BitVec 32) : Fin 2 → Nat :=
  let v492 : BitVec 32 := v491
  let v528 : Index := Scalar.indexCast v492
  let c256_153 : Index := 256#32
  ![v528.toNat, 256]
def k0_off89 (v489 : BitVec 32) : Fin 2 → Nat :=
  let v490 : BitVec 32 := v489
  let v532 : Index := Scalar.indexCast v490
  let c384_154 : Index := 384#32
  ![v532.toNat, 384]

def k0_chk19 (v489 : BitVec 32) : Prop :=
  (32 ∣ (k0_mult19 v489).toNat) ∧
  (∀ a, (k0_off82 v489) a + S32x128.size a ≤ S1536x128.size a) ∧
  (∀ a, (k0_off83 v489) a + S32x128.size a ≤ S1536x512.size a) ∧
  (∀ a, (k0_off85 v489) a + S32x128.size a ≤ S1536x512.size a) ∧
  (∀ a, (k0_off87 v489) a + S32x128.size a ≤ S1536x512.size a) ∧
  (∀ a, (k0_off89 v489) a + S32x128.size a ≤ S1536x512.size a)
theorem k0_mult19_dvd : ∀ (v489 : BitVec 32) (k0_hw19 : k0_chk19 v489), 32 ∣ (k0_mult19 v489).toNat := fun v489 k0_hw19 => k0_hw19.1
theorem k0_off82_inb : ∀ (v489 : BitVec 32) (k0_hw19 : k0_chk19 v489), ∀ a, (k0_off82 v489) a + S32x128.size a ≤ S1536x128.size a := fun v489 k0_hw19 => k0_hw19.2.1
theorem k0_off83_inb : ∀ (v489 : BitVec 32) (k0_hw19 : k0_chk19 v489), ∀ a, (k0_off83 v489) a + S32x128.size a ≤ S1536x512.size a := fun v489 k0_hw19 => k0_hw19.2.2.1
theorem k0_off85_inb : ∀ (v489 : BitVec 32) (k0_hw19 : k0_chk19 v489), ∀ a, (k0_off85 v489) a + S32x128.size a ≤ S1536x512.size a := fun v489 k0_hw19 => k0_hw19.2.2.2.1
theorem k0_off87_inb : ∀ (v489 : BitVec 32) (k0_hw19 : k0_chk19 v489), ∀ a, (k0_off87 v489) a + S32x128.size a ≤ S1536x512.size a := fun v489 k0_hw19 => k0_hw19.2.2.2.2.1
theorem k0_off89_inb : ∀ (v489 : BitVec 32) (k0_hw19 : k0_chk19 v489), ∀ a, (k0_off89 v489) a + S32x128.size a ≤ S1536x512.size a := fun v489 k0_hw19 => k0_hw19.2.2.2.2.2

def k0_off90 (v491 : BitVec 32) : Fin 2 → Nat :=
  let v492 : BitVec 32 := v491
  let v539 : Index := Scalar.indexCast v492
  let c384_156 : Index := 384#32
  ![v539.toNat, 384]

def k0_chk20 (v491 : BitVec 32) : Prop :=
  (16 ∣ (k0_mult20 v491).toNat) ∧
  (∀ a, (k0_off84 v491) a + S32x128.size a ≤ S1568x512.size a) ∧
  (∀ (hinb : ∀ a, (k0_off84 v491) a + S32x128.size a ≤ S1568x512.size a), (Rect.unit (s := S1568x512) (k0_off84 v491) S32x128.size hinb).PackedRows (EltTy.packing .bf16)) ∧
  (∀ a, (k0_off86 v491) a + S32x128.size a ≤ S1568x512.size a) ∧
  (∀ (hinb : ∀ a, (k0_off86 v491) a + S32x128.size a ≤ S1568x512.size a), (Rect.unit (s := S1568x512) (k0_off86 v491) S32x128.size hinb).PackedRows (EltTy.packing .bf16)) ∧
  (∀ a, (k0_off88 v491) a + S32x128.size a ≤ S1568x512.size a) ∧
  (∀ (hinb : ∀ a, (k0_off88 v491) a + S32x128.size a ≤ S1568x512.size a), (Rect.unit (s := S1568x512) (k0_off88 v491) S32x128.size hinb).PackedRows (EltTy.packing .bf16)) ∧
  (∀ a, (k0_off90 v491) a + S32x128.size a ≤ S1568x512.size a) ∧
  (∀ (hinb : ∀ a, (k0_off90 v491) a + S32x128.size a ≤ S1568x512.size a), (Rect.unit (s := S1568x512) (k0_off90 v491) S32x128.size hinb).PackedRows (EltTy.packing .bf16))
theorem k0_mult20_dvd : ∀ (v491 : BitVec 32) (k0_hw20 : k0_chk20 v491), 16 ∣ (k0_mult20 v491).toNat := fun v491 k0_hw20 => k0_hw20.1
theorem k0_off84_inb : ∀ (v491 : BitVec 32) (k0_hw20 : k0_chk20 v491), ∀ a, (k0_off84 v491) a + S32x128.size a ≤ S1568x512.size a := fun v491 k0_hw20 => k0_hw20.2.1
theorem k0_off84_packedbf16 : ∀ (v491 : BitVec 32) (k0_hw20 : k0_chk20 v491), (Rect.unit (s := S1568x512) (k0_off84 v491) S32x128.size (k0_off84_inb v491 k0_hw20)).PackedRows (EltTy.packing .bf16) := fun v491 k0_hw20 => k0_hw20.2.2.1 (k0_off84_inb v491 k0_hw20)
theorem k0_off86_inb : ∀ (v491 : BitVec 32) (k0_hw20 : k0_chk20 v491), ∀ a, (k0_off86 v491) a + S32x128.size a ≤ S1568x512.size a := fun v491 k0_hw20 => k0_hw20.2.2.2.1
theorem k0_off86_packedbf16 : ∀ (v491 : BitVec 32) (k0_hw20 : k0_chk20 v491), (Rect.unit (s := S1568x512) (k0_off86 v491) S32x128.size (k0_off86_inb v491 k0_hw20)).PackedRows (EltTy.packing .bf16) := fun v491 k0_hw20 => k0_hw20.2.2.2.2.1 (k0_off86_inb v491 k0_hw20)
theorem k0_off88_inb : ∀ (v491 : BitVec 32) (k0_hw20 : k0_chk20 v491), ∀ a, (k0_off88 v491) a + S32x128.size a ≤ S1568x512.size a := fun v491 k0_hw20 => k0_hw20.2.2.2.2.2.1
theorem k0_off88_packedbf16 : ∀ (v491 : BitVec 32) (k0_hw20 : k0_chk20 v491), (Rect.unit (s := S1568x512) (k0_off88 v491) S32x128.size (k0_off88_inb v491 k0_hw20)).PackedRows (EltTy.packing .bf16) := fun v491 k0_hw20 => k0_hw20.2.2.2.2.2.2.1 (k0_off88_inb v491 k0_hw20)
theorem k0_off90_inb : ∀ (v491 : BitVec 32) (k0_hw20 : k0_chk20 v491), ∀ a, (k0_off90 v491) a + S32x128.size a ≤ S1568x512.size a := fun v491 k0_hw20 => k0_hw20.2.2.2.2.2.2.2.1
theorem k0_off90_packedbf16 : ∀ (v491 : BitVec 32) (k0_hw20 : k0_chk20 v491), (Rect.unit (s := S1568x512) (k0_off90 v491) S32x128.size (k0_off90_inb v491 k0_hw20)).PackedRows (EltTy.packing .bf16) := fun v491 k0_hw20 => k0_hw20.2.2.2.2.2.2.2.2 (k0_off90_inb v491 k0_hw20)

def k0_mult21 (v543 : BitVec 32) : BitVec 32 :=
  v543

def k0_mult22 (v545 : BitVec 32) : BitVec 32 :=
  v545

def k0_off91 (v543 : BitVec 32) : Fin 2 → Nat :=
  let v544 : BitVec 32 := v543
  let v547 : Index := Scalar.indexCast v544
  let c0_158 : Index := 0#32
  ![v547.toNat, 0]
def k0_off92 (v543 : BitVec 32) : Fin 2 → Nat :=
  let v544 : BitVec 32 := v543
  let v553 : Index := Scalar.indexCast v544
  let c0_161 : Index := 0#32
  ![v553.toNat, 0]
def k0_off93 (v545 : BitVec 32) : Fin 2 → Nat :=
  let v546 : BitVec 32 := v545
  let v560 : Index := Scalar.indexCast v546
  let c0_163 : Index := 0#32
  ![v560.toNat, 0]
def k0_off94 (v543 : BitVec 32) : Fin 2 → Nat :=
  let v544 : BitVec 32 := v543
  let v564 : Index := Scalar.indexCast v544
  let c128_164 : Index := 128#32
  ![v564.toNat, 128]
def k0_off95 (v545 : BitVec 32) : Fin 2 → Nat :=
  let v546 : BitVec 32 := v545
  let v571 : Index := Scalar.indexCast v546
  let c128_166 : Index := 128#32
  ![v571.toNat, 128]
def k0_off96 (v543 : BitVec 32) : Fin 2 → Nat :=
  let v544 : BitVec 32 := v543
  let v575 : Index := Scalar.indexCast v544
  let c256_167 : Index := 256#32
  ![v575.toNat, 256]
def k0_off97 (v545 : BitVec 32) : Fin 2 → Nat :=
  let v546 : BitVec 32 := v545
  let v582 : Index := Scalar.indexCast v546
  let c256_169 : Index := 256#32
  ![v582.toNat, 256]
def k0_off98 (v543 : BitVec 32) : Fin 2 → Nat :=
  let v544 : BitVec 32 := v543
  let v586 : Index := Scalar.indexCast v544
  let c384_170 : Index := 384#32
  ![v586.toNat, 384]

def k0_chk21 (v543 : BitVec 32) : Prop :=
  (32 ∣ (k0_mult21 v543).toNat) ∧
  (∀ a, (k0_off91 v543) a + S32x128.size a ≤ S1536x128.size a) ∧
  (∀ a, (k0_off92 v543) a + S32x128.size a ≤ S1536x512.size a) ∧
  (∀ a, (k0_off94 v543) a + S32x128.size a ≤ S1536x512.size a) ∧
  (∀ a, (k0_off96 v543) a + S32x128.size a ≤ S1536x512.size a) ∧
  (∀ a, (k0_off98 v543) a + S32x128.size a ≤ S1536x512.size a)
theorem k0_mult21_dvd : ∀ (v543 : BitVec 32) (k0_hw21 : k0_chk21 v543), 32 ∣ (k0_mult21 v543).toNat := fun v543 k0_hw21 => k0_hw21.1
theorem k0_off91_inb : ∀ (v543 : BitVec 32) (k0_hw21 : k0_chk21 v543), ∀ a, (k0_off91 v543) a + S32x128.size a ≤ S1536x128.size a := fun v543 k0_hw21 => k0_hw21.2.1
theorem k0_off92_inb : ∀ (v543 : BitVec 32) (k0_hw21 : k0_chk21 v543), ∀ a, (k0_off92 v543) a + S32x128.size a ≤ S1536x512.size a := fun v543 k0_hw21 => k0_hw21.2.2.1
theorem k0_off94_inb : ∀ (v543 : BitVec 32) (k0_hw21 : k0_chk21 v543), ∀ a, (k0_off94 v543) a + S32x128.size a ≤ S1536x512.size a := fun v543 k0_hw21 => k0_hw21.2.2.2.1
theorem k0_off96_inb : ∀ (v543 : BitVec 32) (k0_hw21 : k0_chk21 v543), ∀ a, (k0_off96 v543) a + S32x128.size a ≤ S1536x512.size a := fun v543 k0_hw21 => k0_hw21.2.2.2.2.1
theorem k0_off98_inb : ∀ (v543 : BitVec 32) (k0_hw21 : k0_chk21 v543), ∀ a, (k0_off98 v543) a + S32x128.size a ≤ S1536x512.size a := fun v543 k0_hw21 => k0_hw21.2.2.2.2.2

def k0_off99 (v545 : BitVec 32) : Fin 2 → Nat :=
  let v546 : BitVec 32 := v545
  let v593 : Index := Scalar.indexCast v546
  let c384_172 : Index := 384#32
  ![v593.toNat, 384]

def k0_chk22 (v545 : BitVec 32) : Prop :=
  (16 ∣ (k0_mult22 v545).toNat) ∧
  (∀ a, (k0_off93 v545) a + S32x128.size a ≤ S1568x512.size a) ∧
  (∀ (hinb : ∀ a, (k0_off93 v545) a + S32x128.size a ≤ S1568x512.size a), (Rect.unit (s := S1568x512) (k0_off93 v545) S32x128.size hinb).PackedRows (EltTy.packing .bf16)) ∧
  (∀ a, (k0_off95 v545) a + S32x128.size a ≤ S1568x512.size a) ∧
  (∀ (hinb : ∀ a, (k0_off95 v545) a + S32x128.size a ≤ S1568x512.size a), (Rect.unit (s := S1568x512) (k0_off95 v545) S32x128.size hinb).PackedRows (EltTy.packing .bf16)) ∧
  (∀ a, (k0_off97 v545) a + S32x128.size a ≤ S1568x512.size a) ∧
  (∀ (hinb : ∀ a, (k0_off97 v545) a + S32x128.size a ≤ S1568x512.size a), (Rect.unit (s := S1568x512) (k0_off97 v545) S32x128.size hinb).PackedRows (EltTy.packing .bf16)) ∧
  (∀ a, (k0_off99 v545) a + S32x128.size a ≤ S1568x512.size a) ∧
  (∀ (hinb : ∀ a, (k0_off99 v545) a + S32x128.size a ≤ S1568x512.size a), (Rect.unit (s := S1568x512) (k0_off99 v545) S32x128.size hinb).PackedRows (EltTy.packing .bf16))
theorem k0_mult22_dvd : ∀ (v545 : BitVec 32) (k0_hw22 : k0_chk22 v545), 16 ∣ (k0_mult22 v545).toNat := fun v545 k0_hw22 => k0_hw22.1
theorem k0_off93_inb : ∀ (v545 : BitVec 32) (k0_hw22 : k0_chk22 v545), ∀ a, (k0_off93 v545) a + S32x128.size a ≤ S1568x512.size a := fun v545 k0_hw22 => k0_hw22.2.1
theorem k0_off93_packedbf16 : ∀ (v545 : BitVec 32) (k0_hw22 : k0_chk22 v545), (Rect.unit (s := S1568x512) (k0_off93 v545) S32x128.size (k0_off93_inb v545 k0_hw22)).PackedRows (EltTy.packing .bf16) := fun v545 k0_hw22 => k0_hw22.2.2.1 (k0_off93_inb v545 k0_hw22)
theorem k0_off95_inb : ∀ (v545 : BitVec 32) (k0_hw22 : k0_chk22 v545), ∀ a, (k0_off95 v545) a + S32x128.size a ≤ S1568x512.size a := fun v545 k0_hw22 => k0_hw22.2.2.2.1
theorem k0_off95_packedbf16 : ∀ (v545 : BitVec 32) (k0_hw22 : k0_chk22 v545), (Rect.unit (s := S1568x512) (k0_off95 v545) S32x128.size (k0_off95_inb v545 k0_hw22)).PackedRows (EltTy.packing .bf16) := fun v545 k0_hw22 => k0_hw22.2.2.2.2.1 (k0_off95_inb v545 k0_hw22)
theorem k0_off97_inb : ∀ (v545 : BitVec 32) (k0_hw22 : k0_chk22 v545), ∀ a, (k0_off97 v545) a + S32x128.size a ≤ S1568x512.size a := fun v545 k0_hw22 => k0_hw22.2.2.2.2.2.1
theorem k0_off97_packedbf16 : ∀ (v545 : BitVec 32) (k0_hw22 : k0_chk22 v545), (Rect.unit (s := S1568x512) (k0_off97 v545) S32x128.size (k0_off97_inb v545 k0_hw22)).PackedRows (EltTy.packing .bf16) := fun v545 k0_hw22 => k0_hw22.2.2.2.2.2.2.1 (k0_off97_inb v545 k0_hw22)
theorem k0_off99_inb : ∀ (v545 : BitVec 32) (k0_hw22 : k0_chk22 v545), ∀ a, (k0_off99 v545) a + S32x128.size a ≤ S1568x512.size a := fun v545 k0_hw22 => k0_hw22.2.2.2.2.2.2.2.1
theorem k0_off99_packedbf16 : ∀ (v545 : BitVec 32) (k0_hw22 : k0_chk22 v545), (Rect.unit (s := S1568x512) (k0_off99 v545) S32x128.size (k0_off99_inb v545 k0_hw22)).PackedRows (EltTy.packing .bf16) := fun v545 k0_hw22 => k0_hw22.2.2.2.2.2.2.2.2 (k0_off99_inb v545 k0_hw22)

def k0_mult23 (v597 : BitVec 32) : BitVec 32 :=
  v597

def k0_mult24 (v599 : BitVec 32) : BitVec 32 :=
  v599

def k0_off100 (v597 : BitVec 32) : Fin 2 → Nat :=
  let v598 : BitVec 32 := v597
  let v601 : Index := Scalar.indexCast v598
  let c0_174 : Index := 0#32
  ![v601.toNat, 0]
def k0_off101 (v597 : BitVec 32) : Fin 2 → Nat :=
  let v598 : BitVec 32 := v597
  let v607 : Index := Scalar.indexCast v598
  let c0_177 : Index := 0#32
  ![v607.toNat, 0]
def k0_off102 (v599 : BitVec 32) : Fin 2 → Nat :=
  let v600 : BitVec 32 := v599
  let v614 : Index := Scalar.indexCast v600
  let c0_179 : Index := 0#32
  ![v614.toNat, 0]
def k0_off103 (v597 : BitVec 32) : Fin 2 → Nat :=
  let v598 : BitVec 32 := v597
  let v618 : Index := Scalar.indexCast v598
  let c128_180 : Index := 128#32
  ![v618.toNat, 128]
def k0_off104 (v599 : BitVec 32) : Fin 2 → Nat :=
  let v600 : BitVec 32 := v599
  let v625 : Index := Scalar.indexCast v600
  let c128_182 : Index := 128#32
  ![v625.toNat, 128]
def k0_off105 (v597 : BitVec 32) : Fin 2 → Nat :=
  let v598 : BitVec 32 := v597
  let v629 : Index := Scalar.indexCast v598
  let c256_183 : Index := 256#32
  ![v629.toNat, 256]
def k0_off106 (v599 : BitVec 32) : Fin 2 → Nat :=
  let v600 : BitVec 32 := v599
  let v636 : Index := Scalar.indexCast v600
  let c256_185 : Index := 256#32
  ![v636.toNat, 256]
def k0_off107 (v597 : BitVec 32) : Fin 2 → Nat :=
  let v598 : BitVec 32 := v597
  let v640 : Index := Scalar.indexCast v598
  let c384_186 : Index := 384#32
  ![v640.toNat, 384]

def k0_chk23 (v597 : BitVec 32) : Prop :=
  (32 ∣ (k0_mult23 v597).toNat) ∧
  (∀ a, (k0_off100 v597) a + S32x128.size a ≤ S1536x128.size a) ∧
  (∀ a, (k0_off101 v597) a + S32x128.size a ≤ S1536x512.size a) ∧
  (∀ a, (k0_off103 v597) a + S32x128.size a ≤ S1536x512.size a) ∧
  (∀ a, (k0_off105 v597) a + S32x128.size a ≤ S1536x512.size a) ∧
  (∀ a, (k0_off107 v597) a + S32x128.size a ≤ S1536x512.size a)
theorem k0_mult23_dvd : ∀ (v597 : BitVec 32) (k0_hw23 : k0_chk23 v597), 32 ∣ (k0_mult23 v597).toNat := fun v597 k0_hw23 => k0_hw23.1
theorem k0_off100_inb : ∀ (v597 : BitVec 32) (k0_hw23 : k0_chk23 v597), ∀ a, (k0_off100 v597) a + S32x128.size a ≤ S1536x128.size a := fun v597 k0_hw23 => k0_hw23.2.1
theorem k0_off101_inb : ∀ (v597 : BitVec 32) (k0_hw23 : k0_chk23 v597), ∀ a, (k0_off101 v597) a + S32x128.size a ≤ S1536x512.size a := fun v597 k0_hw23 => k0_hw23.2.2.1
theorem k0_off103_inb : ∀ (v597 : BitVec 32) (k0_hw23 : k0_chk23 v597), ∀ a, (k0_off103 v597) a + S32x128.size a ≤ S1536x512.size a := fun v597 k0_hw23 => k0_hw23.2.2.2.1
theorem k0_off105_inb : ∀ (v597 : BitVec 32) (k0_hw23 : k0_chk23 v597), ∀ a, (k0_off105 v597) a + S32x128.size a ≤ S1536x512.size a := fun v597 k0_hw23 => k0_hw23.2.2.2.2.1
theorem k0_off107_inb : ∀ (v597 : BitVec 32) (k0_hw23 : k0_chk23 v597), ∀ a, (k0_off107 v597) a + S32x128.size a ≤ S1536x512.size a := fun v597 k0_hw23 => k0_hw23.2.2.2.2.2

def k0_off108 (v599 : BitVec 32) : Fin 2 → Nat :=
  let v600 : BitVec 32 := v599
  let v647 : Index := Scalar.indexCast v600
  let c384_188 : Index := 384#32
  ![v647.toNat, 384]

def k0_chk24 (v599 : BitVec 32) : Prop :=
  (16 ∣ (k0_mult24 v599).toNat) ∧
  (∀ a, (k0_off102 v599) a + S32x128.size a ≤ S1568x512.size a) ∧
  (∀ (hinb : ∀ a, (k0_off102 v599) a + S32x128.size a ≤ S1568x512.size a), (Rect.unit (s := S1568x512) (k0_off102 v599) S32x128.size hinb).PackedRows (EltTy.packing .bf16)) ∧
  (∀ a, (k0_off104 v599) a + S32x128.size a ≤ S1568x512.size a) ∧
  (∀ (hinb : ∀ a, (k0_off104 v599) a + S32x128.size a ≤ S1568x512.size a), (Rect.unit (s := S1568x512) (k0_off104 v599) S32x128.size hinb).PackedRows (EltTy.packing .bf16)) ∧
  (∀ a, (k0_off106 v599) a + S32x128.size a ≤ S1568x512.size a) ∧
  (∀ (hinb : ∀ a, (k0_off106 v599) a + S32x128.size a ≤ S1568x512.size a), (Rect.unit (s := S1568x512) (k0_off106 v599) S32x128.size hinb).PackedRows (EltTy.packing .bf16)) ∧
  (∀ a, (k0_off108 v599) a + S32x128.size a ≤ S1568x512.size a) ∧
  (∀ (hinb : ∀ a, (k0_off108 v599) a + S32x128.size a ≤ S1568x512.size a), (Rect.unit (s := S1568x512) (k0_off108 v599) S32x128.size hinb).PackedRows (EltTy.packing .bf16))
theorem k0_mult24_dvd : ∀ (v599 : BitVec 32) (k0_hw24 : k0_chk24 v599), 16 ∣ (k0_mult24 v599).toNat := fun v599 k0_hw24 => k0_hw24.1
theorem k0_off102_inb : ∀ (v599 : BitVec 32) (k0_hw24 : k0_chk24 v599), ∀ a, (k0_off102 v599) a + S32x128.size a ≤ S1568x512.size a := fun v599 k0_hw24 => k0_hw24.2.1
theorem k0_off102_packedbf16 : ∀ (v599 : BitVec 32) (k0_hw24 : k0_chk24 v599), (Rect.unit (s := S1568x512) (k0_off102 v599) S32x128.size (k0_off102_inb v599 k0_hw24)).PackedRows (EltTy.packing .bf16) := fun v599 k0_hw24 => k0_hw24.2.2.1 (k0_off102_inb v599 k0_hw24)
theorem k0_off104_inb : ∀ (v599 : BitVec 32) (k0_hw24 : k0_chk24 v599), ∀ a, (k0_off104 v599) a + S32x128.size a ≤ S1568x512.size a := fun v599 k0_hw24 => k0_hw24.2.2.2.1
theorem k0_off104_packedbf16 : ∀ (v599 : BitVec 32) (k0_hw24 : k0_chk24 v599), (Rect.unit (s := S1568x512) (k0_off104 v599) S32x128.size (k0_off104_inb v599 k0_hw24)).PackedRows (EltTy.packing .bf16) := fun v599 k0_hw24 => k0_hw24.2.2.2.2.1 (k0_off104_inb v599 k0_hw24)
theorem k0_off106_inb : ∀ (v599 : BitVec 32) (k0_hw24 : k0_chk24 v599), ∀ a, (k0_off106 v599) a + S32x128.size a ≤ S1568x512.size a := fun v599 k0_hw24 => k0_hw24.2.2.2.2.2.1
theorem k0_off106_packedbf16 : ∀ (v599 : BitVec 32) (k0_hw24 : k0_chk24 v599), (Rect.unit (s := S1568x512) (k0_off106 v599) S32x128.size (k0_off106_inb v599 k0_hw24)).PackedRows (EltTy.packing .bf16) := fun v599 k0_hw24 => k0_hw24.2.2.2.2.2.2.1 (k0_off106_inb v599 k0_hw24)
theorem k0_off108_inb : ∀ (v599 : BitVec 32) (k0_hw24 : k0_chk24 v599), ∀ a, (k0_off108 v599) a + S32x128.size a ≤ S1568x512.size a := fun v599 k0_hw24 => k0_hw24.2.2.2.2.2.2.2.1
theorem k0_off108_packedbf16 : ∀ (v599 : BitVec 32) (k0_hw24 : k0_chk24 v599), (Rect.unit (s := S1568x512) (k0_off108 v599) S32x128.size (k0_off108_inb v599 k0_hw24)).PackedRows (EltTy.packing .bf16) := fun v599 k0_hw24 => k0_hw24.2.2.2.2.2.2.2.2 (k0_off108_inb v599 k0_hw24)

def k0_mult25 (v651 : BitVec 32) : BitVec 32 :=
  v651

def k0_mult26 (v653 : BitVec 32) : BitVec 32 :=
  v653

def k0_off109 (v651 : BitVec 32) : Fin 2 → Nat :=
  let v652 : BitVec 32 := v651
  let v655 : Index := Scalar.indexCast v652
  let c0_190 : Index := 0#32
  ![v655.toNat, 0]
def k0_off110 (v651 : BitVec 32) : Fin 2 → Nat :=
  let v652 : BitVec 32 := v651
  let v661 : Index := Scalar.indexCast v652
  let c0_193 : Index := 0#32
  ![v661.toNat, 0]
def k0_off111 (v653 : BitVec 32) : Fin 2 → Nat :=
  let v654 : BitVec 32 := v653
  let v668 : Index := Scalar.indexCast v654
  let c0_195 : Index := 0#32
  ![v668.toNat, 0]
def k0_off112 (v651 : BitVec 32) : Fin 2 → Nat :=
  let v652 : BitVec 32 := v651
  let v672 : Index := Scalar.indexCast v652
  let c128_196 : Index := 128#32
  ![v672.toNat, 128]
def k0_off113 (v653 : BitVec 32) : Fin 2 → Nat :=
  let v654 : BitVec 32 := v653
  let v679 : Index := Scalar.indexCast v654
  let c128_198 : Index := 128#32
  ![v679.toNat, 128]
def k0_off114 (v651 : BitVec 32) : Fin 2 → Nat :=
  let v652 : BitVec 32 := v651
  let v683 : Index := Scalar.indexCast v652
  let c256_199 : Index := 256#32
  ![v683.toNat, 256]
def k0_off115 (v653 : BitVec 32) : Fin 2 → Nat :=
  let v654 : BitVec 32 := v653
  let v690 : Index := Scalar.indexCast v654
  let c256_201 : Index := 256#32
  ![v690.toNat, 256]
def k0_off116 (v651 : BitVec 32) : Fin 2 → Nat :=
  let v652 : BitVec 32 := v651
  let v694 : Index := Scalar.indexCast v652
  let c384_202 : Index := 384#32
  ![v694.toNat, 384]

def k0_chk25 (v651 : BitVec 32) : Prop :=
  (32 ∣ (k0_mult25 v651).toNat) ∧
  (∀ a, (k0_off109 v651) a + S32x128.size a ≤ S1536x128.size a) ∧
  (∀ a, (k0_off110 v651) a + S32x128.size a ≤ S1536x512.size a) ∧
  (∀ a, (k0_off112 v651) a + S32x128.size a ≤ S1536x512.size a) ∧
  (∀ a, (k0_off114 v651) a + S32x128.size a ≤ S1536x512.size a) ∧
  (∀ a, (k0_off116 v651) a + S32x128.size a ≤ S1536x512.size a)
theorem k0_mult25_dvd : ∀ (v651 : BitVec 32) (k0_hw25 : k0_chk25 v651), 32 ∣ (k0_mult25 v651).toNat := fun v651 k0_hw25 => k0_hw25.1
theorem k0_off109_inb : ∀ (v651 : BitVec 32) (k0_hw25 : k0_chk25 v651), ∀ a, (k0_off109 v651) a + S32x128.size a ≤ S1536x128.size a := fun v651 k0_hw25 => k0_hw25.2.1
theorem k0_off110_inb : ∀ (v651 : BitVec 32) (k0_hw25 : k0_chk25 v651), ∀ a, (k0_off110 v651) a + S32x128.size a ≤ S1536x512.size a := fun v651 k0_hw25 => k0_hw25.2.2.1
theorem k0_off112_inb : ∀ (v651 : BitVec 32) (k0_hw25 : k0_chk25 v651), ∀ a, (k0_off112 v651) a + S32x128.size a ≤ S1536x512.size a := fun v651 k0_hw25 => k0_hw25.2.2.2.1
theorem k0_off114_inb : ∀ (v651 : BitVec 32) (k0_hw25 : k0_chk25 v651), ∀ a, (k0_off114 v651) a + S32x128.size a ≤ S1536x512.size a := fun v651 k0_hw25 => k0_hw25.2.2.2.2.1
theorem k0_off116_inb : ∀ (v651 : BitVec 32) (k0_hw25 : k0_chk25 v651), ∀ a, (k0_off116 v651) a + S32x128.size a ≤ S1536x512.size a := fun v651 k0_hw25 => k0_hw25.2.2.2.2.2

def k0_off117 (v653 : BitVec 32) : Fin 2 → Nat :=
  let v654 : BitVec 32 := v653
  let v701 : Index := Scalar.indexCast v654
  let c384_204 : Index := 384#32
  ![v701.toNat, 384]

def k0_chk26 (v653 : BitVec 32) : Prop :=
  (16 ∣ (k0_mult26 v653).toNat) ∧
  (∀ a, (k0_off111 v653) a + S32x128.size a ≤ S1568x512.size a) ∧
  (∀ (hinb : ∀ a, (k0_off111 v653) a + S32x128.size a ≤ S1568x512.size a), (Rect.unit (s := S1568x512) (k0_off111 v653) S32x128.size hinb).PackedRows (EltTy.packing .bf16)) ∧
  (∀ a, (k0_off113 v653) a + S32x128.size a ≤ S1568x512.size a) ∧
  (∀ (hinb : ∀ a, (k0_off113 v653) a + S32x128.size a ≤ S1568x512.size a), (Rect.unit (s := S1568x512) (k0_off113 v653) S32x128.size hinb).PackedRows (EltTy.packing .bf16)) ∧
  (∀ a, (k0_off115 v653) a + S32x128.size a ≤ S1568x512.size a) ∧
  (∀ (hinb : ∀ a, (k0_off115 v653) a + S32x128.size a ≤ S1568x512.size a), (Rect.unit (s := S1568x512) (k0_off115 v653) S32x128.size hinb).PackedRows (EltTy.packing .bf16)) ∧
  (∀ a, (k0_off117 v653) a + S32x128.size a ≤ S1568x512.size a) ∧
  (∀ (hinb : ∀ a, (k0_off117 v653) a + S32x128.size a ≤ S1568x512.size a), (Rect.unit (s := S1568x512) (k0_off117 v653) S32x128.size hinb).PackedRows (EltTy.packing .bf16))
theorem k0_mult26_dvd : ∀ (v653 : BitVec 32) (k0_hw26 : k0_chk26 v653), 16 ∣ (k0_mult26 v653).toNat := fun v653 k0_hw26 => k0_hw26.1
theorem k0_off111_inb : ∀ (v653 : BitVec 32) (k0_hw26 : k0_chk26 v653), ∀ a, (k0_off111 v653) a + S32x128.size a ≤ S1568x512.size a := fun v653 k0_hw26 => k0_hw26.2.1
theorem k0_off111_packedbf16 : ∀ (v653 : BitVec 32) (k0_hw26 : k0_chk26 v653), (Rect.unit (s := S1568x512) (k0_off111 v653) S32x128.size (k0_off111_inb v653 k0_hw26)).PackedRows (EltTy.packing .bf16) := fun v653 k0_hw26 => k0_hw26.2.2.1 (k0_off111_inb v653 k0_hw26)
theorem k0_off113_inb : ∀ (v653 : BitVec 32) (k0_hw26 : k0_chk26 v653), ∀ a, (k0_off113 v653) a + S32x128.size a ≤ S1568x512.size a := fun v653 k0_hw26 => k0_hw26.2.2.2.1
theorem k0_off113_packedbf16 : ∀ (v653 : BitVec 32) (k0_hw26 : k0_chk26 v653), (Rect.unit (s := S1568x512) (k0_off113 v653) S32x128.size (k0_off113_inb v653 k0_hw26)).PackedRows (EltTy.packing .bf16) := fun v653 k0_hw26 => k0_hw26.2.2.2.2.1 (k0_off113_inb v653 k0_hw26)
theorem k0_off115_inb : ∀ (v653 : BitVec 32) (k0_hw26 : k0_chk26 v653), ∀ a, (k0_off115 v653) a + S32x128.size a ≤ S1568x512.size a := fun v653 k0_hw26 => k0_hw26.2.2.2.2.2.1
theorem k0_off115_packedbf16 : ∀ (v653 : BitVec 32) (k0_hw26 : k0_chk26 v653), (Rect.unit (s := S1568x512) (k0_off115 v653) S32x128.size (k0_off115_inb v653 k0_hw26)).PackedRows (EltTy.packing .bf16) := fun v653 k0_hw26 => k0_hw26.2.2.2.2.2.2.1 (k0_off115_inb v653 k0_hw26)
theorem k0_off117_inb : ∀ (v653 : BitVec 32) (k0_hw26 : k0_chk26 v653), ∀ a, (k0_off117 v653) a + S32x128.size a ≤ S1568x512.size a := fun v653 k0_hw26 => k0_hw26.2.2.2.2.2.2.2.1
theorem k0_off117_packedbf16 : ∀ (v653 : BitVec 32) (k0_hw26 : k0_chk26 v653), (Rect.unit (s := S1568x512) (k0_off117 v653) S32x128.size (k0_off117_inb v653 k0_hw26)).PackedRows (EltTy.packing .bf16) := fun v653 k0_hw26 => k0_hw26.2.2.2.2.2.2.2.2 (k0_off117_inb v653 k0_hw26)

def k0_mult27 (v705 : BitVec 32) : BitVec 32 :=
  v705

def k0_mult28 (v707 : BitVec 32) : BitVec 32 :=
  v707

def k0_off118 (v705 : BitVec 32) : Fin 2 → Nat :=
  let v706 : BitVec 32 := v705
  let v709 : Index := Scalar.indexCast v706
  let c0_206 : Index := 0#32
  ![v709.toNat, 0]
def k0_off119 (v705 : BitVec 32) : Fin 2 → Nat :=
  let v706 : BitVec 32 := v705
  let v715 : Index := Scalar.indexCast v706
  let c0_209 : Index := 0#32
  ![v715.toNat, 0]
def k0_off120 (v707 : BitVec 32) : Fin 2 → Nat :=
  let v708 : BitVec 32 := v707
  let v722 : Index := Scalar.indexCast v708
  let c0_211 : Index := 0#32
  ![v722.toNat, 0]
def k0_off121 (v705 : BitVec 32) : Fin 2 → Nat :=
  let v706 : BitVec 32 := v705
  let v726 : Index := Scalar.indexCast v706
  let c128_212 : Index := 128#32
  ![v726.toNat, 128]
def k0_off122 (v707 : BitVec 32) : Fin 2 → Nat :=
  let v708 : BitVec 32 := v707
  let v733 : Index := Scalar.indexCast v708
  let c128_214 : Index := 128#32
  ![v733.toNat, 128]
def k0_off123 (v705 : BitVec 32) : Fin 2 → Nat :=
  let v706 : BitVec 32 := v705
  let v737 : Index := Scalar.indexCast v706
  let c256_215 : Index := 256#32
  ![v737.toNat, 256]
def k0_off124 (v707 : BitVec 32) : Fin 2 → Nat :=
  let v708 : BitVec 32 := v707
  let v744 : Index := Scalar.indexCast v708
  let c256_217 : Index := 256#32
  ![v744.toNat, 256]
def k0_off125 (v705 : BitVec 32) : Fin 2 → Nat :=
  let v706 : BitVec 32 := v705
  let v748 : Index := Scalar.indexCast v706
  let c384_218 : Index := 384#32
  ![v748.toNat, 384]

def k0_chk27 (v705 : BitVec 32) : Prop :=
  (32 ∣ (k0_mult27 v705).toNat) ∧
  (∀ a, (k0_off118 v705) a + S32x128.size a ≤ S1536x128.size a) ∧
  (∀ a, (k0_off119 v705) a + S32x128.size a ≤ S1536x512.size a) ∧
  (∀ a, (k0_off121 v705) a + S32x128.size a ≤ S1536x512.size a) ∧
  (∀ a, (k0_off123 v705) a + S32x128.size a ≤ S1536x512.size a) ∧
  (∀ a, (k0_off125 v705) a + S32x128.size a ≤ S1536x512.size a)
theorem k0_mult27_dvd : ∀ (v705 : BitVec 32) (k0_hw27 : k0_chk27 v705), 32 ∣ (k0_mult27 v705).toNat := fun v705 k0_hw27 => k0_hw27.1
theorem k0_off118_inb : ∀ (v705 : BitVec 32) (k0_hw27 : k0_chk27 v705), ∀ a, (k0_off118 v705) a + S32x128.size a ≤ S1536x128.size a := fun v705 k0_hw27 => k0_hw27.2.1
theorem k0_off119_inb : ∀ (v705 : BitVec 32) (k0_hw27 : k0_chk27 v705), ∀ a, (k0_off119 v705) a + S32x128.size a ≤ S1536x512.size a := fun v705 k0_hw27 => k0_hw27.2.2.1
theorem k0_off121_inb : ∀ (v705 : BitVec 32) (k0_hw27 : k0_chk27 v705), ∀ a, (k0_off121 v705) a + S32x128.size a ≤ S1536x512.size a := fun v705 k0_hw27 => k0_hw27.2.2.2.1
theorem k0_off123_inb : ∀ (v705 : BitVec 32) (k0_hw27 : k0_chk27 v705), ∀ a, (k0_off123 v705) a + S32x128.size a ≤ S1536x512.size a := fun v705 k0_hw27 => k0_hw27.2.2.2.2.1
theorem k0_off125_inb : ∀ (v705 : BitVec 32) (k0_hw27 : k0_chk27 v705), ∀ a, (k0_off125 v705) a + S32x128.size a ≤ S1536x512.size a := fun v705 k0_hw27 => k0_hw27.2.2.2.2.2

def k0_off126 (v707 : BitVec 32) : Fin 2 → Nat :=
  let v708 : BitVec 32 := v707
  let v755 : Index := Scalar.indexCast v708
  let c384_220 : Index := 384#32
  ![v755.toNat, 384]

def k0_chk28 (v707 : BitVec 32) : Prop :=
  (16 ∣ (k0_mult28 v707).toNat) ∧
  (∀ a, (k0_off120 v707) a + S32x128.size a ≤ S1568x512.size a) ∧
  (∀ (hinb : ∀ a, (k0_off120 v707) a + S32x128.size a ≤ S1568x512.size a), (Rect.unit (s := S1568x512) (k0_off120 v707) S32x128.size hinb).PackedRows (EltTy.packing .bf16)) ∧
  (∀ a, (k0_off122 v707) a + S32x128.size a ≤ S1568x512.size a) ∧
  (∀ (hinb : ∀ a, (k0_off122 v707) a + S32x128.size a ≤ S1568x512.size a), (Rect.unit (s := S1568x512) (k0_off122 v707) S32x128.size hinb).PackedRows (EltTy.packing .bf16)) ∧
  (∀ a, (k0_off124 v707) a + S32x128.size a ≤ S1568x512.size a) ∧
  (∀ (hinb : ∀ a, (k0_off124 v707) a + S32x128.size a ≤ S1568x512.size a), (Rect.unit (s := S1568x512) (k0_off124 v707) S32x128.size hinb).PackedRows (EltTy.packing .bf16)) ∧
  (∀ a, (k0_off126 v707) a + S32x128.size a ≤ S1568x512.size a) ∧
  (∀ (hinb : ∀ a, (k0_off126 v707) a + S32x128.size a ≤ S1568x512.size a), (Rect.unit (s := S1568x512) (k0_off126 v707) S32x128.size hinb).PackedRows (EltTy.packing .bf16))
theorem k0_mult28_dvd : ∀ (v707 : BitVec 32) (k0_hw28 : k0_chk28 v707), 16 ∣ (k0_mult28 v707).toNat := fun v707 k0_hw28 => k0_hw28.1
theorem k0_off120_inb : ∀ (v707 : BitVec 32) (k0_hw28 : k0_chk28 v707), ∀ a, (k0_off120 v707) a + S32x128.size a ≤ S1568x512.size a := fun v707 k0_hw28 => k0_hw28.2.1
theorem k0_off120_packedbf16 : ∀ (v707 : BitVec 32) (k0_hw28 : k0_chk28 v707), (Rect.unit (s := S1568x512) (k0_off120 v707) S32x128.size (k0_off120_inb v707 k0_hw28)).PackedRows (EltTy.packing .bf16) := fun v707 k0_hw28 => k0_hw28.2.2.1 (k0_off120_inb v707 k0_hw28)
theorem k0_off122_inb : ∀ (v707 : BitVec 32) (k0_hw28 : k0_chk28 v707), ∀ a, (k0_off122 v707) a + S32x128.size a ≤ S1568x512.size a := fun v707 k0_hw28 => k0_hw28.2.2.2.1
theorem k0_off122_packedbf16 : ∀ (v707 : BitVec 32) (k0_hw28 : k0_chk28 v707), (Rect.unit (s := S1568x512) (k0_off122 v707) S32x128.size (k0_off122_inb v707 k0_hw28)).PackedRows (EltTy.packing .bf16) := fun v707 k0_hw28 => k0_hw28.2.2.2.2.1 (k0_off122_inb v707 k0_hw28)
theorem k0_off124_inb : ∀ (v707 : BitVec 32) (k0_hw28 : k0_chk28 v707), ∀ a, (k0_off124 v707) a + S32x128.size a ≤ S1568x512.size a := fun v707 k0_hw28 => k0_hw28.2.2.2.2.2.1
theorem k0_off124_packedbf16 : ∀ (v707 : BitVec 32) (k0_hw28 : k0_chk28 v707), (Rect.unit (s := S1568x512) (k0_off124 v707) S32x128.size (k0_off124_inb v707 k0_hw28)).PackedRows (EltTy.packing .bf16) := fun v707 k0_hw28 => k0_hw28.2.2.2.2.2.2.1 (k0_off124_inb v707 k0_hw28)
theorem k0_off126_inb : ∀ (v707 : BitVec 32) (k0_hw28 : k0_chk28 v707), ∀ a, (k0_off126 v707) a + S32x128.size a ≤ S1568x512.size a := fun v707 k0_hw28 => k0_hw28.2.2.2.2.2.2.2.1
theorem k0_off126_packedbf16 : ∀ (v707 : BitVec 32) (k0_hw28 : k0_chk28 v707), (Rect.unit (s := S1568x512) (k0_off126 v707) S32x128.size (k0_off126_inb v707 k0_hw28)).PackedRows (EltTy.packing .bf16) := fun v707 k0_hw28 => k0_hw28.2.2.2.2.2.2.2.2 (k0_off126_inb v707 k0_hw28)

def k0_mult29 (v759 : BitVec 32) : BitVec 32 :=
  v759

def k0_mult30 (v761 : BitVec 32) : BitVec 32 :=
  v761

def k0_off127 (v759 : BitVec 32) : Fin 2 → Nat :=
  let v760 : BitVec 32 := v759
  let v763 : Index := Scalar.indexCast v760
  let c0_222 : Index := 0#32
  ![v763.toNat, 0]
def k0_off128 (v759 : BitVec 32) : Fin 2 → Nat :=
  let v760 : BitVec 32 := v759
  let v769 : Index := Scalar.indexCast v760
  let c0_225 : Index := 0#32
  ![v769.toNat, 0]
def k0_off129 (v761 : BitVec 32) : Fin 2 → Nat :=
  let v762 : BitVec 32 := v761
  let v776 : Index := Scalar.indexCast v762
  let c0_227 : Index := 0#32
  ![v776.toNat, 0]
def k0_off130 (v759 : BitVec 32) : Fin 2 → Nat :=
  let v760 : BitVec 32 := v759
  let v780 : Index := Scalar.indexCast v760
  let c128_228 : Index := 128#32
  ![v780.toNat, 128]
def k0_off131 (v761 : BitVec 32) : Fin 2 → Nat :=
  let v762 : BitVec 32 := v761
  let v787 : Index := Scalar.indexCast v762
  let c128_230 : Index := 128#32
  ![v787.toNat, 128]
def k0_off132 (v759 : BitVec 32) : Fin 2 → Nat :=
  let v760 : BitVec 32 := v759
  let v791 : Index := Scalar.indexCast v760
  let c256_231 : Index := 256#32
  ![v791.toNat, 256]
def k0_off133 (v761 : BitVec 32) : Fin 2 → Nat :=
  let v762 : BitVec 32 := v761
  let v798 : Index := Scalar.indexCast v762
  let c256_233 : Index := 256#32
  ![v798.toNat, 256]
def k0_off134 (v759 : BitVec 32) : Fin 2 → Nat :=
  let v760 : BitVec 32 := v759
  let v802 : Index := Scalar.indexCast v760
  let c384_234 : Index := 384#32
  ![v802.toNat, 384]

def k0_chk29 (v759 : BitVec 32) : Prop :=
  (32 ∣ (k0_mult29 v759).toNat) ∧
  (∀ a, (k0_off127 v759) a + S32x128.size a ≤ S1536x128.size a) ∧
  (∀ a, (k0_off128 v759) a + S32x128.size a ≤ S1536x512.size a) ∧
  (∀ a, (k0_off130 v759) a + S32x128.size a ≤ S1536x512.size a) ∧
  (∀ a, (k0_off132 v759) a + S32x128.size a ≤ S1536x512.size a) ∧
  (∀ a, (k0_off134 v759) a + S32x128.size a ≤ S1536x512.size a)
theorem k0_mult29_dvd : ∀ (v759 : BitVec 32) (k0_hw29 : k0_chk29 v759), 32 ∣ (k0_mult29 v759).toNat := fun v759 k0_hw29 => k0_hw29.1
theorem k0_off127_inb : ∀ (v759 : BitVec 32) (k0_hw29 : k0_chk29 v759), ∀ a, (k0_off127 v759) a + S32x128.size a ≤ S1536x128.size a := fun v759 k0_hw29 => k0_hw29.2.1
theorem k0_off128_inb : ∀ (v759 : BitVec 32) (k0_hw29 : k0_chk29 v759), ∀ a, (k0_off128 v759) a + S32x128.size a ≤ S1536x512.size a := fun v759 k0_hw29 => k0_hw29.2.2.1
theorem k0_off130_inb : ∀ (v759 : BitVec 32) (k0_hw29 : k0_chk29 v759), ∀ a, (k0_off130 v759) a + S32x128.size a ≤ S1536x512.size a := fun v759 k0_hw29 => k0_hw29.2.2.2.1
theorem k0_off132_inb : ∀ (v759 : BitVec 32) (k0_hw29 : k0_chk29 v759), ∀ a, (k0_off132 v759) a + S32x128.size a ≤ S1536x512.size a := fun v759 k0_hw29 => k0_hw29.2.2.2.2.1
theorem k0_off134_inb : ∀ (v759 : BitVec 32) (k0_hw29 : k0_chk29 v759), ∀ a, (k0_off134 v759) a + S32x128.size a ≤ S1536x512.size a := fun v759 k0_hw29 => k0_hw29.2.2.2.2.2

def k0_off135 (v761 : BitVec 32) : Fin 2 → Nat :=
  let v762 : BitVec 32 := v761
  let v809 : Index := Scalar.indexCast v762
  let c384_236 : Index := 384#32
  ![v809.toNat, 384]

def k0_chk30 (v761 : BitVec 32) : Prop :=
  (16 ∣ (k0_mult30 v761).toNat) ∧
  (∀ a, (k0_off129 v761) a + S32x128.size a ≤ S1568x512.size a) ∧
  (∀ (hinb : ∀ a, (k0_off129 v761) a + S32x128.size a ≤ S1568x512.size a), (Rect.unit (s := S1568x512) (k0_off129 v761) S32x128.size hinb).PackedRows (EltTy.packing .bf16)) ∧
  (∀ a, (k0_off131 v761) a + S32x128.size a ≤ S1568x512.size a) ∧
  (∀ (hinb : ∀ a, (k0_off131 v761) a + S32x128.size a ≤ S1568x512.size a), (Rect.unit (s := S1568x512) (k0_off131 v761) S32x128.size hinb).PackedRows (EltTy.packing .bf16)) ∧
  (∀ a, (k0_off133 v761) a + S32x128.size a ≤ S1568x512.size a) ∧
  (∀ (hinb : ∀ a, (k0_off133 v761) a + S32x128.size a ≤ S1568x512.size a), (Rect.unit (s := S1568x512) (k0_off133 v761) S32x128.size hinb).PackedRows (EltTy.packing .bf16)) ∧
  (∀ a, (k0_off135 v761) a + S32x128.size a ≤ S1568x512.size a) ∧
  (∀ (hinb : ∀ a, (k0_off135 v761) a + S32x128.size a ≤ S1568x512.size a), (Rect.unit (s := S1568x512) (k0_off135 v761) S32x128.size hinb).PackedRows (EltTy.packing .bf16))
theorem k0_mult30_dvd : ∀ (v761 : BitVec 32) (k0_hw30 : k0_chk30 v761), 16 ∣ (k0_mult30 v761).toNat := fun v761 k0_hw30 => k0_hw30.1
theorem k0_off129_inb : ∀ (v761 : BitVec 32) (k0_hw30 : k0_chk30 v761), ∀ a, (k0_off129 v761) a + S32x128.size a ≤ S1568x512.size a := fun v761 k0_hw30 => k0_hw30.2.1
theorem k0_off129_packedbf16 : ∀ (v761 : BitVec 32) (k0_hw30 : k0_chk30 v761), (Rect.unit (s := S1568x512) (k0_off129 v761) S32x128.size (k0_off129_inb v761 k0_hw30)).PackedRows (EltTy.packing .bf16) := fun v761 k0_hw30 => k0_hw30.2.2.1 (k0_off129_inb v761 k0_hw30)
theorem k0_off131_inb : ∀ (v761 : BitVec 32) (k0_hw30 : k0_chk30 v761), ∀ a, (k0_off131 v761) a + S32x128.size a ≤ S1568x512.size a := fun v761 k0_hw30 => k0_hw30.2.2.2.1
theorem k0_off131_packedbf16 : ∀ (v761 : BitVec 32) (k0_hw30 : k0_chk30 v761), (Rect.unit (s := S1568x512) (k0_off131 v761) S32x128.size (k0_off131_inb v761 k0_hw30)).PackedRows (EltTy.packing .bf16) := fun v761 k0_hw30 => k0_hw30.2.2.2.2.1 (k0_off131_inb v761 k0_hw30)
theorem k0_off133_inb : ∀ (v761 : BitVec 32) (k0_hw30 : k0_chk30 v761), ∀ a, (k0_off133 v761) a + S32x128.size a ≤ S1568x512.size a := fun v761 k0_hw30 => k0_hw30.2.2.2.2.2.1
theorem k0_off133_packedbf16 : ∀ (v761 : BitVec 32) (k0_hw30 : k0_chk30 v761), (Rect.unit (s := S1568x512) (k0_off133 v761) S32x128.size (k0_off133_inb v761 k0_hw30)).PackedRows (EltTy.packing .bf16) := fun v761 k0_hw30 => k0_hw30.2.2.2.2.2.2.1 (k0_off133_inb v761 k0_hw30)
theorem k0_off135_inb : ∀ (v761 : BitVec 32) (k0_hw30 : k0_chk30 v761), ∀ a, (k0_off135 v761) a + S32x128.size a ≤ S1568x512.size a := fun v761 k0_hw30 => k0_hw30.2.2.2.2.2.2.2.1
theorem k0_off135_packedbf16 : ∀ (v761 : BitVec 32) (k0_hw30 : k0_chk30 v761), (Rect.unit (s := S1568x512) (k0_off135 v761) S32x128.size (k0_off135_inb v761 k0_hw30)).PackedRows (EltTy.packing .bf16) := fun v761 k0_hw30 => k0_hw30.2.2.2.2.2.2.2.2 (k0_off135_inb v761 k0_hw30)

def k0_mult31 (v813 : BitVec 32) : BitVec 32 :=
  v813

def k0_mult32 (v815 : BitVec 32) : BitVec 32 :=
  v815

def k0_off136 (v813 : BitVec 32) : Fin 2 → Nat :=
  let v814 : BitVec 32 := v813
  let v817 : Index := Scalar.indexCast v814
  let c0_238 : Index := 0#32
  ![v817.toNat, 0]
def k0_off137 (v813 : BitVec 32) : Fin 2 → Nat :=
  let v814 : BitVec 32 := v813
  let v823 : Index := Scalar.indexCast v814
  let c0_241 : Index := 0#32
  ![v823.toNat, 0]
def k0_off138 (v815 : BitVec 32) : Fin 2 → Nat :=
  let v816 : BitVec 32 := v815
  let v830 : Index := Scalar.indexCast v816
  let c0_243 : Index := 0#32
  ![v830.toNat, 0]
def k0_off139 (v813 : BitVec 32) : Fin 2 → Nat :=
  let v814 : BitVec 32 := v813
  let v834 : Index := Scalar.indexCast v814
  let c128_244 : Index := 128#32
  ![v834.toNat, 128]
def k0_off140 (v815 : BitVec 32) : Fin 2 → Nat :=
  let v816 : BitVec 32 := v815
  let v841 : Index := Scalar.indexCast v816
  let c128_246 : Index := 128#32
  ![v841.toNat, 128]
def k0_off141 (v813 : BitVec 32) : Fin 2 → Nat :=
  let v814 : BitVec 32 := v813
  let v845 : Index := Scalar.indexCast v814
  let c256_247 : Index := 256#32
  ![v845.toNat, 256]
def k0_off142 (v815 : BitVec 32) : Fin 2 → Nat :=
  let v816 : BitVec 32 := v815
  let v852 : Index := Scalar.indexCast v816
  let c256_249 : Index := 256#32
  ![v852.toNat, 256]
def k0_off143 (v813 : BitVec 32) : Fin 2 → Nat :=
  let v814 : BitVec 32 := v813
  let v856 : Index := Scalar.indexCast v814
  let c384_250 : Index := 384#32
  ![v856.toNat, 384]

def k0_chk31 (v813 : BitVec 32) : Prop :=
  (32 ∣ (k0_mult31 v813).toNat) ∧
  (∀ a, (k0_off136 v813) a + S32x128.size a ≤ S1536x128.size a) ∧
  (∀ a, (k0_off137 v813) a + S32x128.size a ≤ S1536x512.size a) ∧
  (∀ a, (k0_off139 v813) a + S32x128.size a ≤ S1536x512.size a) ∧
  (∀ a, (k0_off141 v813) a + S32x128.size a ≤ S1536x512.size a) ∧
  (∀ a, (k0_off143 v813) a + S32x128.size a ≤ S1536x512.size a)
theorem k0_mult31_dvd : ∀ (v813 : BitVec 32) (k0_hw31 : k0_chk31 v813), 32 ∣ (k0_mult31 v813).toNat := fun v813 k0_hw31 => k0_hw31.1
theorem k0_off136_inb : ∀ (v813 : BitVec 32) (k0_hw31 : k0_chk31 v813), ∀ a, (k0_off136 v813) a + S32x128.size a ≤ S1536x128.size a := fun v813 k0_hw31 => k0_hw31.2.1
theorem k0_off137_inb : ∀ (v813 : BitVec 32) (k0_hw31 : k0_chk31 v813), ∀ a, (k0_off137 v813) a + S32x128.size a ≤ S1536x512.size a := fun v813 k0_hw31 => k0_hw31.2.2.1
theorem k0_off139_inb : ∀ (v813 : BitVec 32) (k0_hw31 : k0_chk31 v813), ∀ a, (k0_off139 v813) a + S32x128.size a ≤ S1536x512.size a := fun v813 k0_hw31 => k0_hw31.2.2.2.1
theorem k0_off141_inb : ∀ (v813 : BitVec 32) (k0_hw31 : k0_chk31 v813), ∀ a, (k0_off141 v813) a + S32x128.size a ≤ S1536x512.size a := fun v813 k0_hw31 => k0_hw31.2.2.2.2.1
theorem k0_off143_inb : ∀ (v813 : BitVec 32) (k0_hw31 : k0_chk31 v813), ∀ a, (k0_off143 v813) a + S32x128.size a ≤ S1536x512.size a := fun v813 k0_hw31 => k0_hw31.2.2.2.2.2

def k0_off144 (v815 : BitVec 32) : Fin 2 → Nat :=
  let v816 : BitVec 32 := v815
  let v863 : Index := Scalar.indexCast v816
  let c384_252 : Index := 384#32
  ![v863.toNat, 384]

def k0_chk32 (v815 : BitVec 32) : Prop :=
  (16 ∣ (k0_mult32 v815).toNat) ∧
  (∀ a, (k0_off138 v815) a + S32x128.size a ≤ S1568x512.size a) ∧
  (∀ (hinb : ∀ a, (k0_off138 v815) a + S32x128.size a ≤ S1568x512.size a), (Rect.unit (s := S1568x512) (k0_off138 v815) S32x128.size hinb).PackedRows (EltTy.packing .bf16)) ∧
  (∀ a, (k0_off140 v815) a + S32x128.size a ≤ S1568x512.size a) ∧
  (∀ (hinb : ∀ a, (k0_off140 v815) a + S32x128.size a ≤ S1568x512.size a), (Rect.unit (s := S1568x512) (k0_off140 v815) S32x128.size hinb).PackedRows (EltTy.packing .bf16)) ∧
  (∀ a, (k0_off142 v815) a + S32x128.size a ≤ S1568x512.size a) ∧
  (∀ (hinb : ∀ a, (k0_off142 v815) a + S32x128.size a ≤ S1568x512.size a), (Rect.unit (s := S1568x512) (k0_off142 v815) S32x128.size hinb).PackedRows (EltTy.packing .bf16)) ∧
  (∀ a, (k0_off144 v815) a + S32x128.size a ≤ S1568x512.size a) ∧
  (∀ (hinb : ∀ a, (k0_off144 v815) a + S32x128.size a ≤ S1568x512.size a), (Rect.unit (s := S1568x512) (k0_off144 v815) S32x128.size hinb).PackedRows (EltTy.packing .bf16))
theorem k0_mult32_dvd : ∀ (v815 : BitVec 32) (k0_hw32 : k0_chk32 v815), 16 ∣ (k0_mult32 v815).toNat := fun v815 k0_hw32 => k0_hw32.1
theorem k0_off138_inb : ∀ (v815 : BitVec 32) (k0_hw32 : k0_chk32 v815), ∀ a, (k0_off138 v815) a + S32x128.size a ≤ S1568x512.size a := fun v815 k0_hw32 => k0_hw32.2.1
theorem k0_off138_packedbf16 : ∀ (v815 : BitVec 32) (k0_hw32 : k0_chk32 v815), (Rect.unit (s := S1568x512) (k0_off138 v815) S32x128.size (k0_off138_inb v815 k0_hw32)).PackedRows (EltTy.packing .bf16) := fun v815 k0_hw32 => k0_hw32.2.2.1 (k0_off138_inb v815 k0_hw32)
theorem k0_off140_inb : ∀ (v815 : BitVec 32) (k0_hw32 : k0_chk32 v815), ∀ a, (k0_off140 v815) a + S32x128.size a ≤ S1568x512.size a := fun v815 k0_hw32 => k0_hw32.2.2.2.1
theorem k0_off140_packedbf16 : ∀ (v815 : BitVec 32) (k0_hw32 : k0_chk32 v815), (Rect.unit (s := S1568x512) (k0_off140 v815) S32x128.size (k0_off140_inb v815 k0_hw32)).PackedRows (EltTy.packing .bf16) := fun v815 k0_hw32 => k0_hw32.2.2.2.2.1 (k0_off140_inb v815 k0_hw32)
theorem k0_off142_inb : ∀ (v815 : BitVec 32) (k0_hw32 : k0_chk32 v815), ∀ a, (k0_off142 v815) a + S32x128.size a ≤ S1568x512.size a := fun v815 k0_hw32 => k0_hw32.2.2.2.2.2.1
theorem k0_off142_packedbf16 : ∀ (v815 : BitVec 32) (k0_hw32 : k0_chk32 v815), (Rect.unit (s := S1568x512) (k0_off142 v815) S32x128.size (k0_off142_inb v815 k0_hw32)).PackedRows (EltTy.packing .bf16) := fun v815 k0_hw32 => k0_hw32.2.2.2.2.2.2.1 (k0_off142_inb v815 k0_hw32)
theorem k0_off144_inb : ∀ (v815 : BitVec 32) (k0_hw32 : k0_chk32 v815), ∀ a, (k0_off144 v815) a + S32x128.size a ≤ S1568x512.size a := fun v815 k0_hw32 => k0_hw32.2.2.2.2.2.2.2.1
theorem k0_off144_packedbf16 : ∀ (v815 : BitVec 32) (k0_hw32 : k0_chk32 v815), (Rect.unit (s := S1568x512) (k0_off144 v815) S32x128.size (k0_off144_inb v815 k0_hw32)).PackedRows (EltTy.packing .bf16) := fun v815 k0_hw32 => k0_hw32.2.2.2.2.2.2.2.2 (k0_off144_inb v815 k0_hw32)

def k0_mult33 (v867 : BitVec 32) : BitVec 32 :=
  v867

def k0_mult34 (v869 : BitVec 32) : BitVec 32 :=
  v869

def k0_off145 (v867 : BitVec 32) : Fin 2 → Nat :=
  let v868 : BitVec 32 := v867
  let v871 : Index := Scalar.indexCast v868
  let c0_254 : Index := 0#32
  ![v871.toNat, 0]
def k0_off146 (v867 : BitVec 32) : Fin 2 → Nat :=
  let v868 : BitVec 32 := v867
  let v877 : Index := Scalar.indexCast v868
  let c0_257 : Index := 0#32
  ![v877.toNat, 0]
def k0_off147 (v869 : BitVec 32) : Fin 2 → Nat :=
  let v870 : BitVec 32 := v869
  let v884 : Index := Scalar.indexCast v870
  let c0_259 : Index := 0#32
  ![v884.toNat, 0]
def k0_off148 (v867 : BitVec 32) : Fin 2 → Nat :=
  let v868 : BitVec 32 := v867
  let v888 : Index := Scalar.indexCast v868
  let c128_260 : Index := 128#32
  ![v888.toNat, 128]
def k0_off149 (v869 : BitVec 32) : Fin 2 → Nat :=
  let v870 : BitVec 32 := v869
  let v895 : Index := Scalar.indexCast v870
  let c128_262 : Index := 128#32
  ![v895.toNat, 128]
def k0_off150 (v867 : BitVec 32) : Fin 2 → Nat :=
  let v868 : BitVec 32 := v867
  let v899 : Index := Scalar.indexCast v868
  let c256_263 : Index := 256#32
  ![v899.toNat, 256]
def k0_off151 (v869 : BitVec 32) : Fin 2 → Nat :=
  let v870 : BitVec 32 := v869
  let v906 : Index := Scalar.indexCast v870
  let c256_265 : Index := 256#32
  ![v906.toNat, 256]
def k0_off152 (v867 : BitVec 32) : Fin 2 → Nat :=
  let v868 : BitVec 32 := v867
  let v910 : Index := Scalar.indexCast v868
  let c384_266 : Index := 384#32
  ![v910.toNat, 384]

def k0_chk33 (v867 : BitVec 32) : Prop :=
  (32 ∣ (k0_mult33 v867).toNat) ∧
  (∀ a, (k0_off145 v867) a + S32x128.size a ≤ S1536x128.size a) ∧
  (∀ a, (k0_off146 v867) a + S32x128.size a ≤ S1536x512.size a) ∧
  (∀ a, (k0_off148 v867) a + S32x128.size a ≤ S1536x512.size a) ∧
  (∀ a, (k0_off150 v867) a + S32x128.size a ≤ S1536x512.size a) ∧
  (∀ a, (k0_off152 v867) a + S32x128.size a ≤ S1536x512.size a)
theorem k0_mult33_dvd : ∀ (v867 : BitVec 32) (k0_hw33 : k0_chk33 v867), 32 ∣ (k0_mult33 v867).toNat := fun v867 k0_hw33 => k0_hw33.1
theorem k0_off145_inb : ∀ (v867 : BitVec 32) (k0_hw33 : k0_chk33 v867), ∀ a, (k0_off145 v867) a + S32x128.size a ≤ S1536x128.size a := fun v867 k0_hw33 => k0_hw33.2.1
theorem k0_off146_inb : ∀ (v867 : BitVec 32) (k0_hw33 : k0_chk33 v867), ∀ a, (k0_off146 v867) a + S32x128.size a ≤ S1536x512.size a := fun v867 k0_hw33 => k0_hw33.2.2.1
theorem k0_off148_inb : ∀ (v867 : BitVec 32) (k0_hw33 : k0_chk33 v867), ∀ a, (k0_off148 v867) a + S32x128.size a ≤ S1536x512.size a := fun v867 k0_hw33 => k0_hw33.2.2.2.1
theorem k0_off150_inb : ∀ (v867 : BitVec 32) (k0_hw33 : k0_chk33 v867), ∀ a, (k0_off150 v867) a + S32x128.size a ≤ S1536x512.size a := fun v867 k0_hw33 => k0_hw33.2.2.2.2.1
theorem k0_off152_inb : ∀ (v867 : BitVec 32) (k0_hw33 : k0_chk33 v867), ∀ a, (k0_off152 v867) a + S32x128.size a ≤ S1536x512.size a := fun v867 k0_hw33 => k0_hw33.2.2.2.2.2

def k0_off153 (v869 : BitVec 32) : Fin 2 → Nat :=
  let v870 : BitVec 32 := v869
  let v917 : Index := Scalar.indexCast v870
  let c384_268 : Index := 384#32
  ![v917.toNat, 384]

def k0_chk34 (v869 : BitVec 32) : Prop :=
  (16 ∣ (k0_mult34 v869).toNat) ∧
  (∀ a, (k0_off147 v869) a + S32x128.size a ≤ S1568x512.size a) ∧
  (∀ (hinb : ∀ a, (k0_off147 v869) a + S32x128.size a ≤ S1568x512.size a), (Rect.unit (s := S1568x512) (k0_off147 v869) S32x128.size hinb).PackedRows (EltTy.packing .bf16)) ∧
  (∀ a, (k0_off149 v869) a + S32x128.size a ≤ S1568x512.size a) ∧
  (∀ (hinb : ∀ a, (k0_off149 v869) a + S32x128.size a ≤ S1568x512.size a), (Rect.unit (s := S1568x512) (k0_off149 v869) S32x128.size hinb).PackedRows (EltTy.packing .bf16)) ∧
  (∀ a, (k0_off151 v869) a + S32x128.size a ≤ S1568x512.size a) ∧
  (∀ (hinb : ∀ a, (k0_off151 v869) a + S32x128.size a ≤ S1568x512.size a), (Rect.unit (s := S1568x512) (k0_off151 v869) S32x128.size hinb).PackedRows (EltTy.packing .bf16)) ∧
  (∀ a, (k0_off153 v869) a + S32x128.size a ≤ S1568x512.size a) ∧
  (∀ (hinb : ∀ a, (k0_off153 v869) a + S32x128.size a ≤ S1568x512.size a), (Rect.unit (s := S1568x512) (k0_off153 v869) S32x128.size hinb).PackedRows (EltTy.packing .bf16))
theorem k0_mult34_dvd : ∀ (v869 : BitVec 32) (k0_hw34 : k0_chk34 v869), 16 ∣ (k0_mult34 v869).toNat := fun v869 k0_hw34 => k0_hw34.1
theorem k0_off147_inb : ∀ (v869 : BitVec 32) (k0_hw34 : k0_chk34 v869), ∀ a, (k0_off147 v869) a + S32x128.size a ≤ S1568x512.size a := fun v869 k0_hw34 => k0_hw34.2.1
theorem k0_off147_packedbf16 : ∀ (v869 : BitVec 32) (k0_hw34 : k0_chk34 v869), (Rect.unit (s := S1568x512) (k0_off147 v869) S32x128.size (k0_off147_inb v869 k0_hw34)).PackedRows (EltTy.packing .bf16) := fun v869 k0_hw34 => k0_hw34.2.2.1 (k0_off147_inb v869 k0_hw34)
theorem k0_off149_inb : ∀ (v869 : BitVec 32) (k0_hw34 : k0_chk34 v869), ∀ a, (k0_off149 v869) a + S32x128.size a ≤ S1568x512.size a := fun v869 k0_hw34 => k0_hw34.2.2.2.1
theorem k0_off149_packedbf16 : ∀ (v869 : BitVec 32) (k0_hw34 : k0_chk34 v869), (Rect.unit (s := S1568x512) (k0_off149 v869) S32x128.size (k0_off149_inb v869 k0_hw34)).PackedRows (EltTy.packing .bf16) := fun v869 k0_hw34 => k0_hw34.2.2.2.2.1 (k0_off149_inb v869 k0_hw34)
theorem k0_off151_inb : ∀ (v869 : BitVec 32) (k0_hw34 : k0_chk34 v869), ∀ a, (k0_off151 v869) a + S32x128.size a ≤ S1568x512.size a := fun v869 k0_hw34 => k0_hw34.2.2.2.2.2.1
theorem k0_off151_packedbf16 : ∀ (v869 : BitVec 32) (k0_hw34 : k0_chk34 v869), (Rect.unit (s := S1568x512) (k0_off151 v869) S32x128.size (k0_off151_inb v869 k0_hw34)).PackedRows (EltTy.packing .bf16) := fun v869 k0_hw34 => k0_hw34.2.2.2.2.2.2.1 (k0_off151_inb v869 k0_hw34)
theorem k0_off153_inb : ∀ (v869 : BitVec 32) (k0_hw34 : k0_chk34 v869), ∀ a, (k0_off153 v869) a + S32x128.size a ≤ S1568x512.size a := fun v869 k0_hw34 => k0_hw34.2.2.2.2.2.2.2.1
theorem k0_off153_packedbf16 : ∀ (v869 : BitVec 32) (k0_hw34 : k0_chk34 v869), (Rect.unit (s := S1568x512) (k0_off153 v869) S32x128.size (k0_off153_inb v869 k0_hw34)).PackedRows (EltTy.packing .bf16) := fun v869 k0_hw34 => k0_hw34.2.2.2.2.2.2.2.2 (k0_off153_inb v869 k0_hw34)

def k0_mult35 (v921 : BitVec 32) : BitVec 32 :=
  v921

def k0_mult36 (v923 : BitVec 32) : BitVec 32 :=
  v923

def k0_off154 (v921 : BitVec 32) : Fin 2 → Nat :=
  let v922 : BitVec 32 := v921
  let v925 : Index := Scalar.indexCast v922
  let c0_270 : Index := 0#32
  ![v925.toNat, 0]
def k0_off155 (v921 : BitVec 32) : Fin 2 → Nat :=
  let v922 : BitVec 32 := v921
  let v931 : Index := Scalar.indexCast v922
  let c0_273 : Index := 0#32
  ![v931.toNat, 0]
def k0_off156 (v923 : BitVec 32) : Fin 2 → Nat :=
  let v924 : BitVec 32 := v923
  let v938 : Index := Scalar.indexCast v924
  let c0_275 : Index := 0#32
  ![v938.toNat, 0]
def k0_off157 (v921 : BitVec 32) : Fin 2 → Nat :=
  let v922 : BitVec 32 := v921
  let v942 : Index := Scalar.indexCast v922
  let c128_276 : Index := 128#32
  ![v942.toNat, 128]
def k0_off158 (v923 : BitVec 32) : Fin 2 → Nat :=
  let v924 : BitVec 32 := v923
  let v949 : Index := Scalar.indexCast v924
  let c128_278 : Index := 128#32
  ![v949.toNat, 128]
def k0_off159 (v921 : BitVec 32) : Fin 2 → Nat :=
  let v922 : BitVec 32 := v921
  let v953 : Index := Scalar.indexCast v922
  let c256_279 : Index := 256#32
  ![v953.toNat, 256]
def k0_off160 (v923 : BitVec 32) : Fin 2 → Nat :=
  let v924 : BitVec 32 := v923
  let v960 : Index := Scalar.indexCast v924
  let c256_281 : Index := 256#32
  ![v960.toNat, 256]
def k0_off161 (v921 : BitVec 32) : Fin 2 → Nat :=
  let v922 : BitVec 32 := v921
  let v964 : Index := Scalar.indexCast v922
  let c384_282 : Index := 384#32
  ![v964.toNat, 384]

def k0_chk35 (v921 : BitVec 32) : Prop :=
  (32 ∣ (k0_mult35 v921).toNat) ∧
  (∀ a, (k0_off154 v921) a + S32x128.size a ≤ S1536x128.size a) ∧
  (∀ a, (k0_off155 v921) a + S32x128.size a ≤ S1536x512.size a) ∧
  (∀ a, (k0_off157 v921) a + S32x128.size a ≤ S1536x512.size a) ∧
  (∀ a, (k0_off159 v921) a + S32x128.size a ≤ S1536x512.size a) ∧
  (∀ a, (k0_off161 v921) a + S32x128.size a ≤ S1536x512.size a)
theorem k0_mult35_dvd : ∀ (v921 : BitVec 32) (k0_hw35 : k0_chk35 v921), 32 ∣ (k0_mult35 v921).toNat := fun v921 k0_hw35 => k0_hw35.1
theorem k0_off154_inb : ∀ (v921 : BitVec 32) (k0_hw35 : k0_chk35 v921), ∀ a, (k0_off154 v921) a + S32x128.size a ≤ S1536x128.size a := fun v921 k0_hw35 => k0_hw35.2.1
theorem k0_off155_inb : ∀ (v921 : BitVec 32) (k0_hw35 : k0_chk35 v921), ∀ a, (k0_off155 v921) a + S32x128.size a ≤ S1536x512.size a := fun v921 k0_hw35 => k0_hw35.2.2.1
theorem k0_off157_inb : ∀ (v921 : BitVec 32) (k0_hw35 : k0_chk35 v921), ∀ a, (k0_off157 v921) a + S32x128.size a ≤ S1536x512.size a := fun v921 k0_hw35 => k0_hw35.2.2.2.1
theorem k0_off159_inb : ∀ (v921 : BitVec 32) (k0_hw35 : k0_chk35 v921), ∀ a, (k0_off159 v921) a + S32x128.size a ≤ S1536x512.size a := fun v921 k0_hw35 => k0_hw35.2.2.2.2.1
theorem k0_off161_inb : ∀ (v921 : BitVec 32) (k0_hw35 : k0_chk35 v921), ∀ a, (k0_off161 v921) a + S32x128.size a ≤ S1536x512.size a := fun v921 k0_hw35 => k0_hw35.2.2.2.2.2

def k0_off162 (v923 : BitVec 32) : Fin 2 → Nat :=
  let v924 : BitVec 32 := v923
  let v971 : Index := Scalar.indexCast v924
  let c384_284 : Index := 384#32
  ![v971.toNat, 384]

def k0_chk36 (v923 : BitVec 32) : Prop :=
  (16 ∣ (k0_mult36 v923).toNat) ∧
  (∀ a, (k0_off156 v923) a + S32x128.size a ≤ S1568x512.size a) ∧
  (∀ (hinb : ∀ a, (k0_off156 v923) a + S32x128.size a ≤ S1568x512.size a), (Rect.unit (s := S1568x512) (k0_off156 v923) S32x128.size hinb).PackedRows (EltTy.packing .bf16)) ∧
  (∀ a, (k0_off158 v923) a + S32x128.size a ≤ S1568x512.size a) ∧
  (∀ (hinb : ∀ a, (k0_off158 v923) a + S32x128.size a ≤ S1568x512.size a), (Rect.unit (s := S1568x512) (k0_off158 v923) S32x128.size hinb).PackedRows (EltTy.packing .bf16)) ∧
  (∀ a, (k0_off160 v923) a + S32x128.size a ≤ S1568x512.size a) ∧
  (∀ (hinb : ∀ a, (k0_off160 v923) a + S32x128.size a ≤ S1568x512.size a), (Rect.unit (s := S1568x512) (k0_off160 v923) S32x128.size hinb).PackedRows (EltTy.packing .bf16)) ∧
  (∀ a, (k0_off162 v923) a + S32x128.size a ≤ S1568x512.size a) ∧
  (∀ (hinb : ∀ a, (k0_off162 v923) a + S32x128.size a ≤ S1568x512.size a), (Rect.unit (s := S1568x512) (k0_off162 v923) S32x128.size hinb).PackedRows (EltTy.packing .bf16))
theorem k0_mult36_dvd : ∀ (v923 : BitVec 32) (k0_hw36 : k0_chk36 v923), 16 ∣ (k0_mult36 v923).toNat := fun v923 k0_hw36 => k0_hw36.1
theorem k0_off156_inb : ∀ (v923 : BitVec 32) (k0_hw36 : k0_chk36 v923), ∀ a, (k0_off156 v923) a + S32x128.size a ≤ S1568x512.size a := fun v923 k0_hw36 => k0_hw36.2.1
theorem k0_off156_packedbf16 : ∀ (v923 : BitVec 32) (k0_hw36 : k0_chk36 v923), (Rect.unit (s := S1568x512) (k0_off156 v923) S32x128.size (k0_off156_inb v923 k0_hw36)).PackedRows (EltTy.packing .bf16) := fun v923 k0_hw36 => k0_hw36.2.2.1 (k0_off156_inb v923 k0_hw36)
theorem k0_off158_inb : ∀ (v923 : BitVec 32) (k0_hw36 : k0_chk36 v923), ∀ a, (k0_off158 v923) a + S32x128.size a ≤ S1568x512.size a := fun v923 k0_hw36 => k0_hw36.2.2.2.1
theorem k0_off158_packedbf16 : ∀ (v923 : BitVec 32) (k0_hw36 : k0_chk36 v923), (Rect.unit (s := S1568x512) (k0_off158 v923) S32x128.size (k0_off158_inb v923 k0_hw36)).PackedRows (EltTy.packing .bf16) := fun v923 k0_hw36 => k0_hw36.2.2.2.2.1 (k0_off158_inb v923 k0_hw36)
theorem k0_off160_inb : ∀ (v923 : BitVec 32) (k0_hw36 : k0_chk36 v923), ∀ a, (k0_off160 v923) a + S32x128.size a ≤ S1568x512.size a := fun v923 k0_hw36 => k0_hw36.2.2.2.2.2.1
theorem k0_off160_packedbf16 : ∀ (v923 : BitVec 32) (k0_hw36 : k0_chk36 v923), (Rect.unit (s := S1568x512) (k0_off160 v923) S32x128.size (k0_off160_inb v923 k0_hw36)).PackedRows (EltTy.packing .bf16) := fun v923 k0_hw36 => k0_hw36.2.2.2.2.2.2.1 (k0_off160_inb v923 k0_hw36)
theorem k0_off162_inb : ∀ (v923 : BitVec 32) (k0_hw36 : k0_chk36 v923), ∀ a, (k0_off162 v923) a + S32x128.size a ≤ S1568x512.size a := fun v923 k0_hw36 => k0_hw36.2.2.2.2.2.2.2.1
theorem k0_off162_packedbf16 : ∀ (v923 : BitVec 32) (k0_hw36 : k0_chk36 v923), (Rect.unit (s := S1568x512) (k0_off162 v923) S32x128.size (k0_off162_inb v923 k0_hw36)).PackedRows (EltTy.packing .bf16) := fun v923 k0_hw36 => k0_hw36.2.2.2.2.2.2.2.2 (k0_off162_inb v923 k0_hw36)

def k0_mult37 (v975 : BitVec 32) : BitVec 32 :=
  v975

def k0_mult38 (v977 : BitVec 32) : BitVec 32 :=
  v977

def k0_off163 (v975 : BitVec 32) : Fin 2 → Nat :=
  let v976 : BitVec 32 := v975
  let v979 : Index := Scalar.indexCast v976
  let c0_286 : Index := 0#32
  ![v979.toNat, 0]
def k0_off164 (v975 : BitVec 32) : Fin 2 → Nat :=
  let v976 : BitVec 32 := v975
  let v985 : Index := Scalar.indexCast v976
  let c0_289 : Index := 0#32
  ![v985.toNat, 0]
def k0_off165 (v977 : BitVec 32) : Fin 2 → Nat :=
  let v978 : BitVec 32 := v977
  let v992 : Index := Scalar.indexCast v978
  let c0_291 : Index := 0#32
  ![v992.toNat, 0]
def k0_off166 (v975 : BitVec 32) : Fin 2 → Nat :=
  let v976 : BitVec 32 := v975
  let v996 : Index := Scalar.indexCast v976
  let c128_292 : Index := 128#32
  ![v996.toNat, 128]
def k0_off167 (v977 : BitVec 32) : Fin 2 → Nat :=
  let v978 : BitVec 32 := v977
  let v1003 : Index := Scalar.indexCast v978
  let c128_294 : Index := 128#32
  ![v1003.toNat, 128]
def k0_off168 (v975 : BitVec 32) : Fin 2 → Nat :=
  let v976 : BitVec 32 := v975
  let v1007 : Index := Scalar.indexCast v976
  let c256_295 : Index := 256#32
  ![v1007.toNat, 256]
def k0_off169 (v977 : BitVec 32) : Fin 2 → Nat :=
  let v978 : BitVec 32 := v977
  let v1014 : Index := Scalar.indexCast v978
  let c256_297 : Index := 256#32
  ![v1014.toNat, 256]
def k0_off170 (v975 : BitVec 32) : Fin 2 → Nat :=
  let v976 : BitVec 32 := v975
  let v1018 : Index := Scalar.indexCast v976
  let c384_298 : Index := 384#32
  ![v1018.toNat, 384]

def k0_chk37 (v975 : BitVec 32) : Prop :=
  (32 ∣ (k0_mult37 v975).toNat) ∧
  (∀ a, (k0_off163 v975) a + S32x128.size a ≤ S1536x128.size a) ∧
  (∀ a, (k0_off164 v975) a + S32x128.size a ≤ S1536x512.size a) ∧
  (∀ a, (k0_off166 v975) a + S32x128.size a ≤ S1536x512.size a) ∧
  (∀ a, (k0_off168 v975) a + S32x128.size a ≤ S1536x512.size a) ∧
  (∀ a, (k0_off170 v975) a + S32x128.size a ≤ S1536x512.size a)
theorem k0_mult37_dvd : ∀ (v975 : BitVec 32) (k0_hw37 : k0_chk37 v975), 32 ∣ (k0_mult37 v975).toNat := fun v975 k0_hw37 => k0_hw37.1
theorem k0_off163_inb : ∀ (v975 : BitVec 32) (k0_hw37 : k0_chk37 v975), ∀ a, (k0_off163 v975) a + S32x128.size a ≤ S1536x128.size a := fun v975 k0_hw37 => k0_hw37.2.1
theorem k0_off164_inb : ∀ (v975 : BitVec 32) (k0_hw37 : k0_chk37 v975), ∀ a, (k0_off164 v975) a + S32x128.size a ≤ S1536x512.size a := fun v975 k0_hw37 => k0_hw37.2.2.1
theorem k0_off166_inb : ∀ (v975 : BitVec 32) (k0_hw37 : k0_chk37 v975), ∀ a, (k0_off166 v975) a + S32x128.size a ≤ S1536x512.size a := fun v975 k0_hw37 => k0_hw37.2.2.2.1
theorem k0_off168_inb : ∀ (v975 : BitVec 32) (k0_hw37 : k0_chk37 v975), ∀ a, (k0_off168 v975) a + S32x128.size a ≤ S1536x512.size a := fun v975 k0_hw37 => k0_hw37.2.2.2.2.1
theorem k0_off170_inb : ∀ (v975 : BitVec 32) (k0_hw37 : k0_chk37 v975), ∀ a, (k0_off170 v975) a + S32x128.size a ≤ S1536x512.size a := fun v975 k0_hw37 => k0_hw37.2.2.2.2.2

def k0_off171 (v977 : BitVec 32) : Fin 2 → Nat :=
  let v978 : BitVec 32 := v977
  let v1025 : Index := Scalar.indexCast v978
  let c384_300 : Index := 384#32
  ![v1025.toNat, 384]

def k0_chk38 (v977 : BitVec 32) : Prop :=
  (16 ∣ (k0_mult38 v977).toNat) ∧
  (∀ a, (k0_off165 v977) a + S32x128.size a ≤ S1568x512.size a) ∧
  (∀ (hinb : ∀ a, (k0_off165 v977) a + S32x128.size a ≤ S1568x512.size a), (Rect.unit (s := S1568x512) (k0_off165 v977) S32x128.size hinb).PackedRows (EltTy.packing .bf16)) ∧
  (∀ a, (k0_off167 v977) a + S32x128.size a ≤ S1568x512.size a) ∧
  (∀ (hinb : ∀ a, (k0_off167 v977) a + S32x128.size a ≤ S1568x512.size a), (Rect.unit (s := S1568x512) (k0_off167 v977) S32x128.size hinb).PackedRows (EltTy.packing .bf16)) ∧
  (∀ a, (k0_off169 v977) a + S32x128.size a ≤ S1568x512.size a) ∧
  (∀ (hinb : ∀ a, (k0_off169 v977) a + S32x128.size a ≤ S1568x512.size a), (Rect.unit (s := S1568x512) (k0_off169 v977) S32x128.size hinb).PackedRows (EltTy.packing .bf16)) ∧
  (∀ a, (k0_off171 v977) a + S32x128.size a ≤ S1568x512.size a) ∧
  (∀ (hinb : ∀ a, (k0_off171 v977) a + S32x128.size a ≤ S1568x512.size a), (Rect.unit (s := S1568x512) (k0_off171 v977) S32x128.size hinb).PackedRows (EltTy.packing .bf16))
theorem k0_mult38_dvd : ∀ (v977 : BitVec 32) (k0_hw38 : k0_chk38 v977), 16 ∣ (k0_mult38 v977).toNat := fun v977 k0_hw38 => k0_hw38.1
theorem k0_off165_inb : ∀ (v977 : BitVec 32) (k0_hw38 : k0_chk38 v977), ∀ a, (k0_off165 v977) a + S32x128.size a ≤ S1568x512.size a := fun v977 k0_hw38 => k0_hw38.2.1
theorem k0_off165_packedbf16 : ∀ (v977 : BitVec 32) (k0_hw38 : k0_chk38 v977), (Rect.unit (s := S1568x512) (k0_off165 v977) S32x128.size (k0_off165_inb v977 k0_hw38)).PackedRows (EltTy.packing .bf16) := fun v977 k0_hw38 => k0_hw38.2.2.1 (k0_off165_inb v977 k0_hw38)
theorem k0_off167_inb : ∀ (v977 : BitVec 32) (k0_hw38 : k0_chk38 v977), ∀ a, (k0_off167 v977) a + S32x128.size a ≤ S1568x512.size a := fun v977 k0_hw38 => k0_hw38.2.2.2.1
theorem k0_off167_packedbf16 : ∀ (v977 : BitVec 32) (k0_hw38 : k0_chk38 v977), (Rect.unit (s := S1568x512) (k0_off167 v977) S32x128.size (k0_off167_inb v977 k0_hw38)).PackedRows (EltTy.packing .bf16) := fun v977 k0_hw38 => k0_hw38.2.2.2.2.1 (k0_off167_inb v977 k0_hw38)
theorem k0_off169_inb : ∀ (v977 : BitVec 32) (k0_hw38 : k0_chk38 v977), ∀ a, (k0_off169 v977) a + S32x128.size a ≤ S1568x512.size a := fun v977 k0_hw38 => k0_hw38.2.2.2.2.2.1
theorem k0_off169_packedbf16 : ∀ (v977 : BitVec 32) (k0_hw38 : k0_chk38 v977), (Rect.unit (s := S1568x512) (k0_off169 v977) S32x128.size (k0_off169_inb v977 k0_hw38)).PackedRows (EltTy.packing .bf16) := fun v977 k0_hw38 => k0_hw38.2.2.2.2.2.2.1 (k0_off169_inb v977 k0_hw38)
theorem k0_off171_inb : ∀ (v977 : BitVec 32) (k0_hw38 : k0_chk38 v977), ∀ a, (k0_off171 v977) a + S32x128.size a ≤ S1568x512.size a := fun v977 k0_hw38 => k0_hw38.2.2.2.2.2.2.2.1
theorem k0_off171_packedbf16 : ∀ (v977 : BitVec 32) (k0_hw38 : k0_chk38 v977), (Rect.unit (s := S1568x512) (k0_off171 v977) S32x128.size (k0_off171_inb v977 k0_hw38)).PackedRows (EltTy.packing .bf16) := fun v977 k0_hw38 => k0_hw38.2.2.2.2.2.2.2.2 (k0_off171_inb v977 k0_hw38)

def k0_mult39 (v1029 : BitVec 32) : BitVec 32 :=
  v1029

def k0_mult40 (v1031 : BitVec 32) : BitVec 32 :=
  v1031

def k0_off172 (v1029 : BitVec 32) : Fin 2 → Nat :=
  let v1030 : BitVec 32 := v1029
  let v1033 : Index := Scalar.indexCast v1030
  let c0_302 : Index := 0#32
  ![v1033.toNat, 0]
def k0_off173 (v1029 : BitVec 32) : Fin 2 → Nat :=
  let v1030 : BitVec 32 := v1029
  let v1039 : Index := Scalar.indexCast v1030
  let c0_305 : Index := 0#32
  ![v1039.toNat, 0]
def k0_off174 (v1031 : BitVec 32) : Fin 2 → Nat :=
  let v1032 : BitVec 32 := v1031
  let v1046 : Index := Scalar.indexCast v1032
  let c0_307 : Index := 0#32
  ![v1046.toNat, 0]
def k0_off175 (v1029 : BitVec 32) : Fin 2 → Nat :=
  let v1030 : BitVec 32 := v1029
  let v1050 : Index := Scalar.indexCast v1030
  let c128_308 : Index := 128#32
  ![v1050.toNat, 128]
def k0_off176 (v1031 : BitVec 32) : Fin 2 → Nat :=
  let v1032 : BitVec 32 := v1031
  let v1057 : Index := Scalar.indexCast v1032
  let c128_310 : Index := 128#32
  ![v1057.toNat, 128]
def k0_off177 (v1029 : BitVec 32) : Fin 2 → Nat :=
  let v1030 : BitVec 32 := v1029
  let v1061 : Index := Scalar.indexCast v1030
  let c256_311 : Index := 256#32
  ![v1061.toNat, 256]
def k0_off178 (v1031 : BitVec 32) : Fin 2 → Nat :=
  let v1032 : BitVec 32 := v1031
  let v1068 : Index := Scalar.indexCast v1032
  let c256_313 : Index := 256#32
  ![v1068.toNat, 256]
def k0_off179 (v1029 : BitVec 32) : Fin 2 → Nat :=
  let v1030 : BitVec 32 := v1029
  let v1072 : Index := Scalar.indexCast v1030
  let c384_314 : Index := 384#32
  ![v1072.toNat, 384]

def k0_chk39 (v1029 : BitVec 32) : Prop :=
  (32 ∣ (k0_mult39 v1029).toNat) ∧
  (∀ a, (k0_off172 v1029) a + S32x128.size a ≤ S1536x128.size a) ∧
  (∀ a, (k0_off173 v1029) a + S32x128.size a ≤ S1536x512.size a) ∧
  (∀ a, (k0_off175 v1029) a + S32x128.size a ≤ S1536x512.size a) ∧
  (∀ a, (k0_off177 v1029) a + S32x128.size a ≤ S1536x512.size a) ∧
  (∀ a, (k0_off179 v1029) a + S32x128.size a ≤ S1536x512.size a)
theorem k0_mult39_dvd : ∀ (v1029 : BitVec 32) (k0_hw39 : k0_chk39 v1029), 32 ∣ (k0_mult39 v1029).toNat := fun v1029 k0_hw39 => k0_hw39.1
theorem k0_off172_inb : ∀ (v1029 : BitVec 32) (k0_hw39 : k0_chk39 v1029), ∀ a, (k0_off172 v1029) a + S32x128.size a ≤ S1536x128.size a := fun v1029 k0_hw39 => k0_hw39.2.1
theorem k0_off173_inb : ∀ (v1029 : BitVec 32) (k0_hw39 : k0_chk39 v1029), ∀ a, (k0_off173 v1029) a + S32x128.size a ≤ S1536x512.size a := fun v1029 k0_hw39 => k0_hw39.2.2.1
theorem k0_off175_inb : ∀ (v1029 : BitVec 32) (k0_hw39 : k0_chk39 v1029), ∀ a, (k0_off175 v1029) a + S32x128.size a ≤ S1536x512.size a := fun v1029 k0_hw39 => k0_hw39.2.2.2.1
theorem k0_off177_inb : ∀ (v1029 : BitVec 32) (k0_hw39 : k0_chk39 v1029), ∀ a, (k0_off177 v1029) a + S32x128.size a ≤ S1536x512.size a := fun v1029 k0_hw39 => k0_hw39.2.2.2.2.1
theorem k0_off179_inb : ∀ (v1029 : BitVec 32) (k0_hw39 : k0_chk39 v1029), ∀ a, (k0_off179 v1029) a + S32x128.size a ≤ S1536x512.size a := fun v1029 k0_hw39 => k0_hw39.2.2.2.2.2

def k0_off180 (v1031 : BitVec 32) : Fin 2 → Nat :=
  let v1032 : BitVec 32 := v1031
  let v1079 : Index := Scalar.indexCast v1032
  let c384_316 : Index := 384#32
  ![v1079.toNat, 384]

def k0_chk40 (v1031 : BitVec 32) : Prop :=
  (16 ∣ (k0_mult40 v1031).toNat) ∧
  (∀ a, (k0_off174 v1031) a + S32x128.size a ≤ S1568x512.size a) ∧
  (∀ (hinb : ∀ a, (k0_off174 v1031) a + S32x128.size a ≤ S1568x512.size a), (Rect.unit (s := S1568x512) (k0_off174 v1031) S32x128.size hinb).PackedRows (EltTy.packing .bf16)) ∧
  (∀ a, (k0_off176 v1031) a + S32x128.size a ≤ S1568x512.size a) ∧
  (∀ (hinb : ∀ a, (k0_off176 v1031) a + S32x128.size a ≤ S1568x512.size a), (Rect.unit (s := S1568x512) (k0_off176 v1031) S32x128.size hinb).PackedRows (EltTy.packing .bf16)) ∧
  (∀ a, (k0_off178 v1031) a + S32x128.size a ≤ S1568x512.size a) ∧
  (∀ (hinb : ∀ a, (k0_off178 v1031) a + S32x128.size a ≤ S1568x512.size a), (Rect.unit (s := S1568x512) (k0_off178 v1031) S32x128.size hinb).PackedRows (EltTy.packing .bf16)) ∧
  (∀ a, (k0_off180 v1031) a + S32x128.size a ≤ S1568x512.size a) ∧
  (∀ (hinb : ∀ a, (k0_off180 v1031) a + S32x128.size a ≤ S1568x512.size a), (Rect.unit (s := S1568x512) (k0_off180 v1031) S32x128.size hinb).PackedRows (EltTy.packing .bf16))
theorem k0_mult40_dvd : ∀ (v1031 : BitVec 32) (k0_hw40 : k0_chk40 v1031), 16 ∣ (k0_mult40 v1031).toNat := fun v1031 k0_hw40 => k0_hw40.1
theorem k0_off174_inb : ∀ (v1031 : BitVec 32) (k0_hw40 : k0_chk40 v1031), ∀ a, (k0_off174 v1031) a + S32x128.size a ≤ S1568x512.size a := fun v1031 k0_hw40 => k0_hw40.2.1
theorem k0_off174_packedbf16 : ∀ (v1031 : BitVec 32) (k0_hw40 : k0_chk40 v1031), (Rect.unit (s := S1568x512) (k0_off174 v1031) S32x128.size (k0_off174_inb v1031 k0_hw40)).PackedRows (EltTy.packing .bf16) := fun v1031 k0_hw40 => k0_hw40.2.2.1 (k0_off174_inb v1031 k0_hw40)
theorem k0_off176_inb : ∀ (v1031 : BitVec 32) (k0_hw40 : k0_chk40 v1031), ∀ a, (k0_off176 v1031) a + S32x128.size a ≤ S1568x512.size a := fun v1031 k0_hw40 => k0_hw40.2.2.2.1
theorem k0_off176_packedbf16 : ∀ (v1031 : BitVec 32) (k0_hw40 : k0_chk40 v1031), (Rect.unit (s := S1568x512) (k0_off176 v1031) S32x128.size (k0_off176_inb v1031 k0_hw40)).PackedRows (EltTy.packing .bf16) := fun v1031 k0_hw40 => k0_hw40.2.2.2.2.1 (k0_off176_inb v1031 k0_hw40)
theorem k0_off178_inb : ∀ (v1031 : BitVec 32) (k0_hw40 : k0_chk40 v1031), ∀ a, (k0_off178 v1031) a + S32x128.size a ≤ S1568x512.size a := fun v1031 k0_hw40 => k0_hw40.2.2.2.2.2.1
theorem k0_off178_packedbf16 : ∀ (v1031 : BitVec 32) (k0_hw40 : k0_chk40 v1031), (Rect.unit (s := S1568x512) (k0_off178 v1031) S32x128.size (k0_off178_inb v1031 k0_hw40)).PackedRows (EltTy.packing .bf16) := fun v1031 k0_hw40 => k0_hw40.2.2.2.2.2.2.1 (k0_off178_inb v1031 k0_hw40)
theorem k0_off180_inb : ∀ (v1031 : BitVec 32) (k0_hw40 : k0_chk40 v1031), ∀ a, (k0_off180 v1031) a + S32x128.size a ≤ S1568x512.size a := fun v1031 k0_hw40 => k0_hw40.2.2.2.2.2.2.2.1
theorem k0_off180_packedbf16 : ∀ (v1031 : BitVec 32) (k0_hw40 : k0_chk40 v1031), (Rect.unit (s := S1568x512) (k0_off180 v1031) S32x128.size (k0_off180_inb v1031 k0_hw40)).PackedRows (EltTy.packing .bf16) := fun v1031 k0_hw40 => k0_hw40.2.2.2.2.2.2.2.2 (k0_off180_inb v1031 k0_hw40)

def k0_mult41 (v1083 : BitVec 32) : BitVec 32 :=
  v1083

def k0_mult42 (v1085 : BitVec 32) : BitVec 32 :=
  v1085

def k0_off181 (v1083 : BitVec 32) : Fin 2 → Nat :=
  let v1084 : BitVec 32 := v1083
  let v1087 : Index := Scalar.indexCast v1084
  let c0_318 : Index := 0#32
  ![v1087.toNat, 0]
def k0_off182 (v1083 : BitVec 32) : Fin 2 → Nat :=
  let v1084 : BitVec 32 := v1083
  let v1093 : Index := Scalar.indexCast v1084
  let c0_321 : Index := 0#32
  ![v1093.toNat, 0]
def k0_off183 (v1085 : BitVec 32) : Fin 2 → Nat :=
  let v1086 : BitVec 32 := v1085
  let v1100 : Index := Scalar.indexCast v1086
  let c0_323 : Index := 0#32
  ![v1100.toNat, 0]
def k0_off184 (v1083 : BitVec 32) : Fin 2 → Nat :=
  let v1084 : BitVec 32 := v1083
  let v1104 : Index := Scalar.indexCast v1084
  let c128_324 : Index := 128#32
  ![v1104.toNat, 128]
def k0_off185 (v1085 : BitVec 32) : Fin 2 → Nat :=
  let v1086 : BitVec 32 := v1085
  let v1111 : Index := Scalar.indexCast v1086
  let c128_326 : Index := 128#32
  ![v1111.toNat, 128]
def k0_off186 (v1083 : BitVec 32) : Fin 2 → Nat :=
  let v1084 : BitVec 32 := v1083
  let v1115 : Index := Scalar.indexCast v1084
  let c256_327 : Index := 256#32
  ![v1115.toNat, 256]
def k0_off187 (v1085 : BitVec 32) : Fin 2 → Nat :=
  let v1086 : BitVec 32 := v1085
  let v1122 : Index := Scalar.indexCast v1086
  let c256_329 : Index := 256#32
  ![v1122.toNat, 256]
def k0_off188 (v1083 : BitVec 32) : Fin 2 → Nat :=
  let v1084 : BitVec 32 := v1083
  let v1126 : Index := Scalar.indexCast v1084
  let c384_330 : Index := 384#32
  ![v1126.toNat, 384]

def k0_chk41 (v1083 : BitVec 32) : Prop :=
  (32 ∣ (k0_mult41 v1083).toNat) ∧
  (∀ a, (k0_off181 v1083) a + S32x128.size a ≤ S1536x128.size a) ∧
  (∀ a, (k0_off182 v1083) a + S32x128.size a ≤ S1536x512.size a) ∧
  (∀ a, (k0_off184 v1083) a + S32x128.size a ≤ S1536x512.size a) ∧
  (∀ a, (k0_off186 v1083) a + S32x128.size a ≤ S1536x512.size a) ∧
  (∀ a, (k0_off188 v1083) a + S32x128.size a ≤ S1536x512.size a)
theorem k0_mult41_dvd : ∀ (v1083 : BitVec 32) (k0_hw41 : k0_chk41 v1083), 32 ∣ (k0_mult41 v1083).toNat := fun v1083 k0_hw41 => k0_hw41.1
theorem k0_off181_inb : ∀ (v1083 : BitVec 32) (k0_hw41 : k0_chk41 v1083), ∀ a, (k0_off181 v1083) a + S32x128.size a ≤ S1536x128.size a := fun v1083 k0_hw41 => k0_hw41.2.1
theorem k0_off182_inb : ∀ (v1083 : BitVec 32) (k0_hw41 : k0_chk41 v1083), ∀ a, (k0_off182 v1083) a + S32x128.size a ≤ S1536x512.size a := fun v1083 k0_hw41 => k0_hw41.2.2.1
theorem k0_off184_inb : ∀ (v1083 : BitVec 32) (k0_hw41 : k0_chk41 v1083), ∀ a, (k0_off184 v1083) a + S32x128.size a ≤ S1536x512.size a := fun v1083 k0_hw41 => k0_hw41.2.2.2.1
theorem k0_off186_inb : ∀ (v1083 : BitVec 32) (k0_hw41 : k0_chk41 v1083), ∀ a, (k0_off186 v1083) a + S32x128.size a ≤ S1536x512.size a := fun v1083 k0_hw41 => k0_hw41.2.2.2.2.1
theorem k0_off188_inb : ∀ (v1083 : BitVec 32) (k0_hw41 : k0_chk41 v1083), ∀ a, (k0_off188 v1083) a + S32x128.size a ≤ S1536x512.size a := fun v1083 k0_hw41 => k0_hw41.2.2.2.2.2

def k0_off189 (v1085 : BitVec 32) : Fin 2 → Nat :=
  let v1086 : BitVec 32 := v1085
  let v1133 : Index := Scalar.indexCast v1086
  let c384_332 : Index := 384#32
  ![v1133.toNat, 384]

def k0_chk42 (v1085 : BitVec 32) : Prop :=
  (16 ∣ (k0_mult42 v1085).toNat) ∧
  (∀ a, (k0_off183 v1085) a + S32x128.size a ≤ S1568x512.size a) ∧
  (∀ (hinb : ∀ a, (k0_off183 v1085) a + S32x128.size a ≤ S1568x512.size a), (Rect.unit (s := S1568x512) (k0_off183 v1085) S32x128.size hinb).PackedRows (EltTy.packing .bf16)) ∧
  (∀ a, (k0_off185 v1085) a + S32x128.size a ≤ S1568x512.size a) ∧
  (∀ (hinb : ∀ a, (k0_off185 v1085) a + S32x128.size a ≤ S1568x512.size a), (Rect.unit (s := S1568x512) (k0_off185 v1085) S32x128.size hinb).PackedRows (EltTy.packing .bf16)) ∧
  (∀ a, (k0_off187 v1085) a + S32x128.size a ≤ S1568x512.size a) ∧
  (∀ (hinb : ∀ a, (k0_off187 v1085) a + S32x128.size a ≤ S1568x512.size a), (Rect.unit (s := S1568x512) (k0_off187 v1085) S32x128.size hinb).PackedRows (EltTy.packing .bf16)) ∧
  (∀ a, (k0_off189 v1085) a + S32x128.size a ≤ S1568x512.size a) ∧
  (∀ (hinb : ∀ a, (k0_off189 v1085) a + S32x128.size a ≤ S1568x512.size a), (Rect.unit (s := S1568x512) (k0_off189 v1085) S32x128.size hinb).PackedRows (EltTy.packing .bf16))
theorem k0_mult42_dvd : ∀ (v1085 : BitVec 32) (k0_hw42 : k0_chk42 v1085), 16 ∣ (k0_mult42 v1085).toNat := fun v1085 k0_hw42 => k0_hw42.1
theorem k0_off183_inb : ∀ (v1085 : BitVec 32) (k0_hw42 : k0_chk42 v1085), ∀ a, (k0_off183 v1085) a + S32x128.size a ≤ S1568x512.size a := fun v1085 k0_hw42 => k0_hw42.2.1
theorem k0_off183_packedbf16 : ∀ (v1085 : BitVec 32) (k0_hw42 : k0_chk42 v1085), (Rect.unit (s := S1568x512) (k0_off183 v1085) S32x128.size (k0_off183_inb v1085 k0_hw42)).PackedRows (EltTy.packing .bf16) := fun v1085 k0_hw42 => k0_hw42.2.2.1 (k0_off183_inb v1085 k0_hw42)
theorem k0_off185_inb : ∀ (v1085 : BitVec 32) (k0_hw42 : k0_chk42 v1085), ∀ a, (k0_off185 v1085) a + S32x128.size a ≤ S1568x512.size a := fun v1085 k0_hw42 => k0_hw42.2.2.2.1
theorem k0_off185_packedbf16 : ∀ (v1085 : BitVec 32) (k0_hw42 : k0_chk42 v1085), (Rect.unit (s := S1568x512) (k0_off185 v1085) S32x128.size (k0_off185_inb v1085 k0_hw42)).PackedRows (EltTy.packing .bf16) := fun v1085 k0_hw42 => k0_hw42.2.2.2.2.1 (k0_off185_inb v1085 k0_hw42)
theorem k0_off187_inb : ∀ (v1085 : BitVec 32) (k0_hw42 : k0_chk42 v1085), ∀ a, (k0_off187 v1085) a + S32x128.size a ≤ S1568x512.size a := fun v1085 k0_hw42 => k0_hw42.2.2.2.2.2.1
theorem k0_off187_packedbf16 : ∀ (v1085 : BitVec 32) (k0_hw42 : k0_chk42 v1085), (Rect.unit (s := S1568x512) (k0_off187 v1085) S32x128.size (k0_off187_inb v1085 k0_hw42)).PackedRows (EltTy.packing .bf16) := fun v1085 k0_hw42 => k0_hw42.2.2.2.2.2.2.1 (k0_off187_inb v1085 k0_hw42)
theorem k0_off189_inb : ∀ (v1085 : BitVec 32) (k0_hw42 : k0_chk42 v1085), ∀ a, (k0_off189 v1085) a + S32x128.size a ≤ S1568x512.size a := fun v1085 k0_hw42 => k0_hw42.2.2.2.2.2.2.2.1
theorem k0_off189_packedbf16 : ∀ (v1085 : BitVec 32) (k0_hw42 : k0_chk42 v1085), (Rect.unit (s := S1568x512) (k0_off189 v1085) S32x128.size (k0_off189_inb v1085 k0_hw42)).PackedRows (EltTy.packing .bf16) := fun v1085 k0_hw42 => k0_hw42.2.2.2.2.2.2.2.2 (k0_off189_inb v1085 k0_hw42)

def k0_mult43 (v1137 : BitVec 32) : BitVec 32 :=
  v1137

def k0_mult44 (v1139 : BitVec 32) : BitVec 32 :=
  v1139

def k0_off190 (v1137 : BitVec 32) : Fin 2 → Nat :=
  let v1138 : BitVec 32 := v1137
  let v1141 : Index := Scalar.indexCast v1138
  let c0_334 : Index := 0#32
  ![v1141.toNat, 0]
def k0_off191 (v1137 : BitVec 32) : Fin 2 → Nat :=
  let v1138 : BitVec 32 := v1137
  let v1147 : Index := Scalar.indexCast v1138
  let c0_337 : Index := 0#32
  ![v1147.toNat, 0]
def k0_off192 (v1139 : BitVec 32) : Fin 2 → Nat :=
  let v1140 : BitVec 32 := v1139
  let v1154 : Index := Scalar.indexCast v1140
  let c0_339 : Index := 0#32
  ![v1154.toNat, 0]
def k0_off193 (v1137 : BitVec 32) : Fin 2 → Nat :=
  let v1138 : BitVec 32 := v1137
  let v1158 : Index := Scalar.indexCast v1138
  let c128_340 : Index := 128#32
  ![v1158.toNat, 128]
def k0_off194 (v1139 : BitVec 32) : Fin 2 → Nat :=
  let v1140 : BitVec 32 := v1139
  let v1165 : Index := Scalar.indexCast v1140
  let c128_342 : Index := 128#32
  ![v1165.toNat, 128]
def k0_off195 (v1137 : BitVec 32) : Fin 2 → Nat :=
  let v1138 : BitVec 32 := v1137
  let v1169 : Index := Scalar.indexCast v1138
  let c256_343 : Index := 256#32
  ![v1169.toNat, 256]
def k0_off196 (v1139 : BitVec 32) : Fin 2 → Nat :=
  let v1140 : BitVec 32 := v1139
  let v1176 : Index := Scalar.indexCast v1140
  let c256_345 : Index := 256#32
  ![v1176.toNat, 256]
def k0_off197 (v1137 : BitVec 32) : Fin 2 → Nat :=
  let v1138 : BitVec 32 := v1137
  let v1180 : Index := Scalar.indexCast v1138
  let c384_346 : Index := 384#32
  ![v1180.toNat, 384]

def k0_chk43 (v1137 : BitVec 32) : Prop :=
  (32 ∣ (k0_mult43 v1137).toNat) ∧
  (∀ a, (k0_off190 v1137) a + S32x128.size a ≤ S1536x128.size a) ∧
  (∀ a, (k0_off191 v1137) a + S32x128.size a ≤ S1536x512.size a) ∧
  (∀ a, (k0_off193 v1137) a + S32x128.size a ≤ S1536x512.size a) ∧
  (∀ a, (k0_off195 v1137) a + S32x128.size a ≤ S1536x512.size a) ∧
  (∀ a, (k0_off197 v1137) a + S32x128.size a ≤ S1536x512.size a)
theorem k0_mult43_dvd : ∀ (v1137 : BitVec 32) (k0_hw43 : k0_chk43 v1137), 32 ∣ (k0_mult43 v1137).toNat := fun v1137 k0_hw43 => k0_hw43.1
theorem k0_off190_inb : ∀ (v1137 : BitVec 32) (k0_hw43 : k0_chk43 v1137), ∀ a, (k0_off190 v1137) a + S32x128.size a ≤ S1536x128.size a := fun v1137 k0_hw43 => k0_hw43.2.1
theorem k0_off191_inb : ∀ (v1137 : BitVec 32) (k0_hw43 : k0_chk43 v1137), ∀ a, (k0_off191 v1137) a + S32x128.size a ≤ S1536x512.size a := fun v1137 k0_hw43 => k0_hw43.2.2.1
theorem k0_off193_inb : ∀ (v1137 : BitVec 32) (k0_hw43 : k0_chk43 v1137), ∀ a, (k0_off193 v1137) a + S32x128.size a ≤ S1536x512.size a := fun v1137 k0_hw43 => k0_hw43.2.2.2.1
theorem k0_off195_inb : ∀ (v1137 : BitVec 32) (k0_hw43 : k0_chk43 v1137), ∀ a, (k0_off195 v1137) a + S32x128.size a ≤ S1536x512.size a := fun v1137 k0_hw43 => k0_hw43.2.2.2.2.1
theorem k0_off197_inb : ∀ (v1137 : BitVec 32) (k0_hw43 : k0_chk43 v1137), ∀ a, (k0_off197 v1137) a + S32x128.size a ≤ S1536x512.size a := fun v1137 k0_hw43 => k0_hw43.2.2.2.2.2

def k0_off198 (v1139 : BitVec 32) : Fin 2 → Nat :=
  let v1140 : BitVec 32 := v1139
  let v1187 : Index := Scalar.indexCast v1140
  let c384_348 : Index := 384#32
  ![v1187.toNat, 384]

def k0_chk44 (v1139 : BitVec 32) : Prop :=
  (16 ∣ (k0_mult44 v1139).toNat) ∧
  (∀ a, (k0_off192 v1139) a + S32x128.size a ≤ S1568x512.size a) ∧
  (∀ (hinb : ∀ a, (k0_off192 v1139) a + S32x128.size a ≤ S1568x512.size a), (Rect.unit (s := S1568x512) (k0_off192 v1139) S32x128.size hinb).PackedRows (EltTy.packing .bf16)) ∧
  (∀ a, (k0_off194 v1139) a + S32x128.size a ≤ S1568x512.size a) ∧
  (∀ (hinb : ∀ a, (k0_off194 v1139) a + S32x128.size a ≤ S1568x512.size a), (Rect.unit (s := S1568x512) (k0_off194 v1139) S32x128.size hinb).PackedRows (EltTy.packing .bf16)) ∧
  (∀ a, (k0_off196 v1139) a + S32x128.size a ≤ S1568x512.size a) ∧
  (∀ (hinb : ∀ a, (k0_off196 v1139) a + S32x128.size a ≤ S1568x512.size a), (Rect.unit (s := S1568x512) (k0_off196 v1139) S32x128.size hinb).PackedRows (EltTy.packing .bf16)) ∧
  (∀ a, (k0_off198 v1139) a + S32x128.size a ≤ S1568x512.size a) ∧
  (∀ (hinb : ∀ a, (k0_off198 v1139) a + S32x128.size a ≤ S1568x512.size a), (Rect.unit (s := S1568x512) (k0_off198 v1139) S32x128.size hinb).PackedRows (EltTy.packing .bf16))
theorem k0_mult44_dvd : ∀ (v1139 : BitVec 32) (k0_hw44 : k0_chk44 v1139), 16 ∣ (k0_mult44 v1139).toNat := fun v1139 k0_hw44 => k0_hw44.1
theorem k0_off192_inb : ∀ (v1139 : BitVec 32) (k0_hw44 : k0_chk44 v1139), ∀ a, (k0_off192 v1139) a + S32x128.size a ≤ S1568x512.size a := fun v1139 k0_hw44 => k0_hw44.2.1
theorem k0_off192_packedbf16 : ∀ (v1139 : BitVec 32) (k0_hw44 : k0_chk44 v1139), (Rect.unit (s := S1568x512) (k0_off192 v1139) S32x128.size (k0_off192_inb v1139 k0_hw44)).PackedRows (EltTy.packing .bf16) := fun v1139 k0_hw44 => k0_hw44.2.2.1 (k0_off192_inb v1139 k0_hw44)
theorem k0_off194_inb : ∀ (v1139 : BitVec 32) (k0_hw44 : k0_chk44 v1139), ∀ a, (k0_off194 v1139) a + S32x128.size a ≤ S1568x512.size a := fun v1139 k0_hw44 => k0_hw44.2.2.2.1
theorem k0_off194_packedbf16 : ∀ (v1139 : BitVec 32) (k0_hw44 : k0_chk44 v1139), (Rect.unit (s := S1568x512) (k0_off194 v1139) S32x128.size (k0_off194_inb v1139 k0_hw44)).PackedRows (EltTy.packing .bf16) := fun v1139 k0_hw44 => k0_hw44.2.2.2.2.1 (k0_off194_inb v1139 k0_hw44)
theorem k0_off196_inb : ∀ (v1139 : BitVec 32) (k0_hw44 : k0_chk44 v1139), ∀ a, (k0_off196 v1139) a + S32x128.size a ≤ S1568x512.size a := fun v1139 k0_hw44 => k0_hw44.2.2.2.2.2.1
theorem k0_off196_packedbf16 : ∀ (v1139 : BitVec 32) (k0_hw44 : k0_chk44 v1139), (Rect.unit (s := S1568x512) (k0_off196 v1139) S32x128.size (k0_off196_inb v1139 k0_hw44)).PackedRows (EltTy.packing .bf16) := fun v1139 k0_hw44 => k0_hw44.2.2.2.2.2.2.1 (k0_off196_inb v1139 k0_hw44)
theorem k0_off198_inb : ∀ (v1139 : BitVec 32) (k0_hw44 : k0_chk44 v1139), ∀ a, (k0_off198 v1139) a + S32x128.size a ≤ S1568x512.size a := fun v1139 k0_hw44 => k0_hw44.2.2.2.2.2.2.2.1
theorem k0_off198_packedbf16 : ∀ (v1139 : BitVec 32) (k0_hw44 : k0_chk44 v1139), (Rect.unit (s := S1568x512) (k0_off198 v1139) S32x128.size (k0_off198_inb v1139 k0_hw44)).PackedRows (EltTy.packing .bf16) := fun v1139 k0_hw44 => k0_hw44.2.2.2.2.2.2.2.2 (k0_off198_inb v1139 k0_hw44)

def k0_mult45 (v1191 : BitVec 32) : BitVec 32 :=
  v1191

def k0_mult46 (v1193 : BitVec 32) : BitVec 32 :=
  v1193

def k0_off199 (v1191 : BitVec 32) : Fin 2 → Nat :=
  let v1192 : BitVec 32 := v1191
  let v1195 : Index := Scalar.indexCast v1192
  let c0_350 : Index := 0#32
  ![v1195.toNat, 0]
def k0_off200 (v1191 : BitVec 32) : Fin 2 → Nat :=
  let v1192 : BitVec 32 := v1191
  let v1201 : Index := Scalar.indexCast v1192
  let c0_353 : Index := 0#32
  ![v1201.toNat, 0]
def k0_off201 (v1193 : BitVec 32) : Fin 2 → Nat :=
  let v1194 : BitVec 32 := v1193
  let v1208 : Index := Scalar.indexCast v1194
  let c0_355 : Index := 0#32
  ![v1208.toNat, 0]
def k0_off202 (v1191 : BitVec 32) : Fin 2 → Nat :=
  let v1192 : BitVec 32 := v1191
  let v1212 : Index := Scalar.indexCast v1192
  let c128_356 : Index := 128#32
  ![v1212.toNat, 128]
def k0_off203 (v1193 : BitVec 32) : Fin 2 → Nat :=
  let v1194 : BitVec 32 := v1193
  let v1219 : Index := Scalar.indexCast v1194
  let c128_358 : Index := 128#32
  ![v1219.toNat, 128]
def k0_off204 (v1191 : BitVec 32) : Fin 2 → Nat :=
  let v1192 : BitVec 32 := v1191
  let v1223 : Index := Scalar.indexCast v1192
  let c256_359 : Index := 256#32
  ![v1223.toNat, 256]
def k0_off205 (v1193 : BitVec 32) : Fin 2 → Nat :=
  let v1194 : BitVec 32 := v1193
  let v1230 : Index := Scalar.indexCast v1194
  let c256_361 : Index := 256#32
  ![v1230.toNat, 256]
def k0_off206 (v1191 : BitVec 32) : Fin 2 → Nat :=
  let v1192 : BitVec 32 := v1191
  let v1234 : Index := Scalar.indexCast v1192
  let c384_362 : Index := 384#32
  ![v1234.toNat, 384]

def k0_chk45 (v1191 : BitVec 32) : Prop :=
  (32 ∣ (k0_mult45 v1191).toNat) ∧
  (∀ a, (k0_off199 v1191) a + S32x128.size a ≤ S1536x128.size a) ∧
  (∀ a, (k0_off200 v1191) a + S32x128.size a ≤ S1536x512.size a) ∧
  (∀ a, (k0_off202 v1191) a + S32x128.size a ≤ S1536x512.size a) ∧
  (∀ a, (k0_off204 v1191) a + S32x128.size a ≤ S1536x512.size a) ∧
  (∀ a, (k0_off206 v1191) a + S32x128.size a ≤ S1536x512.size a)
theorem k0_mult45_dvd : ∀ (v1191 : BitVec 32) (k0_hw45 : k0_chk45 v1191), 32 ∣ (k0_mult45 v1191).toNat := fun v1191 k0_hw45 => k0_hw45.1
theorem k0_off199_inb : ∀ (v1191 : BitVec 32) (k0_hw45 : k0_chk45 v1191), ∀ a, (k0_off199 v1191) a + S32x128.size a ≤ S1536x128.size a := fun v1191 k0_hw45 => k0_hw45.2.1
theorem k0_off200_inb : ∀ (v1191 : BitVec 32) (k0_hw45 : k0_chk45 v1191), ∀ a, (k0_off200 v1191) a + S32x128.size a ≤ S1536x512.size a := fun v1191 k0_hw45 => k0_hw45.2.2.1
theorem k0_off202_inb : ∀ (v1191 : BitVec 32) (k0_hw45 : k0_chk45 v1191), ∀ a, (k0_off202 v1191) a + S32x128.size a ≤ S1536x512.size a := fun v1191 k0_hw45 => k0_hw45.2.2.2.1
theorem k0_off204_inb : ∀ (v1191 : BitVec 32) (k0_hw45 : k0_chk45 v1191), ∀ a, (k0_off204 v1191) a + S32x128.size a ≤ S1536x512.size a := fun v1191 k0_hw45 => k0_hw45.2.2.2.2.1
theorem k0_off206_inb : ∀ (v1191 : BitVec 32) (k0_hw45 : k0_chk45 v1191), ∀ a, (k0_off206 v1191) a + S32x128.size a ≤ S1536x512.size a := fun v1191 k0_hw45 => k0_hw45.2.2.2.2.2

def k0_off207 (v1193 : BitVec 32) : Fin 2 → Nat :=
  let v1194 : BitVec 32 := v1193
  let v1241 : Index := Scalar.indexCast v1194
  let c384_364 : Index := 384#32
  ![v1241.toNat, 384]

def k0_chk46 (v1193 : BitVec 32) : Prop :=
  (16 ∣ (k0_mult46 v1193).toNat) ∧
  (∀ a, (k0_off201 v1193) a + S32x128.size a ≤ S1568x512.size a) ∧
  (∀ (hinb : ∀ a, (k0_off201 v1193) a + S32x128.size a ≤ S1568x512.size a), (Rect.unit (s := S1568x512) (k0_off201 v1193) S32x128.size hinb).PackedRows (EltTy.packing .bf16)) ∧
  (∀ a, (k0_off203 v1193) a + S32x128.size a ≤ S1568x512.size a) ∧
  (∀ (hinb : ∀ a, (k0_off203 v1193) a + S32x128.size a ≤ S1568x512.size a), (Rect.unit (s := S1568x512) (k0_off203 v1193) S32x128.size hinb).PackedRows (EltTy.packing .bf16)) ∧
  (∀ a, (k0_off205 v1193) a + S32x128.size a ≤ S1568x512.size a) ∧
  (∀ (hinb : ∀ a, (k0_off205 v1193) a + S32x128.size a ≤ S1568x512.size a), (Rect.unit (s := S1568x512) (k0_off205 v1193) S32x128.size hinb).PackedRows (EltTy.packing .bf16)) ∧
  (∀ a, (k0_off207 v1193) a + S32x128.size a ≤ S1568x512.size a) ∧
  (∀ (hinb : ∀ a, (k0_off207 v1193) a + S32x128.size a ≤ S1568x512.size a), (Rect.unit (s := S1568x512) (k0_off207 v1193) S32x128.size hinb).PackedRows (EltTy.packing .bf16))
theorem k0_mult46_dvd : ∀ (v1193 : BitVec 32) (k0_hw46 : k0_chk46 v1193), 16 ∣ (k0_mult46 v1193).toNat := fun v1193 k0_hw46 => k0_hw46.1
theorem k0_off201_inb : ∀ (v1193 : BitVec 32) (k0_hw46 : k0_chk46 v1193), ∀ a, (k0_off201 v1193) a + S32x128.size a ≤ S1568x512.size a := fun v1193 k0_hw46 => k0_hw46.2.1
theorem k0_off201_packedbf16 : ∀ (v1193 : BitVec 32) (k0_hw46 : k0_chk46 v1193), (Rect.unit (s := S1568x512) (k0_off201 v1193) S32x128.size (k0_off201_inb v1193 k0_hw46)).PackedRows (EltTy.packing .bf16) := fun v1193 k0_hw46 => k0_hw46.2.2.1 (k0_off201_inb v1193 k0_hw46)
theorem k0_off203_inb : ∀ (v1193 : BitVec 32) (k0_hw46 : k0_chk46 v1193), ∀ a, (k0_off203 v1193) a + S32x128.size a ≤ S1568x512.size a := fun v1193 k0_hw46 => k0_hw46.2.2.2.1
theorem k0_off203_packedbf16 : ∀ (v1193 : BitVec 32) (k0_hw46 : k0_chk46 v1193), (Rect.unit (s := S1568x512) (k0_off203 v1193) S32x128.size (k0_off203_inb v1193 k0_hw46)).PackedRows (EltTy.packing .bf16) := fun v1193 k0_hw46 => k0_hw46.2.2.2.2.1 (k0_off203_inb v1193 k0_hw46)
theorem k0_off205_inb : ∀ (v1193 : BitVec 32) (k0_hw46 : k0_chk46 v1193), ∀ a, (k0_off205 v1193) a + S32x128.size a ≤ S1568x512.size a := fun v1193 k0_hw46 => k0_hw46.2.2.2.2.2.1
theorem k0_off205_packedbf16 : ∀ (v1193 : BitVec 32) (k0_hw46 : k0_chk46 v1193), (Rect.unit (s := S1568x512) (k0_off205 v1193) S32x128.size (k0_off205_inb v1193 k0_hw46)).PackedRows (EltTy.packing .bf16) := fun v1193 k0_hw46 => k0_hw46.2.2.2.2.2.2.1 (k0_off205_inb v1193 k0_hw46)
theorem k0_off207_inb : ∀ (v1193 : BitVec 32) (k0_hw46 : k0_chk46 v1193), ∀ a, (k0_off207 v1193) a + S32x128.size a ≤ S1568x512.size a := fun v1193 k0_hw46 => k0_hw46.2.2.2.2.2.2.2.1
theorem k0_off207_packedbf16 : ∀ (v1193 : BitVec 32) (k0_hw46 : k0_chk46 v1193), (Rect.unit (s := S1568x512) (k0_off207 v1193) S32x128.size (k0_off207_inb v1193 k0_hw46)).PackedRows (EltTy.packing .bf16) := fun v1193 k0_hw46 => k0_hw46.2.2.2.2.2.2.2.2 (k0_off207_inb v1193 k0_hw46)

def k0_mult47 (v1245 : BitVec 32) : BitVec 32 :=
  v1245

def k0_mult48 (v1247 : BitVec 32) : BitVec 32 :=
  v1247

def k0_off208 (v1245 : BitVec 32) : Fin 2 → Nat :=
  let v1246 : BitVec 32 := v1245
  let v1249 : Index := Scalar.indexCast v1246
  let c0_366 : Index := 0#32
  ![v1249.toNat, 0]
def k0_off209 (v1245 : BitVec 32) : Fin 2 → Nat :=
  let v1246 : BitVec 32 := v1245
  let v1255 : Index := Scalar.indexCast v1246
  let c0_369 : Index := 0#32
  ![v1255.toNat, 0]
def k0_off210 (v1247 : BitVec 32) : Fin 2 → Nat :=
  let v1248 : BitVec 32 := v1247
  let v1262 : Index := Scalar.indexCast v1248
  let c0_371 : Index := 0#32
  ![v1262.toNat, 0]
def k0_off211 (v1245 : BitVec 32) : Fin 2 → Nat :=
  let v1246 : BitVec 32 := v1245
  let v1266 : Index := Scalar.indexCast v1246
  let c128_372 : Index := 128#32
  ![v1266.toNat, 128]
def k0_off212 (v1247 : BitVec 32) : Fin 2 → Nat :=
  let v1248 : BitVec 32 := v1247
  let v1273 : Index := Scalar.indexCast v1248
  let c128_374 : Index := 128#32
  ![v1273.toNat, 128]
def k0_off213 (v1245 : BitVec 32) : Fin 2 → Nat :=
  let v1246 : BitVec 32 := v1245
  let v1277 : Index := Scalar.indexCast v1246
  let c256_375 : Index := 256#32
  ![v1277.toNat, 256]
def k0_off214 (v1247 : BitVec 32) : Fin 2 → Nat :=
  let v1248 : BitVec 32 := v1247
  let v1284 : Index := Scalar.indexCast v1248
  let c256_377 : Index := 256#32
  ![v1284.toNat, 256]
def k0_off215 (v1245 : BitVec 32) : Fin 2 → Nat :=
  let v1246 : BitVec 32 := v1245
  let v1288 : Index := Scalar.indexCast v1246
  let c384_378 : Index := 384#32
  ![v1288.toNat, 384]

def k0_chk47 (v1245 : BitVec 32) : Prop :=
  (32 ∣ (k0_mult47 v1245).toNat) ∧
  (∀ a, (k0_off208 v1245) a + S32x128.size a ≤ S1536x128.size a) ∧
  (∀ a, (k0_off209 v1245) a + S32x128.size a ≤ S1536x512.size a) ∧
  (∀ a, (k0_off211 v1245) a + S32x128.size a ≤ S1536x512.size a) ∧
  (∀ a, (k0_off213 v1245) a + S32x128.size a ≤ S1536x512.size a) ∧
  (∀ a, (k0_off215 v1245) a + S32x128.size a ≤ S1536x512.size a)
theorem k0_mult47_dvd : ∀ (v1245 : BitVec 32) (k0_hw47 : k0_chk47 v1245), 32 ∣ (k0_mult47 v1245).toNat := fun v1245 k0_hw47 => k0_hw47.1
theorem k0_off208_inb : ∀ (v1245 : BitVec 32) (k0_hw47 : k0_chk47 v1245), ∀ a, (k0_off208 v1245) a + S32x128.size a ≤ S1536x128.size a := fun v1245 k0_hw47 => k0_hw47.2.1
theorem k0_off209_inb : ∀ (v1245 : BitVec 32) (k0_hw47 : k0_chk47 v1245), ∀ a, (k0_off209 v1245) a + S32x128.size a ≤ S1536x512.size a := fun v1245 k0_hw47 => k0_hw47.2.2.1
theorem k0_off211_inb : ∀ (v1245 : BitVec 32) (k0_hw47 : k0_chk47 v1245), ∀ a, (k0_off211 v1245) a + S32x128.size a ≤ S1536x512.size a := fun v1245 k0_hw47 => k0_hw47.2.2.2.1
theorem k0_off213_inb : ∀ (v1245 : BitVec 32) (k0_hw47 : k0_chk47 v1245), ∀ a, (k0_off213 v1245) a + S32x128.size a ≤ S1536x512.size a := fun v1245 k0_hw47 => k0_hw47.2.2.2.2.1
theorem k0_off215_inb : ∀ (v1245 : BitVec 32) (k0_hw47 : k0_chk47 v1245), ∀ a, (k0_off215 v1245) a + S32x128.size a ≤ S1536x512.size a := fun v1245 k0_hw47 => k0_hw47.2.2.2.2.2

def k0_off216 (v1247 : BitVec 32) : Fin 2 → Nat :=
  let v1248 : BitVec 32 := v1247
  let v1295 : Index := Scalar.indexCast v1248
  let c384_380 : Index := 384#32
  ![v1295.toNat, 384]

def k0_chk48 (v1247 : BitVec 32) : Prop :=
  (16 ∣ (k0_mult48 v1247).toNat) ∧
  (∀ a, (k0_off210 v1247) a + S32x128.size a ≤ S1568x512.size a) ∧
  (∀ (hinb : ∀ a, (k0_off210 v1247) a + S32x128.size a ≤ S1568x512.size a), (Rect.unit (s := S1568x512) (k0_off210 v1247) S32x128.size hinb).PackedRows (EltTy.packing .bf16)) ∧
  (∀ a, (k0_off212 v1247) a + S32x128.size a ≤ S1568x512.size a) ∧
  (∀ (hinb : ∀ a, (k0_off212 v1247) a + S32x128.size a ≤ S1568x512.size a), (Rect.unit (s := S1568x512) (k0_off212 v1247) S32x128.size hinb).PackedRows (EltTy.packing .bf16)) ∧
  (∀ a, (k0_off214 v1247) a + S32x128.size a ≤ S1568x512.size a) ∧
  (∀ (hinb : ∀ a, (k0_off214 v1247) a + S32x128.size a ≤ S1568x512.size a), (Rect.unit (s := S1568x512) (k0_off214 v1247) S32x128.size hinb).PackedRows (EltTy.packing .bf16)) ∧
  (∀ a, (k0_off216 v1247) a + S32x128.size a ≤ S1568x512.size a) ∧
  (∀ (hinb : ∀ a, (k0_off216 v1247) a + S32x128.size a ≤ S1568x512.size a), (Rect.unit (s := S1568x512) (k0_off216 v1247) S32x128.size hinb).PackedRows (EltTy.packing .bf16))
theorem k0_mult48_dvd : ∀ (v1247 : BitVec 32) (k0_hw48 : k0_chk48 v1247), 16 ∣ (k0_mult48 v1247).toNat := fun v1247 k0_hw48 => k0_hw48.1
theorem k0_off210_inb : ∀ (v1247 : BitVec 32) (k0_hw48 : k0_chk48 v1247), ∀ a, (k0_off210 v1247) a + S32x128.size a ≤ S1568x512.size a := fun v1247 k0_hw48 => k0_hw48.2.1
theorem k0_off210_packedbf16 : ∀ (v1247 : BitVec 32) (k0_hw48 : k0_chk48 v1247), (Rect.unit (s := S1568x512) (k0_off210 v1247) S32x128.size (k0_off210_inb v1247 k0_hw48)).PackedRows (EltTy.packing .bf16) := fun v1247 k0_hw48 => k0_hw48.2.2.1 (k0_off210_inb v1247 k0_hw48)
theorem k0_off212_inb : ∀ (v1247 : BitVec 32) (k0_hw48 : k0_chk48 v1247), ∀ a, (k0_off212 v1247) a + S32x128.size a ≤ S1568x512.size a := fun v1247 k0_hw48 => k0_hw48.2.2.2.1
theorem k0_off212_packedbf16 : ∀ (v1247 : BitVec 32) (k0_hw48 : k0_chk48 v1247), (Rect.unit (s := S1568x512) (k0_off212 v1247) S32x128.size (k0_off212_inb v1247 k0_hw48)).PackedRows (EltTy.packing .bf16) := fun v1247 k0_hw48 => k0_hw48.2.2.2.2.1 (k0_off212_inb v1247 k0_hw48)
theorem k0_off214_inb : ∀ (v1247 : BitVec 32) (k0_hw48 : k0_chk48 v1247), ∀ a, (k0_off214 v1247) a + S32x128.size a ≤ S1568x512.size a := fun v1247 k0_hw48 => k0_hw48.2.2.2.2.2.1
theorem k0_off214_packedbf16 : ∀ (v1247 : BitVec 32) (k0_hw48 : k0_chk48 v1247), (Rect.unit (s := S1568x512) (k0_off214 v1247) S32x128.size (k0_off214_inb v1247 k0_hw48)).PackedRows (EltTy.packing .bf16) := fun v1247 k0_hw48 => k0_hw48.2.2.2.2.2.2.1 (k0_off214_inb v1247 k0_hw48)
theorem k0_off216_inb : ∀ (v1247 : BitVec 32) (k0_hw48 : k0_chk48 v1247), ∀ a, (k0_off216 v1247) a + S32x128.size a ≤ S1568x512.size a := fun v1247 k0_hw48 => k0_hw48.2.2.2.2.2.2.2.1
theorem k0_off216_packedbf16 : ∀ (v1247 : BitVec 32) (k0_hw48 : k0_chk48 v1247), (Rect.unit (s := S1568x512) (k0_off216 v1247) S32x128.size (k0_off216_inb v1247 k0_hw48)).PackedRows (EltTy.packing .bf16) := fun v1247 k0_hw48 => k0_hw48.2.2.2.2.2.2.2.2 (k0_off216_inb v1247 k0_hw48)

def k0_mult49 (v1299 : BitVec 32) : BitVec 32 :=
  v1299

def k0_mult50 (v1301 : BitVec 32) : BitVec 32 :=
  v1301

def k0_off217 (v1299 : BitVec 32) : Fin 2 → Nat :=
  let v1300 : BitVec 32 := v1299
  let v1303 : Index := Scalar.indexCast v1300
  let c0_382 : Index := 0#32
  ![v1303.toNat, 0]
def k0_off218 (v1299 : BitVec 32) : Fin 2 → Nat :=
  let v1300 : BitVec 32 := v1299
  let v1309 : Index := Scalar.indexCast v1300
  let c0_385 : Index := 0#32
  ![v1309.toNat, 0]
def k0_off219 (v1301 : BitVec 32) : Fin 2 → Nat :=
  let v1302 : BitVec 32 := v1301
  let v1316 : Index := Scalar.indexCast v1302
  let c0_387 : Index := 0#32
  ![v1316.toNat, 0]
def k0_off220 (v1299 : BitVec 32) : Fin 2 → Nat :=
  let v1300 : BitVec 32 := v1299
  let v1320 : Index := Scalar.indexCast v1300
  let c128_388 : Index := 128#32
  ![v1320.toNat, 128]
def k0_off221 (v1301 : BitVec 32) : Fin 2 → Nat :=
  let v1302 : BitVec 32 := v1301
  let v1327 : Index := Scalar.indexCast v1302
  let c128_390 : Index := 128#32
  ![v1327.toNat, 128]
def k0_off222 (v1299 : BitVec 32) : Fin 2 → Nat :=
  let v1300 : BitVec 32 := v1299
  let v1331 : Index := Scalar.indexCast v1300
  let c256_391 : Index := 256#32
  ![v1331.toNat, 256]
def k0_off223 (v1301 : BitVec 32) : Fin 2 → Nat :=
  let v1302 : BitVec 32 := v1301
  let v1338 : Index := Scalar.indexCast v1302
  let c256_393 : Index := 256#32
  ![v1338.toNat, 256]
def k0_off224 (v1299 : BitVec 32) : Fin 2 → Nat :=
  let v1300 : BitVec 32 := v1299
  let v1342 : Index := Scalar.indexCast v1300
  let c384_394 : Index := 384#32
  ![v1342.toNat, 384]

def k0_chk49 (v1299 : BitVec 32) : Prop :=
  (32 ∣ (k0_mult49 v1299).toNat) ∧
  (∀ a, (k0_off217 v1299) a + S32x128.size a ≤ S1536x128.size a) ∧
  (∀ a, (k0_off218 v1299) a + S32x128.size a ≤ S1536x512.size a) ∧
  (∀ a, (k0_off220 v1299) a + S32x128.size a ≤ S1536x512.size a) ∧
  (∀ a, (k0_off222 v1299) a + S32x128.size a ≤ S1536x512.size a) ∧
  (∀ a, (k0_off224 v1299) a + S32x128.size a ≤ S1536x512.size a)
theorem k0_mult49_dvd : ∀ (v1299 : BitVec 32) (k0_hw49 : k0_chk49 v1299), 32 ∣ (k0_mult49 v1299).toNat := fun v1299 k0_hw49 => k0_hw49.1
theorem k0_off217_inb : ∀ (v1299 : BitVec 32) (k0_hw49 : k0_chk49 v1299), ∀ a, (k0_off217 v1299) a + S32x128.size a ≤ S1536x128.size a := fun v1299 k0_hw49 => k0_hw49.2.1
theorem k0_off218_inb : ∀ (v1299 : BitVec 32) (k0_hw49 : k0_chk49 v1299), ∀ a, (k0_off218 v1299) a + S32x128.size a ≤ S1536x512.size a := fun v1299 k0_hw49 => k0_hw49.2.2.1
theorem k0_off220_inb : ∀ (v1299 : BitVec 32) (k0_hw49 : k0_chk49 v1299), ∀ a, (k0_off220 v1299) a + S32x128.size a ≤ S1536x512.size a := fun v1299 k0_hw49 => k0_hw49.2.2.2.1
theorem k0_off222_inb : ∀ (v1299 : BitVec 32) (k0_hw49 : k0_chk49 v1299), ∀ a, (k0_off222 v1299) a + S32x128.size a ≤ S1536x512.size a := fun v1299 k0_hw49 => k0_hw49.2.2.2.2.1
theorem k0_off224_inb : ∀ (v1299 : BitVec 32) (k0_hw49 : k0_chk49 v1299), ∀ a, (k0_off224 v1299) a + S32x128.size a ≤ S1536x512.size a := fun v1299 k0_hw49 => k0_hw49.2.2.2.2.2

def k0_off225 (v1301 : BitVec 32) : Fin 2 → Nat :=
  let v1302 : BitVec 32 := v1301
  let v1349 : Index := Scalar.indexCast v1302
  let c384_396 : Index := 384#32
  ![v1349.toNat, 384]

def k0_chk50 (v1301 : BitVec 32) : Prop :=
  (16 ∣ (k0_mult50 v1301).toNat) ∧
  (∀ a, (k0_off219 v1301) a + S32x128.size a ≤ S1568x512.size a) ∧
  (∀ (hinb : ∀ a, (k0_off219 v1301) a + S32x128.size a ≤ S1568x512.size a), (Rect.unit (s := S1568x512) (k0_off219 v1301) S32x128.size hinb).PackedRows (EltTy.packing .bf16)) ∧
  (∀ a, (k0_off221 v1301) a + S32x128.size a ≤ S1568x512.size a) ∧
  (∀ (hinb : ∀ a, (k0_off221 v1301) a + S32x128.size a ≤ S1568x512.size a), (Rect.unit (s := S1568x512) (k0_off221 v1301) S32x128.size hinb).PackedRows (EltTy.packing .bf16)) ∧
  (∀ a, (k0_off223 v1301) a + S32x128.size a ≤ S1568x512.size a) ∧
  (∀ (hinb : ∀ a, (k0_off223 v1301) a + S32x128.size a ≤ S1568x512.size a), (Rect.unit (s := S1568x512) (k0_off223 v1301) S32x128.size hinb).PackedRows (EltTy.packing .bf16)) ∧
  (∀ a, (k0_off225 v1301) a + S32x128.size a ≤ S1568x512.size a) ∧
  (∀ (hinb : ∀ a, (k0_off225 v1301) a + S32x128.size a ≤ S1568x512.size a), (Rect.unit (s := S1568x512) (k0_off225 v1301) S32x128.size hinb).PackedRows (EltTy.packing .bf16))
theorem k0_mult50_dvd : ∀ (v1301 : BitVec 32) (k0_hw50 : k0_chk50 v1301), 16 ∣ (k0_mult50 v1301).toNat := fun v1301 k0_hw50 => k0_hw50.1
theorem k0_off219_inb : ∀ (v1301 : BitVec 32) (k0_hw50 : k0_chk50 v1301), ∀ a, (k0_off219 v1301) a + S32x128.size a ≤ S1568x512.size a := fun v1301 k0_hw50 => k0_hw50.2.1
theorem k0_off219_packedbf16 : ∀ (v1301 : BitVec 32) (k0_hw50 : k0_chk50 v1301), (Rect.unit (s := S1568x512) (k0_off219 v1301) S32x128.size (k0_off219_inb v1301 k0_hw50)).PackedRows (EltTy.packing .bf16) := fun v1301 k0_hw50 => k0_hw50.2.2.1 (k0_off219_inb v1301 k0_hw50)
theorem k0_off221_inb : ∀ (v1301 : BitVec 32) (k0_hw50 : k0_chk50 v1301), ∀ a, (k0_off221 v1301) a + S32x128.size a ≤ S1568x512.size a := fun v1301 k0_hw50 => k0_hw50.2.2.2.1
theorem k0_off221_packedbf16 : ∀ (v1301 : BitVec 32) (k0_hw50 : k0_chk50 v1301), (Rect.unit (s := S1568x512) (k0_off221 v1301) S32x128.size (k0_off221_inb v1301 k0_hw50)).PackedRows (EltTy.packing .bf16) := fun v1301 k0_hw50 => k0_hw50.2.2.2.2.1 (k0_off221_inb v1301 k0_hw50)
theorem k0_off223_inb : ∀ (v1301 : BitVec 32) (k0_hw50 : k0_chk50 v1301), ∀ a, (k0_off223 v1301) a + S32x128.size a ≤ S1568x512.size a := fun v1301 k0_hw50 => k0_hw50.2.2.2.2.2.1
theorem k0_off223_packedbf16 : ∀ (v1301 : BitVec 32) (k0_hw50 : k0_chk50 v1301), (Rect.unit (s := S1568x512) (k0_off223 v1301) S32x128.size (k0_off223_inb v1301 k0_hw50)).PackedRows (EltTy.packing .bf16) := fun v1301 k0_hw50 => k0_hw50.2.2.2.2.2.2.1 (k0_off223_inb v1301 k0_hw50)
theorem k0_off225_inb : ∀ (v1301 : BitVec 32) (k0_hw50 : k0_chk50 v1301), ∀ a, (k0_off225 v1301) a + S32x128.size a ≤ S1568x512.size a := fun v1301 k0_hw50 => k0_hw50.2.2.2.2.2.2.2.1
theorem k0_off225_packedbf16 : ∀ (v1301 : BitVec 32) (k0_hw50 : k0_chk50 v1301), (Rect.unit (s := S1568x512) (k0_off225 v1301) S32x128.size (k0_off225_inb v1301 k0_hw50)).PackedRows (EltTy.packing .bf16) := fun v1301 k0_hw50 => k0_hw50.2.2.2.2.2.2.2.2 (k0_off225_inb v1301 k0_hw50)

def k0_mult51 (v1353 : BitVec 32) : BitVec 32 :=
  v1353

def k0_mult52 (v1355 : BitVec 32) : BitVec 32 :=
  v1355

def k0_off226 (v1353 : BitVec 32) : Fin 2 → Nat :=
  let v1354 : BitVec 32 := v1353
  let v1357 : Index := Scalar.indexCast v1354
  let c0_398 : Index := 0#32
  ![v1357.toNat, 0]
def k0_off227 (v1353 : BitVec 32) : Fin 2 → Nat :=
  let v1354 : BitVec 32 := v1353
  let v1363 : Index := Scalar.indexCast v1354
  let c0_401 : Index := 0#32
  ![v1363.toNat, 0]
def k0_off228 (v1355 : BitVec 32) : Fin 2 → Nat :=
  let v1356 : BitVec 32 := v1355
  let v1370 : Index := Scalar.indexCast v1356
  let c0_403 : Index := 0#32
  ![v1370.toNat, 0]
def k0_off229 (v1353 : BitVec 32) : Fin 2 → Nat :=
  let v1354 : BitVec 32 := v1353
  let v1374 : Index := Scalar.indexCast v1354
  let c128_404 : Index := 128#32
  ![v1374.toNat, 128]
def k0_off230 (v1355 : BitVec 32) : Fin 2 → Nat :=
  let v1356 : BitVec 32 := v1355
  let v1381 : Index := Scalar.indexCast v1356
  let c128_406 : Index := 128#32
  ![v1381.toNat, 128]
def k0_off231 (v1353 : BitVec 32) : Fin 2 → Nat :=
  let v1354 : BitVec 32 := v1353
  let v1385 : Index := Scalar.indexCast v1354
  let c256_407 : Index := 256#32
  ![v1385.toNat, 256]
def k0_off232 (v1355 : BitVec 32) : Fin 2 → Nat :=
  let v1356 : BitVec 32 := v1355
  let v1392 : Index := Scalar.indexCast v1356
  let c256_409 : Index := 256#32
  ![v1392.toNat, 256]
def k0_off233 (v1353 : BitVec 32) : Fin 2 → Nat :=
  let v1354 : BitVec 32 := v1353
  let v1396 : Index := Scalar.indexCast v1354
  let c384_410 : Index := 384#32
  ![v1396.toNat, 384]

def k0_chk51 (v1353 : BitVec 32) : Prop :=
  (32 ∣ (k0_mult51 v1353).toNat) ∧
  (∀ a, (k0_off226 v1353) a + S32x128.size a ≤ S1536x128.size a) ∧
  (∀ a, (k0_off227 v1353) a + S32x128.size a ≤ S1536x512.size a) ∧
  (∀ a, (k0_off229 v1353) a + S32x128.size a ≤ S1536x512.size a) ∧
  (∀ a, (k0_off231 v1353) a + S32x128.size a ≤ S1536x512.size a) ∧
  (∀ a, (k0_off233 v1353) a + S32x128.size a ≤ S1536x512.size a)
theorem k0_mult51_dvd : ∀ (v1353 : BitVec 32) (k0_hw51 : k0_chk51 v1353), 32 ∣ (k0_mult51 v1353).toNat := fun v1353 k0_hw51 => k0_hw51.1
theorem k0_off226_inb : ∀ (v1353 : BitVec 32) (k0_hw51 : k0_chk51 v1353), ∀ a, (k0_off226 v1353) a + S32x128.size a ≤ S1536x128.size a := fun v1353 k0_hw51 => k0_hw51.2.1
theorem k0_off227_inb : ∀ (v1353 : BitVec 32) (k0_hw51 : k0_chk51 v1353), ∀ a, (k0_off227 v1353) a + S32x128.size a ≤ S1536x512.size a := fun v1353 k0_hw51 => k0_hw51.2.2.1
theorem k0_off229_inb : ∀ (v1353 : BitVec 32) (k0_hw51 : k0_chk51 v1353), ∀ a, (k0_off229 v1353) a + S32x128.size a ≤ S1536x512.size a := fun v1353 k0_hw51 => k0_hw51.2.2.2.1
theorem k0_off231_inb : ∀ (v1353 : BitVec 32) (k0_hw51 : k0_chk51 v1353), ∀ a, (k0_off231 v1353) a + S32x128.size a ≤ S1536x512.size a := fun v1353 k0_hw51 => k0_hw51.2.2.2.2.1
theorem k0_off233_inb : ∀ (v1353 : BitVec 32) (k0_hw51 : k0_chk51 v1353), ∀ a, (k0_off233 v1353) a + S32x128.size a ≤ S1536x512.size a := fun v1353 k0_hw51 => k0_hw51.2.2.2.2.2

def k0_off234 (v1355 : BitVec 32) : Fin 2 → Nat :=
  let v1356 : BitVec 32 := v1355
  let v1403 : Index := Scalar.indexCast v1356
  let c384_412 : Index := 384#32
  ![v1403.toNat, 384]

def k0_chk52 (v1355 : BitVec 32) : Prop :=
  (16 ∣ (k0_mult52 v1355).toNat) ∧
  (∀ a, (k0_off228 v1355) a + S32x128.size a ≤ S1568x512.size a) ∧
  (∀ (hinb : ∀ a, (k0_off228 v1355) a + S32x128.size a ≤ S1568x512.size a), (Rect.unit (s := S1568x512) (k0_off228 v1355) S32x128.size hinb).PackedRows (EltTy.packing .bf16)) ∧
  (∀ a, (k0_off230 v1355) a + S32x128.size a ≤ S1568x512.size a) ∧
  (∀ (hinb : ∀ a, (k0_off230 v1355) a + S32x128.size a ≤ S1568x512.size a), (Rect.unit (s := S1568x512) (k0_off230 v1355) S32x128.size hinb).PackedRows (EltTy.packing .bf16)) ∧
  (∀ a, (k0_off232 v1355) a + S32x128.size a ≤ S1568x512.size a) ∧
  (∀ (hinb : ∀ a, (k0_off232 v1355) a + S32x128.size a ≤ S1568x512.size a), (Rect.unit (s := S1568x512) (k0_off232 v1355) S32x128.size hinb).PackedRows (EltTy.packing .bf16)) ∧
  (∀ a, (k0_off234 v1355) a + S32x128.size a ≤ S1568x512.size a) ∧
  (∀ (hinb : ∀ a, (k0_off234 v1355) a + S32x128.size a ≤ S1568x512.size a), (Rect.unit (s := S1568x512) (k0_off234 v1355) S32x128.size hinb).PackedRows (EltTy.packing .bf16))
theorem k0_mult52_dvd : ∀ (v1355 : BitVec 32) (k0_hw52 : k0_chk52 v1355), 16 ∣ (k0_mult52 v1355).toNat := fun v1355 k0_hw52 => k0_hw52.1
theorem k0_off228_inb : ∀ (v1355 : BitVec 32) (k0_hw52 : k0_chk52 v1355), ∀ a, (k0_off228 v1355) a + S32x128.size a ≤ S1568x512.size a := fun v1355 k0_hw52 => k0_hw52.2.1
theorem k0_off228_packedbf16 : ∀ (v1355 : BitVec 32) (k0_hw52 : k0_chk52 v1355), (Rect.unit (s := S1568x512) (k0_off228 v1355) S32x128.size (k0_off228_inb v1355 k0_hw52)).PackedRows (EltTy.packing .bf16) := fun v1355 k0_hw52 => k0_hw52.2.2.1 (k0_off228_inb v1355 k0_hw52)
theorem k0_off230_inb : ∀ (v1355 : BitVec 32) (k0_hw52 : k0_chk52 v1355), ∀ a, (k0_off230 v1355) a + S32x128.size a ≤ S1568x512.size a := fun v1355 k0_hw52 => k0_hw52.2.2.2.1
theorem k0_off230_packedbf16 : ∀ (v1355 : BitVec 32) (k0_hw52 : k0_chk52 v1355), (Rect.unit (s := S1568x512) (k0_off230 v1355) S32x128.size (k0_off230_inb v1355 k0_hw52)).PackedRows (EltTy.packing .bf16) := fun v1355 k0_hw52 => k0_hw52.2.2.2.2.1 (k0_off230_inb v1355 k0_hw52)
theorem k0_off232_inb : ∀ (v1355 : BitVec 32) (k0_hw52 : k0_chk52 v1355), ∀ a, (k0_off232 v1355) a + S32x128.size a ≤ S1568x512.size a := fun v1355 k0_hw52 => k0_hw52.2.2.2.2.2.1
theorem k0_off232_packedbf16 : ∀ (v1355 : BitVec 32) (k0_hw52 : k0_chk52 v1355), (Rect.unit (s := S1568x512) (k0_off232 v1355) S32x128.size (k0_off232_inb v1355 k0_hw52)).PackedRows (EltTy.packing .bf16) := fun v1355 k0_hw52 => k0_hw52.2.2.2.2.2.2.1 (k0_off232_inb v1355 k0_hw52)
theorem k0_off234_inb : ∀ (v1355 : BitVec 32) (k0_hw52 : k0_chk52 v1355), ∀ a, (k0_off234 v1355) a + S32x128.size a ≤ S1568x512.size a := fun v1355 k0_hw52 => k0_hw52.2.2.2.2.2.2.2.1
theorem k0_off234_packedbf16 : ∀ (v1355 : BitVec 32) (k0_hw52 : k0_chk52 v1355), (Rect.unit (s := S1568x512) (k0_off234 v1355) S32x128.size (k0_off234_inb v1355 k0_hw52)).PackedRows (EltTy.packing .bf16) := fun v1355 k0_hw52 => k0_hw52.2.2.2.2.2.2.2.2 (k0_off234_inb v1355 k0_hw52)

def k0_mult53 (v1407 : BitVec 32) : BitVec 32 :=
  v1407

def k0_mult54 (v1409 : BitVec 32) : BitVec 32 :=
  v1409

def k0_off235 (v1407 : BitVec 32) : Fin 2 → Nat :=
  let v1408 : BitVec 32 := v1407
  let v1411 : Index := Scalar.indexCast v1408
  let c0_414 : Index := 0#32
  ![v1411.toNat, 0]
def k0_off236 (v1407 : BitVec 32) : Fin 2 → Nat :=
  let v1408 : BitVec 32 := v1407
  let v1417 : Index := Scalar.indexCast v1408
  let c0_417 : Index := 0#32
  ![v1417.toNat, 0]
def k0_off237 (v1409 : BitVec 32) : Fin 2 → Nat :=
  let v1410 : BitVec 32 := v1409
  let v1424 : Index := Scalar.indexCast v1410
  let c0_419 : Index := 0#32
  ![v1424.toNat, 0]
def k0_off238 (v1407 : BitVec 32) : Fin 2 → Nat :=
  let v1408 : BitVec 32 := v1407
  let v1428 : Index := Scalar.indexCast v1408
  let c128_420 : Index := 128#32
  ![v1428.toNat, 128]
def k0_off239 (v1409 : BitVec 32) : Fin 2 → Nat :=
  let v1410 : BitVec 32 := v1409
  let v1435 : Index := Scalar.indexCast v1410
  let c128_422 : Index := 128#32
  ![v1435.toNat, 128]
def k0_off240 (v1407 : BitVec 32) : Fin 2 → Nat :=
  let v1408 : BitVec 32 := v1407
  let v1439 : Index := Scalar.indexCast v1408
  let c256_423 : Index := 256#32
  ![v1439.toNat, 256]
def k0_off241 (v1409 : BitVec 32) : Fin 2 → Nat :=
  let v1410 : BitVec 32 := v1409
  let v1446 : Index := Scalar.indexCast v1410
  let c256_425 : Index := 256#32
  ![v1446.toNat, 256]
def k0_off242 (v1407 : BitVec 32) : Fin 2 → Nat :=
  let v1408 : BitVec 32 := v1407
  let v1450 : Index := Scalar.indexCast v1408
  let c384_426 : Index := 384#32
  ![v1450.toNat, 384]

def k0_chk53 (v1407 : BitVec 32) : Prop :=
  (32 ∣ (k0_mult53 v1407).toNat) ∧
  (∀ a, (k0_off235 v1407) a + S32x128.size a ≤ S1536x128.size a) ∧
  (∀ a, (k0_off236 v1407) a + S32x128.size a ≤ S1536x512.size a) ∧
  (∀ a, (k0_off238 v1407) a + S32x128.size a ≤ S1536x512.size a) ∧
  (∀ a, (k0_off240 v1407) a + S32x128.size a ≤ S1536x512.size a) ∧
  (∀ a, (k0_off242 v1407) a + S32x128.size a ≤ S1536x512.size a)
theorem k0_mult53_dvd : ∀ (v1407 : BitVec 32) (k0_hw53 : k0_chk53 v1407), 32 ∣ (k0_mult53 v1407).toNat := fun v1407 k0_hw53 => k0_hw53.1
theorem k0_off235_inb : ∀ (v1407 : BitVec 32) (k0_hw53 : k0_chk53 v1407), ∀ a, (k0_off235 v1407) a + S32x128.size a ≤ S1536x128.size a := fun v1407 k0_hw53 => k0_hw53.2.1
theorem k0_off236_inb : ∀ (v1407 : BitVec 32) (k0_hw53 : k0_chk53 v1407), ∀ a, (k0_off236 v1407) a + S32x128.size a ≤ S1536x512.size a := fun v1407 k0_hw53 => k0_hw53.2.2.1
theorem k0_off238_inb : ∀ (v1407 : BitVec 32) (k0_hw53 : k0_chk53 v1407), ∀ a, (k0_off238 v1407) a + S32x128.size a ≤ S1536x512.size a := fun v1407 k0_hw53 => k0_hw53.2.2.2.1
theorem k0_off240_inb : ∀ (v1407 : BitVec 32) (k0_hw53 : k0_chk53 v1407), ∀ a, (k0_off240 v1407) a + S32x128.size a ≤ S1536x512.size a := fun v1407 k0_hw53 => k0_hw53.2.2.2.2.1
theorem k0_off242_inb : ∀ (v1407 : BitVec 32) (k0_hw53 : k0_chk53 v1407), ∀ a, (k0_off242 v1407) a + S32x128.size a ≤ S1536x512.size a := fun v1407 k0_hw53 => k0_hw53.2.2.2.2.2

def k0_off243 (v1409 : BitVec 32) : Fin 2 → Nat :=
  let v1410 : BitVec 32 := v1409
  let v1457 : Index := Scalar.indexCast v1410
  let c384_428 : Index := 384#32
  ![v1457.toNat, 384]

def k0_chk54 (v1409 : BitVec 32) : Prop :=
  (16 ∣ (k0_mult54 v1409).toNat) ∧
  (∀ a, (k0_off237 v1409) a + S32x128.size a ≤ S1568x512.size a) ∧
  (∀ (hinb : ∀ a, (k0_off237 v1409) a + S32x128.size a ≤ S1568x512.size a), (Rect.unit (s := S1568x512) (k0_off237 v1409) S32x128.size hinb).PackedRows (EltTy.packing .bf16)) ∧
  (∀ a, (k0_off239 v1409) a + S32x128.size a ≤ S1568x512.size a) ∧
  (∀ (hinb : ∀ a, (k0_off239 v1409) a + S32x128.size a ≤ S1568x512.size a), (Rect.unit (s := S1568x512) (k0_off239 v1409) S32x128.size hinb).PackedRows (EltTy.packing .bf16)) ∧
  (∀ a, (k0_off241 v1409) a + S32x128.size a ≤ S1568x512.size a) ∧
  (∀ (hinb : ∀ a, (k0_off241 v1409) a + S32x128.size a ≤ S1568x512.size a), (Rect.unit (s := S1568x512) (k0_off241 v1409) S32x128.size hinb).PackedRows (EltTy.packing .bf16)) ∧
  (∀ a, (k0_off243 v1409) a + S32x128.size a ≤ S1568x512.size a) ∧
  (∀ (hinb : ∀ a, (k0_off243 v1409) a + S32x128.size a ≤ S1568x512.size a), (Rect.unit (s := S1568x512) (k0_off243 v1409) S32x128.size hinb).PackedRows (EltTy.packing .bf16))
theorem k0_mult54_dvd : ∀ (v1409 : BitVec 32) (k0_hw54 : k0_chk54 v1409), 16 ∣ (k0_mult54 v1409).toNat := fun v1409 k0_hw54 => k0_hw54.1
theorem k0_off237_inb : ∀ (v1409 : BitVec 32) (k0_hw54 : k0_chk54 v1409), ∀ a, (k0_off237 v1409) a + S32x128.size a ≤ S1568x512.size a := fun v1409 k0_hw54 => k0_hw54.2.1
theorem k0_off237_packedbf16 : ∀ (v1409 : BitVec 32) (k0_hw54 : k0_chk54 v1409), (Rect.unit (s := S1568x512) (k0_off237 v1409) S32x128.size (k0_off237_inb v1409 k0_hw54)).PackedRows (EltTy.packing .bf16) := fun v1409 k0_hw54 => k0_hw54.2.2.1 (k0_off237_inb v1409 k0_hw54)
theorem k0_off239_inb : ∀ (v1409 : BitVec 32) (k0_hw54 : k0_chk54 v1409), ∀ a, (k0_off239 v1409) a + S32x128.size a ≤ S1568x512.size a := fun v1409 k0_hw54 => k0_hw54.2.2.2.1
theorem k0_off239_packedbf16 : ∀ (v1409 : BitVec 32) (k0_hw54 : k0_chk54 v1409), (Rect.unit (s := S1568x512) (k0_off239 v1409) S32x128.size (k0_off239_inb v1409 k0_hw54)).PackedRows (EltTy.packing .bf16) := fun v1409 k0_hw54 => k0_hw54.2.2.2.2.1 (k0_off239_inb v1409 k0_hw54)
theorem k0_off241_inb : ∀ (v1409 : BitVec 32) (k0_hw54 : k0_chk54 v1409), ∀ a, (k0_off241 v1409) a + S32x128.size a ≤ S1568x512.size a := fun v1409 k0_hw54 => k0_hw54.2.2.2.2.2.1
theorem k0_off241_packedbf16 : ∀ (v1409 : BitVec 32) (k0_hw54 : k0_chk54 v1409), (Rect.unit (s := S1568x512) (k0_off241 v1409) S32x128.size (k0_off241_inb v1409 k0_hw54)).PackedRows (EltTy.packing .bf16) := fun v1409 k0_hw54 => k0_hw54.2.2.2.2.2.2.1 (k0_off241_inb v1409 k0_hw54)
theorem k0_off243_inb : ∀ (v1409 : BitVec 32) (k0_hw54 : k0_chk54 v1409), ∀ a, (k0_off243 v1409) a + S32x128.size a ≤ S1568x512.size a := fun v1409 k0_hw54 => k0_hw54.2.2.2.2.2.2.2.1
theorem k0_off243_packedbf16 : ∀ (v1409 : BitVec 32) (k0_hw54 : k0_chk54 v1409), (Rect.unit (s := S1568x512) (k0_off243 v1409) S32x128.size (k0_off243_inb v1409 k0_hw54)).PackedRows (EltTy.packing .bf16) := fun v1409 k0_hw54 => k0_hw54.2.2.2.2.2.2.2.2 (k0_off243_inb v1409 k0_hw54)

def k0_mult55 (v1461 : BitVec 32) : BitVec 32 :=
  v1461

def k0_mult56 (v1463 : BitVec 32) : BitVec 32 :=
  v1463

def k0_off244 (v1461 : BitVec 32) : Fin 2 → Nat :=
  let v1462 : BitVec 32 := v1461
  let v1465 : Index := Scalar.indexCast v1462
  let c0_430 : Index := 0#32
  ![v1465.toNat, 0]
def k0_off245 (v1461 : BitVec 32) : Fin 2 → Nat :=
  let v1462 : BitVec 32 := v1461
  let v1471 : Index := Scalar.indexCast v1462
  let c0_433 : Index := 0#32
  ![v1471.toNat, 0]
def k0_off246 (v1463 : BitVec 32) : Fin 2 → Nat :=
  let v1464 : BitVec 32 := v1463
  let v1478 : Index := Scalar.indexCast v1464
  let c0_435 : Index := 0#32
  ![v1478.toNat, 0]
def k0_off247 (v1461 : BitVec 32) : Fin 2 → Nat :=
  let v1462 : BitVec 32 := v1461
  let v1482 : Index := Scalar.indexCast v1462
  let c128_436 : Index := 128#32
  ![v1482.toNat, 128]
def k0_off248 (v1463 : BitVec 32) : Fin 2 → Nat :=
  let v1464 : BitVec 32 := v1463
  let v1489 : Index := Scalar.indexCast v1464
  let c128_438 : Index := 128#32
  ![v1489.toNat, 128]
def k0_off249 (v1461 : BitVec 32) : Fin 2 → Nat :=
  let v1462 : BitVec 32 := v1461
  let v1493 : Index := Scalar.indexCast v1462
  let c256_439 : Index := 256#32
  ![v1493.toNat, 256]
def k0_off250 (v1463 : BitVec 32) : Fin 2 → Nat :=
  let v1464 : BitVec 32 := v1463
  let v1500 : Index := Scalar.indexCast v1464
  let c256_441 : Index := 256#32
  ![v1500.toNat, 256]
def k0_off251 (v1461 : BitVec 32) : Fin 2 → Nat :=
  let v1462 : BitVec 32 := v1461
  let v1504 : Index := Scalar.indexCast v1462
  let c384_442 : Index := 384#32
  ![v1504.toNat, 384]

def k0_chk55 (v1461 : BitVec 32) : Prop :=
  (32 ∣ (k0_mult55 v1461).toNat) ∧
  (∀ a, (k0_off244 v1461) a + S32x128.size a ≤ S1536x128.size a) ∧
  (∀ a, (k0_off245 v1461) a + S32x128.size a ≤ S1536x512.size a) ∧
  (∀ a, (k0_off247 v1461) a + S32x128.size a ≤ S1536x512.size a) ∧
  (∀ a, (k0_off249 v1461) a + S32x128.size a ≤ S1536x512.size a) ∧
  (∀ a, (k0_off251 v1461) a + S32x128.size a ≤ S1536x512.size a)
theorem k0_mult55_dvd : ∀ (v1461 : BitVec 32) (k0_hw55 : k0_chk55 v1461), 32 ∣ (k0_mult55 v1461).toNat := fun v1461 k0_hw55 => k0_hw55.1
theorem k0_off244_inb : ∀ (v1461 : BitVec 32) (k0_hw55 : k0_chk55 v1461), ∀ a, (k0_off244 v1461) a + S32x128.size a ≤ S1536x128.size a := fun v1461 k0_hw55 => k0_hw55.2.1
theorem k0_off245_inb : ∀ (v1461 : BitVec 32) (k0_hw55 : k0_chk55 v1461), ∀ a, (k0_off245 v1461) a + S32x128.size a ≤ S1536x512.size a := fun v1461 k0_hw55 => k0_hw55.2.2.1
theorem k0_off247_inb : ∀ (v1461 : BitVec 32) (k0_hw55 : k0_chk55 v1461), ∀ a, (k0_off247 v1461) a + S32x128.size a ≤ S1536x512.size a := fun v1461 k0_hw55 => k0_hw55.2.2.2.1
theorem k0_off249_inb : ∀ (v1461 : BitVec 32) (k0_hw55 : k0_chk55 v1461), ∀ a, (k0_off249 v1461) a + S32x128.size a ≤ S1536x512.size a := fun v1461 k0_hw55 => k0_hw55.2.2.2.2.1
theorem k0_off251_inb : ∀ (v1461 : BitVec 32) (k0_hw55 : k0_chk55 v1461), ∀ a, (k0_off251 v1461) a + S32x128.size a ≤ S1536x512.size a := fun v1461 k0_hw55 => k0_hw55.2.2.2.2.2

def k0_off252 (v1463 : BitVec 32) : Fin 2 → Nat :=
  let v1464 : BitVec 32 := v1463
  let v1511 : Index := Scalar.indexCast v1464
  let c384_444 : Index := 384#32
  ![v1511.toNat, 384]

def k0_chk56 (v1463 : BitVec 32) : Prop :=
  (16 ∣ (k0_mult56 v1463).toNat) ∧
  (∀ a, (k0_off246 v1463) a + S32x128.size a ≤ S1568x512.size a) ∧
  (∀ (hinb : ∀ a, (k0_off246 v1463) a + S32x128.size a ≤ S1568x512.size a), (Rect.unit (s := S1568x512) (k0_off246 v1463) S32x128.size hinb).PackedRows (EltTy.packing .bf16)) ∧
  (∀ a, (k0_off248 v1463) a + S32x128.size a ≤ S1568x512.size a) ∧
  (∀ (hinb : ∀ a, (k0_off248 v1463) a + S32x128.size a ≤ S1568x512.size a), (Rect.unit (s := S1568x512) (k0_off248 v1463) S32x128.size hinb).PackedRows (EltTy.packing .bf16)) ∧
  (∀ a, (k0_off250 v1463) a + S32x128.size a ≤ S1568x512.size a) ∧
  (∀ (hinb : ∀ a, (k0_off250 v1463) a + S32x128.size a ≤ S1568x512.size a), (Rect.unit (s := S1568x512) (k0_off250 v1463) S32x128.size hinb).PackedRows (EltTy.packing .bf16)) ∧
  (∀ a, (k0_off252 v1463) a + S32x128.size a ≤ S1568x512.size a) ∧
  (∀ (hinb : ∀ a, (k0_off252 v1463) a + S32x128.size a ≤ S1568x512.size a), (Rect.unit (s := S1568x512) (k0_off252 v1463) S32x128.size hinb).PackedRows (EltTy.packing .bf16))
theorem k0_mult56_dvd : ∀ (v1463 : BitVec 32) (k0_hw56 : k0_chk56 v1463), 16 ∣ (k0_mult56 v1463).toNat := fun v1463 k0_hw56 => k0_hw56.1
theorem k0_off246_inb : ∀ (v1463 : BitVec 32) (k0_hw56 : k0_chk56 v1463), ∀ a, (k0_off246 v1463) a + S32x128.size a ≤ S1568x512.size a := fun v1463 k0_hw56 => k0_hw56.2.1
theorem k0_off246_packedbf16 : ∀ (v1463 : BitVec 32) (k0_hw56 : k0_chk56 v1463), (Rect.unit (s := S1568x512) (k0_off246 v1463) S32x128.size (k0_off246_inb v1463 k0_hw56)).PackedRows (EltTy.packing .bf16) := fun v1463 k0_hw56 => k0_hw56.2.2.1 (k0_off246_inb v1463 k0_hw56)
theorem k0_off248_inb : ∀ (v1463 : BitVec 32) (k0_hw56 : k0_chk56 v1463), ∀ a, (k0_off248 v1463) a + S32x128.size a ≤ S1568x512.size a := fun v1463 k0_hw56 => k0_hw56.2.2.2.1
theorem k0_off248_packedbf16 : ∀ (v1463 : BitVec 32) (k0_hw56 : k0_chk56 v1463), (Rect.unit (s := S1568x512) (k0_off248 v1463) S32x128.size (k0_off248_inb v1463 k0_hw56)).PackedRows (EltTy.packing .bf16) := fun v1463 k0_hw56 => k0_hw56.2.2.2.2.1 (k0_off248_inb v1463 k0_hw56)
theorem k0_off250_inb : ∀ (v1463 : BitVec 32) (k0_hw56 : k0_chk56 v1463), ∀ a, (k0_off250 v1463) a + S32x128.size a ≤ S1568x512.size a := fun v1463 k0_hw56 => k0_hw56.2.2.2.2.2.1
theorem k0_off250_packedbf16 : ∀ (v1463 : BitVec 32) (k0_hw56 : k0_chk56 v1463), (Rect.unit (s := S1568x512) (k0_off250 v1463) S32x128.size (k0_off250_inb v1463 k0_hw56)).PackedRows (EltTy.packing .bf16) := fun v1463 k0_hw56 => k0_hw56.2.2.2.2.2.2.1 (k0_off250_inb v1463 k0_hw56)
theorem k0_off252_inb : ∀ (v1463 : BitVec 32) (k0_hw56 : k0_chk56 v1463), ∀ a, (k0_off252 v1463) a + S32x128.size a ≤ S1568x512.size a := fun v1463 k0_hw56 => k0_hw56.2.2.2.2.2.2.2.1
theorem k0_off252_packedbf16 : ∀ (v1463 : BitVec 32) (k0_hw56 : k0_chk56 v1463), (Rect.unit (s := S1568x512) (k0_off252 v1463) S32x128.size (k0_off252_inb v1463 k0_hw56)).PackedRows (EltTy.packing .bf16) := fun v1463 k0_hw56 => k0_hw56.2.2.2.2.2.2.2.2 (k0_off252_inb v1463 k0_hw56)

def k0_mult57 (v1515 : BitVec 32) : BitVec 32 :=
  v1515

def k0_mult58 (v1517 : BitVec 32) : BitVec 32 :=
  v1517

def k0_off253 (v1515 : BitVec 32) : Fin 2 → Nat :=
  let v1516 : BitVec 32 := v1515
  let v1519 : Index := Scalar.indexCast v1516
  let c0_446 : Index := 0#32
  ![v1519.toNat, 0]
def k0_off254 (v1515 : BitVec 32) : Fin 2 → Nat :=
  let v1516 : BitVec 32 := v1515
  let v1525 : Index := Scalar.indexCast v1516
  let c0_449 : Index := 0#32
  ![v1525.toNat, 0]
def k0_off255 (v1517 : BitVec 32) : Fin 2 → Nat :=
  let v1518 : BitVec 32 := v1517
  let v1532 : Index := Scalar.indexCast v1518
  let c0_451 : Index := 0#32
  ![v1532.toNat, 0]
def k0_off256 (v1515 : BitVec 32) : Fin 2 → Nat :=
  let v1516 : BitVec 32 := v1515
  let v1536 : Index := Scalar.indexCast v1516
  let c128_452 : Index := 128#32
  ![v1536.toNat, 128]
def k0_off257 (v1517 : BitVec 32) : Fin 2 → Nat :=
  let v1518 : BitVec 32 := v1517
  let v1543 : Index := Scalar.indexCast v1518
  let c128_454 : Index := 128#32
  ![v1543.toNat, 128]
def k0_off258 (v1515 : BitVec 32) : Fin 2 → Nat :=
  let v1516 : BitVec 32 := v1515
  let v1547 : Index := Scalar.indexCast v1516
  let c256_455 : Index := 256#32
  ![v1547.toNat, 256]
def k0_off259 (v1517 : BitVec 32) : Fin 2 → Nat :=
  let v1518 : BitVec 32 := v1517
  let v1554 : Index := Scalar.indexCast v1518
  let c256_457 : Index := 256#32
  ![v1554.toNat, 256]
def k0_off260 (v1515 : BitVec 32) : Fin 2 → Nat :=
  let v1516 : BitVec 32 := v1515
  let v1558 : Index := Scalar.indexCast v1516
  let c384_458 : Index := 384#32
  ![v1558.toNat, 384]

def k0_chk57 (v1515 : BitVec 32) : Prop :=
  (32 ∣ (k0_mult57 v1515).toNat) ∧
  (∀ a, (k0_off253 v1515) a + S32x128.size a ≤ S1536x128.size a) ∧
  (∀ a, (k0_off254 v1515) a + S32x128.size a ≤ S1536x512.size a) ∧
  (∀ a, (k0_off256 v1515) a + S32x128.size a ≤ S1536x512.size a) ∧
  (∀ a, (k0_off258 v1515) a + S32x128.size a ≤ S1536x512.size a) ∧
  (∀ a, (k0_off260 v1515) a + S32x128.size a ≤ S1536x512.size a)
theorem k0_mult57_dvd : ∀ (v1515 : BitVec 32) (k0_hw57 : k0_chk57 v1515), 32 ∣ (k0_mult57 v1515).toNat := fun v1515 k0_hw57 => k0_hw57.1
theorem k0_off253_inb : ∀ (v1515 : BitVec 32) (k0_hw57 : k0_chk57 v1515), ∀ a, (k0_off253 v1515) a + S32x128.size a ≤ S1536x128.size a := fun v1515 k0_hw57 => k0_hw57.2.1
theorem k0_off254_inb : ∀ (v1515 : BitVec 32) (k0_hw57 : k0_chk57 v1515), ∀ a, (k0_off254 v1515) a + S32x128.size a ≤ S1536x512.size a := fun v1515 k0_hw57 => k0_hw57.2.2.1
theorem k0_off256_inb : ∀ (v1515 : BitVec 32) (k0_hw57 : k0_chk57 v1515), ∀ a, (k0_off256 v1515) a + S32x128.size a ≤ S1536x512.size a := fun v1515 k0_hw57 => k0_hw57.2.2.2.1
theorem k0_off258_inb : ∀ (v1515 : BitVec 32) (k0_hw57 : k0_chk57 v1515), ∀ a, (k0_off258 v1515) a + S32x128.size a ≤ S1536x512.size a := fun v1515 k0_hw57 => k0_hw57.2.2.2.2.1
theorem k0_off260_inb : ∀ (v1515 : BitVec 32) (k0_hw57 : k0_chk57 v1515), ∀ a, (k0_off260 v1515) a + S32x128.size a ≤ S1536x512.size a := fun v1515 k0_hw57 => k0_hw57.2.2.2.2.2

def k0_off261 (v1517 : BitVec 32) : Fin 2 → Nat :=
  let v1518 : BitVec 32 := v1517
  let v1565 : Index := Scalar.indexCast v1518
  let c384_460 : Index := 384#32
  ![v1565.toNat, 384]

def k0_chk58 (v1517 : BitVec 32) : Prop :=
  (16 ∣ (k0_mult58 v1517).toNat) ∧
  (∀ a, (k0_off255 v1517) a + S32x128.size a ≤ S1568x512.size a) ∧
  (∀ (hinb : ∀ a, (k0_off255 v1517) a + S32x128.size a ≤ S1568x512.size a), (Rect.unit (s := S1568x512) (k0_off255 v1517) S32x128.size hinb).PackedRows (EltTy.packing .bf16)) ∧
  (∀ a, (k0_off257 v1517) a + S32x128.size a ≤ S1568x512.size a) ∧
  (∀ (hinb : ∀ a, (k0_off257 v1517) a + S32x128.size a ≤ S1568x512.size a), (Rect.unit (s := S1568x512) (k0_off257 v1517) S32x128.size hinb).PackedRows (EltTy.packing .bf16)) ∧
  (∀ a, (k0_off259 v1517) a + S32x128.size a ≤ S1568x512.size a) ∧
  (∀ (hinb : ∀ a, (k0_off259 v1517) a + S32x128.size a ≤ S1568x512.size a), (Rect.unit (s := S1568x512) (k0_off259 v1517) S32x128.size hinb).PackedRows (EltTy.packing .bf16)) ∧
  (∀ a, (k0_off261 v1517) a + S32x128.size a ≤ S1568x512.size a) ∧
  (∀ (hinb : ∀ a, (k0_off261 v1517) a + S32x128.size a ≤ S1568x512.size a), (Rect.unit (s := S1568x512) (k0_off261 v1517) S32x128.size hinb).PackedRows (EltTy.packing .bf16))
theorem k0_mult58_dvd : ∀ (v1517 : BitVec 32) (k0_hw58 : k0_chk58 v1517), 16 ∣ (k0_mult58 v1517).toNat := fun v1517 k0_hw58 => k0_hw58.1
theorem k0_off255_inb : ∀ (v1517 : BitVec 32) (k0_hw58 : k0_chk58 v1517), ∀ a, (k0_off255 v1517) a + S32x128.size a ≤ S1568x512.size a := fun v1517 k0_hw58 => k0_hw58.2.1
theorem k0_off255_packedbf16 : ∀ (v1517 : BitVec 32) (k0_hw58 : k0_chk58 v1517), (Rect.unit (s := S1568x512) (k0_off255 v1517) S32x128.size (k0_off255_inb v1517 k0_hw58)).PackedRows (EltTy.packing .bf16) := fun v1517 k0_hw58 => k0_hw58.2.2.1 (k0_off255_inb v1517 k0_hw58)
theorem k0_off257_inb : ∀ (v1517 : BitVec 32) (k0_hw58 : k0_chk58 v1517), ∀ a, (k0_off257 v1517) a + S32x128.size a ≤ S1568x512.size a := fun v1517 k0_hw58 => k0_hw58.2.2.2.1
theorem k0_off257_packedbf16 : ∀ (v1517 : BitVec 32) (k0_hw58 : k0_chk58 v1517), (Rect.unit (s := S1568x512) (k0_off257 v1517) S32x128.size (k0_off257_inb v1517 k0_hw58)).PackedRows (EltTy.packing .bf16) := fun v1517 k0_hw58 => k0_hw58.2.2.2.2.1 (k0_off257_inb v1517 k0_hw58)
theorem k0_off259_inb : ∀ (v1517 : BitVec 32) (k0_hw58 : k0_chk58 v1517), ∀ a, (k0_off259 v1517) a + S32x128.size a ≤ S1568x512.size a := fun v1517 k0_hw58 => k0_hw58.2.2.2.2.2.1
theorem k0_off259_packedbf16 : ∀ (v1517 : BitVec 32) (k0_hw58 : k0_chk58 v1517), (Rect.unit (s := S1568x512) (k0_off259 v1517) S32x128.size (k0_off259_inb v1517 k0_hw58)).PackedRows (EltTy.packing .bf16) := fun v1517 k0_hw58 => k0_hw58.2.2.2.2.2.2.1 (k0_off259_inb v1517 k0_hw58)
theorem k0_off261_inb : ∀ (v1517 : BitVec 32) (k0_hw58 : k0_chk58 v1517), ∀ a, (k0_off261 v1517) a + S32x128.size a ≤ S1568x512.size a := fun v1517 k0_hw58 => k0_hw58.2.2.2.2.2.2.2.1
theorem k0_off261_packedbf16 : ∀ (v1517 : BitVec 32) (k0_hw58 : k0_chk58 v1517), (Rect.unit (s := S1568x512) (k0_off261 v1517) S32x128.size (k0_off261_inb v1517 k0_hw58)).PackedRows (EltTy.packing .bf16) := fun v1517 k0_hw58 => k0_hw58.2.2.2.2.2.2.2.2 (k0_off261_inb v1517 k0_hw58)

def k0_mult59 (v1569 : BitVec 32) : BitVec 32 :=
  v1569

def k0_mult60 (v1571 : BitVec 32) : BitVec 32 :=
  v1571

def k0_off262 (v1569 : BitVec 32) : Fin 2 → Nat :=
  let v1570 : BitVec 32 := v1569
  let v1573 : Index := Scalar.indexCast v1570
  let c0_462 : Index := 0#32
  ![v1573.toNat, 0]
def k0_off263 (v1569 : BitVec 32) : Fin 2 → Nat :=
  let v1570 : BitVec 32 := v1569
  let v1579 : Index := Scalar.indexCast v1570
  let c0_465 : Index := 0#32
  ![v1579.toNat, 0]
def k0_off264 (v1571 : BitVec 32) : Fin 2 → Nat :=
  let v1572 : BitVec 32 := v1571
  let v1586 : Index := Scalar.indexCast v1572
  let c0_467 : Index := 0#32
  ![v1586.toNat, 0]
def k0_off265 (v1569 : BitVec 32) : Fin 2 → Nat :=
  let v1570 : BitVec 32 := v1569
  let v1590 : Index := Scalar.indexCast v1570
  let c128_468 : Index := 128#32
  ![v1590.toNat, 128]
def k0_off266 (v1571 : BitVec 32) : Fin 2 → Nat :=
  let v1572 : BitVec 32 := v1571
  let v1597 : Index := Scalar.indexCast v1572
  let c128_470 : Index := 128#32
  ![v1597.toNat, 128]
def k0_off267 (v1569 : BitVec 32) : Fin 2 → Nat :=
  let v1570 : BitVec 32 := v1569
  let v1601 : Index := Scalar.indexCast v1570
  let c256_471 : Index := 256#32
  ![v1601.toNat, 256]
def k0_off268 (v1571 : BitVec 32) : Fin 2 → Nat :=
  let v1572 : BitVec 32 := v1571
  let v1608 : Index := Scalar.indexCast v1572
  let c256_473 : Index := 256#32
  ![v1608.toNat, 256]
def k0_off269 (v1569 : BitVec 32) : Fin 2 → Nat :=
  let v1570 : BitVec 32 := v1569
  let v1612 : Index := Scalar.indexCast v1570
  let c384_474 : Index := 384#32
  ![v1612.toNat, 384]

def k0_chk59 (v1569 : BitVec 32) : Prop :=
  (32 ∣ (k0_mult59 v1569).toNat) ∧
  (∀ a, (k0_off262 v1569) a + S32x128.size a ≤ S1536x128.size a) ∧
  (∀ a, (k0_off263 v1569) a + S32x128.size a ≤ S1536x512.size a) ∧
  (∀ a, (k0_off265 v1569) a + S32x128.size a ≤ S1536x512.size a) ∧
  (∀ a, (k0_off267 v1569) a + S32x128.size a ≤ S1536x512.size a) ∧
  (∀ a, (k0_off269 v1569) a + S32x128.size a ≤ S1536x512.size a)
theorem k0_mult59_dvd : ∀ (v1569 : BitVec 32) (k0_hw59 : k0_chk59 v1569), 32 ∣ (k0_mult59 v1569).toNat := fun v1569 k0_hw59 => k0_hw59.1
theorem k0_off262_inb : ∀ (v1569 : BitVec 32) (k0_hw59 : k0_chk59 v1569), ∀ a, (k0_off262 v1569) a + S32x128.size a ≤ S1536x128.size a := fun v1569 k0_hw59 => k0_hw59.2.1
theorem k0_off263_inb : ∀ (v1569 : BitVec 32) (k0_hw59 : k0_chk59 v1569), ∀ a, (k0_off263 v1569) a + S32x128.size a ≤ S1536x512.size a := fun v1569 k0_hw59 => k0_hw59.2.2.1
theorem k0_off265_inb : ∀ (v1569 : BitVec 32) (k0_hw59 : k0_chk59 v1569), ∀ a, (k0_off265 v1569) a + S32x128.size a ≤ S1536x512.size a := fun v1569 k0_hw59 => k0_hw59.2.2.2.1
theorem k0_off267_inb : ∀ (v1569 : BitVec 32) (k0_hw59 : k0_chk59 v1569), ∀ a, (k0_off267 v1569) a + S32x128.size a ≤ S1536x512.size a := fun v1569 k0_hw59 => k0_hw59.2.2.2.2.1
theorem k0_off269_inb : ∀ (v1569 : BitVec 32) (k0_hw59 : k0_chk59 v1569), ∀ a, (k0_off269 v1569) a + S32x128.size a ≤ S1536x512.size a := fun v1569 k0_hw59 => k0_hw59.2.2.2.2.2

def k0_off270 (v1571 : BitVec 32) : Fin 2 → Nat :=
  let v1572 : BitVec 32 := v1571
  let v1619 : Index := Scalar.indexCast v1572
  let c384_476 : Index := 384#32
  ![v1619.toNat, 384]

def k0_chk60 (v1571 : BitVec 32) : Prop :=
  (16 ∣ (k0_mult60 v1571).toNat) ∧
  (∀ a, (k0_off264 v1571) a + S32x128.size a ≤ S1568x512.size a) ∧
  (∀ (hinb : ∀ a, (k0_off264 v1571) a + S32x128.size a ≤ S1568x512.size a), (Rect.unit (s := S1568x512) (k0_off264 v1571) S32x128.size hinb).PackedRows (EltTy.packing .bf16)) ∧
  (∀ a, (k0_off266 v1571) a + S32x128.size a ≤ S1568x512.size a) ∧
  (∀ (hinb : ∀ a, (k0_off266 v1571) a + S32x128.size a ≤ S1568x512.size a), (Rect.unit (s := S1568x512) (k0_off266 v1571) S32x128.size hinb).PackedRows (EltTy.packing .bf16)) ∧
  (∀ a, (k0_off268 v1571) a + S32x128.size a ≤ S1568x512.size a) ∧
  (∀ (hinb : ∀ a, (k0_off268 v1571) a + S32x128.size a ≤ S1568x512.size a), (Rect.unit (s := S1568x512) (k0_off268 v1571) S32x128.size hinb).PackedRows (EltTy.packing .bf16)) ∧
  (∀ a, (k0_off270 v1571) a + S32x128.size a ≤ S1568x512.size a) ∧
  (∀ (hinb : ∀ a, (k0_off270 v1571) a + S32x128.size a ≤ S1568x512.size a), (Rect.unit (s := S1568x512) (k0_off270 v1571) S32x128.size hinb).PackedRows (EltTy.packing .bf16))
theorem k0_mult60_dvd : ∀ (v1571 : BitVec 32) (k0_hw60 : k0_chk60 v1571), 16 ∣ (k0_mult60 v1571).toNat := fun v1571 k0_hw60 => k0_hw60.1
theorem k0_off264_inb : ∀ (v1571 : BitVec 32) (k0_hw60 : k0_chk60 v1571), ∀ a, (k0_off264 v1571) a + S32x128.size a ≤ S1568x512.size a := fun v1571 k0_hw60 => k0_hw60.2.1
theorem k0_off264_packedbf16 : ∀ (v1571 : BitVec 32) (k0_hw60 : k0_chk60 v1571), (Rect.unit (s := S1568x512) (k0_off264 v1571) S32x128.size (k0_off264_inb v1571 k0_hw60)).PackedRows (EltTy.packing .bf16) := fun v1571 k0_hw60 => k0_hw60.2.2.1 (k0_off264_inb v1571 k0_hw60)
theorem k0_off266_inb : ∀ (v1571 : BitVec 32) (k0_hw60 : k0_chk60 v1571), ∀ a, (k0_off266 v1571) a + S32x128.size a ≤ S1568x512.size a := fun v1571 k0_hw60 => k0_hw60.2.2.2.1
theorem k0_off266_packedbf16 : ∀ (v1571 : BitVec 32) (k0_hw60 : k0_chk60 v1571), (Rect.unit (s := S1568x512) (k0_off266 v1571) S32x128.size (k0_off266_inb v1571 k0_hw60)).PackedRows (EltTy.packing .bf16) := fun v1571 k0_hw60 => k0_hw60.2.2.2.2.1 (k0_off266_inb v1571 k0_hw60)
theorem k0_off268_inb : ∀ (v1571 : BitVec 32) (k0_hw60 : k0_chk60 v1571), ∀ a, (k0_off268 v1571) a + S32x128.size a ≤ S1568x512.size a := fun v1571 k0_hw60 => k0_hw60.2.2.2.2.2.1
theorem k0_off268_packedbf16 : ∀ (v1571 : BitVec 32) (k0_hw60 : k0_chk60 v1571), (Rect.unit (s := S1568x512) (k0_off268 v1571) S32x128.size (k0_off268_inb v1571 k0_hw60)).PackedRows (EltTy.packing .bf16) := fun v1571 k0_hw60 => k0_hw60.2.2.2.2.2.2.1 (k0_off268_inb v1571 k0_hw60)
theorem k0_off270_inb : ∀ (v1571 : BitVec 32) (k0_hw60 : k0_chk60 v1571), ∀ a, (k0_off270 v1571) a + S32x128.size a ≤ S1568x512.size a := fun v1571 k0_hw60 => k0_hw60.2.2.2.2.2.2.2.1
theorem k0_off270_packedbf16 : ∀ (v1571 : BitVec 32) (k0_hw60 : k0_chk60 v1571), (Rect.unit (s := S1568x512) (k0_off270 v1571) S32x128.size (k0_off270_inb v1571 k0_hw60)).PackedRows (EltTy.packing .bf16) := fun v1571 k0_hw60 => k0_hw60.2.2.2.2.2.2.2.2 (k0_off270_inb v1571 k0_hw60)

def k0_mult61 (v1623 : BitVec 32) : BitVec 32 :=
  v1623

def k0_mult62 (v1625 : BitVec 32) : BitVec 32 :=
  v1625

def k0_off271 (v1623 : BitVec 32) : Fin 2 → Nat :=
  let v1624 : BitVec 32 := v1623
  let v1627 : Index := Scalar.indexCast v1624
  let c0_478 : Index := 0#32
  ![v1627.toNat, 0]
def k0_off272 (v1623 : BitVec 32) : Fin 2 → Nat :=
  let v1624 : BitVec 32 := v1623
  let v1633 : Index := Scalar.indexCast v1624
  let c0_481 : Index := 0#32
  ![v1633.toNat, 0]
def k0_off273 (v1625 : BitVec 32) : Fin 2 → Nat :=
  let v1626 : BitVec 32 := v1625
  let v1640 : Index := Scalar.indexCast v1626
  let c0_483 : Index := 0#32
  ![v1640.toNat, 0]
def k0_off274 (v1623 : BitVec 32) : Fin 2 → Nat :=
  let v1624 : BitVec 32 := v1623
  let v1644 : Index := Scalar.indexCast v1624
  let c128_484 : Index := 128#32
  ![v1644.toNat, 128]
def k0_off275 (v1625 : BitVec 32) : Fin 2 → Nat :=
  let v1626 : BitVec 32 := v1625
  let v1651 : Index := Scalar.indexCast v1626
  let c128_486 : Index := 128#32
  ![v1651.toNat, 128]
def k0_off276 (v1623 : BitVec 32) : Fin 2 → Nat :=
  let v1624 : BitVec 32 := v1623
  let v1655 : Index := Scalar.indexCast v1624
  let c256_487 : Index := 256#32
  ![v1655.toNat, 256]
def k0_off277 (v1625 : BitVec 32) : Fin 2 → Nat :=
  let v1626 : BitVec 32 := v1625
  let v1662 : Index := Scalar.indexCast v1626
  let c256_489 : Index := 256#32
  ![v1662.toNat, 256]
def k0_off278 (v1623 : BitVec 32) : Fin 2 → Nat :=
  let v1624 : BitVec 32 := v1623
  let v1666 : Index := Scalar.indexCast v1624
  let c384_490 : Index := 384#32
  ![v1666.toNat, 384]

def k0_chk61 (v1623 : BitVec 32) : Prop :=
  (32 ∣ (k0_mult61 v1623).toNat) ∧
  (∀ a, (k0_off271 v1623) a + S32x128.size a ≤ S1536x128.size a) ∧
  (∀ a, (k0_off272 v1623) a + S32x128.size a ≤ S1536x512.size a) ∧
  (∀ a, (k0_off274 v1623) a + S32x128.size a ≤ S1536x512.size a) ∧
  (∀ a, (k0_off276 v1623) a + S32x128.size a ≤ S1536x512.size a) ∧
  (∀ a, (k0_off278 v1623) a + S32x128.size a ≤ S1536x512.size a)
theorem k0_mult61_dvd : ∀ (v1623 : BitVec 32) (k0_hw61 : k0_chk61 v1623), 32 ∣ (k0_mult61 v1623).toNat := fun v1623 k0_hw61 => k0_hw61.1
theorem k0_off271_inb : ∀ (v1623 : BitVec 32) (k0_hw61 : k0_chk61 v1623), ∀ a, (k0_off271 v1623) a + S32x128.size a ≤ S1536x128.size a := fun v1623 k0_hw61 => k0_hw61.2.1
theorem k0_off272_inb : ∀ (v1623 : BitVec 32) (k0_hw61 : k0_chk61 v1623), ∀ a, (k0_off272 v1623) a + S32x128.size a ≤ S1536x512.size a := fun v1623 k0_hw61 => k0_hw61.2.2.1
theorem k0_off274_inb : ∀ (v1623 : BitVec 32) (k0_hw61 : k0_chk61 v1623), ∀ a, (k0_off274 v1623) a + S32x128.size a ≤ S1536x512.size a := fun v1623 k0_hw61 => k0_hw61.2.2.2.1
theorem k0_off276_inb : ∀ (v1623 : BitVec 32) (k0_hw61 : k0_chk61 v1623), ∀ a, (k0_off276 v1623) a + S32x128.size a ≤ S1536x512.size a := fun v1623 k0_hw61 => k0_hw61.2.2.2.2.1
theorem k0_off278_inb : ∀ (v1623 : BitVec 32) (k0_hw61 : k0_chk61 v1623), ∀ a, (k0_off278 v1623) a + S32x128.size a ≤ S1536x512.size a := fun v1623 k0_hw61 => k0_hw61.2.2.2.2.2

def k0_off279 (v1625 : BitVec 32) : Fin 2 → Nat :=
  let v1626 : BitVec 32 := v1625
  let v1673 : Index := Scalar.indexCast v1626
  let c384_492 : Index := 384#32
  ![v1673.toNat, 384]

def k0_chk62 (v1625 : BitVec 32) : Prop :=
  (16 ∣ (k0_mult62 v1625).toNat) ∧
  (∀ a, (k0_off273 v1625) a + S32x128.size a ≤ S1568x512.size a) ∧
  (∀ (hinb : ∀ a, (k0_off273 v1625) a + S32x128.size a ≤ S1568x512.size a), (Rect.unit (s := S1568x512) (k0_off273 v1625) S32x128.size hinb).PackedRows (EltTy.packing .bf16)) ∧
  (∀ a, (k0_off275 v1625) a + S32x128.size a ≤ S1568x512.size a) ∧
  (∀ (hinb : ∀ a, (k0_off275 v1625) a + S32x128.size a ≤ S1568x512.size a), (Rect.unit (s := S1568x512) (k0_off275 v1625) S32x128.size hinb).PackedRows (EltTy.packing .bf16)) ∧
  (∀ a, (k0_off277 v1625) a + S32x128.size a ≤ S1568x512.size a) ∧
  (∀ (hinb : ∀ a, (k0_off277 v1625) a + S32x128.size a ≤ S1568x512.size a), (Rect.unit (s := S1568x512) (k0_off277 v1625) S32x128.size hinb).PackedRows (EltTy.packing .bf16)) ∧
  (∀ a, (k0_off279 v1625) a + S32x128.size a ≤ S1568x512.size a) ∧
  (∀ (hinb : ∀ a, (k0_off279 v1625) a + S32x128.size a ≤ S1568x512.size a), (Rect.unit (s := S1568x512) (k0_off279 v1625) S32x128.size hinb).PackedRows (EltTy.packing .bf16))
theorem k0_mult62_dvd : ∀ (v1625 : BitVec 32) (k0_hw62 : k0_chk62 v1625), 16 ∣ (k0_mult62 v1625).toNat := fun v1625 k0_hw62 => k0_hw62.1
theorem k0_off273_inb : ∀ (v1625 : BitVec 32) (k0_hw62 : k0_chk62 v1625), ∀ a, (k0_off273 v1625) a + S32x128.size a ≤ S1568x512.size a := fun v1625 k0_hw62 => k0_hw62.2.1
theorem k0_off273_packedbf16 : ∀ (v1625 : BitVec 32) (k0_hw62 : k0_chk62 v1625), (Rect.unit (s := S1568x512) (k0_off273 v1625) S32x128.size (k0_off273_inb v1625 k0_hw62)).PackedRows (EltTy.packing .bf16) := fun v1625 k0_hw62 => k0_hw62.2.2.1 (k0_off273_inb v1625 k0_hw62)
theorem k0_off275_inb : ∀ (v1625 : BitVec 32) (k0_hw62 : k0_chk62 v1625), ∀ a, (k0_off275 v1625) a + S32x128.size a ≤ S1568x512.size a := fun v1625 k0_hw62 => k0_hw62.2.2.2.1
theorem k0_off275_packedbf16 : ∀ (v1625 : BitVec 32) (k0_hw62 : k0_chk62 v1625), (Rect.unit (s := S1568x512) (k0_off275 v1625) S32x128.size (k0_off275_inb v1625 k0_hw62)).PackedRows (EltTy.packing .bf16) := fun v1625 k0_hw62 => k0_hw62.2.2.2.2.1 (k0_off275_inb v1625 k0_hw62)
theorem k0_off277_inb : ∀ (v1625 : BitVec 32) (k0_hw62 : k0_chk62 v1625), ∀ a, (k0_off277 v1625) a + S32x128.size a ≤ S1568x512.size a := fun v1625 k0_hw62 => k0_hw62.2.2.2.2.2.1
theorem k0_off277_packedbf16 : ∀ (v1625 : BitVec 32) (k0_hw62 : k0_chk62 v1625), (Rect.unit (s := S1568x512) (k0_off277 v1625) S32x128.size (k0_off277_inb v1625 k0_hw62)).PackedRows (EltTy.packing .bf16) := fun v1625 k0_hw62 => k0_hw62.2.2.2.2.2.2.1 (k0_off277_inb v1625 k0_hw62)
theorem k0_off279_inb : ∀ (v1625 : BitVec 32) (k0_hw62 : k0_chk62 v1625), ∀ a, (k0_off279 v1625) a + S32x128.size a ≤ S1568x512.size a := fun v1625 k0_hw62 => k0_hw62.2.2.2.2.2.2.2.1
theorem k0_off279_packedbf16 : ∀ (v1625 : BitVec 32) (k0_hw62 : k0_chk62 v1625), (Rect.unit (s := S1568x512) (k0_off279 v1625) S32x128.size (k0_off279_inb v1625 k0_hw62)).PackedRows (EltTy.packing .bf16) := fun v1625 k0_hw62 => k0_hw62.2.2.2.2.2.2.2.2 (k0_off279_inb v1625 k0_hw62)

def k0_mult63 (v1677 : BitVec 32) : BitVec 32 :=
  v1677

def k0_mult64 (v1679 : BitVec 32) : BitVec 32 :=
  v1679

def k0_off280 (v1677 : BitVec 32) : Fin 2 → Nat :=
  let v1678 : BitVec 32 := v1677
  let v1681 : Index := Scalar.indexCast v1678
  let c0_494 : Index := 0#32
  ![v1681.toNat, 0]
def k0_off281 (v1677 : BitVec 32) : Fin 2 → Nat :=
  let v1678 : BitVec 32 := v1677
  let v1687 : Index := Scalar.indexCast v1678
  let c0_497 : Index := 0#32
  ![v1687.toNat, 0]
def k0_off282 (v1679 : BitVec 32) : Fin 2 → Nat :=
  let v1680 : BitVec 32 := v1679
  let v1694 : Index := Scalar.indexCast v1680
  let c0_499 : Index := 0#32
  ![v1694.toNat, 0]
def k0_off283 (v1677 : BitVec 32) : Fin 2 → Nat :=
  let v1678 : BitVec 32 := v1677
  let v1698 : Index := Scalar.indexCast v1678
  let c128_500 : Index := 128#32
  ![v1698.toNat, 128]
def k0_off284 (v1679 : BitVec 32) : Fin 2 → Nat :=
  let v1680 : BitVec 32 := v1679
  let v1705 : Index := Scalar.indexCast v1680
  let c128_502 : Index := 128#32
  ![v1705.toNat, 128]
def k0_off285 (v1677 : BitVec 32) : Fin 2 → Nat :=
  let v1678 : BitVec 32 := v1677
  let v1709 : Index := Scalar.indexCast v1678
  let c256_503 : Index := 256#32
  ![v1709.toNat, 256]
def k0_off286 (v1679 : BitVec 32) : Fin 2 → Nat :=
  let v1680 : BitVec 32 := v1679
  let v1716 : Index := Scalar.indexCast v1680
  let c256_505 : Index := 256#32
  ![v1716.toNat, 256]
def k0_off287 (v1677 : BitVec 32) : Fin 2 → Nat :=
  let v1678 : BitVec 32 := v1677
  let v1720 : Index := Scalar.indexCast v1678
  let c384_506 : Index := 384#32
  ![v1720.toNat, 384]

def k0_chk63 (v1677 : BitVec 32) : Prop :=
  (32 ∣ (k0_mult63 v1677).toNat) ∧
  (∀ a, (k0_off280 v1677) a + S32x128.size a ≤ S1536x128.size a) ∧
  (∀ a, (k0_off281 v1677) a + S32x128.size a ≤ S1536x512.size a) ∧
  (∀ a, (k0_off283 v1677) a + S32x128.size a ≤ S1536x512.size a) ∧
  (∀ a, (k0_off285 v1677) a + S32x128.size a ≤ S1536x512.size a) ∧
  (∀ a, (k0_off287 v1677) a + S32x128.size a ≤ S1536x512.size a)
theorem k0_mult63_dvd : ∀ (v1677 : BitVec 32) (k0_hw63 : k0_chk63 v1677), 32 ∣ (k0_mult63 v1677).toNat := fun v1677 k0_hw63 => k0_hw63.1
theorem k0_off280_inb : ∀ (v1677 : BitVec 32) (k0_hw63 : k0_chk63 v1677), ∀ a, (k0_off280 v1677) a + S32x128.size a ≤ S1536x128.size a := fun v1677 k0_hw63 => k0_hw63.2.1
theorem k0_off281_inb : ∀ (v1677 : BitVec 32) (k0_hw63 : k0_chk63 v1677), ∀ a, (k0_off281 v1677) a + S32x128.size a ≤ S1536x512.size a := fun v1677 k0_hw63 => k0_hw63.2.2.1
theorem k0_off283_inb : ∀ (v1677 : BitVec 32) (k0_hw63 : k0_chk63 v1677), ∀ a, (k0_off283 v1677) a + S32x128.size a ≤ S1536x512.size a := fun v1677 k0_hw63 => k0_hw63.2.2.2.1
theorem k0_off285_inb : ∀ (v1677 : BitVec 32) (k0_hw63 : k0_chk63 v1677), ∀ a, (k0_off285 v1677) a + S32x128.size a ≤ S1536x512.size a := fun v1677 k0_hw63 => k0_hw63.2.2.2.2.1
theorem k0_off287_inb : ∀ (v1677 : BitVec 32) (k0_hw63 : k0_chk63 v1677), ∀ a, (k0_off287 v1677) a + S32x128.size a ≤ S1536x512.size a := fun v1677 k0_hw63 => k0_hw63.2.2.2.2.2

def k0_off288 (v1679 : BitVec 32) : Fin 2 → Nat :=
  let v1680 : BitVec 32 := v1679
  let v1727 : Index := Scalar.indexCast v1680
  let c384_508 : Index := 384#32
  ![v1727.toNat, 384]

def k0_chk64 (v1679 : BitVec 32) : Prop :=
  (16 ∣ (k0_mult64 v1679).toNat) ∧
  (∀ a, (k0_off282 v1679) a + S32x128.size a ≤ S1568x512.size a) ∧
  (∀ (hinb : ∀ a, (k0_off282 v1679) a + S32x128.size a ≤ S1568x512.size a), (Rect.unit (s := S1568x512) (k0_off282 v1679) S32x128.size hinb).PackedRows (EltTy.packing .bf16)) ∧
  (∀ a, (k0_off284 v1679) a + S32x128.size a ≤ S1568x512.size a) ∧
  (∀ (hinb : ∀ a, (k0_off284 v1679) a + S32x128.size a ≤ S1568x512.size a), (Rect.unit (s := S1568x512) (k0_off284 v1679) S32x128.size hinb).PackedRows (EltTy.packing .bf16)) ∧
  (∀ a, (k0_off286 v1679) a + S32x128.size a ≤ S1568x512.size a) ∧
  (∀ (hinb : ∀ a, (k0_off286 v1679) a + S32x128.size a ≤ S1568x512.size a), (Rect.unit (s := S1568x512) (k0_off286 v1679) S32x128.size hinb).PackedRows (EltTy.packing .bf16)) ∧
  (∀ a, (k0_off288 v1679) a + S32x128.size a ≤ S1568x512.size a) ∧
  (∀ (hinb : ∀ a, (k0_off288 v1679) a + S32x128.size a ≤ S1568x512.size a), (Rect.unit (s := S1568x512) (k0_off288 v1679) S32x128.size hinb).PackedRows (EltTy.packing .bf16))
theorem k0_mult64_dvd : ∀ (v1679 : BitVec 32) (k0_hw64 : k0_chk64 v1679), 16 ∣ (k0_mult64 v1679).toNat := fun v1679 k0_hw64 => k0_hw64.1
theorem k0_off282_inb : ∀ (v1679 : BitVec 32) (k0_hw64 : k0_chk64 v1679), ∀ a, (k0_off282 v1679) a + S32x128.size a ≤ S1568x512.size a := fun v1679 k0_hw64 => k0_hw64.2.1
theorem k0_off282_packedbf16 : ∀ (v1679 : BitVec 32) (k0_hw64 : k0_chk64 v1679), (Rect.unit (s := S1568x512) (k0_off282 v1679) S32x128.size (k0_off282_inb v1679 k0_hw64)).PackedRows (EltTy.packing .bf16) := fun v1679 k0_hw64 => k0_hw64.2.2.1 (k0_off282_inb v1679 k0_hw64)
theorem k0_off284_inb : ∀ (v1679 : BitVec 32) (k0_hw64 : k0_chk64 v1679), ∀ a, (k0_off284 v1679) a + S32x128.size a ≤ S1568x512.size a := fun v1679 k0_hw64 => k0_hw64.2.2.2.1
theorem k0_off284_packedbf16 : ∀ (v1679 : BitVec 32) (k0_hw64 : k0_chk64 v1679), (Rect.unit (s := S1568x512) (k0_off284 v1679) S32x128.size (k0_off284_inb v1679 k0_hw64)).PackedRows (EltTy.packing .bf16) := fun v1679 k0_hw64 => k0_hw64.2.2.2.2.1 (k0_off284_inb v1679 k0_hw64)
theorem k0_off286_inb : ∀ (v1679 : BitVec 32) (k0_hw64 : k0_chk64 v1679), ∀ a, (k0_off286 v1679) a + S32x128.size a ≤ S1568x512.size a := fun v1679 k0_hw64 => k0_hw64.2.2.2.2.2.1
theorem k0_off286_packedbf16 : ∀ (v1679 : BitVec 32) (k0_hw64 : k0_chk64 v1679), (Rect.unit (s := S1568x512) (k0_off286 v1679) S32x128.size (k0_off286_inb v1679 k0_hw64)).PackedRows (EltTy.packing .bf16) := fun v1679 k0_hw64 => k0_hw64.2.2.2.2.2.2.1 (k0_off286_inb v1679 k0_hw64)
theorem k0_off288_inb : ∀ (v1679 : BitVec 32) (k0_hw64 : k0_chk64 v1679), ∀ a, (k0_off288 v1679) a + S32x128.size a ≤ S1568x512.size a := fun v1679 k0_hw64 => k0_hw64.2.2.2.2.2.2.2.1
theorem k0_off288_packedbf16 : ∀ (v1679 : BitVec 32) (k0_hw64 : k0_chk64 v1679), (Rect.unit (s := S1568x512) (k0_off288 v1679) S32x128.size (k0_off288_inb v1679 k0_hw64)).PackedRows (EltTy.packing .bf16) := fun v1679 k0_hw64 => k0_hw64.2.2.2.2.2.2.2.2 (k0_off288_inb v1679 k0_hw64)

def k0_mult65 (v1731 : BitVec 32) : BitVec 32 :=
  v1731

def k0_mult66 (v1733 : BitVec 32) : BitVec 32 :=
  v1733

def k0_off289 (v1731 : BitVec 32) : Fin 2 → Nat :=
  let v1732 : BitVec 32 := v1731
  let v1735 : Index := Scalar.indexCast v1732
  let c0_510 : Index := 0#32
  ![v1735.toNat, 0]
def k0_off290 (v1731 : BitVec 32) : Fin 2 → Nat :=
  let v1732 : BitVec 32 := v1731
  let v1741 : Index := Scalar.indexCast v1732
  let c0_513 : Index := 0#32
  ![v1741.toNat, 0]
def k0_off291 (v1733 : BitVec 32) : Fin 2 → Nat :=
  let v1734 : BitVec 32 := v1733
  let v1748 : Index := Scalar.indexCast v1734
  let c0_515 : Index := 0#32
  ![v1748.toNat, 0]
def k0_off292 (v1731 : BitVec 32) : Fin 2 → Nat :=
  let v1732 : BitVec 32 := v1731
  let v1752 : Index := Scalar.indexCast v1732
  let c128_516 : Index := 128#32
  ![v1752.toNat, 128]
def k0_off293 (v1733 : BitVec 32) : Fin 2 → Nat :=
  let v1734 : BitVec 32 := v1733
  let v1759 : Index := Scalar.indexCast v1734
  let c128_518 : Index := 128#32
  ![v1759.toNat, 128]
def k0_off294 (v1731 : BitVec 32) : Fin 2 → Nat :=
  let v1732 : BitVec 32 := v1731
  let v1763 : Index := Scalar.indexCast v1732
  let c256_519 : Index := 256#32
  ![v1763.toNat, 256]
def k0_off295 (v1733 : BitVec 32) : Fin 2 → Nat :=
  let v1734 : BitVec 32 := v1733
  let v1770 : Index := Scalar.indexCast v1734
  let c256_521 : Index := 256#32
  ![v1770.toNat, 256]
def k0_off296 (v1731 : BitVec 32) : Fin 2 → Nat :=
  let v1732 : BitVec 32 := v1731
  let v1774 : Index := Scalar.indexCast v1732
  let c384_522 : Index := 384#32
  ![v1774.toNat, 384]

def k0_chk65 (v1731 : BitVec 32) : Prop :=
  (32 ∣ (k0_mult65 v1731).toNat) ∧
  (∀ a, (k0_off289 v1731) a + S32x128.size a ≤ S1536x128.size a) ∧
  (∀ a, (k0_off290 v1731) a + S32x128.size a ≤ S1536x512.size a) ∧
  (∀ a, (k0_off292 v1731) a + S32x128.size a ≤ S1536x512.size a) ∧
  (∀ a, (k0_off294 v1731) a + S32x128.size a ≤ S1536x512.size a) ∧
  (∀ a, (k0_off296 v1731) a + S32x128.size a ≤ S1536x512.size a)
theorem k0_mult65_dvd : ∀ (v1731 : BitVec 32) (k0_hw65 : k0_chk65 v1731), 32 ∣ (k0_mult65 v1731).toNat := fun v1731 k0_hw65 => k0_hw65.1
theorem k0_off289_inb : ∀ (v1731 : BitVec 32) (k0_hw65 : k0_chk65 v1731), ∀ a, (k0_off289 v1731) a + S32x128.size a ≤ S1536x128.size a := fun v1731 k0_hw65 => k0_hw65.2.1
theorem k0_off290_inb : ∀ (v1731 : BitVec 32) (k0_hw65 : k0_chk65 v1731), ∀ a, (k0_off290 v1731) a + S32x128.size a ≤ S1536x512.size a := fun v1731 k0_hw65 => k0_hw65.2.2.1
theorem k0_off292_inb : ∀ (v1731 : BitVec 32) (k0_hw65 : k0_chk65 v1731), ∀ a, (k0_off292 v1731) a + S32x128.size a ≤ S1536x512.size a := fun v1731 k0_hw65 => k0_hw65.2.2.2.1
theorem k0_off294_inb : ∀ (v1731 : BitVec 32) (k0_hw65 : k0_chk65 v1731), ∀ a, (k0_off294 v1731) a + S32x128.size a ≤ S1536x512.size a := fun v1731 k0_hw65 => k0_hw65.2.2.2.2.1
theorem k0_off296_inb : ∀ (v1731 : BitVec 32) (k0_hw65 : k0_chk65 v1731), ∀ a, (k0_off296 v1731) a + S32x128.size a ≤ S1536x512.size a := fun v1731 k0_hw65 => k0_hw65.2.2.2.2.2

def k0_off297 (v1733 : BitVec 32) : Fin 2 → Nat :=
  let v1734 : BitVec 32 := v1733
  let v1781 : Index := Scalar.indexCast v1734
  let c384_524 : Index := 384#32
  ![v1781.toNat, 384]

def k0_chk66 (v1733 : BitVec 32) : Prop :=
  (16 ∣ (k0_mult66 v1733).toNat) ∧
  (∀ a, (k0_off291 v1733) a + S32x128.size a ≤ S1568x512.size a) ∧
  (∀ (hinb : ∀ a, (k0_off291 v1733) a + S32x128.size a ≤ S1568x512.size a), (Rect.unit (s := S1568x512) (k0_off291 v1733) S32x128.size hinb).PackedRows (EltTy.packing .bf16)) ∧
  (∀ a, (k0_off293 v1733) a + S32x128.size a ≤ S1568x512.size a) ∧
  (∀ (hinb : ∀ a, (k0_off293 v1733) a + S32x128.size a ≤ S1568x512.size a), (Rect.unit (s := S1568x512) (k0_off293 v1733) S32x128.size hinb).PackedRows (EltTy.packing .bf16)) ∧
  (∀ a, (k0_off295 v1733) a + S32x128.size a ≤ S1568x512.size a) ∧
  (∀ (hinb : ∀ a, (k0_off295 v1733) a + S32x128.size a ≤ S1568x512.size a), (Rect.unit (s := S1568x512) (k0_off295 v1733) S32x128.size hinb).PackedRows (EltTy.packing .bf16)) ∧
  (∀ a, (k0_off297 v1733) a + S32x128.size a ≤ S1568x512.size a) ∧
  (∀ (hinb : ∀ a, (k0_off297 v1733) a + S32x128.size a ≤ S1568x512.size a), (Rect.unit (s := S1568x512) (k0_off297 v1733) S32x128.size hinb).PackedRows (EltTy.packing .bf16))
theorem k0_mult66_dvd : ∀ (v1733 : BitVec 32) (k0_hw66 : k0_chk66 v1733), 16 ∣ (k0_mult66 v1733).toNat := fun v1733 k0_hw66 => k0_hw66.1
theorem k0_off291_inb : ∀ (v1733 : BitVec 32) (k0_hw66 : k0_chk66 v1733), ∀ a, (k0_off291 v1733) a + S32x128.size a ≤ S1568x512.size a := fun v1733 k0_hw66 => k0_hw66.2.1
theorem k0_off291_packedbf16 : ∀ (v1733 : BitVec 32) (k0_hw66 : k0_chk66 v1733), (Rect.unit (s := S1568x512) (k0_off291 v1733) S32x128.size (k0_off291_inb v1733 k0_hw66)).PackedRows (EltTy.packing .bf16) := fun v1733 k0_hw66 => k0_hw66.2.2.1 (k0_off291_inb v1733 k0_hw66)
theorem k0_off293_inb : ∀ (v1733 : BitVec 32) (k0_hw66 : k0_chk66 v1733), ∀ a, (k0_off293 v1733) a + S32x128.size a ≤ S1568x512.size a := fun v1733 k0_hw66 => k0_hw66.2.2.2.1
theorem k0_off293_packedbf16 : ∀ (v1733 : BitVec 32) (k0_hw66 : k0_chk66 v1733), (Rect.unit (s := S1568x512) (k0_off293 v1733) S32x128.size (k0_off293_inb v1733 k0_hw66)).PackedRows (EltTy.packing .bf16) := fun v1733 k0_hw66 => k0_hw66.2.2.2.2.1 (k0_off293_inb v1733 k0_hw66)
theorem k0_off295_inb : ∀ (v1733 : BitVec 32) (k0_hw66 : k0_chk66 v1733), ∀ a, (k0_off295 v1733) a + S32x128.size a ≤ S1568x512.size a := fun v1733 k0_hw66 => k0_hw66.2.2.2.2.2.1
theorem k0_off295_packedbf16 : ∀ (v1733 : BitVec 32) (k0_hw66 : k0_chk66 v1733), (Rect.unit (s := S1568x512) (k0_off295 v1733) S32x128.size (k0_off295_inb v1733 k0_hw66)).PackedRows (EltTy.packing .bf16) := fun v1733 k0_hw66 => k0_hw66.2.2.2.2.2.2.1 (k0_off295_inb v1733 k0_hw66)
theorem k0_off297_inb : ∀ (v1733 : BitVec 32) (k0_hw66 : k0_chk66 v1733), ∀ a, (k0_off297 v1733) a + S32x128.size a ≤ S1568x512.size a := fun v1733 k0_hw66 => k0_hw66.2.2.2.2.2.2.2.1
theorem k0_off297_packedbf16 : ∀ (v1733 : BitVec 32) (k0_hw66 : k0_chk66 v1733), (Rect.unit (s := S1568x512) (k0_off297 v1733) S32x128.size (k0_off297_inb v1733 k0_hw66)).PackedRows (EltTy.packing .bf16) := fun v1733 k0_hw66 => k0_hw66.2.2.2.2.2.2.2.2 (k0_off297_inb v1733 k0_hw66)

def k0_mult67 (v1785 : BitVec 32) : BitVec 32 :=
  v1785

def k0_mult68 (v1787 : BitVec 32) : BitVec 32 :=
  v1787

def k0_off298 (v1785 : BitVec 32) : Fin 2 → Nat :=
  let v1786 : BitVec 32 := v1785
  let v1789 : Index := Scalar.indexCast v1786
  let c0_526 : Index := 0#32
  ![v1789.toNat, 0]
def k0_off299 (v1785 : BitVec 32) : Fin 2 → Nat :=
  let v1786 : BitVec 32 := v1785
  let v1795 : Index := Scalar.indexCast v1786
  let c0_529 : Index := 0#32
  ![v1795.toNat, 0]
def k0_off300 (v1787 : BitVec 32) : Fin 2 → Nat :=
  let v1788 : BitVec 32 := v1787
  let v1802 : Index := Scalar.indexCast v1788
  let c0_531 : Index := 0#32
  ![v1802.toNat, 0]
def k0_off301 (v1785 : BitVec 32) : Fin 2 → Nat :=
  let v1786 : BitVec 32 := v1785
  let v1806 : Index := Scalar.indexCast v1786
  let c128_532 : Index := 128#32
  ![v1806.toNat, 128]
def k0_off302 (v1787 : BitVec 32) : Fin 2 → Nat :=
  let v1788 : BitVec 32 := v1787
  let v1813 : Index := Scalar.indexCast v1788
  let c128_534 : Index := 128#32
  ![v1813.toNat, 128]
def k0_off303 (v1785 : BitVec 32) : Fin 2 → Nat :=
  let v1786 : BitVec 32 := v1785
  let v1817 : Index := Scalar.indexCast v1786
  let c256_535 : Index := 256#32
  ![v1817.toNat, 256]
def k0_off304 (v1787 : BitVec 32) : Fin 2 → Nat :=
  let v1788 : BitVec 32 := v1787
  let v1824 : Index := Scalar.indexCast v1788
  let c256_537 : Index := 256#32
  ![v1824.toNat, 256]
def k0_off305 (v1785 : BitVec 32) : Fin 2 → Nat :=
  let v1786 : BitVec 32 := v1785
  let v1828 : Index := Scalar.indexCast v1786
  let c384_538 : Index := 384#32
  ![v1828.toNat, 384]

def k0_chk67 (v1785 : BitVec 32) : Prop :=
  (32 ∣ (k0_mult67 v1785).toNat) ∧
  (∀ a, (k0_off298 v1785) a + S32x128.size a ≤ S1536x128.size a) ∧
  (∀ a, (k0_off299 v1785) a + S32x128.size a ≤ S1536x512.size a) ∧
  (∀ a, (k0_off301 v1785) a + S32x128.size a ≤ S1536x512.size a) ∧
  (∀ a, (k0_off303 v1785) a + S32x128.size a ≤ S1536x512.size a) ∧
  (∀ a, (k0_off305 v1785) a + S32x128.size a ≤ S1536x512.size a)
theorem k0_mult67_dvd : ∀ (v1785 : BitVec 32) (k0_hw67 : k0_chk67 v1785), 32 ∣ (k0_mult67 v1785).toNat := fun v1785 k0_hw67 => k0_hw67.1
theorem k0_off298_inb : ∀ (v1785 : BitVec 32) (k0_hw67 : k0_chk67 v1785), ∀ a, (k0_off298 v1785) a + S32x128.size a ≤ S1536x128.size a := fun v1785 k0_hw67 => k0_hw67.2.1
theorem k0_off299_inb : ∀ (v1785 : BitVec 32) (k0_hw67 : k0_chk67 v1785), ∀ a, (k0_off299 v1785) a + S32x128.size a ≤ S1536x512.size a := fun v1785 k0_hw67 => k0_hw67.2.2.1
theorem k0_off301_inb : ∀ (v1785 : BitVec 32) (k0_hw67 : k0_chk67 v1785), ∀ a, (k0_off301 v1785) a + S32x128.size a ≤ S1536x512.size a := fun v1785 k0_hw67 => k0_hw67.2.2.2.1
theorem k0_off303_inb : ∀ (v1785 : BitVec 32) (k0_hw67 : k0_chk67 v1785), ∀ a, (k0_off303 v1785) a + S32x128.size a ≤ S1536x512.size a := fun v1785 k0_hw67 => k0_hw67.2.2.2.2.1
theorem k0_off305_inb : ∀ (v1785 : BitVec 32) (k0_hw67 : k0_chk67 v1785), ∀ a, (k0_off305 v1785) a + S32x128.size a ≤ S1536x512.size a := fun v1785 k0_hw67 => k0_hw67.2.2.2.2.2

def k0_off306 (v1787 : BitVec 32) : Fin 2 → Nat :=
  let v1788 : BitVec 32 := v1787
  let v1835 : Index := Scalar.indexCast v1788
  let c384_540 : Index := 384#32
  ![v1835.toNat, 384]

def k0_chk68 (v1787 : BitVec 32) : Prop :=
  (16 ∣ (k0_mult68 v1787).toNat) ∧
  (∀ a, (k0_off300 v1787) a + S32x128.size a ≤ S1568x512.size a) ∧
  (∀ (hinb : ∀ a, (k0_off300 v1787) a + S32x128.size a ≤ S1568x512.size a), (Rect.unit (s := S1568x512) (k0_off300 v1787) S32x128.size hinb).PackedRows (EltTy.packing .bf16)) ∧
  (∀ a, (k0_off302 v1787) a + S32x128.size a ≤ S1568x512.size a) ∧
  (∀ (hinb : ∀ a, (k0_off302 v1787) a + S32x128.size a ≤ S1568x512.size a), (Rect.unit (s := S1568x512) (k0_off302 v1787) S32x128.size hinb).PackedRows (EltTy.packing .bf16)) ∧
  (∀ a, (k0_off304 v1787) a + S32x128.size a ≤ S1568x512.size a) ∧
  (∀ (hinb : ∀ a, (k0_off304 v1787) a + S32x128.size a ≤ S1568x512.size a), (Rect.unit (s := S1568x512) (k0_off304 v1787) S32x128.size hinb).PackedRows (EltTy.packing .bf16)) ∧
  (∀ a, (k0_off306 v1787) a + S32x128.size a ≤ S1568x512.size a) ∧
  (∀ (hinb : ∀ a, (k0_off306 v1787) a + S32x128.size a ≤ S1568x512.size a), (Rect.unit (s := S1568x512) (k0_off306 v1787) S32x128.size hinb).PackedRows (EltTy.packing .bf16))
theorem k0_mult68_dvd : ∀ (v1787 : BitVec 32) (k0_hw68 : k0_chk68 v1787), 16 ∣ (k0_mult68 v1787).toNat := fun v1787 k0_hw68 => k0_hw68.1
theorem k0_off300_inb : ∀ (v1787 : BitVec 32) (k0_hw68 : k0_chk68 v1787), ∀ a, (k0_off300 v1787) a + S32x128.size a ≤ S1568x512.size a := fun v1787 k0_hw68 => k0_hw68.2.1
theorem k0_off300_packedbf16 : ∀ (v1787 : BitVec 32) (k0_hw68 : k0_chk68 v1787), (Rect.unit (s := S1568x512) (k0_off300 v1787) S32x128.size (k0_off300_inb v1787 k0_hw68)).PackedRows (EltTy.packing .bf16) := fun v1787 k0_hw68 => k0_hw68.2.2.1 (k0_off300_inb v1787 k0_hw68)
theorem k0_off302_inb : ∀ (v1787 : BitVec 32) (k0_hw68 : k0_chk68 v1787), ∀ a, (k0_off302 v1787) a + S32x128.size a ≤ S1568x512.size a := fun v1787 k0_hw68 => k0_hw68.2.2.2.1
theorem k0_off302_packedbf16 : ∀ (v1787 : BitVec 32) (k0_hw68 : k0_chk68 v1787), (Rect.unit (s := S1568x512) (k0_off302 v1787) S32x128.size (k0_off302_inb v1787 k0_hw68)).PackedRows (EltTy.packing .bf16) := fun v1787 k0_hw68 => k0_hw68.2.2.2.2.1 (k0_off302_inb v1787 k0_hw68)
theorem k0_off304_inb : ∀ (v1787 : BitVec 32) (k0_hw68 : k0_chk68 v1787), ∀ a, (k0_off304 v1787) a + S32x128.size a ≤ S1568x512.size a := fun v1787 k0_hw68 => k0_hw68.2.2.2.2.2.1
theorem k0_off304_packedbf16 : ∀ (v1787 : BitVec 32) (k0_hw68 : k0_chk68 v1787), (Rect.unit (s := S1568x512) (k0_off304 v1787) S32x128.size (k0_off304_inb v1787 k0_hw68)).PackedRows (EltTy.packing .bf16) := fun v1787 k0_hw68 => k0_hw68.2.2.2.2.2.2.1 (k0_off304_inb v1787 k0_hw68)
theorem k0_off306_inb : ∀ (v1787 : BitVec 32) (k0_hw68 : k0_chk68 v1787), ∀ a, (k0_off306 v1787) a + S32x128.size a ≤ S1568x512.size a := fun v1787 k0_hw68 => k0_hw68.2.2.2.2.2.2.2.1
theorem k0_off306_packedbf16 : ∀ (v1787 : BitVec 32) (k0_hw68 : k0_chk68 v1787), (Rect.unit (s := S1568x512) (k0_off306 v1787) S32x128.size (k0_off306_inb v1787 k0_hw68)).PackedRows (EltTy.packing .bf16) := fun v1787 k0_hw68 => k0_hw68.2.2.2.2.2.2.2.2 (k0_off306_inb v1787 k0_hw68)

def k0_mult69 (v1839 : BitVec 32) : BitVec 32 :=
  v1839

def k0_mult70 (v1841 : BitVec 32) : BitVec 32 :=
  v1841

def k0_off307 (v1839 : BitVec 32) : Fin 2 → Nat :=
  let v1840 : BitVec 32 := v1839
  let v1843 : Index := Scalar.indexCast v1840
  let c0_542 : Index := 0#32
  ![v1843.toNat, 0]
def k0_off308 (v1839 : BitVec 32) : Fin 2 → Nat :=
  let v1840 : BitVec 32 := v1839
  let v1849 : Index := Scalar.indexCast v1840
  let c0_545 : Index := 0#32
  ![v1849.toNat, 0]
def k0_off309 (v1841 : BitVec 32) : Fin 2 → Nat :=
  let v1842 : BitVec 32 := v1841
  let v1856 : Index := Scalar.indexCast v1842
  let c0_547 : Index := 0#32
  ![v1856.toNat, 0]
def k0_off310 (v1839 : BitVec 32) : Fin 2 → Nat :=
  let v1840 : BitVec 32 := v1839
  let v1860 : Index := Scalar.indexCast v1840
  let c128_548 : Index := 128#32
  ![v1860.toNat, 128]
def k0_off311 (v1841 : BitVec 32) : Fin 2 → Nat :=
  let v1842 : BitVec 32 := v1841
  let v1867 : Index := Scalar.indexCast v1842
  let c128_550 : Index := 128#32
  ![v1867.toNat, 128]
def k0_off312 (v1839 : BitVec 32) : Fin 2 → Nat :=
  let v1840 : BitVec 32 := v1839
  let v1871 : Index := Scalar.indexCast v1840
  let c256_551 : Index := 256#32
  ![v1871.toNat, 256]
def k0_off313 (v1841 : BitVec 32) : Fin 2 → Nat :=
  let v1842 : BitVec 32 := v1841
  let v1878 : Index := Scalar.indexCast v1842
  let c256_553 : Index := 256#32
  ![v1878.toNat, 256]
def k0_off314 (v1839 : BitVec 32) : Fin 2 → Nat :=
  let v1840 : BitVec 32 := v1839
  let v1882 : Index := Scalar.indexCast v1840
  let c384_554 : Index := 384#32
  ![v1882.toNat, 384]

def k0_chk69 (v1839 : BitVec 32) : Prop :=
  (32 ∣ (k0_mult69 v1839).toNat) ∧
  (∀ a, (k0_off307 v1839) a + S32x128.size a ≤ S1536x128.size a) ∧
  (∀ a, (k0_off308 v1839) a + S32x128.size a ≤ S1536x512.size a) ∧
  (∀ a, (k0_off310 v1839) a + S32x128.size a ≤ S1536x512.size a) ∧
  (∀ a, (k0_off312 v1839) a + S32x128.size a ≤ S1536x512.size a) ∧
  (∀ a, (k0_off314 v1839) a + S32x128.size a ≤ S1536x512.size a)
theorem k0_mult69_dvd : ∀ (v1839 : BitVec 32) (k0_hw69 : k0_chk69 v1839), 32 ∣ (k0_mult69 v1839).toNat := fun v1839 k0_hw69 => k0_hw69.1
theorem k0_off307_inb : ∀ (v1839 : BitVec 32) (k0_hw69 : k0_chk69 v1839), ∀ a, (k0_off307 v1839) a + S32x128.size a ≤ S1536x128.size a := fun v1839 k0_hw69 => k0_hw69.2.1
theorem k0_off308_inb : ∀ (v1839 : BitVec 32) (k0_hw69 : k0_chk69 v1839), ∀ a, (k0_off308 v1839) a + S32x128.size a ≤ S1536x512.size a := fun v1839 k0_hw69 => k0_hw69.2.2.1
theorem k0_off310_inb : ∀ (v1839 : BitVec 32) (k0_hw69 : k0_chk69 v1839), ∀ a, (k0_off310 v1839) a + S32x128.size a ≤ S1536x512.size a := fun v1839 k0_hw69 => k0_hw69.2.2.2.1
theorem k0_off312_inb : ∀ (v1839 : BitVec 32) (k0_hw69 : k0_chk69 v1839), ∀ a, (k0_off312 v1839) a + S32x128.size a ≤ S1536x512.size a := fun v1839 k0_hw69 => k0_hw69.2.2.2.2.1
theorem k0_off314_inb : ∀ (v1839 : BitVec 32) (k0_hw69 : k0_chk69 v1839), ∀ a, (k0_off314 v1839) a + S32x128.size a ≤ S1536x512.size a := fun v1839 k0_hw69 => k0_hw69.2.2.2.2.2

def k0_off315 (v1841 : BitVec 32) : Fin 2 → Nat :=
  let v1842 : BitVec 32 := v1841
  let v1889 : Index := Scalar.indexCast v1842
  let c384_556 : Index := 384#32
  ![v1889.toNat, 384]

def k0_chk70 (v1841 : BitVec 32) : Prop :=
  (16 ∣ (k0_mult70 v1841).toNat) ∧
  (∀ a, (k0_off309 v1841) a + S32x128.size a ≤ S1568x512.size a) ∧
  (∀ (hinb : ∀ a, (k0_off309 v1841) a + S32x128.size a ≤ S1568x512.size a), (Rect.unit (s := S1568x512) (k0_off309 v1841) S32x128.size hinb).PackedRows (EltTy.packing .bf16)) ∧
  (∀ a, (k0_off311 v1841) a + S32x128.size a ≤ S1568x512.size a) ∧
  (∀ (hinb : ∀ a, (k0_off311 v1841) a + S32x128.size a ≤ S1568x512.size a), (Rect.unit (s := S1568x512) (k0_off311 v1841) S32x128.size hinb).PackedRows (EltTy.packing .bf16)) ∧
  (∀ a, (k0_off313 v1841) a + S32x128.size a ≤ S1568x512.size a) ∧
  (∀ (hinb : ∀ a, (k0_off313 v1841) a + S32x128.size a ≤ S1568x512.size a), (Rect.unit (s := S1568x512) (k0_off313 v1841) S32x128.size hinb).PackedRows (EltTy.packing .bf16)) ∧
  (∀ a, (k0_off315 v1841) a + S32x128.size a ≤ S1568x512.size a) ∧
  (∀ (hinb : ∀ a, (k0_off315 v1841) a + S32x128.size a ≤ S1568x512.size a), (Rect.unit (s := S1568x512) (k0_off315 v1841) S32x128.size hinb).PackedRows (EltTy.packing .bf16))
theorem k0_mult70_dvd : ∀ (v1841 : BitVec 32) (k0_hw70 : k0_chk70 v1841), 16 ∣ (k0_mult70 v1841).toNat := fun v1841 k0_hw70 => k0_hw70.1
theorem k0_off309_inb : ∀ (v1841 : BitVec 32) (k0_hw70 : k0_chk70 v1841), ∀ a, (k0_off309 v1841) a + S32x128.size a ≤ S1568x512.size a := fun v1841 k0_hw70 => k0_hw70.2.1
theorem k0_off309_packedbf16 : ∀ (v1841 : BitVec 32) (k0_hw70 : k0_chk70 v1841), (Rect.unit (s := S1568x512) (k0_off309 v1841) S32x128.size (k0_off309_inb v1841 k0_hw70)).PackedRows (EltTy.packing .bf16) := fun v1841 k0_hw70 => k0_hw70.2.2.1 (k0_off309_inb v1841 k0_hw70)
theorem k0_off311_inb : ∀ (v1841 : BitVec 32) (k0_hw70 : k0_chk70 v1841), ∀ a, (k0_off311 v1841) a + S32x128.size a ≤ S1568x512.size a := fun v1841 k0_hw70 => k0_hw70.2.2.2.1
theorem k0_off311_packedbf16 : ∀ (v1841 : BitVec 32) (k0_hw70 : k0_chk70 v1841), (Rect.unit (s := S1568x512) (k0_off311 v1841) S32x128.size (k0_off311_inb v1841 k0_hw70)).PackedRows (EltTy.packing .bf16) := fun v1841 k0_hw70 => k0_hw70.2.2.2.2.1 (k0_off311_inb v1841 k0_hw70)
theorem k0_off313_inb : ∀ (v1841 : BitVec 32) (k0_hw70 : k0_chk70 v1841), ∀ a, (k0_off313 v1841) a + S32x128.size a ≤ S1568x512.size a := fun v1841 k0_hw70 => k0_hw70.2.2.2.2.2.1
theorem k0_off313_packedbf16 : ∀ (v1841 : BitVec 32) (k0_hw70 : k0_chk70 v1841), (Rect.unit (s := S1568x512) (k0_off313 v1841) S32x128.size (k0_off313_inb v1841 k0_hw70)).PackedRows (EltTy.packing .bf16) := fun v1841 k0_hw70 => k0_hw70.2.2.2.2.2.2.1 (k0_off313_inb v1841 k0_hw70)
theorem k0_off315_inb : ∀ (v1841 : BitVec 32) (k0_hw70 : k0_chk70 v1841), ∀ a, (k0_off315 v1841) a + S32x128.size a ≤ S1568x512.size a := fun v1841 k0_hw70 => k0_hw70.2.2.2.2.2.2.2.1
theorem k0_off315_packedbf16 : ∀ (v1841 : BitVec 32) (k0_hw70 : k0_chk70 v1841), (Rect.unit (s := S1568x512) (k0_off315 v1841) S32x128.size (k0_off315_inb v1841 k0_hw70)).PackedRows (EltTy.packing .bf16) := fun v1841 k0_hw70 => k0_hw70.2.2.2.2.2.2.2.2 (k0_off315_inb v1841 k0_hw70)

def k0_mult71 (v1893 : BitVec 32) : BitVec 32 :=
  v1893

def k0_mult72 (v1895 : BitVec 32) : BitVec 32 :=
  v1895

def k0_off316 (v1893 : BitVec 32) : Fin 2 → Nat :=
  let v1894 : BitVec 32 := v1893
  let v1897 : Index := Scalar.indexCast v1894
  let c0_558 : Index := 0#32
  ![v1897.toNat, 0]
def k0_off317 (v1893 : BitVec 32) : Fin 2 → Nat :=
  let v1894 : BitVec 32 := v1893
  let v1903 : Index := Scalar.indexCast v1894
  let c0_561 : Index := 0#32
  ![v1903.toNat, 0]
def k0_off318 (v1895 : BitVec 32) : Fin 2 → Nat :=
  let v1896 : BitVec 32 := v1895
  let v1910 : Index := Scalar.indexCast v1896
  let c0_563 : Index := 0#32
  ![v1910.toNat, 0]
def k0_off319 (v1893 : BitVec 32) : Fin 2 → Nat :=
  let v1894 : BitVec 32 := v1893
  let v1914 : Index := Scalar.indexCast v1894
  let c128_564 : Index := 128#32
  ![v1914.toNat, 128]
def k0_off320 (v1895 : BitVec 32) : Fin 2 → Nat :=
  let v1896 : BitVec 32 := v1895
  let v1921 : Index := Scalar.indexCast v1896
  let c128_566 : Index := 128#32
  ![v1921.toNat, 128]
def k0_off321 (v1893 : BitVec 32) : Fin 2 → Nat :=
  let v1894 : BitVec 32 := v1893
  let v1925 : Index := Scalar.indexCast v1894
  let c256_567 : Index := 256#32
  ![v1925.toNat, 256]
def k0_off322 (v1895 : BitVec 32) : Fin 2 → Nat :=
  let v1896 : BitVec 32 := v1895
  let v1932 : Index := Scalar.indexCast v1896
  let c256_569 : Index := 256#32
  ![v1932.toNat, 256]
def k0_off323 (v1893 : BitVec 32) : Fin 2 → Nat :=
  let v1894 : BitVec 32 := v1893
  let v1936 : Index := Scalar.indexCast v1894
  let c384_570 : Index := 384#32
  ![v1936.toNat, 384]

def k0_chk71 (v1893 : BitVec 32) : Prop :=
  (32 ∣ (k0_mult71 v1893).toNat) ∧
  (∀ a, (k0_off316 v1893) a + S32x128.size a ≤ S1536x128.size a) ∧
  (∀ a, (k0_off317 v1893) a + S32x128.size a ≤ S1536x512.size a) ∧
  (∀ a, (k0_off319 v1893) a + S32x128.size a ≤ S1536x512.size a) ∧
  (∀ a, (k0_off321 v1893) a + S32x128.size a ≤ S1536x512.size a) ∧
  (∀ a, (k0_off323 v1893) a + S32x128.size a ≤ S1536x512.size a)
theorem k0_mult71_dvd : ∀ (v1893 : BitVec 32) (k0_hw71 : k0_chk71 v1893), 32 ∣ (k0_mult71 v1893).toNat := fun v1893 k0_hw71 => k0_hw71.1
theorem k0_off316_inb : ∀ (v1893 : BitVec 32) (k0_hw71 : k0_chk71 v1893), ∀ a, (k0_off316 v1893) a + S32x128.size a ≤ S1536x128.size a := fun v1893 k0_hw71 => k0_hw71.2.1
theorem k0_off317_inb : ∀ (v1893 : BitVec 32) (k0_hw71 : k0_chk71 v1893), ∀ a, (k0_off317 v1893) a + S32x128.size a ≤ S1536x512.size a := fun v1893 k0_hw71 => k0_hw71.2.2.1
theorem k0_off319_inb : ∀ (v1893 : BitVec 32) (k0_hw71 : k0_chk71 v1893), ∀ a, (k0_off319 v1893) a + S32x128.size a ≤ S1536x512.size a := fun v1893 k0_hw71 => k0_hw71.2.2.2.1
theorem k0_off321_inb : ∀ (v1893 : BitVec 32) (k0_hw71 : k0_chk71 v1893), ∀ a, (k0_off321 v1893) a + S32x128.size a ≤ S1536x512.size a := fun v1893 k0_hw71 => k0_hw71.2.2.2.2.1
theorem k0_off323_inb : ∀ (v1893 : BitVec 32) (k0_hw71 : k0_chk71 v1893), ∀ a, (k0_off323 v1893) a + S32x128.size a ≤ S1536x512.size a := fun v1893 k0_hw71 => k0_hw71.2.2.2.2.2

def k0_off324 (v1895 : BitVec 32) : Fin 2 → Nat :=
  let v1896 : BitVec 32 := v1895
  let v1943 : Index := Scalar.indexCast v1896
  let c384_572 : Index := 384#32
  ![v1943.toNat, 384]

def k0_chk72 (v1895 : BitVec 32) : Prop :=
  (16 ∣ (k0_mult72 v1895).toNat) ∧
  (∀ a, (k0_off318 v1895) a + S32x128.size a ≤ S1568x512.size a) ∧
  (∀ (hinb : ∀ a, (k0_off318 v1895) a + S32x128.size a ≤ S1568x512.size a), (Rect.unit (s := S1568x512) (k0_off318 v1895) S32x128.size hinb).PackedRows (EltTy.packing .bf16)) ∧
  (∀ a, (k0_off320 v1895) a + S32x128.size a ≤ S1568x512.size a) ∧
  (∀ (hinb : ∀ a, (k0_off320 v1895) a + S32x128.size a ≤ S1568x512.size a), (Rect.unit (s := S1568x512) (k0_off320 v1895) S32x128.size hinb).PackedRows (EltTy.packing .bf16)) ∧
  (∀ a, (k0_off322 v1895) a + S32x128.size a ≤ S1568x512.size a) ∧
  (∀ (hinb : ∀ a, (k0_off322 v1895) a + S32x128.size a ≤ S1568x512.size a), (Rect.unit (s := S1568x512) (k0_off322 v1895) S32x128.size hinb).PackedRows (EltTy.packing .bf16)) ∧
  (∀ a, (k0_off324 v1895) a + S32x128.size a ≤ S1568x512.size a) ∧
  (∀ (hinb : ∀ a, (k0_off324 v1895) a + S32x128.size a ≤ S1568x512.size a), (Rect.unit (s := S1568x512) (k0_off324 v1895) S32x128.size hinb).PackedRows (EltTy.packing .bf16))
theorem k0_mult72_dvd : ∀ (v1895 : BitVec 32) (k0_hw72 : k0_chk72 v1895), 16 ∣ (k0_mult72 v1895).toNat := fun v1895 k0_hw72 => k0_hw72.1
theorem k0_off318_inb : ∀ (v1895 : BitVec 32) (k0_hw72 : k0_chk72 v1895), ∀ a, (k0_off318 v1895) a + S32x128.size a ≤ S1568x512.size a := fun v1895 k0_hw72 => k0_hw72.2.1
theorem k0_off318_packedbf16 : ∀ (v1895 : BitVec 32) (k0_hw72 : k0_chk72 v1895), (Rect.unit (s := S1568x512) (k0_off318 v1895) S32x128.size (k0_off318_inb v1895 k0_hw72)).PackedRows (EltTy.packing .bf16) := fun v1895 k0_hw72 => k0_hw72.2.2.1 (k0_off318_inb v1895 k0_hw72)
theorem k0_off320_inb : ∀ (v1895 : BitVec 32) (k0_hw72 : k0_chk72 v1895), ∀ a, (k0_off320 v1895) a + S32x128.size a ≤ S1568x512.size a := fun v1895 k0_hw72 => k0_hw72.2.2.2.1
theorem k0_off320_packedbf16 : ∀ (v1895 : BitVec 32) (k0_hw72 : k0_chk72 v1895), (Rect.unit (s := S1568x512) (k0_off320 v1895) S32x128.size (k0_off320_inb v1895 k0_hw72)).PackedRows (EltTy.packing .bf16) := fun v1895 k0_hw72 => k0_hw72.2.2.2.2.1 (k0_off320_inb v1895 k0_hw72)
theorem k0_off322_inb : ∀ (v1895 : BitVec 32) (k0_hw72 : k0_chk72 v1895), ∀ a, (k0_off322 v1895) a + S32x128.size a ≤ S1568x512.size a := fun v1895 k0_hw72 => k0_hw72.2.2.2.2.2.1
theorem k0_off322_packedbf16 : ∀ (v1895 : BitVec 32) (k0_hw72 : k0_chk72 v1895), (Rect.unit (s := S1568x512) (k0_off322 v1895) S32x128.size (k0_off322_inb v1895 k0_hw72)).PackedRows (EltTy.packing .bf16) := fun v1895 k0_hw72 => k0_hw72.2.2.2.2.2.2.1 (k0_off322_inb v1895 k0_hw72)
theorem k0_off324_inb : ∀ (v1895 : BitVec 32) (k0_hw72 : k0_chk72 v1895), ∀ a, (k0_off324 v1895) a + S32x128.size a ≤ S1568x512.size a := fun v1895 k0_hw72 => k0_hw72.2.2.2.2.2.2.2.1
theorem k0_off324_packedbf16 : ∀ (v1895 : BitVec 32) (k0_hw72 : k0_chk72 v1895), (Rect.unit (s := S1568x512) (k0_off324 v1895) S32x128.size (k0_off324_inb v1895 k0_hw72)).PackedRows (EltTy.packing .bf16) := fun v1895 k0_hw72 => k0_hw72.2.2.2.2.2.2.2.2 (k0_off324_inb v1895 k0_hw72)

def k0_mult73 (v1947 : BitVec 32) : BitVec 32 :=
  v1947

def k0_mult74 (v1949 : BitVec 32) : BitVec 32 :=
  v1949

def k0_off325 (v1947 : BitVec 32) : Fin 2 → Nat :=
  let v1948 : BitVec 32 := v1947
  let v1951 : Index := Scalar.indexCast v1948
  let c0_574 : Index := 0#32
  ![v1951.toNat, 0]
def k0_off326 (v1947 : BitVec 32) : Fin 2 → Nat :=
  let v1948 : BitVec 32 := v1947
  let v1957 : Index := Scalar.indexCast v1948
  let c0_577 : Index := 0#32
  ![v1957.toNat, 0]
def k0_off327 (v1949 : BitVec 32) : Fin 2 → Nat :=
  let v1950 : BitVec 32 := v1949
  let v1964 : Index := Scalar.indexCast v1950
  let c0_579 : Index := 0#32
  ![v1964.toNat, 0]
def k0_off328 (v1947 : BitVec 32) : Fin 2 → Nat :=
  let v1948 : BitVec 32 := v1947
  let v1968 : Index := Scalar.indexCast v1948
  let c128_580 : Index := 128#32
  ![v1968.toNat, 128]
def k0_off329 (v1949 : BitVec 32) : Fin 2 → Nat :=
  let v1950 : BitVec 32 := v1949
  let v1975 : Index := Scalar.indexCast v1950
  let c128_582 : Index := 128#32
  ![v1975.toNat, 128]
def k0_off330 (v1947 : BitVec 32) : Fin 2 → Nat :=
  let v1948 : BitVec 32 := v1947
  let v1979 : Index := Scalar.indexCast v1948
  let c256_583 : Index := 256#32
  ![v1979.toNat, 256]
def k0_off331 (v1949 : BitVec 32) : Fin 2 → Nat :=
  let v1950 : BitVec 32 := v1949
  let v1986 : Index := Scalar.indexCast v1950
  let c256_585 : Index := 256#32
  ![v1986.toNat, 256]
def k0_off332 (v1947 : BitVec 32) : Fin 2 → Nat :=
  let v1948 : BitVec 32 := v1947
  let v1990 : Index := Scalar.indexCast v1948
  let c384_586 : Index := 384#32
  ![v1990.toNat, 384]

def k0_chk73 (v1947 : BitVec 32) : Prop :=
  (32 ∣ (k0_mult73 v1947).toNat) ∧
  (∀ a, (k0_off325 v1947) a + S32x128.size a ≤ S1536x128.size a) ∧
  (∀ a, (k0_off326 v1947) a + S32x128.size a ≤ S1536x512.size a) ∧
  (∀ a, (k0_off328 v1947) a + S32x128.size a ≤ S1536x512.size a) ∧
  (∀ a, (k0_off330 v1947) a + S32x128.size a ≤ S1536x512.size a) ∧
  (∀ a, (k0_off332 v1947) a + S32x128.size a ≤ S1536x512.size a)
theorem k0_mult73_dvd : ∀ (v1947 : BitVec 32) (k0_hw73 : k0_chk73 v1947), 32 ∣ (k0_mult73 v1947).toNat := fun v1947 k0_hw73 => k0_hw73.1
theorem k0_off325_inb : ∀ (v1947 : BitVec 32) (k0_hw73 : k0_chk73 v1947), ∀ a, (k0_off325 v1947) a + S32x128.size a ≤ S1536x128.size a := fun v1947 k0_hw73 => k0_hw73.2.1
theorem k0_off326_inb : ∀ (v1947 : BitVec 32) (k0_hw73 : k0_chk73 v1947), ∀ a, (k0_off326 v1947) a + S32x128.size a ≤ S1536x512.size a := fun v1947 k0_hw73 => k0_hw73.2.2.1
theorem k0_off328_inb : ∀ (v1947 : BitVec 32) (k0_hw73 : k0_chk73 v1947), ∀ a, (k0_off328 v1947) a + S32x128.size a ≤ S1536x512.size a := fun v1947 k0_hw73 => k0_hw73.2.2.2.1
theorem k0_off330_inb : ∀ (v1947 : BitVec 32) (k0_hw73 : k0_chk73 v1947), ∀ a, (k0_off330 v1947) a + S32x128.size a ≤ S1536x512.size a := fun v1947 k0_hw73 => k0_hw73.2.2.2.2.1
theorem k0_off332_inb : ∀ (v1947 : BitVec 32) (k0_hw73 : k0_chk73 v1947), ∀ a, (k0_off332 v1947) a + S32x128.size a ≤ S1536x512.size a := fun v1947 k0_hw73 => k0_hw73.2.2.2.2.2

def k0_off333 (v1949 : BitVec 32) : Fin 2 → Nat :=
  let v1950 : BitVec 32 := v1949
  let v1997 : Index := Scalar.indexCast v1950
  let c384_588 : Index := 384#32
  ![v1997.toNat, 384]

def k0_chk74 (v1949 : BitVec 32) : Prop :=
  (16 ∣ (k0_mult74 v1949).toNat) ∧
  (∀ a, (k0_off327 v1949) a + S32x128.size a ≤ S1568x512.size a) ∧
  (∀ (hinb : ∀ a, (k0_off327 v1949) a + S32x128.size a ≤ S1568x512.size a), (Rect.unit (s := S1568x512) (k0_off327 v1949) S32x128.size hinb).PackedRows (EltTy.packing .bf16)) ∧
  (∀ a, (k0_off329 v1949) a + S32x128.size a ≤ S1568x512.size a) ∧
  (∀ (hinb : ∀ a, (k0_off329 v1949) a + S32x128.size a ≤ S1568x512.size a), (Rect.unit (s := S1568x512) (k0_off329 v1949) S32x128.size hinb).PackedRows (EltTy.packing .bf16)) ∧
  (∀ a, (k0_off331 v1949) a + S32x128.size a ≤ S1568x512.size a) ∧
  (∀ (hinb : ∀ a, (k0_off331 v1949) a + S32x128.size a ≤ S1568x512.size a), (Rect.unit (s := S1568x512) (k0_off331 v1949) S32x128.size hinb).PackedRows (EltTy.packing .bf16)) ∧
  (∀ a, (k0_off333 v1949) a + S32x128.size a ≤ S1568x512.size a) ∧
  (∀ (hinb : ∀ a, (k0_off333 v1949) a + S32x128.size a ≤ S1568x512.size a), (Rect.unit (s := S1568x512) (k0_off333 v1949) S32x128.size hinb).PackedRows (EltTy.packing .bf16))
theorem k0_mult74_dvd : ∀ (v1949 : BitVec 32) (k0_hw74 : k0_chk74 v1949), 16 ∣ (k0_mult74 v1949).toNat := fun v1949 k0_hw74 => k0_hw74.1
theorem k0_off327_inb : ∀ (v1949 : BitVec 32) (k0_hw74 : k0_chk74 v1949), ∀ a, (k0_off327 v1949) a + S32x128.size a ≤ S1568x512.size a := fun v1949 k0_hw74 => k0_hw74.2.1
theorem k0_off327_packedbf16 : ∀ (v1949 : BitVec 32) (k0_hw74 : k0_chk74 v1949), (Rect.unit (s := S1568x512) (k0_off327 v1949) S32x128.size (k0_off327_inb v1949 k0_hw74)).PackedRows (EltTy.packing .bf16) := fun v1949 k0_hw74 => k0_hw74.2.2.1 (k0_off327_inb v1949 k0_hw74)
theorem k0_off329_inb : ∀ (v1949 : BitVec 32) (k0_hw74 : k0_chk74 v1949), ∀ a, (k0_off329 v1949) a + S32x128.size a ≤ S1568x512.size a := fun v1949 k0_hw74 => k0_hw74.2.2.2.1
theorem k0_off329_packedbf16 : ∀ (v1949 : BitVec 32) (k0_hw74 : k0_chk74 v1949), (Rect.unit (s := S1568x512) (k0_off329 v1949) S32x128.size (k0_off329_inb v1949 k0_hw74)).PackedRows (EltTy.packing .bf16) := fun v1949 k0_hw74 => k0_hw74.2.2.2.2.1 (k0_off329_inb v1949 k0_hw74)
theorem k0_off331_inb : ∀ (v1949 : BitVec 32) (k0_hw74 : k0_chk74 v1949), ∀ a, (k0_off331 v1949) a + S32x128.size a ≤ S1568x512.size a := fun v1949 k0_hw74 => k0_hw74.2.2.2.2.2.1
theorem k0_off331_packedbf16 : ∀ (v1949 : BitVec 32) (k0_hw74 : k0_chk74 v1949), (Rect.unit (s := S1568x512) (k0_off331 v1949) S32x128.size (k0_off331_inb v1949 k0_hw74)).PackedRows (EltTy.packing .bf16) := fun v1949 k0_hw74 => k0_hw74.2.2.2.2.2.2.1 (k0_off331_inb v1949 k0_hw74)
theorem k0_off333_inb : ∀ (v1949 : BitVec 32) (k0_hw74 : k0_chk74 v1949), ∀ a, (k0_off333 v1949) a + S32x128.size a ≤ S1568x512.size a := fun v1949 k0_hw74 => k0_hw74.2.2.2.2.2.2.2.1
theorem k0_off333_packedbf16 : ∀ (v1949 : BitVec 32) (k0_hw74 : k0_chk74 v1949), (Rect.unit (s := S1568x512) (k0_off333 v1949) S32x128.size (k0_off333_inb v1949 k0_hw74)).PackedRows (EltTy.packing .bf16) := fun v1949 k0_hw74 => k0_hw74.2.2.2.2.2.2.2.2 (k0_off333_inb v1949 k0_hw74)

def k0_mult75 (v2001 : BitVec 32) : BitVec 32 :=
  v2001

def k0_mult76 (v2003 : BitVec 32) : BitVec 32 :=
  v2003

def k0_off334 (v2001 : BitVec 32) : Fin 2 → Nat :=
  let v2002 : BitVec 32 := v2001
  let v2005 : Index := Scalar.indexCast v2002
  let c0_590 : Index := 0#32
  ![v2005.toNat, 0]
def k0_off335 (v2001 : BitVec 32) : Fin 2 → Nat :=
  let v2002 : BitVec 32 := v2001
  let v2011 : Index := Scalar.indexCast v2002
  let c0_593 : Index := 0#32
  ![v2011.toNat, 0]
def k0_off336 (v2003 : BitVec 32) : Fin 2 → Nat :=
  let v2004 : BitVec 32 := v2003
  let v2018 : Index := Scalar.indexCast v2004
  let c0_595 : Index := 0#32
  ![v2018.toNat, 0]
def k0_off337 (v2001 : BitVec 32) : Fin 2 → Nat :=
  let v2002 : BitVec 32 := v2001
  let v2022 : Index := Scalar.indexCast v2002
  let c128_596 : Index := 128#32
  ![v2022.toNat, 128]
def k0_off338 (v2003 : BitVec 32) : Fin 2 → Nat :=
  let v2004 : BitVec 32 := v2003
  let v2029 : Index := Scalar.indexCast v2004
  let c128_598 : Index := 128#32
  ![v2029.toNat, 128]
def k0_off339 (v2001 : BitVec 32) : Fin 2 → Nat :=
  let v2002 : BitVec 32 := v2001
  let v2033 : Index := Scalar.indexCast v2002
  let c256_599 : Index := 256#32
  ![v2033.toNat, 256]
def k0_off340 (v2003 : BitVec 32) : Fin 2 → Nat :=
  let v2004 : BitVec 32 := v2003
  let v2040 : Index := Scalar.indexCast v2004
  let c256_601 : Index := 256#32
  ![v2040.toNat, 256]
def k0_off341 (v2001 : BitVec 32) : Fin 2 → Nat :=
  let v2002 : BitVec 32 := v2001
  let v2044 : Index := Scalar.indexCast v2002
  let c384_602 : Index := 384#32
  ![v2044.toNat, 384]

def k0_chk75 (v2001 : BitVec 32) : Prop :=
  (32 ∣ (k0_mult75 v2001).toNat) ∧
  (∀ a, (k0_off334 v2001) a + S32x128.size a ≤ S1536x128.size a) ∧
  (∀ a, (k0_off335 v2001) a + S32x128.size a ≤ S1536x512.size a) ∧
  (∀ a, (k0_off337 v2001) a + S32x128.size a ≤ S1536x512.size a) ∧
  (∀ a, (k0_off339 v2001) a + S32x128.size a ≤ S1536x512.size a) ∧
  (∀ a, (k0_off341 v2001) a + S32x128.size a ≤ S1536x512.size a)
theorem k0_mult75_dvd : ∀ (v2001 : BitVec 32) (k0_hw75 : k0_chk75 v2001), 32 ∣ (k0_mult75 v2001).toNat := fun v2001 k0_hw75 => k0_hw75.1
theorem k0_off334_inb : ∀ (v2001 : BitVec 32) (k0_hw75 : k0_chk75 v2001), ∀ a, (k0_off334 v2001) a + S32x128.size a ≤ S1536x128.size a := fun v2001 k0_hw75 => k0_hw75.2.1
theorem k0_off335_inb : ∀ (v2001 : BitVec 32) (k0_hw75 : k0_chk75 v2001), ∀ a, (k0_off335 v2001) a + S32x128.size a ≤ S1536x512.size a := fun v2001 k0_hw75 => k0_hw75.2.2.1
theorem k0_off337_inb : ∀ (v2001 : BitVec 32) (k0_hw75 : k0_chk75 v2001), ∀ a, (k0_off337 v2001) a + S32x128.size a ≤ S1536x512.size a := fun v2001 k0_hw75 => k0_hw75.2.2.2.1
theorem k0_off339_inb : ∀ (v2001 : BitVec 32) (k0_hw75 : k0_chk75 v2001), ∀ a, (k0_off339 v2001) a + S32x128.size a ≤ S1536x512.size a := fun v2001 k0_hw75 => k0_hw75.2.2.2.2.1
theorem k0_off341_inb : ∀ (v2001 : BitVec 32) (k0_hw75 : k0_chk75 v2001), ∀ a, (k0_off341 v2001) a + S32x128.size a ≤ S1536x512.size a := fun v2001 k0_hw75 => k0_hw75.2.2.2.2.2

def k0_off342 (v2003 : BitVec 32) : Fin 2 → Nat :=
  let v2004 : BitVec 32 := v2003
  let v2051 : Index := Scalar.indexCast v2004
  let c384_604 : Index := 384#32
  ![v2051.toNat, 384]

def k0_chk76 (v2003 : BitVec 32) : Prop :=
  (16 ∣ (k0_mult76 v2003).toNat) ∧
  (∀ a, (k0_off336 v2003) a + S32x128.size a ≤ S1568x512.size a) ∧
  (∀ (hinb : ∀ a, (k0_off336 v2003) a + S32x128.size a ≤ S1568x512.size a), (Rect.unit (s := S1568x512) (k0_off336 v2003) S32x128.size hinb).PackedRows (EltTy.packing .bf16)) ∧
  (∀ a, (k0_off338 v2003) a + S32x128.size a ≤ S1568x512.size a) ∧
  (∀ (hinb : ∀ a, (k0_off338 v2003) a + S32x128.size a ≤ S1568x512.size a), (Rect.unit (s := S1568x512) (k0_off338 v2003) S32x128.size hinb).PackedRows (EltTy.packing .bf16)) ∧
  (∀ a, (k0_off340 v2003) a + S32x128.size a ≤ S1568x512.size a) ∧
  (∀ (hinb : ∀ a, (k0_off340 v2003) a + S32x128.size a ≤ S1568x512.size a), (Rect.unit (s := S1568x512) (k0_off340 v2003) S32x128.size hinb).PackedRows (EltTy.packing .bf16)) ∧
  (∀ a, (k0_off342 v2003) a + S32x128.size a ≤ S1568x512.size a) ∧
  (∀ (hinb : ∀ a, (k0_off342 v2003) a + S32x128.size a ≤ S1568x512.size a), (Rect.unit (s := S1568x512) (k0_off342 v2003) S32x128.size hinb).PackedRows (EltTy.packing .bf16))
theorem k0_mult76_dvd : ∀ (v2003 : BitVec 32) (k0_hw76 : k0_chk76 v2003), 16 ∣ (k0_mult76 v2003).toNat := fun v2003 k0_hw76 => k0_hw76.1
theorem k0_off336_inb : ∀ (v2003 : BitVec 32) (k0_hw76 : k0_chk76 v2003), ∀ a, (k0_off336 v2003) a + S32x128.size a ≤ S1568x512.size a := fun v2003 k0_hw76 => k0_hw76.2.1
theorem k0_off336_packedbf16 : ∀ (v2003 : BitVec 32) (k0_hw76 : k0_chk76 v2003), (Rect.unit (s := S1568x512) (k0_off336 v2003) S32x128.size (k0_off336_inb v2003 k0_hw76)).PackedRows (EltTy.packing .bf16) := fun v2003 k0_hw76 => k0_hw76.2.2.1 (k0_off336_inb v2003 k0_hw76)
theorem k0_off338_inb : ∀ (v2003 : BitVec 32) (k0_hw76 : k0_chk76 v2003), ∀ a, (k0_off338 v2003) a + S32x128.size a ≤ S1568x512.size a := fun v2003 k0_hw76 => k0_hw76.2.2.2.1
theorem k0_off338_packedbf16 : ∀ (v2003 : BitVec 32) (k0_hw76 : k0_chk76 v2003), (Rect.unit (s := S1568x512) (k0_off338 v2003) S32x128.size (k0_off338_inb v2003 k0_hw76)).PackedRows (EltTy.packing .bf16) := fun v2003 k0_hw76 => k0_hw76.2.2.2.2.1 (k0_off338_inb v2003 k0_hw76)
theorem k0_off340_inb : ∀ (v2003 : BitVec 32) (k0_hw76 : k0_chk76 v2003), ∀ a, (k0_off340 v2003) a + S32x128.size a ≤ S1568x512.size a := fun v2003 k0_hw76 => k0_hw76.2.2.2.2.2.1
theorem k0_off340_packedbf16 : ∀ (v2003 : BitVec 32) (k0_hw76 : k0_chk76 v2003), (Rect.unit (s := S1568x512) (k0_off340 v2003) S32x128.size (k0_off340_inb v2003 k0_hw76)).PackedRows (EltTy.packing .bf16) := fun v2003 k0_hw76 => k0_hw76.2.2.2.2.2.2.1 (k0_off340_inb v2003 k0_hw76)
theorem k0_off342_inb : ∀ (v2003 : BitVec 32) (k0_hw76 : k0_chk76 v2003), ∀ a, (k0_off342 v2003) a + S32x128.size a ≤ S1568x512.size a := fun v2003 k0_hw76 => k0_hw76.2.2.2.2.2.2.2.1
theorem k0_off342_packedbf16 : ∀ (v2003 : BitVec 32) (k0_hw76 : k0_chk76 v2003), (Rect.unit (s := S1568x512) (k0_off342 v2003) S32x128.size (k0_off342_inb v2003 k0_hw76)).PackedRows (EltTy.packing .bf16) := fun v2003 k0_hw76 => k0_hw76.2.2.2.2.2.2.2.2 (k0_off342_inb v2003 k0_hw76)

def k0_mult77 (v2055 : BitVec 32) : BitVec 32 :=
  v2055

def k0_mult78 (v2057 : BitVec 32) : BitVec 32 :=
  v2057

def k0_off343 (v2055 : BitVec 32) : Fin 2 → Nat :=
  let v2056 : BitVec 32 := v2055
  let v2059 : Index := Scalar.indexCast v2056
  let c0_606 : Index := 0#32
  ![v2059.toNat, 0]
def k0_off344 (v2055 : BitVec 32) : Fin 2 → Nat :=
  let v2056 : BitVec 32 := v2055
  let v2065 : Index := Scalar.indexCast v2056
  let c0_609 : Index := 0#32
  ![v2065.toNat, 0]
def k0_off345 (v2057 : BitVec 32) : Fin 2 → Nat :=
  let v2058 : BitVec 32 := v2057
  let v2072 : Index := Scalar.indexCast v2058
  let c0_611 : Index := 0#32
  ![v2072.toNat, 0]
def k0_off346 (v2055 : BitVec 32) : Fin 2 → Nat :=
  let v2056 : BitVec 32 := v2055
  let v2076 : Index := Scalar.indexCast v2056
  let c128_612 : Index := 128#32
  ![v2076.toNat, 128]
def k0_off347 (v2057 : BitVec 32) : Fin 2 → Nat :=
  let v2058 : BitVec 32 := v2057
  let v2083 : Index := Scalar.indexCast v2058
  let c128_614 : Index := 128#32
  ![v2083.toNat, 128]
def k0_off348 (v2055 : BitVec 32) : Fin 2 → Nat :=
  let v2056 : BitVec 32 := v2055
  let v2087 : Index := Scalar.indexCast v2056
  let c256_615 : Index := 256#32
  ![v2087.toNat, 256]
def k0_off349 (v2057 : BitVec 32) : Fin 2 → Nat :=
  let v2058 : BitVec 32 := v2057
  let v2094 : Index := Scalar.indexCast v2058
  let c256_617 : Index := 256#32
  ![v2094.toNat, 256]
def k0_off350 (v2055 : BitVec 32) : Fin 2 → Nat :=
  let v2056 : BitVec 32 := v2055
  let v2098 : Index := Scalar.indexCast v2056
  let c384_618 : Index := 384#32
  ![v2098.toNat, 384]

def k0_chk77 (v2055 : BitVec 32) : Prop :=
  (32 ∣ (k0_mult77 v2055).toNat) ∧
  (∀ a, (k0_off343 v2055) a + S32x128.size a ≤ S1536x128.size a) ∧
  (∀ a, (k0_off344 v2055) a + S32x128.size a ≤ S1536x512.size a) ∧
  (∀ a, (k0_off346 v2055) a + S32x128.size a ≤ S1536x512.size a) ∧
  (∀ a, (k0_off348 v2055) a + S32x128.size a ≤ S1536x512.size a) ∧
  (∀ a, (k0_off350 v2055) a + S32x128.size a ≤ S1536x512.size a)
theorem k0_mult77_dvd : ∀ (v2055 : BitVec 32) (k0_hw77 : k0_chk77 v2055), 32 ∣ (k0_mult77 v2055).toNat := fun v2055 k0_hw77 => k0_hw77.1
theorem k0_off343_inb : ∀ (v2055 : BitVec 32) (k0_hw77 : k0_chk77 v2055), ∀ a, (k0_off343 v2055) a + S32x128.size a ≤ S1536x128.size a := fun v2055 k0_hw77 => k0_hw77.2.1
theorem k0_off344_inb : ∀ (v2055 : BitVec 32) (k0_hw77 : k0_chk77 v2055), ∀ a, (k0_off344 v2055) a + S32x128.size a ≤ S1536x512.size a := fun v2055 k0_hw77 => k0_hw77.2.2.1
theorem k0_off346_inb : ∀ (v2055 : BitVec 32) (k0_hw77 : k0_chk77 v2055), ∀ a, (k0_off346 v2055) a + S32x128.size a ≤ S1536x512.size a := fun v2055 k0_hw77 => k0_hw77.2.2.2.1
theorem k0_off348_inb : ∀ (v2055 : BitVec 32) (k0_hw77 : k0_chk77 v2055), ∀ a, (k0_off348 v2055) a + S32x128.size a ≤ S1536x512.size a := fun v2055 k0_hw77 => k0_hw77.2.2.2.2.1
theorem k0_off350_inb : ∀ (v2055 : BitVec 32) (k0_hw77 : k0_chk77 v2055), ∀ a, (k0_off350 v2055) a + S32x128.size a ≤ S1536x512.size a := fun v2055 k0_hw77 => k0_hw77.2.2.2.2.2

def k0_off351 (v2057 : BitVec 32) : Fin 2 → Nat :=
  let v2058 : BitVec 32 := v2057
  let v2105 : Index := Scalar.indexCast v2058
  let c384_620 : Index := 384#32
  ![v2105.toNat, 384]

def k0_chk78 (v2057 : BitVec 32) : Prop :=
  (16 ∣ (k0_mult78 v2057).toNat) ∧
  (∀ a, (k0_off345 v2057) a + S32x128.size a ≤ S1568x512.size a) ∧
  (∀ (hinb : ∀ a, (k0_off345 v2057) a + S32x128.size a ≤ S1568x512.size a), (Rect.unit (s := S1568x512) (k0_off345 v2057) S32x128.size hinb).PackedRows (EltTy.packing .bf16)) ∧
  (∀ a, (k0_off347 v2057) a + S32x128.size a ≤ S1568x512.size a) ∧
  (∀ (hinb : ∀ a, (k0_off347 v2057) a + S32x128.size a ≤ S1568x512.size a), (Rect.unit (s := S1568x512) (k0_off347 v2057) S32x128.size hinb).PackedRows (EltTy.packing .bf16)) ∧
  (∀ a, (k0_off349 v2057) a + S32x128.size a ≤ S1568x512.size a) ∧
  (∀ (hinb : ∀ a, (k0_off349 v2057) a + S32x128.size a ≤ S1568x512.size a), (Rect.unit (s := S1568x512) (k0_off349 v2057) S32x128.size hinb).PackedRows (EltTy.packing .bf16)) ∧
  (∀ a, (k0_off351 v2057) a + S32x128.size a ≤ S1568x512.size a) ∧
  (∀ (hinb : ∀ a, (k0_off351 v2057) a + S32x128.size a ≤ S1568x512.size a), (Rect.unit (s := S1568x512) (k0_off351 v2057) S32x128.size hinb).PackedRows (EltTy.packing .bf16))
theorem k0_mult78_dvd : ∀ (v2057 : BitVec 32) (k0_hw78 : k0_chk78 v2057), 16 ∣ (k0_mult78 v2057).toNat := fun v2057 k0_hw78 => k0_hw78.1
theorem k0_off345_inb : ∀ (v2057 : BitVec 32) (k0_hw78 : k0_chk78 v2057), ∀ a, (k0_off345 v2057) a + S32x128.size a ≤ S1568x512.size a := fun v2057 k0_hw78 => k0_hw78.2.1
theorem k0_off345_packedbf16 : ∀ (v2057 : BitVec 32) (k0_hw78 : k0_chk78 v2057), (Rect.unit (s := S1568x512) (k0_off345 v2057) S32x128.size (k0_off345_inb v2057 k0_hw78)).PackedRows (EltTy.packing .bf16) := fun v2057 k0_hw78 => k0_hw78.2.2.1 (k0_off345_inb v2057 k0_hw78)
theorem k0_off347_inb : ∀ (v2057 : BitVec 32) (k0_hw78 : k0_chk78 v2057), ∀ a, (k0_off347 v2057) a + S32x128.size a ≤ S1568x512.size a := fun v2057 k0_hw78 => k0_hw78.2.2.2.1
theorem k0_off347_packedbf16 : ∀ (v2057 : BitVec 32) (k0_hw78 : k0_chk78 v2057), (Rect.unit (s := S1568x512) (k0_off347 v2057) S32x128.size (k0_off347_inb v2057 k0_hw78)).PackedRows (EltTy.packing .bf16) := fun v2057 k0_hw78 => k0_hw78.2.2.2.2.1 (k0_off347_inb v2057 k0_hw78)
theorem k0_off349_inb : ∀ (v2057 : BitVec 32) (k0_hw78 : k0_chk78 v2057), ∀ a, (k0_off349 v2057) a + S32x128.size a ≤ S1568x512.size a := fun v2057 k0_hw78 => k0_hw78.2.2.2.2.2.1
theorem k0_off349_packedbf16 : ∀ (v2057 : BitVec 32) (k0_hw78 : k0_chk78 v2057), (Rect.unit (s := S1568x512) (k0_off349 v2057) S32x128.size (k0_off349_inb v2057 k0_hw78)).PackedRows (EltTy.packing .bf16) := fun v2057 k0_hw78 => k0_hw78.2.2.2.2.2.2.1 (k0_off349_inb v2057 k0_hw78)
theorem k0_off351_inb : ∀ (v2057 : BitVec 32) (k0_hw78 : k0_chk78 v2057), ∀ a, (k0_off351 v2057) a + S32x128.size a ≤ S1568x512.size a := fun v2057 k0_hw78 => k0_hw78.2.2.2.2.2.2.2.1
theorem k0_off351_packedbf16 : ∀ (v2057 : BitVec 32) (k0_hw78 : k0_chk78 v2057), (Rect.unit (s := S1568x512) (k0_off351 v2057) S32x128.size (k0_off351_inb v2057 k0_hw78)).PackedRows (EltTy.packing .bf16) := fun v2057 k0_hw78 => k0_hw78.2.2.2.2.2.2.2.2 (k0_off351_inb v2057 k0_hw78)

def k0_mult79 (v2109 : BitVec 32) : BitVec 32 :=
  v2109

def k0_mult80 (v2111 : BitVec 32) : BitVec 32 :=
  v2111

def k0_off352 (v2109 : BitVec 32) : Fin 2 → Nat :=
  let v2110 : BitVec 32 := v2109
  let v2113 : Index := Scalar.indexCast v2110
  let c0_622 : Index := 0#32
  ![v2113.toNat, 0]
def k0_off353 (v2109 : BitVec 32) : Fin 2 → Nat :=
  let v2110 : BitVec 32 := v2109
  let v2119 : Index := Scalar.indexCast v2110
  let c0_625 : Index := 0#32
  ![v2119.toNat, 0]
def k0_off354 (v2111 : BitVec 32) : Fin 2 → Nat :=
  let v2112 : BitVec 32 := v2111
  let v2126 : Index := Scalar.indexCast v2112
  let c0_627 : Index := 0#32
  ![v2126.toNat, 0]
def k0_off355 (v2109 : BitVec 32) : Fin 2 → Nat :=
  let v2110 : BitVec 32 := v2109
  let v2130 : Index := Scalar.indexCast v2110
  let c128_628 : Index := 128#32
  ![v2130.toNat, 128]
def k0_off356 (v2111 : BitVec 32) : Fin 2 → Nat :=
  let v2112 : BitVec 32 := v2111
  let v2137 : Index := Scalar.indexCast v2112
  let c128_630 : Index := 128#32
  ![v2137.toNat, 128]
def k0_off357 (v2109 : BitVec 32) : Fin 2 → Nat :=
  let v2110 : BitVec 32 := v2109
  let v2141 : Index := Scalar.indexCast v2110
  let c256_631 : Index := 256#32
  ![v2141.toNat, 256]
def k0_off358 (v2111 : BitVec 32) : Fin 2 → Nat :=
  let v2112 : BitVec 32 := v2111
  let v2148 : Index := Scalar.indexCast v2112
  let c256_633 : Index := 256#32
  ![v2148.toNat, 256]
def k0_off359 (v2109 : BitVec 32) : Fin 2 → Nat :=
  let v2110 : BitVec 32 := v2109
  let v2152 : Index := Scalar.indexCast v2110
  let c384_634 : Index := 384#32
  ![v2152.toNat, 384]

def k0_chk79 (v2109 : BitVec 32) : Prop :=
  (32 ∣ (k0_mult79 v2109).toNat) ∧
  (∀ a, (k0_off352 v2109) a + S32x128.size a ≤ S1536x128.size a) ∧
  (∀ a, (k0_off353 v2109) a + S32x128.size a ≤ S1536x512.size a) ∧
  (∀ a, (k0_off355 v2109) a + S32x128.size a ≤ S1536x512.size a) ∧
  (∀ a, (k0_off357 v2109) a + S32x128.size a ≤ S1536x512.size a) ∧
  (∀ a, (k0_off359 v2109) a + S32x128.size a ≤ S1536x512.size a)
theorem k0_mult79_dvd : ∀ (v2109 : BitVec 32) (k0_hw79 : k0_chk79 v2109), 32 ∣ (k0_mult79 v2109).toNat := fun v2109 k0_hw79 => k0_hw79.1
theorem k0_off352_inb : ∀ (v2109 : BitVec 32) (k0_hw79 : k0_chk79 v2109), ∀ a, (k0_off352 v2109) a + S32x128.size a ≤ S1536x128.size a := fun v2109 k0_hw79 => k0_hw79.2.1
theorem k0_off353_inb : ∀ (v2109 : BitVec 32) (k0_hw79 : k0_chk79 v2109), ∀ a, (k0_off353 v2109) a + S32x128.size a ≤ S1536x512.size a := fun v2109 k0_hw79 => k0_hw79.2.2.1
theorem k0_off355_inb : ∀ (v2109 : BitVec 32) (k0_hw79 : k0_chk79 v2109), ∀ a, (k0_off355 v2109) a + S32x128.size a ≤ S1536x512.size a := fun v2109 k0_hw79 => k0_hw79.2.2.2.1
theorem k0_off357_inb : ∀ (v2109 : BitVec 32) (k0_hw79 : k0_chk79 v2109), ∀ a, (k0_off357 v2109) a + S32x128.size a ≤ S1536x512.size a := fun v2109 k0_hw79 => k0_hw79.2.2.2.2.1
theorem k0_off359_inb : ∀ (v2109 : BitVec 32) (k0_hw79 : k0_chk79 v2109), ∀ a, (k0_off359 v2109) a + S32x128.size a ≤ S1536x512.size a := fun v2109 k0_hw79 => k0_hw79.2.2.2.2.2

def k0_off360 (v2111 : BitVec 32) : Fin 2 → Nat :=
  let v2112 : BitVec 32 := v2111
  let v2159 : Index := Scalar.indexCast v2112
  let c384_636 : Index := 384#32
  ![v2159.toNat, 384]

def k0_chk80 (v2111 : BitVec 32) : Prop :=
  (16 ∣ (k0_mult80 v2111).toNat) ∧
  (∀ a, (k0_off354 v2111) a + S32x128.size a ≤ S1568x512.size a) ∧
  (∀ (hinb : ∀ a, (k0_off354 v2111) a + S32x128.size a ≤ S1568x512.size a), (Rect.unit (s := S1568x512) (k0_off354 v2111) S32x128.size hinb).PackedRows (EltTy.packing .bf16)) ∧
  (∀ a, (k0_off356 v2111) a + S32x128.size a ≤ S1568x512.size a) ∧
  (∀ (hinb : ∀ a, (k0_off356 v2111) a + S32x128.size a ≤ S1568x512.size a), (Rect.unit (s := S1568x512) (k0_off356 v2111) S32x128.size hinb).PackedRows (EltTy.packing .bf16)) ∧
  (∀ a, (k0_off358 v2111) a + S32x128.size a ≤ S1568x512.size a) ∧
  (∀ (hinb : ∀ a, (k0_off358 v2111) a + S32x128.size a ≤ S1568x512.size a), (Rect.unit (s := S1568x512) (k0_off358 v2111) S32x128.size hinb).PackedRows (EltTy.packing .bf16)) ∧
  (∀ a, (k0_off360 v2111) a + S32x128.size a ≤ S1568x512.size a) ∧
  (∀ (hinb : ∀ a, (k0_off360 v2111) a + S32x128.size a ≤ S1568x512.size a), (Rect.unit (s := S1568x512) (k0_off360 v2111) S32x128.size hinb).PackedRows (EltTy.packing .bf16))
theorem k0_mult80_dvd : ∀ (v2111 : BitVec 32) (k0_hw80 : k0_chk80 v2111), 16 ∣ (k0_mult80 v2111).toNat := fun v2111 k0_hw80 => k0_hw80.1
theorem k0_off354_inb : ∀ (v2111 : BitVec 32) (k0_hw80 : k0_chk80 v2111), ∀ a, (k0_off354 v2111) a + S32x128.size a ≤ S1568x512.size a := fun v2111 k0_hw80 => k0_hw80.2.1
theorem k0_off354_packedbf16 : ∀ (v2111 : BitVec 32) (k0_hw80 : k0_chk80 v2111), (Rect.unit (s := S1568x512) (k0_off354 v2111) S32x128.size (k0_off354_inb v2111 k0_hw80)).PackedRows (EltTy.packing .bf16) := fun v2111 k0_hw80 => k0_hw80.2.2.1 (k0_off354_inb v2111 k0_hw80)
theorem k0_off356_inb : ∀ (v2111 : BitVec 32) (k0_hw80 : k0_chk80 v2111), ∀ a, (k0_off356 v2111) a + S32x128.size a ≤ S1568x512.size a := fun v2111 k0_hw80 => k0_hw80.2.2.2.1
theorem k0_off356_packedbf16 : ∀ (v2111 : BitVec 32) (k0_hw80 : k0_chk80 v2111), (Rect.unit (s := S1568x512) (k0_off356 v2111) S32x128.size (k0_off356_inb v2111 k0_hw80)).PackedRows (EltTy.packing .bf16) := fun v2111 k0_hw80 => k0_hw80.2.2.2.2.1 (k0_off356_inb v2111 k0_hw80)
theorem k0_off358_inb : ∀ (v2111 : BitVec 32) (k0_hw80 : k0_chk80 v2111), ∀ a, (k0_off358 v2111) a + S32x128.size a ≤ S1568x512.size a := fun v2111 k0_hw80 => k0_hw80.2.2.2.2.2.1
theorem k0_off358_packedbf16 : ∀ (v2111 : BitVec 32) (k0_hw80 : k0_chk80 v2111), (Rect.unit (s := S1568x512) (k0_off358 v2111) S32x128.size (k0_off358_inb v2111 k0_hw80)).PackedRows (EltTy.packing .bf16) := fun v2111 k0_hw80 => k0_hw80.2.2.2.2.2.2.1 (k0_off358_inb v2111 k0_hw80)
theorem k0_off360_inb : ∀ (v2111 : BitVec 32) (k0_hw80 : k0_chk80 v2111), ∀ a, (k0_off360 v2111) a + S32x128.size a ≤ S1568x512.size a := fun v2111 k0_hw80 => k0_hw80.2.2.2.2.2.2.2.1
theorem k0_off360_packedbf16 : ∀ (v2111 : BitVec 32) (k0_hw80 : k0_chk80 v2111), (Rect.unit (s := S1568x512) (k0_off360 v2111) S32x128.size (k0_off360_inb v2111 k0_hw80)).PackedRows (EltTy.packing .bf16) := fun v2111 k0_hw80 => k0_hw80.2.2.2.2.2.2.2.2 (k0_off360_inb v2111 k0_hw80)

def k0_mult81 (v2163 : BitVec 32) : BitVec 32 :=
  v2163

def k0_mult82 (v2165 : BitVec 32) : BitVec 32 :=
  v2165

def k0_off361 (v2163 : BitVec 32) : Fin 2 → Nat :=
  let v2164 : BitVec 32 := v2163
  let v2167 : Index := Scalar.indexCast v2164
  let c0_638 : Index := 0#32
  ![v2167.toNat, 0]
def k0_off362 (v2163 : BitVec 32) : Fin 2 → Nat :=
  let v2164 : BitVec 32 := v2163
  let v2173 : Index := Scalar.indexCast v2164
  let c0_641 : Index := 0#32
  ![v2173.toNat, 0]
def k0_off363 (v2165 : BitVec 32) : Fin 2 → Nat :=
  let v2166 : BitVec 32 := v2165
  let v2180 : Index := Scalar.indexCast v2166
  let c0_643 : Index := 0#32
  ![v2180.toNat, 0]
def k0_off364 (v2163 : BitVec 32) : Fin 2 → Nat :=
  let v2164 : BitVec 32 := v2163
  let v2184 : Index := Scalar.indexCast v2164
  let c128_644 : Index := 128#32
  ![v2184.toNat, 128]
def k0_off365 (v2165 : BitVec 32) : Fin 2 → Nat :=
  let v2166 : BitVec 32 := v2165
  let v2191 : Index := Scalar.indexCast v2166
  let c128_646 : Index := 128#32
  ![v2191.toNat, 128]
def k0_off366 (v2163 : BitVec 32) : Fin 2 → Nat :=
  let v2164 : BitVec 32 := v2163
  let v2195 : Index := Scalar.indexCast v2164
  let c256_647 : Index := 256#32
  ![v2195.toNat, 256]
def k0_off367 (v2165 : BitVec 32) : Fin 2 → Nat :=
  let v2166 : BitVec 32 := v2165
  let v2202 : Index := Scalar.indexCast v2166
  let c256_649 : Index := 256#32
  ![v2202.toNat, 256]
def k0_off368 (v2163 : BitVec 32) : Fin 2 → Nat :=
  let v2164 : BitVec 32 := v2163
  let v2206 : Index := Scalar.indexCast v2164
  let c384_650 : Index := 384#32
  ![v2206.toNat, 384]

def k0_chk81 (v2163 : BitVec 32) : Prop :=
  (32 ∣ (k0_mult81 v2163).toNat) ∧
  (∀ a, (k0_off361 v2163) a + S32x128.size a ≤ S1536x128.size a) ∧
  (∀ a, (k0_off362 v2163) a + S32x128.size a ≤ S1536x512.size a) ∧
  (∀ a, (k0_off364 v2163) a + S32x128.size a ≤ S1536x512.size a) ∧
  (∀ a, (k0_off366 v2163) a + S32x128.size a ≤ S1536x512.size a) ∧
  (∀ a, (k0_off368 v2163) a + S32x128.size a ≤ S1536x512.size a)
theorem k0_mult81_dvd : ∀ (v2163 : BitVec 32) (k0_hw81 : k0_chk81 v2163), 32 ∣ (k0_mult81 v2163).toNat := fun v2163 k0_hw81 => k0_hw81.1
theorem k0_off361_inb : ∀ (v2163 : BitVec 32) (k0_hw81 : k0_chk81 v2163), ∀ a, (k0_off361 v2163) a + S32x128.size a ≤ S1536x128.size a := fun v2163 k0_hw81 => k0_hw81.2.1
theorem k0_off362_inb : ∀ (v2163 : BitVec 32) (k0_hw81 : k0_chk81 v2163), ∀ a, (k0_off362 v2163) a + S32x128.size a ≤ S1536x512.size a := fun v2163 k0_hw81 => k0_hw81.2.2.1
theorem k0_off364_inb : ∀ (v2163 : BitVec 32) (k0_hw81 : k0_chk81 v2163), ∀ a, (k0_off364 v2163) a + S32x128.size a ≤ S1536x512.size a := fun v2163 k0_hw81 => k0_hw81.2.2.2.1
theorem k0_off366_inb : ∀ (v2163 : BitVec 32) (k0_hw81 : k0_chk81 v2163), ∀ a, (k0_off366 v2163) a + S32x128.size a ≤ S1536x512.size a := fun v2163 k0_hw81 => k0_hw81.2.2.2.2.1
theorem k0_off368_inb : ∀ (v2163 : BitVec 32) (k0_hw81 : k0_chk81 v2163), ∀ a, (k0_off368 v2163) a + S32x128.size a ≤ S1536x512.size a := fun v2163 k0_hw81 => k0_hw81.2.2.2.2.2

def k0_off369 (v2165 : BitVec 32) : Fin 2 → Nat :=
  let v2166 : BitVec 32 := v2165
  let v2213 : Index := Scalar.indexCast v2166
  let c384_652 : Index := 384#32
  ![v2213.toNat, 384]

def k0_chk82 (v2165 : BitVec 32) : Prop :=
  (16 ∣ (k0_mult82 v2165).toNat) ∧
  (∀ a, (k0_off363 v2165) a + S32x128.size a ≤ S1568x512.size a) ∧
  (∀ (hinb : ∀ a, (k0_off363 v2165) a + S32x128.size a ≤ S1568x512.size a), (Rect.unit (s := S1568x512) (k0_off363 v2165) S32x128.size hinb).PackedRows (EltTy.packing .bf16)) ∧
  (∀ a, (k0_off365 v2165) a + S32x128.size a ≤ S1568x512.size a) ∧
  (∀ (hinb : ∀ a, (k0_off365 v2165) a + S32x128.size a ≤ S1568x512.size a), (Rect.unit (s := S1568x512) (k0_off365 v2165) S32x128.size hinb).PackedRows (EltTy.packing .bf16)) ∧
  (∀ a, (k0_off367 v2165) a + S32x128.size a ≤ S1568x512.size a) ∧
  (∀ (hinb : ∀ a, (k0_off367 v2165) a + S32x128.size a ≤ S1568x512.size a), (Rect.unit (s := S1568x512) (k0_off367 v2165) S32x128.size hinb).PackedRows (EltTy.packing .bf16)) ∧
  (∀ a, (k0_off369 v2165) a + S32x128.size a ≤ S1568x512.size a) ∧
  (∀ (hinb : ∀ a, (k0_off369 v2165) a + S32x128.size a ≤ S1568x512.size a), (Rect.unit (s := S1568x512) (k0_off369 v2165) S32x128.size hinb).PackedRows (EltTy.packing .bf16))
theorem k0_mult82_dvd : ∀ (v2165 : BitVec 32) (k0_hw82 : k0_chk82 v2165), 16 ∣ (k0_mult82 v2165).toNat := fun v2165 k0_hw82 => k0_hw82.1
theorem k0_off363_inb : ∀ (v2165 : BitVec 32) (k0_hw82 : k0_chk82 v2165), ∀ a, (k0_off363 v2165) a + S32x128.size a ≤ S1568x512.size a := fun v2165 k0_hw82 => k0_hw82.2.1
theorem k0_off363_packedbf16 : ∀ (v2165 : BitVec 32) (k0_hw82 : k0_chk82 v2165), (Rect.unit (s := S1568x512) (k0_off363 v2165) S32x128.size (k0_off363_inb v2165 k0_hw82)).PackedRows (EltTy.packing .bf16) := fun v2165 k0_hw82 => k0_hw82.2.2.1 (k0_off363_inb v2165 k0_hw82)
theorem k0_off365_inb : ∀ (v2165 : BitVec 32) (k0_hw82 : k0_chk82 v2165), ∀ a, (k0_off365 v2165) a + S32x128.size a ≤ S1568x512.size a := fun v2165 k0_hw82 => k0_hw82.2.2.2.1
theorem k0_off365_packedbf16 : ∀ (v2165 : BitVec 32) (k0_hw82 : k0_chk82 v2165), (Rect.unit (s := S1568x512) (k0_off365 v2165) S32x128.size (k0_off365_inb v2165 k0_hw82)).PackedRows (EltTy.packing .bf16) := fun v2165 k0_hw82 => k0_hw82.2.2.2.2.1 (k0_off365_inb v2165 k0_hw82)
theorem k0_off367_inb : ∀ (v2165 : BitVec 32) (k0_hw82 : k0_chk82 v2165), ∀ a, (k0_off367 v2165) a + S32x128.size a ≤ S1568x512.size a := fun v2165 k0_hw82 => k0_hw82.2.2.2.2.2.1
theorem k0_off367_packedbf16 : ∀ (v2165 : BitVec 32) (k0_hw82 : k0_chk82 v2165), (Rect.unit (s := S1568x512) (k0_off367 v2165) S32x128.size (k0_off367_inb v2165 k0_hw82)).PackedRows (EltTy.packing .bf16) := fun v2165 k0_hw82 => k0_hw82.2.2.2.2.2.2.1 (k0_off367_inb v2165 k0_hw82)
theorem k0_off369_inb : ∀ (v2165 : BitVec 32) (k0_hw82 : k0_chk82 v2165), ∀ a, (k0_off369 v2165) a + S32x128.size a ≤ S1568x512.size a := fun v2165 k0_hw82 => k0_hw82.2.2.2.2.2.2.2.1
theorem k0_off369_packedbf16 : ∀ (v2165 : BitVec 32) (k0_hw82 : k0_chk82 v2165), (Rect.unit (s := S1568x512) (k0_off369 v2165) S32x128.size (k0_off369_inb v2165 k0_hw82)).PackedRows (EltTy.packing .bf16) := fun v2165 k0_hw82 => k0_hw82.2.2.2.2.2.2.2.2 (k0_off369_inb v2165 k0_hw82)

def k0_mult83 (v2217 : BitVec 32) : BitVec 32 :=
  v2217

def k0_mult84 (v2219 : BitVec 32) : BitVec 32 :=
  v2219

def k0_off370 (v2217 : BitVec 32) : Fin 2 → Nat :=
  let v2218 : BitVec 32 := v2217
  let v2221 : Index := Scalar.indexCast v2218
  let c0_654 : Index := 0#32
  ![v2221.toNat, 0]
def k0_off371 (v2217 : BitVec 32) : Fin 2 → Nat :=
  let v2218 : BitVec 32 := v2217
  let v2227 : Index := Scalar.indexCast v2218
  let c0_657 : Index := 0#32
  ![v2227.toNat, 0]
def k0_off372 (v2219 : BitVec 32) : Fin 2 → Nat :=
  let v2220 : BitVec 32 := v2219
  let v2234 : Index := Scalar.indexCast v2220
  let c0_659 : Index := 0#32
  ![v2234.toNat, 0]
def k0_off373 (v2217 : BitVec 32) : Fin 2 → Nat :=
  let v2218 : BitVec 32 := v2217
  let v2238 : Index := Scalar.indexCast v2218
  let c128_660 : Index := 128#32
  ![v2238.toNat, 128]
def k0_off374 (v2219 : BitVec 32) : Fin 2 → Nat :=
  let v2220 : BitVec 32 := v2219
  let v2245 : Index := Scalar.indexCast v2220
  let c128_662 : Index := 128#32
  ![v2245.toNat, 128]
def k0_off375 (v2217 : BitVec 32) : Fin 2 → Nat :=
  let v2218 : BitVec 32 := v2217
  let v2249 : Index := Scalar.indexCast v2218
  let c256_663 : Index := 256#32
  ![v2249.toNat, 256]
def k0_off376 (v2219 : BitVec 32) : Fin 2 → Nat :=
  let v2220 : BitVec 32 := v2219
  let v2256 : Index := Scalar.indexCast v2220
  let c256_665 : Index := 256#32
  ![v2256.toNat, 256]
def k0_off377 (v2217 : BitVec 32) : Fin 2 → Nat :=
  let v2218 : BitVec 32 := v2217
  let v2260 : Index := Scalar.indexCast v2218
  let c384_666 : Index := 384#32
  ![v2260.toNat, 384]

def k0_chk83 (v2217 : BitVec 32) : Prop :=
  (32 ∣ (k0_mult83 v2217).toNat) ∧
  (∀ a, (k0_off370 v2217) a + S32x128.size a ≤ S1536x128.size a) ∧
  (∀ a, (k0_off371 v2217) a + S32x128.size a ≤ S1536x512.size a) ∧
  (∀ a, (k0_off373 v2217) a + S32x128.size a ≤ S1536x512.size a) ∧
  (∀ a, (k0_off375 v2217) a + S32x128.size a ≤ S1536x512.size a) ∧
  (∀ a, (k0_off377 v2217) a + S32x128.size a ≤ S1536x512.size a)
theorem k0_mult83_dvd : ∀ (v2217 : BitVec 32) (k0_hw83 : k0_chk83 v2217), 32 ∣ (k0_mult83 v2217).toNat := fun v2217 k0_hw83 => k0_hw83.1
theorem k0_off370_inb : ∀ (v2217 : BitVec 32) (k0_hw83 : k0_chk83 v2217), ∀ a, (k0_off370 v2217) a + S32x128.size a ≤ S1536x128.size a := fun v2217 k0_hw83 => k0_hw83.2.1
theorem k0_off371_inb : ∀ (v2217 : BitVec 32) (k0_hw83 : k0_chk83 v2217), ∀ a, (k0_off371 v2217) a + S32x128.size a ≤ S1536x512.size a := fun v2217 k0_hw83 => k0_hw83.2.2.1
theorem k0_off373_inb : ∀ (v2217 : BitVec 32) (k0_hw83 : k0_chk83 v2217), ∀ a, (k0_off373 v2217) a + S32x128.size a ≤ S1536x512.size a := fun v2217 k0_hw83 => k0_hw83.2.2.2.1
theorem k0_off375_inb : ∀ (v2217 : BitVec 32) (k0_hw83 : k0_chk83 v2217), ∀ a, (k0_off375 v2217) a + S32x128.size a ≤ S1536x512.size a := fun v2217 k0_hw83 => k0_hw83.2.2.2.2.1
theorem k0_off377_inb : ∀ (v2217 : BitVec 32) (k0_hw83 : k0_chk83 v2217), ∀ a, (k0_off377 v2217) a + S32x128.size a ≤ S1536x512.size a := fun v2217 k0_hw83 => k0_hw83.2.2.2.2.2

def k0_off378 (v2219 : BitVec 32) : Fin 2 → Nat :=
  let v2220 : BitVec 32 := v2219
  let v2267 : Index := Scalar.indexCast v2220
  let c384_668 : Index := 384#32
  ![v2267.toNat, 384]

def k0_chk84 (v2219 : BitVec 32) : Prop :=
  (16 ∣ (k0_mult84 v2219).toNat) ∧
  (∀ a, (k0_off372 v2219) a + S32x128.size a ≤ S1568x512.size a) ∧
  (∀ (hinb : ∀ a, (k0_off372 v2219) a + S32x128.size a ≤ S1568x512.size a), (Rect.unit (s := S1568x512) (k0_off372 v2219) S32x128.size hinb).PackedRows (EltTy.packing .bf16)) ∧
  (∀ a, (k0_off374 v2219) a + S32x128.size a ≤ S1568x512.size a) ∧
  (∀ (hinb : ∀ a, (k0_off374 v2219) a + S32x128.size a ≤ S1568x512.size a), (Rect.unit (s := S1568x512) (k0_off374 v2219) S32x128.size hinb).PackedRows (EltTy.packing .bf16)) ∧
  (∀ a, (k0_off376 v2219) a + S32x128.size a ≤ S1568x512.size a) ∧
  (∀ (hinb : ∀ a, (k0_off376 v2219) a + S32x128.size a ≤ S1568x512.size a), (Rect.unit (s := S1568x512) (k0_off376 v2219) S32x128.size hinb).PackedRows (EltTy.packing .bf16)) ∧
  (∀ a, (k0_off378 v2219) a + S32x128.size a ≤ S1568x512.size a) ∧
  (∀ (hinb : ∀ a, (k0_off378 v2219) a + S32x128.size a ≤ S1568x512.size a), (Rect.unit (s := S1568x512) (k0_off378 v2219) S32x128.size hinb).PackedRows (EltTy.packing .bf16))
theorem k0_mult84_dvd : ∀ (v2219 : BitVec 32) (k0_hw84 : k0_chk84 v2219), 16 ∣ (k0_mult84 v2219).toNat := fun v2219 k0_hw84 => k0_hw84.1
theorem k0_off372_inb : ∀ (v2219 : BitVec 32) (k0_hw84 : k0_chk84 v2219), ∀ a, (k0_off372 v2219) a + S32x128.size a ≤ S1568x512.size a := fun v2219 k0_hw84 => k0_hw84.2.1
theorem k0_off372_packedbf16 : ∀ (v2219 : BitVec 32) (k0_hw84 : k0_chk84 v2219), (Rect.unit (s := S1568x512) (k0_off372 v2219) S32x128.size (k0_off372_inb v2219 k0_hw84)).PackedRows (EltTy.packing .bf16) := fun v2219 k0_hw84 => k0_hw84.2.2.1 (k0_off372_inb v2219 k0_hw84)
theorem k0_off374_inb : ∀ (v2219 : BitVec 32) (k0_hw84 : k0_chk84 v2219), ∀ a, (k0_off374 v2219) a + S32x128.size a ≤ S1568x512.size a := fun v2219 k0_hw84 => k0_hw84.2.2.2.1
theorem k0_off374_packedbf16 : ∀ (v2219 : BitVec 32) (k0_hw84 : k0_chk84 v2219), (Rect.unit (s := S1568x512) (k0_off374 v2219) S32x128.size (k0_off374_inb v2219 k0_hw84)).PackedRows (EltTy.packing .bf16) := fun v2219 k0_hw84 => k0_hw84.2.2.2.2.1 (k0_off374_inb v2219 k0_hw84)
theorem k0_off376_inb : ∀ (v2219 : BitVec 32) (k0_hw84 : k0_chk84 v2219), ∀ a, (k0_off376 v2219) a + S32x128.size a ≤ S1568x512.size a := fun v2219 k0_hw84 => k0_hw84.2.2.2.2.2.1
theorem k0_off376_packedbf16 : ∀ (v2219 : BitVec 32) (k0_hw84 : k0_chk84 v2219), (Rect.unit (s := S1568x512) (k0_off376 v2219) S32x128.size (k0_off376_inb v2219 k0_hw84)).PackedRows (EltTy.packing .bf16) := fun v2219 k0_hw84 => k0_hw84.2.2.2.2.2.2.1 (k0_off376_inb v2219 k0_hw84)
theorem k0_off378_inb : ∀ (v2219 : BitVec 32) (k0_hw84 : k0_chk84 v2219), ∀ a, (k0_off378 v2219) a + S32x128.size a ≤ S1568x512.size a := fun v2219 k0_hw84 => k0_hw84.2.2.2.2.2.2.2.1
theorem k0_off378_packedbf16 : ∀ (v2219 : BitVec 32) (k0_hw84 : k0_chk84 v2219), (Rect.unit (s := S1568x512) (k0_off378 v2219) S32x128.size (k0_off378_inb v2219 k0_hw84)).PackedRows (EltTy.packing .bf16) := fun v2219 k0_hw84 => k0_hw84.2.2.2.2.2.2.2.2 (k0_off378_inb v2219 k0_hw84)

def k0_mult85 (v2271 : BitVec 32) : BitVec 32 :=
  v2271

def k0_mult86 (v2273 : BitVec 32) : BitVec 32 :=
  v2273

def k0_off379 (v2271 : BitVec 32) : Fin 2 → Nat :=
  let v2272 : BitVec 32 := v2271
  let v2275 : Index := Scalar.indexCast v2272
  let c0_670 : Index := 0#32
  ![v2275.toNat, 0]
def k0_off380 (v2271 : BitVec 32) : Fin 2 → Nat :=
  let v2272 : BitVec 32 := v2271
  let v2281 : Index := Scalar.indexCast v2272
  let c0_673 : Index := 0#32
  ![v2281.toNat, 0]
def k0_off381 (v2273 : BitVec 32) : Fin 2 → Nat :=
  let v2274 : BitVec 32 := v2273
  let v2288 : Index := Scalar.indexCast v2274
  let c0_675 : Index := 0#32
  ![v2288.toNat, 0]
def k0_off382 (v2271 : BitVec 32) : Fin 2 → Nat :=
  let v2272 : BitVec 32 := v2271
  let v2292 : Index := Scalar.indexCast v2272
  let c128_676 : Index := 128#32
  ![v2292.toNat, 128]
def k0_off383 (v2273 : BitVec 32) : Fin 2 → Nat :=
  let v2274 : BitVec 32 := v2273
  let v2299 : Index := Scalar.indexCast v2274
  let c128_678 : Index := 128#32
  ![v2299.toNat, 128]
def k0_off384 (v2271 : BitVec 32) : Fin 2 → Nat :=
  let v2272 : BitVec 32 := v2271
  let v2303 : Index := Scalar.indexCast v2272
  let c256_679 : Index := 256#32
  ![v2303.toNat, 256]
def k0_off385 (v2273 : BitVec 32) : Fin 2 → Nat :=
  let v2274 : BitVec 32 := v2273
  let v2310 : Index := Scalar.indexCast v2274
  let c256_681 : Index := 256#32
  ![v2310.toNat, 256]
def k0_off386 (v2271 : BitVec 32) : Fin 2 → Nat :=
  let v2272 : BitVec 32 := v2271
  let v2314 : Index := Scalar.indexCast v2272
  let c384_682 : Index := 384#32
  ![v2314.toNat, 384]

def k0_chk85 (v2271 : BitVec 32) : Prop :=
  (32 ∣ (k0_mult85 v2271).toNat) ∧
  (∀ a, (k0_off379 v2271) a + S32x128.size a ≤ S1536x128.size a) ∧
  (∀ a, (k0_off380 v2271) a + S32x128.size a ≤ S1536x512.size a) ∧
  (∀ a, (k0_off382 v2271) a + S32x128.size a ≤ S1536x512.size a) ∧
  (∀ a, (k0_off384 v2271) a + S32x128.size a ≤ S1536x512.size a) ∧
  (∀ a, (k0_off386 v2271) a + S32x128.size a ≤ S1536x512.size a)
theorem k0_mult85_dvd : ∀ (v2271 : BitVec 32) (k0_hw85 : k0_chk85 v2271), 32 ∣ (k0_mult85 v2271).toNat := fun v2271 k0_hw85 => k0_hw85.1
theorem k0_off379_inb : ∀ (v2271 : BitVec 32) (k0_hw85 : k0_chk85 v2271), ∀ a, (k0_off379 v2271) a + S32x128.size a ≤ S1536x128.size a := fun v2271 k0_hw85 => k0_hw85.2.1
theorem k0_off380_inb : ∀ (v2271 : BitVec 32) (k0_hw85 : k0_chk85 v2271), ∀ a, (k0_off380 v2271) a + S32x128.size a ≤ S1536x512.size a := fun v2271 k0_hw85 => k0_hw85.2.2.1
theorem k0_off382_inb : ∀ (v2271 : BitVec 32) (k0_hw85 : k0_chk85 v2271), ∀ a, (k0_off382 v2271) a + S32x128.size a ≤ S1536x512.size a := fun v2271 k0_hw85 => k0_hw85.2.2.2.1
theorem k0_off384_inb : ∀ (v2271 : BitVec 32) (k0_hw85 : k0_chk85 v2271), ∀ a, (k0_off384 v2271) a + S32x128.size a ≤ S1536x512.size a := fun v2271 k0_hw85 => k0_hw85.2.2.2.2.1
theorem k0_off386_inb : ∀ (v2271 : BitVec 32) (k0_hw85 : k0_chk85 v2271), ∀ a, (k0_off386 v2271) a + S32x128.size a ≤ S1536x512.size a := fun v2271 k0_hw85 => k0_hw85.2.2.2.2.2

def k0_off387 (v2273 : BitVec 32) : Fin 2 → Nat :=
  let v2274 : BitVec 32 := v2273
  let v2321 : Index := Scalar.indexCast v2274
  let c384_684 : Index := 384#32
  ![v2321.toNat, 384]

def k0_chk86 (v2273 : BitVec 32) : Prop :=
  (16 ∣ (k0_mult86 v2273).toNat) ∧
  (∀ a, (k0_off381 v2273) a + S32x128.size a ≤ S1568x512.size a) ∧
  (∀ (hinb : ∀ a, (k0_off381 v2273) a + S32x128.size a ≤ S1568x512.size a), (Rect.unit (s := S1568x512) (k0_off381 v2273) S32x128.size hinb).PackedRows (EltTy.packing .bf16)) ∧
  (∀ a, (k0_off383 v2273) a + S32x128.size a ≤ S1568x512.size a) ∧
  (∀ (hinb : ∀ a, (k0_off383 v2273) a + S32x128.size a ≤ S1568x512.size a), (Rect.unit (s := S1568x512) (k0_off383 v2273) S32x128.size hinb).PackedRows (EltTy.packing .bf16)) ∧
  (∀ a, (k0_off385 v2273) a + S32x128.size a ≤ S1568x512.size a) ∧
  (∀ (hinb : ∀ a, (k0_off385 v2273) a + S32x128.size a ≤ S1568x512.size a), (Rect.unit (s := S1568x512) (k0_off385 v2273) S32x128.size hinb).PackedRows (EltTy.packing .bf16)) ∧
  (∀ a, (k0_off387 v2273) a + S32x128.size a ≤ S1568x512.size a) ∧
  (∀ (hinb : ∀ a, (k0_off387 v2273) a + S32x128.size a ≤ S1568x512.size a), (Rect.unit (s := S1568x512) (k0_off387 v2273) S32x128.size hinb).PackedRows (EltTy.packing .bf16))
theorem k0_mult86_dvd : ∀ (v2273 : BitVec 32) (k0_hw86 : k0_chk86 v2273), 16 ∣ (k0_mult86 v2273).toNat := fun v2273 k0_hw86 => k0_hw86.1
theorem k0_off381_inb : ∀ (v2273 : BitVec 32) (k0_hw86 : k0_chk86 v2273), ∀ a, (k0_off381 v2273) a + S32x128.size a ≤ S1568x512.size a := fun v2273 k0_hw86 => k0_hw86.2.1
theorem k0_off381_packedbf16 : ∀ (v2273 : BitVec 32) (k0_hw86 : k0_chk86 v2273), (Rect.unit (s := S1568x512) (k0_off381 v2273) S32x128.size (k0_off381_inb v2273 k0_hw86)).PackedRows (EltTy.packing .bf16) := fun v2273 k0_hw86 => k0_hw86.2.2.1 (k0_off381_inb v2273 k0_hw86)
theorem k0_off383_inb : ∀ (v2273 : BitVec 32) (k0_hw86 : k0_chk86 v2273), ∀ a, (k0_off383 v2273) a + S32x128.size a ≤ S1568x512.size a := fun v2273 k0_hw86 => k0_hw86.2.2.2.1
theorem k0_off383_packedbf16 : ∀ (v2273 : BitVec 32) (k0_hw86 : k0_chk86 v2273), (Rect.unit (s := S1568x512) (k0_off383 v2273) S32x128.size (k0_off383_inb v2273 k0_hw86)).PackedRows (EltTy.packing .bf16) := fun v2273 k0_hw86 => k0_hw86.2.2.2.2.1 (k0_off383_inb v2273 k0_hw86)
theorem k0_off385_inb : ∀ (v2273 : BitVec 32) (k0_hw86 : k0_chk86 v2273), ∀ a, (k0_off385 v2273) a + S32x128.size a ≤ S1568x512.size a := fun v2273 k0_hw86 => k0_hw86.2.2.2.2.2.1
theorem k0_off385_packedbf16 : ∀ (v2273 : BitVec 32) (k0_hw86 : k0_chk86 v2273), (Rect.unit (s := S1568x512) (k0_off385 v2273) S32x128.size (k0_off385_inb v2273 k0_hw86)).PackedRows (EltTy.packing .bf16) := fun v2273 k0_hw86 => k0_hw86.2.2.2.2.2.2.1 (k0_off385_inb v2273 k0_hw86)
theorem k0_off387_inb : ∀ (v2273 : BitVec 32) (k0_hw86 : k0_chk86 v2273), ∀ a, (k0_off387 v2273) a + S32x128.size a ≤ S1568x512.size a := fun v2273 k0_hw86 => k0_hw86.2.2.2.2.2.2.2.1
theorem k0_off387_packedbf16 : ∀ (v2273 : BitVec 32) (k0_hw86 : k0_chk86 v2273), (Rect.unit (s := S1568x512) (k0_off387 v2273) S32x128.size (k0_off387_inb v2273 k0_hw86)).PackedRows (EltTy.packing .bf16) := fun v2273 k0_hw86 => k0_hw86.2.2.2.2.2.2.2.2 (k0_off387_inb v2273 k0_hw86)

def k0_mult87 (v2325 : BitVec 32) : BitVec 32 :=
  v2325

def k0_mult88 (v2327 : BitVec 32) : BitVec 32 :=
  v2327

def k0_off388 (v2325 : BitVec 32) : Fin 2 → Nat :=
  let v2326 : BitVec 32 := v2325
  let v2329 : Index := Scalar.indexCast v2326
  let c0_686 : Index := 0#32
  ![v2329.toNat, 0]
def k0_off389 (v2325 : BitVec 32) : Fin 2 → Nat :=
  let v2326 : BitVec 32 := v2325
  let v2335 : Index := Scalar.indexCast v2326
  let c0_689 : Index := 0#32
  ![v2335.toNat, 0]
def k0_off390 (v2327 : BitVec 32) : Fin 2 → Nat :=
  let v2328 : BitVec 32 := v2327
  let v2342 : Index := Scalar.indexCast v2328
  let c0_691 : Index := 0#32
  ![v2342.toNat, 0]
def k0_off391 (v2325 : BitVec 32) : Fin 2 → Nat :=
  let v2326 : BitVec 32 := v2325
  let v2346 : Index := Scalar.indexCast v2326
  let c128_692 : Index := 128#32
  ![v2346.toNat, 128]
def k0_off392 (v2327 : BitVec 32) : Fin 2 → Nat :=
  let v2328 : BitVec 32 := v2327
  let v2353 : Index := Scalar.indexCast v2328
  let c128_694 : Index := 128#32
  ![v2353.toNat, 128]
def k0_off393 (v2325 : BitVec 32) : Fin 2 → Nat :=
  let v2326 : BitVec 32 := v2325
  let v2357 : Index := Scalar.indexCast v2326
  let c256_695 : Index := 256#32
  ![v2357.toNat, 256]
def k0_off394 (v2327 : BitVec 32) : Fin 2 → Nat :=
  let v2328 : BitVec 32 := v2327
  let v2364 : Index := Scalar.indexCast v2328
  let c256_697 : Index := 256#32
  ![v2364.toNat, 256]
def k0_off395 (v2325 : BitVec 32) : Fin 2 → Nat :=
  let v2326 : BitVec 32 := v2325
  let v2368 : Index := Scalar.indexCast v2326
  let c384_698 : Index := 384#32
  ![v2368.toNat, 384]

def k0_chk87 (v2325 : BitVec 32) : Prop :=
  (32 ∣ (k0_mult87 v2325).toNat) ∧
  (∀ a, (k0_off388 v2325) a + S32x128.size a ≤ S1536x128.size a) ∧
  (∀ a, (k0_off389 v2325) a + S32x128.size a ≤ S1536x512.size a) ∧
  (∀ a, (k0_off391 v2325) a + S32x128.size a ≤ S1536x512.size a) ∧
  (∀ a, (k0_off393 v2325) a + S32x128.size a ≤ S1536x512.size a) ∧
  (∀ a, (k0_off395 v2325) a + S32x128.size a ≤ S1536x512.size a)
theorem k0_mult87_dvd : ∀ (v2325 : BitVec 32) (k0_hw87 : k0_chk87 v2325), 32 ∣ (k0_mult87 v2325).toNat := fun v2325 k0_hw87 => k0_hw87.1
theorem k0_off388_inb : ∀ (v2325 : BitVec 32) (k0_hw87 : k0_chk87 v2325), ∀ a, (k0_off388 v2325) a + S32x128.size a ≤ S1536x128.size a := fun v2325 k0_hw87 => k0_hw87.2.1
theorem k0_off389_inb : ∀ (v2325 : BitVec 32) (k0_hw87 : k0_chk87 v2325), ∀ a, (k0_off389 v2325) a + S32x128.size a ≤ S1536x512.size a := fun v2325 k0_hw87 => k0_hw87.2.2.1
theorem k0_off391_inb : ∀ (v2325 : BitVec 32) (k0_hw87 : k0_chk87 v2325), ∀ a, (k0_off391 v2325) a + S32x128.size a ≤ S1536x512.size a := fun v2325 k0_hw87 => k0_hw87.2.2.2.1
theorem k0_off393_inb : ∀ (v2325 : BitVec 32) (k0_hw87 : k0_chk87 v2325), ∀ a, (k0_off393 v2325) a + S32x128.size a ≤ S1536x512.size a := fun v2325 k0_hw87 => k0_hw87.2.2.2.2.1
theorem k0_off395_inb : ∀ (v2325 : BitVec 32) (k0_hw87 : k0_chk87 v2325), ∀ a, (k0_off395 v2325) a + S32x128.size a ≤ S1536x512.size a := fun v2325 k0_hw87 => k0_hw87.2.2.2.2.2

def k0_off396 (v2327 : BitVec 32) : Fin 2 → Nat :=
  let v2328 : BitVec 32 := v2327
  let v2375 : Index := Scalar.indexCast v2328
  let c384_700 : Index := 384#32
  ![v2375.toNat, 384]

def k0_chk88 (v2327 : BitVec 32) : Prop :=
  (16 ∣ (k0_mult88 v2327).toNat) ∧
  (∀ a, (k0_off390 v2327) a + S32x128.size a ≤ S1568x512.size a) ∧
  (∀ (hinb : ∀ a, (k0_off390 v2327) a + S32x128.size a ≤ S1568x512.size a), (Rect.unit (s := S1568x512) (k0_off390 v2327) S32x128.size hinb).PackedRows (EltTy.packing .bf16)) ∧
  (∀ a, (k0_off392 v2327) a + S32x128.size a ≤ S1568x512.size a) ∧
  (∀ (hinb : ∀ a, (k0_off392 v2327) a + S32x128.size a ≤ S1568x512.size a), (Rect.unit (s := S1568x512) (k0_off392 v2327) S32x128.size hinb).PackedRows (EltTy.packing .bf16)) ∧
  (∀ a, (k0_off394 v2327) a + S32x128.size a ≤ S1568x512.size a) ∧
  (∀ (hinb : ∀ a, (k0_off394 v2327) a + S32x128.size a ≤ S1568x512.size a), (Rect.unit (s := S1568x512) (k0_off394 v2327) S32x128.size hinb).PackedRows (EltTy.packing .bf16)) ∧
  (∀ a, (k0_off396 v2327) a + S32x128.size a ≤ S1568x512.size a) ∧
  (∀ (hinb : ∀ a, (k0_off396 v2327) a + S32x128.size a ≤ S1568x512.size a), (Rect.unit (s := S1568x512) (k0_off396 v2327) S32x128.size hinb).PackedRows (EltTy.packing .bf16))
theorem k0_mult88_dvd : ∀ (v2327 : BitVec 32) (k0_hw88 : k0_chk88 v2327), 16 ∣ (k0_mult88 v2327).toNat := fun v2327 k0_hw88 => k0_hw88.1
theorem k0_off390_inb : ∀ (v2327 : BitVec 32) (k0_hw88 : k0_chk88 v2327), ∀ a, (k0_off390 v2327) a + S32x128.size a ≤ S1568x512.size a := fun v2327 k0_hw88 => k0_hw88.2.1
theorem k0_off390_packedbf16 : ∀ (v2327 : BitVec 32) (k0_hw88 : k0_chk88 v2327), (Rect.unit (s := S1568x512) (k0_off390 v2327) S32x128.size (k0_off390_inb v2327 k0_hw88)).PackedRows (EltTy.packing .bf16) := fun v2327 k0_hw88 => k0_hw88.2.2.1 (k0_off390_inb v2327 k0_hw88)
theorem k0_off392_inb : ∀ (v2327 : BitVec 32) (k0_hw88 : k0_chk88 v2327), ∀ a, (k0_off392 v2327) a + S32x128.size a ≤ S1568x512.size a := fun v2327 k0_hw88 => k0_hw88.2.2.2.1
theorem k0_off392_packedbf16 : ∀ (v2327 : BitVec 32) (k0_hw88 : k0_chk88 v2327), (Rect.unit (s := S1568x512) (k0_off392 v2327) S32x128.size (k0_off392_inb v2327 k0_hw88)).PackedRows (EltTy.packing .bf16) := fun v2327 k0_hw88 => k0_hw88.2.2.2.2.1 (k0_off392_inb v2327 k0_hw88)
theorem k0_off394_inb : ∀ (v2327 : BitVec 32) (k0_hw88 : k0_chk88 v2327), ∀ a, (k0_off394 v2327) a + S32x128.size a ≤ S1568x512.size a := fun v2327 k0_hw88 => k0_hw88.2.2.2.2.2.1
theorem k0_off394_packedbf16 : ∀ (v2327 : BitVec 32) (k0_hw88 : k0_chk88 v2327), (Rect.unit (s := S1568x512) (k0_off394 v2327) S32x128.size (k0_off394_inb v2327 k0_hw88)).PackedRows (EltTy.packing .bf16) := fun v2327 k0_hw88 => k0_hw88.2.2.2.2.2.2.1 (k0_off394_inb v2327 k0_hw88)
theorem k0_off396_inb : ∀ (v2327 : BitVec 32) (k0_hw88 : k0_chk88 v2327), ∀ a, (k0_off396 v2327) a + S32x128.size a ≤ S1568x512.size a := fun v2327 k0_hw88 => k0_hw88.2.2.2.2.2.2.2.1
theorem k0_off396_packedbf16 : ∀ (v2327 : BitVec 32) (k0_hw88 : k0_chk88 v2327), (Rect.unit (s := S1568x512) (k0_off396 v2327) S32x128.size (k0_off396_inb v2327 k0_hw88)).PackedRows (EltTy.packing .bf16) := fun v2327 k0_hw88 => k0_hw88.2.2.2.2.2.2.2.2 (k0_off396_inb v2327 k0_hw88)

def k0_mult89 (v2379 : BitVec 32) : BitVec 32 :=
  v2379

def k0_mult90 (v2381 : BitVec 32) : BitVec 32 :=
  v2381

def k0_off397 (v2379 : BitVec 32) : Fin 2 → Nat :=
  let v2380 : BitVec 32 := v2379
  let v2383 : Index := Scalar.indexCast v2380
  let c0_702 : Index := 0#32
  ![v2383.toNat, 0]
def k0_off398 (v2379 : BitVec 32) : Fin 2 → Nat :=
  let v2380 : BitVec 32 := v2379
  let v2389 : Index := Scalar.indexCast v2380
  let c0_705 : Index := 0#32
  ![v2389.toNat, 0]
def k0_off399 (v2381 : BitVec 32) : Fin 2 → Nat :=
  let v2382 : BitVec 32 := v2381
  let v2396 : Index := Scalar.indexCast v2382
  let c0_707 : Index := 0#32
  ![v2396.toNat, 0]
def k0_off400 (v2379 : BitVec 32) : Fin 2 → Nat :=
  let v2380 : BitVec 32 := v2379
  let v2400 : Index := Scalar.indexCast v2380
  let c128_708 : Index := 128#32
  ![v2400.toNat, 128]
def k0_off401 (v2381 : BitVec 32) : Fin 2 → Nat :=
  let v2382 : BitVec 32 := v2381
  let v2407 : Index := Scalar.indexCast v2382
  let c128_710 : Index := 128#32
  ![v2407.toNat, 128]
def k0_off402 (v2379 : BitVec 32) : Fin 2 → Nat :=
  let v2380 : BitVec 32 := v2379
  let v2411 : Index := Scalar.indexCast v2380
  let c256_711 : Index := 256#32
  ![v2411.toNat, 256]
def k0_off403 (v2381 : BitVec 32) : Fin 2 → Nat :=
  let v2382 : BitVec 32 := v2381
  let v2418 : Index := Scalar.indexCast v2382
  let c256_713 : Index := 256#32
  ![v2418.toNat, 256]
def k0_off404 (v2379 : BitVec 32) : Fin 2 → Nat :=
  let v2380 : BitVec 32 := v2379
  let v2422 : Index := Scalar.indexCast v2380
  let c384_714 : Index := 384#32
  ![v2422.toNat, 384]

def k0_chk89 (v2379 : BitVec 32) : Prop :=
  (32 ∣ (k0_mult89 v2379).toNat) ∧
  (∀ a, (k0_off397 v2379) a + S32x128.size a ≤ S1536x128.size a) ∧
  (∀ a, (k0_off398 v2379) a + S32x128.size a ≤ S1536x512.size a) ∧
  (∀ a, (k0_off400 v2379) a + S32x128.size a ≤ S1536x512.size a) ∧
  (∀ a, (k0_off402 v2379) a + S32x128.size a ≤ S1536x512.size a) ∧
  (∀ a, (k0_off404 v2379) a + S32x128.size a ≤ S1536x512.size a)
theorem k0_mult89_dvd : ∀ (v2379 : BitVec 32) (k0_hw89 : k0_chk89 v2379), 32 ∣ (k0_mult89 v2379).toNat := fun v2379 k0_hw89 => k0_hw89.1
theorem k0_off397_inb : ∀ (v2379 : BitVec 32) (k0_hw89 : k0_chk89 v2379), ∀ a, (k0_off397 v2379) a + S32x128.size a ≤ S1536x128.size a := fun v2379 k0_hw89 => k0_hw89.2.1
theorem k0_off398_inb : ∀ (v2379 : BitVec 32) (k0_hw89 : k0_chk89 v2379), ∀ a, (k0_off398 v2379) a + S32x128.size a ≤ S1536x512.size a := fun v2379 k0_hw89 => k0_hw89.2.2.1
theorem k0_off400_inb : ∀ (v2379 : BitVec 32) (k0_hw89 : k0_chk89 v2379), ∀ a, (k0_off400 v2379) a + S32x128.size a ≤ S1536x512.size a := fun v2379 k0_hw89 => k0_hw89.2.2.2.1
theorem k0_off402_inb : ∀ (v2379 : BitVec 32) (k0_hw89 : k0_chk89 v2379), ∀ a, (k0_off402 v2379) a + S32x128.size a ≤ S1536x512.size a := fun v2379 k0_hw89 => k0_hw89.2.2.2.2.1
theorem k0_off404_inb : ∀ (v2379 : BitVec 32) (k0_hw89 : k0_chk89 v2379), ∀ a, (k0_off404 v2379) a + S32x128.size a ≤ S1536x512.size a := fun v2379 k0_hw89 => k0_hw89.2.2.2.2.2

def k0_off405 (v2381 : BitVec 32) : Fin 2 → Nat :=
  let v2382 : BitVec 32 := v2381
  let v2429 : Index := Scalar.indexCast v2382
  let c384_716 : Index := 384#32
  ![v2429.toNat, 384]

def k0_chk90 (v2381 : BitVec 32) : Prop :=
  (16 ∣ (k0_mult90 v2381).toNat) ∧
  (∀ a, (k0_off399 v2381) a + S32x128.size a ≤ S1568x512.size a) ∧
  (∀ (hinb : ∀ a, (k0_off399 v2381) a + S32x128.size a ≤ S1568x512.size a), (Rect.unit (s := S1568x512) (k0_off399 v2381) S32x128.size hinb).PackedRows (EltTy.packing .bf16)) ∧
  (∀ a, (k0_off401 v2381) a + S32x128.size a ≤ S1568x512.size a) ∧
  (∀ (hinb : ∀ a, (k0_off401 v2381) a + S32x128.size a ≤ S1568x512.size a), (Rect.unit (s := S1568x512) (k0_off401 v2381) S32x128.size hinb).PackedRows (EltTy.packing .bf16)) ∧
  (∀ a, (k0_off403 v2381) a + S32x128.size a ≤ S1568x512.size a) ∧
  (∀ (hinb : ∀ a, (k0_off403 v2381) a + S32x128.size a ≤ S1568x512.size a), (Rect.unit (s := S1568x512) (k0_off403 v2381) S32x128.size hinb).PackedRows (EltTy.packing .bf16)) ∧
  (∀ a, (k0_off405 v2381) a + S32x128.size a ≤ S1568x512.size a) ∧
  (∀ (hinb : ∀ a, (k0_off405 v2381) a + S32x128.size a ≤ S1568x512.size a), (Rect.unit (s := S1568x512) (k0_off405 v2381) S32x128.size hinb).PackedRows (EltTy.packing .bf16))
theorem k0_mult90_dvd : ∀ (v2381 : BitVec 32) (k0_hw90 : k0_chk90 v2381), 16 ∣ (k0_mult90 v2381).toNat := fun v2381 k0_hw90 => k0_hw90.1
theorem k0_off399_inb : ∀ (v2381 : BitVec 32) (k0_hw90 : k0_chk90 v2381), ∀ a, (k0_off399 v2381) a + S32x128.size a ≤ S1568x512.size a := fun v2381 k0_hw90 => k0_hw90.2.1
theorem k0_off399_packedbf16 : ∀ (v2381 : BitVec 32) (k0_hw90 : k0_chk90 v2381), (Rect.unit (s := S1568x512) (k0_off399 v2381) S32x128.size (k0_off399_inb v2381 k0_hw90)).PackedRows (EltTy.packing .bf16) := fun v2381 k0_hw90 => k0_hw90.2.2.1 (k0_off399_inb v2381 k0_hw90)
theorem k0_off401_inb : ∀ (v2381 : BitVec 32) (k0_hw90 : k0_chk90 v2381), ∀ a, (k0_off401 v2381) a + S32x128.size a ≤ S1568x512.size a := fun v2381 k0_hw90 => k0_hw90.2.2.2.1
theorem k0_off401_packedbf16 : ∀ (v2381 : BitVec 32) (k0_hw90 : k0_chk90 v2381), (Rect.unit (s := S1568x512) (k0_off401 v2381) S32x128.size (k0_off401_inb v2381 k0_hw90)).PackedRows (EltTy.packing .bf16) := fun v2381 k0_hw90 => k0_hw90.2.2.2.2.1 (k0_off401_inb v2381 k0_hw90)
theorem k0_off403_inb : ∀ (v2381 : BitVec 32) (k0_hw90 : k0_chk90 v2381), ∀ a, (k0_off403 v2381) a + S32x128.size a ≤ S1568x512.size a := fun v2381 k0_hw90 => k0_hw90.2.2.2.2.2.1
theorem k0_off403_packedbf16 : ∀ (v2381 : BitVec 32) (k0_hw90 : k0_chk90 v2381), (Rect.unit (s := S1568x512) (k0_off403 v2381) S32x128.size (k0_off403_inb v2381 k0_hw90)).PackedRows (EltTy.packing .bf16) := fun v2381 k0_hw90 => k0_hw90.2.2.2.2.2.2.1 (k0_off403_inb v2381 k0_hw90)
theorem k0_off405_inb : ∀ (v2381 : BitVec 32) (k0_hw90 : k0_chk90 v2381), ∀ a, (k0_off405 v2381) a + S32x128.size a ≤ S1568x512.size a := fun v2381 k0_hw90 => k0_hw90.2.2.2.2.2.2.2.1
theorem k0_off405_packedbf16 : ∀ (v2381 : BitVec 32) (k0_hw90 : k0_chk90 v2381), (Rect.unit (s := S1568x512) (k0_off405 v2381) S32x128.size (k0_off405_inb v2381 k0_hw90)).PackedRows (EltTy.packing .bf16) := fun v2381 k0_hw90 => k0_hw90.2.2.2.2.2.2.2.2 (k0_off405_inb v2381 k0_hw90)

def k0_mult91 (v2433 : BitVec 32) : BitVec 32 :=
  v2433

def k0_mult92 (v2435 : BitVec 32) : BitVec 32 :=
  v2435

def k0_off406 (v2433 : BitVec 32) : Fin 2 → Nat :=
  let v2434 : BitVec 32 := v2433
  let v2437 : Index := Scalar.indexCast v2434
  let c0_718 : Index := 0#32
  ![v2437.toNat, 0]
def k0_off407 (v2433 : BitVec 32) : Fin 2 → Nat :=
  let v2434 : BitVec 32 := v2433
  let v2443 : Index := Scalar.indexCast v2434
  let c0_721 : Index := 0#32
  ![v2443.toNat, 0]
def k0_off408 (v2435 : BitVec 32) : Fin 2 → Nat :=
  let v2436 : BitVec 32 := v2435
  let v2450 : Index := Scalar.indexCast v2436
  let c0_723 : Index := 0#32
  ![v2450.toNat, 0]
def k0_off409 (v2433 : BitVec 32) : Fin 2 → Nat :=
  let v2434 : BitVec 32 := v2433
  let v2454 : Index := Scalar.indexCast v2434
  let c128_724 : Index := 128#32
  ![v2454.toNat, 128]
def k0_off410 (v2435 : BitVec 32) : Fin 2 → Nat :=
  let v2436 : BitVec 32 := v2435
  let v2461 : Index := Scalar.indexCast v2436
  let c128_726 : Index := 128#32
  ![v2461.toNat, 128]
def k0_off411 (v2433 : BitVec 32) : Fin 2 → Nat :=
  let v2434 : BitVec 32 := v2433
  let v2465 : Index := Scalar.indexCast v2434
  let c256_727 : Index := 256#32
  ![v2465.toNat, 256]
def k0_off412 (v2435 : BitVec 32) : Fin 2 → Nat :=
  let v2436 : BitVec 32 := v2435
  let v2472 : Index := Scalar.indexCast v2436
  let c256_729 : Index := 256#32
  ![v2472.toNat, 256]
def k0_off413 (v2433 : BitVec 32) : Fin 2 → Nat :=
  let v2434 : BitVec 32 := v2433
  let v2476 : Index := Scalar.indexCast v2434
  let c384_730 : Index := 384#32
  ![v2476.toNat, 384]

def k0_chk91 (v2433 : BitVec 32) : Prop :=
  (32 ∣ (k0_mult91 v2433).toNat) ∧
  (∀ a, (k0_off406 v2433) a + S32x128.size a ≤ S1536x128.size a) ∧
  (∀ a, (k0_off407 v2433) a + S32x128.size a ≤ S1536x512.size a) ∧
  (∀ a, (k0_off409 v2433) a + S32x128.size a ≤ S1536x512.size a) ∧
  (∀ a, (k0_off411 v2433) a + S32x128.size a ≤ S1536x512.size a) ∧
  (∀ a, (k0_off413 v2433) a + S32x128.size a ≤ S1536x512.size a)
theorem k0_mult91_dvd : ∀ (v2433 : BitVec 32) (k0_hw91 : k0_chk91 v2433), 32 ∣ (k0_mult91 v2433).toNat := fun v2433 k0_hw91 => k0_hw91.1
theorem k0_off406_inb : ∀ (v2433 : BitVec 32) (k0_hw91 : k0_chk91 v2433), ∀ a, (k0_off406 v2433) a + S32x128.size a ≤ S1536x128.size a := fun v2433 k0_hw91 => k0_hw91.2.1
theorem k0_off407_inb : ∀ (v2433 : BitVec 32) (k0_hw91 : k0_chk91 v2433), ∀ a, (k0_off407 v2433) a + S32x128.size a ≤ S1536x512.size a := fun v2433 k0_hw91 => k0_hw91.2.2.1
theorem k0_off409_inb : ∀ (v2433 : BitVec 32) (k0_hw91 : k0_chk91 v2433), ∀ a, (k0_off409 v2433) a + S32x128.size a ≤ S1536x512.size a := fun v2433 k0_hw91 => k0_hw91.2.2.2.1
theorem k0_off411_inb : ∀ (v2433 : BitVec 32) (k0_hw91 : k0_chk91 v2433), ∀ a, (k0_off411 v2433) a + S32x128.size a ≤ S1536x512.size a := fun v2433 k0_hw91 => k0_hw91.2.2.2.2.1
theorem k0_off413_inb : ∀ (v2433 : BitVec 32) (k0_hw91 : k0_chk91 v2433), ∀ a, (k0_off413 v2433) a + S32x128.size a ≤ S1536x512.size a := fun v2433 k0_hw91 => k0_hw91.2.2.2.2.2

def k0_off414 (v2435 : BitVec 32) : Fin 2 → Nat :=
  let v2436 : BitVec 32 := v2435
  let v2483 : Index := Scalar.indexCast v2436
  let c384_732 : Index := 384#32
  ![v2483.toNat, 384]

def k0_chk92 (v2435 : BitVec 32) : Prop :=
  (16 ∣ (k0_mult92 v2435).toNat) ∧
  (∀ a, (k0_off408 v2435) a + S32x128.size a ≤ S1568x512.size a) ∧
  (∀ (hinb : ∀ a, (k0_off408 v2435) a + S32x128.size a ≤ S1568x512.size a), (Rect.unit (s := S1568x512) (k0_off408 v2435) S32x128.size hinb).PackedRows (EltTy.packing .bf16)) ∧
  (∀ a, (k0_off410 v2435) a + S32x128.size a ≤ S1568x512.size a) ∧
  (∀ (hinb : ∀ a, (k0_off410 v2435) a + S32x128.size a ≤ S1568x512.size a), (Rect.unit (s := S1568x512) (k0_off410 v2435) S32x128.size hinb).PackedRows (EltTy.packing .bf16)) ∧
  (∀ a, (k0_off412 v2435) a + S32x128.size a ≤ S1568x512.size a) ∧
  (∀ (hinb : ∀ a, (k0_off412 v2435) a + S32x128.size a ≤ S1568x512.size a), (Rect.unit (s := S1568x512) (k0_off412 v2435) S32x128.size hinb).PackedRows (EltTy.packing .bf16)) ∧
  (∀ a, (k0_off414 v2435) a + S32x128.size a ≤ S1568x512.size a) ∧
  (∀ (hinb : ∀ a, (k0_off414 v2435) a + S32x128.size a ≤ S1568x512.size a), (Rect.unit (s := S1568x512) (k0_off414 v2435) S32x128.size hinb).PackedRows (EltTy.packing .bf16))
theorem k0_mult92_dvd : ∀ (v2435 : BitVec 32) (k0_hw92 : k0_chk92 v2435), 16 ∣ (k0_mult92 v2435).toNat := fun v2435 k0_hw92 => k0_hw92.1
theorem k0_off408_inb : ∀ (v2435 : BitVec 32) (k0_hw92 : k0_chk92 v2435), ∀ a, (k0_off408 v2435) a + S32x128.size a ≤ S1568x512.size a := fun v2435 k0_hw92 => k0_hw92.2.1
theorem k0_off408_packedbf16 : ∀ (v2435 : BitVec 32) (k0_hw92 : k0_chk92 v2435), (Rect.unit (s := S1568x512) (k0_off408 v2435) S32x128.size (k0_off408_inb v2435 k0_hw92)).PackedRows (EltTy.packing .bf16) := fun v2435 k0_hw92 => k0_hw92.2.2.1 (k0_off408_inb v2435 k0_hw92)
theorem k0_off410_inb : ∀ (v2435 : BitVec 32) (k0_hw92 : k0_chk92 v2435), ∀ a, (k0_off410 v2435) a + S32x128.size a ≤ S1568x512.size a := fun v2435 k0_hw92 => k0_hw92.2.2.2.1
theorem k0_off410_packedbf16 : ∀ (v2435 : BitVec 32) (k0_hw92 : k0_chk92 v2435), (Rect.unit (s := S1568x512) (k0_off410 v2435) S32x128.size (k0_off410_inb v2435 k0_hw92)).PackedRows (EltTy.packing .bf16) := fun v2435 k0_hw92 => k0_hw92.2.2.2.2.1 (k0_off410_inb v2435 k0_hw92)
theorem k0_off412_inb : ∀ (v2435 : BitVec 32) (k0_hw92 : k0_chk92 v2435), ∀ a, (k0_off412 v2435) a + S32x128.size a ≤ S1568x512.size a := fun v2435 k0_hw92 => k0_hw92.2.2.2.2.2.1
theorem k0_off412_packedbf16 : ∀ (v2435 : BitVec 32) (k0_hw92 : k0_chk92 v2435), (Rect.unit (s := S1568x512) (k0_off412 v2435) S32x128.size (k0_off412_inb v2435 k0_hw92)).PackedRows (EltTy.packing .bf16) := fun v2435 k0_hw92 => k0_hw92.2.2.2.2.2.2.1 (k0_off412_inb v2435 k0_hw92)
theorem k0_off414_inb : ∀ (v2435 : BitVec 32) (k0_hw92 : k0_chk92 v2435), ∀ a, (k0_off414 v2435) a + S32x128.size a ≤ S1568x512.size a := fun v2435 k0_hw92 => k0_hw92.2.2.2.2.2.2.2.1
theorem k0_off414_packedbf16 : ∀ (v2435 : BitVec 32) (k0_hw92 : k0_chk92 v2435), (Rect.unit (s := S1568x512) (k0_off414 v2435) S32x128.size (k0_off414_inb v2435 k0_hw92)).PackedRows (EltTy.packing .bf16) := fun v2435 k0_hw92 => k0_hw92.2.2.2.2.2.2.2.2 (k0_off414_inb v2435 k0_hw92)

def k0_mult93 (v2487 : BitVec 32) : BitVec 32 :=
  v2487

def k0_mult94 (v2489 : BitVec 32) : BitVec 32 :=
  v2489

def k0_off415 (v2487 : BitVec 32) : Fin 2 → Nat :=
  let v2488 : BitVec 32 := v2487
  let v2491 : Index := Scalar.indexCast v2488
  let c0_734 : Index := 0#32
  ![v2491.toNat, 0]
def k0_off416 (v2487 : BitVec 32) : Fin 2 → Nat :=
  let v2488 : BitVec 32 := v2487
  let v2497 : Index := Scalar.indexCast v2488
  let c0_737 : Index := 0#32
  ![v2497.toNat, 0]
def k0_off417 (v2489 : BitVec 32) : Fin 2 → Nat :=
  let v2490 : BitVec 32 := v2489
  let v2504 : Index := Scalar.indexCast v2490
  let c0_739 : Index := 0#32
  ![v2504.toNat, 0]
def k0_off418 (v2487 : BitVec 32) : Fin 2 → Nat :=
  let v2488 : BitVec 32 := v2487
  let v2508 : Index := Scalar.indexCast v2488
  let c128_740 : Index := 128#32
  ![v2508.toNat, 128]
def k0_off419 (v2489 : BitVec 32) : Fin 2 → Nat :=
  let v2490 : BitVec 32 := v2489
  let v2515 : Index := Scalar.indexCast v2490
  let c128_742 : Index := 128#32
  ![v2515.toNat, 128]
def k0_off420 (v2487 : BitVec 32) : Fin 2 → Nat :=
  let v2488 : BitVec 32 := v2487
  let v2519 : Index := Scalar.indexCast v2488
  let c256_743 : Index := 256#32
  ![v2519.toNat, 256]
def k0_off421 (v2489 : BitVec 32) : Fin 2 → Nat :=
  let v2490 : BitVec 32 := v2489
  let v2526 : Index := Scalar.indexCast v2490
  let c256_745 : Index := 256#32
  ![v2526.toNat, 256]
def k0_off422 (v2487 : BitVec 32) : Fin 2 → Nat :=
  let v2488 : BitVec 32 := v2487
  let v2530 : Index := Scalar.indexCast v2488
  let c384_746 : Index := 384#32
  ![v2530.toNat, 384]

def k0_chk93 (v2487 : BitVec 32) : Prop :=
  (32 ∣ (k0_mult93 v2487).toNat) ∧
  (∀ a, (k0_off415 v2487) a + S32x128.size a ≤ S1536x128.size a) ∧
  (∀ a, (k0_off416 v2487) a + S32x128.size a ≤ S1536x512.size a) ∧
  (∀ a, (k0_off418 v2487) a + S32x128.size a ≤ S1536x512.size a) ∧
  (∀ a, (k0_off420 v2487) a + S32x128.size a ≤ S1536x512.size a) ∧
  (∀ a, (k0_off422 v2487) a + S32x128.size a ≤ S1536x512.size a)
theorem k0_mult93_dvd : ∀ (v2487 : BitVec 32) (k0_hw93 : k0_chk93 v2487), 32 ∣ (k0_mult93 v2487).toNat := fun v2487 k0_hw93 => k0_hw93.1
theorem k0_off415_inb : ∀ (v2487 : BitVec 32) (k0_hw93 : k0_chk93 v2487), ∀ a, (k0_off415 v2487) a + S32x128.size a ≤ S1536x128.size a := fun v2487 k0_hw93 => k0_hw93.2.1
theorem k0_off416_inb : ∀ (v2487 : BitVec 32) (k0_hw93 : k0_chk93 v2487), ∀ a, (k0_off416 v2487) a + S32x128.size a ≤ S1536x512.size a := fun v2487 k0_hw93 => k0_hw93.2.2.1
theorem k0_off418_inb : ∀ (v2487 : BitVec 32) (k0_hw93 : k0_chk93 v2487), ∀ a, (k0_off418 v2487) a + S32x128.size a ≤ S1536x512.size a := fun v2487 k0_hw93 => k0_hw93.2.2.2.1
theorem k0_off420_inb : ∀ (v2487 : BitVec 32) (k0_hw93 : k0_chk93 v2487), ∀ a, (k0_off420 v2487) a + S32x128.size a ≤ S1536x512.size a := fun v2487 k0_hw93 => k0_hw93.2.2.2.2.1
theorem k0_off422_inb : ∀ (v2487 : BitVec 32) (k0_hw93 : k0_chk93 v2487), ∀ a, (k0_off422 v2487) a + S32x128.size a ≤ S1536x512.size a := fun v2487 k0_hw93 => k0_hw93.2.2.2.2.2

def k0_off423 (v2489 : BitVec 32) : Fin 2 → Nat :=
  let v2490 : BitVec 32 := v2489
  let v2537 : Index := Scalar.indexCast v2490
  let c384_748 : Index := 384#32
  ![v2537.toNat, 384]

def k0_chk94 (v2489 : BitVec 32) : Prop :=
  (16 ∣ (k0_mult94 v2489).toNat) ∧
  (∀ a, (k0_off417 v2489) a + S32x128.size a ≤ S1568x512.size a) ∧
  (∀ (hinb : ∀ a, (k0_off417 v2489) a + S32x128.size a ≤ S1568x512.size a), (Rect.unit (s := S1568x512) (k0_off417 v2489) S32x128.size hinb).PackedRows (EltTy.packing .bf16)) ∧
  (∀ a, (k0_off419 v2489) a + S32x128.size a ≤ S1568x512.size a) ∧
  (∀ (hinb : ∀ a, (k0_off419 v2489) a + S32x128.size a ≤ S1568x512.size a), (Rect.unit (s := S1568x512) (k0_off419 v2489) S32x128.size hinb).PackedRows (EltTy.packing .bf16)) ∧
  (∀ a, (k0_off421 v2489) a + S32x128.size a ≤ S1568x512.size a) ∧
  (∀ (hinb : ∀ a, (k0_off421 v2489) a + S32x128.size a ≤ S1568x512.size a), (Rect.unit (s := S1568x512) (k0_off421 v2489) S32x128.size hinb).PackedRows (EltTy.packing .bf16)) ∧
  (∀ a, (k0_off423 v2489) a + S32x128.size a ≤ S1568x512.size a) ∧
  (∀ (hinb : ∀ a, (k0_off423 v2489) a + S32x128.size a ≤ S1568x512.size a), (Rect.unit (s := S1568x512) (k0_off423 v2489) S32x128.size hinb).PackedRows (EltTy.packing .bf16))
theorem k0_mult94_dvd : ∀ (v2489 : BitVec 32) (k0_hw94 : k0_chk94 v2489), 16 ∣ (k0_mult94 v2489).toNat := fun v2489 k0_hw94 => k0_hw94.1
theorem k0_off417_inb : ∀ (v2489 : BitVec 32) (k0_hw94 : k0_chk94 v2489), ∀ a, (k0_off417 v2489) a + S32x128.size a ≤ S1568x512.size a := fun v2489 k0_hw94 => k0_hw94.2.1
theorem k0_off417_packedbf16 : ∀ (v2489 : BitVec 32) (k0_hw94 : k0_chk94 v2489), (Rect.unit (s := S1568x512) (k0_off417 v2489) S32x128.size (k0_off417_inb v2489 k0_hw94)).PackedRows (EltTy.packing .bf16) := fun v2489 k0_hw94 => k0_hw94.2.2.1 (k0_off417_inb v2489 k0_hw94)
theorem k0_off419_inb : ∀ (v2489 : BitVec 32) (k0_hw94 : k0_chk94 v2489), ∀ a, (k0_off419 v2489) a + S32x128.size a ≤ S1568x512.size a := fun v2489 k0_hw94 => k0_hw94.2.2.2.1
theorem k0_off419_packedbf16 : ∀ (v2489 : BitVec 32) (k0_hw94 : k0_chk94 v2489), (Rect.unit (s := S1568x512) (k0_off419 v2489) S32x128.size (k0_off419_inb v2489 k0_hw94)).PackedRows (EltTy.packing .bf16) := fun v2489 k0_hw94 => k0_hw94.2.2.2.2.1 (k0_off419_inb v2489 k0_hw94)
theorem k0_off421_inb : ∀ (v2489 : BitVec 32) (k0_hw94 : k0_chk94 v2489), ∀ a, (k0_off421 v2489) a + S32x128.size a ≤ S1568x512.size a := fun v2489 k0_hw94 => k0_hw94.2.2.2.2.2.1
theorem k0_off421_packedbf16 : ∀ (v2489 : BitVec 32) (k0_hw94 : k0_chk94 v2489), (Rect.unit (s := S1568x512) (k0_off421 v2489) S32x128.size (k0_off421_inb v2489 k0_hw94)).PackedRows (EltTy.packing .bf16) := fun v2489 k0_hw94 => k0_hw94.2.2.2.2.2.2.1 (k0_off421_inb v2489 k0_hw94)
theorem k0_off423_inb : ∀ (v2489 : BitVec 32) (k0_hw94 : k0_chk94 v2489), ∀ a, (k0_off423 v2489) a + S32x128.size a ≤ S1568x512.size a := fun v2489 k0_hw94 => k0_hw94.2.2.2.2.2.2.2.1
theorem k0_off423_packedbf16 : ∀ (v2489 : BitVec 32) (k0_hw94 : k0_chk94 v2489), (Rect.unit (s := S1568x512) (k0_off423 v2489) S32x128.size (k0_off423_inb v2489 k0_hw94)).PackedRows (EltTy.packing .bf16) := fun v2489 k0_hw94 => k0_hw94.2.2.2.2.2.2.2.2 (k0_off423_inb v2489 k0_hw94)

def k0_mult95 (v2541 : BitVec 32) : BitVec 32 :=
  v2541

def k0_mult96 (v2543 : BitVec 32) : BitVec 32 :=
  v2543

def k0_off424 (v2541 : BitVec 32) : Fin 2 → Nat :=
  let v2542 : BitVec 32 := v2541
  let v2545 : Index := Scalar.indexCast v2542
  let c0_750 : Index := 0#32
  ![v2545.toNat, 0]
def k0_off425 (v2541 : BitVec 32) : Fin 2 → Nat :=
  let v2542 : BitVec 32 := v2541
  let v2551 : Index := Scalar.indexCast v2542
  let c0_753 : Index := 0#32
  ![v2551.toNat, 0]
def k0_off426 (v2543 : BitVec 32) : Fin 2 → Nat :=
  let v2544 : BitVec 32 := v2543
  let v2558 : Index := Scalar.indexCast v2544
  let c0_755 : Index := 0#32
  ![v2558.toNat, 0]
def k0_off427 (v2541 : BitVec 32) : Fin 2 → Nat :=
  let v2542 : BitVec 32 := v2541
  let v2562 : Index := Scalar.indexCast v2542
  let c128_756 : Index := 128#32
  ![v2562.toNat, 128]
def k0_off428 (v2543 : BitVec 32) : Fin 2 → Nat :=
  let v2544 : BitVec 32 := v2543
  let v2569 : Index := Scalar.indexCast v2544
  let c128_758 : Index := 128#32
  ![v2569.toNat, 128]
def k0_off429 (v2541 : BitVec 32) : Fin 2 → Nat :=
  let v2542 : BitVec 32 := v2541
  let v2573 : Index := Scalar.indexCast v2542
  let c256_759 : Index := 256#32
  ![v2573.toNat, 256]
def k0_off430 (v2543 : BitVec 32) : Fin 2 → Nat :=
  let v2544 : BitVec 32 := v2543
  let v2580 : Index := Scalar.indexCast v2544
  let c256_761 : Index := 256#32
  ![v2580.toNat, 256]
def k0_off431 (v2541 : BitVec 32) : Fin 2 → Nat :=
  let v2542 : BitVec 32 := v2541
  let v2584 : Index := Scalar.indexCast v2542
  let c384_762 : Index := 384#32
  ![v2584.toNat, 384]

def k0_chk95 (v2541 : BitVec 32) : Prop :=
  (32 ∣ (k0_mult95 v2541).toNat) ∧
  (∀ a, (k0_off424 v2541) a + S32x128.size a ≤ S1536x128.size a) ∧
  (∀ a, (k0_off425 v2541) a + S32x128.size a ≤ S1536x512.size a) ∧
  (∀ a, (k0_off427 v2541) a + S32x128.size a ≤ S1536x512.size a) ∧
  (∀ a, (k0_off429 v2541) a + S32x128.size a ≤ S1536x512.size a) ∧
  (∀ a, (k0_off431 v2541) a + S32x128.size a ≤ S1536x512.size a)
theorem k0_mult95_dvd : ∀ (v2541 : BitVec 32) (k0_hw95 : k0_chk95 v2541), 32 ∣ (k0_mult95 v2541).toNat := fun v2541 k0_hw95 => k0_hw95.1
theorem k0_off424_inb : ∀ (v2541 : BitVec 32) (k0_hw95 : k0_chk95 v2541), ∀ a, (k0_off424 v2541) a + S32x128.size a ≤ S1536x128.size a := fun v2541 k0_hw95 => k0_hw95.2.1
theorem k0_off425_inb : ∀ (v2541 : BitVec 32) (k0_hw95 : k0_chk95 v2541), ∀ a, (k0_off425 v2541) a + S32x128.size a ≤ S1536x512.size a := fun v2541 k0_hw95 => k0_hw95.2.2.1
theorem k0_off427_inb : ∀ (v2541 : BitVec 32) (k0_hw95 : k0_chk95 v2541), ∀ a, (k0_off427 v2541) a + S32x128.size a ≤ S1536x512.size a := fun v2541 k0_hw95 => k0_hw95.2.2.2.1
theorem k0_off429_inb : ∀ (v2541 : BitVec 32) (k0_hw95 : k0_chk95 v2541), ∀ a, (k0_off429 v2541) a + S32x128.size a ≤ S1536x512.size a := fun v2541 k0_hw95 => k0_hw95.2.2.2.2.1
theorem k0_off431_inb : ∀ (v2541 : BitVec 32) (k0_hw95 : k0_chk95 v2541), ∀ a, (k0_off431 v2541) a + S32x128.size a ≤ S1536x512.size a := fun v2541 k0_hw95 => k0_hw95.2.2.2.2.2

def k0_off432 (v2543 : BitVec 32) : Fin 2 → Nat :=
  let v2544 : BitVec 32 := v2543
  let v2591 : Index := Scalar.indexCast v2544
  let c384_764 : Index := 384#32
  ![v2591.toNat, 384]

def k0_chk96 (v2543 : BitVec 32) : Prop :=
  (16 ∣ (k0_mult96 v2543).toNat) ∧
  (∀ a, (k0_off426 v2543) a + S32x128.size a ≤ S1568x512.size a) ∧
  (∀ (hinb : ∀ a, (k0_off426 v2543) a + S32x128.size a ≤ S1568x512.size a), (Rect.unit (s := S1568x512) (k0_off426 v2543) S32x128.size hinb).PackedRows (EltTy.packing .bf16)) ∧
  (∀ a, (k0_off428 v2543) a + S32x128.size a ≤ S1568x512.size a) ∧
  (∀ (hinb : ∀ a, (k0_off428 v2543) a + S32x128.size a ≤ S1568x512.size a), (Rect.unit (s := S1568x512) (k0_off428 v2543) S32x128.size hinb).PackedRows (EltTy.packing .bf16)) ∧
  (∀ a, (k0_off430 v2543) a + S32x128.size a ≤ S1568x512.size a) ∧
  (∀ (hinb : ∀ a, (k0_off430 v2543) a + S32x128.size a ≤ S1568x512.size a), (Rect.unit (s := S1568x512) (k0_off430 v2543) S32x128.size hinb).PackedRows (EltTy.packing .bf16)) ∧
  (∀ a, (k0_off432 v2543) a + S32x128.size a ≤ S1568x512.size a) ∧
  (∀ (hinb : ∀ a, (k0_off432 v2543) a + S32x128.size a ≤ S1568x512.size a), (Rect.unit (s := S1568x512) (k0_off432 v2543) S32x128.size hinb).PackedRows (EltTy.packing .bf16))
theorem k0_mult96_dvd : ∀ (v2543 : BitVec 32) (k0_hw96 : k0_chk96 v2543), 16 ∣ (k0_mult96 v2543).toNat := fun v2543 k0_hw96 => k0_hw96.1
theorem k0_off426_inb : ∀ (v2543 : BitVec 32) (k0_hw96 : k0_chk96 v2543), ∀ a, (k0_off426 v2543) a + S32x128.size a ≤ S1568x512.size a := fun v2543 k0_hw96 => k0_hw96.2.1
theorem k0_off426_packedbf16 : ∀ (v2543 : BitVec 32) (k0_hw96 : k0_chk96 v2543), (Rect.unit (s := S1568x512) (k0_off426 v2543) S32x128.size (k0_off426_inb v2543 k0_hw96)).PackedRows (EltTy.packing .bf16) := fun v2543 k0_hw96 => k0_hw96.2.2.1 (k0_off426_inb v2543 k0_hw96)
theorem k0_off428_inb : ∀ (v2543 : BitVec 32) (k0_hw96 : k0_chk96 v2543), ∀ a, (k0_off428 v2543) a + S32x128.size a ≤ S1568x512.size a := fun v2543 k0_hw96 => k0_hw96.2.2.2.1
theorem k0_off428_packedbf16 : ∀ (v2543 : BitVec 32) (k0_hw96 : k0_chk96 v2543), (Rect.unit (s := S1568x512) (k0_off428 v2543) S32x128.size (k0_off428_inb v2543 k0_hw96)).PackedRows (EltTy.packing .bf16) := fun v2543 k0_hw96 => k0_hw96.2.2.2.2.1 (k0_off428_inb v2543 k0_hw96)
theorem k0_off430_inb : ∀ (v2543 : BitVec 32) (k0_hw96 : k0_chk96 v2543), ∀ a, (k0_off430 v2543) a + S32x128.size a ≤ S1568x512.size a := fun v2543 k0_hw96 => k0_hw96.2.2.2.2.2.1
theorem k0_off430_packedbf16 : ∀ (v2543 : BitVec 32) (k0_hw96 : k0_chk96 v2543), (Rect.unit (s := S1568x512) (k0_off430 v2543) S32x128.size (k0_off430_inb v2543 k0_hw96)).PackedRows (EltTy.packing .bf16) := fun v2543 k0_hw96 => k0_hw96.2.2.2.2.2.2.1 (k0_off430_inb v2543 k0_hw96)
theorem k0_off432_inb : ∀ (v2543 : BitVec 32) (k0_hw96 : k0_chk96 v2543), ∀ a, (k0_off432 v2543) a + S32x128.size a ≤ S1568x512.size a := fun v2543 k0_hw96 => k0_hw96.2.2.2.2.2.2.2.1
theorem k0_off432_packedbf16 : ∀ (v2543 : BitVec 32) (k0_hw96 : k0_chk96 v2543), (Rect.unit (s := S1568x512) (k0_off432 v2543) S32x128.size (k0_off432_inb v2543 k0_hw96)).PackedRows (EltTy.packing .bf16) := fun v2543 k0_hw96 => k0_hw96.2.2.2.2.2.2.2.2 (k0_off432_inb v2543 k0_hw96)

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S3584x1536 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1536x512 .fp8e5m2 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1536x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1536x128 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x3584 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x32x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x448 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x112 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x112 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S16x112 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S16x112 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S48 : Shape := ⟨1, ![48]⟩
abbrev S3584x1536 : Shape := ⟨2, ![3584, 1536]⟩
abbrev S1536x18944 : Shape := ⟨2, ![1536, 18944]⟩
abbrev S1536x128 : Shape := ⟨2, ![1536, 128]⟩
abbrev S18944x3584 : Shape := ⟨2, ![18944, 3584]⟩
abbrev S37x32x128 : Shape := ⟨3, ![37, 32, 128]⟩
abbrev S18944x448 : Shape := ⟨2, ![18944, 448]⟩
abbrev S1x1536x1x128 : Shape := ⟨4, ![1, 1536, 1, 128]⟩
abbrev S1x1536x148x128 : Shape := ⟨4, ![1, 1536, 148, 128]⟩
abbrev S_ : Shape := ⟨0, ![]⟩
abbrev S1536 : Shape := ⟨1, ![1536]⟩
abbrev S1536x1 : Shape := ⟨2, ![1536, 1]⟩
abbrev S1x48 : Shape := ⟨2, ![1, 48]⟩
abbrev S1536x48 : Shape := ⟨2, ![1536, 48]⟩
abbrev S1536x18944x1 : Shape := ⟨3, ![1536, 18944, 1]⟩
abbrev S3584x18944 : Shape := ⟨2, ![3584, 18944]⟩
abbrev S14x32x8x18944 : Shape := ⟨4, ![14, 32, 8, 18944]⟩
abbrev S18944x14x8x32 : Shape := ⟨4, ![18944, 14, 8, 32]⟩
abbrev S18944x112x32 : Shape := ⟨3, ![18944, 112, 32]⟩
abbrev S18944x448x1 : Shape := ⟨3, ![18944, 448, 1]⟩
abbrev S8 : Shape := ⟨1, ![8]⟩
abbrev S1x1x8 : Shape := ⟨3, ![1, 1, 8]⟩
abbrev S18944x448x8 : Shape := ⟨3, ![18944, 448, 8]⟩
abbrev S18944x112 : Shape := ⟨2, ![18944, 112]⟩
abbrev S592x32x112x32 : Shape := ⟨4, ![592, 32, 112, 32]⟩
abbrev S592x112 : Shape := ⟨2, ![592, 112]⟩
abbrev S37x8x4x128 : Shape := ⟨4, ![37, 8, 4, 128]⟩
abbrev S37x128x4x8 : Shape := ⟨4, ![37, 128, 4, 8]⟩
abbrev S18944x8 : Shape := ⟨2, ![18944, 8]⟩
abbrev S1x18944x1x8 : Shape := ⟨4, ![1, 18944, 1, 8]⟩
abbrev S1x18944x14x8 : Shape := ⟨4, ![1, 18944, 14, 8]⟩
abbrev S18944x112x1 : Shape := ⟨3, ![18944, 112, 1]⟩

abbrev nBuf : Space → Nat
  | .hbm => 143
  | .vmem => 4
  | .smem => 0
  | _ => 0

abbrev hbmTy0_0 (i : Nat) : BufTy := match i % 128 with
  | 0 => ⟨S48, .i32⟩
  | 1 => ⟨S48, .i32⟩
  | 2 => ⟨S3584x1536, .bf16⟩
  | 3 => ⟨S1536x18944, .fp8e5m2⟩
  | 4 => ⟨S1536x128, .bf16⟩
  | 5 => ⟨S1536x128, .i8⟩
  | 6 => ⟨S18944x3584, .i8⟩
  | 7 => ⟨S37x32x128, .f32⟩
  | 8 => ⟨S18944x448, .i8⟩
  | 9 => ⟨S1536x18944, .bf16⟩
  | 10 => ⟨S18944x3584, .f32⟩
  | 11 => ⟨S1x1536x1x128, .i8⟩
  | 12 => ⟨S1x1536x148x128, .i8⟩
  | 13 => ⟨S1536x18944, .i8⟩
  | 14 => ⟨S_, .i8⟩
  | 15 => ⟨S1536x18944, .i8⟩
  | 16 => ⟨S1536x18944, .i1⟩
  | 17 => ⟨S_, .i32⟩
  | 18 => ⟨S_, .bf16⟩
  | 19 => ⟨S1536x18944, .bf16⟩
  | 20 => ⟨S1536x18944, .bf16⟩
  | 21 => ⟨S1x1536x1x128, .bf16⟩
  | 22 => ⟨S1x1536x148x128, .bf16⟩
  | 23 => ⟨S1536x18944, .bf16⟩
  | 24 => ⟨S1536x18944, .bf16⟩
  | 25 => ⟨S1536, .i32⟩
  | 26 => ⟨S1536x1, .i32⟩
  | 27 => ⟨S1x48, .i32⟩
  | 28 => ⟨S1536x48, .i32⟩
  | 29 => ⟨S1536x48, .i32⟩
  | 30 => ⟨S1536x48, .i32⟩
  | 31 => ⟨S_, .i32⟩
  | 32 => ⟨S1536x48, .i32⟩
  | 33 => ⟨S1536x48, .i1⟩
  | 34 => ⟨S_, .i32⟩
  | 35 => ⟨S1536x48, .i32⟩
  | 36 => ⟨S1536x48, .i1⟩
  | 37 => ⟨S1536x48, .i1⟩
  | 38 => ⟨S48, .i32⟩
  | 39 => ⟨S1x48, .i32⟩
  | 40 => ⟨S_, .i32⟩
  | 41 => ⟨S_, .i32⟩
  | 42 => ⟨S1536x48, .i32⟩
  | 43 => ⟨S1536x48, .i32⟩
  | 44 => ⟨S1536x48, .i32⟩
  | 45 => ⟨S_, .i32⟩
  | 46 => ⟨S1536, .i32⟩
  | 47 => ⟨S48, .i32⟩
  | 48 => ⟨S1x48, .i32⟩
  | 49 => ⟨S1536x1, .i32⟩
  | 50 => ⟨S1536x48, .i32⟩
  | 51 => ⟨S1536x48, .i32⟩
  | 52 => ⟨S1536x48, .i1⟩
  | 53 => ⟨S1x48, .i32⟩
  | 54 => ⟨S1536x48, .i32⟩
  | 55 => ⟨S1536x48, .i32⟩
  | 56 => ⟨S_, .i32⟩
  | 57 => ⟨S_, .i32⟩
  | 58 => ⟨S1536x48, .i32⟩
  | 59 => ⟨S1536x48, .i32⟩
  | 60 => ⟨S_, .i32⟩
  | 61 => ⟨S1536, .i32⟩
  | 62 => ⟨S1536x1, .i32⟩
  | 63 => ⟨S1536x18944, .i32⟩
  | 64 => ⟨S_, .i32⟩
  | 65 => ⟨S1536x18944, .i32⟩
  | 66 => ⟨S1536x18944, .i1⟩
  | 67 => ⟨S_, .i32⟩
  | 68 => ⟨S1536x18944, .i32⟩
  | 69 => ⟨S1536x18944, .i32⟩
  | 70 => ⟨S1536x18944, .i32⟩
  | 71 => ⟨S1536x18944x1, .i32⟩
  | 72 => ⟨S1536x18944, .bf16⟩
  | 73 => ⟨S1536x1, .i32⟩
  | 74 => ⟨S_, .i32⟩
  | 75 => ⟨S1536x1, .i32⟩
  | 76 => ⟨S1536x1, .i1⟩
  | 77 => ⟨S_, .i32⟩
  | 78 => ⟨S_, .bf16⟩
  | 79 => ⟨S1536x18944, .i1⟩
  | 80 => ⟨S1536x18944, .bf16⟩
  | 81 => ⟨S1536x18944, .bf16⟩
  | 82 => ⟨S3584x18944, .f32⟩
  | 83 => ⟨S3584x18944, .f32⟩
  | 84 => ⟨S14x32x8x18944, .f32⟩
  | 85 => ⟨S18944x14x8x32, .f32⟩
  | 86 => ⟨S18944x112x32, .f32⟩
  | 87 => ⟨S18944x448, .i32⟩
  | 88 => ⟨S18944x448x1, .i32⟩
  | 89 => ⟨S8, .i32⟩
  | 90 => ⟨S1x1x8, .i32⟩
  | 91 => ⟨S18944x448x8, .i32⟩
  | 92 => ⟨S18944x448x8, .i32⟩
  | 93 => ⟨S18944x448x8, .i32⟩
  | 94 => ⟨S_, .i32⟩
  | 95 => ⟨S18944x448x8, .i32⟩
  | 96 => ⟨S18944x448x8, .i32⟩
  | 97 => ⟨S18944x112x32, .i32⟩
  | 98 => ⟨S_, .i32⟩
  | 99 => ⟨S18944x112x32, .i32⟩
  | 100 => ⟨S18944x112x32, .i1⟩
  | 101 => ⟨S_, .f32⟩
  | 102 => ⟨S_, .f32⟩
  | 103 => ⟨S18944x112x32, .f32⟩
  | 104 => ⟨S18944x112x32, .f32⟩
  | 105 => ⟨S_, .f32⟩
  | 106 => ⟨S18944x112, .f32⟩
  | 107 => ⟨S592x32x112x32, .f32⟩
  | 108 => ⟨S_, .f32⟩
  | 109 => ⟨S592x112, .f32⟩
  | 110 => ⟨S37x8x4x128, .f32⟩
  | 111 => ⟨S37x128x4x8, .f32⟩
  | 112 => ⟨S18944x8, .f32⟩
  | 113 => ⟨S1x18944x1x8, .f32⟩
  | 114 => ⟨S1x18944x14x8, .f32⟩
  | 115 => ⟨S18944x112, .f32⟩
  | 116 => ⟨S18944x3584, .f32⟩
  | 117 => ⟨S18944x112x32, .f32⟩
  | 118 => ⟨S18944x112x1, .f32⟩
  | 119 => ⟨S18944x112x32, .f32⟩
  | 120 => ⟨S18944x112x32, .f32⟩
  | 121 => ⟨S_, .f32⟩
  | 122 => ⟨S_, .f32⟩
  | 123 => ⟨S18944x112x32, .f32⟩
  | 124 => ⟨S18944x112x32, .f32⟩
  | 125 => ⟨S592x32x112x32, .f32⟩
  | 126 => ⟨S_, .f32⟩
  | 127 => ⟨S592x112, .f32⟩
  | _ => ⟨S48, .i32⟩

abbrev hbmTy0_1 (i : Nat) : BufTy := match i % 128 with
  | 0 => ⟨S592x112, .f32⟩
  | 1 => ⟨S_, .f32⟩
  | 2 => ⟨S592x112, .f32⟩
  | 3 => ⟨S592x112, .i1⟩
  | 4 => ⟨S_, .f32⟩
  | 5 => ⟨S_, .f32⟩
  | 6 => ⟨S592x112, .f32⟩
  | 7 => ⟨S592x112, .f32⟩
  | 8 => ⟨S_, .f32⟩
  | 9 => ⟨S_, .f32⟩
  | 10 => ⟨S18944x112x32, .f32⟩
  | 11 => ⟨S18944x112x32, .f32⟩
  | 12 => ⟨S592x32x112x32, .f32⟩
  | 13 => ⟨S_, .f32⟩
  | 14 => ⟨S592x112, .f32⟩
  | _ => ⟨S48, .i32⟩

abbrev hbmTy (i : Nat) : BufTy := match i / 128 with
  | 0 => hbmTy0_0 i
  | 1 => hbmTy0_1 i
  | _ => ⟨S48, .i32⟩

abbrev bufTy : (tb : Table) → Fin (tcTables nBuf tb) → BufTy
  | .hbm, ⟨i, _⟩ => hbmTy i
  | .local _ .vmem, ⟨0, _⟩ => ⟨S1536x18944, .fp8e5m2⟩
  | .local _ .vmem, ⟨1, _⟩ => ⟨S18944x3584, .i8⟩
  | .local _ .vmem, ⟨2, _⟩ => ⟨S1536x18944, .bf16⟩
  | .local _ .vmem, ⟨3, _⟩ => ⟨S18944x3584, .f32⟩
  | _, _ => ⟨S48, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_call0_v0 : Ref sig .tc := ⟨.hbm, 18, rfl⟩
abbrev main_call0_v1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c_1 : Ref sig .tc := ⟨.hbm, 31, rfl⟩
abbrev main_v17 : Ref sig .tc := ⟨.hbm, 32, rfl⟩
abbrev main_v18 : Ref sig .tc := ⟨.hbm, 33, rfl⟩
abbrev main_c_2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_3 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v24 : Ref sig .tc := ⟨.hbm, 44, rfl⟩
abbrev main_c_4 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_c_5 : Ref sig .tc := ⟨.hbm, 56, rfl⟩
abbrev main_call2_v0 : Ref sig .tc := ⟨.hbm, 57, rfl⟩
abbrev main_call2_v1 : Ref sig .tc := ⟨.hbm, 58, rfl⟩
abbrev main_v35 : Ref sig .tc := ⟨.hbm, 59, rfl⟩
abbrev main_c_6 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_call3_c : Ref sig .tc := ⟨.hbm, 64, rfl⟩
abbrev main_call3_v0 : Ref sig .tc := ⟨.hbm, 65, rfl⟩
abbrev main_call3_v1 : Ref sig .tc := ⟨.hbm, 66, rfl⟩
abbrev main_call3_c_0 : Ref sig .tc := ⟨.hbm, 67, rfl⟩
abbrev main_call3_v2 : Ref sig .tc := ⟨.hbm, 68, rfl⟩
abbrev main_call3_v3 : Ref sig .tc := ⟨.hbm, 69, rfl⟩
abbrev main_call3_v4 : Ref sig .tc := ⟨.hbm, 70, rfl⟩
abbrev main_call3_v5 : Ref sig .tc := ⟨.hbm, 71, rfl⟩
abbrev main_v39 : Ref sig .tc := ⟨.hbm, 72, rfl⟩
abbrev main_v40 : Ref sig .tc := ⟨.hbm, 73, rfl⟩
abbrev main_c_7 : Ref sig .tc := ⟨.hbm, 74, rfl⟩
abbrev main_v41 : Ref sig .tc := ⟨.hbm, 75, rfl⟩
abbrev main_v42 : Ref sig .tc := ⟨.hbm, 76, rfl⟩
abbrev main_c_8 : Ref sig .tc := ⟨.hbm, 77, rfl⟩
abbrev main_call4_v0 : Ref sig .tc := ⟨.hbm, 78, rfl⟩
abbrev main_call4_v1 : Ref sig .tc := ⟨.hbm, 79, rfl⟩
abbrev main_call4_v2 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_c_9 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_c_10 : Ref sig .tc := ⟨.hbm, 98, rfl⟩
abbrev main_v59 : Ref sig .tc := ⟨.hbm, 99, rfl⟩
abbrev main_v60 : Ref sig .tc := ⟨.hbm, 100, rfl⟩
abbrev main_cst : Ref sig .tc := ⟨.hbm, 101, rfl⟩
abbrev main_call5_v0 : Ref sig .tc := ⟨.hbm, 102, rfl⟩
abbrev main_call5_v1 : Ref sig .tc := ⟨.hbm, 103, rfl⟩
abbrev main_v61 : Ref sig .tc := ⟨.hbm, 104, rfl⟩
abbrev main_cst_11 : Ref sig .tc := ⟨.hbm, 105, rfl⟩
abbrev main_v62 : Ref sig .tc := ⟨.hbm, 106, rfl⟩
abbrev main_v63 : Ref sig .tc := ⟨.hbm, 107, rfl⟩
abbrev main_cst_12 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_cst_13 : Ref sig .tc := ⟨.hbm, 121, rfl⟩
abbrev main_call6_v0 : Ref sig .tc := ⟨.hbm, 122, rfl⟩
abbrev main_call6_v1 : Ref sig .tc := ⟨.hbm, 123, rfl⟩
abbrev main_v76 : Ref sig .tc := ⟨.hbm, 124, rfl⟩
abbrev main_v77 : Ref sig .tc := ⟨.hbm, 125, rfl⟩
abbrev main_cst_14 : Ref sig .tc := ⟨.hbm, 126, rfl⟩
abbrev main_v78 : Ref sig .tc := ⟨.hbm, 127, rfl⟩
abbrev main_call7_v0 : Ref sig .tc := ⟨.hbm, 128, rfl⟩
abbrev main_call7_cst : Ref sig .tc := ⟨.hbm, 129, rfl⟩
abbrev main_call7_v1 : Ref sig .tc := ⟨.hbm, 130, rfl⟩
abbrev main_v79 : Ref sig .tc := ⟨.hbm, 131, rfl⟩
abbrev main_cst_15 : Ref sig .tc := ⟨.hbm, 132, rfl⟩
abbrev main_call8_v0 : Ref sig .tc := ⟨.hbm, 133, rfl⟩
abbrev main_call8_v1 : Ref sig .tc := ⟨.hbm, 134, rfl⟩
abbrev main_v80 : Ref sig .tc := ⟨.hbm, 135, rfl⟩
abbrev main_cst_16 : Ref sig .tc := ⟨.hbm, 136, rfl⟩
abbrev main_call9_v0 : Ref sig .tc := ⟨.hbm, 137, rfl⟩
abbrev main_call9_v1 : Ref sig .tc := ⟨.hbm, 138, rfl⟩
abbrev main_v81 : Ref sig .tc := ⟨.hbm, 139, rfl⟩
abbrev main_v82 : Ref sig .tc := ⟨.hbm, 140, rfl⟩
abbrev main_cst_17 : Ref sig .tc := ⟨.hbm, 141, rfl⟩
abbrev main_v83 : Ref sig .tc := ⟨.hbm, 142, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S1536x18944 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S18944x3584 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1536x18944 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S18944x3584 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Body.lean ====
/- The kernel's body written with loops.

   The printed body is one straight line of 39805 statements: every loop of the kernel's source was unrolled when it
   was traced. Here the same effects, in the same order, are written with counted loops over plain natural numbers, and
   `scores_eq` says the printed body IS this program (the kernel's definitional unfolding checks it). Every fact about
   the body is then proved once per loop and not once per iteration. -/
module

public import proofs.«01_k».proof.Proof.Gen.KernelIdeal
public import Idealize.ShloMosaic.Lib.Pipeline.Regions

@[expose] public section

noncomputable section

namespace Cert.KernelIdeal.Body

open Idealize.ShloMosaic Idealize.SL.Sem
open Cert.KernelIdeal

variable {F : FTy → Type} [FloatOps F]

/-- A program of the body's effects. -/
abbrev P (F : FTy → Type) (α : Type) : Type 1 := Prog (TpuEff nD τ sig (Elt F) Λ₀ .tc) α

/-- `k` more rounds of a counted loop of `n` rounds, from round `i`. -/
def loopFrom {σ : Type} (n : ℕ) (f : (i : ℕ) → i < n → σ → P F σ) (k : ℕ) : (i : ℕ) → i + k = n → σ → P F σ :=
  Nat.rec (motive := fun k => (i : ℕ) → i + k = n → σ → P F σ) (fun _ _ s => Prog.ret s)
    (fun k ih i h s => Prog.bind (f i (by omega) s) fun s' => ih (i + 1) (by omega) s') k

/-- A counted loop of `n` rounds. -/
def loop {σ : Type} (n : ℕ) (f : (i : ℕ) → i < n → σ → P F σ) (s : σ) : P F σ := loopFrom n f n 0 (by omega) s

/-- A value after `t` rounds of at most `n`. -/
def iterTo {σ : Type} (n : ℕ) (f : (i : ℕ) → i < n → σ → σ) (s : σ) (t : ℕ) : t ≤ n → σ :=
  Nat.rec (motive := fun t => t ≤ n → σ) (fun _ => s) (fun t ih h => f t h (ih (Nat.le_of_lt h))) t

/-! ## Bounds of the rectangles -/

theorem inb2 {o0 o1 s0 s1 d0 d1 : ℕ} (h0 : o0 + s0 ≤ d0) (h1 : o1 + s1 ≤ d1) :
    ∀ a, (![o0, o1] : Fin 2 → ℕ) a + (![s0, s1] : Fin 2 → ℕ) a ≤ (![d0, d1] : Fin 2 → ℕ) a := by
  intro a; fin_cases a
  · exact h0
  · exact h1

theorem inb3 {o0 o1 o2 s0 s1 s2 d0 d1 d2 : ℕ} (h0 : o0 + s0 ≤ d0) (h1 : o1 + s1 ≤ d1) (h2 : o2 + s2 ≤ d2) :
    ∀ a, (![o0, o1, o2] : Fin 3 → ℕ) a + (![s0, s1, s2] : Fin 3 → ℕ) a ≤ (![d0, d1, d2] : Fin 3 → ℕ) a := by
  intro a; fin_cases a
  · exact h0
  · exact h1
  · exact h2

theorem inbs2 {o0 o1 s0 s1 t0 t1 d0 d1 : ℕ} (h0 : o0 + t0 * (s0 - 1) < d0) (h1 : o1 + t1 * (s1 - 1) < d1) :
    ∀ a, (![s0, s1] : Fin 2 → ℕ) a = 0
      ∨ (![o0, o1] : Fin 2 → ℕ) a + (![t0, t1] : Fin 2 → ℕ) a * ((![s0, s1] : Fin 2 → ℕ) a - 1) < (![d0, d1] : Fin 2 → ℕ) a := by
  intro a; fin_cases a
  · exact .inr h0
  · exact .inr h1

theorem inbs3 {o0 o1 o2 s0 s1 s2 t0 t1 t2 d0 d1 d2 : ℕ} (h0 : o0 + t0 * (s0 - 1) < d0) (h1 : o1 + t1 * (s1 - 1) < d1)
    (h2 : o2 + t2 * (s2 - 1) < d2) :
    ∀ a, (![s0, s1, s2] : Fin 3 → ℕ) a = 0
      ∨ (![o0, o1, o2] : Fin 3 → ℕ) a + (![t0, t1, t2] : Fin 3 → ℕ) a * ((![s0, s1, s2] : Fin 3 → ℕ) a - 1)
        < (![d0, d1, d2] : Fin 3 → ℕ) a := by
  intro a; fin_cases a
  · exact .inr h0
  · exact .inr h1
  · exact .inr h2

/-! ## One load, one unmasked store -/

/-- A load from vector memory. -/
def ld {s : Shape} {e : EltTy} (M : Memref sig .tc .vmem s e) (r : LoadRect s) (h : 0 < r.shape.numel) : P F (Vec F r.shape e) :=
  Prog.lift (.load M r (View.loadsAt_vmem h))

/-- A store of 32-bit elements to vector memory (the printed body loads the same elements first and drops them). -/
def st {s : Shape} {e : EltTy} (M : Memref sig .tc .vmem s e) (r : Rect s) (h : 0 < r.shape.numel) (he : e.bits = 32)
    (v : Vec F r.shape e) : P F PUnit := do
  let _ ← ld M r.toLoadRect h
  Prog.lift (.store M r v Finset.univ (View.stores_vmem_bits_univ h he) (.inl rfl))

/-! ## The packed gradients -/

/-- Column group 0 of a granule: 32 rows by 128 columns, masked, scaled and put where the second table says. -/
def gran1 (arg4 : Memref sig .tc .vmem S1536x512 .fp8e5m2) (arg14 : Memref sig .tc .vmem S1568x512 .bf16) (harg14 : arg14.IsWhole)
    (keep : IVec S32x128 1) (sc : FVec F S32x128 .bf16) (o4 o14 : Fin 2 → ℕ)
    (h4 : ∀ a, o4 a + S32x128.size a ≤ S1536x512.size a) (h14 : ∀ a, o14 a + S32x128.size a ≤ S1568x512.size a)
    (hp : (Rect.unit (s := S1568x512) o14 S32x128.size h14).PackedRows (EltTy.packing .bf16)) : P F PUnit := do
  let v ← ld arg4 (Rect.unit (s := S1536x512) o4 S32x128.size h4).toLoadRect Gen.h_S32x128
  let _ ← ld arg14 (Rect.unit (s := S1568x512) o14 S32x128.size h14).toLoadRect Gen.h_S32x128
  Prog.lift (.store arg14 (Rect.unit (s := S1568x512) o14 S32x128.size h14)
    (shapeCast S32x128 (mulf (select keep (extf .bf16 v (by decide)) (broadcast S32x128 (Scalar.sitofp .bf16 0#32))) sc) rfl)
    Finset.univ (View.stores_vmem Gen.h_S32x128 (harg14.storeExact_slice rfl _ hp) (fun _ => rfl)) (.inl rfl))

theorem inb48 {g : ℕ} (h : g < 48) : ∀ a, (![g] : Fin 1 → ℕ) a + S1.size a ≤ S48.size a := by
  intro a; fin_cases a; exact h

/-- Granule `g`: rows `src[g] … + 32` of the gradients go, masked and scaled, to rows `dst[g] … + 32`. -/
def gran (arg1 arg2 : Memref sig .tc .smem S48 .i32) (arg4 : Memref sig .tc .vmem S1536x512 .fp8e5m2)
    (arg5 : Memref sig .tc .vmem S1536x128 .bf16) (arg6 : Memref sig .tc .vmem S1536x128 .i8)
    (arg14 : Memref sig .tc .vmem S1568x512 .bf16) (harg14 : arg14.IsWhole) (g : ℕ) (hg : g < 48) : P F PUnit := do
  let v3 : Elt F .i32 ← smemLoad arg1 (Rect.unit (s := S48) ![g] S1.size (inb48 hg)) rfl rfl
  let hw1 := (← Prog.lift (TpuEff.assume (k0_chk1 v3) (k0_chk1.dec v3))).down
  let v5 : Elt F .i32 ← smemLoad arg2 (Rect.unit (s := S48) ![g] S1.size (inb48 hg)) rfl rfl
  let hw2 := (← Prog.lift (TpuEff.assume (k0_chk2 v5) (k0_chk2.dec v5))).down
  let kp ← ld arg6 (Rect.unit (s := S1536x128) (k0_off1 v3) S32x128.size (k0_off1_inb v3 hw1)).toLoadRect Gen.h_S32x128
  let sc ← ld arg5 (Rect.unit (s := S1536x128) (k0_off1 v3) S32x128.size (k0_off1_inb v3 hw1)).toLoadRect Gen.h_S32x128
  let keep : IVec S32x128 1 := cmpi .ne (kp : IVec S32x128 8) (broadcast S32x128 0#8)
  gran1 arg4 arg14 harg14 keep sc (k0_off2 v3) (k0_off3 v5) (k0_off2_inb v3 hw1) (k0_off3_inb v5 hw2) (k0_off3_packedbf16 v5 hw2)
  gran1 arg4 arg14 harg14 keep sc (k0_off4 v3) (k0_off5 v5) (k0_off4_inb v3 hw1) (k0_off5_inb v5 hw2) (k0_off5_packedbf16 v5 hw2)
  gran1 arg4 arg14 harg14 keep sc (k0_off6 v3) (k0_off7 v5) (k0_off6_inb v3 hw1) (k0_off7_inb v5 hw2) (k0_off7_packedbf16 v5 hw2)
  gran1 arg4 arg14 harg14 keep sc (k0_off8 v3) (k0_off9 v5) (k0_off8_inb v3 hw1) (k0_off9_inb v5 hw2) (k0_off9_packedbf16 v5 hw2)

/-- The first grid point zeroes the packed buffer. -/
def zero (first : Bool) (arg14 : Memref sig .tc .vmem S1568x512 .bf16) (harg14 : arg14.IsWhole) : P F PUnit :=
  match first with
  | true => do
    let _ ← ld arg14 (Rect.unit (s := S1568x512) ![0, 0] S1568x512.size (inb2 (by decide) (by decide))).toLoadRect Gen.h_S1568x512
    Prog.lift (.store arg14 (Rect.unit (s := S1568x512) ![0, 0] S1568x512.size (inb2 (by decide) (by decide)))
      (shapeCast S1568x512 (broadcast S1568x512 (Scalar.ofBits .bf16 0x0000#16 : F .bf16)) rfl)
      Finset.univ (View.stores_vmem Gen.h_S1568x512 (harg14.storeExact_slice rfl _ Gen.packedbf16_S1568x512_S1568x512_0_0) (fun _ => rfl)) (.inl rfl))
  | false => pure ⟨⟩

/-! ## Weights and mask transposed -/

/-- 128 weight columns, four rows to a word, transposed. -/
def wtr (arg7 : Memref sig .tc .vmem S512x3584 .i8) (arg15 : Memref sig .tc .vmem S3584x128 .i32) (k : ℕ) (hk : k < 28) : P F PUnit := do
  let v ← ld arg7 (Rect.unit (s := S512x3584) ![0, 128 * k] S512x128.size (inb2 (by decide) (by omega))).toLoadRect Gen.h_S512x128
  st arg15 (Rect.unit (s := S3584x128) ![128 * k, 0] S128x128.size (inb2 (by omega) (by decide))) Gen.h_S128x128 rfl
    (shapeCast S128x128 (transpose S128x128 [1, 0] (bitcast S128x128 32 (v : IVec S512x128 8) Gen.bitcasts_S512x128_w8_S128x128_w32)
      Gen.transposes_S128x128_p1_0_S128x128) rfl)

theorem slices2 {o0 o1 d0 d1 s0 s1 : ℕ} (h0 : o0 + s0 ≤ d0) (h1 : o1 + s1 ≤ d1) :
    Shape.Slices ⟨2, ![d0, d1]⟩ ![o0, o1] ⟨2, ![s0, s1]⟩ := by
  refine ⟨rfl, fun a => ?_⟩
  fin_cases a
  · exact h0
  · exact h1

/-- The mask bytes `c … c + 128` of the block's rows: four rows to a word, and row by row. -/
def mtr (arg9 : Memref sig .tc .vmem S512x448 .i8) (arg16 : Memref sig .tc .vmem S448x128 .i32)
    (arg17 : Memref sig .tc .vmem S4x448x128 .i32) (k : ℕ) (hk : k < 3) : P F PUnit := do
  let v ← ld arg9 (Rect.unit (s := S512x448) ![0, 128 * k] S512x128.size (inb2 (by decide) (by omega))).toLoadRect Gen.h_S512x128
  st arg16 (Rect.unit (s := S448x128) ![128 * k, 0] S128x128.size (inb2 (by omega) (by decide))) Gen.h_S128x128 rfl
    (shapeCast S128x128 (transpose S128x128 [1, 0] (bitcast S128x128 32 (v : IVec S512x128 8) Gen.bitcasts_S512x128_w8_S128x128_w32)
      Gen.transposes_S128x128_p1_0_S128x128) rfl)
  loop 4 (fun o ho _ =>
    st arg17 (Rect.unit (s := S4x448x128) ![o, 128 * k, 0] S1x128x128.size (inb3 (by omega) (by omega) (by decide))) Gen.h_S1x128x128 rfl
      (shapeCast S1x128x128 (transpose S128x128 [1, 0] (extui 32 (extractStridedSlice (s := S512x128) S128x128 ![128 * o, 0] (v : IVec S512x128 8)
        (slices2 (by omega) (by decide))) (by decide)) Gen.transposes_S128x128_p1_0_S128x128)
        Gen.shapeCasts_S128x128_S1x128x128)) ⟨⟩

/-- The last 64 mask bytes likewise. -/
def mtrTail (arg9 : Memref sig .tc .vmem S512x448 .i8) (arg16 : Memref sig .tc .vmem S448x128 .i32)
    (arg17 : Memref sig .tc .vmem S4x448x128 .i32) : P F PUnit := do
  let v ← ld arg9 (Rect.unit (s := S512x448) ![0, 384] S512x64.size (inb2 (by decide) (by decide))).toLoadRect Gen.h_S512x64
  st arg16 (Rect.unit (s := S448x128) ![384, 0] S64x128.size (inb2 (by decide) (by decide))) Gen.h_S64x128 rfl
    (shapeCast S64x128 (transpose S64x128 [1, 0] (bitcast S128x64 32 (v : IVec S512x64 8) (by decide)) (by decide)) rfl)
  loop 4 (fun o ho _ =>
    st arg17 (Rect.unit (s := S4x448x128) ![o, 384, 0] S1x64x128.size (inb3 (by omega) (by decide) (by decide))) Gen.h_S1x64x128 rfl
      (shapeCast S1x64x128 (transpose S64x128 [1, 0] (extui 32 (extractStridedSlice (s := S512x64) S128x64 ![128 * o, 0] (v : IVec S512x64 8)
        (slices2 (by omega) (by decide))) (by decide)) (by decide)) (by decide))) ⟨⟩

/-! ## The gradient scores -/

/-- One of four by number. -/
def pick4 {α : Type} (a b c d : α) : ℕ → α
  | 0 => a
  | 1 => b
  | 2 => c
  | _ => d

/-- The score of channel `t` of eight blocks at once: `|g|` where the mask bit is clear, zero where it is set. -/
def sel (g : FVec F S256x512 .f32) (m : IVec S8x128 32) (o t : ℕ) (ho : o < 4) (ht : t < 32) : FVec F S8x128 .f32 :=
  select (cmpi .slt (shli m (broadcast S8x128 (BitVec.ofNat 32 (31 - t % 8)))) (broadcast S8x128 0#32))
    (broadcast S8x128 (Scalar.ofBits .f32 0x00000000#32 : F .f32))
    (absf (extractStridedSlice (s := S256x512) S8x128 ![8 * t, 128 * o] g (slices2 (by omega) (by omega))))

/-- The sum of the scores of a block. -/
def rsum (g : FVec F S256x512 .f32) (m : ℕ → IVec S8x128 32) (o : ℕ) (ho : o < 4) : (t : ℕ) → t ≤ 32 → FVec F S8x128 .f32 :=
  iterTo 32 (fun t ht r => addf r (sel g (m (t / 8)) o t ho ht)) (broadcast S8x128 (Scalar.ofBits .f32 0x00000000#32 : F .f32))

/-- The largest score of a block. -/
def rmax (g : FVec F S256x512 .f32) (m : ℕ → IVec S8x128 32) (o : ℕ) (ho : o < 4) : (t : ℕ) → t ≤ 32 → FVec F S8x128 .f32 :=
  iterTo 32 (fun t ht r => maximumf r (sel g (m (t / 8)) o t ho ht)) (broadcast S8x128 (Scalar.ofBits .f32 0x00000000#32 : F .f32))

/-- The mask bytes of eight blocks, byte `q` of each. -/
def ldm (arg17 : Memref sig .tc .vmem S4x448x128 .i32) (ib o q : ℕ) (hib : ib < 14) (ho : o < 4) (hq : q < 4) :
    P F (IVec S8x128 32) := do
  let m ← ld arg17 (⟨![o, 32 * ib + q, 0], S1x8x128.size, ![1, 4, 1], inbs3 (by omega) (by omega) (by decide)⟩ : LoadRect S4x448x128) Gen.h_S1x8x128
  pure (shapeCast S8x128 (m : IVec S1x8x128 32) Gen.shapeCasts_S1x8x128_S8x128)

/-- Eight blocks by 128 rows of the weight block: their sums and maxima. -/
def grow (arg17 : Memref sig .tc .vmem S4x448x128 .i32) (arg18 arg19 : Memref sig .tc .vmem S112x512 .f32) (g : FVec F S256x512 .f32)
    (ib : ℕ) (hib : ib < 14) (o : ℕ) (ho : o < 4) : P F PUnit := do
  let m0 ← ldm arg17 ib o 0 hib ho (by decide)
  let m1 ← ldm arg17 ib o 1 hib ho (by decide)
  let m2 ← ldm arg17 ib o 2 hib ho (by decide)
  let m3 ← ldm arg17 ib o 3 hib ho (by decide)
  st arg18 (Rect.unit (s := S112x512) ![8 * ib, 128 * o] S8x128.size (inb2 (by omega) (by omega))) Gen.h_S8x128 rfl
    (shapeCast S8x128 (rsum g (pick4 m0 m1 m2 m3) o ho 32 (by decide)) rfl)
  st arg19 (Rect.unit (s := S112x512) ![8 * ib, 128 * o] S8x128.size (inb2 (by omega) (by omega))) Gen.h_S8x128 rfl
    (shapeCast S8x128 (rmax g (pick4 m0 m1 m2 m3) o ho 32 (by decide)) rfl)

/-! ## The weight scores -/

/-- Where bit `t % 8` of a mask byte is set: 127 in that byte, zero elsewhere. -/
def low7At (m : IVec S8x128 32) (t : ℕ) : IVec S8x128 32 :=
  muli (andi (shrui m (broadcast S8x128 (BitVec.ofNat 32 (t % 8)))) (broadcast S8x128 16843009#32)) (broadcast S8x128 127#32)

/-- The sum of the magnitudes and the largest complement so far, channel `t` taken in. -/
def dropStep (m w : IVec S8x128 32) (t : ℕ) (s : FVec F S32x128 .f32 × IVec S32x128 8) : FVec F S32x128 .f32 × IVec S32x128 8 :=
  (addf s.1 (extf .f32 (bitcastToFloat .fp8e4m3 (bitcast S32x128 8 (andi w (low7At m t)) Gen.bitcasts_S8x128_w32_S32x128_w8)
      : FVec F S32x128 .fp8e4m3) (by decide)),
   maxsi s.2 (bitcast S32x128 8 (andi (low7At m t) (xori w (constantI S8x128 32 4294967295#32))) Gen.bitcasts_S8x128_w32_S32x128_w8))

/-- The smallest code of a block's chosen weights. -/
def dropCode (best : IVec S32x128 8) : IVec S8x128 32 :=
  subi (broadcast S8x128 2139062143#32) (bitcast S8x128 32 best Gen.bitcasts_S32x128_w8_S8x128_w32)

/-- The smallest chosen magnitude of each block, infinite where none is chosen. -/
def dropMin (best : IVec S32x128 8) (ws : FVec F S32x128 .f32) : FVec F S32x128 .f32 :=
  select (cmpi .ne (extsi 32 (bitcast S32x128 8 (dropCode best) Gen.bitcasts_S8x128_w32_S32x128_w8) (by decide)) (broadcast S32x128 127#32))
    (mulf (extf .f32 (bitcastToFloat .fp8e4m3 (bitcast S32x128 8 (dropCode best) Gen.bitcasts_S8x128_w32_S32x128_w8)
      : FVec F S32x128 .fp8e4m3) (by decide)) ws)
    (broadcast S32x128 (Scalar.ofBits .f32 0x7F800000#32 : F .f32))

/-- Eight blocks' weight scores. -/
def drop (arg8 : Memref sig .tc .vmem S1x32x128 .f32) (arg15 : Memref sig .tc .vmem S3584x128 .i32) (arg16 : Memref sig .tc .vmem S448x128 .i32)
    (arg20 arg21 : Memref sig .tc .vmem S448x128 .f32) (ib : ℕ) (hib : ib < 14) : P F PUnit := do
  let s ← loop 4 (fun q hq s => do
      let m ← ld arg16 (⟨![32 * ib + q, 0], S8x128.size, ![4, 1], inbs2 (by omega) (by decide)⟩ : LoadRect S448x128) Gen.h_S8x128
      loop 8 (fun u hu s => do
        let w ← ld arg15 (⟨![256 * ib + (8 * q + u), 0], S8x128.size, ![32, 1], inbs2 (by omega) (by decide)⟩ : LoadRect S3584x128) Gen.h_S8x128
        pure (dropStep m w (8 * q + u) s)) s)
    ((broadcast S32x128 (Scalar.ofBits .f32 0x00000000#32 : F .f32), broadcast S32x128 0#8) : FVec F S32x128 .f32 × IVec S32x128 8)
  let ws ← ld arg8 (Rect.unit (s := S1x32x128) ![0, 0, 0] S1x32x128.size (inb3 (by decide) (by decide) (by decide))).toLoadRect Gen.h_S1x32x128
  st arg20 (Rect.unit (s := S448x128) ![32 * ib, 0] S32x128.size (inb2 (by omega) (by decide))) Gen.h_S32x128 rfl
    (shapeCast S32x128 (dropMin s.2 (shapeCast S32x128 (ws : FVec F S1x32x128 .f32) Gen.shapeCasts_S1x32x128_S32x128)) rfl)
  st arg21 (Rect.unit (s := S448x128) ![32 * ib, 0] S32x128.size (inb2 (by omega) (by decide))) Gen.h_S32x128 rfl
    (shapeCast S32x128 (mulf s.1 (shapeCast S32x128 (ws : FVec F S1x32x128 .f32) Gen.shapeCasts_S1x32x128_S32x128)) rfl)

/-- 256 channels: their gradients, the gradient scores of eight blocks, and the weight scores of the same blocks. -/
def chans (arg3 : Memref sig .tc .vmem S3584x1536 .bf16) (arg8 : Memref sig .tc .vmem S1x32x128 .f32)
    (arg14 : Memref sig .tc .vmem S1568x512 .bf16) (arg15 : Memref sig .tc .vmem S3584x128 .i32) (arg16 : Memref sig .tc .vmem S448x128 .i32)
    (arg17 : Memref sig .tc .vmem S4x448x128 .i32) (arg18 arg19 : Memref sig .tc .vmem S112x512 .f32)
    (arg20 arg21 : Memref sig .tc .vmem S448x128 .f32) (ib : ℕ) (hib : ib < 14) : P F PUnit := do
  let x ← ld arg3 (Rect.unit (s := S3584x1536) ![256 * ib, 0] S256x1536.size (inb2 (by omega) (by decide))).toLoadRect Gen.h_S256x1536
  let d ← ld arg14 (Rect.unit (s := S1568x512) ![0, 0] S1536x512.size (inb2 (by decide) (by decide))).toLoadRect Gen.h_S1536x512
  loop 4 (fun o ho _ => grow arg17 arg18 arg19
    (matmul dot_S256x1536_S1536x512_S256x512_1_0_0_1_n_n none (x : FVec F S256x1536 .bf16) (d : FVec F S1536x512 .bf16)
      (constant S256x512 .f32 0x00000000#32)) ib hib o ho) ⟨⟩
  drop arg8 arg15 arg16 arg20 arg21 ib hib

/-! ## The results -/

/-- The gradient results of the block: the sums as they stand, the maxima taken over 32 rows. -/
def outGrow (arg10 : Memref sig .tc .vmem S16x112 .f32) (arg11 : Memref sig .tc .vmem S512x112 .f32)
    (arg18 arg19 : Memref sig .tc .vmem S112x512 .f32) : P F PUnit := do
  let a ← ld arg18 (Rect.unit (s := S112x512) ![0, 0] S112x512.size (inb2 (by decide) (by decide))).toLoadRect Gen.h_S112x512
  st arg11 (Rect.unit (s := S512x112) ![0, 0] S512x112.size (inb2 (by decide) (by decide))) Gen.h_S512x112 rfl
    (transpose S512x112 [1, 0] (a : FVec F S112x512 .f32) Gen.transposes_S112x512_p1_0_S512x112)
  let b ← ld arg19 (Rect.unit (s := S112x512) ![0, 0] S112x512.size (inb2 (by decide) (by decide))).toLoadRect Gen.h_S112x512
  st arg10 (Rect.unit (s := S16x112) ![0, 0] S16x112.size (inb2 (by decide) (by decide))) Gen.h_S16x112 rfl
    (multiReduction .maximumf [1] S16x112 (shapeCast S16x32x112 (transpose S512x112 [1, 0] (b : FVec F S112x512 .f32)
      Gen.transposes_S112x512_p1_0_S512x112) Gen.shapeCasts_S512x112_S16x32x112)
      0xFF800000#32 Gen.reduces_S16x32x112_S16x112 (.inl rfl) rfl)

/-- Rows `q, q + 4, …` of a weight score buffer: the rows of the block that are `q` modulo 4. -/
def ldd (M : Memref sig .tc .vmem S448x128 .f32) (q : ℕ) (hq : q < 4) : P F (FVec F S112x128 .f32) :=
  ld M (⟨![q, 0], S112x128.size, ![4, 1], inbs2 (by omega) (by decide)⟩ : LoadRect S448x128) Gen.h_S112x128

/-- The weight results of the block. -/
def outDrop (arg12 arg13 : Memref sig .tc .vmem S16x112 .f32) (arg20 arg21 : Memref sig .tc .vmem S448x128 .f32) : P F PUnit := do
  let a0 ← ldd arg20 0 (by decide)
  let b0 ← ldd arg21 0 (by decide)
  let a1 ← ldd arg20 1 (by decide)
  let b1 ← ldd arg21 1 (by decide)
  let a2 ← ldd arg20 2 (by decide)
  let b2 ← ldd arg21 2 (by decide)
  let a3 ← ldd arg20 3 (by decide)
  let b3 ← ldd arg21 3 (by decide)
  let mn : FVec F S16x112 .f32 := multiReduction .minimumf [1] S16x112 (shapeCast S16x8x112 (transpose S128x112 [1, 0]
    (minimumf (minimumf (minimumf a0 a1) a2) a3) Gen.transposes_S112x128_p1_0_S128x112)
    Gen.shapeCasts_S128x112_S16x8x112) 0x7F800000#32 Gen.reduces_S16x8x112_S16x112 (.inl rfl) rfl
  st arg12 (Rect.unit (s := S16x112) ![0, 0] S16x112.size (inb2 (by decide) (by decide))) Gen.h_S16x112 rfl
    (select (cmpf .oeq mn (broadcast S16x112 (Scalar.ofBits .f32 0x7F800000#32 : F .f32))) (broadcast S16x112 (Scalar.ofBits .f32 0x00000000#32 : F .f32)) mn)
  st arg13 (Rect.unit (s := S16x112) ![0, 0] S16x112.size (inb2 (by decide) (by decide))) Gen.h_S16x112 rfl
    (multiReduction .add [1] S16x112 (shapeCast S16x8x112 (transpose S128x112 [1, 0]
      (addf (addf (addf b0 b1) b2) b3) Gen.transposes_S112x128_p1_0_S128x112)
      Gen.shapeCasts_S128x112_S16x8x112) 0x00000000#32 Gen.reduces_S16x8x112_S16x112 (.inl rfl) rfl)

/-- The body, looped. -/
def body (first : Bool) (arg1 : Memref sig .tc .smem S48 .i32) (arg2 : Memref sig .tc .smem S48 .i32)
    (arg3 : Memref sig .tc .vmem S3584x1536 .bf16) (arg4 : Memref sig .tc .vmem S1536x512 .fp8e5m2)
    (arg5 : Memref sig .tc .vmem S1536x128 .bf16) (arg6 : Memref sig .tc .vmem S1536x128 .i8)
    (arg7 : Memref sig .tc .vmem S512x3584 .i8) (arg8 : Memref sig .tc .vmem S1x32x128 .f32)
    (arg9 : Memref sig .tc .vmem S512x448 .i8) (arg10 : Memref sig .tc .vmem S16x112 .f32)
    (arg11 : Memref sig .tc .vmem S512x112 .f32) (arg12 : Memref sig .tc .vmem S16x112 .f32)
    (arg13 : Memref sig .tc .vmem S16x112 .f32) (arg14 : Memref sig .tc .vmem S1568x512 .bf16) (harg14 : arg14.IsWhole)
    (arg15 : Memref sig .tc .vmem S3584x128 .i32) (arg16 : Memref sig .tc .vmem S448x128 .i32)
    (arg17 : Memref sig .tc .vmem S4x448x128 .i32) (arg18 : Memref sig .tc .vmem S112x512 .f32)
    (arg19 : Memref sig .tc .vmem S112x512 .f32) (arg20 : Memref sig .tc .vmem S448x128 .f32)
    (arg21 : Memref sig .tc .vmem S448x128 .f32) : P F PUnit := do
  zero first arg14 harg14
  loop 48 (fun g hg _ => gran arg1 arg2 arg4 arg5 arg6 arg14 harg14 g hg) ⟨⟩
  loop 28 (fun k hk _ => wtr arg7 arg15 k hk) ⟨⟩
  loop 3 (fun k hk _ => mtr arg9 arg16 arg17 k hk) ⟨⟩
  mtrTail arg9 arg16 arg17
  loop 14 (fun ib hib _ => chans arg3 arg8 arg14 arg15 arg16 arg17 arg18 arg19 arg20 arg21 ib hib) ⟨⟩
  outGrow arg10 arg11 arg18 arg19
  outDrop arg12 arg13 arg20 arg21

end Cert.KernelIdeal.Body
-- ==== Proof.Rules.lean ====
/- What one execution of the body does to its buffers, as a function of their contents.

   `Does p s a s'` says: from the contents `s` of the body's nineteen vector buffers the program `p` ends with the answer
   `a` and the contents `s'`. One rule per effect; programs compose. Everything after this module is about contents only. -/
module

public import proofs.«01_k».proof.Proof.Body
public import Idealize.ShloMosaic.Lib.Pipeline.Frame
public import Idealize.ShloMosaic.Lib.Memref

@[expose] public section

noncomputable section

namespace Cert.KernelIdeal.Body

open Idealize.ShloMosaic Idealize.ShloMosaic.TcCoe
open Idealize.SL
open Idealize.SL.BI (sProp bigSep bigSep_univ_split bigSep_congr)
open scoped Idealize.SL.BI
open Idealize.SL.BI.BIBase Idealize.SL.BI.Laws Idealize.SL.Sem Idealize.SL.ProofMode
open Idealize.SL.RA
open Cert.KernelIdeal

variable {F : FTy → Type} [FloatOps F]

local notation "𝕄" => MT nD τ sig Unit (Elt F) ℕ (UR sig nD τ) ℕ

/-- The body's vector buffers: the eleven staged blocks and the eight scratch buffers. -/
inductive B : Type
  | xt | dy | dsc | keep | w | ws | mb | gmax | grow | dmin | dsum | dyb | wt | mw | mo | rs | mx | dn | ds
  deriving DecidableEq

instance : Fintype B :=
  ⟨{.xt, .dy, .dsc, .keep, .w, .ws, .mb, .gmax, .grow, .dmin, .dsum, .dyb, .wt, .mw, .mo, .rs, .mx, .dn, .ds}, by intro b; cases b <;> decide⟩

/-- A buffer's shape. -/
@[reducible] def B.sh : B → Shape
  | .xt => S3584x1536 | .dy => S1536x512 | .dsc => S1536x128 | .keep => S1536x128 | .w => S512x3584 | .ws => S1x32x128
  | .mb => S512x448 | .gmax => S16x112 | .grow => S512x112 | .dmin => S16x112 | .dsum => S16x112
  | .dyb => S1568x512 | .wt => S3584x128 | .mw => S448x128 | .mo => S4x448x128 | .rs => S112x512 | .mx => S112x512
  | .dn => S448x128 | .ds => S448x128

/-- A buffer's element type. -/
@[reducible] def B.el : B → EltTy
  | .xt => .bf16 | .dy => .fp8e5m2 | .dsc => .bf16 | .keep => .i8 | .w => .i8 | .ws => .f32
  | .mb => .i8 | .gmax => .f32 | .grow => .f32 | .dmin => .f32 | .dsum => .f32
  | .dyb => .bf16 | .wt => .i32 | .mw => .i32 | .mo => .i32 | .rs => .f32 | .mx => .f32
  | .dn => .f32 | .ds => .f32

/-- The buffers' places. -/
abbrev Mems : Type := (b : B) → Memref sig .tc .vmem b.sh b.el

/-- The buffers' contents. -/
abbrev State (F : FTy → Type) : Type := (b : B) → b.sh.Idx → Elt F b.el

/-- One buffer's contents replaced. -/
def put (s : State F) (b : B) (v : b.sh.Idx → Elt F b.el) : State F := Function.update s b v

@[simp] theorem put_self (s : State F) (b : B) (v : b.sh.Idx → Elt F b.el) : put s b v b = v := Function.update_self ..
theorem put_ne (s : State F) {b b' : B} (h : b' ≠ b) (v : b.sh.Idx → Elt F b.el) : put s b v b' = s b' := Function.update_of_ne h ..
@[simp] theorem put_put (s : State F) (b : B) (v w : b.sh.Idx → Elt F b.el) : put (put s b v) b w = put s b w := Function.update_idem ..
@[simp] theorem put_eq_self (s : State F) (b : B) : put s b (s b) = s := Function.update_eq_self ..
theorem put_comm (s : State F) {b b' : B} (h : b ≠ b') (v : b.sh.Idx → Elt F b.el) (w : b'.sh.Idx → Elt F b'.el) :
    put (put s b v) b' w = put (put s b' w) b v := Function.update_comm h ..

variable (defs : Defs nD τ sig (Elt F) Λ₀) (𝒱 : Variants) (c : Dev nD) (M : Mems)
variable (m1 m2 : Memref sig .tc .smem S48 .i32) (q1 q2 : PosShare TreeShare) (t1 t2 : S48.Idx → BitVec 32)

/-- The buffers at their contents, and the two tables. -/
def own (s : State F) : sProp 𝕄 :=
  iprop(bigSep Finset.univ (fun b : B => owns (c.tc : Thread nD τ) (M b) fullShare (s b))
    ∗ owns (Val := Elt F) (c.tc : Thread nD τ) m1 q1 t1 ∗ owns (Val := Elt F) (c.tc : Thread nD τ) m2 q2 t2)

/-- From `s` the program `p` ends with the answer `a` and the contents `s'`. -/
def Does {α : Type} (p : P F α) (s : State F) (a : α) (s' : State F) : Prop :=
  ∀ (Φ : α → sProp 𝕄) (K : sProp 𝕄), (iprop(own c M m1 m2 q1 q2 t1 t2 s' ∗ K) ⊢ Φ a) →
    iprop(own c M m1 m2 q1 q2 t1 t2 s ∗ K) ⊢ wp frame (wpE defs 𝒱 (c.tc : Thread nD τ) none) Set.univ p Φ

variable {defs 𝒱 c M m1 m2 q1 q2 t1 t2}

theorem does_ret {α : Type} (a : α) (s : State F) : Does defs 𝒱 c M m1 m2 q1 q2 t1 t2 (Prog.ret a) s a s := by
  intro Φ K h
  rw [wp_ret]
  exact h.trans (BI.fupd_intro ..)

theorem does_bind {α β : Type} {p : P F α} {k : α → P F β} {s s1 s2 : State F} {a : α} {b : β}
    (h1 : Does defs 𝒱 c M m1 m2 q1 q2 t1 t2 p s a s1) (h2 : Does defs 𝒱 c M m1 m2 q1 q2 t1 t2 (k a) s1 b s2) : Does defs 𝒱 c M m1 m2 q1 q2 t1 t2 (Prog.bind p k) s b s2 := by
  intro Φ K h
  have : Prog.bind p k = p >>= k := rfl
  rw [this, wp_bind]
  exact h1 _ K (h2 Φ K h)

theorem own_acc (s : State F) (b : B) : own c M m1 m2 q1 q2 t1 t2 s ⊢
    iprop(owns (c.tc : Thread nD τ) (M b) fullShare (s b)
      ∗ (∀ v, owns (c.tc : Thread nD τ) (M b) fullShare v -∗ own c M m1 m2 q1 q2 t1 t2 (put s b v))) := by
  unfold own
  have split : ∀ s : State F, bigSep Finset.univ (fun b : B => owns (c.tc : Thread nD τ) (M b) fullShare (s b))
      = (iprop(owns (c.tc : Thread nD τ) (M b) fullShare (s b)
        ∗ bigSep (Finset.univ.erase b) (fun b : B => owns (c.tc : Thread nD τ) (M b) fullShare (s b))) : sProp 𝕄) :=
    fun s => bigSep_univ_split b
  rw [split]
  iintro ⟨⟨H, R⟩, T⟩
  isplitl [H]; · iexact H
  iintro %v H
  rw [split, put_self, bigSep_congr (Φ := fun b' => owns (c.tc : Thread nD τ) (M b') fullShare (put s b v b'))
    (Ψ := fun b' => owns (c.tc : Thread nD τ) (M b') fullShare (s b'))
    (fun b' h => by rw [put_ne _ (Finset.ne_of_mem_erase h)])]
  isplitl [H R]
  · isplitl [H]; · iexact H
    iexact R
  · iexact T

theorem does_ld (s : State F) (b : B) (r : LoadRect b.sh) (h : 0 < r.shape.numel) :
    Does defs 𝒱 c M m1 m2 q1 q2 t1 t2 (ld (M b) r h) s (fun j => s b (r.idx j)) s := by
  intro Φ K hΦ
  unfold ld Prog.lift
  refine (sep_mono_left (own_acc s b)).trans ?_
  unfold owns
  iintro ⟨⟨⟨%f, %hf, H⟩, R⟩, K⟩
  iapply wp_load 𝒱 (c.tc : Thread nD τ) none Set.univ (S := (M b).view.set) (View.setOn_subset_set _ _) $$ H
  iintro H
  rw [wp_ret]
  iapply BI.fupd_intro
  have : (M b).view.readAt (Elt F) r f = fun j => s b (r.idx j) := by rw [← hf]; rfl
  rw [this]
  iapply hΦ
  isplitr [K]
  · ispecialize R $$ %(s b)
    rw [put_eq_self]
    iapply R
    iexists f
    isplitr; · ipureintro; exact hf
    iexact H
  · iexact K

/-- The contents a store through a rectangle leaves. -/
def over {sh : Shape} {A : Type} (r : Rect sh) (v : r.shape.Idx → A) (X : sh.Idx → A) : sh.Idx → A := Function.extend r.emb v X

theorem does_store (s : State F) (b : B) (r : Rect b.sh) (v : r.shape.Idx → Elt F b.el) {hx hm} :
    Does defs 𝒱 c M m1 m2 q1 q2 t1 t2 (Prog.lift (.store (M b) r v Finset.univ hx hm)) s ⟨⟩ (put s b (over r v (s b))) := by
  intro Φ K hΦ
  unfold Prog.lift
  refine (sep_mono_left (own_acc s b)).trans ?_
  unfold owns
  iintro ⟨⟨⟨%f, %hf, H⟩, R⟩, K⟩
  iapply wp_store 𝒱 (c.tc : Thread nD τ) none Set.univ (m := M b) (r := r) (w := v) (Mk := Finset.univ) (S := (M b).view.set) (f := f)
    ((View.setOn_subset_set _ _).trans (View.set_slice_subset _ _)) $$ H
  iintro H
  rw [wp_ret]
  iapply BI.fupd_intro
  iapply hΦ
  isplitr [K]
  · ispecialize R $$ %(over r v (s b))
    iapply R
    iexists _
    isplitr
    · ipureintro
      show (M b).view.read (Elt F) (((M b).view.slice r).write (Elt F) f v Finset.univ) = over r v (s b)
      funext i
      by_cases hi : ∃ x, r.emb x = i
      · obtain ⟨x, rfl⟩ := hi
        rw [over, r.emb.injective.extend_apply]
        exact View.read_slice_write_emb r f v (Finset.mem_univ x)
      · rw [over, Function.extend_apply' _ _ _ hi, ← hf]
        refine View.read_slice_write_of_not_mem r f v _ ?_
        simpa using hi
    · iexact H
  · iexact K

theorem does_st (s : State F) (b : B) (r : Rect b.sh) (h he) (v : r.shape.Idx → Elt F b.el) :
    Does defs 𝒱 c M m1 m2 q1 q2 t1 t2 (st (M b) r h he v) s ⟨⟩ (put s b (over r v (s b))) :=
  does_bind (does_ld s b r.toLoadRect h) (does_store s b r v)

theorem does_t1 (s : State F) (r : Rect S48) (h1 hp) :
    Does defs 𝒱 c M m1 m2 q1 q2 t1 t2 (smemLoad m1 r h1 hp) s (t1 (r.emb (Shape.Idx.first (h1.symm ▸ Nat.one_pos)))) s := by
  intro Φ K hΦ
  unfold smemLoad
  unfold own
  conv_lhs => unfold owns
  iintro ⟨⟨R, ⟨%f, %hf, H⟩, R2⟩, K⟩
  iapply wp_smemLoadElt 𝒱 (c.tc : Thread nD τ) none Set.univ (m := m1) (r := r) (S := m1.view.set) (q := q1) (f := f) (View.set_slice_subset _ _) $$ H
  iintro H
  rw [wp_ret]
  iapply BI.fupd_intro
  have : ((m1.access r).read (Elt F) f) (Shape.Idx.first (h1.symm ▸ Nat.one_pos)) = t1 (r.emb (Shape.Idx.first (h1.symm ▸ Nat.one_pos))) := by
    rw [← hf]; rfl
  rw [this]
  iapply hΦ
  unfold own owns
  isplitr [K]
  · isplitl [R]; · iexact R
    isplitl [H]
    · iexists f
      isplitr; · ipureintro; exact hf
      iexact H
    · iexact R2
  · iexact K

theorem does_t2 (s : State F) (r : Rect S48) (h1 hp) :
    Does defs 𝒱 c M m1 m2 q1 q2 t1 t2 (smemLoad m2 r h1 hp) s (t2 (r.emb (Shape.Idx.first (h1.symm ▸ Nat.one_pos)))) s := by
  intro Φ K hΦ
  unfold smemLoad
  unfold own
  conv_lhs => unfold owns
  iintro ⟨⟨R, R2, ⟨%f, %hf, H⟩⟩, K⟩
  iapply wp_smemLoadElt 𝒱 (c.tc : Thread nD τ) none Set.univ (m := m2) (r := r) (S := m2.view.set) (q := q2) (f := f) (View.set_slice_subset _ _) $$ H
  iintro H
  rw [wp_ret]
  iapply BI.fupd_intro
  have : ((m2.access r).read (Elt F) f) (Shape.Idx.first (h1.symm ▸ Nat.one_pos)) = t2 (r.emb (Shape.Idx.first (h1.symm ▸ Nat.one_pos))) := by
    rw [← hf]; rfl
  rw [this]
  iapply hΦ
  unfold own owns
  isplitr [K]
  · isplitl [R]; · iexact R
    isplitl [R2]; · iexact R2
    iexists f
    isplitr; · ipureintro; exact hf
    iexact H
  · iexact K

theorem does_assume (s : State F) {Q : Prop} {d : Decidable Q} (h : Q) :
    Does defs 𝒱 c M m1 m2 q1 q2 t1 t2 (Prog.lift (TpuEff.assume Q d)) s ⟨h⟩ s := by
  intro Φ K hΦ
  unfold Prog.lift
  refine .trans ?_ (wp_assume 𝒱 (c.tc : Thread nD τ) none Set.univ h)
  rw [wp_ret]
  exact hΦ.trans (BI.fupd_intro ..)

theorem does_loopFrom {σ : Type} (n : ℕ) (f : (i : ℕ) → i < n → σ → P F σ) (A : ℕ → σ) (S : ℕ → State F)
    (h : ∀ i (hi : i < n), Does defs 𝒱 c M m1 m2 q1 q2 t1 t2 (f i hi (A i)) (S i) (A (i + 1)) (S (i + 1))) :
    ∀ k i (hk : i + k = n), Does defs 𝒱 c M m1 m2 q1 q2 t1 t2 (loopFrom n f k i hk (A i)) (S i) (A n) (S n) := by
  intro k
  induction k with
  | zero => intro i hk; obtain rfl : i = n := by omega
            exact does_ret _ _
  | succ k ih => intro i hk; exact does_bind (h i (by omega)) (ih (i + 1) (by omega))

/-- A counted loop whose rounds lead from `A i`, `S i` to `A (i + 1)`, `S (i + 1)`. -/
theorem does_loop {σ : Type} (n : ℕ) (f : (i : ℕ) → i < n → σ → P F σ) (A : ℕ → σ) (S : ℕ → State F)
    (h : ∀ i (hi : i < n), Does defs 𝒱 c M m1 m2 q1 q2 t1 t2 (f i hi (A i)) (S i) (A (i + 1)) (S (i + 1))) :
    Does defs 𝒱 c M m1 m2 q1 q2 t1 t2 (loop n f (A 0)) (S 0) (A n) (S n) := does_loopFrom n f A S h n 0 (by omega)

/-- What a store through a unit rectangle leaves at an index. -/
theorem over_unit {sh : Shape} {A : Type} (off size : Fin sh.rank → ℕ) (inb) (v : (Rect.unit (s := sh) off size inb).shape.Idx → A)
    (X : sh.Idx → A) (i : sh.Idx) :
    over (Rect.unit (s := sh) off size inb) v X i
      = if h : ∀ a, off a ≤ (i a).val ∧ (i a).val < off a + size a then
          v (fun a => ⟨(i a).val - off a, by have := h a; show _ < size a; omega⟩)
        else X i := by
  unfold over
  split
  · next h =>
    have : i = (Rect.unit (s := sh) off size inb).emb (fun a => ⟨(i a).val - off a, by have := h a; show _ < size a; omega⟩) := by
      funext a
      apply Fin.ext
      rw [Rect.emb_apply]
      have := h a
      show (i a).val = off a + 1 * ((i a).val - off a)
      omega
    conv_lhs => rw [this]
    exact (Rect.unit (s := sh) off size inb).emb.injective.extend_apply _ _ _
  · next h =>
    refine Function.extend_apply' _ _ _ ?_
    rintro ⟨x, rfl⟩
    refine h fun a => ?_
    rw [Rect.emb_apply]
    have := (x a).isLt
    show off a ≤ off a + 1 * (x a).val ∧ off a + 1 * (x a).val < off a + size a
    have h2 : (x a).val < size a := (x a).isLt
    omega

end Cert.KernelIdeal.Body
-- ==== Proof.Contents.lean ====
/- The contents of the body's buffers, each as a function of the blocks the grid point holds, and the small facts about
   indices that the steps need. -/
module

public import proofs.«01_k».proof.Proof.Rules
public import Idealize.ShloMosaic.Lib.ValueLayout
public import Idealize.ShloMosaic.Lib.BitcastFour

@[expose] public section

noncomputable section

namespace Cert.KernelIdeal.Body

open Idealize.ShloMosaic Idealize.ShloMosaic.ValueIdx
open Cert.KernelIdeal

variable {F : FTy → Type} [FloatOps F]

/-! ## Reading at natural coordinates -/

/-- A matrix at natural coordinates (taken modulo its extents). -/
def at2 {a b : ℕ} [NeZero a] [NeZero b] {α : Type} (X : (⟨2, ![a, b]⟩ : Shape).Idx → α) (r c : ℕ) : α :=
  X (ix2 (Fin.ofNat a r) (Fin.ofNat b c))

theorem at2_eq {a b : ℕ} [NeZero a] [NeZero b] {α : Type} (X : (⟨2, ![a, b]⟩ : Shape).Idx → α) {r c : ℕ}
    (i : (⟨2, ![a, b]⟩ : Shape).Idx) (h0 : (i 0).val = r) (h1 : (i 1).val = c) : at2 X r c = X i := by
  unfold at2
  congr 1
  have l0 : r < a := h0 ▸ (i 0).isLt
  have l1 : c < b := h1 ▸ (i 1).isLt
  refine Shape.idx_ext₂ ?_ ?_
  · show r % a = _
    rw [Nat.mod_eq_of_lt l0, h0]
  · show c % b = _
    rw [Nat.mod_eq_of_lt l1, h1]

theorem at2_ix {a b : ℕ} [NeZero a] [NeZero b] {α : Type} (X : (⟨2, ![a, b]⟩ : Shape).Idx → α) (r : Fin a) (c : Fin b) :
    at2 X r.val c.val = X (ix2 r c) := at2_eq X _ rfl rfl

/-- A transposed matrix at an index. -/
theorem transpose_at {a b : ℕ} {α : Type} (x : (⟨2, ![a, b]⟩ : Shape).Idx → α)
    (h : (⟨2, ![a, b]⟩ : Shape).Transposes [1, 0] ⟨2, ![b, a]⟩) (j : (⟨2, ![b, a]⟩ : Shape).Idx) :
    transpose ⟨2, ![b, a]⟩ [1, 0] x h j = x (ix2 (j 1) (j 0)) := by
  conv_lhs => rw [eq_ix2 j]
  exact transpose_ix2_apply x h (j 0) (j 1)

/-- Four bytes as a word, the first the lowest. -/
def word4 (b : ℕ → BitVec 8) : BitVec 32 :=
  (b 0).setWidth 32 ||| ((b 1).setWidth 32 <<< 8) ||| ((b 2).setWidth 32 <<< 16) ||| ((b 3).setWidth 32 <<< 24)

theorem word4_getLsbD (b : ℕ → BitVec 8) (q : ℕ) (hq : q < 32) : (word4 b).getLsbD q = (b (q / 8)).getLsbD (q % 8) :=
  four_bytes_getLsbD (fun i => b i.val) q hq

theorem word4_congr {b b' : ℕ → BitVec 8} (h : ∀ u, u < 4 → b u = b' u) : word4 b = word4 b' := by
  unfold word4
  rw [h 0 (by omega), h 1 (by omega), h 2 (by omega), h 3 (by omega)]

/-- Bytes read as words: four rows of a column to a word. -/
theorem bitcast_word4 {R r n : ℕ} [NeZero R] [NeZero n] (x : (⟨2, ![R, n]⟩ : Shape).Idx → BitVec 8)
    (h : (⟨2, ![R, n]⟩ : Shape).Bitcasts 8 ⟨2, ![r, n]⟩ 32) (hR : R = 4 * r) (j : (⟨2, ![r, n]⟩ : Shape).Idx) :
    bitcast ⟨2, ![r, n]⟩ 32 x h j = word4 fun u => at2 x (4 * (j 0).val + u) (j 1).val := by
  apply BitVec.eq_of_getLsbD_eq
  intro q hq
  obtain ⟨r', c', rfl⟩ : ∃ (r' : Fin r) (c' : Fin n), j = ix2 r' c' := ⟨j 0, j 1, eq_ix2 j⟩
  have h0 : r'.val < r := r'.isLt
  rw [word4_getLsbD _ q hq, bitcast_8_32_getLsbD_ix2 x h r' c' q hq ⟨4 * r'.val + q / 8, by omega⟩ rfl]
  congr 1
  exact (at2_eq x _ rfl rfl).symm

/-- A store over the whole of a buffer. -/
theorem over_all {sh : Shape} {A : Type} (off : Fin sh.rank → ℕ) (inb) (h0 : ∀ a, off a = 0)
    (v : sh.Idx → A) (X : sh.Idx → A) : over (Rect.unit (s := sh) off sh.size inb) v X = v := by
  funext i
  rw [over_unit, dif_pos (fun a => by rw [h0 a]; exact ⟨Nat.zero_le _, by have := (i a).isLt; omega⟩)]
  exact congrArg v (funext fun a => Fin.ext (by show (i a).val - off a = (i a).val; rw [h0 a]; rfl))

/-- A store through a unit rectangle of a matrix. -/
theorem over2 {d0 d1 o0 o1 s0 s1 : ℕ} [NeZero s0] [NeZero s1] {A : Type} (inb)
    (v : (⟨2, ![s0, s1]⟩ : Shape).Idx → A) (X : (⟨2, ![d0, d1]⟩ : Shape).Idx → A) (i : (⟨2, ![d0, d1]⟩ : Shape).Idx) :
    over (Rect.unit (s := ⟨2, ![d0, d1]⟩) ![o0, o1] ![s0, s1] inb) v X i
      = if o0 ≤ (i 0).val ∧ (i 0).val < o0 + s0 ∧ o1 ≤ (i 1).val ∧ (i 1).val < o1 + s1
        then at2 v ((i 0).val - o0) ((i 1).val - o1) else X i := by
  rw [over_unit]
  by_cases h : o0 ≤ (i 0).val ∧ (i 0).val < o0 + s0 ∧ o1 ≤ (i 1).val ∧ (i 1).val < o1 + s1
  · rw [if_pos h, dif_pos (Fin.forall_fin_two.2 ⟨⟨h.1, h.2.1⟩, h.2.2⟩)]
    exact (at2_eq v _ rfl rfl).symm
  · rw [if_neg h, dif_neg]
    intro h'
    exact h ⟨(h' 0).1, (h' 0).2, (h' 1).1, (h' 1).2⟩

/-! ## The packed gradients -/

/-- The masked, scaled gradient of token row `r`, column `c` of the block. -/
def val (dy : S1536x512.Idx → F .fp8e5m2) (dsc : S1536x128.Idx → F .bf16) (keep : S1536x128.Idx → BitVec 8) (r c : ℕ) : F .bf16 :=
  FloatOps.mulf (Scalar.select (IntOp.cmpi .ne (at2 keep r (c % 128)) 0#8) (FloatOps.extf .bf16 (by decide) (at2 dy r c))
    (Scalar.sitofp .bf16 0#32)) (at2 dsc r (c % 128))

/-- The packed gradients after `g` granules, over `D`. -/
def pk (t1 t2 : S48.Idx → BitVec 32) (V : ℕ → ℕ → F .bf16) (D : S1568x512.Idx → F .bf16) : ℕ → S1568x512.Idx → F .bf16
  | 0 => D
  | g + 1 => fun i =>
    if (t2 (ix1 (Fin.ofNat 48 g))).toNat ≤ (i 0).val ∧ (i 0).val < (t2 (ix1 (Fin.ofNat 48 g))).toNat + 32
    then V ((t1 (ix1 (Fin.ofNat 48 g))).toNat + ((i 0).val - (t2 (ix1 (Fin.ofNat 48 g))).toNat)) (i 1).val
    else pk t1 t2 V D g i

/-! ## Weights and mask transposed -/

/-- The weight words: column `i 0`, rows `4 · i 1 …`. -/
def wtv (w : S512x3584.Idx → BitVec 8) : S3584x128.Idx → BitVec 32 := fun i => word4 fun u => at2 w (4 * (i 1).val + u) (i 0).val
/-- The mask words likewise. -/
def mwv (mb : S512x448.Idx → BitVec 8) : S448x128.Idx → BitVec 32 := fun i => word4 fun u => at2 mb (4 * (i 1).val + u) (i 0).val
/-- The mask bytes, 128 rows of the block at a time. -/
def mov (mb : S512x448.Idx → BitVec 8) : S4x448x128.Idx → BitVec 32 := fun i => (at2 mb (128 * (i 0).val + (i 2).val) (i 1).val).setWidth 32

/-! ## The gradient scores -/

/-- 256 channels' gradients. -/
def gd (x : S3584x1536.Idx → F .bf16) (d : S1568x512.Idx → F .bf16) (ib : ℕ) : FVec F S256x512 .f32 :=
  matmul dot_S256x1536_S1536x512_S256x512_1_0_0_1_n_n none (fun j => at2 x (256 * ib + (j 0).val) (j 1).val : FVec F S256x1536 .bf16)
    (fun j => at2 d (j 0).val (j 1).val : FVec F S1536x512 .bf16) (constant S256x512 .f32 0x00000000#32)

/-- The score of channel `t` of channel block `c` in the block's row `o`. -/
def scr (x : S3584x1536.Idx → F .bf16) (d : S1568x512.Idx → F .bf16) (mb : S512x448.Idx → BitVec 8) (c o t : ℕ) : F .f32 :=
  Scalar.select (IntOp.cmpi .slt (IntOp.shli .vector ((at2 mb o (4 * c + t / 8)).setWidth 32) (BitVec.ofNat 32 (31 - t % 8))) 0#32)
    (Scalar.ofBits .f32 0x00000000#32 : F .f32) (FloatOps.absf (at2 (gd x d (c / 8)) (8 * t + c % 8) o))

/-- `n` values combined from the left. -/
def foldn {A : Type} (op : A → A → A) (z : A) (f : ℕ → A) : ℕ → A
  | 0 => z
  | n + 1 => op (foldn op z f n) (f n)

/-- The sums of the scores of channel block `i 0` in row `i 1`. -/
def rsv (x : S3584x1536.Idx → F .bf16) (d : S1568x512.Idx → F .bf16) (mb : S512x448.Idx → BitVec 8) : S112x512.Idx → F .f32 :=
  fun i => foldn FloatOps.addf (Scalar.ofBits .f32 0x00000000#32) (scr x d mb (i 0).val (i 1).val) 32
/-- The largest of them. -/
def mxv (x : S3584x1536.Idx → F .bf16) (d : S1568x512.Idx → F .bf16) (mb : S512x448.Idx → BitVec 8) : S112x512.Idx → F .f32 :=
  fun i => foldn FloatOps.maximumf (Scalar.ofBits .f32 0x00000000#32) (scr x d mb (i 0).val (i 1).val) 32

/-! ## The weight scores -/

/-- The sum and the largest complement of eight channel blocks after `t` channels. -/
def dropv (w : S512x3584.Idx → BitVec 8) (mb : S512x448.Idx → BitVec 8) (ib : ℕ) : ℕ → FVec F S32x128 .f32 × IVec S32x128 8
  | 0 => (broadcast S32x128 (Scalar.ofBits .f32 0x00000000#32 : F .f32), broadcast S32x128 0#8)
  | t + 1 => dropStep (fun j => at2 (mwv mb) (32 * ib + t / 8 + 4 * (j 0).val) (j 1).val)
      (fun j => at2 (wtv w) (256 * ib + t + 32 * (j 0).val) (j 1).val) t (dropv w mb ib t)

/-- The smallest magnitudes of eight channel blocks. -/
def dnc (w : S512x3584.Idx → BitVec 8) (mb : S512x448.Idx → BitVec 8) (ws : S1x32x128.Idx → F .f32) (ib : ℕ) : FVec F S32x128 .f32 :=
  dropMin (dropv (F := F) w mb ib 32).2 (fun j => ws (ix3 (0 : Fin 1) (j 0) (j 1)))
/-- The sums of their magnitudes. -/
def dsc (w : S512x3584.Idx → BitVec 8) (mb : S512x448.Idx → BitVec 8) (ws : S1x32x128.Idx → F .f32) (ib : ℕ) : FVec F S32x128 .f32 :=
  mulf (dropv w mb ib 32).1 (fun j => ws (ix3 (0 : Fin 1) (j 0) (j 1)))

def dnv (w : S512x3584.Idx → BitVec 8) (mb : S512x448.Idx → BitVec 8) (ws : S1x32x128.Idx → F .f32) : S448x128.Idx → F .f32 :=
  fun i => at2 (dnc w mb ws ((i 0).val / 32)) ((i 0).val % 32) (i 1).val
def dsv (w : S512x3584.Idx → BitVec 8) (mb : S512x448.Idx → BitVec 8) (ws : S1x32x128.Idx → F .f32) : S448x128.Idx → F .f32 :=
  fun i => at2 (dsc w mb ws ((i 0).val / 32)) ((i 0).val % 32) (i 1).val

/-! ## The results -/

def outGrowv (rs : S112x512.Idx → F .f32) : S512x112.Idx → F .f32 := fun j => rs (ix2 (j 1) (j 0))

def outGmaxv (mx : S112x512.Idx → F .f32) : S16x112.Idx → F .f32 :=
  multiReduction .maximumf [1] S16x112 (shapeCast S16x32x112 (transpose S512x112 [1, 0] (mx : FVec F S112x512 .f32)
      Gen.transposes_S112x512_p1_0_S512x112) Gen.shapeCasts_S512x112_S16x32x112)
      0xFF800000#32 Gen.reduces_S16x32x112_S16x112 (.inl rfl) rfl

/-- Rows `q, q + 4, …` of a weight score buffer. -/
def sub4 (X : S448x128.Idx → F .f32) (q : ℕ) : FVec F S112x128 .f32 := fun j => at2 X (q + 4 * (j 0).val) (j 1).val

def outDminv (dn : S448x128.Idx → F .f32) : S16x112.Idx → F .f32 :=
  let mn : FVec F S16x112 .f32 := multiReduction .minimumf [1] S16x112 (shapeCast S16x8x112 (transpose S128x112 [1, 0]
    (minimumf (minimumf (minimumf (sub4 dn 0) (sub4 dn 1)) (sub4 dn 2)) (sub4 dn 3)) Gen.transposes_S112x128_p1_0_S128x112)
    Gen.shapeCasts_S128x112_S16x8x112) 0x7F800000#32 Gen.reduces_S16x8x112_S16x112 (.inl rfl) rfl
  select (cmpf .oeq mn (broadcast S16x112 (Scalar.ofBits .f32 0x7F800000#32 : F .f32))) (broadcast S16x112 (Scalar.ofBits .f32 0x00000000#32 : F .f32)) mn

def outDsumv (ds : S448x128.Idx → F .f32) : S16x112.Idx → F .f32 :=
  multiReduction .add [1] S16x112 (shapeCast S16x8x112 (transpose S128x112 [1, 0]
      (addf (addf (addf (sub4 ds 0) (sub4 ds 1)) (sub4 ds 2)) (sub4 ds 3)) Gen.transposes_S112x128_p1_0_S128x112)
      Gen.shapeCasts_S128x112_S16x8x112) 0x00000000#32 Gen.reduces_S16x8x112_S16x112 (.inl rfl) rfl

end Cert.KernelIdeal.Body
-- ==== Proof.Spec.lean ====
/- The values both programs compute, over the extended reals: each a function of the arguments at natural coordinates. -/
module

public import proofs.«01_k».proof.Proof.Contents
public import Idealize.ShloMosaic.PureOps.Ideal.Laws
public import Idealize.ShloMosaic.Lib.WordCmp

@[expose] public section

noncomputable section

namespace Cert.Spec

open Idealize.ShloMosaic
open Cert.KernelIdeal.Body (at2)

/-- A matrix of the given extents. -/
abbrev Mat (a b : ℕ) (α : Type) : Type := (⟨2, ![a, b]⟩ : Shape).Idx → α

/-- The masked, scaled output gradient of token `q` in column `r`. -/
def ds (dy : Mat 1536 18944 EReal) (sc : Mat 1536 128 EReal) (keep : Mat 1536 128 (BitVec 8)) (q r : ℕ) : EReal :=
  (if at2 keep q (r % 128) = 0#8 then 0 else at2 dy q r) * at2 sc q (r % 128)

/-- Row `k` of a packed column: what the last of the first `n` granules over it put there, zero where there is none. -/
def row (s d : ℕ → ℕ) (V : ℕ → EReal) (k : ℕ) : ℕ → EReal
  | 0 => 0
  | n + 1 => if d n ≤ k ∧ k < d n + 32 then V (s n + (k - d n)) else row s d V k n

/-- Where granule `g` of a table stands. -/
def tab (t : (⟨1, ![48]⟩ : Shape).Idx → BitVec 32) (g : ℕ) : ℕ := (t (ValueIdx.ix1 (Fin.ofNat 48 g))).toNat

/-- The weight gradient at channel row `i`, column `r`. -/
def grad (x : Mat 3584 1536 EReal) (s d : ℕ → ℕ) (V : ℕ → ℕ → EReal) (i r : ℕ) : EReal :=
  ∑ k : Fin 1536, at2 x i k.val * row s d (fun q => V q r) k.val 48

/-- Whether channel `t` of channel block `c` of weight row `r` is active. -/
def act (mb : Mat 18944 448 (BitVec 8)) (r c t : ℕ) : Bool := (at2 mb r (4 * c + t / 8)).getLsbD (t % 8)

/-- The score of that channel: its gradient's magnitude, zero where it is active. -/
def score (mb : Mat 18944 448 (BitVec 8)) (G : ℕ → ℕ → EReal) (r c t : ℕ) : EReal :=
  if act mb r c t = true then 0 else max (G (256 * (c / 8) + 8 * t + c % 8) r) (-G (256 * (c / 8) + 8 * t + c % 8) r)

theorem abs_nonneg (x : EReal) : 0 ≤ max x (-x) := by
  rcases le_total 0 x with h | h
  · exact le_max_of_le_left h
  · exact le_max_of_le_right (by simpa using EReal.neg_le_neg_iff.2 h)

theorem score_nonneg (mb : Mat 18944 448 (BitVec 8)) (G : ℕ → ℕ → EReal) (r c t : ℕ) : 0 ≤ score mb G r c t := by
  unfold score
  split_ifs
  · exact le_rfl
  · exact abs_nonneg _

/-- The sum of a channel block's scores in one row. -/
def growSum (mb : Mat 18944 448 (BitVec 8)) (G : ℕ → ℕ → EReal) (r c : ℕ) : EReal := ∑ t : Fin 32, score mb G r c t.val

/-- The largest score of a block of 32 rows by 32 channels. -/
def growMax (mb : Mat 18944 448 (BitVec 8)) (G : ℕ → ℕ → EReal) (R c : ℕ) : EReal :=
  (Finset.univ : Finset (Fin 32 × Fin 32)).sup fun p => score mb G (32 * R + p.1.val) c p.2.val

/-- The magnitude of a weight's code. -/
def mag (b : BitVec 8) : EReal := max (FloatOps.ofBits (F := Ideal) .fp8e4m3 b) (-(FloatOps.ofBits (F := Ideal) .fp8e4m3 b))

/-- The scale of weight row `r` in channel block `c`. -/
def scale (ws : (⟨3, ![37, 32, 128]⟩ : Shape).Idx → EReal) (r c : ℕ) : EReal :=
  ws (ValueIdx.ix3 (Fin.ofNat 37 (r / 512)) (Fin.ofNat 32 (4 * (c % 8) + r % 4)) (Fin.ofNat 128 (r % 512 / 4)))

/-- The scaled magnitude of channel `t` of channel block `c` in row `r`. -/
def wmag (w : Mat 18944 3584 (BitVec 8)) (ws : (⟨3, ![37, 32, 128]⟩ : Shape).Idx → EReal) (r c t : ℕ) : EReal :=
  mag (at2 w r (32 * c + t)) * scale ws r c

/-- The sum of the scaled magnitudes of the active weights of a block of 32 rows by 32 channels. -/
def dropSum (mb : Mat 18944 448 (BitVec 8)) (w : Mat 18944 3584 (BitVec 8)) (ws : (⟨3, ![37, 32, 128]⟩ : Shape).Idx → EReal) (R c : ℕ) : EReal :=
  ∑ p : Fin 32, ∑ t : Fin 32, if act mb (32 * R + p.val) c t.val = true then wmag w ws (32 * R + p.val) c t.val else 0

/-- The smallest of them, infinite where no weight is active. -/
def dropInf (mb : Mat 18944 448 (BitVec 8)) (w : Mat 18944 3584 (BitVec 8)) (ws : (⟨3, ![37, 32, 128]⟩ : Shape).Idx → EReal) (R c : ℕ) : EReal :=
  (Finset.univ : Finset (Fin 32 × Fin 32)).inf fun p => if act mb (32 * R + p.1.val) c p.2.val = true then wmag w ws (32 * R + p.1.val) c p.2.val else ⊤

end Cert.Spec
-- ==== Proof.RefRows.lean ====
/- The reference's rows of packed gradients, over the extended reals: the last granule over a row gives it its token. -/
module

public import proofs.«01_k».proof.Proof.Spec
public import proofs.«01_k».proof.Proof.Gen.ReferenceIdeal.Read
public import Idealize.ShloMosaic.Lib.Pointwise.Reduce

@[expose] public section

noncomputable section

namespace Cert.ReferenceIdeal.Read

open Idealize.ShloMosaic
open Cert.ReferenceIdeal Cert.ReferenceIdeal.Gen
open Cert.KernelIdeal.Body (at2 at2_eq)
open Cert.Spec (Mat tab row)

/-! ## The last granule over a row -/

/-- The last of the first `n` granules over row `k`, `-1` where there is none. -/
def lst (d : ℕ → ℕ) (k : ℕ) : ℕ → ℤ
  | 0 => -1
  | n + 1 => if d n ≤ k ∧ k < d n + 32 then (n : ℤ) else lst d k n

theorem lst_le_iff (d : ℕ → ℕ) (k n : ℕ) (z : ℤ) :
    lst d k n ≤ z ↔ -1 ≤ z ∧ ∀ g < n, (if d g ≤ k ∧ k < d g + 32 then (g : ℤ) else -1) ≤ z := by
  induction n with
  | zero => simp [lst]
  | succ n ih =>
    unfold lst
    constructor
    · intro h
      split_ifs at h with hc
      · refine ⟨by omega, fun g hg => ?_⟩
        split_ifs <;> omega
      · obtain ⟨h1, h2⟩ := ih.1 h
        refine ⟨h1, fun g hg => ?_⟩
        rcases Nat.lt_succ_iff_lt_or_eq.1 hg with hg | rfl
        · exact h2 g hg
        · rw [if_neg hc]; exact h1
    · rintro ⟨h1, h2⟩
      split_ifs with hc
      · simpa [hc] using h2 n (Nat.lt_succ_self n)
      · exact ih.2 ⟨h1, fun g hg => h2 g (by omega)⟩

/-- A row is that of the last granule over it. -/
theorem row_eq (s d : ℕ → ℕ) (V : ℕ → EReal) (k n : ℕ) :
    (lst d k n = -1 ∧ row s d V k n = 0)
      ∨ ∃ g < n, lst d k n = g ∧ d g ≤ k ∧ k < d g + 32 ∧ row s d V k n = V (s g + (k - d g)) := by
  induction n with
  | zero => exact .inl ⟨rfl, rfl⟩
  | succ n ih =>
    unfold lst row
    by_cases hc : d n ≤ k ∧ k < d n + 32
    · rw [if_pos hc, if_pos hc]
      exact .inr ⟨n, Nat.lt_succ_self n, rfl, hc.1, hc.2, rfl⟩
    · rw [if_neg hc, if_neg hc]
      rcases ih with h | ⟨g, hg, h⟩
      · exact .inl h
      · exact .inr ⟨g, by omega, h⟩

/-! ## Words -/

theorem toInt_sub (k d : ℕ) (x : BitVec 32) (hx : x.toNat = d) (hd : d ≤ 1536) (hk : k < 1536) :
    (BitVec.ofNat 32 k - x).toInt = (k : ℤ) - d := by
  rw [BitVec.toInt_sub]
  have h1 : (BitVec.ofNat 32 k).toInt = k := by
    rw [BitVec.toInt_eq_toNat_cond, BitVec.toNat_ofNat, Nat.mod_eq_of_lt (by omega)]; rw [if_pos (by omega)]
  have h2 : x.toInt = d := by rw [BitVec.toInt_eq_toNat_cond, hx, if_pos (by omega)]
  rw [h1, h2]
  exact Int.bmod_eq_of_le (by omega) (by omega)

/-- Whether a row lies in a granule, as the reference asks it. -/
theorem cover_word (k d : ℕ) (x : BitVec 32) (hx : x.toNat = d) (hd : d ≤ 1536) (hk : k < 1536) :
    IntOp.andi (IntOp.cmpi .sge (BitVec.ofNat 32 k - x) 0#32) (IntOp.cmpi .slt (BitVec.ofNat 32 k - x) 32#32)
      = BitVec.ofBool (decide (d ≤ k ∧ k < d + 32)) := by
  have e := toInt_sub k d x hx hd hk
  have a : IntOp.cmpi .sge (BitVec.ofNat 32 k - x) 0#32 = BitVec.ofBool (decide (d ≤ k)) := by
    show BitVec.ofBool (BitVec.sle 0#32 (BitVec.ofNat 32 k - x)) = _
    congr 1
    rw [BitVec.sle, e]
    exact decide_eq_decide.2 (by show (0 : ℤ) ≤ _ ↔ _; omega)
  have b : IntOp.cmpi .slt (BitVec.ofNat 32 k - x) 32#32 = BitVec.ofBool (decide (k < d + 32)) := by
    show BitVec.ofBool (BitVec.slt (BitVec.ofNat 32 k - x) 32#32) = _
    congr 1
    rw [BitVec.slt, e]
    exact decide_eq_decide.2 (by show _ < (32 : ℤ) ↔ _; omega)
  rw [a, b, Bool.decide_and]
  cases decide (d ≤ k) <;> cases decide (k < d + 32) <;> rfl

theorem select_ofBool {α : Type} (b : Bool) (x y : α) : Scalar.select (BitVec.ofBool b) x y = if b = true then x else y := by
  cases b <;> rfl

/-- A signed maximum over a range. -/
theorem fold_maxsi_le {ι : Type} [DecidableEq ι] (S : Finset ι) (b : BitVec 32) (f : ι → BitVec 32) (z : ℤ) :
    (S.fold IntOp.maxsi b f).toInt ≤ z ↔ b.toInt ≤ z ∧ ∀ g ∈ S, (f g).toInt ≤ z := by
  induction S using Finset.induction_on with
  | empty => simp
  | insert a S ha ih =>
    rw [Finset.fold_insert ha]
    have key : ∀ x y : BitVec 32, (IntOp.maxsi x y).toInt ≤ z ↔ x.toInt ≤ z ∧ y.toInt ≤ z := by
      intro x y
      unfold IntOp.maxsi
      rw [BitVec.slt]
      by_cases h : y.toInt < x.toInt <;> simp only [h, decide_true, decide_false, if_true, if_false, Bool.false_eq_true] <;> omega
    rw [key, ih]
    simp only [Finset.mem_insert, forall_eq_or_imp]
    tauto

/-- A sum with one term. -/
theorem fold_addi_single {ι : Type} [Fintype ι] [DecidableEq ι] (L : ι) (f : ι → BitVec 32) (h : ∀ g, g ≠ L → f g = 0#32) :
    (Finset.univ : Finset ι).fold IntOp.addi 0#32 f = f L := by
  have z : ∀ S : Finset ι, L ∉ S → S.fold IntOp.addi 0#32 f = 0#32 := by
    intro S
    induction S using Finset.induction_on with
    | empty => intro _; rfl
    | insert a S ha ih =>
      intro hL
      rw [Finset.mem_insert, not_or] at hL
      rw [Finset.fold_insert ha, ih hL.2, h a (Ne.symm hL.1)]
      rfl
  rw [← Finset.insert_erase (Finset.mem_univ L), Finset.fold_insert (Finset.notMem_erase L _), z _ (Finset.notMem_erase L _)]
  exact BitVec.add_zero _

/-! ## The reference's tables -/

theorem idx1_ext {n : ℕ} (j : (⟨1, ![n]⟩ : Shape).Idx) (k : Fin n) (h : (j 0).val = k.val) : j = ValueIdx.ix1 k := by
  funext a
  match a with
  | ⟨0, _⟩ => exact Fin.ext h

variable (x0 x1 : S48.Idx → BitVec 32)

theorem v16_at (i : S1536x48.Idx) : val_main_v16 (F := Ideal) x1 i = BitVec.ofNat 32 (i 0).val - x1 (ValueIdx.ix1 (i 1)) := by
  show IntOp.subi (val_main_v14 (F := Ideal) i) (val_main_v15 (F := Ideal) x1 i) = _
  rw [val_main_v14_apply, val_main_v12_apply, val_main_v11_apply, val_main_v15_apply, val_main_v13_apply]
  refine congrArg₂ (fun a b : BitVec 32 => a - b) rfl (congrArg x1 ?_)
  funext a
  match a with
  | ⟨0, _⟩ => rfl

theorem tab_fin (t : S48.Idx → BitVec 32) (g : Fin 48) : tab t g.val = (t (ValueIdx.ix1 g)).toNat := by
  unfold tab
  rw [show Fin.ofNat 48 g.val = g from Fin.ext (Nat.mod_eq_of_lt g.isLt)]

variable {x0 x1}

theorem v24_toInt (hd : ∀ g : Fin 48, (x1 (ValueIdx.ix1 g)).toNat ≤ 1536) (k : Fin 1536) (g : Fin 48) :
    (val_main_v24 (F := Ideal) x1 (ValueIdx.ix2 k g)).toInt
      = if tab x1 g.val ≤ k.val ∧ k.val < tab x1 g.val + 32 then (g.val : ℤ) else -1 := by
  rw [val_main_v24_apply, val_main_v21_apply, val_main_v18_apply, val_main_v20_apply, v16_at, val_main_v17_apply, val_main_v19_apply,
    val_main_c_1_apply, val_main_c_2_apply, val_main_call1_v1_apply, val_main_v23_apply, val_main_v22_apply, val_main_call1_v2_apply,
    tab_fin]
  show (Scalar.select (IntOp.andi (IntOp.cmpi .sge (BitVec.ofNat 32 k.val - x1 (ValueIdx.ix1 g)) 0#32) (IntOp.cmpi .slt (BitVec.ofNat 32 k.val - x1 (ValueIdx.ix1 g)) 32#32))
    (BitVec.ofNat 32 g.val) 4294967295#32).toInt = _
  rw [cover_word k.val _ (x1 (ValueIdx.ix1 g)) rfl (hd g) k.isLt, select_ofBool]
  simp only [decide_eq_true_eq]
  split_ifs
  · have := g.isLt
    rw [BitVec.toInt_eq_toNat_cond, BitVec.toNat_ofNat, Nat.mod_eq_of_lt (by omega), if_pos (by omega)]
  · decide

/-- The last granule over row `k`, as the reference finds it. -/
theorem v25_toInt (hd : ∀ g : Fin 48, (x1 (ValueIdx.ix1 g)).toNat ≤ 1536) (k : Fin 1536) :
    (val_main_v25 (F := Ideal) x1 (ValueIdx.ix1 k)).toInt = lst (tab x1) k.val 48 := by
  refine eq_of_forall_ge_iff fun z => ?_
  unfold val_main_v25
  rw [Host.reduce_eq_fold, Shape.ReducesTo.fold_fiber_r2_a1]
  refine (fold_maxsi_le _ _ _ z).trans ?_
  rw [lst_le_iff]
  have hb : (val_main_c_4 (F := Ideal) (Shape.Idx.first h_S_)).toInt = -2147483648 := by rw [val_main_c_4_apply]; decide
  rw [hb]
  have key : ∀ g : Fin 48, (val_main_v24 (F := Ideal) x1 (ValueIdx.ix2 k g)).toInt ≤ z
      ↔ (if tab x1 g.val ≤ k.val ∧ k.val < tab x1 g.val + 32 then (g.val : ℤ) else -1) ≤ z := fun g => by rw [v24_toInt hd]
  constructor
  · rintro ⟨_, h⟩
    have h' : ∀ g : Fin 48, _ := fun g => (key g).1 (h g (Finset.mem_univ g))
    refine ⟨?_, fun g hg => h' ⟨g, hg⟩⟩
    have := h' 0
    split_ifs at this <;> omega
  · rintro ⟨h1, h⟩
    exact ⟨by omega, fun g _ => (key g).2 (h g.val g.isLt)⟩

/-- The token of a row some granule is over. -/
theorem v36_at {k : Fin 1536} {L : Fin 48} (hL : val_main_v25 (F := Ideal) x1 (ValueIdx.ix1 k) = BitVec.ofNat 32 L.val) :
    val_main_v36 (F := Ideal) x0 x1 (ValueIdx.ix1 k) = x0 (ValueIdx.ix1 L) + (BitVec.ofNat 32 k.val - x1 (ValueIdx.ix1 L)) := by
  have key : ∀ g : Fin 48, val_main_v35 (F := Ideal) x0 x1 (ValueIdx.ix2 k g)
      = if g = L then x0 (ValueIdx.ix1 g) + (BitVec.ofNat 32 k.val - x1 (ValueIdx.ix1 g)) else 0#32 := by
    intro g
    rw [val_main_v35_apply, val_main_v31_apply, val_main_v34_apply, val_main_v29_apply, val_main_v27_apply, val_main_v26_apply,
      val_main_v30_apply, val_main_v28_apply, val_main_v33_apply, val_main_v32_apply, v16_at, val_main_call2_v1_apply]
    have e1 : ∀ j : S1536.Idx, (j 0).val = k.val → val_main_v25 (F := Ideal) x1 j = BitVec.ofNat 32 L.val := fun j hj => by
      exact (congrArg (val_main_v25 (F := Ideal) x1) (idx1_ext j k hj)).trans hL
    have e2 : ∀ j : S48.Idx, (j 0).val = g.val → x0 j = x0 (ValueIdx.ix1 g) := fun j hj =>
      congrArg x0 (idx1_ext j g hj)
    rw [e1 (idx_main_v28 (idx_main_v30 (ValueIdx.ix2 k g))) rfl, e2 (idx_main_v32 (idx_main_v33 (ValueIdx.ix2 k g))) rfl]
    show Scalar.select (BitVec.ofBool (BitVec.ofNat 32 g.val == BitVec.ofNat 32 L.val)) (x0 (ValueIdx.ix1 g) + (BitVec.ofNat 32 k.val - x1 (ValueIdx.ix1 g))) 0#32 = _
    rw [select_ofBool]
    have e3 : (BitVec.ofNat 32 g.val == BitVec.ofNat 32 L.val) = true ↔ g = L := by
      rw [beq_iff_eq]
      constructor
      · intro h
        have := congrArg BitVec.toNat h
        rw [BitVec.toNat_ofNat, BitVec.toNat_ofNat] at this
        have := g.isLt; have := L.isLt
        exact Fin.ext (by omega)
      · rintro rfl; rfl
    by_cases h : g = L
    · rw [if_pos (e3.2 h), if_pos h]
    · rw [if_neg (mt e3.1 h), if_neg h]
  unfold val_main_v36
  rw [Host.reduce_eq_fold, Shape.ReducesTo.fold_fiber_r2_a1]
  refine (fold_addi_single L (fun g => val_main_v35 (F := Ideal) x0 x1 (ValueIdx.ix2 k g)) fun g hg => ?_).trans ?_
  · rw [key, if_neg hg]
  · show val_main_v35 (F := Ideal) x0 x1 (ValueIdx.ix2 k L) = _
    rw [key, if_pos rfl]

end Cert.ReferenceIdeal.Read
-- ==== Proof.Steps.lean ====
/- What each part of the body leaves in the buffers. -/
module

public import proofs.«01_k».proof.Proof.Contents

@[expose] public section

noncomputable section

namespace Cert.KernelIdeal.Body

open Idealize.ShloMosaic Idealize.ShloMosaic.TcCoe Idealize.ShloMosaic.ValueIdx
open Idealize.SL
open Idealize.SL.Sem
open Idealize.SL.RA
open Cert.KernelIdeal

variable {F : FTy → Type} [FloatOps F]
variable {defs : Defs nD τ sig (Elt F) Λ₀} {𝒱 : Variants} {c : Dev nD} {M : Mems}
variable {m1 m2 : Memref sig .tc .smem S48 .i32} {q1 q2 : PosShare TreeShare} {t1 t2 : S48.Idx → BitVec 32}

theorem does_bind' {α β : Type} {p : P F α} {k : α → P F β} {s s1 s2 : State F} {a : α} {b : β}
    (h1 : Does defs 𝒱 c M m1 m2 q1 q2 t1 t2 p s a s1) (h2 : Does defs 𝒱 c M m1 m2 q1 q2 t1 t2 (k a) s1 b s2) : Does defs 𝒱 c M m1 m2 q1 q2 t1 t2 (p >>= k) s b s2 := does_bind h1 h2

theorem does_pure {α : Type} (a : α) (s : State F) : Does defs 𝒱 c M m1 m2 q1 q2 t1 t2 (pure a) s a s := does_ret a s

/-- A step whose answer and contents are spelled otherwise. -/
theorem does_cong {α : Type} {p : P F α} {s s1 s2 : State F} {a a' : α} (h : Does defs 𝒱 c M m1 m2 q1 q2 t1 t2 p s a s1) (ha : a = a') (hs : s1 = s2) :
    Does defs 𝒱 c M m1 m2 q1 q2 t1 t2 p s a' s2 := by subst ha; subst hs; exact h

/-- A counted loop without a carried value. -/
theorem does_rounds (n : ℕ) (f : (i : ℕ) → i < n → PUnit → P F PUnit) (S : ℕ → State F) {s s' : State F} (h0 : s = S 0) (h1 : S n = s')
    (h : ∀ i (hi : i < n), Does defs 𝒱 c M m1 m2 q1 q2 t1 t2 (f i hi ⟨⟩) (S i) ⟨⟩ (S (i + 1))) : Does defs 𝒱 c M m1 m2 q1 q2 t1 t2 (loop n f ⟨⟩) s ⟨⟩ s' := by
  subst h0; subst h1
  exact does_loop n f (fun _ => ⟨⟩) S h

/-! ## The weights' words -/

/-- The weight words after `k` chunks. -/
def wtI (w : S512x3584.Idx → BitVec 8) (X : S3584x128.Idx → BitVec 32) (k : ℕ) : S3584x128.Idx → BitVec 32 :=
  fun i => if (i 0).val < 128 * k then wtv w i else X i

theorem does_wtr (s : State F) (X : S3584x128.Idx → BitVec 32) (k : ℕ) (hk : k < 28) :
    Does defs 𝒱 c M m1 m2 q1 q2 t1 t2 (wtr (M .w) (M .wt) k hk) (put s .wt (wtI (s .w) X k)) ⟨⟩ (put s .wt (wtI (s .w) X (k + 1))) := by
  unfold wtr
  refine does_bind' (does_ld _ .w _ _) ?_
  refine does_cong (does_st _ .wt _ _ _ _) rfl ?_
  rw [put_put, put_self]
  congr 1
  funext i
  have i0 := idx2_lt0 i
  have i1 := idx2_lt1 i
  refine (over2 _ _ _ i).trans ?_
  rw [shapeCast_self]
  unfold wtI
  by_cases h : 128 * k ≤ (i 0).val ∧ (i 0).val < 128 * k + 128 ∧ 0 ≤ (i 1).val ∧ (i 1).val < 0 + 128
  · rw [if_pos h, if_pos (by omega)]
    refine (at2_eq _ (ix2 (⟨(i 0).val - 128 * k, by omega⟩ : Fin 128) (⟨(i 1).val, by omega⟩ : Fin 128)) rfl rfl).trans ?_
    refine (transpose_at _ _ _).trans ?_
    refine (bitcast_word4 _ _ rfl _).trans ?_
    refine word4_congr fun u hu => ?_
    refine (at2_eq _ (ix2 (⟨4 * (i 1).val + u, by omega⟩ : Fin 512) (⟨(i 0).val - 128 * k, by omega⟩ : Fin 128)) rfl rfl).trans ?_
    refine (at2_eq (s .w) _ ?_ ?_).symm
    · show 0 + 1 * (4 * (i 1).val + u) = _
      omega
    · show 128 * k + 1 * ((i 0).val - 128 * k) = _
      omega
  · rw [if_neg h]
    by_cases h' : (i 0).val < 128 * k
    · rw [if_pos h', if_pos (by omega)]
    · rw [if_neg h', if_neg (by omega)]

theorem does_wts (s : State F) :
    Does defs 𝒱 c M m1 m2 q1 q2 t1 t2 (loop 28 (fun k hk _ => wtr (M .w) (M .wt) k hk) ⟨⟩) s ⟨⟩ (put s .wt (wtv (s .w))) := by
  have h := does_loop (defs := defs) (𝒱 := 𝒱) (c := c) (M := M) (m1 := m1) (m2 := m2) (q1 := q1) (q2 := q2) (t1 := t1) (t2 := t2)
    28 (fun k hk _ => wtr (M .w) (M .wt) k hk) (fun _ => (⟨⟩ : PUnit)) (fun k => put s .wt (wtI (s .w) (s .wt) k))
    (fun k hk => does_wtr s (s .wt) k hk)
  have e0 : put s .wt (wtI (s .w) (s .wt) 0) = s := by
    have : wtI (s .w) (s .wt) 0 = s .wt := funext fun i => if_neg (by omega)
    rw [this, put_eq_self]
  have e1 : wtI (s .w) (s .wt) 28 = wtv (s .w) := funext fun i => if_pos (by have := idx2_lt0 i; omega)
  simp only [e0, e1] at h
  exact h

/-! ## The mask's words and bytes -/

/-- The mask words after `n` columns. -/
def mwI (mb : S512x448.Idx → BitVec 8) (X : S448x128.Idx → BitVec 32) (n : ℕ) : S448x128.Idx → BitVec 32 :=
  fun i => if (i 0).val < n then mwv mb i else X i

/-- The mask bytes after `n` columns, and up to column `m` for the first `o` groups of rows. -/
def moI (mb : S512x448.Idx → BitVec 8) (X : S4x448x128.Idx → BitVec 32) (n m o : ℕ) : S4x448x128.Idx → BitVec 32 :=
  fun i => if (i 1).val < n ∨ ((i 1).val < m ∧ (i 0).val < o) then mov mb i else X i

theorem mw_step (mb : S512x448.Idx → BitVec 8) (X : S448x128.Idx → BitVec 32) (n W : ℕ) [NeZero W] (hW : n + W ≤ 448) (inb)
    (v : (⟨2, ![512, W]⟩ : Shape).Idx → BitVec 8) (hv : ∀ j, v j = at2 mb (j 0).val (n + (j 1).val)) (hb ht hs) :
    over (Rect.unit (s := S448x128) ![n, 0] ![W, 128] inb)
      (shapeCast ⟨2, ![W, 128]⟩ (transpose ⟨2, ![W, 128]⟩ [1, 0] (bitcast ⟨2, ![128, W]⟩ 32 v hb) ht) hs) (mwI mb X n)
      = mwI mb X (n + W) := by
  funext i
  have i0 := idx2_lt0 i
  have i1 := idx2_lt1 i
  refine (over2 _ _ _ i).trans ?_
  rw [shapeCast_self]
  unfold mwI
  by_cases h : n ≤ (i 0).val ∧ (i 0).val < n + W ∧ 0 ≤ (i 1).val ∧ (i 1).val < 0 + 128
  · rw [if_pos h, if_pos (by omega)]
    refine (at2_eq _ (ix2 (⟨(i 0).val - n, by omega⟩ : Fin W) (⟨(i 1).val, by omega⟩ : Fin 128)) rfl rfl).trans ?_
    refine (transpose_at _ _ _).trans ?_
    refine (bitcast_word4 _ _ rfl _).trans ?_
    refine word4_congr fun u hu => ?_
    refine (at2_eq _ (ix2 (⟨4 * (i 1).val + u, by omega⟩ : Fin 512) (⟨(i 0).val - n, by omega⟩ : Fin W)) rfl rfl).trans ?_
    rw [hv]
    show at2 mb (4 * (i 1).val + u) (n + ((i 0).val - n)) = _
    rw [show n + ((i 0).val - n) = (i 0).val by omega]
  · rw [if_neg h]
    by_cases h' : (i 0).val < n
    · rw [if_pos h', if_pos (by omega)]
    · rw [if_neg h', if_neg (by omega)]

theorem mo_step (mb : S512x448.Idx → BitVec 8) (X : S4x448x128.Idx → BitVec 32) (n W o : ℕ) (ho : o < 4) (inb)
    (v : (⟨2, ![512, W]⟩ : Shape).Idx → BitVec 8) (hv : ∀ j, v j = at2 mb (j 0).val (n + (j 1).val)) (hsl he ht hc) :
    over (Rect.unit (s := S4x448x128) ![o, n, 0] ![1, W, 128] inb)
      (shapeCast ⟨3, ![1, W, 128]⟩ (transpose ⟨2, ![W, 128]⟩ [1, 0]
        (extui 32 (extractStridedSlice (s := ⟨2, ![512, W]⟩) ⟨2, ![128, W]⟩ ![128 * o, 0] v hsl) he) ht) hc) (moI mb X n (n + W) o)
      = moI mb X n (n + W) (o + 1) := by
  funext i
  have i0 : (i 0).val < 4 := (i 0).isLt
  have i1 : (i 1).val < 448 := (i 1).isLt
  have i2 : (i 2).val < 128 := (i 2).isLt
  rw [over_unit]
  unfold moI
  by_cases h : n ≤ (i 1).val ∧ (i 1).val < n + W ∧ (i 0).val = o
  · have hall : ∀ a, (![o, n, 0] : Fin 3 → ℕ) a ≤ (i a).val ∧ (i a).val < (![o, n, 0] : Fin 3 → ℕ) a + (![1, W, 128] : Fin 3 → ℕ) a := by
      intro a
      fin_cases a
      · show o ≤ (i 0).val ∧ (i 0).val < o + 1
        omega
      · show n ≤ (i 1).val ∧ (i 1).val < n + W
        omega
      · show 0 ≤ (i 2).val ∧ (i 2).val < 0 + 128
        omega
    rw [dif_pos hall, if_pos (by omega)]
    have e : (fun a => ⟨(i a).val - (![o, n, 0] : Fin 3 → ℕ) a, by have := hall a; show _ < (![1, W, 128] : Fin 3 → ℕ) a; omega⟩ :
        (⟨3, ![1, W, 128]⟩ : Shape).Idx) = ix3 (0 : Fin 1) (⟨(i 1).val - n, by omega⟩ : Fin W) (⟨(i 2).val, i2⟩ : Fin 128) := by
      funext a
      fin_cases a
      · exact Fin.ext (by show (i 0).val - o = 0; omega)
      · rfl
      · rfl
    refine (congrArg _ e).trans ?_
    rw [shapeCast_ab_1ab_apply, transpose_ix2_apply]
    show (v _).setWidth 32 = (at2 mb _ _).setWidth 32
    rw [hv]
    congr 2
    · show 128 * o + (i 2).val = _
      omega
    · show n + (0 + ((i 1).val - n)) = _
      omega
  · have hn : ¬ ∀ a, (![o, n, 0] : Fin 3 → ℕ) a ≤ (i a).val ∧ (i a).val < (![o, n, 0] : Fin 3 → ℕ) a + (![1, W, 128] : Fin 3 → ℕ) a := by
      intro ha
      have h0 : o ≤ (i 0).val ∧ (i 0).val < o + 1 := ha 0
      have h1 : n ≤ (i 1).val ∧ (i 1).val < n + W := ha 1
      omega
    rw [dif_neg hn]
    by_cases h' : (i 1).val < n ∨ ((i 1).val < n + W ∧ (i 0).val < o)
    · rw [if_pos h', if_pos (by omega)]
    · rw [if_neg h', if_neg (by omega)]

/-- The mask buffers' contents. -/
def mst (s : State F) (X : S448x128.Idx → BitVec 32) (Y : S4x448x128.Idx → BitVec 32) : State F := put (put s .mw X) .mo Y

theorem mst_mw (s : State F) (X X' Y) : put (mst s X Y) .mw X' = mst s X' Y := by
  unfold mst
  rw [put_comm _ (by decide), put_put]

theorem mst_mo (s : State F) (X Y Y') : put (mst s X Y) .mo Y' = mst s X Y' := by
  unfold mst
  rw [put_put]

theorem moI_done (mb : S512x448.Idx → BitVec 8) (X : S4x448x128.Idx → BitVec 32) (n W : ℕ) :
    moI mb X n (n + W) 4 = moI mb X (n + W) (n + W + 128) 0 := by
  funext i
  have i0 : (i 0).val < 4 := (i 0).isLt
  unfold moI
  by_cases h : (i 1).val < n + W
  · rw [if_pos (by omega), if_pos (by omega)]
  · rw [if_neg (by omega), if_neg (by omega)]

theorem moI_any (mb : S512x448.Idx → BitVec 8) (X : S4x448x128.Idx → BitVec 32) (n m m' : ℕ) : moI mb X n m 0 = moI mb X n m' 0 := by
  funext i
  unfold moI
  by_cases h : (i 1).val < n
  · rw [if_pos (by omega), if_pos (by omega)]
  · rw [if_neg (by omega), if_neg (by omega)]

theorem does_mtr (s : State F) (X Y) (k : ℕ) (hk : k < 3) :
    Does defs 𝒱 c M m1 m2 q1 q2 t1 t2 (mtr (M .mb) (M .mw) (M .mo) k hk)
      (mst s (mwI (s .mb) X (128 * k)) (moI (s .mb) Y (128 * k) (128 * k + 128) 0)) ⟨⟩
      (mst s (mwI (s .mb) X (128 * (k + 1))) (moI (s .mb) Y (128 * (k + 1)) (128 * (k + 1) + 128) 0)) := by
  unfold mtr
  refine does_bind' (does_ld _ .mb _ _) ?_
  have hv : ∀ j : S512x128.Idx, (mst s (mwI (s .mb) X (128 * k)) (moI (s .mb) Y (128 * k) (128 * k + 128) 0)) .mb
      ((Rect.unit (s := S512x448) ![0, 128 * k] S512x128.size (inb2 (by decide) (by omega))).toLoadRect.idx j)
        = at2 (s .mb) (j 0).val (128 * k + (j 1).val) := by
    intro j
    refine (at2_eq (s .mb) _ ?_ ?_).symm
    · show 0 + 1 * (j 0).val = _
      omega
    · show 128 * k + 1 * (j 1).val = _
      omega
  refine does_bind' (does_st _ .mw _ _ _ _) ?_
  rw [mst_mw]
  refine does_rounds 4 _ (fun o => mst s (mwI (s .mb) X (128 * k + 128)) (moI (s .mb) Y (128 * k) (128 * k + 128) o)) ?_ ?_ ?_
  · exact congrArg (fun A => mst s A _) (mw_step (s .mb) X (128 * k) 128 (by omega) _ _ hv _ _ _)
  · show mst s _ (moI (s .mb) Y (128 * k) (128 * k + 128) 4) = _
    rw [moI_done]
    rfl
  · intro o ho
    refine does_cong (does_st _ .mo _ _ _ _) rfl ?_
    rw [mst_mo]
    exact congrArg (fun A => mst s _ A) (mo_step (s .mb) Y (128 * k) 128 o ho _ _ hv _ _ _ _)

theorem does_mtrTail (s : State F) (X Y) :
    Does defs 𝒱 c M m1 m2 q1 q2 t1 t2 (mtrTail (M .mb) (M .mw) (M .mo))
      (mst s (mwI (s .mb) X 384) (moI (s .mb) Y 384 448 0)) ⟨⟩ (mst s (mwv (s .mb)) (mov (s .mb))) := by
  unfold mtrTail
  refine does_bind' (does_ld _ .mb _ _) ?_
  have hv : ∀ j : S512x64.Idx, (mst s (mwI (s .mb) X 384) (moI (s .mb) Y 384 448 0)) .mb
      ((Rect.unit (s := S512x448) ![0, 384] S512x64.size (inb2 (by decide) (by decide))).toLoadRect.idx j)
        = at2 (s .mb) (j 0).val (384 + (j 1).val) := by
    intro j
    refine (at2_eq (s .mb) _ ?_ ?_).symm
    · show 0 + 1 * (j 0).val = _
      omega
    · show 384 + 1 * (j 1).val = _
      omega
  refine does_bind' (does_st _ .mw _ _ _ _) ?_
  rw [mst_mw]
  refine does_rounds 4 _ (fun o => mst s (mwI (s .mb) X 448) (moI (s .mb) Y 384 448 o)) ?_ ?_ ?_
  · exact congrArg (fun A => mst s A _) (mw_step (s .mb) X 384 64 (by omega) _ _ hv _ _ _)
  · show mst s (mwI (s .mb) X 448) (moI (s .mb) Y 384 448 4) = _
    have e1 : mwI (s .mb) X 448 = mwv (s .mb) := funext fun i => if_pos (idx2_lt0 i)
    have e2 : moI (s .mb) Y 384 448 4 = mov (s .mb) := funext fun i => if_pos (.inr ⟨(i 1).isLt, (i 0).isLt⟩)
    rw [e1, e2]
  · intro o ho
    refine does_cong (does_st _ .mo _ _ _ _) rfl ?_
    rw [mst_mo]
    exact congrArg (fun A => mst s _ A) (mo_step (s .mb) Y 384 64 o ho _ _ hv _ _ _ _)

theorem does_mtrs (s : State F) :
    Does defs 𝒱 c M m1 m2 q1 q2 t1 t2 (loop 3 (fun k hk _ => mtr (M .mb) (M .mw) (M .mo) k hk) ⟨⟩) s ⟨⟩
      (mst s (mwI (s .mb) (s .mw) 384) (moI (s .mb) (s .mo) 384 448 0)) := by
  refine does_rounds 3 _ (fun k => mst s (mwI (s .mb) (s .mw) (128 * k)) (moI (s .mb) (s .mo) (128 * k) (128 * k + 128) 0)) ?_ ?_ ?_
  · have e1 : mwI (s .mb) (s .mw) (128 * 0) = s .mw := funext fun i => if_neg (by omega)
    have e2 : moI (s .mb) (s .mo) (128 * 0) (128 * 0 + 128) 0 = s .mo := funext fun i => if_neg (by omega)
    show s = mst s (mwI (s .mb) (s .mw) (128 * 0)) (moI (s .mb) (s .mo) (128 * 0) (128 * 0 + 128) 0)
    rw [e1, e2]
    unfold mst
    rw [put_eq_self]
    exact (put_eq_self s .mo).symm
  · show mst s _ (moI (s .mb) (s .mo) 384 512 0) = _
    rw [moI_any (s .mb) (s .mo) 384 512 448]
  · intro k hk
    exact does_mtr s _ _ k hk

end Cert.KernelIdeal.Body
-- ==== Proof.Steps2.lean ====
/- What packing the gradients leaves in the packed buffer. -/
module

public import proofs.«01_k».proof.Proof.Steps

@[expose] public section

noncomputable section

namespace Cert.KernelIdeal.Body

open Idealize.ShloMosaic Idealize.ShloMosaic.TcCoe Idealize.ShloMosaic.ValueIdx
open Idealize.SL
open Idealize.SL.Sem
open Idealize.SL.RA
open Cert.KernelIdeal

variable {F : FTy → Type} [FloatOps F]
variable {defs : Defs nD τ sig (Elt F) Λ₀} {𝒱 : Variants} {c : Dev nD} {M : Mems}
variable {m1 m2 : Memref sig .tc .smem S48 .i32} {q1 q2 : PosShare TreeShare} {t1 t2 : S48.Idx → BitVec 32}

/-- A packed buffer of zeros. -/
def zeros : S1568x512.Idx → F .bf16 := fun _ => Scalar.ofBits .bf16 0x0000#16

/-- The packed buffer as packing finds it. -/
def entry (first : Bool) (X : S1568x512.Idx → F .bf16) : S1568x512.Idx → F .bf16 := match first with | true => zeros | false => X

theorem does_zero (first : Bool) (h : (M .dyb).IsWhole) (s : State F) :
    Does defs 𝒱 c M m1 m2 q1 q2 t1 t2 (zero first (M .dyb) h) s ⟨⟩ (put s .dyb (entry first (s .dyb))) := by
  cases first with
  | false => exact does_cong (does_pure _ s) rfl (put_eq_self s .dyb).symm
  | true =>
    unfold zero
    refine does_bind' (does_ld _ .dyb _ _) ?_
    refine does_cong (does_store _ .dyb _ _) rfl ?_
    congr 1
    refine (over_all (sh := S1568x512) ![0, 0] _ (fun a => by fin_cases a <;> rfl) _ _).trans ?_
    rw [shapeCast_self]
    rfl

/-- One group of 128 columns of a granule. -/
theorem gran_step (dy : S1536x512.Idx → F .fp8e5m2) (sc : S1536x128.Idx → F .bf16) (kp : S1536x128.Idx → BitVec 8)
    (X : S1568x512.Idx → F .bf16) (a b k : ℕ) (hk : k < 4) (keep : IVec S32x128 1) (scl : FVec F S32x128 .bf16)
    (ha : a + 32 ≤ 1536)
    (hkeep : ∀ j, keep j = IntOp.cmpi .ne (at2 kp (a + (j 0).val) (j 1).val) 0#8)
    (hscl : ∀ j, scl j = at2 sc (a + (j 0).val) (j 1).val) (inb4 inb14 he hc) :
    over (Rect.unit (s := S1568x512) ![b, 128 * k] S32x128.size inb14)
      (shapeCast S32x128 (mulf (select keep (extf .bf16 (fun j => dy ((Rect.unit (s := S1536x512) ![a, 128 * k] S32x128.size inb4).toLoadRect.idx j)
        : FVec F S32x128 .fp8e5m2) he) (broadcast S32x128 (Scalar.sitofp .bf16 0#32))) scl) hc) X
      = fun i => if b ≤ (i 0).val ∧ (i 0).val < b + 32 ∧ 128 * k ≤ (i 1).val ∧ (i 1).val < 128 * k + 128
        then val dy sc kp (a + ((i 0).val - b)) (i 1).val else X i := by
  funext i
  have i0 := idx2_lt0 i
  have i1 := idx2_lt1 i
  refine (over2 inb14 _ X i).trans ?_
  rw [shapeCast_self]
  by_cases h : b ≤ (i 0).val ∧ (i 0).val < b + 32 ∧ 128 * k ≤ (i 1).val ∧ (i 1).val < 128 * k + 128
  · rw [if_pos h, if_pos h]
    refine (at2_eq _ (ix2 (⟨(i 0).val - b, by omega⟩ : Fin 32) (⟨(i 1).val - 128 * k, by omega⟩ : Fin 128)) rfl rfl).trans ?_
    show FloatOps.mulf (Scalar.select (keep _) (FloatOps.extf .bf16 _ (dy _)) (Scalar.sitofp .bf16 0#32)) (scl _) = _
    rw [hkeep, hscl]
    unfold val
    have e : (i 1).val % 128 = (i 1).val - 128 * k := by omega
    rw [e]
    have e2 : dy ((Rect.unit (s := S1536x512) ![a, 128 * k] S32x128.size inb4).toLoadRect.idx
        (ix2 (⟨(i 0).val - b, by omega⟩ : Fin 32) (⟨(i 1).val - 128 * k, by omega⟩ : Fin 128))) = at2 dy (a + ((i 0).val - b)) (i 1).val := by
      refine (at2_eq dy _ ?_ ?_).symm
      · show a + 1 * ((i 0).val - b) = _
        omega
      · show 128 * k + 1 * ((i 1).val - 128 * k) = _
        omega
    rw [e2]
  · rw [if_neg h, if_neg h]

/-- The words the tables hold are in range: the body's checks. -/
def Good (t1 t2 : S48.Idx → BitVec 32) : Prop := ∀ j : S48.Idx, k0_chk1 (t1 j) ∧ k0_chk2 (t2 j)

theorem does_gran1 (harg14 : (M .dyb).IsWhole) (s : State F) (a b k : ℕ) (hk : k < 4) (ha : a + 32 ≤ 1536)
    (keep : IVec S32x128 1) (scl : FVec F S32x128 .bf16)
    (hkeep : ∀ j, keep j = IntOp.cmpi .ne (at2 (s .keep) (a + (j 0).val) (j 1).val) 0#8)
    (hscl : ∀ j, scl j = at2 (s .dsc) (a + (j 0).val) (j 1).val) (h4 h14 hp) :
    Does defs 𝒱 c M m1 m2 q1 q2 t1 t2 (gran1 (M .dy) (M .dyb) harg14 keep scl ![a, 128 * k] ![b, 128 * k] h4 h14 hp) s ⟨⟩
      (put s .dyb (fun i => if b ≤ (i 0).val ∧ (i 0).val < b + 32 ∧ 128 * k ≤ (i 1).val ∧ (i 1).val < 128 * k + 128
        then val (s .dy) (s .dsc) (s .keep) (a + ((i 0).val - b)) (i 1).val else s .dyb i)) := by
  unfold gran1
  refine does_bind' (does_ld _ .dy _ _) ?_
  refine does_bind' (does_ld _ .dyb _ _) ?_
  refine does_cong (does_store _ .dyb _ _) rfl ?_
  exact congrArg (put s .dyb) (gran_step (s .dy) (s .dsc) (s .keep) (s .dyb) a b k hk keep scl ha hkeep hscl h4 h14 _ _)

theorem first1 (g : ℕ) (hg : g < 48) (inb) (h1 : (Rect.unit (s := S48) ![g] S1.size inb).shape.numel = 1) :
    (Rect.unit (s := S48) ![g] S1.size inb).emb (Shape.Idx.first (h1.symm ▸ Nat.one_pos)) = ix1 (Fin.ofNat 48 g) := by
  funext a
  obtain rfl : a = 0 := Subsingleton.elim _ _
  apply Fin.ext
  rw [Rect.emb_apply]
  have : ((Shape.Idx.first (s := (Rect.unit (s := S48) ![g] S1.size inb).shape) (h1.symm ▸ Nat.one_pos)) (0 : Fin 1)).val < 1 :=
    ((Shape.Idx.first (s := (Rect.unit (s := S48) ![g] S1.size inb).shape) (h1.symm ▸ Nat.one_pos)) (0 : Fin 1)).isLt
  show g + 1 * ((Shape.Idx.first (s := (Rect.unit (s := S48) ![g] S1.size inb).shape) (h1.symm ▸ Nat.one_pos)) (0 : Fin 1)).val = g % 48
  omega

theorem does_gran (hT : Good t1 t2) (harg14 : (M .dyb).IsWhole) (s : State F) (D : S1568x512.Idx → F .bf16) (g : ℕ) (hg : g < 48) :
    Does defs 𝒱 c M m1 m2 q1 q2 t1 t2 (gran m1 m2 (M .dy) (M .dsc) (M .keep) (M .dyb) harg14 g hg)
      (put s .dyb (pk t1 t2 (val (s .dy) (s .dsc) (s .keep)) D g)) ⟨⟩
      (put s .dyb (pk t1 t2 (val (s .dy) (s .dsc) (s .keep)) D (g + 1))) := by
  unfold gran
  refine does_bind' (does_t1 _ _ _ _) ?_
  rw [first1 g hg _ rfl]
  refine does_bind' (does_assume _ (hT _).1) ?_
  refine does_bind' (does_t2 _ _ _ _) ?_
  rw [first1 g hg _ rfl]
  refine does_bind' (does_assume _ (hT _).2) ?_
  refine does_bind' (does_ld _ .keep _ _) ?_
  refine does_bind' (does_ld _ .dsc _ _) ?_
  have ha : (t1 (ix1 (Fin.ofNat 48 g))).toNat + 32 ≤ 1536 := (hT (ix1 (Fin.ofNat 48 g))).1.2.1 0
  have K : ∀ (X : S1568x512.Idx → F .bf16) (b : ℕ) (k : ℕ) (hk : k < 4) (h4 h14 hp),
      Does defs 𝒱 c M m1 m2 q1 q2 t1 t2 (gran1 (M .dy) (M .dyb) harg14
        (cmpi .ne (fun j => s .keep ((Rect.unit (s := S1536x128) (k0_off1 (t1 (ix1 (Fin.ofNat 48 g)))) S32x128.size
          (k0_off1_inb _ (hT (ix1 (Fin.ofNat 48 g))).1)).toLoadRect.idx j) : IVec S32x128 8) (broadcast S32x128 0#8))
        (fun j => s .dsc ((Rect.unit (s := S1536x128) (k0_off1 (t1 (ix1 (Fin.ofNat 48 g)))) S32x128.size
          (k0_off1_inb _ (hT (ix1 (Fin.ofNat 48 g))).1)).toLoadRect.idx j))
        ![(t1 (ix1 (Fin.ofNat 48 g))).toNat, 128 * k] ![b, 128 * k] h4 h14 hp) (put s .dyb X) ⟨⟩
        (put s .dyb (fun i => if b ≤ (i 0).val ∧ (i 0).val < b + 32 ∧ 128 * k ≤ (i 1).val ∧ (i 1).val < 128 * k + 128
          then val (s .dy) (s .dsc) (s .keep) ((t1 (ix1 (Fin.ofNat 48 g))).toNat + ((i 0).val - b)) (i 1).val else X i)) := by
    intro X b k hk h4 h14 hp
    refine does_cong (does_gran1 harg14 (put s .dyb X) (t1 (ix1 (Fin.ofNat 48 g))).toNat b k hk ha _ _ ?_ ?_ h4 h14 hp) rfl ?_
    · intro j
      show IntOp.cmpi .ne (s .keep _) 0#8 = IntOp.cmpi .ne (at2 (s .keep) _ _) 0#8
      congr 1
      refine (at2_eq (s .keep) _ ?_ ?_).symm
      · show (t1 (ix1 (Fin.ofNat 48 g))).toNat + 1 * (j 0).val = _
        omega
      · show 0 + 1 * (j 1).val = _
        omega
    · intro j
      refine (at2_eq (s .dsc) _ ?_ ?_).symm
      · show (t1 (ix1 (Fin.ofNat 48 g))).toNat + 1 * (j 0).val = _
        omega
      · show 0 + 1 * (j 1).val = _
        omega
    · rw [put_put, put_self]
      rfl
  refine does_bind' (K _ (t2 (ix1 (Fin.ofNat 48 g))).toNat 0 (by decide) _ _ _) ?_
  refine does_bind' (K _ (t2 (ix1 (Fin.ofNat 48 g))).toNat 1 (by decide) _ _ _) ?_
  refine does_bind' (K _ (t2 (ix1 (Fin.ofNat 48 g))).toNat 2 (by decide) _ _ _) ?_
  refine does_cong (K _ (t2 (ix1 (Fin.ofNat 48 g))).toNat 3 (by decide) _ _ _) rfl ?_
  congr 1
  funext i
  have i1 := idx2_lt1 i
  show _ = if _ then _ else _
  by_cases h : (t2 (ix1 (Fin.ofNat 48 g))).toNat ≤ (i 0).val ∧ (i 0).val < (t2 (ix1 (Fin.ofNat 48 g))).toNat + 32
  · rw [if_pos h]
    split_ifs
    · rfl
    · rfl
    · rfl
    · rfl
    · omega
  · rw [if_neg h, if_neg (by omega), if_neg (by omega), if_neg (by omega), if_neg (by omega)]

theorem does_grans (hT : Good t1 t2) (harg14 : (M .dyb).IsWhole) (s : State F) :
    Does defs 𝒱 c M m1 m2 q1 q2 t1 t2 (loop 48 (fun g hg _ => gran m1 m2 (M .dy) (M .dsc) (M .keep) (M .dyb) harg14 g hg) ⟨⟩) s ⟨⟩
      (put s .dyb (pk t1 t2 (val (s .dy) (s .dsc) (s .keep)) (s .dyb) 48)) :=
  does_rounds 48 _ (fun g => put s .dyb (pk t1 t2 (val (s .dy) (s .dsc) (s .keep)) (s .dyb) g)) (put_eq_self s .dyb).symm rfl
    fun g hg => does_gran hT harg14 s _ g hg

end Cert.KernelIdeal.Body
-- ==== Proof.Tables.lean ====
/- What the precondition says of the two tables: every granule's rows lie inside the two buffers. -/
module

public import proofs.«01_k».proof.Proof.Steps2
public import proofs.«01_k».proof.Proof.Gen.Pre_granules
public import Idealize.ShloMosaic.Lib.Affine

@[expose] public section

noncomputable section

namespace Cert.KernelIdeal.Body

open Idealize.ShloMosaic Idealize.ShloMosaic.ValueIdx
open Cert.KernelIdeal Cert.KernelIdeal.Gen

variable {F : FTy → Type} [FloatOps F]

/-- A source row is a multiple of 32 with 32 rows left; a destination row is a multiple of 16 of at most 1536. -/
def InRange (t1 t2 : S48.Idx → BitVec 32) : Prop :=
  ∀ j : S48.Idx, (t1 j).toNat ≤ 1504 ∧ 32 ∣ (t1 j).toNat ∧ (t2 j).toNat ≤ 1536 ∧ 16 ∣ (t2 j).toNat

theorem good_of_inRange {t1 t2 : S48.Idx → BitVec 32} (h : InRange t1 t2) : Good t1 t2 := by
  intro j
  obtain ⟨h1, d1, h2, d2⟩ := h j
  constructor
  · unfold k0_chk1 k0_mult1 k0_off1 k0_off2 k0_off4 k0_off6 k0_off8
    refine ⟨d1, ?_, ?_, ?_, ?_, ?_⟩ <;> intro a <;> fin_cases a <;> simp [Scalar.indexCast] <;> omega
  · unfold k0_chk2 k0_mult2 k0_off3 k0_off5 k0_off7 k0_off9
    have hp : ∀ k, 2 ∣ (![(t2 j).toNat, k] : Fin 2 → ℕ) 0 := fun k => Dvd.dvd.trans (by decide) d2
    refine ⟨d2, ?_, fun hi => Affine.packed_dvd (by decide) (hp 0) (by decide), ?_, fun hi => Affine.packed_dvd (by decide) (hp 128) (by decide),
      ?_, fun hi => Affine.packed_dvd (by decide) (hp 256) (by decide), ?_, fun hi => Affine.packed_dvd (by decide) (hp 384) (by decide)⟩ <;>
      intro a <;> fin_cases a <;> simp [Scalar.indexCast] <;> omega

/-- What the precondition's function computes, read back. -/
theorem inRange_of_pre {a0 a1 : IVec S48 32} {a2 a3 a4 a5 a6 a7 a8}
    (h : Cert.Pre_granules.fn (F := F) a0 a1 a2 a3 a4 a5 a6 a7 a8 = fun _ => 1#1) : InRange a0 a1 := by
  intro j
  have andi_one (a b : BitVec 1) : IntOp.andi a b = 1#1 ↔ a = 1#1 ∧ b = 1#1 := by revert a b; decide
  have ofBool_one (b : Bool) : BitVec.ofBool b = 1#1 ↔ b = true := by revert b; decide
  have pre := congrFun h j
  simp only [Cert.Pre_granules.fn, Cert.Pre_granules.fn_part1, constantI, broadcastInDim, cmpi, andi, andi_one, IntOp.cmpi, ofBool_one] at pre
  obtain ⟨⟨⟨⟨⟨p1, p2⟩, p3⟩, p4⟩, p5⟩, p6⟩ := pre
  have key : ∀ x : BitVec 32, ∀ n k : ℕ, n < 2 ^ 31 → BitVec.sle 0#32 x = true → BitVec.sle x (BitVec.ofNat 32 n) = true → x.toNat ≤ n := by
    intro x n k hn hx hy
    simp only [BitVec.sle, decide_eq_true_eq, BitVec.toInt, BitVec.toNat_ofNat] at hx hy
    have := x.isLt
    split_ifs at hx hy <;> omega
  have low : ∀ (x : BitVec 32) (k : ℕ), k < 32 → IntOp.andi x (BitVec.ofNat 32 (2 ^ k - 1)) = 0#32 → 2 ^ k ∣ x.toNat := by
    intro x k hk hx
    have e := congrArg BitVec.toNat hx
    have hlt : 2 ^ k - 1 < 2 ^ 32 := lt_of_le_of_lt (Nat.sub_le _ _) (Nat.pow_lt_pow_right (by decide) hk)
    simp only [IntOp.andi, BitVec.toNat_and, BitVec.toNat_ofNat, Nat.mod_eq_of_lt hlt, Nat.and_two_pow_sub_one_eq_mod] at e
    exact Nat.dvd_of_mod_eq_zero e
  exact ⟨key _ 1504 0 (by decide) p1 p2, low _ 5 (by decide) (by simpa using p3), key _ 1536 0 (by decide) p4 p5, low _ 4 (by decide) (by simpa using p6)⟩

end Cert.KernelIdeal.Body
-- ==== Proof.RefGrow.lean ====
/- The reference's gradient scores, over the extended reals. -/
module

public import proofs.«01_k».proof.Proof.RefRows
public import proofs.«01_k».proof.Proof.Tables

@[expose] public section

noncomputable section

namespace Cert.ReferenceIdeal.Read

open Idealize.ShloMosaic
open Cert.ReferenceIdeal Cert.ReferenceIdeal.Gen
open Cert.KernelIdeal.Body (at2 at2_eq at2_ix InRange)
open Cert.Spec (Mat tab row)

/-! ## The packed gradients -/

variable {x0 x1 : S48.Idx → BitVec 32} {x2 : S3584x1536.Idx → EReal} {x4 : S1536x128.Idx → EReal} {x5 : S1536x128.Idx → BitVec 8}
  {x8 : S18944x448.Idx → BitVec 8} {r0 : S1536x18944.Idx → EReal}

theorem ne_zero_ofBool (b : BitVec 8) : IntOp.cmpi .ne b 0#8 = BitVec.ofBool (decide (b ≠ 0#8)) := by revert b; decide

theorem tile_row (q r : ℕ) (hq : q < 1536) (hr : r < 18944) :
    (((0 * 1536 + (q * 18944 + r) / 18944 % 1536) * 1 + 0) * 128 + (q * 18944 + r) % 128) / 128 = q := by omega

theorem tile_col (q r : ℕ) (hq : q < 1536) (hr : r < 18944) :
    (((0 * 1536 + (q * 18944 + r) / 18944 % 1536) * 1 + 0) * 128 + (q * 18944 + r) % 128) % 128 = r % 128 := by omega

theorem v3_at (i : S1536x18944.Idx) : val_main_v3 (F := Ideal) x5 i = at2 x5 (i 0).val ((i 1).val % 128) := by
  rw [val_main_v3_apply, val_main_v2_apply, val_main_v1_apply]
  exact (at2_eq x5 _ (tile_row _ _ (i 0).isLt (i 1).isLt) (tile_col _ _ (i 0).isLt (i 1).isLt)).symm

theorem v9_at (i : S1536x18944.Idx) : val_main_v9 (F := Ideal) x4 i = at2 x4 (i 0).val ((i 1).val % 128) := by
  rw [val_main_v9_apply, val_main_v8_apply, val_main_v7_apply]
  exact (at2_eq x4 _ (tile_row _ _ (i 0).isLt (i 1).isLt) (tile_col _ _ (i 0).isLt (i 1).isLt)).symm

theorem v10_at (i : S1536x18944.Idx) : val_main_v10 (F := Ideal) x4 x5 r0 i = Spec.ds r0 x4 x5 (i 0).val (i 1).val := by
  rw [val_main_v10_apply, val_main_v6_apply, val_main_v5_apply, val_main_v4_apply, val_main_c_apply, v3_at, v9_at,
    val_main_call0_v1_apply, ne_zero_ofBool, select_ofBool]
  unfold Spec.ds
  show (if _ then _ else _) * _ = _
  congr 1
  by_cases h : at2 x5 (i 0).val ((i 1).val % 128) = 0#8
  · rw [if_pos h, if_neg (by simpa using h)]
    show (((0#32 : BitVec 32).toInt : ℝ) : EReal) = 0
    simp
  · rw [if_neg h, if_pos (by simpa using h)]
    exact (at2_eq r0 i rfl rfl).symm

theorem toNat_token (a d : BitVec 32) (k : ℕ) (ha : a.toNat ≤ 1504) (hd : d.toNat ≤ k) (hk : k < d.toNat + 32) (hk' : k < 1536) :
    (a + (BitVec.ofNat 32 k - d)).toNat = a.toNat + (k - d.toNat) := by
  rw [BitVec.toNat_add, BitVec.toNat_sub, BitVec.toNat_ofNat]
  omega

/-- A token row, as the gather reads it. -/
theorem token_word (w : BitVec 32) (h : w.toNat < 1536) :
    min (Scalar.select (IntOp.cmpi .slt w 0#32) (IntOp.addi w 1536#32) w).toInt.toNat (1536 - 1) = w.toNat := by
  have e : w.toInt = w.toNat := by rw [BitVec.toInt_eq_toNat_cond, if_pos (by omega)]
  have s : IntOp.cmpi .slt w 0#32 = BitVec.ofBool false := by
    show BitVec.ofBool (BitVec.slt w 0#32) = _
    congr 1
    rw [BitVec.slt, e]
    exact decide_eq_false (by show ¬ _ < (0 : ℤ); omega)
  rw [s, select_ofBool, if_neg (by decide), e]
  omega

theorem v38_at (i : S1536x18944.Idx) : val_main_v38 (F := Ideal) x0 x1 i = val_main_v36 (F := Ideal) x0 x1 (ValueIdx.ix1 (i 0)) := by
  rw [val_main_v38_apply, val_main_v37_apply]
  exact congrArg (val_main_v36 (F := Ideal) x0 x1) (idx1_ext _ (i 0) rfl)

/-- The gathered row of a token. -/
theorem v39_at (i : S1536x18944.Idx) (h : (val_main_v36 (F := Ideal) x0 x1 (ValueIdx.ix1 (i 0))).toNat < 1536) :
    val_main_v39 (F := Ideal) x0 x1 x4 x5 r0 i
      = Spec.ds r0 x4 x5 (val_main_v36 (F := Ideal) x0 x1 (ValueIdx.ix1 (i 0))).toNat (i 1).val := by
  unfold val_main_v39
  refine (ValueIdx.gather_take_rows_apply (N := 1536) (C := 18944) (B := 1536) (by decide) _ _ _ i).trans ?_
  rw [v10_at]
  refine congrArg (fun q => Spec.ds r0 x4 x5 q (i 1).val) ?_
  show min (val_main_call3_v5 (F := Ideal) x0 x1 (ValueIdx.takeIdx i)).toInt.toNat (1536 - 1) = _
  have e : val_main_call3_v5 (F := Ideal) x0 x1 (ValueIdx.takeIdx i)
      = Scalar.select (IntOp.cmpi .slt (val_main_v36 (F := Ideal) x0 x1 (ValueIdx.ix1 (i 0))) 0#32)
          (IntOp.addi (val_main_v36 (F := Ideal) x0 x1 (ValueIdx.ix1 (i 0))) 1536#32) (val_main_v36 (F := Ideal) x0 x1 (ValueIdx.ix1 (i 0))) := by
    unfold val_main_call3_v5
    rw [shapeCast_apply _ _ _ i (by
      rw [Shape.rowMajor_val_two, Shape.rowMajor_val_three]
      show (i 0).val * 18944 + (i 1).val = ((i 0).val * 18944 + (i 1).val) * 1 + 0
      omega)]
    rw [val_main_call3_v4_apply, val_main_call3_v1_apply, val_main_call3_v3_apply, v38_at, val_main_call3_v0_apply, val_main_call3_v2_apply]
    rfl
  rw [e, token_word _ h]

theorem v42_at (i : S1536x18944.Idx) : val_main_call4_v1 (F := Ideal) x1 i
    = IntOp.cmpi .sge (val_main_v25 (F := Ideal) x1 (ValueIdx.ix1 (i 0))) 0#32 := by
  rw [val_main_call4_v1_apply, val_main_v42_apply, val_main_v40_apply, val_main_v41_apply, val_main_c_7_apply]
  exact congrArg (fun j => IntOp.cmpi .sge (val_main_v25 (F := Ideal) x1 j) 0#32) (idx1_ext _ (i 0) rfl)

theorem sge_zero (w : BitVec 32) : IntOp.cmpi .sge w 0#32 = BitVec.ofBool (decide (0 ≤ w.toInt)) := rfl

/-- A row of packed gradients. -/
theorem v43_at (hR : InRange x0 x1) (i : S1536x18944.Idx) :
    val_main_v43 (F := Ideal) x0 x1 x4 x5 r0 i
      = row (tab x0) (tab x1) (fun q => Spec.ds r0 x4 x5 q (i 1).val) (i 0).val 48 := by
  have hd : ∀ g : Fin 48, (x1 (ValueIdx.ix1 g)).toNat ≤ 1536 := fun g => (hR _).2.2.1
  have hk : (i 0).val < 1536 := (i 0).isLt
  have hi := v25_toInt hd (i 0)
  rw [val_main_v43_apply, v42_at]
  rcases row_eq (tab x0) (tab x1) (fun q => Spec.ds r0 x4 x5 q (i 1).val) (i 0).val 48 with ⟨hl, hv⟩ | ⟨g, hg, hl, h1, h2, hv⟩
  · rw [hv, show IntOp.cmpi .sge (val_main_v25 (F := Ideal) x1 (ValueIdx.ix1 (i 0))) 0#32 = BitVec.ofBool false from ?_, select_ofBool,
      if_neg (by decide), val_main_call4_v2_apply]
    · show (((0#32 : BitVec 32).toInt : ℝ) : EReal) = 0
      simp
    · rw [sge_zero, hi, hl]
      rfl
  · have hL : val_main_v25 (F := Ideal) x1 (ValueIdx.ix1 (i 0)) = BitVec.ofNat 32 (⟨g, hg⟩ : Fin 48).val := by
      apply BitVec.eq_of_toInt_eq
      rw [hi, hl, BitVec.toInt_eq_toNat_cond, BitVec.toNat_ofNat, Nat.mod_eq_of_lt (by show g < _; omega), if_pos (by show 2 * g < _; omega)]
    have ht := v36_at (x0 := x0) hL
    have e0 := tab_fin x0 ⟨g, hg⟩
    have e1 := tab_fin x1 ⟨g, hg⟩
    have hn : (val_main_v36 (F := Ideal) x0 x1 (ValueIdx.ix1 (i 0))).toNat = tab x0 g + ((i 0).val - tab x1 g) := by
      rw [ht, toNat_token _ _ _ (hR _).1 (e1 ▸ h1) (e1 ▸ h2) hk, ← e0, ← e1]
    have hs : tab x0 g ≤ 1504 := by rw [show tab x0 g = _ from e0]; exact (hR _).1
    rw [hv, show IntOp.cmpi .sge (val_main_v25 (F := Ideal) x1 (ValueIdx.ix1 (i 0))) 0#32 = BitVec.ofBool true from ?_, select_ofBool,
      if_pos rfl, v39_at i (by omega), hn]
    · rw [sge_zero, hi, hl, decide_eq_true (Int.natCast_nonneg g)]

/-! ## The scores -/

/-- The gradient. -/
theorem v44_at (hR : InRange x0 x1) (i : S3584x18944.Idx) :
    val_main_v44 (F := Ideal) x0 x1 x2 x4 x5 r0 i = Spec.grad x2 (tab x0) (tab x1) (Spec.ds r0 x4 x5) (i 0).val (i 1).val := by
  rw [val_main_v44_apply]
  unfold Spec.grad
  refine Finset.sum_congr rfl fun k _ => ?_
  rw [v43_at hR]
  exact congrArg₂ (· * ·) (at2_eq x2 _ rfl rfl).symm rfl

/-- The channel row of a block's channel, through the reference's layouts. -/
theorem chan_row {r c t : ℕ} (hr : r < 18944) (hc : c < 112) (ht : t < 32) :
    (((((r * 112 + c) * 32 + t) / 256 % 14 * 32 + ((r * 112 + c) * 32 + t) % 32) * 8 + ((r * 112 + c) * 32 + t) / 32 % 8) * 18944
      + ((r * 112 + c) * 32 + t) / 3584) / 18944 = 256 * (c / 8) + 8 * t + c % 8 := by
  have e1 : ((r * 112 + c) * 32 + t) / 3584 = r := by omega
  have e2 : ((r * 112 + c) * 32 + t) / 256 % 14 = c / 8 := by omega
  have e3 : ((r * 112 + c) * 32 + t) % 32 = t := by omega
  have e4 : ((r * 112 + c) * 32 + t) / 32 % 8 = c % 8 := by omega
  rw [e1, e2, e3, e4]
  omega

theorem v48_at (hR : InRange x0 x1) (i : S18944x112x32.Idx) :
    val_main_v48 (F := Ideal) x0 x1 x2 x4 x5 r0 i
      = (fun g : EReal => max g (-g)) (Spec.grad x2 (tab x0) (tab x1) (Spec.ds r0 x4 x5)
          (256 * ((i 1).val / 8) + 8 * (i 2).val + (i 1).val % 8) (i 0).val) := by
  rw [val_main_v48_apply, val_main_v47_apply, val_main_v46_apply, val_main_v45_apply, v44_at hR]
  have h0 : (i 0).val < 18944 := (i 0).isLt
  have h1 : (i 1).val < 112 := (i 1).isLt
  have h2 : (i 2).val < 32 := (i 2).isLt
  refine congrArg₂ (fun a b => (fun g : EReal => max g (-g)) (Spec.grad x2 (tab x0) (tab x1) (Spec.ds r0 x4 x5) a b)) ?_ ?_
  · exact chan_row h0 h1 h2
  · show ((((((i 0).val * 112 + (i 1).val) * 32 + (i 2).val) / 256 % 14 * 32 + (((i 0).val * 112 + (i 1).val) * 32 + (i 2).val) % 32) * 8
      + (((i 0).val * 112 + (i 1).val) * 32 + (i 2).val) / 32 % 8) * 18944 + (((i 0).val * 112 + (i 1).val) * 32 + (i 2).val) / 3584) % 18944 = _
    rw [show (((i 0).val * 112 + (i 1).val) * 32 + (i 2).val) / 3584 = (i 0).val by omega]
    omega

/-- A bit of a byte, as the reference reads it. -/
theorem bit_word : ∀ (b : BitVec 8) (u : Fin 8),
    IntOp.cmpi .eq (IntOp.andi (IntOp.shrsi .host (b.setWidth 32) (BitVec.ofNat 32 u.val)) 1#32) 1#32 = BitVec.ofBool (b.getLsbD u.val) := by
  decide +kernel

theorem v60_at (i : S18944x112x32.Idx) :
    val_main_v60 (F := Ideal) x8 i = BitVec.ofBool (Spec.act x8 (i 0).val (i 1).val (i 2).val) := by
  rw [val_main_v60_apply, val_main_v58_apply, val_main_v57_apply, val_main_v55_apply, val_main_v53_apply, val_main_v50_apply,
    val_main_v49_apply, val_main_v54_apply, val_main_v52_apply, val_main_v51_apply, val_main_v56_apply, val_main_v59_apply]
  have h0 : (i 0).val < 18944 := (i 0).isLt
  have h1 : (i 1).val < 112 := (i 1).isLt
  have h2 : (i 2).val < 32 := (i 2).isLt
  refine (bit_word (x8 (idx_main_v50 (idx_main_v53 (idx_main_v58 i)))) ⟨(((i 0).val * 112 + (i 1).val) * 32 + (i 2).val) % 8, by omega⟩).trans ?_
  unfold Spec.act
  have e : at2 x8 (i 0).val (4 * (i 1).val + (i 2).val / 8) = x8 (idx_main_v50 (idx_main_v53 (idx_main_v58 i))) := by
    refine at2_eq x8 _ ?_ ?_
    · show (((i 0).val * 112 + (i 1).val) * 32 + (i 2).val) / 3584 = _
      omega
    · show (((i 0).val * 112 + (i 1).val) * 32 + (i 2).val) / 8 % 448 = _
      omega
  rw [e]
  show BitVec.ofBool (BitVec.getLsbD _ ((((i 0).val * 112 + (i 1).val) * 32 + (i 2).val) % 8)) = _
  rw [show (((i 0).val * 112 + (i 1).val) * 32 + (i 2).val) % 8 = (i 2).val % 8 by omega]

theorem zero_f32 : FloatOps.ofBits (F := Ideal) .f32 0x00000000#32 = (0 : EReal) := Ideal.ofBits_zero_f32

theorem v61_at (hR : InRange x0 x1) (i : S18944x112x32.Idx) :
    val_main_v61 (F := Ideal) x0 x1 x2 x4 x5 x8 r0 i
      = Spec.score x8 (Spec.grad x2 (tab x0) (tab x1) (Spec.ds r0 x4 x5)) (i 0).val (i 1).val (i 2).val := by
  rw [val_main_v61_apply, v60_at, v48_at hR, val_main_call5_v1_apply, select_ofBool]
  unfold Spec.score
  refine if_congr Iff.rfl ?_ rfl
  exact zero_f32

/-- The reference's row sums. -/
theorem v62_at (hR : InRange x0 x1) (i : S18944x112.Idx) :
    val_main_v62 (F := Ideal) x0 x1 x2 x4 x5 x8 r0 i
      = Spec.growSum x8 (Spec.grad x2 (tab x0) (tab x1) (Spec.ds r0 x4 x5)) (i 0).val (i 1).val := by
  rw [val_main_v62_apply, val_main_cst_11_apply]
  refine (congrArg (· + _) zero_f32).trans ((zero_add _).trans ?_)
  unfold Spec.growSum
  exact Finset.sum_congr rfl fun k _ => v61_at hR _

/-! ## Blocks of 32 rows by 32 channels -/

theorem idx63 (R c : ℕ) (p t : Fin 32) (hR : R < 592) (hc : c < 112) :
    (((R * 32 + p.val) * 112 + c) * 32 + t.val) / 3584 = 32 * R + p.val
      ∧ (((R * 32 + p.val) * 112 + c) * 32 + t.val) / 32 % 112 = c ∧ (((R * 32 + p.val) * 112 + c) * 32 + t.val) % 32 = t.val := by
  have := p.isLt
  have := t.isLt
  refine ⟨?_, ?_, ?_⟩ <;> omega

/-- The elements of a block. -/
theorem fiber_block (j : S592x112.Idx) (i : S592x32x112x32.Idx) :
    reducesTo_S592x32x112x32_S592x112_d1_3.drop i = j ↔ ∃ k : Fin 32 × Fin 32, (ValueIdx.ix4 (j 0) k.1 (j 1) k.2 : S592x32x112x32.Idx) = i := by
  constructor
  · intro e
    refine ⟨(i 1, i 3), ?_⟩
    funext a
    apply Fin.ext
    match a with
    | ⟨0, _⟩ => exact (congrArg Fin.val (congrFun e 0)).symm
    | ⟨1, _⟩ => rfl
    | ⟨2, _⟩ => exact (congrArg Fin.val (congrFun e 1)).symm
    | ⟨3, _⟩ => rfl
  · rintro ⟨k, rfl⟩
    funext b
    apply Fin.ext
    match b with
    | ⟨0, _⟩ => rfl
    | ⟨1, _⟩ => rfl

theorem block_injective (j : S592x112.Idx) :
    Function.Injective fun k : Fin 32 × Fin 32 => (ValueIdx.ix4 (j 0) k.1 (j 1) k.2 : S592x32x112x32.Idx) :=
  fun _ _ e => Prod.ext (congrFun e 1) (congrFun e 3)

/-- A block's elements, read through the reference's reshape. -/
theorem block_at (f : S18944x112x32.Idx → EReal) (g : ℕ → ℕ → ℕ → EReal) (h : ∀ i, f i = g (i 0).val (i 1).val (i 2).val)
    (j : S592x112.Idx) (k : Fin 32 × Fin 32) :
    f (idx_main_v63 (ValueIdx.ix4 (j 0) k.1 (j 1) k.2)) = g (32 * (j 0).val + k.1.val) (j 1).val k.2.val := by
  obtain ⟨e0, e1, e2⟩ := idx63 (j 0).val (j 1).val k.1 k.2 (j 0).isLt (j 1).isLt
  rw [h]
  refine (congrArg₂ (fun a b => g a b _) e0 e1).trans ?_
  exact congrArg _ e2

theorem bot_f32 : FloatOps.ofBits (F := Ideal) .f32 0xFF800000#32 = (⊥ : EReal) := by
  show Ideal.ofBits .f32 0xFF800000#32 = _
  simp [Ideal.ofBits, Ideal.ieee]

/-- The reference's block maxima. -/
theorem v64_at (hR : InRange x0 x1) (i : S592x112.Idx) :
    val_main_v64 (F := Ideal) x0 x1 x2 x4 x5 x8 r0 i
      = Spec.growMax x8 (Spec.grad x2 (tab x0) (tab x1) (Spec.ds r0 x4 x5)) (i 0).val (i 1).val := by
  unfold val_main_v64
  rw [Host.reduce_eq_fold, Finset.fold_filter_eq_fold_of_fiber _ _ _ (block_injective i) (fiber_block i), val_main_cst_12_apply]
  refine (congrArg (fun b : EReal => Finset.fold max b _ Finset.univ) bot_f32).trans ?_
  unfold Spec.growMax
  refine Finset.fold_congr fun k _ => ?_
  rw [val_main_v63_apply]
  exact block_at _ _ (fun j => v61_at hR j) i k

end Cert.ReferenceIdeal.Read
-- ==== Proof.Codes.lean ====
/- The magnitudes of the eight-bit weight codes over the extended reals. -/
module

public import proofs.«01_k».proof.Proof.Spec

@[expose] public section

noncomputable section

namespace Cert.Spec

open Idealize.ShloMosaic
open Cert.KernelIdeal.Body (at2)

/-- A code's magnitude in units of the smallest positive one. -/
def units (b : BitVec 8) : ℕ :=
  if (b.extractLsb' 3 4).toNat = 0 then (b.extractLsb' 0 3).toNat
  else (8 + (b.extractLsb' 0 3).toNat) * 2 ^ ((b.extractLsb' 3 4).toNat - 1)

theorem units_low : ∀ b : BitVec 8, units (b &&& 127#8) = units b := by decide +kernel

theorem units_mono : ∀ a b : BitVec 8, a.toNat ≤ b.toNat → b.toNat < 127 → units a ≤ units b := by decide +kernel

theorem not_nan : ∀ b : BitVec 8, b &&& 127#8 ≠ 127#8 → ¬((b.extractLsb' 3 4).toNat = 15 ∧ (b.extractLsb' 0 3).toNat = 7) := by
  decide +kernel

/-- The value of a code. -/
def dec (b : BitVec 8) : EReal := FloatOps.ofBits (F := Ideal) .fp8e4m3 b

theorem dec_eq (b : BitVec 8) (h : b &&& 127#8 ≠ 127#8) :
    dec b = (((if (b.extractLsb' 7 1 == 1#1) = true then -1 else 1) * ((units b : ℝ) * (2 : ℝ) ^ (-9 : ℤ)) : ℝ) : EReal) := by
  have hn := not_nan b h
  show Ideal.e4m3fn b = _
  unfold Ideal.e4m3fn units
  generalize (b.extractLsb' 3 4).toNat = ex at hn ⊢
  generalize (b.extractLsb' 0 3).toNat = fr at hn ⊢
  simp only [if_neg hn]
  by_cases h0 : ex = 0
  · rw [if_pos h0, if_pos h0, mul_assoc]
  · rw [if_neg h0, if_neg h0]
    congr 1
    rw [mul_assoc]
    congr 1
    obtain ⟨e, rfl⟩ : ∃ e, ex = e + 1 := ⟨ex - 1, by omega⟩
    rw [Nat.add_sub_cancel, Nat.cast_mul, Nat.cast_pow, mul_assoc]
    congr 1
    rw [show (((e + 1 : ℕ) : ℤ) - 10) = (e : ℤ) + (-9) by push_cast; ring, zpow_add₀ (by norm_num), zpow_natCast]
    norm_num

theorem dec_low (b : BitVec 8) (h : b &&& 127#8 ≠ 127#8) : dec (b &&& 127#8) = ((units b * (2 : ℝ) ^ (-9 : ℤ) : ℝ) : EReal) := by
  have e1 : ∀ b : BitVec 8, b &&& 127#8 &&& 127#8 = b &&& 127#8 := by decide +kernel
  have e2 : ∀ b : BitVec 8, ((b &&& 127#8).extractLsb' 7 1 == 1#1) = false := by decide +kernel
  rw [dec_eq _ (by rw [e1]; exact h), e2, units_low, if_neg (by decide), one_mul]

theorem dec_low_nonneg (b : BitVec 8) (h : b &&& 127#8 ≠ 127#8) : 0 ≤ dec (b &&& 127#8) := by
  rw [dec_low b h]
  exact EReal.coe_nonneg.2 (by positivity)

/-- Clearing the sign of a code that is not the NaN takes its magnitude. -/
theorem mag_eq (b : BitVec 8) (h : b &&& 127#8 ≠ 127#8) : mag b = dec (b &&& 127#8) := by
  rw [dec_low b h]
  show max (dec b) (-(dec b)) = _
  have hp : (0 : ℝ) ≤ units b * (2 : ℝ) ^ (-9 : ℤ) := by positivity
  rw [dec_eq b h, ← EReal.coe_neg]
  split_ifs
  · rw [neg_one_mul, neg_neg]; exact max_eq_right (EReal.coe_le_coe_iff.2 (by linarith))
  · rw [one_mul]; exact max_eq_left (EReal.coe_le_coe_iff.2 (by linarith))

theorem dec_mono (a b : BitVec 8) (h : a.toNat ≤ b.toNat) (hb : b.toNat < 127) : dec a ≤ dec b := by
  have low : ∀ b : BitVec 8, b.toNat < 127 → b &&& 127#8 = b ∧ b ≠ 127#8 := by decide +kernel
  obtain ⟨a1, a2⟩ := low a (by omega)
  obtain ⟨b1, b2⟩ := low b hb
  have ea := dec_low a (by rw [a1]; exact a2)
  have eb := dec_low b (by rw [b1]; exact b2)
  rw [a1] at ea
  rw [b1] at eb
  rw [ea, eb, EReal.coe_le_coe_iff]
  exact mul_le_mul_of_nonneg_right (Nat.cast_le.2 (units_mono a b h hb)) (by positivity)

/-! ## The weight scores' conditions -/

/-- No active weight of the block is the NaN code. -/
def NumOk (mb : Mat 18944 448 (BitVec 8)) (w : Mat 18944 3584 (BitVec 8)) (R c : ℕ) : Prop :=
  ∀ p t : ℕ, p < 32 → t < 32 → act mb (32 * R + p) c t = true → at2 w (32 * R + p) (32 * c + t) &&& 127#8 ≠ 127#8

/-- No active weight of the block has a negative scale. -/
def UpOk (mb : Mat 18944 448 (BitVec 8)) (ws : (⟨3, ![37, 32, 128]⟩ : Shape).Idx → EReal) (R c : ℕ) : Prop :=
  ∀ p t : ℕ, p < 32 → t < 32 → act mb (32 * R + p) c t = true → 0 ≤ scale ws (32 * R + p) c

/-- The smallest scaled magnitude of the block's active weights, zero where none is active or none is finite. -/
def dropMin (mb : Mat 18944 448 (BitVec 8)) (w : Mat 18944 3584 (BitVec 8)) (ws : (⟨3, ![37, 32, 128]⟩ : Shape).Idx → EReal) (R c : ℕ) : EReal :=
  if dropInf mb w ws R c = ⊤ then 0 else dropInf mb w ws R c

end Cert.Spec
-- ==== Proof.RefDrop.lean ====
/- The reference's weight scores, over the extended reals. -/
module

public import proofs.«01_k».proof.Proof.RefGrow
public import proofs.«01_k».proof.Proof.Codes

@[expose] public section

noncomputable section

namespace Cert.ReferenceIdeal.Read

open Idealize.ShloMosaic
open Cert.ReferenceIdeal Cert.ReferenceIdeal.Gen
open Cert.KernelIdeal.Body (at2 at2_eq)

variable {x6 : S18944x3584.Idx → BitVec 8} {x7 : S37x32x128.Idx → EReal} {x8 : S18944x448.Idx → BitVec 8}

/-- The decoded weights. -/
abbrev decoded (x6 : S18944x3584.Idx → BitVec 8) : S18944x3584.Idx → EReal := fun i => FloatOps.ofBits (F := Ideal) .fp8e4m3 (x6 i)

theorem top_f32 : FloatOps.ofBits (F := Ideal) .f32 0x7F800000#32 = (⊤ : EReal) := by
  show Ideal.ofBits .f32 0x7F800000#32 = _
  simp [Ideal.ofBits, Ideal.ieee]

/-- The scales, one to a row and channel block. -/
theorem v70_at (i : S18944x112.Idx) : val_main_v70 (F := Ideal) x7 i = Spec.scale x7 (i 0).val (i 1).val := by
  rw [val_main_v70_apply, val_main_v69_apply, val_main_v68_apply, val_main_v67_apply, val_main_v66_apply, val_main_v65_apply]
  have h0 : (i 0).val < 18944 := (i 0).isLt
  have h1 : (i 1).val < 112 := (i 1).isLt
  have e1 : idx_main_v68 (idx_main_v69 (idx_main_v70 i)) = ValueIdx.ix2 (i 0) (⟨(i 1).val % 8, Nat.mod_lt _ (by decide)⟩ : Fin 8) := by
    refine Shape.idx_ext₂ ?_ ?_
    · show (((0 * 18944 + ((i 0).val * 112 + (i 1).val) / 112 % 18944) * 1 + 0) * 8 + ((i 0).val * 112 + (i 1).val) % 8) / 8 = (i 0).val
      omega
    · show (((0 * 18944 + ((i 0).val * 112 + (i 1).val) / 112 % 18944) * 1 + 0) * 8 + ((i 0).val * 112 + (i 1).val) % 8) % 8 = (i 1).val % 8
      omega
  rw [e1]
  have key : ∀ (r : Fin 18944) (a : Fin 8), idx_main_v65 (idx_main_v66 (idx_main_v67 (ValueIdx.ix2 r a)))
      = ValueIdx.ix3 (Fin.ofNat 37 (r.val / 512)) (Fin.ofNat 32 (4 * a.val + r.val % 4)) (Fin.ofNat 128 (r.val % 512 / 4)) := by
    intro r a
    have hr := r.isLt
    have ha := a.isLt
    have e0 : (r.val * 8 + a.val) / 4096 = r.val / 512 := by omega
    have e1 : (r.val * 8 + a.val) / 32 % 128 = r.val % 512 / 4 := by omega
    have e2 : (r.val * 8 + a.val) / 8 % 4 = r.val % 4 := by omega
    have e3 : (r.val * 8 + a.val) % 8 = a.val := by omega
    have hq : r.val / 512 < 37 := by omega
    have hb : r.val % 4 < 4 := by omega
    have hl : r.val % 512 / 4 < 128 := by omega
    funext d
    refine Fin.ext ?_
    match d with
    | ⟨0, _⟩ =>
      show ((((r.val * 8 + a.val) / 4096 * 8 + (r.val * 8 + a.val) % 8) * 4 + (r.val * 8 + a.val) / 8 % 4) * 128 + (r.val * 8 + a.val) / 32 % 128) / 4096
        = r.val / 512 % 37
      rw [e0, e1, e2, e3]
      generalize r.val / 512 = q at hq
      generalize r.val % 4 = b at hb
      generalize r.val % 512 / 4 = l at hl
      omega
    | ⟨1, _⟩ =>
      show ((((r.val * 8 + a.val) / 4096 * 8 + (r.val * 8 + a.val) % 8) * 4 + (r.val * 8 + a.val) / 8 % 4) * 128 + (r.val * 8 + a.val) / 32 % 128) / 128 % 32
        = (4 * a.val + r.val % 4) % 32
      rw [e0, e1, e2, e3]
      generalize r.val / 512 = q at hq
      generalize r.val % 4 = b at hb
      generalize r.val % 512 / 4 = l at hl
      omega
    | ⟨2, _⟩ =>
      show ((((r.val * 8 + a.val) / 4096 * 8 + (r.val * 8 + a.val) % 8) * 4 + (r.val * 8 + a.val) / 8 % 4) * 128 + (r.val * 8 + a.val) / 32 % 128) % 128
        = r.val % 512 / 4 % 128
      rw [e0, e1, e2, e3]
      generalize r.val / 512 = q at hq
      generalize r.val % 4 = b at hb
      generalize r.val % 512 / 4 = l at hl
      omega
  exact congrArg x7 (key (i 0) _)

/-- The scaled magnitudes. -/
theorem v75_at (i : S18944x112x32.Idx) :
    val_main_v75 (F := Ideal) x7 (decoded x6) i = Spec.wmag x6 x7 (i 0).val (i 1).val (i 2).val := by
  rw [val_main_v75_apply, val_main_v72_apply, val_main_v71_apply, val_main_v74_apply, val_main_v73_apply, v70_at]
  have h0 : (i 0).val < 18944 := (i 0).isLt
  have h1 : (i 1).val < 112 := (i 1).isLt
  have h2 : (i 2).val < 32 := (i 2).isLt
  unfold Spec.wmag
  have e : at2 x6 (i 0).val (32 * (i 1).val + (i 2).val) = x6 (idx_main_v72 i) := by
    refine at2_eq x6 _ ?_ ?_
    · show (((i 0).val * 112 + (i 1).val) * 32 + (i 2).val) / 3584 = _
      omega
    · show (((i 0).val * 112 + (i 1).val) * 32 + (i 2).val) % 3584 = _
      omega
  rw [e]
  rfl

theorem select_bool (b : Bool) (x y : EReal) : Scalar.select (BitVec.ofBool b) x y = if b = true then x else y := by
  cases b <;> rfl

/-- The active weights' scaled magnitudes, infinite elsewhere. -/
theorem v76_at (i : S18944x112x32.Idx) : (val_main_v76 (F := Ideal) x7 x8 (decoded x6) i : EReal)
    = if Spec.act x8 (i 0).val (i 1).val (i 2).val = true then Spec.wmag x6 x7 (i 0).val (i 1).val (i 2).val else ⊤ := by
  rw [val_main_v76_apply, v60_at, v75_at, val_main_call6_v1_apply, select_bool]
  exact if_congr Iff.rfl rfl top_f32

/-- The active weights' scaled magnitudes, zero elsewhere. -/
theorem v81_at (i : S18944x112x32.Idx) : (val_main_v81 (F := Ideal) x7 x8 (decoded x6) i : EReal)
    = if Spec.act x8 (i 0).val (i 1).val (i 2).val = true then Spec.wmag x6 x7 (i 0).val (i 1).val (i 2).val else 0 := by
  rw [val_main_v81_apply, v60_at, v75_at, val_main_call9_v1_apply, select_bool]
  exact if_congr Iff.rfl rfl zero_f32

/-- The reference's block sums. -/
theorem v83_at (i : S592x112.Idx) :
    val_main_v83 (F := Ideal) x7 x8 (decoded x6) i = Spec.dropSum x8 x6 x7 (i 0).val (i 1).val := by
  unfold val_main_v83
  generalize hy : val_main_v82 (F := Ideal) x7 x8 (decoded x6) = y
  simp only [Host.reduceAdd, Ideal.hostReduceAdd_def]
  unfold Ideal.hostReduceAdd
  rw [Finset.sum_filter_eq_sum_of_fiber _ _ (block_injective i) (fiber_block i)]
  refine (congrArg (fun x : EReal => x + _) zero_f32).trans ((zero_add _).trans ?_)
  unfold Spec.dropSum
  rw [← Finset.univ_product_univ, Finset.sum_product]
  refine Finset.sum_congr rfl fun p _ => Finset.sum_congr rfl fun t _ => ?_
  rw [← hy, val_main_v82_apply]
  exact block_at _ (fun r c t => if Spec.act x8 r c t = true then Spec.wmag x6 x7 r c t else 0) (fun j => v81_at j) i (p, t)

/-- The reference's block minima. -/
theorem v78_at (i : S592x112.Idx) :
    val_main_v78 (F := Ideal) x7 x8 (decoded x6) i = Spec.dropInf x8 x6 x7 (i 0).val (i 1).val := by
  unfold val_main_v78
  rw [Host.reduce_eq_fold, Finset.fold_filter_eq_fold_of_fiber _ _ _ (block_injective i) (fiber_block i), val_main_cst_14_apply]
  refine (congrArg (fun b : EReal => Finset.fold min b _ Finset.univ) top_f32).trans ?_
  unfold Spec.dropInf
  refine Finset.fold_congr fun k _ => ?_
  rw [val_main_v77_apply]
  exact block_at _ (fun r c t => if Spec.act x8 r c t = true then Spec.wmag x6 x7 r c t else ⊤) (fun j => v76_at j) i k

theorem dropInf_nonneg {R c : ℕ} (h : Spec.UpOk x8 x7 R c) : 0 ≤ Spec.dropInf x8 x6 x7 R c := by
  unfold Spec.dropInf
  rw [Finset.le_inf_iff]
  rintro ⟨p, t⟩ -
  show 0 ≤ ite _ _ _
  split_ifs with ha
  · exact mul_nonneg (Spec.abs_nonneg _) (h p.val t.val p.isLt t.isLt ha)
  · exact le_top

theorem abs_top (x : EReal) (h : 0 ≤ x) : max x (-x) = x := by
  refine max_eq_left (le_trans ?_ h)
  simpa using EReal.neg_le_neg_iff.2 h

theorem sel_top (x y : EReal) : Scalar.select (Ideal.cmp .oeq x ⊤) (0 : EReal) y = if x = ⊤ then 0 else y := by
  by_cases h : x = ⊤
  · rw [if_pos h]
    simp [Ideal.cmp, h, Scalar.select]
  · rw [if_neg h]
    simp [Ideal.cmp, h, Scalar.select]

/-- The reference's block minima, zero in place of infinity. -/
theorem v80_at (i : S592x112.Idx) (h : Spec.UpOk x8 x7 (i 0).val (i 1).val) :
    val_main_v80 (F := Ideal) x7 x8 (decoded x6) i = Spec.dropMin x8 x6 x7 (i 0).val (i 1).val := by
  rw [val_main_v80_apply, val_main_v79_apply, val_main_call7_v0_apply, val_main_call7_v1_apply, val_main_call8_v1_apply, v78_at]
  unfold Spec.dropMin
  have hn : (0 : EReal) ≤ Spec.dropInf x8 x6 x7 (i 0).val (i 1).val := dropInf_nonneg h
  generalize Spec.dropInf x8 x6 x7 (i 0).val (i 1).val = d at hn
  rw [val_main_call7_cst_apply, val_main_call8_v0_apply, val_main_cst_15_apply, top_f32, zero_f32]
  show Scalar.select (Ideal.cmp .oeq (max d (-d)) ⊤) (0 : EReal) d = _
  rw [abs_top d hn, sel_top]

end Cert.ReferenceIdeal.Read
-- ==== Proof.RefSide.lean ====
/- What the reference's run leaves, as functions of its arguments. -/
module

public import proofs.«01_k».proof.Proof.RefDrop
public import Idealize.ShloMosaic.Lib.Pipeline.ValueKit

@[expose] public section

noncomputable section

namespace Cert.ReferenceIdeal.Value

open Idealize.ShloMosaic Idealize.ShloMosaic.TcCoe Idealize.SL.Sem
open Cert.ReferenceIdeal Cert.ReferenceIdeal.Gen

variable (m : (ℓ : Loc nD τ sig) → Buf (Elt Ideal) ℓ)

/-- The decoded gradient codes. -/
theorem reg_dy (c : Dev nD) : reg_main_v0_0 m c = (m ((c.tc : Thread nD τ).loc main_arg3) : S1536x18944.Idx → EReal) := by
  unfold reg_main_v0_0
  refine (dats m 0 c).arrAt_eq_of_after_last 2 t0_0 (by decide +kernel) _ fun j => ?_
  blk_simp
  rw [after0_2]
  frame_out
  blk_point [iblk, V]
  · rw [show win0_0.index t0_0 0 = 0 from rfl, Nat.zero_mul, Nat.zero_add]
  · rw [show win0_0.index t0_0 1 = 0 from rfl, Nat.zero_mul, Nat.zero_add]

/-- The decoded weight codes. -/
theorem reg_w (c : Dev nD) : reg_main_v0_1 m c
    = fun i => FloatOps.ofBits (F := Ideal) .fp8e4m3 ((m ((c.tc : Thread nD τ).loc main_arg6) : S18944x3584.Idx → BitVec 8) i) := by
  unfold reg_main_v0_1
  refine (dats m 0 c).arrAt_eq_of_after_last 3 t0_0 (by decide +kernel) _ fun j => ?_
  blk_simp
  rw [after0_3]
  frame_out
  blk_point [iblk, V]
  · rw [show win0_1.index t0_0 0 = 0 from rfl, Nat.zero_mul, Nat.zero_add]
  · rw [show win0_1.index t0_0 1 = 0 from rfl, Nat.zero_mul, Nat.zero_add]

open Cert.Spec (tab)
open Cert.KernelIdeal.Body (InRange)

section Left

variable (c : Dev nD) {x0 x1 : S48.Idx → BitVec 32} {x2 : S3584x1536.Idx → EReal} {x3 : S1536x18944.Idx → EReal} {x4 : S1536x128.Idx → EReal}
  {x5 : S1536x128.Idx → BitVec 8} {x8 : S18944x448.Idx → BitVec 8}
  (h0 : m ((c.tc : Thread nD τ).loc main_arg0) = x0) (h1 : m ((c.tc : Thread nD τ).loc main_arg1) = x1)
  (h2 : m ((c.tc : Thread nD τ).loc main_arg2) = x2) (h3 : m ((c.tc : Thread nD τ).loc main_arg3) = x3)
  (h4 : m ((c.tc : Thread nD τ).loc main_arg4) = x4) (h5 : m ((c.tc : Thread nD τ).loc main_arg5) = x5)
  (h8 : m ((c.tc : Thread nD τ).loc main_arg8) = x8) (hR : InRange x0 x1)

include h0 h1 h2 h3 h4 h5 h8 hR

/-- The largest scores left. -/
theorem left_64 (i : S592x112.Idx) :
    Read.val_main_v64 (F := Ideal) (exitV m c (Proc.devRef .tc main_arg0)) (exitV m c (Proc.devRef .tc main_arg1)) (exitV m c (Proc.devRef .tc main_arg2))
      (exitV m c (Proc.devRef .tc main_arg4)) (exitV m c (Proc.devRef .tc main_arg5)) (exitV m c (Proc.devRef .tc main_arg8)) (exitV m c (Proc.devRef .tc main_v0_0)) i
      = Spec.growMax x8 (Spec.grad x2 (tab x0) (tab x1) (Spec.ds x3 x4 x5)) (i 0).val (i 1).val := by
  rw [exit_main_arg0, exit_main_arg1, exit_main_arg2, exit_main_arg4, exit_main_arg5, exit_main_arg8, exit_main_v0_0, reg_dy, h0, h1, h2, h3, h4, h5, h8]
  exact Read.v64_at hR i

/-- The row sums of scores left. -/
theorem left_62 (i : S18944x112.Idx) :
    Read.val_main_v62 (F := Ideal) (exitV m c (Proc.devRef .tc main_arg0)) (exitV m c (Proc.devRef .tc main_arg1)) (exitV m c (Proc.devRef .tc main_arg2))
      (exitV m c (Proc.devRef .tc main_arg4)) (exitV m c (Proc.devRef .tc main_arg5)) (exitV m c (Proc.devRef .tc main_arg8)) (exitV m c (Proc.devRef .tc main_v0_0)) i
      = Spec.growSum x8 (Spec.grad x2 (tab x0) (tab x1) (Spec.ds x3 x4 x5)) (i 0).val (i 1).val := by
  rw [exit_main_arg0, exit_main_arg1, exit_main_arg2, exit_main_arg4, exit_main_arg5, exit_main_arg8, exit_main_v0_0, reg_dy, h0, h1, h2, h3, h4, h5, h8]
  exact Read.v62_at hR i

end Left

section LeftDrop

variable (c : Dev nD) {x6 : S18944x3584.Idx → BitVec 8} {x7 : S37x32x128.Idx → EReal} {x8 : S18944x448.Idx → BitVec 8}
  (h6 : m ((c.tc : Thread nD τ).loc main_arg6) = x6) (h7 : m ((c.tc : Thread nD τ).loc main_arg7) = x7) (h8 : m ((c.tc : Thread nD τ).loc main_arg8) = x8)

include h6 h7 h8

/-- The smallest weights left. -/
theorem left_80 (i : S592x112.Idx) (hU : Spec.UpOk x8 x7 (i 0).val (i 1).val) :
    Read.val_main_v80 (F := Ideal) (exitV m c (Proc.devRef .tc main_arg7)) (exitV m c (Proc.devRef .tc main_arg8)) (exitV m c (Proc.devRef .tc main_v0_1)) i
      = Spec.dropMin x8 x6 x7 (i 0).val (i 1).val := by
  rw [exit_main_arg7, exit_main_arg8, exit_main_v0_1, reg_w, h6, h7, h8]
  exact Read.v80_at i hU

/-- The sums of weights left. -/
theorem left_83 (i : S592x112.Idx) :
    Read.val_main_v83 (F := Ideal) (exitV m c (Proc.devRef .tc main_arg7)) (exitV m c (Proc.devRef .tc main_arg8)) (exitV m c (Proc.devRef .tc main_v0_1)) i
      = Spec.dropSum x8 x6 x7 (i 0).val (i 1).val := by
  rw [exit_main_arg7, exit_main_arg8, exit_main_v0_1, reg_w, h6, h7, h8]
  exact Read.v83_at i

end LeftDrop

end Cert.ReferenceIdeal.Value
-- ==== Proof.Bytes.lean ====
/- The bytes of a word under the kernel's word operations. -/
module

public import proofs.«01_k».proof.Proof.Contents
public import Idealize.ShloMosaic.Lib.BitcastPair

@[expose] public section

noncomputable section

namespace Cert.KernelIdeal.Body

open Idealize.ShloMosaic Idealize.ShloMosaic.ValueIdx
open Cert.KernelIdeal

/-- Byte `k` of a word. -/
def byte (x : BitVec 32) (k : ℕ) : BitVec 8 := x.extractLsb' (8 * k) 8

theorem byte_getLsbD (x : BitVec 32) (k q : ℕ) (hq : q < 8) : (byte x k).getLsbD q = x.getLsbD (8 * k + q) := by
  unfold byte
  rw [BitVec.getLsbD_extractLsb']
  simp [hq]

theorem byte_and (x y : BitVec 32) (k : ℕ) : byte (x &&& y) k = byte x k &&& byte y k := by
  apply BitVec.eq_of_getLsbD_eq
  intro q hq
  rw [BitVec.getLsbD_and, byte_getLsbD _ _ _ hq, byte_getLsbD _ _ _ hq, byte_getLsbD _ _ _ hq, BitVec.getLsbD_and]

theorem byte_xor (x y : BitVec 32) (k : ℕ) : byte (x ^^^ y) k = byte x k ^^^ byte y k := by
  apply BitVec.eq_of_getLsbD_eq
  intro q hq
  rw [BitVec.getLsbD_xor, byte_getLsbD _ _ _ hq, byte_getLsbD _ _ _ hq, byte_getLsbD _ _ _ hq, BitVec.getLsbD_xor]

theorem byte_word4 (b : ℕ → BitVec 8) (k : ℕ) (hk : k < 4) : byte (word4 b) k = b k := by
  apply BitVec.eq_of_getLsbD_eq
  intro q hq
  rw [byte_getLsbD _ _ _ hq, word4_getLsbD _ _ (by omega), show (8 * k + q) / 8 = k by omega, show (8 * k + q) % 8 = q by omega]

theorem eq_word4 (x : BitVec 32) : x = word4 (byte x) := by
  apply BitVec.eq_of_getLsbD_eq
  intro q hq
  rw [word4_getLsbD _ _ hq, byte_getLsbD _ _ _ (by omega), Nat.div_add_mod]

/-- A word read as bytes: four rows of a column to a word. -/
theorem bitcast_byte {R r n : ℕ} [NeZero r] [NeZero n] (x : (⟨2, ![r, n]⟩ : Shape).Idx → BitVec 32)
    (h : (⟨2, ![r, n]⟩ : Shape).Bitcasts 32 ⟨2, ![R, n]⟩ 8) (hR : R = 4 * r) (j : (⟨2, ![R, n]⟩ : Shape).Idx) :
    bitcast ⟨2, ![R, n]⟩ 8 x h j = byte (at2 x ((j 0).val / 4) (j 1).val) ((j 0).val % 4) := by
  have h0 : (j 0).val < R := (j 0).isLt
  apply BitVec.eq_of_getLsbD_eq
  intro q hq
  rw [byte_getLsbD _ _ _ hq, bitcast_getLsbD x h j q hq (by decide)]
  have er : (⟨2, ![R, n]⟩ : Shape).row j = (j 0).val := rfl
  have e1 : ((⟨2, ![R, n]⟩ : Shape).row j * 8 + q) / 32 = (j 0).val / 4 := by rw [er]; omega
  have e2 : ((⟨2, ![R, n]⟩ : Shape).row j * 8 + q) % 32 = 8 * ((j 0).val % 4) + q := by rw [er]; omega
  rw [e2]
  congr 1
  refine (at2_eq x _ ?_ ?_).symm
  · exact (h.srcIdx_row _ _ _ ⟨0, Nat.zero_lt_two⟩ rfl).trans e1
  · exact h.srcIdx_other _ _ _ ⟨1, Nat.one_lt_two⟩ (by show ¬ 1 + 2 = 2; omega)

/-- The low seven bits of each byte whose chosen bit is set. -/
theorem low7_word (m : BitVec 32) (s : ℕ) (hs : s < 8) :
    IntOp.muli (IntOp.andi (IntOp.shrui .vector m (BitVec.ofNat 32 s)) 16843009#32) 127#32
      = word4 fun k => if (byte m k).getLsbD s = true then 127#8 else 0#8 := by
  have e : IntOp.andi (IntOp.shrui .vector m (BitVec.ofNat 32 s)) 16843009#32 = word4 fun k => if (byte m k).getLsbD s = true then 1#8 else 0#8 := by
    apply BitVec.eq_of_getLsbD_eq
    intro q hq
    have hone : ∀ q : Fin 32, (16843009#32 : BitVec 32).getLsbD q.val = decide (q.val % 8 = 0) := by decide
    have hbyte : ∀ (b : Bool) (p : Fin 8), (if b = true then 1#8 else 0#8).getLsbD p.val = (b && decide (p.val = 0)) := by decide
    have hsh : IntOp.shrui .vector m (BitVec.ofNat 32 s) = m >>> s := by
      unfold IntOp.shrui
      have e0 : (BitVec.ofNat 32 s).toNat = s := by rw [BitVec.toNat_ofNat]; omega
      rw [if_pos (by rw [e0]; omega), BitVec.ushiftRight_eq', e0]
    rw [word4_getLsbD _ _ hq, hbyte _ ⟨q % 8, by omega⟩, hsh]
    show ((m >>> s) &&& 16843009#32).getLsbD q = _
    rw [BitVec.getLsbD_and, hone ⟨q, hq⟩, BitVec.getLsbD_ushiftRight, byte_getLsbD _ _ _ hs]
    by_cases h0 : q % 8 = 0
    · rw [show s + q = 8 * (q / 8) + s by omega]
    · simp [h0]
  rw [e]
  have fin : ∀ a b c d : Bool, IntOp.muli (word4 fun k => if (match k with | 0 => a | 1 => b | 2 => c | _ => d) = true then 1#8 else 0#8) 127#32
      = word4 fun k => if (match k with | 0 => a | 1 => b | 2 => c | _ => d) = true then 127#8 else 0#8 := by decide
  exact fin ((byte m 0).getLsbD s) ((byte m 1).getLsbD s) ((byte m 2).getLsbD s) ((byte m 3).getLsbD s)

theorem byte_low7 (m : IVec S8x128 32) (t : ℕ) (i : S8x128.Idx) (k : ℕ) (hk : k < 4) :
    byte (low7At m t i) k = if (byte (m i) k).getLsbD (t % 8) = true then 127#8 else 0#8 := by
  show byte (IntOp.muli (IntOp.andi (IntOp.shrui .vector (m i) (BitVec.ofNat 32 (t % 8))) 16843009#32) 127#32) k = _
  rw [low7_word _ _ (Nat.mod_lt _ (by decide)), byte_word4 _ _ hk]

/-- Taking small bytes from `0x7F` does not borrow. -/
theorem byte_sub (x : BitVec 32) (h : ∀ k, k < 4 → (byte x k).toNat ≤ 127) (k : ℕ) (hk : k < 4) :
    byte (IntOp.subi 2139062143#32 x) k = 127#8 - byte x k := by
  have key : ∀ b : BitVec 8, b.toNat ≤ 127 → 127#8 - b = 127#8 ^^^ b := by decide +kernel
  rw [key _ (h k hk)]
  have e : IntOp.subi 2139062143#32 x = 2139062143#32 ^^^ x := by
    have hx : x &&& 2139062143#32 = x := by
      apply BitVec.eq_of_getLsbD_eq
      intro q hq
      have hb := h (q / 8) (by omega)
      have small : ∀ b : BitVec 8, b.toNat ≤ 127 → b.getLsbD 7 = false := by decide +kernel
      have hm : ∀ q : Fin 32, (2139062143#32 : BitVec 32).getLsbD q.val = decide (q.val % 8 ≠ 7) := by decide
      rw [BitVec.getLsbD_and, hm ⟨q, hq⟩]
      by_cases h7 : q % 8 = 7
      · have := small _ hb
        rw [byte_getLsbD _ _ _ (by decide), show 8 * (q / 8) + 7 = q by omega] at this
        rw [this]; rfl
      · simp [h7]
    have sx : (2139062143#32 ^^^ x) &&& x = 0#32 := by
      apply BitVec.eq_of_getLsbD_eq
      intro q hq
      have := congrArg (fun y : BitVec 32 => y.getLsbD q) hx
      simp only [BitVec.getLsbD_and] at this
      rw [BitVec.getLsbD_and, BitVec.getLsbD_xor]
      rcases h1 : x.getLsbD q with _ | _
      · simp
      · rw [h1] at this
        simp at this
        simp [this]
    have hor : (2139062143#32 ^^^ x) ||| x = 2139062143#32 := by
      apply BitVec.eq_of_getLsbD_eq
      intro q hq
      have := congrArg (fun y : BitVec 32 => y.getLsbD q) hx
      simp only [BitVec.getLsbD_and] at this
      rw [BitVec.getLsbD_or, BitVec.getLsbD_xor]
      rcases h1 : x.getLsbD q with _ | _
      · simp
      · rw [h1] at this
        simp at this
        simp [this]
    have hadd : (2139062143#32 ^^^ x) + x = 2139062143#32 := by
      rw [BitVec.add_eq_or_of_and_eq_zero _ _ sx, hor]
    show 2139062143#32 - x = _
    exact (BitVec.eq_sub_iff_add_eq.2 hadd).symm
  have hs : ∀ k : Fin 4, byte 2139062143#32 k.val = 127#8 := by decide
  rw [e, byte_xor, hs ⟨k, hk⟩]

end Cert.KernelIdeal.Body
-- ==== Proof.DropRows.lean ====
/- The weight scores of one block of the kernel's rows, over the extended reals. -/
module

public import proofs.«01_k».proof.Proof.Bytes
public import proofs.«01_k».proof.Proof.Codes

@[expose] public section

noncomputable section

namespace Cert.KernelIdeal.Body

open Idealize.ShloMosaic
open Cert.KernelIdeal
open Cert.Spec (dec)

/-! ## One row of channels -/

theorem slt_small : ∀ x y : BitVec 8, x.toNat ≤ 127 → y.toNat ≤ 127 → y.slt x = decide (y.toNat < x.toNat) := by
  intro x y hx hy
  have ex : x.toInt = x.toNat := by rw [BitVec.toInt, if_pos (by omega)]
  have ey : y.toInt = y.toNat := by rw [BitVec.toInt, if_pos (by omega)]
  simp only [BitVec.slt, ex, ey, Int.ofNat_lt]

/-- The running maximum of small bytes. -/
theorem fold_best (f : ℕ → BitVec 8) (h : ∀ t, (f t).toNat ≤ 127) (n : ℕ) :
    (foldn IntOp.maxsi 0#8 f n).toNat ≤ 127 ∧ (∀ t, t < n → (f t).toNat ≤ (foldn IntOp.maxsi 0#8 f n).toNat)
      ∧ (foldn IntOp.maxsi 0#8 f n = 0#8 ∨ ∃ t, t < n ∧ f t = foldn IntOp.maxsi 0#8 f n) := by
  induction n with
  | zero => exact ⟨by simp [foldn], fun t ht => absurd ht (by omega), .inl rfl⟩
  | succ n ih =>
    obtain ⟨h1, h2, h3⟩ := ih
    have e : foldn IntOp.maxsi 0#8 f (n + 1)
        = if (f n).toNat < (foldn IntOp.maxsi 0#8 f n).toNat then foldn IntOp.maxsi 0#8 f n else f n := by
      show (if (f n).slt (foldn IntOp.maxsi 0#8 f n) then _ else _) = _
      rw [slt_small _ _ h1 (h n)]
      simp
    rw [e]
    split_ifs with hlt
    · refine ⟨h1, fun t ht => ?_, h3.imp_right fun ⟨t, ht, e⟩ => ⟨t, by omega, e⟩⟩
      rcases Nat.lt_succ_iff_lt_or_eq.1 ht with ht | rfl
      · exact h2 t ht
      · exact hlt.le
    · refine ⟨h n, fun t ht => ?_, .inr ⟨n, by omega, rfl⟩⟩
      rcases Nat.lt_succ_iff_lt_or_eq.1 ht with ht | rfl
      · exact (h2 t ht).trans (not_lt.1 hlt)
      · exact le_rfl

theorem ne_code (c : BitVec 8) : IntOp.cmpi .ne (c.signExtend 32) 127#32 = BitVec.ofBool (decide (c ≠ 127#8)) := by
  revert c; decide +kernel

theorem low_le (b : BitVec 8) : (b &&& 127#8).toNat ≤ 127 := by revert b; decide +kernel

theorem compl_code (b : BitVec 8) (h : b.toNat ≤ 127) : (127#8 ^^^ b).toNat = 127 - b.toNat := by revert b; decide +kernel

theorem sub_code (b : BitVec 8) (h : b.toNat ≤ 127) : (127#8 - b).toNat = 127 - b.toNat := by revert b; decide +kernel

/-- What a row's largest complement means: the smallest scaled magnitude of its active codes. -/
theorem row_min (act : ℕ → Bool) (code : ℕ → BitVec 8) (hc : ∀ t, (code t).toNat ≤ 127) (s : EReal)
    (hn : ∀ t, t < 32 → act t = true → code t ≠ 127#8) (hs : ∀ t, t < 32 → act t = true → 0 ≤ s) (b : EReal) :
    b ≤ Scalar.select (IntOp.cmpi .ne ((127#8 - foldn IntOp.maxsi 0#8 (fun t => if act t = true then 127#8 ^^^ code t else 0#8) 32).signExtend 32) 127#32)
        (dec (127#8 - foldn IntOp.maxsi 0#8 (fun t => if act t = true then 127#8 ^^^ code t else 0#8) 32) * s) (⊤ : EReal)
      ↔ ∀ t, t < 32 → b ≤ if act t = true then dec (code t) * s else ⊤ := by
  set f : ℕ → BitVec 8 := fun t => if act t = true then 127#8 ^^^ code t else 0#8 with hf
  have hsmall : ∀ t, (f t).toNat ≤ 127 := fun t => by
    simp only [hf]
    split_ifs
    · rw [compl_code _ (hc t)]; omega
    · decide
  obtain ⟨h1, h2, h3⟩ := fold_best f hsmall 32
  generalize foldn IntOp.maxsi 0#8 f 32 = B at h1 h2 h3
  have hlt : ∀ t, t < 32 → act t = true → (code t).toNat < 127 := fun t ht ha => by
    have := hc t
    have hne := hn t ht ha
    rcases Nat.lt_or_eq_of_le this with h | h
    · exact h
    · exact absurd (BitVec.eq_of_toNat_eq h) hne
  have hge : ∀ t, t < 32 → act t = true → 127 - (code t).toNat ≤ B.toNat := fun t ht ha => by
    have := h2 t ht
    simp only [hf] at this
    rwa [if_pos ha, compl_code _ (hc t)] at this
  rw [ne_code]
  by_cases hB : 127#8 - B = 127#8
  · have hB0 : B.toNat = 0 := by
      have := congrArg BitVec.toNat hB
      rw [sub_code _ h1] at this
      change 127 - B.toNat = 127 at this
      omega
    rw [decide_eq_false (not_not.2 hB)]
    refine ⟨fun _ t ht => ?_, fun _ => le_top⟩
    rw [if_neg fun ha => ?_]
    · exact le_top
    · have := hge t ht ha
      have := hlt t ht ha
      omega
  · have hB0 : B ≠ 0#8 := by rintro rfl; exact hB (by decide)
    obtain ⟨t0, ht0, e0⟩ := h3.resolve_left hB0
    have ha0 : act t0 = true := by
      by_contra hna
      apply hB0
      rw [← e0]
      simp only [hf]
      rw [if_neg hna]
    have hcode : 127#8 - B = code t0 := by
      apply BitVec.eq_of_toNat_eq
      rw [sub_code _ h1, ← e0]
      simp only [hf]
      rw [if_pos ha0, compl_code _ (hc t0)]
      have := hc t0
      omega
    rw [decide_eq_true hB, hcode]
    show b ≤ dec (code t0) * s ↔ _
    constructor
    · intro h t ht
      split_ifs with ha
      · refine h.trans ?_
        refine mul_le_mul_of_nonneg_right (Spec.dec_mono _ _ ?_ (hlt t ht ha)) (hs t ht ha)
        have e := congrArg BitVec.toNat e0
        simp only [hf] at e
        rw [if_pos ha0, compl_code _ (hc t0)] at e
        have := hge t ht ha
        have := hlt t0 ht0 ha0
        omega
      · exact le_top
    · intro h
      have := h t0 ht0
      rwa [if_pos ha0] at this

/-! ## The kernel's running state -/

variable (w : S512x3584.Idx → BitVec 8) (mb : S512x448.Idx → BitVec 8) (ws : S1x32x128.Idx → EReal)

/-- Whether channel `t` of channel block `cb` of row `r` is active. -/
def bact (r cb t : ℕ) : Bool := (at2 mb r (4 * cb + t / 8)).getLsbD (t % 8)
/-- The low seven bits of that channel's code. -/
def bcode (r cb t : ℕ) : BitVec 8 := at2 w r (32 * cb + t) &&& 127#8

theorem w_byte {ib t a l k : ℕ} (hib : ib < 14) (ht : t < 32) (ha : a < 8) (hl : l < 128) (hk : k < 4) :
    byte (at2 (fun j : S8x128.Idx => at2 (wtv w) (256 * ib + t + 32 * (j 0).val) (j 1).val) a l) k
      = at2 w (4 * l + k) (32 * (8 * ib + a) + t) := by
  show byte (word4 fun u => at2 w (4 * (l % 128 % 128) + u) ((256 * ib + t + 32 * (a % 8)) % 3584)) k = _
  rw [byte_word4 _ _ hk, Nat.mod_mod, Nat.mod_eq_of_lt hl, Nat.mod_eq_of_lt ha, Nat.mod_eq_of_lt (by omega),
    show 256 * ib + t + 32 * a = 32 * (8 * ib + a) + t by omega]

theorem m_byte {ib t a l k : ℕ} (hib : ib < 14) (ht : t < 32) (ha : a < 8) (hl : l < 128) (hk : k < 4) :
    byte (at2 (fun j : S8x128.Idx => at2 (mwv mb) (32 * ib + t / 8 + 4 * (j 0).val) (j 1).val) a l) k
      = at2 mb (4 * l + k) (4 * (8 * ib + a) + t / 8) := by
  show byte (word4 fun u => at2 mb (4 * (l % 128 % 128) + u) ((32 * ib + t / 8 + 4 * (a % 8)) % 448)) k = _
  rw [byte_word4 _ _ hk, Nat.mod_mod, Nat.mod_eq_of_lt hl, Nat.mod_eq_of_lt ha, Nat.mod_eq_of_lt (by omega),
    show 32 * ib + t / 8 + 4 * a = 4 * (8 * ib + a) + t / 8 by omega]

theorem dec_zero : dec 0#8 = 0 := by
  have := Spec.dec_low 0#8 (by decide)
  rw [show (0#8 : BitVec 8) &&& 127#8 = 0#8 by decide, show Spec.units 0#8 = 0 by decide] at this
  simpa using this

/-- The state after `n` channels. -/
theorem dropv_at {ib : ℕ} (hib : ib < 14) (j : S32x128.Idx) (n : ℕ) (hn : n ≤ 32) :
    (dropv (F := Ideal) w mb ib n).1 j
        = foldn (fun x y : EReal => x + y) 0 (fun t => if bact mb (4 * (j 1).val + (j 0).val % 4) (8 * ib + (j 0).val / 4) t = true
            then dec (bcode w (4 * (j 1).val + (j 0).val % 4) (8 * ib + (j 0).val / 4) t) else 0) n
      ∧ (dropv (F := Ideal) w mb ib n).2 j
        = foldn IntOp.maxsi 0#8 (fun t => if bact mb (4 * (j 1).val + (j 0).val % 4) (8 * ib + (j 0).val / 4) t = true
            then 127#8 ^^^ bcode w (4 * (j 1).val + (j 0).val % 4) (8 * ib + (j 0).val / 4) t else 0#8) n := by
  have h0 : (j 0).val < 32 := (j 0).isLt
  have h1 : (j 1).val < 128 := (j 1).isLt
  have ha : (j 0).val / 4 < 8 := by omega
  have hk : (j 0).val % 4 < 4 := Nat.mod_lt _ (by decide)
  induction n with
  | zero => exact ⟨Ideal.ofBits_zero_f32, rfl⟩
  | succ n ih =>
    obtain ⟨ih1, ih2⟩ := ih (by omega)
    have hw := w_byte w hib (show n < 32 by omega) ha h1 hk
    have hm := m_byte mb hib (show n < 32 by omega) ha h1 hk
    set W : IVec S8x128 32 := fun i => at2 (wtv w) (256 * ib + n + 32 * (i 0).val) (i 1).val with hW
    set M : IVec S8x128 32 := fun i => at2 (mwv mb) (32 * ib + n / 8 + 4 * (i 0).val) (i 1).val with hM
    have hl : byte (at2 (low7At M n) ((j 0).val / 4) (j 1).val) ((j 0).val % 4)
        = if bact mb (4 * (j 1).val + (j 0).val % 4) (8 * ib + (j 0).val / 4) n = true then 127#8 else 0#8 := by
      unfold at2 bact
      rw [byte_low7 _ _ _ _ hk]
      have : byte (M (ValueIdx.ix2 (Fin.ofNat 8 ((j 0).val / 4)) (Fin.ofNat 128 (j 1).val))) ((j 0).val % 4) = _ := hm
      rw [this]
    constructor
    · show (dropv (F := Ideal) w mb ib n).1 j + dec (bitcast S32x128 8 (andi W (low7At M n)) Gen.bitcasts_S8x128_w32_S32x128_w8 j) = _
      rw [ih1, bitcast_byte _ _ (by decide)]
      show _ + dec (byte (at2 W ((j 0).val / 4) (j 1).val &&& at2 (low7At M n) ((j 0).val / 4) (j 1).val) ((j 0).val % 4)) = _
      rw [byte_and, hl, hw, foldn]
      congr 1
      split_ifs
      · rfl
      · rw [BitVec.and_zero, dec_zero]
    · show IntOp.maxsi ((dropv (F := Ideal) w mb ib n).2 j)
        (bitcast S32x128 8 (andi (low7At M n) (xori W (constantI S8x128 32 4294967295#32))) Gen.bitcasts_S8x128_w32_S32x128_w8 j) = _
      rw [ih2, bitcast_byte _ _ (by decide)]
      show IntOp.maxsi _ (byte (at2 (low7At M n) ((j 0).val / 4) (j 1).val &&& (at2 W ((j 0).val / 4) (j 1).val ^^^ 4294967295#32)) ((j 0).val % 4)) = _
      have hs : ∀ k : Fin 4, byte 4294967295#32 k.val = 255#8 := by decide
      rw [byte_and, byte_xor, hl, hw, hs ⟨_, hk⟩, foldn]
      congr 1
      unfold bcode
      split_ifs
      · generalize at2 w _ _ = c
        revert c; decide +kernel
      · exact BitVec.zero_and

/-- The scale of channel block `cb` in row `r` of the block. -/
def bscale (r cb : ℕ) : EReal := ws (ValueIdx.ix3 (0 : Fin 1) (Fin.ofNat 32 (4 * (cb % 8) + r % 4)) (Fin.ofNat 128 (r / 4)))

theorem scale_at {q l cb : ℕ} (hq : q < 4) (hl : l < 128) (hcb : cb < 112) :
    ws (ValueIdx.ix3 (0 : Fin 1) (Fin.ofNat 32 ((q + 4 * cb) % 32)) (Fin.ofNat 128 l)) = bscale ws (4 * l + q) cb := by
  unfold bscale
  rw [show (q + 4 * cb) % 32 = 4 * (cb % 8) + (4 * l + q) % 4 by omega, show (4 * l + q) / 4 = l by omega]

theorem dsv_eq {r l : ℕ} (hr : r < 448) (hl : l < 128) :
    (at2 (dsv (F := Ideal) w mb ws) r l : EReal)
      = (dropv (F := Ideal) w mb (r / 32) 32).1 (ValueIdx.ix2 (Fin.ofNat 32 (r % 32)) (Fin.ofNat 128 l))
        * ws (ValueIdx.ix3 (0 : Fin 1) (Fin.ofNat 32 (r % 32)) (Fin.ofNat 128 l)) := by
  unfold at2 dsv dsc
  show (at2 (mulf (dropv (F := Ideal) w mb (r % 448 / 32) 32).1 (fun j => ws (ValueIdx.ix3 (0 : Fin 1) (j 0) (j 1)))) (r % 448 % 32) (l % 128) : EReal) = _
  rw [Nat.mod_eq_of_lt hr, Nat.mod_eq_of_lt hl]
  rfl

/-- A row's sum. -/
theorem dsv_at {q l cb : ℕ} (hq : q < 4) (hl : l < 128) (hcb : cb < 112) :
    at2 (dsv (F := Ideal) w mb ws) (q + 4 * cb) l
      = foldn (fun x y : EReal => x + y) 0 (fun t => if bact mb (4 * l + q) cb t = true then dec (bcode w (4 * l + q) cb t) else 0) 32
        * bscale ws (4 * l + q) cb := by
  have hib : (q + 4 * cb) / 32 < 14 := by omega
  have e := (dropv_at w mb hib (ValueIdx.ix2 (Fin.ofNat 32 ((q + 4 * cb) % 32)) (Fin.ofNat 128 l)) 32 le_rfl).1
  have e0 : (q + 4 * cb) % 32 % 32 % 4 = q := by omega
  have e1 : 8 * ((q + 4 * cb) / 32) + (q + 4 * cb) % 32 % 32 / 4 = cb := by omega
  have a0 : ((ValueIdx.ix2 (Fin.ofNat 32 ((q + 4 * cb) % 32)) (Fin.ofNat 128 l) : S32x128.Idx) 0).val = (q + 4 * cb) % 32 % 32 := rfl
  have a1 : ((ValueIdx.ix2 (Fin.ofNat 32 ((q + 4 * cb) % 32)) (Fin.ofNat 128 l) : S32x128.Idx) 1).val = l % 128 := rfl
  rw [a0, a1, e0, e1, Nat.mod_eq_of_lt hl] at e
  rw [dsv_eq w mb ws (show q + 4 * cb < 448 by omega) hl, e, scale_at ws hq hl hcb]

theorem top_f32 : (Scalar.ofBits .f32 0x7F800000#32 : Ideal .f32) = (⊤ : EReal) := by
  show Ideal.ofBits .f32 0x7F800000#32 = ⊤
  simp [Ideal.ofBits, Ideal.ieee]

theorem best_small (r cb t : ℕ) : (bcode w r cb t).toNat ≤ 127 := low_le _

/-- The code the kernel takes back from a row's largest complement. -/
theorem code_at {ib : ℕ} (hib : ib < 14) (j : S32x128.Idx) :
    bitcast S32x128 8 (dropCode (dropv (F := Ideal) w mb ib 32).2) Gen.bitcasts_S8x128_w32_S32x128_w8 j
      = 127#8 - (dropv (F := Ideal) w mb ib 32).2 j := by
  have h0 : (j 0).val < 32 := (j 0).isLt
  have h1 : (j 1).val < 128 := (j 1).isLt
  have hk : (j 0).val % 4 < 4 := Nat.mod_lt _ (by decide)
  have small : ∀ i : S32x128.Idx, ((dropv (F := Ideal) w mb ib 32).2 i).toNat ≤ 127 := fun i => by
    rw [(dropv_at w mb hib i 32 le_rfl).2]
    refine (fold_best _ (fun t => ?_) 32).1
    split_ifs
    · rw [compl_code _ (best_small w _ _ _)]; omega
    · decide
  rw [bitcast_byte _ _ (by decide)]
  generalize (dropv (F := Ideal) w mb ib 32).2 = X at small ⊢
  show byte (IntOp.subi 2139062143#32 (bitcast S8x128 32 X Gen.bitcasts_S32x128_w8_S8x128_w32
    (ValueIdx.ix2 (Fin.ofNat 8 ((j 0).val / 4)) (Fin.ofNat 128 (j 1).val)))) ((j 0).val % 4) = _
  rw [bitcast_word4 X _ (by decide)]
  have hb : ∀ k, k < 4 → byte (word4 fun u => at2 X (4 * (ValueIdx.ix2 (Fin.ofNat 8 ((j 0).val / 4)) (Fin.ofNat 128 (j 1).val) 0 : Fin 8).val + u)
      (ValueIdx.ix2 (Fin.ofNat 8 ((j 0).val / 4)) (Fin.ofNat 128 (j 1).val) 1 : Fin 128).val) k
      = at2 X (4 * ((j 0).val / 4) + k) (j 1).val := fun k hk => by
    rw [byte_word4 _ _ hk]
    show at2 X (4 * ((j 0).val / 4 % 8) + k) ((j 1).val % 128) = _
    rw [Nat.mod_eq_of_lt (by omega), Nat.mod_eq_of_lt h1]
  refine (byte_sub _ (fun k hk => ?_) _ hk).trans ?_
  · exact (congrArg BitVec.toNat (hb k hk)).trans_le (small _)
  · refine congrArg (fun x => 127#8 - x) ((hb _ hk).trans ?_)
    exact at2_eq X j (by omega) rfl

end Cert.KernelIdeal.Body
-- ==== Proof.DropMin.lean ====
/- The smallest weight score of one of the kernel's rows, over the extended reals. -/
module

public import proofs.«01_k».proof.Proof.DropRows

@[expose] public section

noncomputable section

namespace Cert.KernelIdeal.Body

open Idealize.ShloMosaic
open Cert.KernelIdeal
open Cert.Spec (dec)

variable (w : S512x3584.Idx → BitVec 8) (mb : S512x448.Idx → BitVec 8) (ws : S1x32x128.Idx → EReal)

theorem sel_at (X : IVec S32x128 8) (s : FVec Ideal S32x128 .f32) (z : Ideal .f32) (j : S32x128.Idx) :
    (select (cmpi .ne (extsi 32 X (by decide)) (broadcast S32x128 127#32))
    (mulf (extf .f32 (bitcastToFloat .fp8e4m3 X
      : FVec Ideal S32x128 .fp8e4m3) (by decide)) s)
    (broadcast S32x128 z) j : EReal)
      = Scalar.select (IntOp.cmpi .ne ((X j).signExtend 32) 127#32)
        (dec (X j) * s j : EReal) (z : EReal) := rfl

theorem dropMin_at (best : IVec S32x128 8) (s : FVec Ideal S32x128 .f32) (j : S32x128.Idx) :
    (dropMin best s j : EReal)
      = Scalar.select (IntOp.cmpi .ne ((bitcast S32x128 8 (dropCode best) Gen.bitcasts_S8x128_w32_S32x128_w8 j).signExtend 32) 127#32)
        (dec (bitcast S32x128 8 (dropCode best) Gen.bitcasts_S8x128_w32_S32x128_w8 j) * s j : EReal) (⊤ : EReal) := by
  unfold dropMin
  rw [sel_at, top_f32]

theorem dnv_eq {r l : ℕ} (hr : r < 448) (hl : l < 128) :
    at2 (dnv (F := Ideal) w mb ws) r l
      = dropMin (F := Ideal) (dropv (F := Ideal) w mb (r / 32) 32).2 (fun j => ws (ValueIdx.ix3 (0 : Fin 1) (j 0) (j 1)))
        (ValueIdx.ix2 (Fin.ofNat 32 (r % 32)) (Fin.ofNat 128 l)) := by
  unfold at2 dnv dnc
  show at2 (dropMin (F := Ideal) (dropv (F := Ideal) w mb (r % 448 / 32) 32).2 (fun j => ws (ValueIdx.ix3 (0 : Fin 1) (j 0) (j 1)))) (r % 448 % 32) (l % 128) = _
  rw [Nat.mod_eq_of_lt hr, Nat.mod_eq_of_lt hl]
  rfl

/-- A row's smallest scaled magnitude. -/
theorem le_dnv {q l cb : ℕ} (hq : q < 4) (hl : l < 128) (hcb : cb < 112)
    (hn : ∀ t, t < 32 → bact mb (4 * l + q) cb t = true → bcode w (4 * l + q) cb t ≠ 127#8)
    (hs : ∀ t, t < 32 → bact mb (4 * l + q) cb t = true → 0 ≤ bscale ws (4 * l + q) cb) (b : EReal) :
    b ≤ (at2 (dnv (F := Ideal) w mb ws) (q + 4 * cb) l : EReal)
      ↔ ∀ t, t < 32 → b ≤ if bact mb (4 * l + q) cb t = true then dec (bcode w (4 * l + q) cb t) * bscale ws (4 * l + q) cb else ⊤ := by
  have hib : (q + 4 * cb) / 32 < 14 := by omega
  have e := (dropv_at w mb hib (ValueIdx.ix2 (Fin.ofNat 32 ((q + 4 * cb) % 32)) (Fin.ofNat 128 l)) 32 le_rfl).2
  have ec := code_at w mb hib (ValueIdx.ix2 (Fin.ofNat 32 ((q + 4 * cb) % 32)) (Fin.ofNat 128 l))
  rw [dnv_eq w mb ws (show q + 4 * cb < 448 by omega) hl]
  generalize (dropv (F := Ideal) w mb ((q + 4 * cb) / 32) 32).2 = D at e ec ⊢
  have es : (fun j : S32x128.Idx => (ws (ValueIdx.ix3 (0 : Fin 1) (j 0) (j 1)) : EReal)) (ValueIdx.ix2 (Fin.ofNat 32 ((q + 4 * cb) % 32)) (Fin.ofNat 128 l))
    = bscale ws (4 * l + q) cb := scale_at ws hq hl hcb
  generalize (fun j : S32x128.Idx => (ws (ValueIdx.ix3 (0 : Fin 1) (j 0) (j 1)) : EReal)) = S at es ⊢
  rw [dropMin_at, ec, e, es]
  have e0 : (q + 4 * cb) % 32 % 32 % 4 = q := by omega
  have e1 : 8 * ((q + 4 * cb) / 32) + (q + 4 * cb) % 32 % 32 / 4 = cb := by omega
  have a0 : ((ValueIdx.ix2 (Fin.ofNat 32 ((q + 4 * cb) % 32)) (Fin.ofNat 128 l) : S32x128.Idx) 0).val = (q + 4 * cb) % 32 % 32 := rfl
  have a1 : ((ValueIdx.ix2 (Fin.ofNat 32 ((q + 4 * cb) % 32)) (Fin.ofNat 128 l) : S32x128.Idx) 1).val = l % 128 := rfl
  rw [a0, a1, e0, e1, Nat.mod_eq_of_lt hl]
  exact row_min (bact mb (4 * l + q) cb) (bcode w (4 * l + q) cb) (fun t => low_le _) (bscale ws (4 * l + q) cb) hn hs b

end Cert.KernelIdeal.Body
-- ==== Proof.Steps3.lean ====
/- What the scores and the results leave in the buffers, and the body as a whole. -/
module

public import proofs.«01_k».proof.Proof.Steps2

@[expose] public section

noncomputable section

namespace Cert.KernelIdeal.Body

open Idealize.ShloMosaic Idealize.ShloMosaic.TcCoe Idealize.ShloMosaic.ValueIdx
open Idealize.SL
open Idealize.SL.Sem
open Idealize.SL.RA
open Cert.KernelIdeal

variable {F : FTy → Type} [FloatOps F]
variable {defs : Defs nD τ sig (Elt F) Λ₀} {𝒱 : Variants} {c : Dev nD} {M : Mems}
variable {m1 m2 : Memref sig .tc .smem S48 .i32} {q1 q2 : PosShare TreeShare} {t1 t2 : S48.Idx → BitVec 32}

/-! ## The gradient scores -/

/-- A score buffer filled for the first `ib` groups of eight channel blocks, and for the next up to column `128 · o`. -/
def scI {A : Type} (V X : S112x512.Idx → A) (ib o : ℕ) : S112x512.Idx → A :=
  fun i => if (i 0).val < 8 * ib ∨ ((i 0).val < 8 * ib + 8 ∧ (i 1).val < 128 * o) then V i else X i

theorem scI_next {A : Type} (V X : S112x512.Idx → A) (ib : ℕ) : scI V X ib 4 = scI V X (ib + 1) 0 := by
  funext i
  have i1 := idx2_lt1 i
  unfold scI
  by_cases h : (i 0).val < 8 * ib + 8
  · rw [if_pos (by omega), if_pos (by omega)]
  · rw [if_neg (by omega), if_neg (by omega)]

theorem sc_step {A : Type} (V X : S112x512.Idx → A) (ib o : ℕ) (ho : o < 4) (v : S8x128.Idx → A)
    (hv : ∀ j : S8x128.Idx, v j = at2 V (8 * ib + (j 0).val) (128 * o + (j 1).val)) (inb hc) :
    over (Rect.unit (s := S112x512) ![8 * ib, 128 * o] S8x128.size inb) (shapeCast S8x128 v hc) (scI V X ib o) = scI V X ib (o + 1) := by
  funext i
  have i0 := idx2_lt0 i
  have i1 := idx2_lt1 i
  refine (over2 inb _ _ i).trans ?_
  rw [shapeCast_self]
  unfold scI
  by_cases h : 8 * ib ≤ (i 0).val ∧ (i 0).val < 8 * ib + 8 ∧ 128 * o ≤ (i 1).val ∧ (i 1).val < 128 * o + 128
  · rw [if_pos h, if_pos (by omega)]
    refine (at2_eq v (ix2 (⟨(i 0).val - 8 * ib, by omega⟩ : Fin 8) (⟨(i 1).val - 128 * o, by omega⟩ : Fin 128)) rfl rfl).trans ?_
    rw [hv]
    refine at2_eq V i ?_ ?_
    · show _ = 8 * ib + ((i 0).val - 8 * ib)
      omega
    · show _ = 128 * o + ((i 1).val - 128 * o)
      omega
  · rw [if_neg h]
    by_cases h' : (i 0).val < 8 * ib ∨ ((i 0).val < 8 * ib + 8 ∧ (i 1).val < 128 * o)
    · rw [if_pos h', if_pos (by omega)]
    · rw [if_neg h', if_neg (by omega)]

/-- The score buffers' contents. -/
def fst (s : State F) (R X : S112x512.Idx → F .f32) (N D : S448x128.Idx → F .f32) : State F :=
  put (put (put (put s .rs R) .mx X) .dn N) .ds D

theorem fst_rs (s : State F) (R X N D R') : put (fst s R X N D) .rs R' = fst s R' X N D := by
  unfold fst
  rw [put_comm _ (b := .ds) (b' := .rs) (by decide), put_comm _ (b := .dn) (b' := .rs) (by decide),
    put_comm _ (b := .mx) (b' := .rs) (by decide), put_put]
theorem fst_mx (s : State F) (R X N D X') : put (fst s R X N D) .mx X' = fst s R X' N D := by
  unfold fst
  rw [put_comm _ (b := .ds) (b' := .mx) (by decide), put_comm _ (b := .dn) (b' := .mx) (by decide), put_put]
theorem fst_dn (s : State F) (R X N D N') : put (fst s R X N D) .dn N' = fst s R X N' D := by
  unfold fst
  rw [put_comm _ (b := .ds) (b' := .dn) (by decide), put_put]
theorem fst_ds (s : State F) (R X N D D') : put (fst s R X N D) .ds D' = fst s R X N D' := by
  unfold fst
  rw [put_put]

theorem scr_sel (x : S3584x1536.Idx → F .bf16) (d : S1568x512.Idx → F .bf16) (mb : S512x448.Idx → BitVec 8) (ib o t : ℕ) (hib : ib < 14)
    (ho : o < 4) (ht : t < 32) (m : IVec S8x128 32) (j : S8x128.Idx)
    (hm : m j = (at2 mb (128 * o + (j 1).val) (4 * (8 * ib + (j 0).val) + t / 8)).setWidth 32) :
    sel (gd x d ib) m o t ho ht j = scr x d mb (8 * ib + (j 0).val) (128 * o + (j 1).val) t := by
  have j0 := idx2_lt0 j
  have j1 := idx2_lt1 j
  unfold sel scr
  show Scalar.select (IntOp.cmpi .slt (IntOp.shli .vector (m j) (BitVec.ofNat 32 (31 - t % 8))) 0#32)
    (Scalar.ofBits .f32 0x00000000#32 : F .f32) (FloatOps.absf (gd x d ib _)) = _
  rw [hm]
  congr 2
  have e : (8 * ib + (j 0).val) / 8 = ib := by omega
  rw [e]
  refine (at2_eq _ _ ?_ ?_).symm
  · show 8 * t + (j 0).val = _
    omega
  · rfl

theorem rsum_at (x : S3584x1536.Idx → F .bf16) (d : S1568x512.Idx → F .bf16) (mb : S512x448.Idx → BitVec 8) (ib o : ℕ) (hib : ib < 14)
    (ho : o < 4) (m : ℕ → IVec S8x128 32) (j : S8x128.Idx)
    (hm : ∀ q, q < 4 → m q j = (at2 mb (128 * o + (j 1).val) (4 * (8 * ib + (j 0).val) + q)).setWidth 32) (t : ℕ) (ht : t ≤ 32) :
    rsum (gd x d ib) m o ho t ht j
      = foldn FloatOps.addf (Scalar.ofBits .f32 0x00000000#32) (scr x d mb (8 * ib + (j 0).val) (128 * o + (j 1).val)) t := by
  induction t with
  | zero => rfl
  | succ t ih =>
    show FloatOps.addf (rsum (gd x d ib) m o ho t (by omega) j) (sel (gd x d ib) (m (t / 8)) o t ho ht j) = FloatOps.addf _ _
    rw [ih, scr_sel x d mb ib o t hib ho ht (m (t / 8)) j (hm _ (by omega))]

theorem rmax_at (x : S3584x1536.Idx → F .bf16) (d : S1568x512.Idx → F .bf16) (mb : S512x448.Idx → BitVec 8) (ib o : ℕ) (hib : ib < 14)
    (ho : o < 4) (m : ℕ → IVec S8x128 32) (j : S8x128.Idx)
    (hm : ∀ q, q < 4 → m q j = (at2 mb (128 * o + (j 1).val) (4 * (8 * ib + (j 0).val) + q)).setWidth 32) (t : ℕ) (ht : t ≤ 32) :
    rmax (gd x d ib) m o ho t ht j
      = foldn FloatOps.maximumf (Scalar.ofBits .f32 0x00000000#32) (scr x d mb (8 * ib + (j 0).val) (128 * o + (j 1).val)) t := by
  induction t with
  | zero => rfl
  | succ t ih =>
    show FloatOps.maximumf (rmax (gd x d ib) m o ho t (by omega) j) (sel (gd x d ib) (m (t / 8)) o t ho ht j) = FloatOps.maximumf _ _
    rw [ih, scr_sel x d mb ib o t hib ho ht (m (t / 8)) j (hm _ (by omega))]

/-- The mask bytes the scores of a group of blocks read. -/
def mq (mb : S512x448.Idx → BitVec 8) (ib o q : ℕ) : IVec S8x128 32 :=
  fun j => (at2 mb (128 * o + (j 1).val) (4 * (8 * ib + (j 0).val) + q)).setWidth 32

theorem does_ldm (s : State F) (hm : s .mo = mov (s .mb)) (ib o q : ℕ) (hib ho hq) :
    Does defs 𝒱 c M m1 m2 q1 q2 t1 t2 (ldm (M .mo) ib o q hib ho hq) s (mq (s .mb) ib o q) s := by
  unfold ldm
  refine does_bind' (does_ld _ .mo _ _) ?_
  refine does_cong (does_pure _ s) ?_ rfl
  funext j
  obtain ⟨r, l, rfl⟩ : ∃ (r : Fin 8) (l : Fin 128), j = ix2 r l := ⟨j 0, j 1, eq_ix2 j⟩
  refine (shapeCast_1ab_ab_apply _ _ _ _).trans ?_
  rw [hm]
  show (at2 (s .mb) _ _).setWidth 32 = (at2 (s .mb) _ _).setWidth 32
  congr 2
  · show 128 * (o + 1 * 0) + (0 + 1 * l.val) = 128 * o + l.val
    omega
  · show 32 * ib + q + 4 * r.val = 4 * (8 * ib + r.val) + q
    omega

theorem pick4_mq (mb : S512x448.Idx → BitVec 8) (ib o q : ℕ) (hq : q < 4) :
    pick4 (mq mb ib o 0) (mq mb ib o 1) (mq mb ib o 2) (mq mb ib o 3) q = mq mb ib o q := by
  match q, hq with
  | 0, _ => rfl
  | 1, _ => rfl
  | 2, _ => rfl
  | 3, _ => rfl

theorem does_grow (s : State F) (hm : s .mo = mov (s .mb)) (R X N D) (ib : ℕ) (hib : ib < 14) (o : ℕ) (ho : o < 4) :
    Does defs 𝒱 c M m1 m2 q1 q2 t1 t2 (grow (M .mo) (M .rs) (M .mx) (gd (s .xt) (s .dyb) ib) ib hib o ho)
      (fst s (scI (rsv (s .xt) (s .dyb) (s .mb)) R ib o) (scI (mxv (s .xt) (s .dyb) (s .mb)) X ib o) N D) ⟨⟩
      (fst s (scI (rsv (s .xt) (s .dyb) (s .mb)) R ib (o + 1)) (scI (mxv (s .xt) (s .dyb) (s .mb)) X ib (o + 1)) N D) := by
  unfold grow
  refine does_bind' (a := mq (s .mb) ib o 0) (does_ldm (fst s _ _ N D) hm ib o 0 hib ho _) ?_
  refine does_bind' (a := mq (s .mb) ib o 1) (does_ldm (fst s _ _ N D) hm ib o 1 hib ho _) ?_
  refine does_bind' (a := mq (s .mb) ib o 2) (does_ldm (fst s _ _ N D) hm ib o 2 hib ho _) ?_
  refine does_bind' (a := mq (s .mb) ib o 3) (does_ldm (fst s _ _ N D) hm ib o 3 hib ho _) ?_
  have hmq : ∀ j q, q < 4 → pick4 (mq (s .mb) ib o 0) (mq (s .mb) ib o 1) (mq (s .mb) ib o 2) (mq (s .mb) ib o 3) q j
      = (at2 (s .mb) (128 * o + (j 1).val) (4 * (8 * ib + (j 0).val) + q)).setWidth 32 := fun j q hq => by rw [pick4_mq _ _ _ _ hq]; rfl
  refine does_bind' (does_st _ .rs _ _ _ _) ?_
  rw [fst_rs]
  refine does_cong (does_st _ .mx _ _ _ _) rfl ?_
  rw [fst_mx]
  have e1 := sc_step (rsv (s .xt) (s .dyb) (s .mb)) R ib o ho
    (rsum (gd (s .xt) (s .dyb) ib) (pick4 (mq (s .mb) ib o 0) (mq (s .mb) ib o 1) (mq (s .mb) ib o 2) (mq (s .mb) ib o 3)) o ho 32 (by decide))
    (fun j => by
      have j0 := idx2_lt0 j
      have j1 := idx2_lt1 j
      rw [rsum_at (s .xt) (s .dyb) (s .mb) ib o hib ho _ j (hmq j) 32]
      exact (at2_eq (rsv (s .xt) (s .dyb) (s .mb)) (ix2 (⟨8 * ib + (j 0).val, by omega⟩ : Fin 112) (⟨128 * o + (j 1).val, by omega⟩ : Fin 512)) rfl rfl).symm)
  have e2 := sc_step (mxv (s .xt) (s .dyb) (s .mb)) X ib o ho
    (rmax (gd (s .xt) (s .dyb) ib) (pick4 (mq (s .mb) ib o 0) (mq (s .mb) ib o 1) (mq (s .mb) ib o 2) (mq (s .mb) ib o 3)) o ho 32 (by decide))
    (fun j => by
      have j0 := idx2_lt0 j
      have j1 := idx2_lt1 j
      rw [rmax_at (s .xt) (s .dyb) (s .mb) ib o hib ho _ j (hmq j) 32]
      exact (at2_eq (mxv (s .xt) (s .dyb) (s .mb)) (ix2 (⟨8 * ib + (j 0).val, by omega⟩ : Fin 112) (⟨128 * o + (j 1).val, by omega⟩ : Fin 512)) rfl rfl).symm)
  exact congrArg₂ (fun A B => fst s A B N D) (e1 _ _) (e2 _ _)

/-! ## The weight scores -/

/-- A weight score buffer filled for the first `ib` groups. -/
def drI {A : Type} (V X : S448x128.Idx → A) (ib : ℕ) : S448x128.Idx → A := fun i => if (i 0).val < 32 * ib then V i else X i

theorem dr_step {A : Type} (V X : S448x128.Idx → A) (ib : ℕ) (v : S32x128.Idx → A)
    (hv : ∀ i : S448x128.Idx, (i 0).val / 32 = ib → V i = at2 v ((i 0).val % 32) (i 1).val) (inb hc) :
    over (Rect.unit (s := S448x128) ![32 * ib, 0] S32x128.size inb) (shapeCast S32x128 v hc) (drI V X ib) = drI V X (ib + 1) := by
  funext i
  have i0 := idx2_lt0 i
  have i1 := idx2_lt1 i
  refine (over2 inb _ _ i).trans ?_
  rw [shapeCast_self]
  unfold drI
  by_cases h : 32 * ib ≤ (i 0).val ∧ (i 0).val < 32 * ib + 32 ∧ 0 ≤ (i 1).val ∧ (i 1).val < 0 + 128
  · rw [if_pos h, if_pos (by omega), hv i (by omega)]
    congr 1
    omega
  · rw [if_neg h]
    by_cases h' : (i 0).val < 32 * ib
    · rw [if_pos h', if_pos (by omega)]
    · rw [if_neg h', if_neg (by omega)]

theorem does_drop (s : State F) (hw : s .wt = wtv (s .w)) (hm : s .mw = mwv (s .mb)) (R X N D) (ib : ℕ) (hib : ib < 14) :
    Does defs 𝒱 c M m1 m2 q1 q2 t1 t2 (drop (M .ws) (M .wt) (M .mw) (M .dn) (M .ds) ib hib)
      (fst s R X (drI (dnv (s .w) (s .mb) (s .ws)) N ib) (drI (dsv (s .w) (s .mb) (s .ws)) D ib)) ⟨⟩
      (fst s R X (drI (dnv (s .w) (s .mb) (s .ws)) N (ib + 1)) (drI (dsv (s .w) (s .mb) (s .ws)) D (ib + 1))) := by
  unfold drop
  have hl := does_loop (defs := defs) (𝒱 := 𝒱) (c := c) (M := M) (m1 := m1) (m2 := m2) (q1 := q1) (q2 := q2) (t1 := t1) (t2 := t2) 4
    (fun q hq s => do
      let m ← ld (M .mw) (⟨![32 * ib + q, 0], S8x128.size, ![4, 1], inbs2 (by omega) (by decide)⟩ : LoadRect S448x128) Gen.h_S8x128
      loop 8 (fun u hu s => do
        let w ← ld (M .wt) (⟨![256 * ib + (8 * q + u), 0], S8x128.size, ![32, 1], inbs2 (by omega) (by decide)⟩ : LoadRect S3584x128) Gen.h_S8x128
        pure (dropStep m w (8 * q + u) s)) s)
    (fun q => dropv (s .w) (s .mb) ib (8 * q))
    (fun _ => fst s R X (drI (dnv (s .w) (s .mb) (s .ws)) N ib) (drI (dsv (s .w) (s .mb) (s .ws)) D ib)) (by
      intro q hq
      refine does_bind' (does_ld _ .mw _ _) ?_
      refine does_loop (σ := FVec F S32x128 .f32 × IVec S32x128 8) 8 _ (fun u => dropv (s .w) (s .mb) ib (8 * q + u)) (fun _ => _) ?_
      intro u hu
      refine does_bind' (does_ld _ .wt _ _) ?_
      refine does_cong (does_pure _ _) ?_ rfl
      show dropStep (fun j => s .mw _) (fun j => s .wt _) _ _ = dropStep _ _ _ _
      rw [hw, hm]
      congr 1
      · funext j
        refine (at2_eq (mwv (s .mb)) _ ?_ ?_).symm
        · show 32 * ib + q + 4 * (j 0).val = 32 * ib + (8 * q + u) / 8 + 4 * (j 0).val
          omega
        · show 0 + 1 * (j 1).val = _
          omega
      · funext j
        refine (at2_eq (wtv (s .w)) _ ?_ ?_).symm
        · show 256 * ib + (8 * q + u) + 32 * (j 0).val = 256 * ib + (8 * q + u) + 32 * (j 0).val
          rfl
        · show 0 + 1 * (j 1).val = _
          omega)
  refine does_bind' hl ?_
  refine does_bind' (does_ld _ .ws _ _) ?_
  have hws : shapeCast S32x128 ((fun j => s .ws ((Rect.unit (s := S1x32x128) ![0, 0, 0] S1x32x128.size
      (inb3 (by decide) (by decide) (by decide))).toLoadRect.idx j)) : FVec F S1x32x128 .f32) Gen.shapeCasts_S1x32x128_S32x128
      = fun j => s .ws (ix3 (0 : Fin 1) (j 0) (j 1)) := by
    funext j
    obtain ⟨r, l, rfl⟩ : ∃ (r : Fin 32) (l : Fin 128), j = ix2 r l := ⟨j 0, j 1, eq_ix2 j⟩
    refine (shapeCast_1ab_ab_apply _ _ _ _).trans ?_
    refine congrArg (s .ws) (funext fun a => ?_)
    fin_cases a
    · rfl
    · exact Fin.ext (by show 0 + 1 * r.val = r.val; omega)
    · exact Fin.ext (by show 0 + 1 * l.val = l.val; omega)
  refine does_bind' (does_st _ .dn _ _ _ _) ?_
  rw [fst_dn]
  refine does_cong (does_st _ .ds _ _ _ _) rfl ?_
  rw [fst_ds]
  have e1 := dr_step (dnv (s .w) (s .mb) (s .ws)) N ib (dnc (s .w) (s .mb) (s .ws) ib) (fun i hi => by unfold dnv; rw [hi])
  have e2 := dr_step (dsv (s .w) (s .mb) (s .ws)) D ib (dsc (s .w) (s .mb) (s .ws) ib) (fun i hi => by unfold dsv; rw [hi])
  unfold dnc at e1
  unfold dsc at e2
  rw [← hws] at e1 e2
  exact congrArg₂ (fun A B => fst s R X A B) (e1 _ _) (e2 _ _)

theorem does_chans (s : State F) (hw : s .wt = wtv (s .w)) (hm : s .mw = mwv (s .mb)) (ho : s .mo = mov (s .mb)) (R X N D) (ib : ℕ) (hib : ib < 14) :
    Does defs 𝒱 c M m1 m2 q1 q2 t1 t2 (chans (M .xt) (M .ws) (M .dyb) (M .wt) (M .mw) (M .mo) (M .rs) (M .mx) (M .dn) (M .ds) ib hib)
      (fst s (scI (rsv (s .xt) (s .dyb) (s .mb)) R ib 0) (scI (mxv (s .xt) (s .dyb) (s .mb)) X ib 0)
        (drI (dnv (s .w) (s .mb) (s .ws)) N ib) (drI (dsv (s .w) (s .mb) (s .ws)) D ib)) ⟨⟩
      (fst s (scI (rsv (s .xt) (s .dyb) (s .mb)) R (ib + 1) 0) (scI (mxv (s .xt) (s .dyb) (s .mb)) X (ib + 1) 0)
        (drI (dnv (s .w) (s .mb) (s .ws)) N (ib + 1)) (drI (dsv (s .w) (s .mb) (s .ws)) D (ib + 1))) := by
  unfold chans
  refine does_bind' (does_ld _ .xt _ _) ?_
  refine does_bind' (does_ld _ .dyb _ _) ?_
  have hx : (fun j => s .xt ((Rect.unit (s := S3584x1536) ![256 * ib, 0] S256x1536.size (inb2 (by omega) (by decide))).toLoadRect.idx j)
      : FVec F S256x1536 .bf16) = fun j => at2 (s .xt) (256 * ib + (j 0).val) (j 1).val := by
    funext j
    refine (at2_eq (s .xt) _ ?_ ?_).symm
    · show 256 * ib + 1 * (j 0).val = _
      omega
    · show 0 + 1 * (j 1).val = _
      omega
  have hd : (fun j => s .dyb ((Rect.unit (s := S1568x512) ![0, 0] S1536x512.size (inb2 (by decide) (by decide))).toLoadRect.idx j)
      : FVec F S1536x512 .bf16) = fun j => at2 (s .dyb) (j 0).val (j 1).val := by
    funext j
    refine (at2_eq (s .dyb) _ ?_ ?_).symm
    · show 0 + 1 * (j 0).val = _
      omega
    · show 0 + 1 * (j 1).val = _
      omega
  have hg : matmul dot_S256x1536_S1536x512_S256x512_1_0_0_1_n_n none
      (fun j => s .xt ((Rect.unit (s := S3584x1536) ![256 * ib, 0] S256x1536.size (inb2 (by omega) (by decide))).toLoadRect.idx j) : FVec F S256x1536 .bf16)
      (fun j => s .dyb ((Rect.unit (s := S1568x512) ![0, 0] S1536x512.size (inb2 (by decide) (by decide))).toLoadRect.idx j) : FVec F S1536x512 .bf16)
      (constant S256x512 .f32 0x00000000#32) = gd (s .xt) (s .dyb) ib := by
    rw [hx, hd]; rfl
  refine does_bind' (s1 := fst s (scI (rsv (s .xt) (s .dyb) (s .mb)) R ib 4) (scI (mxv (s .xt) (s .dyb) (s .mb)) X ib 4)
        (drI (dnv (s .w) (s .mb) (s .ws)) N ib) (drI (dsv (s .w) (s .mb) (s .ws)) D ib)) (a := ⟨⟩) ?_ ?_
  · refine does_rounds 4 _ (fun o => fst s (scI (rsv (s .xt) (s .dyb) (s .mb)) R ib o) (scI (mxv (s .xt) (s .dyb) (s .mb)) X ib o)
        (drI (dnv (s .w) (s .mb) (s .ws)) N ib) (drI (dsv (s .w) (s .mb) (s .ws)) D ib)) rfl rfl ?_
    intro o ho'
    have := does_grow (defs := defs) (𝒱 := 𝒱) (c := c) (M := M) (m1 := m1) (m2 := m2) (q1 := q1) (q2 := q2) (t1 := t1) (t2 := t2)
      s ho R X (drI (dnv (s .w) (s .mb) (s .ws)) N ib) (drI (dsv (s .w) (s .mb) (s .ws)) D ib) ib hib o ho'
    rw [← hg] at this
    exact this
  · rw [← scI_next, ← scI_next]
    exact does_drop s hw hm _ _ N D ib hib

theorem does_allChans (s : State F) (hw : s .wt = wtv (s .w)) (hm : s .mw = mwv (s .mb)) (ho : s .mo = mov (s .mb)) :
    Does defs 𝒱 c M m1 m2 q1 q2 t1 t2 (loop 14 (fun ib hib _ => chans (M .xt) (M .ws) (M .dyb) (M .wt) (M .mw) (M .mo) (M .rs) (M .mx) (M .dn) (M .ds) ib hib) ⟨⟩) s ⟨⟩
      (fst s (rsv (s .xt) (s .dyb) (s .mb)) (mxv (s .xt) (s .dyb) (s .mb)) (dnv (s .w) (s .mb) (s .ws)) (dsv (s .w) (s .mb) (s .ws))) := by
  refine does_rounds 14 _ (fun ib => fst s (scI (rsv (s .xt) (s .dyb) (s .mb)) (s .rs) ib 0) (scI (mxv (s .xt) (s .dyb) (s .mb)) (s .mx) ib 0)
        (drI (dnv (s .w) (s .mb) (s .ws)) (s .dn) ib) (drI (dsv (s .w) (s .mb) (s .ws)) (s .ds) ib)) ?_ ?_ (fun ib hib => does_chans s hw hm ho _ _ _ _ ib hib)
  · have e1 : ∀ V X : S112x512.Idx → F .f32, scI V X 0 0 = X := fun V X => funext fun i => if_neg (by omega)
    have e2 : ∀ V X : S448x128.Idx → F .f32, drI V X 0 = X := fun V X => funext fun i => if_neg (by omega)
    beta_reduce
    rw [e1, e1, e2, e2]
    unfold fst
    rw [put_eq_self]
    refine .trans ?_ (congrArg (fun z => put (put z .dn (s .dn)) .ds (s .ds)) (put_eq_self s .mx).symm)
    refine .trans ?_ (congrArg (fun z => put z .ds (s .ds)) (put_eq_self s .dn).symm)
    exact (put_eq_self s .ds).symm
  · have e1 : ∀ V X : S112x512.Idx → F .f32, scI V X 14 0 = V := fun V X => funext fun i => if_pos (by have := idx2_lt0 i; omega)
    have e2 : ∀ V X : S448x128.Idx → F .f32, drI V X 14 = V := fun V X => funext fun i => if_pos (by have := idx2_lt0 i; omega)
    beta_reduce
    rw [e1, e1, e2, e2]

/-! ## The results -/

theorem rd_all {sh : Shape} {A : Type} (off : Fin sh.rank → ℕ) (inb) (h0 : ∀ a, off a = 0) (X : sh.Idx → A) :
    (fun j => X ((Rect.unit (s := sh) off sh.size inb).toLoadRect.idx j)) = X :=
  funext fun j => congrArg X (funext fun a => Fin.ext (by show off a + 1 * (j a).val = (j a).val; rw [h0 a]; omega))

theorem z2 : ∀ a, (![0, 0] : Fin 2 → ℕ) a = 0 := fun a => by fin_cases a <;> rfl

theorem does_outGrow (s : State F) :
    Does defs 𝒱 c M m1 m2 q1 q2 t1 t2 (outGrow (M .gmax) (M .grow) (M .rs) (M .mx)) s ⟨⟩ (put (put s .grow (outGrowv (s .rs))) .gmax (outGmaxv (s .mx))) := by
  unfold outGrow
  refine does_bind' (does_ld _ .rs _ _) ?_
  refine does_bind' (does_st _ .grow _ _ _ _) ?_
  refine does_bind' (does_ld _ .mx _ _) ?_
  refine does_cong (does_st _ .gmax _ _ _ _) rfl ?_
  have e1 := rd_all (sh := S112x512) ![0, 0] (inb2 (by decide) (by decide)) z2 (s .rs)
  have e2 := rd_all (sh := S112x512) ![0, 0] (inb2 (by decide) (by decide)) z2 (s .mx)
  have f1 : over (Rect.unit (s := S512x112) ![0, 0] S512x112.size (inb2 (by decide) (by decide)))
      (transpose S512x112 [1, 0] (s .rs : FVec F S112x512 .f32) Gen.transposes_S112x512_p1_0_S512x112) (s .grow) = outGrowv (s .rs) :=
    (over_all (sh := S512x112) ![0, 0] _ z2 _ _).trans (funext fun j => transpose_at _ _ j)
  have f2 : over (Rect.unit (s := S16x112) ![0, 0] S16x112.size (inb2 (by decide) (by decide))) (outGmaxv (s .mx)) (s .gmax) = outGmaxv (s .mx) :=
    over_all (sh := S16x112) ![0, 0] _ z2 _ _
  refine congrArg₂ (fun A B => put (put s .grow A) .gmax B) (.trans ?_ f1) (.trans ?_ f2)
  · exact congrArg (fun Z : FVec F S112x512 .f32 => over (Rect.unit (s := S512x112) ![0, 0] S512x112.size (inb2 (by decide) (by decide)))
      (transpose S512x112 [1, 0] Z Gen.transposes_S112x512_p1_0_S512x112) (s .grow)) e1
  · exact congrArg (fun Z : FVec F S112x512 .f32 => over (Rect.unit (s := S16x112) ![0, 0] S16x112.size (inb2 (by decide) (by decide))) (outGmaxv Z) (s .gmax)) e2

theorem sub4_rd (X : S448x128.Idx → F .f32) (q : ℕ) (inb) :
    (fun j => X ((⟨![q, 0], S112x128.size, ![4, 1], inb⟩ : LoadRect S448x128).idx j)) = sub4 X q := by
  funext j
  refine (at2_eq X _ ?_ ?_).symm
  · show q + 4 * (j 0).val = _
    rfl
  · show 0 + 1 * (j 1).val = _
    omega

theorem does_ldn (s : State F) (q : ℕ) (hq : q < 4) : Does defs 𝒱 c M m1 m2 q1 q2 t1 t2 (ldd (M .dn) q hq) s (sub4 (s .dn) q) s :=
  does_cong (does_ld s .dn _ _) (sub4_rd (s .dn) q _) rfl
theorem does_lds (s : State F) (q : ℕ) (hq : q < 4) : Does defs 𝒱 c M m1 m2 q1 q2 t1 t2 (ldd (M .ds) q hq) s (sub4 (s .ds) q) s :=
  does_cong (does_ld s .ds _ _) (sub4_rd (s .ds) q _) rfl

theorem does_outDrop (s : State F) :
    Does defs 𝒱 c M m1 m2 q1 q2 t1 t2 (outDrop (M .dmin) (M .dsum) (M .dn) (M .ds)) s ⟨⟩ (put (put s .dmin (outDminv (s .dn))) .dsum (outDsumv (s .ds))) := by
  unfold outDrop
  refine does_bind' (does_ldn s 0 _) ?_
  refine does_bind' (does_lds s 0 _) ?_
  refine does_bind' (does_ldn s 1 _) ?_
  refine does_bind' (does_lds s 1 _) ?_
  refine does_bind' (does_ldn s 2 _) ?_
  refine does_bind' (does_lds s 2 _) ?_
  refine does_bind' (does_ldn s 3 _) ?_
  refine does_bind' (does_lds s 3 _) ?_
  refine does_bind' (does_st _ .dmin _ _ _ _) ?_
  refine does_cong (does_st _ .dsum _ _ _ _) rfl ?_
  exact congrArg₂ (fun A B => put (put s .dmin A) .dsum B) (over_all (sh := S16x112) ![0, 0] _ z2 (outDminv (s .dn)) (s .dmin))
    (over_all (sh := S16x112) ![0, 0] _ z2 (outDsumv (s .ds)) (s .dsum))

/-! ## The body -/

/-- The packed gradients the body's point works on. -/
def packed (t1 t2 : S48.Idx → BitVec 32) (first : Bool) (s : State F) : S1568x512.Idx → F .bf16 :=
  pk t1 t2 (val (s .dy) (s .dsc) (s .keep)) (entry first (s .dyb)) 48

/-- The body's buffers after it. -/
def after (t1 t2 : S48.Idx → BitVec 32) (first : Bool) (s : State F) : State F :=
  let D := packed t1 t2 first s
  let a := mst (put (put s .dyb D) .wt (wtv (s .w))) (mwv (s .mb)) (mov (s .mb))
  let b := fst a (rsv (s .xt) D (s .mb)) (mxv (s .xt) D (s .mb)) (dnv (s .w) (s .mb) (s .ws)) (dsv (s .w) (s .mb) (s .ws))
  let d := put (put b .grow (outGrowv (rsv (s .xt) D (s .mb)))) .gmax (outGmaxv (mxv (s .xt) D (s .mb)))
  put (put d .dmin (outDminv (dnv (s .w) (s .mb) (s .ws)))) .dsum (outDsumv (dsv (s .w) (s .mb) (s .ws)))

theorem does_body (hT : Good t1 t2) (first : Bool) (h : (M .dyb).IsWhole) (s : State F) :
    Does defs 𝒱 c M m1 m2 q1 q2 t1 t2 (body first m1 m2 (M .xt) (M .dy) (M .dsc) (M .keep) (M .w) (M .ws) (M .mb) (M .gmax) (M .grow) (M .dmin) (M .dsum)
      (M .dyb) h (M .wt) (M .mw) (M .mo) (M .rs) (M .mx) (M .dn) (M .ds)) s ⟨⟩ (after t1 t2 first s) := by
  unfold body
  refine does_bind' (does_zero first h s) ?_
  refine does_bind' (does_grans hT h _) ?_
  rw [put_put, put_self]
  refine does_bind' (s1 := put (put s .dyb (packed t1 t2 first s)) .wt (wtv (s .w))) (does_wts _) ?_
  refine does_bind' (does_mtrs _) ?_
  refine does_bind' (does_mtrTail (put (put s .dyb (packed t1 t2 first s)) .wt (wtv (s .w))) _ _) ?_
  refine does_bind' (does_allChans (mst (put (put s .dyb (packed t1 t2 first s)) .wt (wtv (s .w))) (mwv (s .mb)) (mov (s .mb))) rfl rfl rfl) ?_
  refine does_bind' (does_outGrow _) ?_
  exact does_outDrop _

end Cert.KernelIdeal.Body
-- ==== Proof.BodyEq.lean ====
module

public import proofs.«01_k».proof.Proof.Body

@[expose] public section
noncomputable section
namespace Cert.KernelIdeal.Body
open Idealize.ShloMosaic Idealize.SL.Sem
open Cert.KernelIdeal
variable {F : FTy → Type} [FloatOps F]

/-- The word the body branches on: one at the first grid point, zero elsewhere. -/
def firstWord (i : grid0.Coords) : BitVec 1 := Scalar.cmpi .ne (Scalar.extui (Scalar.cmpi .eq (BitVec.ofNat 32 (i 0).val) 0#32) : BitVec 32) 0#32

/-- A point of the grid, by number. -/
def pt (k : ℕ) (h : k < 37) : grid0.Coords := fun _ => ⟨k, by rename_i a; fin_cases a; exact h⟩

/-- The first statements of the body depend on the grid point through the branch word alone. -/
theorem part1_congr (i i' : grid0.Coords) (h : firstWord i = firstWord i')  (arg1 : Memref sig .tc .smem S48 .i32) (harg1 : arg1.IsWhole) (arg2 : Memref sig .tc .smem S48 .i32) (harg2 : arg2.IsWhole) (arg3 : Memref sig .tc .vmem S3584x1536 .bf16) (harg3 : arg3.IsWhole) (arg4 : Memref sig .tc .vmem S1536x512 .fp8e5m2) (harg4 : arg4.IsWhole) (arg5 : Memref sig .tc .vmem S1536x128 .bf16) (harg5 : arg5.IsWhole) (arg6 : Memref sig .tc .vmem S1536x128 .i8) (harg6 : arg6.IsWhole) (arg7 : Memref sig .tc .vmem S512x3584 .i8) (harg7 : arg7.IsWhole) (arg8 : Memref sig .tc .vmem S1x32x128 .f32) (harg8 : arg8.IsWhole) (arg9 : Memref sig .tc .vmem S512x448 .i8) (harg9 : arg9.IsWhole) (arg10 : Memref sig .tc .vmem S16x112 .f32) (harg10 : arg10.IsWhole) (arg11 : Memref sig .tc .vmem S512x112 .f32) (harg11 : arg11.IsWhole) (arg12 : Memref sig .tc .vmem S16x112 .f32) (harg12 : arg12.IsWhole) (arg13 : Memref sig .tc .vmem S16x112 .f32) (harg13 : arg13.IsWhole) (arg14 : Memref sig .tc .vmem S1568x512 .bf16) (harg14 : arg14.IsWhole) (arg15 : Memref sig .tc .vmem S3584x128 .i32) (harg15 : arg15.IsWhole) (arg16 : Memref sig .tc .vmem S448x128 .i32) (harg16 : arg16.IsWhole) (arg17 : Memref sig .tc .vmem S4x448x128 .i32) (harg17 : arg17.IsWhole) (arg18 : Memref sig .tc .vmem S112x512 .f32) (harg18 : arg18.IsWhole) (arg19 : Memref sig .tc .vmem S112x512 .f32) (harg19 : arg19.IsWhole) (arg20 : Memref sig .tc .vmem S448x128 .f32) (harg20 : arg20.IsWhole) (arg21 : Memref sig .tc .vmem S448x128 .f32) (harg21 : arg21.IsWhole) :
    k0_part1 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 = k0_part1 (F := F) i' arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 := by
  unfold firstWord at h
  unfold k0_part1
  simp only [h]

theorem scores_congr (i i' : grid0.Coords) (h : firstWord i = firstWord i')  (arg1 : Memref sig .tc .smem S48 .i32) (harg1 : arg1.IsWhole) (arg2 : Memref sig .tc .smem S48 .i32) (harg2 : arg2.IsWhole) (arg3 : Memref sig .tc .vmem S3584x1536 .bf16) (harg3 : arg3.IsWhole) (arg4 : Memref sig .tc .vmem S1536x512 .fp8e5m2) (harg4 : arg4.IsWhole) (arg5 : Memref sig .tc .vmem S1536x128 .bf16) (harg5 : arg5.IsWhole) (arg6 : Memref sig .tc .vmem S1536x128 .i8) (harg6 : arg6.IsWhole) (arg7 : Memref sig .tc .vmem S512x3584 .i8) (harg7 : arg7.IsWhole) (arg8 : Memref sig .tc .vmem S1x32x128 .f32) (harg8 : arg8.IsWhole) (arg9 : Memref sig .tc .vmem S512x448 .i8) (harg9 : arg9.IsWhole) (arg10 : Memref sig .tc .vmem S16x112 .f32) (harg10 : arg10.IsWhole) (arg11 : Memref sig .tc .vmem S512x112 .f32) (harg11 : arg11.IsWhole) (arg12 : Memref sig .tc .vmem S16x112 .f32) (harg12 : arg12.IsWhole) (arg13 : Memref sig .tc .vmem S16x112 .f32) (harg13 : arg13.IsWhole) (arg14 : Memref sig .tc .vmem S1568x512 .bf16) (harg14 : arg14.IsWhole) (arg15 : Memref sig .tc .vmem S3584x128 .i32) (harg15 : arg15.IsWhole) (arg16 : Memref sig .tc .vmem S448x128 .i32) (harg16 : arg16.IsWhole) (arg17 : Memref sig .tc .vmem S4x448x128 .i32) (harg17 : arg17.IsWhole) (arg18 : Memref sig .tc .vmem S112x512 .f32) (harg18 : arg18.IsWhole) (arg19 : Memref sig .tc .vmem S112x512 .f32) (harg19 : arg19.IsWhole) (arg20 : Memref sig .tc .vmem S448x128 .f32) (harg20 : arg20.IsWhole) (arg21 : Memref sig .tc .vmem S448x128 .f32) (harg21 : arg21.IsWhole) :
    cc0_scores (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 = cc0_scores (F := F) i' arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 := by
  unfold cc0_scores k0_part664
  rw [part1_congr i i' h]
  chain_rfl

theorem scores_first  (arg1 : Memref sig .tc .smem S48 .i32) (harg1 : arg1.IsWhole) (arg2 : Memref sig .tc .smem S48 .i32) (harg2 : arg2.IsWhole) (arg3 : Memref sig .tc .vmem S3584x1536 .bf16) (harg3 : arg3.IsWhole) (arg4 : Memref sig .tc .vmem S1536x512 .fp8e5m2) (harg4 : arg4.IsWhole) (arg5 : Memref sig .tc .vmem S1536x128 .bf16) (harg5 : arg5.IsWhole) (arg6 : Memref sig .tc .vmem S1536x128 .i8) (harg6 : arg6.IsWhole) (arg7 : Memref sig .tc .vmem S512x3584 .i8) (harg7 : arg7.IsWhole) (arg8 : Memref sig .tc .vmem S1x32x128 .f32) (harg8 : arg8.IsWhole) (arg9 : Memref sig .tc .vmem S512x448 .i8) (harg9 : arg9.IsWhole) (arg10 : Memref sig .tc .vmem S16x112 .f32) (harg10 : arg10.IsWhole) (arg11 : Memref sig .tc .vmem S512x112 .f32) (harg11 : arg11.IsWhole) (arg12 : Memref sig .tc .vmem S16x112 .f32) (harg12 : arg12.IsWhole) (arg13 : Memref sig .tc .vmem S16x112 .f32) (harg13 : arg13.IsWhole) (arg14 : Memref sig .tc .vmem S1568x512 .bf16) (harg14 : arg14.IsWhole) (arg15 : Memref sig .tc .vmem S3584x128 .i32) (harg15 : arg15.IsWhole) (arg16 : Memref sig .tc .vmem S448x128 .i32) (harg16 : arg16.IsWhole) (arg17 : Memref sig .tc .vmem S4x448x128 .i32) (harg17 : arg17.IsWhole) (arg18 : Memref sig .tc .vmem S112x512 .f32) (harg18 : arg18.IsWhole) (arg19 : Memref sig .tc .vmem S112x512 .f32) (harg19 : arg19.IsWhole) (arg20 : Memref sig .tc .vmem S448x128 .f32) (harg20 : arg20.IsWhole) (arg21 : Memref sig .tc .vmem S448x128 .f32) (harg21 : arg21.IsWhole) :
    cc0_scores (F := F) (pt 0 (by decide)) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 = body true arg1 arg2 arg3 arg4 arg5 arg6 arg7 arg8 arg9 arg10 arg11 arg12 arg13 arg14 harg14 arg15 arg16 arg17 arg18 arg19 arg20 arg21 := by
  chain_rfl

theorem scores_rest  (arg1 : Memref sig .tc .smem S48 .i32) (harg1 : arg1.IsWhole) (arg2 : Memref sig .tc .smem S48 .i32) (harg2 : arg2.IsWhole) (arg3 : Memref sig .tc .vmem S3584x1536 .bf16) (harg3 : arg3.IsWhole) (arg4 : Memref sig .tc .vmem S1536x512 .fp8e5m2) (harg4 : arg4.IsWhole) (arg5 : Memref sig .tc .vmem S1536x128 .bf16) (harg5 : arg5.IsWhole) (arg6 : Memref sig .tc .vmem S1536x128 .i8) (harg6 : arg6.IsWhole) (arg7 : Memref sig .tc .vmem S512x3584 .i8) (harg7 : arg7.IsWhole) (arg8 : Memref sig .tc .vmem S1x32x128 .f32) (harg8 : arg8.IsWhole) (arg9 : Memref sig .tc .vmem S512x448 .i8) (harg9 : arg9.IsWhole) (arg10 : Memref sig .tc .vmem S16x112 .f32) (harg10 : arg10.IsWhole) (arg11 : Memref sig .tc .vmem S512x112 .f32) (harg11 : arg11.IsWhole) (arg12 : Memref sig .tc .vmem S16x112 .f32) (harg12 : arg12.IsWhole) (arg13 : Memref sig .tc .vmem S16x112 .f32) (harg13 : arg13.IsWhole) (arg14 : Memref sig .tc .vmem S1568x512 .bf16) (harg14 : arg14.IsWhole) (arg15 : Memref sig .tc .vmem S3584x128 .i32) (harg15 : arg15.IsWhole) (arg16 : Memref sig .tc .vmem S448x128 .i32) (harg16 : arg16.IsWhole) (arg17 : Memref sig .tc .vmem S4x448x128 .i32) (harg17 : arg17.IsWhole) (arg18 : Memref sig .tc .vmem S112x512 .f32) (harg18 : arg18.IsWhole) (arg19 : Memref sig .tc .vmem S112x512 .f32) (harg19 : arg19.IsWhole) (arg20 : Memref sig .tc .vmem S448x128 .f32) (harg20 : arg20.IsWhole) (arg21 : Memref sig .tc .vmem S448x128 .f32) (harg21 : arg21.IsWhole) :
    cc0_scores (F := F) (pt 1 (by decide)) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 = body false arg1 arg2 arg3 arg4 arg5 arg6 arg7 arg8 arg9 arg10 arg11 arg12 arg13 arg14 harg14 arg15 arg16 arg17 arg18 arg19 arg20 arg21 := by
  chain_rfl

end Cert.KernelIdeal.Body
-- ==== Proof.Launch.lean ====
/- The body at every grid point, and the run of the whole program: what its four results hold when it ends. -/
module

public import proofs.«01_k».proof.Proof.Steps3
public import proofs.«01_k».proof.Proof.BodyEq
public import proofs.«01_k».proof.Proof.Gen.KernelIdeal.Launch
public import Idealize.ShloMosaic.Lib.Pipeline.FrameBody

@[expose] public section

noncomputable section

namespace Cert.KernelIdeal.Body

open Idealize.ShloMosaic Idealize.ShloMosaic.TcCoe Idealize.ShloMosaic.ValueIdx
open Idealize.SL
open Idealize.SL.BI (sProp bigSep bigSepL bigSep_univ_eq_bigSepL)
open scoped Idealize.SL.BI
open Idealize.SL.BI.BIBase Idealize.SL.BI.Laws Idealize.SL.Sem Idealize.SL.ProofMode
open Idealize.SL.RA
open Idealize.ShloMosaic.Pipeline (Dat Cfg Window BodyObligation BodyObligationLoose)
open Cert.KernelIdeal Cert.KernelIdeal.Gen

variable {F : FTy → Type} [FloatOps F]

local notation "𝕄" => MT nD τ sig Unit (Elt F) ℕ (UR sig nD τ) ℕ

/-! ## Packing over an earlier point's packing -/

/-- A row no granule covers keeps what it held; a covered row holds what the last granule over it put there, whatever
    was there before. So packing over the packing of zeros is packing over zeros. -/
theorem pk_over (t1 t2 : S48.Idx → BitVec 32) (V V' : ℕ → ℕ → F .bf16) (D : S1568x512.Idx → F .bf16) (n : ℕ) :
    pk t1 t2 V (pk t1 t2 V' D n) n = pk t1 t2 V D n := by
  have key : ∀ (X Y : S1568x512.Idx → F .bf16) (k : ℕ) (i : S1568x512.Idx),
      pk t1 t2 V X k i = pk t1 t2 V Y k i ∨ (pk t1 t2 V X k i = X i ∧ pk t1 t2 V Y k i = Y i ∧ ∀ Z, pk t1 t2 V' Z k i = Z i) := by
    intro X Y k i
    induction k with
    | zero => exact Or.inr ⟨rfl, rfl, fun _ => rfl⟩
    | succ k ih =>
      simp only [pk]
      split_ifs with h
      · exact Or.inl rfl
      · exact ih
  funext i
  rcases key (pk t1 t2 V' D n) D n i with h | ⟨h1, h2, h3⟩
  · exact h
  · rw [h1, h2, h3]

/-! ## The grid's points -/

/-- The branch word is set at the first point and at no other. -/
theorem firstWord_coords (t : Fin grid0.N) :
    firstWord (grid0.coords t) = if t.val = 0 then firstWord (pt 0 (by decide)) else firstWord (pt 1 (by decide)) := by
  revert t; decide +kernel

variable (m : (ℓ : Loc nD τ sig) → Buf (Elt F) ℓ)

/-- A buffer's contents at the start. -/
abbrev V (c : Dev nD) (b : Ref sig .tc) : Buf (Elt F) ((c.tc : Thread nD τ).loc b) := m ((c.tc : Thread nD τ).loc b)

/-- The two tables. -/
def tbl : pre0.Contents (Elt F) := fun j => V m (0 : Dev nD) (pre0.ref j)

abbrev adm : (pcfg0 (F := F)).Adm := ⟨tbl m, trivial⟩
abbrev cfgM : Cfg sig Λ₀ := cfg0 (adm m)

/-- The rows the granules start at, in the gradients and in the packed buffer. -/
abbrev src : S48.Idx → BitVec 32 := tbl m (0 : Fin 2)
abbrev dst : S48.Idx → BitVec 32 := tbl m (1 : Fin 2)

/-- The block of window `w` at point `t`. -/
def iblk (c : Dev nD) (w : Fin 11) (t : Fin (cfgM m).N) : (((cfgM m).win w).xblock ((cfgM m).grid.coords t)).Idx → Elt F ((cfgM m).win w).elt :=
  (((cfgM m).win w).blk t).view.read (Elt F) (V m c (Pipeline.arrRef spec0 w))

abbrev bXt (c : Dev nD) (t : Fin (cfgM m).N) : S3584x1536.Idx → F .bf16 := iblk m c 0 t
abbrev bDy (c : Dev nD) (t : Fin (cfgM m).N) : S1536x512.Idx → F .fp8e5m2 := iblk m c 1 t
abbrev bDsc (c : Dev nD) (t : Fin (cfgM m).N) : S1536x128.Idx → F .bf16 := iblk m c 2 t
abbrev bKeep (c : Dev nD) (t : Fin (cfgM m).N) : S1536x128.Idx → BitVec 8 := iblk m c 3 t
abbrev bW (c : Dev nD) (t : Fin (cfgM m).N) : S512x3584.Idx → BitVec 8 := iblk m c 4 t
abbrev bWs (c : Dev nD) (t : Fin (cfgM m).N) : S1x32x128.Idx → F .f32 := iblk m c 5 t
abbrev bMb (c : Dev nD) (t : Fin (cfgM m).N) : S512x448.Idx → BitVec 8 := iblk m c 6 t

/-- The packed gradients at point `t`. -/
def dyb (c : Dev nD) (t : Fin (cfgM m).N) : S1568x512.Idx → F .bf16 :=
  pk (src m) (dst m) (val (bDy m c t) (bDsc m c t) (bKeep m c t)) zeros 48

/-- The four results' blocks. -/
def oGmax (c : Dev nD) (t : Fin (cfgM m).N) : S16x112.Idx → F .f32 := outGmaxv (mxv (bXt m c t) (dyb m c t) (bMb m c t))
def oGrow (c : Dev nD) (t : Fin (cfgM m).N) : S512x112.Idx → F .f32 := outGrowv (rsv (bXt m c t) (dyb m c t) (bMb m c t))
def oDmin (c : Dev nD) (t : Fin (cfgM m).N) : S16x112.Idx → F .f32 := outDminv (dnv (bW m c t) (bMb m c t) (bWs m c t))
def oDsum (c : Dev nD) (t : Fin (cfgM m).N) : S16x112.Idx → F .f32 := outDsumv (dsv (bW m c t) (bMb m c t) (bWs m c t))

/-! ## The invariant between points -/

/-- The eight scratch buffers at their contents. -/
def scratch (c : Dev nD) (s : State F) : sProp 𝕄 :=
  iprop(owns (c.tc : Thread nD τ) (Memref.whole cc0_scratch0) fullShare (s .dyb)
    ∗ owns (c.tc : Thread nD τ) (Memref.whole cc0_scratch1) fullShare (s .wt)
    ∗ owns (c.tc : Thread nD τ) (Memref.whole cc0_scratch2) fullShare (s .mw)
    ∗ owns (c.tc : Thread nD τ) (Memref.whole cc0_scratch3) fullShare (s .mo)
    ∗ owns (c.tc : Thread nD τ) (Memref.whole cc0_scratch4) fullShare (s .rs)
    ∗ owns (c.tc : Thread nD τ) (Memref.whole cc0_scratch5) fullShare (s .mx)
    ∗ owns (c.tc : Thread nD τ) (Memref.whole cc0_scratch6) fullShare (s .dn)
    ∗ owns (c.tc : Thread nD τ) (Memref.whole cc0_scratch7) fullShare (s .ds))

/-- The two tables, at half the full share. -/
def tables (c : Dev nD) : sProp 𝕄 :=
  iprop(owns (Val := Elt F) (c.tc : Thread nD τ) (Memref.whole main_arg0) fullShare.right (src m)
    ∗ owns (Val := Elt F) (c.tc : Thread nD τ) (Memref.whole main_arg1) fullShare.right (dst m))

/-- After the first point the packed buffer holds a packing of zeros. -/
def Packed (n : ℕ) (X : S1568x512.Idx → F .bf16) : Prop :=
  n ≠ 0 → ∃ V' : ℕ → ℕ → F .bf16, X = pk (src m) (dst m) V' zeros 48

/-- What holds between the points: the tables, the generator register and the scratch buffers. -/
def inv (c : Dev nD) (n : ℕ) : sProp 𝕄 :=
  iprop(tables m c ∗ (∃ r, prngReg c r) ∗ ∃ s : State F, ⌜Packed m n (s .dyb)⌝ ∗ scratch c s)

/-- The proof data. -/
def dats (p : Fin 1) (c : Dev nD) : Dat τ (Elt F) Unit ℕ (UR sig nD τ) ℕ (Pipeline.pin (pcfgs (F := F)) (fun _ => adm m) p) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => oGmax m c t
    | ⟨8, _⟩ => oGrow m c t
    | ⟨9, _⟩ => oDmin m c t
    | ⟨10, _⟩ => oDsum m c t
  Φ t := inv m c t.val
  q _ := fullShare
  owed _ := 0

theorem before_0 (c : Dev nD) (t : Fin (cfgM m).N) (d) : (dats m 0 c).before 0 t d = iblk m c 0 t := by
  rw [Dat.before_in_eq_fetched (dats m 0 c) 0 rfl (fun _ => rfl) (fun _ _ _ => rfl) (fun _ => rfl) t d]
  rfl
theorem before_1 (c : Dev nD) (t : Fin (cfgM m).N) (d) : (dats m 0 c).before 1 t d = iblk m c 1 t := by
  rw [Dat.before_in_eq_fetched (dats m 0 c) 1 rfl (fun _ => rfl) (fun _ _ _ => rfl) (fun _ => rfl) t d]
  rfl
theorem before_2 (c : Dev nD) (t : Fin (cfgM m).N) (d) : (dats m 0 c).before 2 t d = iblk m c 2 t := by
  rw [Dat.before_in_eq_fetched (dats m 0 c) 2 rfl (fun _ => rfl) (fun _ _ _ => rfl) (fun _ => rfl) t d]
  rfl
theorem before_3 (c : Dev nD) (t : Fin (cfgM m).N) (d) : (dats m 0 c).before 3 t d = iblk m c 3 t := by
  rw [Dat.before_in_eq_fetched (dats m 0 c) 3 rfl (fun _ => rfl) (fun _ _ _ => rfl) (fun _ => rfl) t d]
  rfl
theorem before_4 (c : Dev nD) (t : Fin (cfgM m).N) (d) : (dats m 0 c).before 4 t d = iblk m c 4 t := by
  rw [Dat.before_in_eq_fetched (dats m 0 c) 4 rfl (fun _ => rfl) (fun _ _ _ => rfl) (fun _ => rfl) t d]
  rfl
theorem before_5 (c : Dev nD) (t : Fin (cfgM m).N) (d) : (dats m 0 c).before 5 t d = iblk m c 5 t := by
  rw [Dat.before_in_eq_fetched (dats m 0 c) 5 rfl (fun _ => rfl) (fun _ _ _ => rfl) (fun _ => rfl) t d]
  rfl
theorem before_6 (c : Dev nD) (t : Fin (cfgM m).N) (d) : (dats m 0 c).before 6 t d = iblk m c 6 t := by
  rw [Dat.before_in_eq_fetched (dats m 0 c) 6 rfl (fun _ => rfl) (fun _ _ _ => rfl) (fun _ => rfl) t d]
  rfl

theorem after_7 (c : Dev nD) (t : Fin (cfgM m).N) : (dats m 0 c).after 7 t = oGmax m c t := by dsimp only [dats]; rfl
theorem after_8 (c : Dev nD) (t : Fin (cfgM m).N) : (dats m 0 c).after 8 t = oGrow m c t := by dsimp only [dats]; rfl
theorem after_9 (c : Dev nD) (t : Fin (cfgM m).N) : (dats m 0 c).after 9 t = oDmin m c t := by dsimp only [dats]; rfl
theorem after_10 (c : Dev nD) (t : Fin (cfgM m).N) : (dats m 0 c).after 10 t = oDsum m c t := by dsimp only [dats]; rfl

/-- The buffers' places at point `t`. -/
def mems (t : Fin (cfgM m).N) : Mems := fun b => match b with
  | .xt => spec0_0.stage ((cfgM m).slots t 0)
  | .dy => spec0_1.stage ((cfgM m).slots t 1)
  | .dsc => spec0_2.stage ((cfgM m).slots t 2)
  | .keep => spec0_3.stage ((cfgM m).slots t 3)
  | .w => spec0_4.stage ((cfgM m).slots t 4)
  | .ws => spec0_5.stage ((cfgM m).slots t 5)
  | .mb => spec0_6.stage ((cfgM m).slots t 6)
  | .gmax => spec0_7.stage ((cfgM m).slots t 7)
  | .grow => spec0_8.stage ((cfgM m).slots t 8)
  | .dmin => spec0_9.stage ((cfgM m).slots t 9)
  | .dsum => spec0_10.stage ((cfgM m).slots t 10)
  | .dyb => Memref.whole cc0_scratch0
  | .wt => Memref.whole cc0_scratch1
  | .mw => Memref.whole cc0_scratch2
  | .mo => Memref.whole cc0_scratch3
  | .rs => Memref.whole cc0_scratch4
  | .mx => Memref.whole cc0_scratch5
  | .dn => Memref.whole cc0_scratch6
  | .ds => Memref.whole cc0_scratch7

/-- The program run at point `t`. -/
theorem row (t : Fin (cfgM m).N) :
    defs₀ (F := F) .tc (cfgM m).body ((cfgM m).bodyArgs t ((cfgM m).slots t))
      = body (decide (t.val = 0)) (Memref.whole main_arg0) (Memref.whole main_arg1) (mems m t .xt) (mems m t .dy) (mems m t .dsc) (mems m t .keep) (mems m t .w) (mems m t .ws) (mems m t .mb) (mems m t .gmax) (mems m t .grow) (mems m t .dmin) (mems m t .dsum)
        (mems m t .dyb) (Memref.isWhole_whole _) (mems m t .wt) (mems m t .mw) (mems m t .mo) (mems m t .rs) (mems m t .mx) (mems m t .dn) (mems m t .ds) := by
  have hw := firstWord_coords t
  unfold defs₀; rw [Defs.onTc_tc]
  by_cases ht : t.val = 0
  · rw [if_pos ht] at hw
    rw [decide_eq_true ht]
    exact (scores_congr _ _ hw _ _ _ _ _ _ _ _ _ _ _ _ _ _ _ _ _ _ _ _ _ _ _ _ _ _ _ _ _ _ _ _ _ _ _ _ _ _ _ _ _ _).trans (scores_first _ _ _ _ _ _ _ _ _ _ _ _ _ _ _ _ _ _ _ _ _ _ _ _ _ _ _ _ _ _ _ _ _ _ _ _ _ _ _ _ _ _)
  · rw [if_neg ht] at hw
    rw [decide_eq_false ht]
    exact (scores_congr _ _ hw _ _ _ _ _ _ _ _ _ _ _ _ _ _ _ _ _ _ _ _ _ _ _ _ _ _ _ _ _ _ _ _ _ _ _ _ _ _ _ _ _ _).trans (scores_rest _ _ _ _ _ _ _ _ _ _ _ _ _ _ _ _ _ _ _ _ _ _ _ _ _ _ _ _ _ _ _ _ _ _ _ _ _ _ _ _ _ _)

/-- The buffers one by one. -/
theorem bigSep_B (Φ : B → sProp 𝕄) : bigSep Finset.univ Φ = iprop(Φ .xt ∗ Φ .dy ∗ Φ .dsc ∗ Φ .keep ∗ Φ .w ∗ Φ .ws ∗ Φ .mb ∗ Φ .gmax ∗ Φ .grow ∗ Φ .dmin ∗ Φ .dsum ∗ Φ .dyb ∗ Φ .wt ∗ Φ .mw ∗ Φ .mo ∗ Φ .rs ∗ Φ .mx ∗ Φ .dn ∗ Φ .ds) :=
  bigSep_univ_eq_bigSepL [B.xt, .dy, .dsc, .keep, .w, .ws, .mb, .gmax, .grow, .dmin, .dsum, .dyb, .wt, .mw, .mo, .rs, .mx, .dn, .ds] (by decide) (by decide) Φ

/-- The buffers' contents as the body finds them at point `t`. -/
def found (c : Dev nD) (t : Fin (cfgM m).N) (d7 : S16x112.Idx → F .f32) (d8 : S512x112.Idx → F .f32) (d9 d10 : S16x112.Idx → F .f32) (s : State F) : State F := fun b => match b with
  | .xt => bXt m c t
  | .dy => bDy m c t
  | .dsc => bDsc m c t
  | .keep => bKeep m c t
  | .w => bW m c t
  | .ws => bWs m c t
  | .mb => bMb m c t
  | .gmax => d7
  | .grow => d8
  | .dmin => d9
  | .dsum => d10
  | .dyb => s .dyb
  | .wt => s .wt
  | .mw => s .mw
  | .mo => s .mo
  | .rs => s .rs
  | .mx => s .mx
  | .dn => s .dn
  | .ds => s .ds

/-- Point `t` packs over zeros, or over a packing of zeros: the same. -/
theorem packed_found (c : Dev nD) (t : Fin (cfgM m).N) (d7 d8 d9 d10) (s : State F) (h : Packed m t.val (s .dyb)) :
    packed (src m) (dst m) (decide (t.val = 0)) (found m c t d7 d8 d9 d10 s) = dyb m c t := by
  unfold packed dyb
  by_cases ht : t.val = 0
  · rw [decide_eq_true ht]; rfl
  · rw [decide_eq_false ht]
    obtain ⟨V', hV⟩ := h ht
    show pk (src m) (dst m) (val (bDy m c t) (bDsc m c t) (bKeep m c t)) (s .dyb) 48 = _
    rw [hV, pk_over]

/-- The two gradient results' blocks after point `t`. -/
theorem gmax_after (c : Dev nD) (t : Fin (cfgM m).N) (d7 d8 d9 d10) (s : State F)
    (hD : packed (src m) (dst m) (decide (t.val = 0)) (found m c t d7 d8 d9 d10 s) = dyb m c t) :
    oGmax m c t = after (src m) (dst m) (decide (t.val = 0)) (found m c t d7 d8 d9 d10 s) .gmax := by
  unfold oGmax; rw [← hD]; rfl

theorem grow_after (c : Dev nD) (t : Fin (cfgM m).N) (d7 d8 d9 d10) (s : State F)
    (hD : packed (src m) (dst m) (decide (t.val = 0)) (found m c t d7 d8 d9 d10 s) = dyb m c t) :
    oGrow m c t = after (src m) (dst m) (decide (t.val = 0)) (found m c t d7 d8 d9 d10 s) .grow := by
  unfold oGrow; rw [← hD]; rfl

variable (hG : Good (src m) (dst m))
include hG

/-- The body at point `t`. -/
theorem sound (c : Dev nD) (t : Fin (cfgM m).N) :
    iprop(inv m c t.val ∗ (dats m 0 c).owesAt () t.castSucc
      ∗ (∃ d, owns (c.tc : Thread nD τ) (mems m t .xt) fullShare ((dats m 0 c).before 0 t d))
      ∗ (∃ d, owns (c.tc : Thread nD τ) (mems m t .dy) fullShare ((dats m 0 c).before 1 t d))
      ∗ (∃ d, owns (c.tc : Thread nD τ) (mems m t .dsc) fullShare ((dats m 0 c).before 2 t d))
      ∗ (∃ d, owns (c.tc : Thread nD τ) (mems m t .keep) fullShare ((dats m 0 c).before 3 t d))
      ∗ (∃ d, owns (c.tc : Thread nD τ) (mems m t .w) fullShare ((dats m 0 c).before 4 t d))
      ∗ (∃ d, owns (c.tc : Thread nD τ) (mems m t .ws) fullShare ((dats m 0 c).before 5 t d))
      ∗ (∃ d, owns (c.tc : Thread nD τ) (mems m t .mb) fullShare ((dats m 0 c).before 6 t d))
      ∗ (∃ d, owns (c.tc : Thread nD τ) (mems m t .gmax) fullShare ((dats m 0 c).before 7 t d))
      ∗ (∃ d, owns (c.tc : Thread nD τ) (mems m t .grow) fullShare ((dats m 0 c).before 8 t d))
      ∗ (∃ d, owns (c.tc : Thread nD τ) (mems m t .dmin) fullShare ((dats m 0 c).before 9 t d))
      ∗ (∃ d, owns (c.tc : Thread nD τ) (mems m t .dsum) fullShare ((dats m 0 c).before 10 t d)))
      ⊢ wp frame (wpE (defs₀ (F := F)) Variants.none (c.tc : Thread nD τ) none) Set.univ
        (defs₀ (F := F) .tc (cfgM m).body ((cfgM m).bodyArgs t ((cfgM m).slots t))) (fun _ =>
          iprop(inv m c (t.val + 1) ∗ (dats m 0 c).owesAt () t.castSucc
      ∗ owns (c.tc : Thread nD τ) (mems m t .xt) fullShare ((dats m 0 c).after 0 t)
      ∗ owns (c.tc : Thread nD τ) (mems m t .dy) fullShare ((dats m 0 c).after 1 t)
      ∗ owns (c.tc : Thread nD τ) (mems m t .dsc) fullShare ((dats m 0 c).after 2 t)
      ∗ owns (c.tc : Thread nD τ) (mems m t .keep) fullShare ((dats m 0 c).after 3 t)
      ∗ owns (c.tc : Thread nD τ) (mems m t .w) fullShare ((dats m 0 c).after 4 t)
      ∗ owns (c.tc : Thread nD τ) (mems m t .ws) fullShare ((dats m 0 c).after 5 t)
      ∗ owns (c.tc : Thread nD τ) (mems m t .mb) fullShare ((dats m 0 c).after 6 t)
      ∗ owns (c.tc : Thread nD τ) (mems m t .gmax) fullShare ((dats m 0 c).after 7 t)
      ∗ owns (c.tc : Thread nD τ) (mems m t .grow) fullShare ((dats m 0 c).after 8 t)
      ∗ owns (c.tc : Thread nD τ) (mems m t .dmin) fullShare ((dats m 0 c).after 9 t)
      ∗ owns (c.tc : Thread nD τ) (mems m t .dsum) fullShare ((dats m 0 c).after 10 t))) := by
  rw [row]
  simp only [before_0, before_1, before_2, before_3, before_4, before_5, before_6]
  unfold inv
  iintro ⟨⟨HT, HP, ⟨%s, %hs, HS⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  have hD := packed_found m c t ((dats m 0 c).before 7 t d7) ((dats m 0 c).before 8 t d8) ((dats m 0 c).before 9 t d9) ((dats m 0 c).before 10 t d10) s hs
  iapply (does_body (c := c) (M := mems m t) (defs := defs₀ (F := F)) (𝒱 := Variants.none) (q1 := fullShare.right) (q2 := fullShare.right)
    (m1 := Memref.whole main_arg0) (m2 := Memref.whole main_arg1) hG
    (decide (t.val = 0)) (Memref.isWhole_whole _) (found m c t ((dats m 0 c).before 7 t d7) ((dats m 0 c).before 8 t d8) ((dats m 0 c).before 9 t d9) ((dats m 0 c).before 10 t d10) s)
    _ iprop((dats m 0 c).owesAt () t.castSucc ∗ ∃ r, prngReg c r) ?_)
  · unfold own
    rw [bigSep_B]
    unfold tables
    iintro ⟨⟨⟨H0, H1, H2, H3, H4, H5, H6, H7, H8, H9, H10, S0, S1, S2, S3, S4, S5, S6, S7⟩, HT⟩, Ho, HP⟩
    isplitl [HT HP S0 S1 S2 S3 S4 S5 S6 S7]
    · isplitl [HT]; · iexact HT
      isplitl [HP]; · iexact HP
      iexists after (src m) (dst m) (decide (t.val = 0)) (found m c t ((dats m 0 c).before 7 t d7) ((dats m 0 c).before 8 t d8) ((dats m 0 c).before 9 t d9) ((dats m 0 c).before 10 t d10) s)
      isplitr
      · ipureintro
        intro _
        exact ⟨_, hD⟩
      · unfold scratch
        isplitl [S0]; · iexact S0
        isplitl [S1]; · iexact S1
        isplitl [S2]; · iexact S2
        isplitl [S3]; · iexact S3
        isplitl [S4]; · iexact S4
        isplitl [S5]; · iexact S5
        isplitl [S6]; · iexact S6
        iexact S7
    isplitl [Ho]; · iexact Ho
    isplitl [H0]
    · iexact H0
    isplitl [H1]
    · iexact H1
    isplitl [H2]
    · iexact H2
    isplitl [H3]
    · iexact H3
    isplitl [H4]
    · iexact H4
    isplitl [H5]
    · iexact H5
    isplitl [H6]
    · iexact H6
    isplitl [H7]
    · rw [after_7, gmax_after m c t _ _ _ _ s hD]; iexact H7
    isplitl [H8]
    · rw [after_8, grow_after m c t _ _ _ _ s hD]; iexact H8
    isplitl [H9]
    · rw [after_9]; iexact H9
    · rw [after_10]; iexact H10
  · unfold own
    rw [bigSep_B]
    unfold scratch tables
    icases HS with ⟨S0, S1, S2, S3, S4, S5, S6, S7⟩
    isplitr [Ho HP]
    · isplitr [HT]
      · isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [S0]; · iexact S0
        isplitl [S1]; · iexact S1
        isplitl [S2]; · iexact S2
        isplitl [S3]; · iexact S3
        isplitl [S4]; · iexact S4
        isplitl [S5]; · iexact S5
        isplitl [S6]; · iexact S6
        iexact S7
      · iexact HT
    · isplitl [Ho]; · iexact Ho
      iexact HP

theorem body_obligation (c : Dev nD) : BodyObligation (dats (F := F) m 0 c) (defs₀ (F := F)) Variants.none () Set.univ := fun t => by
  rw [bigSep_W0, bigSep_W0]
  exact triple_restated (sound m hG c t) rfl .rfl fun _ => .rfl

omit hG

theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

theorem V_pre (c : Dev nD) (j) : V m c (pre0.ref j) = tbl m j := by
  obtain rfl : c = 0 := Subsingleton.elim _ _
  rfl

theorem A_eq (c : Dev nD) (w : Fin (cfgM m).W) : (dats m 0 c).A w = V m c (Pipeline.arrRef (cfgM m).spec w) := by
  dsimp only [dats]

/-- Some contents of every buffer. -/
def some_state : State F := fun b _ => Classical.choice ((inferInstance : ∀ e, Nonempty (Elt F e)) b.el)

theorem scratch_of (c : Dev nD) : (Pipeline.scopedRest spec0 c : sProp 𝕄) ⊢ iprop(∃ s : State F, scratch c s) := by
  rw [scopedRest0_eq c]
  unfold scratch
  simp only [owns_whole]
  iintro ⟨⟨%f0, H0⟩, ⟨%f1, H1⟩, ⟨%f2, H2⟩, ⟨%f3, H3⟩, ⟨%f4, H4⟩, ⟨%f5, H5⟩, ⟨%f6, H6⟩, ⟨%f7, H7⟩⟩
  iexists (fun b => match b with
    | .dyb => f0 | .wt => f1 | .mw => f2 | .mo => f3 | .rs => f4 | .mx => f5 | .dn => f6 | .ds => f7
    | b => some_state b)
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem of_scratch (c : Dev nD) (s : State F) : scratch c s ⊢ (Pipeline.scopedRest spec0 c : sProp 𝕄) := by
  rw [scopedRest0_eq c]
  unfold scratch
  simp only [owns_whole]
  iintro ⟨H0, H1, H2, H3, H4, H5, H6, H7⟩
  isplitl [H0]; · iexists _; iexact H0
  isplitl [H1]; · iexists _; iexact H1
  isplitl [H2]; · iexists _; iexact H2
  isplitl [H3]; · iexists _; iexact H3
  isplitl [H4]; · iexists _; iexact H4
  isplitl [H5]; · iexists _; iexact H5
  isplitl [H6]; · iexists _; iexact H6
  iexists _; iexact H7

theorem inv_eq (c : Dev nD) (t : Fin ((cfgM m).N + 1)) : (dats m 0 c).Φ t = inv m c t.val := by dsimp only [dats]

theorem tables_of : Pipeline.ΦT pre0 (tbl m) (0 : Dev nD) ⊢ tables m 0 := by
  unfold tables Pipeline.ΦT Pipeline.prefHeld
  rw [show (Finset.univ : Finset (Fin 2)) = {(0 : Fin 2), (1 : Fin 2)} from by decide, BI.bigSep_insert (by decide), BI.bigSep_singleton]
  simp only [owns_whole]
  exact .rfl

theorem hin (c : Dev nD) : iprop(Pipeline.ΦA (cfgM m).spec c ∗ Pipeline.ΦT pre0 (tbl m) c) ⊢ (dats m 0 c).Φ 0 := by
  obtain rfl : c = 0 := Subsingleton.elim _ _
  rw [inv_eq]
  unfold inv Pipeline.ΦA
  iintro ⟨⟨HS, HP⟩, HT⟩
  ihave HT := (tables_of m) $$ HT
  isplitl [HT]; · iexact HT
  isplitl [HP]; · iexact HP
  ihave HS := (scratch_of 0) $$ HS
  icases HS with ⟨%s, HS⟩
  iexists s
  isplitr
  · ipureintro; intro h; exact absurd rfl h
  iexact HS

theorem inv_forget (c : Dev nD) (n : ℕ) {X : sProp 𝕄} (h : ∀ s : State F, scratch c s ⊢ X) : inv m c n ⊢ iprop(X ∗ ∃ r, prngReg c r) := by
  unfold inv
  iintro ⟨-, HP, ⟨%s, -, HS⟩⟩
  isplitl [HS]
  · iapply (h s); iexact HS
  iexact HP

theorem inv_scratch (c : Dev nD) (n : ℕ) : inv m c n ⊢ Pipeline.ΦA spec0 c := by
  unfold Pipeline.ΦA
  exact inv_forget m c n (of_scratch c)

theorem hout (c : Dev nD) : (dats m 0 c).Φ (Fin.last (cfgM m).N) ⊢ Pipeline.ΦA (cfgM m).spec c := by
  rw [inv_eq]
  exact inv_scratch m c _

include hG

/-- The run: every array of the pipeline ends at what the proof data says, every other buffer as it was, and every
    counter at zero. -/
theorem run (ρ : Dev nD → PrngReg) : θ_run defs (onTc (τ := τ) (main (F := F))) (s₀ m ρ)
    (fun r => Pipeline.FramePost (Pipeline.pin (pcfgs (F := F)) (fun _ => adm m)) (dats m) 0 (V m) r ∧ r.2.sem = fun _ => 0) :=
  Pipeline.θ_run_frameP_track (Q' := _) pcfgs (fun _ => adm m) (dats m) (0 : Fin 1) launch0 defs₀ Variants.none m ρ main
    (hbody := fun c => (body_obligation m hG c).loose) (hshare := fun c => (dats m 0 c).share_full fun _ => rfl)
    (howed := fun _ _ => rfl) (V := V m) (hmain := hmain m Variants.none) (hA := A_eq m) (hpf := V_pre m)
    (hin := hin m) (hout := hout m)

omit hG in
/-- The run leaves the arguments as they were. -/
theorem unchanged_of (r : PUnit × MemSt nD τ sig (Elt F))
    (hr : Pipeline.FramePost (Pipeline.pin (pcfgs (F := F)) (fun _ => adm m)) (dats m) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  ⟨(hr c).2 main_arg0 (Pipeline.mem_restRefs_of main_arg0 (by decide) (show ∀ w : Fin 11, (spec0 w).arr.view.ref ≠ main_arg0 by decide)),
    (hr c).2 main_arg1 (Pipeline.mem_restRefs_of main_arg1 (by decide) (show ∀ w : Fin 11, (spec0 w).arr.view.ref ≠ main_arg1 by decide)),
    ((hr c).1 0).trans (((dats m 0 c).arrAt_in 0 rfl _).trans (A_eq m c 0)),
    ((hr c).1 1).trans (((dats m 0 c).arrAt_in 1 rfl _).trans (A_eq m c 1)),
    ((hr c).1 2).trans (((dats m 0 c).arrAt_in 2 rfl _).trans (A_eq m c 2)),
    ((hr c).1 3).trans (((dats m 0 c).arrAt_in 3 rfl _).trans (A_eq m c 3)),
    ((hr c).1 4).trans (((dats m 0 c).arrAt_in 4 rfl _).trans (A_eq m c 4)),
    ((hr c).1 5).trans (((dats m 0 c).arrAt_in 5 rfl _).trans (A_eq m c 5)),
    ((hr c).1 6).trans (((dats m 0 c).arrAt_in 6 rfl _).trans (A_eq m c 6))⟩

theorem frame (ρ : Dev nD → PrngReg) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun r h => ⟨unchanged_of m r h.1, h.2⟩) (run m hG ρ)

end Cert.KernelIdeal.Body
-- ==== Proof.KernelValue.lean ====
/- What the four result arrays of the kernel hold when it ends, block by block, and its blocks read as the arguments. -/
module

public import proofs.«01_k».proof.Proof.Launch
public import Idealize.ShloMosaic.Lib.Pipeline.ValueKit

@[expose] public section

noncomputable section

namespace Cert.KernelIdeal.Body

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable {F : FTy → Type} [FloatOps F]
variable (m : (ℓ : Loc nD τ sig) → Buf (Elt F) ℓ)

/-! ## Block indices -/

theorem ix_0 : ∀ t : Fin grid0.N, cc0_transform_0 (grid0.coords t) = ![0, 0] := by decide +kernel
theorem ix_1 : ∀ t : Fin grid0.N, cc0_transform_1 (grid0.coords t) = ![0, t.val] := by decide +kernel
theorem ix_2 : ∀ t : Fin grid0.N, cc0_transform_2 (grid0.coords t) = ![0, 0] := by decide +kernel
theorem ix_3 : ∀ t : Fin grid0.N, cc0_transform_3 (grid0.coords t) = ![0, 0] := by decide +kernel
theorem ix_4 : ∀ t : Fin grid0.N, cc0_transform_4 (grid0.coords t) = ![t.val, 0] := by decide +kernel
theorem ix_5 : ∀ t : Fin grid0.N, cc0_transform_5 (grid0.coords t) = ![t.val, 0, 0] := by decide +kernel
theorem ix_6 : ∀ t : Fin grid0.N, cc0_transform_6 (grid0.coords t) = ![t.val, 0] := by decide +kernel
theorem ix_7 : ∀ t : Fin grid0.N, cc0_transform_7 (grid0.coords t) = ![t.val, 0] := by decide +kernel
theorem ix_8 : ∀ t : Fin grid0.N, cc0_transform_8 (grid0.coords t) = ![t.val, 0] := by decide +kernel
theorem ix_9 : ∀ t : Fin grid0.N, cc0_transform_9 (grid0.coords t) = ![t.val, 0] := by decide +kernel
theorem ix_10 : ∀ t : Fin grid0.N, cc0_transform_10 (grid0.coords t) = ![t.val, 0] := by decide +kernel

theorem idx_7 (t : Fin (cfgM m).N) : ((cfgM m).win 7).index t = ![t.val, 0] := ix_7 t
theorem idx_8 (t : Fin (cfgM m).N) : ((cfgM m).win 8).index t = ![t.val, 0] := ix_8 t
theorem idx_9 (t : Fin (cfgM m).N) : ((cfgM m).win 9).index t = ![t.val, 0] := ix_9 t
theorem idx_10 (t : Fin (cfgM m).N) : ((cfgM m).win 10).index t = ![t.val, 0] := ix_10 t

/-- A window whose block moves down a row of blocks at every point is written back at every point. -/
theorem flush_of {w : Window sig grid0} (hout : w.isOut = true) (h2 : w.shape.rank = 2)
    (h : ∀ t : Fin grid0.N, w.index t ⟨0, by omega⟩ = t.val) (t : Fin grid0.N) : w.flush t = true := by
  unfold Window.flush
  rw [hout, Bool.true_and]
  by_cases e : t.val + 1 = grid0.N
  · simp [e]
  · have lt : t.val + 1 < grid0.N := by have := t.isLt; omega
    rw [Bool.or_eq_true]
    right
    refine decide_eq_true ⟨lt, fun h' => ?_⟩
    have := congrFun h' ⟨0, by omega⟩
    rw [h, h] at this
    simp at this

theorem covers_7 : ((cfgM m).win 7).Covers := by
  refine ⟨fun a => (by decide : ∀ a, 0 < S16x112.size a) a, fun β => ?_⟩
  have hb : ∀ a : Fin 2, (β a).val < (![37, 1] : Fin 2 → ℕ) a := fun a => lt_of_lt_of_eq (β a).isLt
    ((by decide : ∀ a : Fin 2, (S592x112.size a + S16x112.size a - 1) / S16x112.size a = (![37, 1] : Fin 2 → ℕ) a) a)
  refine ⟨⟨(β (0 : Fin 2)).val, hb 0⟩, flush_of (w := (cfgM m).win 7) rfl rfl (fun t => congrFun (ix_7 t) (0 : Fin 2)) _, fun a => ⟨?_, Or.inl rfl⟩⟩
  rw [idx_7]
  match a with
  | ⟨0, _⟩ => rfl
  | ⟨1, _⟩ => have := hb 1; exact (Nat.lt_one_iff.1 this).symm

theorem covers_8 : ((cfgM m).win 8).Covers := by
  refine ⟨fun a => (by decide : ∀ a, 0 < S512x112.size a) a, fun β => ?_⟩
  have hb : ∀ a : Fin 2, (β a).val < (![37, 1] : Fin 2 → ℕ) a := fun a => lt_of_lt_of_eq (β a).isLt
    ((by decide : ∀ a : Fin 2, (S18944x112.size a + S512x112.size a - 1) / S512x112.size a = (![37, 1] : Fin 2 → ℕ) a) a)
  refine ⟨⟨(β (0 : Fin 2)).val, hb 0⟩, flush_of (w := (cfgM m).win 8) rfl rfl (fun t => congrFun (ix_8 t) (0 : Fin 2)) _, fun a => ⟨?_, Or.inl rfl⟩⟩
  rw [idx_8]
  match a with
  | ⟨0, _⟩ => rfl
  | ⟨1, _⟩ => have := hb 1; exact (Nat.lt_one_iff.1 this).symm

theorem covers_9 : ((cfgM m).win 9).Covers := by
  refine ⟨fun a => (by decide : ∀ a, 0 < S16x112.size a) a, fun β => ?_⟩
  have hb : ∀ a : Fin 2, (β a).val < (![37, 1] : Fin 2 → ℕ) a := fun a => lt_of_lt_of_eq (β a).isLt
    ((by decide : ∀ a : Fin 2, (S592x112.size a + S16x112.size a - 1) / S16x112.size a = (![37, 1] : Fin 2 → ℕ) a) a)
  refine ⟨⟨(β (0 : Fin 2)).val, hb 0⟩, flush_of (w := (cfgM m).win 9) rfl rfl (fun t => congrFun (ix_9 t) (0 : Fin 2)) _, fun a => ⟨?_, Or.inl rfl⟩⟩
  rw [idx_9]
  match a with
  | ⟨0, _⟩ => rfl
  | ⟨1, _⟩ => have := hb 1; exact (Nat.lt_one_iff.1 this).symm

theorem covers_10 : ((cfgM m).win 10).Covers := by
  refine ⟨fun a => (by decide : ∀ a, 0 < S16x112.size a) a, fun β => ?_⟩
  have hb : ∀ a : Fin 2, (β a).val < (![37, 1] : Fin 2 → ℕ) a := fun a => lt_of_lt_of_eq (β a).isLt
    ((by decide : ∀ a : Fin 2, (S592x112.size a + S16x112.size a - 1) / S16x112.size a = (![37, 1] : Fin 2 → ℕ) a) a)
  refine ⟨⟨(β (0 : Fin 2)).val, hb 0⟩, flush_of (w := (cfgM m).win 10) rfl rfl (fun t => congrFun (ix_10 t) (0 : Fin 2)) _, fun a => ⟨?_, Or.inl rfl⟩⟩
  rw [idx_10]
  match a with
  | ⟨0, _⟩ => rfl
  | ⟨1, _⟩ => have := hb 1; exact (Nat.lt_one_iff.1 this).symm

/-- The grid point whose block holds row `i`, of blocks of `n` rows. -/
def ptOf (n : ℕ) [NeZero n] (i : ℕ) (h : i < 37 * n) : Fin (cfgM m).N := ⟨i / n, (Nat.div_lt_iff_lt_mul (Nat.pos_of_neZero n)).2 h⟩

theorem ptOf_eq (n : ℕ) [NeZero n] (t : Fin (cfgM m).N) {i r : ℕ} {h : i < 37 * n} (e : i = t.val * n + r) (hr : r < n) :
    ptOf m n i h = t := by
  refine Fin.ext ?_
  show i / n = t.val
  rw [e, Nat.mul_comm, Nat.mul_add_div (Nat.pos_of_neZero n), Nat.div_eq_of_lt hr, Nat.add_zero]

theorem ofNat_eq (n : ℕ) [NeZero n] (y : (⟨2, ![n, 112]⟩ : Shape).Idx) {t i : ℕ} {j : Fin 112} (e0 : i = t * n + (y 0).val) (e1 : j.val = (y 1).val) :
    ValueIdx.ix2 (Fin.ofNat n i) j = y := by
  refine Shape.idx_ext₂ ?_ e1
  show i % n = (y 0).val
  rw [e0, Nat.add_comm, Nat.add_mul_mod_self_right, Nat.mod_eq_of_lt (show (y 0).val < n from (y 0).isLt)]

/-- The largest gradient scores when the kernel ends. -/
theorem final_7 (c : Dev nD) : (dats m 0 c).arrAt 7 (cfgM m).N
    = fun i : S592x112.Idx => oGmax m c (ptOf m 16 (i 0).val (i 0).isLt) (ValueIdx.ix2 (Fin.ofNat 16 (i 0).val) (i 1)) := by
  refine (dats m 0 c).arrAt_eq_of_covers 7 _ (covers_7 m) fun t hf (y : S16x112.Idx) => ?_
  rw [after_7]
  have e0 : (((((cfgM m).win 7).blk t).view.emb y : S592x112.Idx) (0 : Fin 2)).val = t.val * 16 + (y (0 : Fin 2)).val := by
    blk_simp [idx_7 m t]
  have e1 : (((((cfgM m).win 7).blk t).view.emb y : S592x112.Idx) (1 : Fin 2)).val = (y (1 : Fin 2)).val := by
    blk_simp [idx_7 m t]
  generalize oGmax m c = f
  exact (congrArg₂ f (ptOf_eq m 16 t e0 (y 0).isLt) (ofNat_eq 16 y e0 e1)).symm

/-- The gradient row sums when the kernel ends. -/
theorem final_8 (c : Dev nD) : (dats m 0 c).arrAt 8 (cfgM m).N
    = fun i : S18944x112.Idx => oGrow m c (ptOf m 512 (i 0).val (i 0).isLt) (ValueIdx.ix2 (Fin.ofNat 512 (i 0).val) (i 1)) := by
  refine (dats m 0 c).arrAt_eq_of_covers 8 _ (covers_8 m) fun t hf (y : S512x112.Idx) => ?_
  rw [after_8]
  have e0 : (((((cfgM m).win 8).blk t).view.emb y : S18944x112.Idx) (0 : Fin 2)).val = t.val * 512 + (y (0 : Fin 2)).val := by
    blk_simp [idx_8 m t]
  have e1 : (((((cfgM m).win 8).blk t).view.emb y : S18944x112.Idx) (1 : Fin 2)).val = (y (1 : Fin 2)).val := by
    blk_simp [idx_8 m t]
  generalize oGrow m c = f
  exact (congrArg₂ f (ptOf_eq m 512 t e0 (y 0).isLt) (ofNat_eq 512 y e0 e1)).symm

/-- The smallest weight scores when the kernel ends. -/
theorem final_9 (c : Dev nD) : (dats m 0 c).arrAt 9 (cfgM m).N
    = fun i : S592x112.Idx => oDmin m c (ptOf m 16 (i 0).val (i 0).isLt) (ValueIdx.ix2 (Fin.ofNat 16 (i 0).val) (i 1)) := by
  refine (dats m 0 c).arrAt_eq_of_covers 9 _ (covers_9 m) fun t hf (y : S16x112.Idx) => ?_
  rw [after_9]
  have e0 : (((((cfgM m).win 9).blk t).view.emb y : S592x112.Idx) (0 : Fin 2)).val = t.val * 16 + (y (0 : Fin 2)).val := by
    blk_simp [idx_9 m t]
  have e1 : (((((cfgM m).win 9).blk t).view.emb y : S592x112.Idx) (1 : Fin 2)).val = (y (1 : Fin 2)).val := by
    blk_simp [idx_9 m t]
  generalize oDmin m c = f
  exact (congrArg₂ f (ptOf_eq m 16 t e0 (y 0).isLt) (ofNat_eq 16 y e0 e1)).symm

/-- The weight score sums when the kernel ends. -/
theorem final_10 (c : Dev nD) : (dats m 0 c).arrAt 10 (cfgM m).N
    = fun i : S592x112.Idx => oDsum m c (ptOf m 16 (i 0).val (i 0).isLt) (ValueIdx.ix2 (Fin.ofNat 16 (i 0).val) (i 1)) := by
  refine (dats m 0 c).arrAt_eq_of_covers 10 _ (covers_10 m) fun t hf (y : S16x112.Idx) => ?_
  rw [after_10]
  have e0 : (((((cfgM m).win 10).blk t).view.emb y : S592x112.Idx) (0 : Fin 2)).val = t.val * 16 + (y (0 : Fin 2)).val := by
    blk_simp [idx_10 m t]
  have e1 : (((((cfgM m).win 10).blk t).view.emb y : S592x112.Idx) (1 : Fin 2)).val = (y (1 : Fin 2)).val := by
    blk_simp [idx_10 m t]
  generalize oDsum m c = f
  exact (congrArg₂ f (ptOf_eq m 16 t e0 (y 0).isLt) (ofNat_eq 16 y e0 e1)).symm

/-! ## The blocks as parts of the arguments -/

theorem bXt_at (c : Dev nD) (t : Fin (cfgM m).N) {r k : ℕ} (hr : r < 3584) (hk : k < 1536) :
    at2 (bXt m c t) r k = at2 (V m c main_arg2 : S3584x1536.Idx → _) (r) (k) := by
  have e0 : (((((cfgM m).win 0).blk t).view.emb (ValueIdx.ix2 (Fin.ofNat 3584 r) (Fin.ofNat 1536 k) : S3584x1536.Idx) : S3584x1536.Idx) (0 : Fin 2)).val = r := by
    blk_simp [show ((cfgM m).win 0).index t = _ from ix_0 t]
    simp [Nat.mod_eq_of_lt hr]
  have e1 : (((((cfgM m).win 0).blk t).view.emb (ValueIdx.ix2 (Fin.ofNat 3584 r) (Fin.ofNat 1536 k) : S3584x1536.Idx) : S3584x1536.Idx) (1 : Fin 2)).val = k := by
    blk_simp [show ((cfgM m).win 0).index t = _ from ix_0 t]
    simp [Nat.mod_eq_of_lt hk]
  exact (at2_eq (V m c main_arg2 : S3584x1536.Idx → _) _ e0 e1).symm

theorem bDy_at (c : Dev nD) (t : Fin (cfgM m).N) {r k : ℕ} (hr : r < 1536) (hk : k < 512) :
    at2 (bDy m c t) r k = at2 (V m c main_arg3 : S1536x18944.Idx → _) (r) (t.val * 512 + k) := by
  have e0 : (((((cfgM m).win 1).blk t).view.emb (ValueIdx.ix2 (Fin.ofNat 1536 r) (Fin.ofNat 512 k) : S1536x512.Idx) : S1536x18944.Idx) (0 : Fin 2)).val = r := by
    blk_simp [show ((cfgM m).win 1).index t = _ from ix_1 t]
    simp [Nat.mod_eq_of_lt hr]
  have e1 : (((((cfgM m).win 1).blk t).view.emb (ValueIdx.ix2 (Fin.ofNat 1536 r) (Fin.ofNat 512 k) : S1536x512.Idx) : S1536x18944.Idx) (1 : Fin 2)).val = t.val * 512 + k := by
    blk_simp [show ((cfgM m).win 1).index t = _ from ix_1 t]
    simp [Nat.mod_eq_of_lt hk]
  exact (at2_eq (V m c main_arg3 : S1536x18944.Idx → _) _ e0 e1).symm

theorem bDsc_at (c : Dev nD) (t : Fin (cfgM m).N) {r k : ℕ} (hr : r < 1536) (hk : k < 128) :
    at2 (bDsc m c t) r k = at2 (V m c main_arg4 : S1536x128.Idx → _) (r) (k) := by
  have e0 : (((((cfgM m).win 2).blk t).view.emb (ValueIdx.ix2 (Fin.ofNat 1536 r) (Fin.ofNat 128 k) : S1536x128.Idx) : S1536x128.Idx) (0 : Fin 2)).val = r := by
    blk_simp [show ((cfgM m).win 2).index t = _ from ix_2 t]
    simp [Nat.mod_eq_of_lt hr]
  have e1 : (((((cfgM m).win 2).blk t).view.emb (ValueIdx.ix2 (Fin.ofNat 1536 r) (Fin.ofNat 128 k) : S1536x128.Idx) : S1536x128.Idx) (1 : Fin 2)).val = k := by
    blk_simp [show ((cfgM m).win 2).index t = _ from ix_2 t]
    simp [Nat.mod_eq_of_lt hk]
  exact (at2_eq (V m c main_arg4 : S1536x128.Idx → _) _ e0 e1).symm

theorem bKeep_at (c : Dev nD) (t : Fin (cfgM m).N) {r k : ℕ} (hr : r < 1536) (hk : k < 128) :
    at2 (bKeep m c t) r k = at2 (V m c main_arg5 : S1536x128.Idx → _) (r) (k) := by
  have e0 : (((((cfgM m).win 3).blk t).view.emb (ValueIdx.ix2 (Fin.ofNat 1536 r) (Fin.ofNat 128 k) : S1536x128.Idx) : S1536x128.Idx) (0 : Fin 2)).val = r := by
    blk_simp [show ((cfgM m).win 3).index t = _ from ix_3 t]
    simp [Nat.mod_eq_of_lt hr]
  have e1 : (((((cfgM m).win 3).blk t).view.emb (ValueIdx.ix2 (Fin.ofNat 1536 r) (Fin.ofNat 128 k) : S1536x128.Idx) : S1536x128.Idx) (1 : Fin 2)).val = k := by
    blk_simp [show ((cfgM m).win 3).index t = _ from ix_3 t]
    simp [Nat.mod_eq_of_lt hk]
  exact (at2_eq (V m c main_arg5 : S1536x128.Idx → _) _ e0 e1).symm

theorem bW_at (c : Dev nD) (t : Fin (cfgM m).N) {r k : ℕ} (hr : r < 512) (hk : k < 3584) :
    at2 (bW m c t) r k = at2 (V m c main_arg6 : S18944x3584.Idx → _) (t.val * 512 + r) (k) := by
  have e0 : (((((cfgM m).win 4).blk t).view.emb (ValueIdx.ix2 (Fin.ofNat 512 r) (Fin.ofNat 3584 k) : S512x3584.Idx) : S18944x3584.Idx) (0 : Fin 2)).val = t.val * 512 + r := by
    blk_simp [show ((cfgM m).win 4).index t = _ from ix_4 t]
    simp [Nat.mod_eq_of_lt hr]
  have e1 : (((((cfgM m).win 4).blk t).view.emb (ValueIdx.ix2 (Fin.ofNat 512 r) (Fin.ofNat 3584 k) : S512x3584.Idx) : S18944x3584.Idx) (1 : Fin 2)).val = k := by
    blk_simp [show ((cfgM m).win 4).index t = _ from ix_4 t]
    simp [Nat.mod_eq_of_lt hk]
  exact (at2_eq (V m c main_arg6 : S18944x3584.Idx → _) _ e0 e1).symm

theorem bMb_at (c : Dev nD) (t : Fin (cfgM m).N) {r k : ℕ} (hr : r < 512) (hk : k < 448) :
    at2 (bMb m c t) r k = at2 (V m c main_arg8 : S18944x448.Idx → _) (t.val * 512 + r) (k) := by
  have e0 : (((((cfgM m).win 6).blk t).view.emb (ValueIdx.ix2 (Fin.ofNat 512 r) (Fin.ofNat 448 k) : S512x448.Idx) : S18944x448.Idx) (0 : Fin 2)).val = t.val * 512 + r := by
    blk_simp [show ((cfgM m).win 6).index t = _ from ix_6 t]
    simp [Nat.mod_eq_of_lt hr]
  have e1 : (((((cfgM m).win 6).blk t).view.emb (ValueIdx.ix2 (Fin.ofNat 512 r) (Fin.ofNat 448 k) : S512x448.Idx) : S18944x448.Idx) (1 : Fin 2)).val = k := by
    blk_simp [show ((cfgM m).win 6).index t = _ from ix_6 t]
    simp [Nat.mod_eq_of_lt hk]
  exact (at2_eq (V m c main_arg8 : S18944x448.Idx → _) _ e0 e1).symm

theorem bWs_at (c : Dev nD) (t : Fin (cfgM m).N) (a : Fin 32) (b : Fin 128) (j : S37x32x128.Idx) (h0 : (j 0).val = t.val) (h1 : (j 1).val = a.val) (h2 : (j 2).val = b.val) :
    bWs m c t (ValueIdx.ix3 (0 : Fin 1) a b) = (V m c main_arg7 : S37x32x128.Idx → _) j := by
  have e : ((((cfgM m).win 5).blk t).view.emb (ValueIdx.ix3 (0 : Fin 1) a b : S1x32x128.Idx) : S37x32x128.Idx) = j := by
    funext d
    refine Fin.ext ?_
    match d with
    | ⟨0, _⟩ => blk_simp [show ((cfgM m).win 5).index t = _ from ix_5 t]; simp; exact h0.symm
    | ⟨1, _⟩ => blk_simp [show ((cfgM m).win 5).index t = _ from ix_5 t]; simp; exact h1.symm
    | ⟨2, _⟩ => blk_simp [show ((cfgM m).win 5).index t = _ from ix_5 t]; simp; exact h2.symm
  exact congrArg (V m c main_arg7 : S37x32x128.Idx → _) e

end Cert.KernelIdeal.Body
-- ==== Proof.KernelGrow.lean ====
/- The kernel's gradient scores over the extended reals. -/
module

public import proofs.«01_k».proof.Proof.Spec
public import proofs.«01_k».proof.Proof.KernelValue
public import proofs.«01_k».proof.Proof.Tables

@[expose] public section

noncomputable section

namespace Cert.KernelIdeal.Body

open Idealize.ShloMosaic Idealize.ShloMosaic.TcCoe
open Idealize.SL Idealize.SL.Sem
open Cert.KernelIdeal Cert.KernelIdeal.Gen
open Cert.Spec (tab)

/-! ## Words -/

/-- Bit `t % 8` of a byte, moved to the sign bit of a word, is the word's sign. -/
theorem slt_shifted : ∀ (b : BitVec 8) (u : Fin 8),
    IntOp.cmpi .slt (IntOp.shli .vector (b.setWidth 32) (BitVec.ofNat 32 (31 - u.val))) 0#32 = BitVec.ofBool (b.getLsbD u.val) := by
  decide +kernel

theorem select_ofBool {α : Type} (b : Bool) (x y : α) : Scalar.select (BitVec.ofBool b) x y = if b = true then x else y := by
  cases b <;> rfl

theorem ne_zero_ofBool (b : BitVec 8) : IntOp.cmpi .ne b 0#8 = BitVec.ofBool (decide (b ≠ 0#8)) := by revert b; decide

variable (m : (ℓ : Loc nD τ sig) → Buf (Elt Ideal) ℓ)

/-- The arguments. -/
abbrev aXt (c : Dev nD) : Spec.Mat 3584 1536 EReal := V m c main_arg2
abbrev aDy (c : Dev nD) : Spec.Mat 1536 18944 EReal := V m c main_arg3
abbrev aDsc (c : Dev nD) : Spec.Mat 1536 128 EReal := V m c main_arg4
abbrev aKeep (c : Dev nD) : Spec.Mat 1536 128 (BitVec 8) := V m c main_arg5
abbrev aW (c : Dev nD) : Spec.Mat 18944 3584 (BitVec 8) := V m c main_arg6
abbrev aWs (c : Dev nD) : (⟨3, ![37, 32, 128]⟩ : Shape).Idx → EReal := V m c main_arg7
abbrev aMb (c : Dev nD) : Spec.Mat 18944 448 (BitVec 8) := V m c main_arg8

/-! ## The packed gradients -/

theorem val_eq (c : Dev nD) (t : Fin (cfgM m).N) {q o : ℕ} (hq : q < 1536) (ho : o < 512) :
    val (bDy m c t) (bDsc m c t) (bKeep m c t) q o = Spec.ds (aDy m c) (aDsc m c) (aKeep m c) q (t.val * 512 + o) := by
  unfold val Spec.ds
  rw [bDy_at m c t hq ho, bDsc_at m c t hq (Nat.mod_lt _ (by decide)), bKeep_at m c t hq (Nat.mod_lt _ (by decide)),
    ne_zero_ofBool, select_ofBool, show (t.val * 512 + o) % 128 = o % 128 by omega]
  show (if _ then _ else _) * _ = _
  congr 1
  by_cases h : at2 (V m c main_arg5 : S1536x128.Idx → BitVec 8) q (o % 128) = 0#8
  · rw [if_pos h, if_neg (by simpa using h)]
    show (((0#32 : BitVec 32).toInt : ℝ) : EReal) = 0
    simp
  · rw [if_neg h, if_pos (by simpa using h)]
    rfl

theorem pk_row (t1 t2 : S48.Idx → BitVec 32) (U : ℕ → ℕ → Ideal .bf16) (W : ℕ → ℕ → EReal) (h1 : ∀ j, (t1 j).toNat ≤ 1504)
    (T : ℕ) (hUW : ∀ q o, q < 1536 → o < 512 → U q o = W q (T * 512 + o)) (i : S1568x512.Idx) (n : ℕ) :
    pk t1 t2 U zeros n i = Spec.row (tab t1) (tab t2) (fun q => W q (T * 512 + (i 1).val)) (i 0).val n := by
  induction n with
  | zero =>
    show Ideal.ofBits .bf16 0x0000#16 = 0
    simp [Ideal.ofBits, Ideal.ieee]
  | succ n ih =>
    unfold pk Spec.row
    unfold tab at *
    split_ifs with h
    · exact hUW _ _ (by have := h1 (ValueIdx.ix1 (Fin.ofNat 48 n)); omega) (i 1).isLt
    · exact ih

/-- The weight gradient. -/
def G (c : Dev nD) : ℕ → ℕ → EReal :=
  Spec.grad (aXt m c) (tab (src m)) (tab (dst m)) (Spec.ds (aDy m c) (aDsc m c) (aKeep m c))

variable (hR : InRange (src m) (dst m))

include hR

theorem dyb_at (c : Dev nD) (t : Fin (cfgM m).N) {k o : ℕ} (hk : k < 1568) (ho : o < 512) :
    at2 (dyb m c t) k o = Spec.row (tab (src m)) (tab (dst m)) (fun q => Spec.ds (aDy m c) (aDsc m c) (aKeep m c) q (t.val * 512 + o)) k 48 := by
  unfold dyb
  rw [at2, pk_row _ _ _ (Spec.ds (aDy m c) (aDsc m c) (aKeep m c)) (fun j => (hR j).1) t.val (fun q o hq ho => val_eq m c t hq ho)]
  show Spec.row _ _ (fun q => Spec.ds _ _ _ q (t.val * 512 + o % 512)) (k % 1568) 48 = _
  rw [Nat.mod_eq_of_lt hk, Nat.mod_eq_of_lt ho]

omit hR in
/-- The gradient product at an index. -/
theorem dot_at (L : FVec Ideal S256x1536 .bf16) (R : FVec Ideal S1536x512 .bf16) (j : S256x512.Idx) :
    (matmul dot_S256x1536_S1536x512_S256x512_1_0_0_1_n_n none L R (constant S256x512 .f32 0x00000000#32) j : EReal)
      = ∑ k : Fin 1536, (L (ValueIdx.ix2 (j 0) k) : EReal) * (R (ValueIdx.ix2 k (j 1)) : EReal) := by
  rw [← Equiv.sum_comp (ValueIdx.contrEquiv1 dot_S256x1536_S1536x512_S256x512_1_0_0_1_n_n 1536 rfl rfl)
    (fun k : Fin 1536 => (L (ValueIdx.ix2 (j 0) k) : EReal) * (R (ValueIdx.ix2 k (j 1)) : EReal))]
  refine (Ideal.matmul_constant_zero_apply dot_S256x1536_S1536x512_S256x512_1_0_0_1_n_n none L R j).trans ?_
  refine Finset.sum_congr rfl fun q _ => ?_
  refine congrArg₂ (fun x y : EReal => x * y) (congrArg L (funext fun a => Fin.ext ?_)) (congrArg R (funext fun a => Fin.ext ?_))
  · match a with
    | ⟨0, _⟩ =>
      show (dot_S256x1536_S1536x512_S256x512_1_0_0_1_n_n.lhsIdx j q 0).val = _
      unfold DotDims.lhsIdx
      rw [dif_neg (show ¬(0 : Fin S256x1536.rank) ∈ dot_S256x1536_S1536x512_S256x512_1_0_0_1_n_n.lhsBatch by decide), dif_pos (show (0 : Fin S256x1536.rank) ∈ dot_S256x1536_S1536x512_S256x512_1_0_0_1_n_n.lhsNonContracting by decide)]
      rfl
    | ⟨1, _⟩ => exact dot_S256x1536_S1536x512_S256x512_1_0_0_1_n_n.lhsIdx_val_of_single rfl j q
  · match a with
    | ⟨0, _⟩ => exact dot_S256x1536_S1536x512_S256x512_1_0_0_1_n_n.rhsIdx_val_of_single rfl j q
    | ⟨1, _⟩ =>
      show (dot_S256x1536_S1536x512_S256x512_1_0_0_1_n_n.rhsIdx j q 1).val = _
      unfold DotDims.rhsIdx
      rw [dif_neg (show ¬(1 : Fin S1536x512.rank) ∈ dot_S256x1536_S1536x512_S256x512_1_0_0_1_n_n.rhsBatch by decide), dif_pos (show (1 : Fin S1536x512.rank) ∈ dot_S256x1536_S1536x512_S256x512_1_0_0_1_n_n.rhsNonContracting by decide)]
      rfl

theorem gd_eq (c : Dev nD) (t : Fin (cfgM m).N) (ib : ℕ) (hib : ib < 14) (j : S256x512.Idx) :
    gd (bXt m c t) (dyb m c t) ib j = G m c (256 * ib + (j 0).val) (t.val * 512 + (j 1).val) := by
  have h0 : (j 0).val < 256 := (j 0).isLt
  have h1 : (j 1).val < 512 := (j 1).isLt
  unfold gd G Spec.grad
  refine (dot_at _ _ j).trans (Finset.sum_congr rfl fun k _ => ?_)
  refine congrArg₂ (fun x y : EReal => x * y) ?_ ?_
  · show at2 (bXt m c t) (256 * ib + (j 0).val) k.val = _
    rw [bXt_at m c t (by omega) k.isLt]
  · show at2 (dyb m c t) k.val (j 1).val = _
    exact dyb_at m hR c t (by have := k.isLt; omega) h1

/-! ## The scores -/

theorem scr_eq (c : Dev nD) (t : Fin (cfgM m).N) {cb o u : ℕ} (hc : cb < 112) (ho : o < 512) (hu : u < 32) :
    scr (bXt m c t) (dyb m c t) (bMb m c t) cb o u = Spec.score (aMb m c) (G m c) (t.val * 512 + o) cb u := by
  unfold scr Spec.score Spec.act
  have e := slt_shifted (at2 (bMb m c t) o (4 * cb + u / 8)) ⟨u % 8, Nat.mod_lt _ (by decide)⟩
  rw [show (BitVec.ofNat 32 (31 - u % 8)) = BitVec.ofNat 32 (31 - (⟨u % 8, Nat.mod_lt _ (by decide)⟩ : Fin 8).val) from rfl, e, select_ofBool,
    bMb_at m c t ho (by omega)]
  show (if _ then (_ : EReal) else _) = _
  congr 1
  · show Ideal.ofBits .f32 0x00000000#32 = 0
    exact Ideal.ofBits_zero_f32
  · show max (_ : EReal) (-_) = _
    have e2 : at2 (gd (bXt m c t) (dyb m c t) (cb / 8)) (8 * u + cb % 8) o = G m c (256 * (cb / 8) + 8 * u + cb % 8) (t.val * 512 + o) := by
      rw [at2, gd_eq m hR c t _ (by omega)]
      show G m c (256 * (cb / 8) + (8 * u + cb % 8) % 256) (t.val * 512 + o % 512) = _
      rw [Nat.mod_eq_of_lt (show 8 * u + cb % 8 < 256 by omega), Nat.mod_eq_of_lt ho, Nat.add_assoc]
    rw [e2]

omit hR in
theorem foldn_add (f : ℕ → EReal) (n : ℕ) : foldn (fun x y : EReal => x + y) 0 f n = ∑ t : Fin n, f t.val := by
  induction n with
  | zero => rfl
  | succ n ih => rw [foldn, ih, Fin.sum_univ_castSucc]; rfl

omit hR in
theorem foldn_max_le (f : ℕ → EReal) (b : EReal) (n : ℕ) : foldn (fun x y : EReal => max x y) 0 f n ≤ b ↔ 0 ≤ b ∧ ∀ t, t < n → f t ≤ b := by
  induction n with
  | zero => simp [foldn]
  | succ n ih =>
    rw [foldn, max_le_iff, ih]
    constructor
    · rintro ⟨⟨h0, h⟩, h'⟩
      exact ⟨h0, fun t ht => (Nat.lt_succ_iff_lt_or_eq.1 ht).elim (h t) fun e => e ▸ h'⟩
    · rintro ⟨h0, h⟩
      exact ⟨⟨h0, fun t ht => h t (by omega)⟩, h n (by omega)⟩

omit hR in
theorem foldn_congr {A : Type} (op : A → A → A) (z : A) {f g : ℕ → A} (n : ℕ) (h : ∀ t, t < n → f t = g t) : foldn op z f n = foldn op z g n := by
  induction n with
  | zero => rfl
  | succ n ih => rw [foldn, foldn, ih fun t ht => h t (by omega), h n (by omega)]

omit hR in
theorem zero_f32 : (Scalar.ofBits .f32 0x00000000#32 : Ideal .f32) = (0 : EReal) := Ideal.ofBits_zero_f32

omit hR in
theorem bot_f32 : (FloatOps.ofBits .f32 0xFF800000#32 : Ideal .f32) = (⊥ : EReal) := by
  show Ideal.ofBits .f32 0xFF800000#32 = ⊥
  simp [Ideal.ofBits, Ideal.ieee]

/-- The row sums. -/
theorem grow_eq (c : Dev nD) (i : S18944x112.Idx) :
    (dats m 0 c).arrAt 8 (cfgM m).N i = Spec.growSum (aMb m c) (G m c) (i 0).val (i 1).val := by
  have h0 : (i 0).val < 18944 := (i 0).isLt
  have h1 : (i 1).val < 112 := (i 1).isLt
  rw [final_8]
  show foldn (fun x y : EReal => x + y) (Scalar.ofBits .f32 0x00000000#32 : Ideal .f32)
    (scr (bXt m c _) (dyb m c _) (bMb m c _) (i 1).val ((i 0).val % 512)) 32 = _
  rw [zero_f32, foldn_congr _ _ 32 fun u hu => scr_eq m hR c _ h1 (Nat.mod_lt _ (by decide)) hu, foldn_add]
  show ∑ u : Fin 32, Spec.score _ _ ((i 0).val / 512 * 512 + (i 0).val % 512) _ _ = _
  rw [Nat.div_add_mod' (i 0).val 512]
  rfl

omit hR in
/-- The largest of a column's 32 rows. -/
theorem max_rows (X : FVec Ideal S512x112 .f32) (j : S16x112.Idx) (b : EReal) :
    multiReduction .maximumf [1] S16x112 (shapeCast S16x32x112 X Gen.shapeCasts_S512x112_S16x32x112)
      0xFF800000#32 Gen.reduces_S16x32x112_S16x112 (.inl rfl) rfl j ≤ b ↔ ∀ k : Fin 32, (at2 X (32 * (j 0).val + k.val) (j 1).val : EReal) ≤ b := by
  refine (iff_of_eq (congrArg (fun x : EReal => x ≤ b) (Ideal.multiReduction_maximumf_single (φ := .f32) (shapeCast S16x32x112 X Gen.shapeCasts_S512x112_S16x32x112)
    0xFF800000#32 Gen.reduces_S16x32x112_S16x112 (.inl rfl) rfl j))).trans ?_
  show Finset.fold (max : EReal → EReal → EReal) _ _ _ ≤ b ↔ _
  rw [Finset.fold_max_le, bot_f32]
  have e : ∀ k : Fin 32, (shapeCast S16x32x112 X Gen.shapeCasts_S512x112_S16x32x112 ∘ Gen.reduces_S16x32x112_S16x112.lift j) k
      = at2 X (32 * (j 0).val + k.val) (j 1).val := by
    intro k
    have h0 : (j 0).val < 16 := (j 0).isLt
    have h1 : (j 1).val < 112 := (j 1).isLt
    have hk := k.isLt
    refine shapeCast_apply X _ _ _ ?_
    rw [Shape.rowMajor_val_two, Shape.rowMajor_val_three]
    show (32 * (j 0).val + k.val) % 512 * 112 + (j 1).val % 112 = ((j 0).val * 32 + k.val) * 112 + (j 1).val
    omega
  constructor
  · rintro ⟨-, h⟩ k
    rw [← e k]
    exact h k (Finset.mem_univ _)
  · intro h
    refine ⟨bot_le, fun k _ => ?_⟩
    have := h k
    rw [← e k] at this
    exact this

/-- The largest scores. -/
theorem gmax_eq (c : Dev nD) (i : S592x112.Idx) :
    (dats m 0 c).arrAt 7 (cfgM m).N i = Spec.growMax (aMb m c) (G m c) (i 0).val (i 1).val := by
  have h0 : (i 0).val < 592 := (i 0).isLt
  have h1 : (i 1).val < 112 := (i 1).isLt
  rw [final_7]
  set T := ptOf m 16 (i 0).val h0 with hT
  show oGmax m c T (ValueIdx.ix2 (Fin.ofNat 16 (i 0).val) (i 1)) = _
  unfold oGmax outGmaxv
  refine eq_of_forall_ge_iff (α := EReal) fun b => ?_
  refine (max_rows (transpose S512x112 [1, 0] (mxv (bXt m c T) (dyb m c T) (bMb m c T) : FVec Ideal S112x512 .f32) Gen.transposes_S112x512_p1_0_S512x112)
    (ValueIdx.ix2 (Fin.ofNat 16 (i 0).val) (i 1)) b).trans ?_
  unfold Spec.growMax
  rw [Finset.sup_le_iff]
  have e : ∀ k : Fin 32, (at2 (transpose S512x112 [1, 0] (mxv (bXt m c T) (dyb m c T) (bMb m c T) : FVec Ideal S112x512 .f32)
      Gen.transposes_S112x512_p1_0_S512x112) (32 * ((i 0).val % 16) + k.val) (i 1).val : EReal) ≤ b
      ↔ 0 ≤ b ∧ ∀ u, u < 32 → Spec.score (aMb m c) (G m c) (32 * (i 0).val + k.val) (i 1).val u ≤ b := by
    intro k
    have hk := k.isLt
    rw [at2, transpose_at]
    show foldn (fun x y : EReal => max x y) (Scalar.ofBits .f32 0x00000000#32 : Ideal .f32)
      (scr (bXt m c _) (dyb m c _) (bMb m c _) ((i 1).val % 112) ((32 * ((i 0).val % 16) + k.val) % 512)) 32 ≤ b ↔ _
    rw [zero_f32, Nat.mod_eq_of_lt h1, Nat.mod_eq_of_lt (show 32 * ((i 0).val % 16) + k.val < 512 by omega),
      foldn_congr _ _ 32 fun u hu => scr_eq m hR c _ h1 (by omega) hu, foldn_max_le]
    show 0 ≤ b ∧ (∀ u, u < 32 → Spec.score _ _ ((i 0).val / 16 * 512 + (32 * ((i 0).val % 16) + k.val)) _ _ ≤ b) ↔ _
    rw [show (i 0).val / 16 * 512 + (32 * ((i 0).val % 16) + k.val) = 32 * (i 0).val + k.val by omega]
  constructor
  · rintro h ⟨k, u⟩ -
    exact ((e k).1 (h k)).2 u.val u.isLt
  · intro h k
    refine (e k).2 ⟨?_, fun u hu => h (k, ⟨u, hu⟩) (Finset.mem_univ _)⟩
    exact (Spec.score_nonneg _ _ _ _ _).trans (h (k, 0) (Finset.mem_univ _))

end Cert.KernelIdeal.Body
-- ==== Proof.KernelDrop.lean ====
/- The kernel's weight scores over the extended reals. -/
module

public import proofs.«01_k».proof.Proof.DropMin
public import proofs.«01_k».proof.Proof.KernelGrow

@[expose] public section

noncomputable section

namespace Cert.KernelIdeal.Body

open Idealize.ShloMosaic Idealize.ShloMosaic.TcCoe
open Idealize.SL Idealize.SL.Sem
open Cert.KernelIdeal Cert.KernelIdeal.Gen
open Cert.Spec (dec)

/-! ## Sums and minima -/

theorem sum_mul_nonneg {n : ℕ} (f : Fin n → EReal) (h : ∀ t, 0 ≤ f t) (s : EReal) : (∑ t, f t) * s = ∑ t, f t * s := by
  induction n with
  | zero => simp
  | succ n ih =>
    rw [Fin.sum_univ_castSucc, Fin.sum_univ_castSucc, ← ih _ fun t => h _,
      EReal.right_distrib_of_nonneg (Finset.sum_nonneg fun t _ => h _) (h _)]

/-- Eight sums of four. -/
theorem sum_four (f : ℕ → EReal) :
    ∑ k : Fin 8, (f (4 * k.val + 0) + f (4 * k.val + 1) + f (4 * k.val + 2) + f (4 * k.val + 3)) = ∑ p : Fin 32, f p.val := by
  rw [Fin.sum_univ_eq_sum_range (fun k => f (4 * k + 0) + f (4 * k + 1) + f (4 * k + 2) + f (4 * k + 3)) 8, Fin.sum_univ_eq_sum_range f 32]
  simp only [Finset.sum_range_succ, Finset.sum_range_zero, zero_add, ← add_assoc, Nat.mul_zero, Nat.add_zero, Nat.reduceMul, Nat.reduceAdd]

theorem rows_at (X : FVec Ideal S128x112 .f32) (j : S16x112.Idx) (k : Fin 8) :
    (shapeCast S16x8x112 X Gen.shapeCasts_S128x112_S16x8x112 ∘ Gen.reduces_S16x8x112_S16x112.lift j) k
      = at2 X (8 * (j 0).val + k.val) (j 1).val := by
  have h0 : (j 0).val < 16 := (j 0).isLt
  have h1 : (j 1).val < 112 := (j 1).isLt
  have hk := k.isLt
  refine shapeCast_apply X _ _ _ ?_
  rw [Shape.rowMajor_val_two, Shape.rowMajor_val_three]
  show (8 * (j 0).val + k.val) % 128 * 112 + (j 1).val % 112 = ((j 0).val * 8 + k.val) * 112 + (j 1).val
  omega

theorem sum_rows (X : FVec Ideal S128x112 .f32) (j : S16x112.Idx) :
    (multiReduction .add [1] S16x112 (shapeCast S16x8x112 X Gen.shapeCasts_S128x112_S16x8x112)
      0x00000000#32 Gen.reduces_S16x8x112_S16x112 (.inl rfl) rfl j : EReal) = ∑ k : Fin 8, (at2 X (8 * (j 0).val + k.val) (j 1).val : EReal) := by
  refine (Ideal.multiReduction_add_single (φ := .f32) (shapeCast S16x8x112 X Gen.shapeCasts_S128x112_S16x8x112)
    0x00000000#32 Gen.reduces_S16x8x112_S16x112 (.inl rfl) rfl j).trans ?_
  exact Finset.sum_congr rfl fun k _ => rows_at X j k

theorem top_f32' : (FloatOps.ofBits .f32 0x7F800000#32 : Ideal .f32) = (⊤ : EReal) := top_f32

/-- The smallest of a column's eight lanes. -/
def minRed (X : FVec Ideal S128x112 .f32) : FVec Ideal S16x112 .f32 :=
  multiReduction .minimumf [1] S16x112 (shapeCast S16x8x112 X Gen.shapeCasts_S128x112_S16x8x112)
    0x7F800000#32 Gen.reduces_S16x8x112_S16x112 (.inl rfl) rfl

/-- The smallest of each word's four rows, a lane to a row. -/
def minLanes (dn : S448x128.Idx → EReal) : FVec Ideal S128x112 .f32 :=
  transpose S128x112 [1, 0] (minimumf (minimumf (minimumf (sub4 (F := Ideal) dn 0) (sub4 (F := Ideal) dn 1)) (sub4 (F := Ideal) dn 2)) (sub4 (F := Ideal) dn 3))
    Gen.transposes_S112x128_p1_0_S128x112

theorem min_rows (X : FVec Ideal S128x112 .f32) (j : S16x112.Idx) (b : EReal) :
    b ≤ (minRed X j : EReal) ↔ ∀ k : Fin 8, b ≤ (at2 X (8 * (j 0).val + k.val) (j 1).val : EReal) := by
  have e : (minRed X j : EReal)
      = Finset.fold (min : EReal → EReal → EReal) (FloatOps.ofBits .f32 0x7F800000#32 : Ideal .f32)
        (shapeCast S16x8x112 X Gen.shapeCasts_S128x112_S16x8x112 ∘ Gen.reduces_S16x8x112_S16x112.lift j) Finset.univ := by
    refine (multiReduction_minimumf_eq_fold (φ := .f32) (shapeCast S16x8x112 X Gen.shapeCasts_S128x112_S16x8x112)
      0x7F800000#32 Gen.reduces_S16x8x112_S16x112 (.inl rfl) rfl j).trans ?_
    exact Gen.reduces_S16x8x112_S16x112.fold_filter_drop_single _ _ _ j
  rw [e, Finset.le_fold_min, top_f32']
  constructor
  · rintro ⟨-, h⟩ k
    rw [← rows_at X j k]
    exact h k (Finset.mem_univ _)
  · intro h
    refine ⟨le_top, fun k _ => ?_⟩
    have := h k
    rw [← rows_at X j k] at this
    exact this

theorem sel_oeq (M : FVec Ideal S16x112 .f32) (t z : Ideal .f32) (j : S16x112.Idx) :
    (select (cmpf .oeq M (broadcast S16x112 t)) (broadcast S16x112 z) M j : EReal) = if (M j : EReal) = t then (z : EReal) else M j := by
  show Scalar.select (Ideal.cmp .oeq (M j) t) (z : EReal) (M j) = _
  by_cases h : (M j : EReal) = t
  · rw [if_pos h]
    simp [Ideal.cmp, h, Scalar.select]
  · rw [if_neg h]
    simp [Ideal.cmp, h, Scalar.select]

theorem outDminv_eq (dn : S448x128.Idx → EReal) : outDminv (F := Ideal) dn
    = select (cmpf .oeq (minRed (minLanes dn)) (broadcast S16x112 (Scalar.ofBits .f32 0x7F800000#32 : Ideal .f32)))
      (broadcast S16x112 (Scalar.ofBits .f32 0x00000000#32 : Ideal .f32)) (minRed (minLanes dn)) := rfl

theorem outDminv_at (dn : S448x128.Idx → EReal) (j : S16x112.Idx) :
    (outDminv (F := Ideal) dn j : EReal) = if (minRed (minLanes dn) j : EReal) = ⊤ then (0 : EReal) else minRed (minLanes dn) j := by
  rw [outDminv_eq, sel_oeq, top_f32, zero_f32]

theorem le_minLanes (dn : S448x128.Idx → EReal) {l cb : ℕ} (hl : l < 128) (hc : cb < 112) (b : EReal) :
    b ≤ (at2 (minLanes dn) l cb : EReal) ↔ ∀ q : Fin 4, b ≤ at2 dn (q.val + 4 * cb) l := by
  rw [minLanes, at2, transpose_at]
  show b ≤ min (min (min (at2 dn (0 + 4 * (cb % 112)) (l % 128)) (at2 dn (1 + 4 * (cb % 112)) (l % 128)))
    (at2 dn (2 + 4 * (cb % 112)) (l % 128))) (at2 dn (3 + 4 * (cb % 112)) (l % 128)) ↔ _
  rw [Nat.mod_eq_of_lt hl, Nat.mod_eq_of_lt hc, le_min_iff, le_min_iff, le_min_iff]
  constructor
  · rintro ⟨⟨⟨a0, a1⟩, a2⟩, a3⟩ q
    match q with
    | ⟨0, _⟩ => exact a0
    | ⟨1, _⟩ => exact a1
    | ⟨2, _⟩ => exact a2
    | ⟨3, _⟩ => exact a3
  · intro h
    exact ⟨⟨⟨h 0, h 1⟩, h 2⟩, h 3⟩

variable (m : (ℓ : Loc nD τ sig) → Buf (Elt Ideal) ℓ)

/-! ## The kernel's blocks as the arguments' -/

theorem act_eq (c : Dev nD) (t : Fin (cfgM m).N) {r cb u : ℕ} (hr : r < 512) (hc : cb < 112) (hu : u < 32) :
    bact (bMb m c t) r cb u = Spec.act (aMb m c) (t.val * 512 + r) cb u := by
  unfold bact Spec.act
  rw [bMb_at m c t hr (by omega)]

theorem code_eq (c : Dev nD) (t : Fin (cfgM m).N) {r cb u : ℕ} (hr : r < 512) (hc : cb < 112) (hu : u < 32) :
    bcode (bW m c t) r cb u = at2 (aW m c) (t.val * 512 + r) (32 * cb + u) &&& 127#8 := by
  unfold bcode
  rw [bW_at m c t hr (by omega)]

theorem scale_eq (c : Dev nD) (t : Fin (cfgM m).N) {r cb : ℕ} (ht : t.val < 37) (hr : r < 512) (hc : cb < 112) :
    bscale (bWs m c t) r cb = Spec.scale (aWs m c) (t.val * 512 + r) cb := by
  unfold bscale Spec.scale
  refine bWs_at m c t _ _ _ ?_ ?_ ?_
  · show (t.val * 512 + r) / 512 % 37 = t.val
    omega
  · show (4 * (cb % 8) + (t.val * 512 + r) % 4) % 32 = (4 * (cb % 8) + r % 4) % 32
    omega
  · show (t.val * 512 + r) % 512 / 4 % 128 = r / 4 % 128
    omega

/-! ## The results -/

theorem row_sum (c : Dev nD) (t : Fin (cfgM m).N) {q l cb R : ℕ} (ht : t.val < 37) (hq : q < 4) (hl : l < 128) (hc : cb < 112)
    {p : ℕ} (hp : p < 32) (hr : t.val * 512 + (4 * l + q) = 32 * R + p) (hN : Spec.NumOk (aMb m c) (aW m c) R cb) :
    at2 (dsv (F := Ideal) (bW m c t) (bMb m c t) (bWs m c t)) (q + 4 * cb) l
      = ∑ u : Fin 32, if Spec.act (aMb m c) (32 * R + p) cb u.val = true then Spec.wmag (aW m c) (aWs m c) (32 * R + p) cb u.val else 0 := by
  refine (dsv_at (bW m c t) (bMb m c t) (bWs m c t) hq hl hc).trans ?_
  rw [foldn_add, scale_eq m c t ht (by omega) hc, hr]
  have key : ∀ u : Fin 32, (if bact (bMb m c t) (4 * l + q) cb u.val = true then dec (bcode (bW m c t) (4 * l + q) cb u.val) else 0)
      = if Spec.act (aMb m c) (32 * R + p) cb u.val = true then Spec.mag (at2 (aW m c) (32 * R + p) (32 * cb + u.val)) else 0 := fun u => by
    rw [act_eq m c t (by omega) hc u.isLt, code_eq m c t (by omega) hc u.isLt, hr]
    split_ifs with ha
    · exact (Spec.mag_eq _ (hN p u.val hp u.isLt ha)).symm
    · rfl
  rw [Finset.sum_congr rfl fun u _ => key u, sum_mul_nonneg]
  · refine Finset.sum_congr rfl fun u _ => ?_
    split_ifs
    · rfl
    · exact zero_mul _
  · intro u
    split_ifs
    · exact Spec.abs_nonneg _
    · exact le_rfl

/-- The sums of the blocks' active weights. -/
theorem dsum_eq (c : Dev nD) (i : S592x112.Idx) (hN : Spec.NumOk (aMb m c) (aW m c) (i 0).val (i 1).val) :
    (dats m 0 c).arrAt 10 (cfgM m).N i = Spec.dropSum (aMb m c) (aW m c) (aWs m c) (i 0).val (i 1).val := by
  have h0 : (i 0).val < 592 := (i 0).isLt
  have h1 : (i 1).val < 112 := (i 1).isLt
  rw [final_10]
  have hT : (ptOf m 16 (i 0).val h0).val = (i 0).val / 16 := rfl
  show oDsum m c (ptOf m 16 (i 0).val h0) (ValueIdx.ix2 (Fin.ofNat 16 (i 0).val) (i 1)) = _
  generalize ptOf m 16 (i 0).val h0 = T at hT ⊢
  unfold oDsum outDsumv
  refine (sum_rows _ _).trans ?_
  unfold Spec.dropSum
  rw [← sum_four fun p => ∑ u : Fin 32, if Spec.act (aMb m c) (32 * (i 0).val + p) (i 1).val u.val = true
    then Spec.wmag (aW m c) (aWs m c) (32 * (i 0).val + p) (i 1).val u.val else 0]
  refine Finset.sum_congr rfl fun k _ => ?_
  have hk := k.isLt
  rw [at2, transpose_at]
  have e : ∀ q, q < 4 → (sub4 (dsv (F := Ideal) (bW m c T) (bMb m c T) (bWs m c T)) q
      (ValueIdx.ix2 (Fin.ofNat 112 (i 1).val) (Fin.ofNat 128 (8 * ((i 0).val % 16) + k.val))) : EReal)
      = ∑ u : Fin 32, if Spec.act (aMb m c) (32 * (i 0).val + (4 * k.val + q)) (i 1).val u.val = true
        then Spec.wmag (aW m c) (aWs m c) (32 * (i 0).val + (4 * k.val + q)) (i 1).val u.val else 0 := fun q hq => by
    show at2 _ (q + 4 * ((i 1).val % 112)) ((8 * ((i 0).val % 16) + k.val) % 128) = _
    rw [Nat.mod_eq_of_lt h1, Nat.mod_eq_of_lt (show 8 * ((i 0).val % 16) + k.val < 128 by omega)]
    exact row_sum m c T (by omega) hq (by omega) h1 (by omega) (by omega) hN
  exact congrArg₂ (fun x y : EReal => x + y) (congrArg₂ (fun x y : EReal => x + y)
    (congrArg₂ (fun x y : EReal => x + y) (e 0 (by decide)) (e 1 (by decide))) (e 2 (by decide))) (e 3 (by decide))

theorem row_le (c : Dev nD) (t : Fin (cfgM m).N) {q l cb R : ℕ} (ht : t.val < 37) (hq : q < 4) (hl : l < 128) (hc : cb < 112)
    {p : ℕ} (hp : p < 32) (hr : t.val * 512 + (4 * l + q) = 32 * R + p) (hN : Spec.NumOk (aMb m c) (aW m c) R cb)
    (hU : Spec.UpOk (aMb m c) (aWs m c) R cb) (b : EReal) :
    b ≤ (at2 (dnv (F := Ideal) (bW m c t) (bMb m c t) (bWs m c t)) (q + 4 * cb) l : EReal)
      ↔ ∀ u, u < 32 → b ≤ if Spec.act (aMb m c) (32 * R + p) cb u = true then Spec.wmag (aW m c) (aWs m c) (32 * R + p) cb u else ⊤ := by
  have ea : ∀ u, u < 32 → bact (bMb m c t) (4 * l + q) cb u = Spec.act (aMb m c) (32 * R + p) cb u := fun u hu => by
    rw [act_eq m c t (by omega) hc hu, hr]
  have ec : ∀ u, u < 32 → bcode (bW m c t) (4 * l + q) cb u = at2 (aW m c) (32 * R + p) (32 * cb + u) &&& 127#8 := fun u hu => by
    rw [code_eq m c t (by omega) hc hu, hr]
  have es : bscale (bWs m c t) (4 * l + q) cb = Spec.scale (aWs m c) (32 * R + p) cb := by
    rw [scale_eq m c t ht (by omega) hc, hr]
  refine (le_dnv (bW m c t) (bMb m c t) (bWs m c t) hq hl hc (fun u hu ha => ?_) (fun u hu ha => ?_) b).trans ?_
  · rw [ec u hu]
    exact hN p u hp hu ((ea u hu).symm.trans ha)
  · rw [es]
    exact hU p u hp hu ((ea u hu).symm.trans ha)
  · refine forall₂_congr fun u hu => iff_of_eq (congrArg (fun x : EReal => b ≤ x) ?_)
    rw [ea u hu, ec u hu, es]
    split_ifs with ha
    · unfold Spec.wmag
      rw [Spec.mag_eq _ (hN p u hp hu ha)]
    · rfl

/-- The smallest of the blocks' active weights. -/
theorem dmin_eq (c : Dev nD) (i : S592x112.Idx) (hN : Spec.NumOk (aMb m c) (aW m c) (i 0).val (i 1).val)
    (hU : Spec.UpOk (aMb m c) (aWs m c) (i 0).val (i 1).val) :
    (dats m 0 c).arrAt 9 (cfgM m).N i = Spec.dropMin (aMb m c) (aW m c) (aWs m c) (i 0).val (i 1).val := by
  have h0 : (i 0).val < 592 := (i 0).isLt
  have h1 : (i 1).val < 112 := (i 1).isLt
  rw [final_9]
  have hT : (ptOf m 16 (i 0).val h0).val = (i 0).val / 16 := rfl
  show oDmin m c (ptOf m 16 (i 0).val h0) (ValueIdx.ix2 (Fin.ofNat 16 (i 0).val) (i 1)) = _
  generalize ptOf m 16 (i 0).val h0 = T at hT ⊢
  unfold oDmin
  rw [outDminv_at]
  have hmin : (minRed (minLanes (dnv (F := Ideal) (bW m c T) (bMb m c T) (bWs m c T))) (ValueIdx.ix2 (Fin.ofNat 16 (i 0).val) (i 1)) : EReal)
      = Spec.dropInf (aMb m c) (aW m c) (aWs m c) (i 0).val (i 1).val := by
    refine eq_of_forall_le_iff fun b => (min_rows _ _ b).trans ?_
    unfold Spec.dropInf
    rw [Finset.le_inf_iff]
    have e4 : ∀ k : Fin 8, (b ≤ (at2 (minLanes (dnv (F := Ideal) (bW m c T) (bMb m c T) (bWs m c T))) (8 * ((i 0).val % 16) + k.val) (i 1).val : EReal))
        ↔ ∀ q : Fin 4, ∀ u, u < 32 → b ≤ if Spec.act (aMb m c) (32 * (i 0).val + (4 * k.val + q.val)) (i 1).val u = true
          then Spec.wmag (aW m c) (aWs m c) (32 * (i 0).val + (4 * k.val + q.val)) (i 1).val u else ⊤ := fun k => by
      have hk := k.isLt
      refine (le_minLanes _ (by omega) h1 b).trans (forall_congr' fun q => ?_)
      have hq := q.isLt
      exact row_le m c T (by omega) hq (by omega) h1 (by omega) (by omega) hN hU b
    constructor
    · rintro h ⟨p, u⟩ -
      have hp := p.isLt
      have := (e4 ⟨p.val / 4, by omega⟩).1 (h _) ⟨p.val % 4, Nat.mod_lt _ (by decide)⟩ u.val u.isLt
      have ep : 4 * (p.val / 4) + p.val % 4 = p.val := Nat.div_add_mod _ _
      simp only [ep] at this
      exact this
    · intro h k
      refine (e4 k).2 fun q u hu => ?_
      have hk := k.isLt
      have hq := q.isLt
      exact h (⟨4 * k.val + q.val, by omega⟩, ⟨u, hu⟩) (Finset.mem_univ _)
  rw [hmin]
  rfl

end Cert.KernelIdeal.Body
-- ==== Proof.DropMask.lean ====
/- Which weight scores the two programs are compared at. -/
module

public import proofs.«01_k».proof.Proof.RefDrop
public import proofs.«01_k».proof.Proof.Gen.On_compared

@[expose] public section

noncomputable section

namespace Cert.Mask

open Idealize.ShloMosaic
open Cert.ReferenceIdeal Cert.ReferenceIdeal.Gen
open Cert.ReferenceIdeal.Read (val_main_v60 val_main_v70 v60_at v70_at block_injective fiber_block)
open Cert.KernelIdeal.Body (at2 at2_eq)

instance : Std.Commutative (IntOp.andi (w := 1)) := ⟨fun a b => BitVec.and_comm a b⟩
instance : Std.Associative (IntOp.andi (w := 1)) := ⟨fun a b c => BitVec.and_assoc a b c⟩

theorem fold_one {κ : Type} [DecidableEq κ] (S : Finset κ) (f : κ → BitVec 1) (h : S.fold IntOp.andi 1#1 f = 1#1) : ∀ k ∈ S, f k = 1#1 := by
  have two : ∀ a b : BitVec 1, IntOp.andi a b = 1#1 → a = 1#1 ∧ b = 1#1 := by decide
  induction S using Finset.induction_on with
  | empty => simp
  | insert k S hk ih =>
    rw [Finset.fold_insert hk] at h
    obtain ⟨h1, h2⟩ := two _ _ h
    intro j hj
    rcases Finset.mem_insert.1 hj with rfl | hj
    · exact h1
    · exact ih h2 j hj

/-- A block all of whose elements are so. -/
theorem all_block (X : IVec S18944x112x32 1) (hc : S18944x112x32.ShapeCasts S592x32x112x32) (z : IVec S_ 1) (hz : ∀ i, z i = 1#1)
    (hr : S592x32x112x32.ReducesTo [1, 3] S592x112) (h0 : 0 < S_.numel) (j : S592x112.Idx)
    (h : Host.reduce IntOp.andi (shapeCast S592x32x112x32 X hc) z hr h0 j = 1#1)
    (p t : Fin 32) (i : S18944x112x32.Idx) (e0 : (i 0).val = 32 * (j 0).val + p.val) (e1 : (i 1).val = (j 1).val) (e2 : (i 2).val = t.val) : X i = 1#1 := by
  rw [Host.reduce_eq_fold, Finset.fold_filter_eq_fold_of_fiber _ _ _ (block_injective j) (fiber_block j), hz] at h
  have := fold_one _ _ h (p, t) (Finset.mem_univ _)
  rw [← this]
  symm
  refine shapeCast_apply X hc _ i ?_
  rw [Shape.rowMajor_val_three, Shape.rowMajor_val_four, e0, e1, e2]
  show ((32 * (j 0).val + p.val) * 112 + (j 1).val) * 32 + t.val = (((j 0).val * 32 + p.val) * 112 + (j 1).val) * 32 + t.val
  omega

/-- The weights that are not the NaN code. -/
def number (x6 : S18944x3584.Idx → BitVec 8) : IVec S18944x112x32 1 :=
  shapeCast S18944x112x32 (cmpi .ne (andi (extui 32 x6 (by decide)) (broadcastInDim S18944x3584 ![] On_compared.Gen.facts.bcast_S_S18944x3584 (constantI S_ 32 127#32)))
    (broadcastInDim S18944x3584 ![] On_compared.Gen.facts.bcast_S_S18944x3584 (constantI S_ 32 127#32))) On_compared.Gen.facts.shapeCasts_S18944x3584_S18944x112x32

/-- The rows and channel blocks whose scale is not negative. -/
def up (s : FVec Ideal S18944x112 .f32) : IVec S18944x112x32 1 :=
  broadcastInDim S18944x112x32 ![0, 1, 2] On_compared.Gen.facts.bcast_S18944x112x1_S18944x112x32_0_1_2
    (broadcastInDim S18944x112x1 ![0, 1] On_compared.Gen.facts.bcast_S18944x112_S18944x112x1_0_1
      (cmpf .oge s (broadcastInDim S18944x112 ![] On_compared.Gen.facts.bcast_S_S18944x112 (constant (F := Ideal) S_ .f32 0x00000000#32))))

theorem number_at {x6 : S18944x3584.Idx → BitVec 8} (i : S18944x112x32.Idx) (h : number x6 i = 1#1) :
    at2 x6 (i 0).val (32 * (i 1).val + (i 2).val) &&& 127#8 ≠ 127#8 := by
  have h0 : (i 0).val < 18944 := (i 0).isLt
  have h1 : (i 1).val < 112 := (i 1).isLt
  have h2 : (i 2).val < 32 := (i 2).isLt
  unfold number at h
  rw [shapeCast_apply _ _ i (ValueIdx.ix2 (Fin.ofNat 18944 (i 0).val) (Fin.ofNat 3584 (32 * (i 1).val + (i 2).val)) : S18944x3584.Idx) (by
    rw [Shape.rowMajor_val_two, Shape.rowMajor_val_three]
    show (i 0).val % 18944 * 3584 + (32 * (i 1).val + (i 2).val) % 3584 = ((i 0).val * 112 + (i 1).val) * 32 + (i 2).val
    omega)] at h
  have key : ∀ b : BitVec 8, IntOp.cmpi .ne (IntOp.andi (b.setWidth 32) 127#32) 127#32 = 1#1 → b &&& 127#8 ≠ 127#8 := by decide +kernel
  exact key _ h

theorem up_at {x7 : S37x32x128.Idx → EReal} (i : S18944x112x32.Idx) (h : up (val_main_v70 (F := Ideal) x7) i = 1#1) : 0 ≤ Spec.scale x7 (i 0).val (i 1).val := by
  unfold up at h
  rw [broadcastInDim_apply _ _ _ i (ValueIdx.ix3 (i 0) (i 1) (0 : Fin 1) : S18944x112x1.Idx) (fun a => match a with
    | ⟨0, _⟩ => rfl | ⟨1, _⟩ => rfl | ⟨2, _⟩ => rfl)] at h
  rw [broadcastInDim_apply _ _ _ _ (ValueIdx.ix2 (i 0) (i 1) : S18944x112.Idx) (fun a => match a with | ⟨0, _⟩ => rfl | ⟨1, _⟩ => rfl)] at h
  have e : Ideal.cmp .oge (val_main_v70 (F := Ideal) x7 (ValueIdx.ix2 (i 0) (i 1) : S18944x112.Idx)) (Ideal.ofBits .f32 0x00000000#32) = 1#1 := h
  rw [v70_at, Ideal.ofBits_zero_f32] at e
  have e' : BitVec.ofBool (decide (0 ≤ Spec.scale x7 (i 0).val (i 1).val)) = 1#1 := e
  by_contra hn
  rw [decide_eq_false hn] at e'
  exact absurd e' (by decide)

variable {x0 x1 : S48.Idx → BitVec 32} {x2 : S3584x1536.Idx → EReal} {x3 : S1536x18944.Idx → EReal} {x4 : S1536x128.Idx → EReal}
  {x5 : S1536x128.Idx → BitVec 8} {x6 : S18944x3584.Idx → BitVec 8} {x7 : S37x32x128.Idx → EReal} {x8 : S18944x448.Idx → BitVec 8}

/-- The scale of each row and channel block, from the table with its row axis first. -/
def rows (v : FVec Ideal S37x128x4x8 .f32) : FVec Ideal S18944x112 .f32 :=
  shapeCast S18944x112 (broadcastInDim S1x18944x14x8 ![0, 1, 2, 3] On_compared.Gen.facts.bcast_S1x18944x1x8_S1x18944x14x8_0_1_2_3
    (shapeCast S1x18944x1x8 (shapeCast S18944x8 v On_compared.Gen.facts.shapeCasts_S37x128x4x8_S18944x8) On_compared.Gen.facts.shapeCasts_S18944x8_S1x18944x1x8))
    On_compared.Gen.facts.shapeCasts_S1x18944x14x8_S18944x112

theorem part_sum (a n : IVec S18944x112x32 1) (v : FVec Ideal S37x128x4x8 .f32) : (Cert.On_compared.fn_part1 (F := Ideal) a n v).2.2.2
    = Host.reduce IntOp.andi (shapeCast S592x32x112x32 (ori (noti a) n) On_compared.Gen.facts.shapeCasts_S18944x112x32_S592x32x112x32)
      (constantI S_ 1 1#1) On_compared.Gen.facts.reducesTo_S592x32x112x32_S592x112_d1_3 On_compared.Gen.facts.h_S_ := by
  unfold On_compared.fn_part1
  dsimp only

theorem part_min (a n : IVec S18944x112x32 1) (v : FVec Ideal S37x128x4x8 .f32) : (Cert.On_compared.fn_part1 (F := Ideal) a n v).2.2.1
    = Host.reduce IntOp.andi (shapeCast S592x32x112x32 (ori (noti a) (andi n (up (rows v)))) On_compared.Gen.facts.shapeCasts_S18944x112x32_S592x32x112x32)
      (constantI S_ 1 1#1) On_compared.Gen.facts.reducesTo_S592x32x112x32_S592x112_d1_3 On_compared.Gen.facts.h_S_ := by
  unfold On_compared.fn_part1 up rows
  dsimp only

/-- The table with its row axis first. -/
def turned (x7 : S37x32x128.Idx → EReal) : FVec Ideal S37x128x4x8 .f32 :=
  transpose S37x128x4x8 [0, 3, 2, 1] (shapeCast S37x8x4x128 x7 On_compared.Gen.facts.shapeCasts_S37x32x128_S37x8x4x128)
    On_compared.Gen.facts.transposes_S37x8x4x128_S37x128x4x8_0_3_2_1

theorem rows_eq : rows (turned x7) = val_main_v70 (F := Ideal) x7 := rfl

theorem fn_eq : Cert.On_compared.fn (F := Ideal) x0 x1 x2 x3 x4 x5 x6 x7 x8
    = Cert.On_compared.fn_part1 (F := Ideal) (val_main_v60 (F := Ideal) x8) (number x6) (turned x7) := by
  unfold Cert.On_compared.fn
  dsimp only
  rfl

theorem imp_bit : ∀ a n : BitVec 1, IntOp.ori (~~~a) n = 1#1 → a = 1#1 → n = 1#1 := by decide

theorem and_bit : ∀ a b : BitVec 1, IntOp.andi a b = 1#1 → a = 1#1 ∧ b = 1#1 := by decide

/-- Element `(p, t)` of block `j`. -/
def elt (j : S592x112.Idx) (p t : Fin 32) : S18944x112x32.Idx :=
  ValueIdx.ix3 (⟨32 * (j 0).val + p.val, by have := (j 0).isLt; have h : (j 0).val < 592 := this; have := p.isLt; omega⟩ : Fin 18944) (j 1) t

theorem numOk_of_sum (j : S592x112.Idx) (h : (Cert.On_compared.fn (F := Ideal) x0 x1 x2 x3 x4 x5 x6 x7 x8).2.2.2 j = 1#1) :
    Spec.NumOk x8 x6 (j 0).val (j 1).val := by
  rw [fn_eq, part_sum] at h
  intro p t hp ht ha
  have := all_block _ _ _ (fun _ => rfl) _ _ j h ⟨p, hp⟩ ⟨t, ht⟩ (elt j ⟨p, hp⟩ ⟨t, ht⟩) rfl rfl rfl
  refine number_at (elt j ⟨p, hp⟩ ⟨t, ht⟩) (imp_bit _ _ this ?_)
  rw [v60_at]
  exact congrArg BitVec.ofBool ha

theorem ok_of_min (j : S592x112.Idx) (h : (Cert.On_compared.fn (F := Ideal) x0 x1 x2 x3 x4 x5 x6 x7 x8).2.2.1 j = 1#1) :
    Spec.NumOk x8 x6 (j 0).val (j 1).val ∧ Spec.UpOk x8 x7 (j 0).val (j 1).val := by
  rw [fn_eq, part_min, rows_eq] at h
  have key : ∀ (p t : Fin 32), Spec.act x8 (32 * (j 0).val + p.val) (j 1).val t.val = true →
      number x6 (elt j p t) = 1#1 ∧ up (val_main_v70 (F := Ideal) x7) (elt j p t) = 1#1 := fun p t ha => by
    have := all_block _ _ _ (fun _ => rfl) _ _ j h p t (elt j p t) rfl rfl rfl
    refine and_bit _ _ (imp_bit _ _ this ?_)
    rw [v60_at]
    exact congrArg BitVec.ofBool ha
  exact ⟨fun p t hp ht ha => number_at _ (key ⟨p, hp⟩ ⟨t, ht⟩ ha).1, fun p t hp ht ha => up_at _ (key ⟨p, hp⟩ ⟨t, ht⟩ ha).2⟩

end Cert.Mask
-- ==== Proof.Same.lean ====
/- The program printed for the bit values is the program printed for the real values, read at the same floats. -/
module

public import proofs.«01_k».proof.Proof.Launch
public import proofs.«01_k».proof.Proof.Gen.Kernel

@[expose] public section
noncomputable section
namespace Cert.Kernel.Same
open Idealize.ShloMosaic Idealize.SL.Sem
open Cert.Kernel
variable {F : FTy → Type} [FloatOps F]

/-- The kernels' tables are the same: the two programs have the same text. -/
theorem defs₀_eq : Cert.Kernel.defs₀ (F := F) = Cert.KernelIdeal.defs₀ (F := F) := by
  unfold Cert.Kernel.defs₀ Cert.KernelIdeal.defs₀
  refine congrArg Defs.onTc ?_
  funext l
  match l with
  | ⟨0, _⟩ => funext x; obtain ⟨t, s⟩ := x; dsimp only; chain_rfl

theorem defs_eq : Cert.Kernel.defs (F := F) = Cert.KernelIdeal.defs (F := F) := by
  unfold Cert.Kernel.defs Cert.KernelIdeal.defs
  exact congrArg (Pipeline.defs (Cert.KernelIdeal.pcfgs (F := F))) defs₀_eq

theorem frame (m : (ℓ : Loc nD τ sig) → Buf (Elt F) ℓ) (hG : Cert.KernelIdeal.Body.Good (Cert.KernelIdeal.Body.src m) (Cert.KernelIdeal.Body.dst m))
    (ρ : Dev nD → PrngReg) : θ_run (Cert.Kernel.defs (F := F)) (onTc (τ := τ) (Cert.Kernel.main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) := by
  rw [defs_eq]
  exact Cert.KernelIdeal.Body.frame (F := F) m hG ρ

end Cert.Kernel.Same
-- ==== Proof.lean ====
module

public import proofs.«01_k».proof.Proof.RefSide
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Frame
public import proofs.«01_k».proof.Proof.Gen.Pre_granules
public import proofs.«01_k».proof.Proof.Gen.On_compared
public import proofs.«01_k».proof.Proof.KernelDrop
public import proofs.«01_k».proof.Proof.DropMask
public import proofs.«01_k».proof.Proof.Same
public import proofs.«01_k».proof.Proof.Tables
public import Idealize.ShloMosaic.Adequacy
public import Idealize.ShloMosaic.Init

@[expose] public section

noncomputable section

namespace Cert.Proof

open Idealize.ShloMosaic Idealize.SL.Sem

/-- The kernel's run, at the bit values. -/
theorem kernel_frame : Cert.quiescent_Kernel := fun m g h =>
  Cert.Kernel.Same.frame m (Cert.KernelIdeal.Body.good_of_inRange (Cert.KernelIdeal.Body.inRange_of_pre (h 0))) g

/-- The kernel's run, at the real values. -/
theorem ideal_frame : Cert.quiescent_KernelIdeal := fun m g h =>
  Cert.KernelIdeal.Body.frame m (Cert.KernelIdeal.Body.good_of_inRange (Cert.KernelIdeal.Body.inRange_of_pre (h 0))) g

/-- The two programs' results agree over the extended reals. -/
theorem agree : Cert.algebraic_KernelIdeal_ReferenceIdeal_on_compared := by
  intro m g m' g' hP ha
  have hR (c : Dev Cert.KernelIdeal.nD) := Cert.KernelIdeal.Body.inRange_of_pre (hP c)
  have hR0 : Cert.KernelIdeal.Body.InRange (Cert.KernelIdeal.Body.src m) (Cert.KernelIdeal.Body.dst m) := hR 0
  refine ⟨fun c i => Spec.growMax (Cert.KernelIdeal.Body.aMb m c) (Cert.KernelIdeal.Body.G m c) (i 0).val (i 1).val,
    fun c i => Spec.growSum (Cert.KernelIdeal.Body.aMb m c) (Cert.KernelIdeal.Body.G m c) (i 0).val (i 1).val,
    fun c i => Spec.dropMin (Cert.KernelIdeal.Body.aMb m c) (Cert.KernelIdeal.Body.aW m c) (Cert.KernelIdeal.Body.aWs m c) (i 0).val (i 1).val,
    fun c i => Spec.dropSum (Cert.KernelIdeal.Body.aMb m c) (Cert.KernelIdeal.Body.aW m c) (Cert.KernelIdeal.Body.aWs m c) (i 0).val (i 1).val, ?_, ?_⟩
  · refine θ_run_mono (Cert.KernelIdeal.Body.run m (Cert.KernelIdeal.Body.good_of_inRange hR0) g) fun r hr c => ?_
    exact ⟨fun i _ => (congrFun ((hr.1 c).1 7) i).trans (Cert.KernelIdeal.Body.gmax_eq m hR0 c i),
      fun i _ => (congrFun ((hr.1 c).1 8) i).trans (Cert.KernelIdeal.Body.grow_eq m hR0 c i),
      fun i h => (congrFun ((hr.1 c).1 9) i).trans (Cert.KernelIdeal.Body.dmin_eq m c i (Cert.Mask.ok_of_min i h).1 (Cert.Mask.ok_of_min i h).2),
      fun i h => (congrFun ((hr.1 c).1 10) i).trans (Cert.KernelIdeal.Body.dsum_eq m c i (Cert.Mask.numOk_of_sum i h)),
      Cert.KernelIdeal.Body.unchanged_of m r hr.1 c⟩
  · refine θ_run_mono (Cert.ReferenceIdeal.Value.run m' g') fun r hr c => ?_
    obtain ⟨r64, r62, r80, r83, rest⟩ := hr c
    obtain ⟨a0, a1, a2, a3, a4, a5, a6, a7, a8⟩ := ha c
    obtain rfl : c = 0 := Subsingleton.elim _ _
    exact ⟨fun i _ => (congrFun (r64.trans (Cert.ReferenceIdeal.Read.val_main_v64_eq _)) i).trans
        (Cert.ReferenceIdeal.Value.left_64 m' 0 a0 a1 a2 a3 a4 a5 a8 hR0 i),
      fun i _ => (congrFun (r62.trans (Cert.ReferenceIdeal.Read.val_main_v62_eq _)) i).trans
        (Cert.ReferenceIdeal.Value.left_62 m' 0 a0 a1 a2 a3 a4 a5 a8 hR0 i),
      fun i h => (congrFun (r80.trans (Cert.ReferenceIdeal.Read.val_main_v80_eq _)) i).trans
        (Cert.ReferenceIdeal.Value.left_80 m' 0 a6 a7 a8 i (Cert.Mask.ok_of_min i h).2),
      fun i h => (congrFun (r83.trans (Cert.ReferenceIdeal.Read.val_main_v83_eq _)) i).trans
        (Cert.ReferenceIdeal.Value.left_83 m' 0 a6 a7 a8 i),
      rest⟩

theorem claim : Cert.Claim := ⟨Cert.Kernel.Gen.facts, Cert.KernelIdeal.Gen.facts, Cert.ReferenceIdeal.Gen.facts, Cert.Pre_granules.Gen.facts,
  Cert.On_compared.Gen.facts, kernel_frame, ideal_frame, fun m ρ _ => Cert.ReferenceIdeal.Gen.frame m ρ, fun m ρ _ => Cert.ReferenceIdeal.Gen.frame m ρ, trivial, agree⟩

end Cert.Proof

end
